-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuReferenceIdeal (m : (ℓ : Loc Cert.DuReferenceIdeal.nD Cert.DuReferenceIdeal.τ Cert.DuReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDhB (m : (ℓ : Loc Cert.InDhB.nD Cert.InDhB.τ Cert.InDhB.sig) → Buf (Elt Bits) ℓ) : Prop :=
  True

def Pre_InDhBIdeal (m : (ℓ : Loc Cert.InDhBIdeal.nD Cert.InDhBIdeal.τ Cert.InDhBIdeal.sig) → Buf (Elt Ideal) ℓ) : Prop :=
  True

def Pre_InDhBReferenceIdeal (m : (ℓ : Loc Cert.InDhBReferenceIdeal.nD Cert.InDhBReferenceIdeal.τ Cert.InDhBReferenceIdeal.sig) → Buf (Elt Ideal) ℓ) : Prop :=
  True

def Pre_InDhC (m : (ℓ : Loc Cert.InDhC.nD Cert.InDhC.τ Cert.InDhC.sig) → Buf (Elt Bits) ℓ) : Prop :=
  True

def Pre_InDhCIdeal (m : (ℓ : Loc Cert.InDhCIdeal.nD Cert.InDhCIdeal.τ Cert.InDhCIdeal.sig) → Buf (Elt Ideal) ℓ) : Prop :=
  True

def Pre_InDhCReferenceIdeal (m : (ℓ : Loc Cert.InDhCReferenceIdeal.nD Cert.InDhCReferenceIdeal.τ Cert.InDhCReferenceIdeal.sig) → Buf (Elt Ideal) ℓ) : Prop :=
  True

def Pre_InDhA (m : (ℓ : Loc Cert.InDhA.nD Cert.InDhA.τ Cert.InDhA.sig) → Buf (Elt Bits) ℓ) : Prop :=
  True

def Pre_InDhAIdeal (m : (ℓ : Loc Cert.InDhAIdeal.nD Cert.InDhAIdeal.τ Cert.InDhAIdeal.sig) → Buf (Elt Ideal) ℓ) : Prop :=
  True

def Pre_InDhAReferenceIdeal (m : (ℓ : Loc Cert.InDhAReferenceIdeal.nD Cert.InDhAReferenceIdeal.τ Cert.InDhAReferenceIdeal.sig) → Buf (Elt Ideal) ℓ) : Prop :=
  True

def Pre_InDwB (m : (ℓ : Loc Cert.InDwB.nD Cert.InDwB.τ Cert.InDwB.sig) → Buf (Elt Bits) ℓ) : Prop :=
  True

def Pre_InDwBIdeal (m : (ℓ : Loc Cert.InDwBIdeal.nD Cert.InDwBIdeal.τ Cert.InDwBIdeal.sig) → Buf (Elt Ideal) ℓ) : Prop :=
  True

def Pre_InDwBReferenceIdeal (m : (ℓ : Loc Cert.InDwBReferenceIdeal.nD Cert.InDwBReferenceIdeal.τ Cert.InDwBReferenceIdeal.sig) → Buf (Elt Ideal) ℓ) : Prop :=
  True

def Pre_InDwC (m : (ℓ : Loc Cert.InDwC.nD Cert.InDwC.τ Cert.InDwC.sig) → Buf (Elt Bits) ℓ) : Prop :=
  True

def Pre_InDwCIdeal (m : (ℓ : Loc Cert.InDwCIdeal.nD Cert.InDwCIdeal.τ Cert.InDwCIdeal.sig) → Buf (Elt Ideal) ℓ) : Prop :=
  True

def Pre_InDwCReferenceIdeal (m : (ℓ : Loc Cert.InDwCReferenceIdeal.nD Cert.InDwCReferenceIdeal.τ Cert.InDwCReferenceIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwAReferenceIdeal (m : (ℓ : Loc Cert.InDwAReferenceIdeal.nD Cert.InDwAReferenceIdeal.τ Cert.InDwAReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxReferenceIdeal (m : (ℓ : Loc Cert.UqDxReferenceIdeal.nD Cert.UqDxReferenceIdeal.τ Cert.UqDxReferenceIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwReferenceIdeal (m : (ℓ : Loc Cert.UqDwReferenceIdeal.nD Cert.UqDwReferenceIdeal.τ Cert.UqDwReferenceIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxReferenceIdeal (m : (ℓ : Loc Cert.UkvDxReferenceIdeal.nD Cert.UkvDxReferenceIdeal.τ Cert.UkvDxReferenceIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwReferenceIdeal (m : (ℓ : Loc Cert.UkvDwReferenceIdeal.nD Cert.UkvDwReferenceIdeal.τ Cert.UkvDwReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormAB (m : (ℓ : Loc Cert.NormAB.nD Cert.NormAB.τ Cert.NormAB.sig) → Buf (Elt Bits) ℓ) : Prop :=
  True

def Pre_NormABIdeal (m : (ℓ : Loc Cert.NormABIdeal.nD Cert.NormABIdeal.τ Cert.NormABIdeal.sig) → Buf (Elt Ideal) ℓ) : Prop :=
  True

def Pre_NormABReferenceIdeal (m : (ℓ : Loc Cert.NormABReferenceIdeal.nD Cert.NormABReferenceIdeal.τ Cert.NormABReferenceIdeal.sig) → Buf (Elt Ideal) ℓ) : Prop :=
  True

def Pre_NormC (m : (ℓ : Loc Cert.NormC.nD Cert.NormC.τ Cert.NormC.sig) → Buf (Elt Bits) ℓ) : Prop :=
  True

def Pre_NormCIdeal (m : (ℓ : Loc Cert.NormCIdeal.nD Cert.NormCIdeal.τ Cert.NormCIdeal.sig) → Buf (Elt Ideal) ℓ) : Prop :=
  True

def Pre_NormCReferenceIdeal (m : (ℓ : Loc Cert.NormCReferenceIdeal.nD Cert.NormCReferenceIdeal.τ Cert.NormCReferenceIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvReferenceIdeal (m : (ℓ : Loc Cert.NormKvReferenceIdeal.nD Cert.NormKvReferenceIdeal.τ Cert.NormKvReferenceIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormReferenceIdeal (m : (ℓ : Loc Cert.DnormReferenceIdeal.nD Cert.DnormReferenceIdeal.τ Cert.DnormReferenceIdeal.sig) → Buf (Elt Ideal) ℓ) : Prop :=
  True

def Pre_DnormAB (m : (ℓ : Loc Cert.DnormAB.nD Cert.DnormAB.τ Cert.DnormAB.sig) → Buf (Elt Bits) ℓ) : Prop :=
  True

def Pre_DnormABIdeal (m : (ℓ : Loc Cert.DnormABIdeal.nD Cert.DnormABIdeal.τ Cert.DnormABIdeal.sig) → Buf (Elt Ideal) ℓ) : Prop :=
  True

def Pre_DnormABReferenceIdeal (m : (ℓ : Loc Cert.DnormABReferenceIdeal.nD Cert.DnormABReferenceIdeal.τ Cert.DnormABReferenceIdeal.sig) → Buf (Elt Ideal) ℓ) : Prop :=
  True

def Pre_DnormC (m : (ℓ : Loc Cert.DnormC.nD Cert.DnormC.τ Cert.DnormC.sig) → Buf (Elt Bits) ℓ) : Prop :=
  True

def Pre_DnormCIdeal (m : (ℓ : Loc Cert.DnormCIdeal.nD Cert.DnormCIdeal.τ Cert.DnormCIdeal.sig) → Buf (Elt Ideal) ℓ) : Prop :=
  True

def Pre_DnormCReferenceIdeal (m : (ℓ : Loc Cert.DnormCReferenceIdeal.nD Cert.DnormCReferenceIdeal.τ Cert.DnormCReferenceIdeal.sig) → Buf (Elt Ideal) ℓ) : Prop :=
  True

def Pre_DnormKv (m : (ℓ : Loc Cert.DnormKv.nD Cert.DnormKv.τ Cert.DnormKv.sig) → Buf (Elt Bits) ℓ) : Prop :=
  True

def Pre_DnormKvIdeal (m : (ℓ : Loc Cert.DnormKvIdeal.nD Cert.DnormKvIdeal.τ Cert.DnormKvIdeal.sig) → Buf (Elt Ideal) ℓ) : Prop :=
  True

def Pre_DnormKvReferenceIdeal (m : (ℓ : Loc Cert.DnormKvReferenceIdeal.nD Cert.DnormKvReferenceIdeal.τ Cert.DnormKvReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1ReferenceIdeal (m : (ℓ : Loc Cert.Band1ReferenceIdeal.nD Cert.Band1ReferenceIdeal.τ Cert.Band1ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ r.2.sem = fun _ => 0)

def quiescent_DuReferenceIdeal [hDuReferenceIdeal : Cert.DuReferenceIdeal.Facts] : Prop :=
  ∀ (m : (ℓ : Loc Cert.DuReferenceIdeal.nD Cert.DuReferenceIdeal.τ Cert.DuReferenceIdeal.sig) → Buf (Elt Ideal) ℓ) (g : Dev Cert.DuReferenceIdeal.nD → PrngReg), Pre_DuReferenceIdeal m →
    θ_run (Cert.DuReferenceIdeal.defs (F := Ideal)) (onTc (τ := Cert.DuReferenceIdeal.τ) (Cert.DuReferenceIdeal.main (F := Ideal))) ⟨m, fun _ => 0, g⟩ (fun r => (∀ c : Dev Cert.DuReferenceIdeal.nD,
      r.2.mem ((c.tc : Thread Cert.DuReferenceIdeal.nD Cert.DuReferenceIdeal.τ).loc Cert.DuReferenceIdeal.main_arg0) = m ((c.tc : Thread Cert.DuReferenceIdeal.nD Cert.DuReferenceIdeal.τ).loc Cert.DuReferenceIdeal.main_arg0)
      ∧ r.2.mem ((c.tc : Thread Cert.DuReferenceIdeal.nD Cert.DuReferenceIdeal.τ).loc Cert.DuReferenceIdeal.main_arg1) = m ((c.tc : Thread Cert.DuReferenceIdeal.nD Cert.DuReferenceIdeal.τ).loc Cert.DuReferenceIdeal.main_arg1)
      ∧ r.2.mem ((c.tc : Thread Cert.DuReferenceIdeal.nD Cert.DuReferenceIdeal.τ).loc Cert.DuReferenceIdeal.main_arg2) = m ((c.tc : Thread Cert.DuReferenceIdeal.nD Cert.DuReferenceIdeal.τ).loc Cert.DuReferenceIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1)
      ∧ r.2.mem ((c.tc : Thread Cert.DwOutReferenceIdeal.nD Cert.DwOutReferenceIdeal.τ).loc Cert.DwOutReferenceIdeal.main_arg2) = m ((c.tc : Thread Cert.DwOutReferenceIdeal.nD Cert.DwOutReferenceIdeal.τ).loc Cert.DwOutReferenceIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDhB [hInDhB : Cert.InDhB.Facts] : Prop :=
  ∀ (m : (ℓ : Loc Cert.InDhB.nD Cert.InDhB.τ Cert.InDhB.sig) → Buf (Elt Bits) ℓ) (g : Dev Cert.InDhB.nD → PrngReg), Pre_InDhB m →
    θ_run (Cert.InDhB.defs (F := Bits)) (onTc (τ := Cert.InDhB.τ) (Cert.InDhB.main (F := Bits))) ⟨m, fun _ => 0, g⟩ (fun r => (∀ c : Dev Cert.InDhB.nD,
      r.2.mem ((c.tc : Thread Cert.InDhB.nD Cert.InDhB.τ).loc Cert.InDhB.main_arg0) = m ((c.tc : Thread Cert.InDhB.nD Cert.InDhB.τ).loc Cert.InDhB.main_arg0)
      ∧ r.2.mem ((c.tc : Thread Cert.InDhB.nD Cert.InDhB.τ).loc Cert.InDhB.main_arg1) = m ((c.tc : Thread Cert.InDhB.nD Cert.InDhB.τ).loc Cert.InDhB.main_arg1)
      ∧ r.2.mem ((c.tc : Thread Cert.InDhB.nD Cert.InDhB.τ).loc Cert.InDhB.main_arg2) = m ((c.tc : Thread Cert.InDhB.nD Cert.InDhB.τ).loc Cert.InDhB.main_arg2))
      ∧ r.2.sem = fun _ => 0)

def quiescent_InDhBIdeal [hInDhBIdeal : Cert.InDhBIdeal.Facts] : Prop :=
  ∀ (m : (ℓ : Loc Cert.InDhBIdeal.nD Cert.InDhBIdeal.τ Cert.InDhBIdeal.sig) → Buf (Elt Ideal) ℓ) (g : Dev Cert.InDhBIdeal.nD → PrngReg), Pre_InDhBIdeal m →
    θ_run (Cert.InDhBIdeal.defs (F := Ideal)) (onTc (τ := Cert.InDhBIdeal.τ) (Cert.InDhBIdeal.main (F := Ideal))) ⟨m, fun _ => 0, g⟩ (fun r => (∀ c : Dev Cert.InDhBIdeal.nD,
      r.2.mem ((c.tc : Thread Cert.InDhBIdeal.nD Cert.InDhBIdeal.τ).loc Cert.InDhBIdeal.main_arg0) = m ((c.tc : Thread Cert.InDhBIdeal.nD Cert.InDhBIdeal.τ).loc Cert.InDhBIdeal.main_arg0)
      ∧ r.2.mem ((c.tc : Thread Cert.InDhBIdeal.nD Cert.InDhBIdeal.τ).loc Cert.InDhBIdeal.main_arg1) = m ((c.tc : Thread Cert.InDhBIdeal.nD Cert.InDhBIdeal.τ).loc Cert.InDhBIdeal.main_arg1)
      ∧ r.2.mem ((c.tc : Thread Cert.InDhBIdeal.nD Cert.InDhBIdeal.τ).loc Cert.InDhBIdeal.main_arg2) = m ((c.tc : Thread Cert.InDhBIdeal.nD Cert.InDhBIdeal.τ).loc Cert.InDhBIdeal.main_arg2))
      ∧ r.2.sem = fun _ => 0)

def quiescent_InDhBReferenceIdeal [hInDhBReferenceIdeal : Cert.InDhBReferenceIdeal.Facts] : Prop :=
  ∀ (m : (ℓ : Loc Cert.InDhBReferenceIdeal.nD Cert.InDhBReferenceIdeal.τ Cert.InDhBReferenceIdeal.sig) → Buf (Elt Ideal) ℓ) (g : Dev Cert.InDhBReferenceIdeal.nD → PrngReg), Pre_InDhBReferenceIdeal m →
    θ_run (Cert.InDhBReferenceIdeal.defs (F := Ideal)) (onTc (τ := Cert.InDhBReferenceIdeal.τ) (Cert.InDhBReferenceIdeal.main (F := Ideal))) ⟨m, fun _ => 0, g⟩ (fun r => (∀ c : Dev Cert.InDhBReferenceIdeal.nD,
      r.2.mem ((c.tc : Thread Cert.InDhBReferenceIdeal.nD Cert.InDhBReferenceIdeal.τ).loc Cert.InDhBReferenceIdeal.main_arg0) = m ((c.tc : Thread Cert.InDhBReferenceIdeal.nD Cert.InDhBReferenceIdeal.τ).loc Cert.InDhBReferenceIdeal.main_arg0)
      ∧ r.2.mem ((c.tc : Thread Cert.InDhBReferenceIdeal.nD Cert.InDhBReferenceIdeal.τ).loc Cert.InDhBReferenceIdeal.main_arg1) = m ((c.tc : Thread Cert.InDhBReferenceIdeal.nD Cert.InDhBReferenceIdeal.τ).loc Cert.InDhBReferenceIdeal.main_arg1)
      ∧ r.2.mem ((c.tc : Thread Cert.InDhBReferenceIdeal.nD Cert.InDhBReferenceIdeal.τ).loc Cert.InDhBReferenceIdeal.main_arg2) = m ((c.tc : Thread Cert.InDhBReferenceIdeal.nD Cert.InDhBReferenceIdeal.τ).loc Cert.InDhBReferenceIdeal.main_arg2))
      ∧ r.2.sem = fun _ => 0)

def quiescent_InDhC [hInDhC : Cert.InDhC.Facts] : Prop :=
  ∀ (m : (ℓ : Loc Cert.InDhC.nD Cert.InDhC.τ Cert.InDhC.sig) → Buf (Elt Bits) ℓ) (g : Dev Cert.InDhC.nD → PrngReg), Pre_InDhC m →
    θ_run (Cert.InDhC.defs (F := Bits)) (onTc (τ := Cert.InDhC.τ) (Cert.InDhC.main (F := Bits))) ⟨m, fun _ => 0, g⟩ (fun r => (∀ c : Dev Cert.InDhC.nD,
      r.2.mem ((c.tc : Thread Cert.InDhC.nD Cert.InDhC.τ).loc Cert.InDhC.main_arg0) = m ((c.tc : Thread Cert.InDhC.nD Cert.InDhC.τ).loc Cert.InDhC.main_arg0)
      ∧ r.2.mem ((c.tc : Thread Cert.InDhC.nD Cert.InDhC.τ).loc Cert.InDhC.main_arg1) = m ((c.tc : Thread Cert.InDhC.nD Cert.InDhC.τ).loc Cert.InDhC.main_arg1)
      ∧ r.2.mem ((c.tc : Thread Cert.InDhC.nD Cert.InDhC.τ).loc Cert.InDhC.main_arg2) = m ((c.tc : Thread Cert.InDhC.nD Cert.InDhC.τ).loc Cert.InDhC.main_arg2)
      ∧ r.2.mem ((c.tc : Thread Cert.InDhC.nD Cert.InDhC.τ).loc Cert.InDhC.main_arg3) = m ((c.tc : Thread Cert.InDhC.nD Cert.InDhC.τ).loc Cert.InDhC.main_arg3))
      ∧ r.2.sem = fun _ => 0)

def quiescent_InDhCIdeal [hInDhCIdeal : Cert.InDhCIdeal.Facts] : Prop :=
  ∀ (m : (ℓ : Loc Cert.InDhCIdeal.nD Cert.InDhCIdeal.τ Cert.InDhCIdeal.sig) → Buf (Elt Ideal) ℓ) (g : Dev Cert.InDhCIdeal.nD → PrngReg), Pre_InDhCIdeal m →
    θ_run (Cert.InDhCIdeal.defs (F := Ideal)) (onTc (τ := Cert.InDhCIdeal.τ) (Cert.InDhCIdeal.main (F := Ideal))) ⟨m, fun _ => 0, g⟩ (fun r => (∀ c : Dev Cert.InDhCIdeal.nD,
      r.2.mem ((c.tc : Thread Cert.InDhCIdeal.nD Cert.InDhCIdeal.τ).loc Cert.InDhCIdeal.main_arg0) = m ((c.tc : Thread Cert.InDhCIdeal.nD Cert.InDhCIdeal.τ).loc Cert.InDhCIdeal.main_arg0)
      ∧ r.2.mem ((c.tc : Thread Cert.InDhCIdeal.nD Cert.InDhCIdeal.τ).loc Cert.InDhCIdeal.main_arg1) = m ((c.tc : Thread Cert.InDhCIdeal.nD Cert.InDhCIdeal.τ).loc Cert.InDhCIdeal.main_arg1)
      ∧ r.2.mem ((c.tc : Thread Cert.InDhCIdeal.nD Cert.InDhCIdeal.τ).loc Cert.InDhCIdeal.main_arg2) = m ((c.tc : Thread Cert.InDhCIdeal.nD Cert.InDhCIdeal.τ).loc Cert.InDhCIdeal.main_arg2)
      ∧ r.2.mem ((c.tc : Thread Cert.InDhCIdeal.nD Cert.InDhCIdeal.τ).loc Cert.InDhCIdeal.main_arg3) = m ((c.tc : Thread Cert.InDhCIdeal.nD Cert.InDhCIdeal.τ).loc Cert.InDhCIdeal.main_arg3))
      ∧ r.2.sem = fun _ => 0)

def quiescent_InDhCReferenceIdeal [hInDhCReferenceIdeal : Cert.InDhCReferenceIdeal.Facts] : Prop :=
  ∀ (m : (ℓ : Loc Cert.InDhCReferenceIdeal.nD Cert.InDhCReferenceIdeal.τ Cert.InDhCReferenceIdeal.sig) → Buf (Elt Ideal) ℓ) (g : Dev Cert.InDhCReferenceIdeal.nD → PrngReg), Pre_InDhCReferenceIdeal m →
    θ_run (Cert.InDhCReferenceIdeal.defs (F := Ideal)) (onTc (τ := Cert.InDhCReferenceIdeal.τ) (Cert.InDhCReferenceIdeal.main (F := Ideal))) ⟨m, fun _ => 0, g⟩ (fun r => (∀ c : Dev Cert.InDhCReferenceIdeal.nD,
      r.2.mem ((c.tc : Thread Cert.InDhCReferenceIdeal.nD Cert.InDhCReferenceIdeal.τ).loc Cert.InDhCReferenceIdeal.main_arg0) = m ((c.tc : Thread Cert.InDhCReferenceIdeal.nD Cert.InDhCReferenceIdeal.τ).loc Cert.InDhCReferenceIdeal.main_arg0)
      ∧ r.2.mem ((c.tc : Thread Cert.InDhCReferenceIdeal.nD Cert.InDhCReferenceIdeal.τ).loc Cert.InDhCReferenceIdeal.main_arg1) = m ((c.tc : Thread Cert.InDhCReferenceIdeal.nD Cert.InDhCReferenceIdeal.τ).loc Cert.InDhCReferenceIdeal.main_arg1)
      ∧ r.2.mem ((c.tc : Thread Cert.InDhCReferenceIdeal.nD Cert.InDhCReferenceIdeal.τ).loc Cert.InDhCReferenceIdeal.main_arg2) = m ((c.tc : Thread Cert.InDhCReferenceIdeal.nD Cert.InDhCReferenceIdeal.τ).loc Cert.InDhCReferenceIdeal.main_arg2)
      ∧ r.2.mem ((c.tc : Thread Cert.InDhCReferenceIdeal.nD Cert.InDhCReferenceIdeal.τ).loc Cert.InDhCReferenceIdeal.main_arg3) = m ((c.tc : Thread Cert.InDhCReferenceIdeal.nD Cert.InDhCReferenceIdeal.τ).loc Cert.InDhCReferenceIdeal.main_arg3))
      ∧ r.2.sem = fun _ => 0)

def quiescent_InDhA [hInDhA : Cert.InDhA.Facts] : Prop :=
  ∀ (m : (ℓ : Loc Cert.InDhA.nD Cert.InDhA.τ Cert.InDhA.sig) → Buf (Elt Bits) ℓ) (g : Dev Cert.InDhA.nD → PrngReg), Pre_InDhA m →
    θ_run (Cert.InDhA.defs (F := Bits)) (onTc (τ := Cert.InDhA.τ) (Cert.InDhA.main (F := Bits))) ⟨m, fun _ => 0, g⟩ (fun r => (∀ c : Dev Cert.InDhA.nD,
      r.2.mem ((c.tc : Thread Cert.InDhA.nD Cert.InDhA.τ).loc Cert.InDhA.main_arg0) = m ((c.tc : Thread Cert.InDhA.nD Cert.InDhA.τ).loc Cert.InDhA.main_arg0)
      ∧ r.2.mem ((c.tc : Thread Cert.InDhA.nD Cert.InDhA.τ).loc Cert.InDhA.main_arg1) = m ((c.tc : Thread Cert.InDhA.nD Cert.InDhA.τ).loc Cert.InDhA.main_arg1)
      ∧ r.2.mem ((c.tc : Thread Cert.InDhA.nD Cert.InDhA.τ).loc Cert.InDhA.main_arg2) = m ((c.tc : Thread Cert.InDhA.nD Cert.InDhA.τ).loc Cert.InDhA.main_arg2)
      ∧ r.2.mem ((c.tc : Thread Cert.InDhA.nD Cert.InDhA.τ).loc Cert.InDhA.main_arg3) = m ((c.tc : Thread Cert.InDhA.nD Cert.InDhA.τ).loc Cert.InDhA.main_arg3))
      ∧ r.2.sem = fun _ => 0)

def quiescent_InDhAIdeal [hInDhAIdeal : Cert.InDhAIdeal.Facts] : Prop :=
  ∀ (m : (ℓ : Loc Cert.InDhAIdeal.nD Cert.InDhAIdeal.τ Cert.InDhAIdeal.sig) → Buf (Elt Ideal) ℓ) (g : Dev Cert.InDhAIdeal.nD → PrngReg), Pre_InDhAIdeal m →
    θ_run (Cert.InDhAIdeal.defs (F := Ideal)) (onTc (τ := Cert.InDhAIdeal.τ) (Cert.InDhAIdeal.main (F := Ideal))) ⟨m, fun _ => 0, g⟩ (fun r => (∀ c : Dev Cert.InDhAIdeal.nD,
      r.2.mem ((c.tc : Thread Cert.InDhAIdeal.nD Cert.InDhAIdeal.τ).loc Cert.InDhAIdeal.main_arg0) = m ((c.tc : Thread Cert.InDhAIdeal.nD Cert.InDhAIdeal.τ).loc Cert.InDhAIdeal.main_arg0)
      ∧ r.2.mem ((c.tc : Thread Cert.InDhAIdeal.nD Cert.InDhAIdeal.τ).loc Cert.InDhAIdeal.main_arg1) = m ((c.tc : Thread Cert.InDhAIdeal.nD Cert.InDhAIdeal.τ).loc Cert.InDhAIdeal.main_arg1)
      ∧ r.2.mem ((c.tc : Thread Cert.InDhAIdeal.nD Cert.InDhAIdeal.τ).loc Cert.InDhAIdeal.main_arg2) = m ((c.tc : Thread Cert.InDhAIdeal.nD Cert.InDhAIdeal.τ).loc Cert.InDhAIdeal.main_arg2)
      ∧ r.2.mem ((c.tc : Thread Cert.InDhAIdeal.nD Cert.InDhAIdeal.τ).loc Cert.InDhAIdeal.main_arg3) = m ((c.tc : Thread Cert.InDhAIdeal.nD Cert.InDhAIdeal.τ).loc Cert.InDhAIdeal.main_arg3))
      ∧ r.2.sem = fun _ => 0)

def quiescent_InDhAReferenceIdeal [hInDhAReferenceIdeal : Cert.InDhAReferenceIdeal.Facts] : Prop :=
  ∀ (m : (ℓ : Loc Cert.InDhAReferenceIdeal.nD Cert.InDhAReferenceIdeal.τ Cert.InDhAReferenceIdeal.sig) → Buf (Elt Ideal) ℓ) (g : Dev Cert.InDhAReferenceIdeal.nD → PrngReg), Pre_InDhAReferenceIdeal m →
    θ_run (Cert.InDhAReferenceIdeal.defs (F := Ideal)) (onTc (τ := Cert.InDhAReferenceIdeal.τ) (Cert.InDhAReferenceIdeal.main (F := Ideal))) ⟨m, fun _ => 0, g⟩ (fun r => (∀ c : Dev Cert.InDhAReferenceIdeal.nD,
      r.2.mem ((c.tc : Thread Cert.InDhAReferenceIdeal.nD Cert.InDhAReferenceIdeal.τ).loc Cert.InDhAReferenceIdeal.main_arg0) = m ((c.tc : Thread Cert.InDhAReferenceIdeal.nD Cert.InDhAReferenceIdeal.τ).loc Cert.InDhAReferenceIdeal.main_arg0)
      ∧ r.2.mem ((c.tc : Thread Cert.InDhAReferenceIdeal.nD Cert.InDhAReferenceIdeal.τ).loc Cert.InDhAReferenceIdeal.main_arg1) = m ((c.tc : Thread Cert.InDhAReferenceIdeal.nD Cert.InDhAReferenceIdeal.τ).loc Cert.InDhAReferenceIdeal.main_arg1)
      ∧ r.2.mem ((c.tc : Thread Cert.InDhAReferenceIdeal.nD Cert.InDhAReferenceIdeal.τ).loc Cert.InDhAReferenceIdeal.main_arg2) = m ((c.tc : Thread Cert.InDhAReferenceIdeal.nD Cert.InDhAReferenceIdeal.τ).loc Cert.InDhAReferenceIdeal.main_arg2)
      ∧ r.2.mem ((c.tc : Thread Cert.InDhAReferenceIdeal.nD Cert.InDhAReferenceIdeal.τ).loc Cert.InDhAReferenceIdeal.main_arg3) = m ((c.tc : Thread Cert.InDhAReferenceIdeal.nD Cert.InDhAReferenceIdeal.τ).loc Cert.InDhAReferenceIdeal.main_arg3))
      ∧ r.2.sem = fun _ => 0)

def quiescent_InDwB [hInDwB : Cert.InDwB.Facts] : Prop :=
  ∀ (m : (ℓ : Loc Cert.InDwB.nD Cert.InDwB.τ Cert.InDwB.sig) → Buf (Elt Bits) ℓ) (g : Dev Cert.InDwB.nD → PrngReg), Pre_InDwB m →
    θ_run (Cert.InDwB.defs (F := Bits)) (onTc (τ := Cert.InDwB.τ) (Cert.InDwB.main (F := Bits))) ⟨m, fun _ => 0, g⟩ (fun r => (∀ c : Dev Cert.InDwB.nD,
      r.2.mem ((c.tc : Thread Cert.InDwB.nD Cert.InDwB.τ).loc Cert.InDwB.main_arg0) = m ((c.tc : Thread Cert.InDwB.nD Cert.InDwB.τ).loc Cert.InDwB.main_arg0)
      ∧ r.2.mem ((c.tc : Thread Cert.InDwB.nD Cert.InDwB.τ).loc Cert.InDwB.main_arg1) = m ((c.tc : Thread Cert.InDwB.nD Cert.InDwB.τ).loc Cert.InDwB.main_arg1)
      ∧ r.2.mem ((c.tc : Thread Cert.InDwB.nD Cert.InDwB.τ).loc Cert.InDwB.main_arg2) = m ((c.tc : Thread Cert.InDwB.nD Cert.InDwB.τ).loc Cert.InDwB.main_arg2))
      ∧ r.2.sem = fun _ => 0)

def quiescent_InDwBIdeal [hInDwBIdeal : Cert.InDwBIdeal.Facts] : Prop :=
  ∀ (m : (ℓ : Loc Cert.InDwBIdeal.nD Cert.InDwBIdeal.τ Cert.InDwBIdeal.sig) → Buf (Elt Ideal) ℓ) (g : Dev Cert.InDwBIdeal.nD → PrngReg), Pre_InDwBIdeal m →
    θ_run (Cert.InDwBIdeal.defs (F := Ideal)) (onTc (τ := Cert.InDwBIdeal.τ) (Cert.InDwBIdeal.main (F := Ideal))) ⟨m, fun _ => 0, g⟩ (fun r => (∀ c : Dev Cert.InDwBIdeal.nD,
      r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
      ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
      ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ r.2.sem = fun _ => 0)

def quiescent_InDwBReferenceIdeal [hInDwBReferenceIdeal : Cert.InDwBReferenceIdeal.Facts] : Prop :=
  ∀ (m : (ℓ : Loc Cert.InDwBReferenceIdeal.nD Cert.InDwBReferenceIdeal.τ Cert.InDwBReferenceIdeal.sig) → Buf (Elt Ideal) ℓ) (g : Dev Cert.InDwBReferenceIdeal.nD → PrngReg), Pre_InDwBReferenceIdeal m →
    θ_run (Cert.InDwBReferenceIdeal.defs (F := Ideal)) (onTc (τ := Cert.InDwBReferenceIdeal.τ) (Cert.InDwBReferenceIdeal.main (F := Ideal))) ⟨m, fun _ => 0, g⟩ (fun r => (∀ c : Dev Cert.InDwBReferenceIdeal.nD,
      r.2.mem ((c.tc : Thread Cert.InDwBReferenceIdeal.nD Cert.InDwBReferenceIdeal.τ).loc Cert.InDwBReferenceIdeal.main_arg0) = m ((c.tc : Thread Cert.InDwBReferenceIdeal.nD Cert.InDwBReferenceIdeal.τ).loc Cert.InDwBReferenceIdeal.main_arg0)
      ∧ r.2.mem ((c.tc : Thread Cert.InDwBReferenceIdeal.nD Cert.InDwBReferenceIdeal.τ).loc Cert.InDwBReferenceIdeal.main_arg1) = m ((c.tc : Thread Cert.InDwBReferenceIdeal.nD Cert.InDwBReferenceIdeal.τ).loc Cert.InDwBReferenceIdeal.main_arg1)
      ∧ r.2.mem ((c.tc : Thread Cert.InDwBReferenceIdeal.nD Cert.InDwBReferenceIdeal.τ).loc Cert.InDwBReferenceIdeal.main_arg2) = m ((c.tc : Thread Cert.InDwBReferenceIdeal.nD Cert.InDwBReferenceIdeal.τ).loc Cert.InDwBReferenceIdeal.main_arg2))
      ∧ r.2.sem = fun _ => 0)

def quiescent_InDwC [hInDwC : Cert.InDwC.Facts] : Prop :=
  ∀ (m : (ℓ : Loc Cert.InDwC.nD Cert.InDwC.τ Cert.InDwC.sig) → Buf (Elt Bits) ℓ) (g : Dev Cert.InDwC.nD → PrngReg), Pre_InDwC m →
    θ_run (Cert.InDwC.defs (F := Bits)) (onTc (τ := Cert.InDwC.τ) (Cert.InDwC.main (F := Bits))) ⟨m, fun _ => 0, g⟩ (fun r => (∀ c : Dev Cert.InDwC.nD,
      r.2.mem ((c.tc : Thread Cert.InDwC.nD Cert.InDwC.τ).loc Cert.InDwC.main_arg0) = m ((c.tc : Thread Cert.InDwC.nD Cert.InDwC.τ).loc Cert.InDwC.main_arg0)
      ∧ r.2.mem ((c.tc : Thread Cert.InDwC.nD Cert.InDwC.τ).loc Cert.InDwC.main_arg1) = m ((c.tc : Thread Cert.InDwC.nD Cert.InDwC.τ).loc Cert.InDwC.main_arg1)
      ∧ r.2.mem ((c.tc : Thread Cert.InDwC.nD Cert.InDwC.τ).loc Cert.InDwC.main_arg2) = m ((c.tc : Thread Cert.InDwC.nD Cert.InDwC.τ).loc Cert.InDwC.main_arg2))
      ∧ r.2.sem = fun _ => 0)

def quiescent_InDwCIdeal [hInDwCIdeal : Cert.InDwCIdeal.Facts] : Prop :=
  ∀ (m : (ℓ : Loc Cert.InDwCIdeal.nD Cert.InDwCIdeal.τ Cert.InDwCIdeal.sig) → Buf (Elt Ideal) ℓ) (g : Dev Cert.InDwCIdeal.nD → PrngReg), Pre_InDwCIdeal m →
    θ_run (Cert.InDwCIdeal.defs (F := Ideal)) (onTc (τ := Cert.InDwCIdeal.τ) (Cert.InDwCIdeal.main (F := Ideal))) ⟨m, fun _ => 0, g⟩ (fun r => (∀ c : Dev Cert.InDwCIdeal.nD,
      r.2.mem ((c.tc : Thread Cert.InDwCIdeal.nD Cert.InDwCIdeal.τ).loc Cert.InDwCIdeal.main_arg0) = m ((c.tc : Thread Cert.InDwCIdeal.nD Cert.InDwCIdeal.τ).loc Cert.InDwCIdeal.main_arg0)
      ∧ r.2.mem ((c.tc : Thread Cert.InDwCIdeal.nD Cert.InDwCIdeal.τ).loc Cert.InDwCIdeal.main_arg1) = m ((c.tc : Thread Cert.InDwCIdeal.nD Cert.InDwCIdeal.τ).loc Cert.InDwCIdeal.main_arg1)
      ∧ r.2.mem ((c.tc : Thread Cert.InDwCIdeal.nD Cert.InDwCIdeal.τ).loc Cert.InDwCIdeal.main_arg2) = m ((c.tc : Thread Cert.InDwCIdeal.nD Cert.InDwCIdeal.τ).loc Cert.InDwCIdeal.main_arg2))
      ∧ r.2.sem = fun _ => 0)

def quiescent_InDwCReferenceIdeal [hInDwCReferenceIdeal : Cert.InDwCReferenceIdeal.Facts] : Prop :=
  ∀ (m : (ℓ : Loc Cert.InDwCReferenceIdeal.nD Cert.InDwCReferenceIdeal.τ Cert.InDwCReferenceIdeal.sig) → Buf (Elt Ideal) ℓ) (g : Dev Cert.InDwCReferenceIdeal.nD → PrngReg), Pre_InDwCReferenceIdeal m →
    θ_run (Cert.InDwCReferenceIdeal.defs (F := Ideal)) (onTc (τ := Cert.InDwCReferenceIdeal.τ) (Cert.InDwCReferenceIdeal.main (F := Ideal))) ⟨m, fun _ => 0, g⟩ (fun r => (∀ c : Dev Cert.InDwCReferenceIdeal.nD,
      r.2.mem ((c.tc : Thread Cert.InDwCReferenceIdeal.nD Cert.InDwCReferenceIdeal.τ).loc Cert.InDwCReferenceIdeal.main_arg0) = m ((c.tc : Thread Cert.InDwCReferenceIdeal.nD Cert.InDwCReferenceIdeal.τ).loc Cert.InDwCReferenceIdeal.main_arg0)
      ∧ r.2.mem ((c.tc : Thread Cert.InDwCReferenceIdeal.nD Cert.InDwCReferenceIdeal.τ).loc Cert.InDwCReferenceIdeal.main_arg1) = m ((c.tc : Thread Cert.InDwCReferenceIdeal.nD Cert.InDwCReferenceIdeal.τ).loc Cert.InDwCReferenceIdeal.main_arg1)
      ∧ r.2.mem ((c.tc : Thread Cert.InDwCReferenceIdeal.nD Cert.InDwCReferenceIdeal.τ).loc Cert.InDwCReferenceIdeal.main_arg2) = m ((c.tc : Thread Cert.InDwCReferenceIdeal.nD Cert.InDwCReferenceIdeal.τ).loc Cert.InDwCReferenceIdeal.main_arg2))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1)
      ∧ r.2.mem ((c.tc : Thread Cert.InDwA.nD Cert.InDwA.τ).loc Cert.InDwA.main_arg2) = m ((c.tc : Thread Cert.InDwA.nD Cert.InDwA.τ).loc Cert.InDwA.main_arg2))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
      ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ r.2.sem = fun _ => 0)

def quiescent_InDwAReferenceIdeal [hInDwAReferenceIdeal : Cert.InDwAReferenceIdeal.Facts] : Prop :=
  ∀ (m : (ℓ : Loc Cert.InDwAReferenceIdeal.nD Cert.InDwAReferenceIdeal.τ Cert.InDwAReferenceIdeal.sig) → Buf (Elt Ideal) ℓ) (g : Dev Cert.InDwAReferenceIdeal.nD → PrngReg), Pre_InDwAReferenceIdeal m →
    θ_run (Cert.InDwAReferenceIdeal.defs (F := Ideal)) (onTc (τ := Cert.InDwAReferenceIdeal.τ) (Cert.InDwAReferenceIdeal.main (F := Ideal))) ⟨m, fun _ => 0, g⟩ (fun r => (∀ c : Dev Cert.InDwAReferenceIdeal.nD,
      r.2.mem ((c.tc : Thread Cert.InDwAReferenceIdeal.nD Cert.InDwAReferenceIdeal.τ).loc Cert.InDwAReferenceIdeal.main_arg0) = m ((c.tc : Thread Cert.InDwAReferenceIdeal.nD Cert.InDwAReferenceIdeal.τ).loc Cert.InDwAReferenceIdeal.main_arg0)
      ∧ r.2.mem ((c.tc : Thread Cert.InDwAReferenceIdeal.nD Cert.InDwAReferenceIdeal.τ).loc Cert.InDwAReferenceIdeal.main_arg1) = m ((c.tc : Thread Cert.InDwAReferenceIdeal.nD Cert.InDwAReferenceIdeal.τ).loc Cert.InDwAReferenceIdeal.main_arg1)
      ∧ r.2.mem ((c.tc : Thread Cert.InDwAReferenceIdeal.nD Cert.InDwAReferenceIdeal.τ).loc Cert.InDwAReferenceIdeal.main_arg2) = m ((c.tc : Thread Cert.InDwAReferenceIdeal.nD Cert.InDwAReferenceIdeal.τ).loc Cert.InDwAReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1)
      ∧ r.2.mem ((c.tc : Thread Cert.UqDx.nD Cert.UqDx.τ).loc Cert.UqDx.main_arg2) = m ((c.tc : Thread Cert.UqDx.nD Cert.UqDx.τ).loc Cert.UqDx.main_arg2))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
      ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ r.2.sem = fun _ => 0)

def quiescent_UqDxReferenceIdeal [hUqDxReferenceIdeal : Cert.UqDxReferenceIdeal.Facts] : Prop :=
  ∀ (m : (ℓ : Loc Cert.UqDxReferenceIdeal.nD Cert.UqDxReferenceIdeal.τ Cert.UqDxReferenceIdeal.sig) → Buf (Elt Ideal) ℓ) (g : Dev Cert.UqDxReferenceIdeal.nD → PrngReg), Pre_UqDxReferenceIdeal m →
    θ_run (Cert.UqDxReferenceIdeal.defs (F := Ideal)) (onTc (τ := Cert.UqDxReferenceIdeal.τ) (Cert.UqDxReferenceIdeal.main (F := Ideal))) ⟨m, fun _ => 0, g⟩ (fun r => (∀ c : Dev Cert.UqDxReferenceIdeal.nD,
      r.2.mem ((c.tc : Thread Cert.UqDxReferenceIdeal.nD Cert.UqDxReferenceIdeal.τ).loc Cert.UqDxReferenceIdeal.main_arg0) = m ((c.tc : Thread Cert.UqDxReferenceIdeal.nD Cert.UqDxReferenceIdeal.τ).loc Cert.UqDxReferenceIdeal.main_arg0)
      ∧ r.2.mem ((c.tc : Thread Cert.UqDxReferenceIdeal.nD Cert.UqDxReferenceIdeal.τ).loc Cert.UqDxReferenceIdeal.main_arg1) = m ((c.tc : Thread Cert.UqDxReferenceIdeal.nD Cert.UqDxReferenceIdeal.τ).loc Cert.UqDxReferenceIdeal.main_arg1)
      ∧ r.2.mem ((c.tc : Thread Cert.UqDxReferenceIdeal.nD Cert.UqDxReferenceIdeal.τ).loc Cert.UqDxReferenceIdeal.main_arg2) = m ((c.tc : Thread Cert.UqDxReferenceIdeal.nD Cert.UqDxReferenceIdeal.τ).loc Cert.UqDxReferenceIdeal.main_arg2))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwReferenceIdeal [hUqDwReferenceIdeal : Cert.UqDwReferenceIdeal.Facts] : Prop :=
  ∀ (m : (ℓ : Loc Cert.UqDwReferenceIdeal.nD Cert.UqDwReferenceIdeal.τ Cert.UqDwReferenceIdeal.sig) → Buf (Elt Ideal) ℓ) (g : Dev Cert.UqDwReferenceIdeal.nD → PrngReg), Pre_UqDwReferenceIdeal m →
    θ_run (Cert.UqDwReferenceIdeal.defs (F := Ideal)) (onTc (τ := Cert.UqDwReferenceIdeal.τ) (Cert.UqDwReferenceIdeal.main (F := Ideal))) ⟨m, fun _ => 0, g⟩ (fun r => (∀ c : Dev Cert.UqDwReferenceIdeal.nD,
      r.2.mem ((c.tc : Thread Cert.UqDwReferenceIdeal.nD Cert.UqDwReferenceIdeal.τ).loc Cert.UqDwReferenceIdeal.main_arg0) = m ((c.tc : Thread Cert.UqDwReferenceIdeal.nD Cert.UqDwReferenceIdeal.τ).loc Cert.UqDwReferenceIdeal.main_arg0)
      ∧ r.2.mem ((c.tc : Thread Cert.UqDwReferenceIdeal.nD Cert.UqDwReferenceIdeal.τ).loc Cert.UqDwReferenceIdeal.main_arg1) = m ((c.tc : Thread Cert.UqDwReferenceIdeal.nD Cert.UqDwReferenceIdeal.τ).loc Cert.UqDwReferenceIdeal.main_arg1)
      ∧ r.2.mem ((c.tc : Thread Cert.UqDwReferenceIdeal.nD Cert.UqDwReferenceIdeal.τ).loc Cert.UqDwReferenceIdeal.main_arg2) = m ((c.tc : Thread Cert.UqDwReferenceIdeal.nD Cert.UqDwReferenceIdeal.τ).loc Cert.UqDwReferenceIdeal.main_arg2))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1)
      ∧ r.2.mem ((c.tc : Thread Cert.UkvDx.nD Cert.UkvDx.τ).loc Cert.UkvDx.main_arg2) = m ((c.tc : Thread Cert.UkvDx.nD Cert.UkvDx.τ).loc Cert.UkvDx.main_arg2))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
      ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ r.2.sem = fun _ => 0)

def quiescent_UkvDxReferenceIdeal [hUkvDxReferenceIdeal : Cert.UkvDxReferenceIdeal.Facts] : Prop :=
  ∀ (m : (ℓ : Loc Cert.UkvDxReferenceIdeal.nD Cert.UkvDxReferenceIdeal.τ Cert.UkvDxReferenceIdeal.sig) → Buf (Elt Ideal) ℓ) (g : Dev Cert.UkvDxReferenceIdeal.nD → PrngReg), Pre_UkvDxReferenceIdeal m →
    θ_run (Cert.UkvDxReferenceIdeal.defs (F := Ideal)) (onTc (τ := Cert.UkvDxReferenceIdeal.τ) (Cert.UkvDxReferenceIdeal.main (F := Ideal))) ⟨m, fun _ => 0, g⟩ (fun r => (∀ c : Dev Cert.UkvDxReferenceIdeal.nD,
      r.2.mem ((c.tc : Thread Cert.UkvDxReferenceIdeal.nD Cert.UkvDxReferenceIdeal.τ).loc Cert.UkvDxReferenceIdeal.main_arg0) = m ((c.tc : Thread Cert.UkvDxReferenceIdeal.nD Cert.UkvDxReferenceIdeal.τ).loc Cert.UkvDxReferenceIdeal.main_arg0)
      ∧ r.2.mem ((c.tc : Thread Cert.UkvDxReferenceIdeal.nD Cert.UkvDxReferenceIdeal.τ).loc Cert.UkvDxReferenceIdeal.main_arg1) = m ((c.tc : Thread Cert.UkvDxReferenceIdeal.nD Cert.UkvDxReferenceIdeal.τ).loc Cert.UkvDxReferenceIdeal.main_arg1)
      ∧ r.2.mem ((c.tc : Thread Cert.UkvDxReferenceIdeal.nD Cert.UkvDxReferenceIdeal.τ).loc Cert.UkvDxReferenceIdeal.main_arg2) = m ((c.tc : Thread Cert.UkvDxReferenceIdeal.nD Cert.UkvDxReferenceIdeal.τ).loc Cert.UkvDxReferenceIdeal.main_arg2))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1)
      ∧ r.2.mem ((c.tc : Thread Cert.UkvDw.nD Cert.UkvDw.τ).loc Cert.UkvDw.main_arg2) = m ((c.tc : Thread Cert.UkvDw.nD Cert.UkvDw.τ).loc Cert.UkvDw.main_arg2))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
      ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ r.2.sem = fun _ => 0)

def quiescent_UkvDwReferenceIdeal [hUkvDwReferenceIdeal : Cert.UkvDwReferenceIdeal.Facts] : Prop :=
  ∀ (m : (ℓ : Loc Cert.UkvDwReferenceIdeal.nD Cert.UkvDwReferenceIdeal.τ Cert.UkvDwReferenceIdeal.sig) → Buf (Elt Ideal) ℓ) (g : Dev Cert.UkvDwReferenceIdeal.nD → PrngReg), Pre_UkvDwReferenceIdeal m →
    θ_run (Cert.UkvDwReferenceIdeal.defs (F := Ideal)) (onTc (τ := Cert.UkvDwReferenceIdeal.τ) (Cert.UkvDwReferenceIdeal.main (F := Ideal))) ⟨m, fun _ => 0, g⟩ (fun r => (∀ c : Dev Cert.UkvDwReferenceIdeal.nD,
      r.2.mem ((c.tc : Thread Cert.UkvDwReferenceIdeal.nD Cert.UkvDwReferenceIdeal.τ).loc Cert.UkvDwReferenceIdeal.main_arg0) = m ((c.tc : Thread Cert.UkvDwReferenceIdeal.nD Cert.UkvDwReferenceIdeal.τ).loc Cert.UkvDwReferenceIdeal.main_arg0)
      ∧ r.2.mem ((c.tc : Thread Cert.UkvDwReferenceIdeal.nD Cert.UkvDwReferenceIdeal.τ).loc Cert.UkvDwReferenceIdeal.main_arg1) = m ((c.tc : Thread Cert.UkvDwReferenceIdeal.nD Cert.UkvDwReferenceIdeal.τ).loc Cert.UkvDwReferenceIdeal.main_arg1)
      ∧ r.2.mem ((c.tc : Thread Cert.UkvDwReferenceIdeal.nD Cert.UkvDwReferenceIdeal.τ).loc Cert.UkvDwReferenceIdeal.main_arg2) = m ((c.tc : Thread Cert.UkvDwReferenceIdeal.nD Cert.UkvDwReferenceIdeal.τ).loc Cert.UkvDwReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormAB [hNormAB : Cert.NormAB.Facts] : Prop :=
  ∀ (m : (ℓ : Loc Cert.NormAB.nD Cert.NormAB.τ Cert.NormAB.sig) → Buf (Elt Bits) ℓ) (g : Dev Cert.NormAB.nD → PrngReg), Pre_NormAB m →
    θ_run (Cert.NormAB.defs (F := Bits)) (onTc (τ := Cert.NormAB.τ) (Cert.NormAB.main (F := Bits))) ⟨m, fun _ => 0, g⟩ (fun r => (∀ c : Dev Cert.NormAB.nD,
      r.2.mem ((c.tc : Thread Cert.NormAB.nD Cert.NormAB.τ).loc Cert.NormAB.main_arg0) = m ((c.tc : Thread Cert.NormAB.nD Cert.NormAB.τ).loc Cert.NormAB.main_arg0)
      ∧ r.2.mem ((c.tc : Thread Cert.NormAB.nD Cert.NormAB.τ).loc Cert.NormAB.main_arg1) = m ((c.tc : Thread Cert.NormAB.nD Cert.NormAB.τ).loc Cert.NormAB.main_arg1))
      ∧ r.2.sem = fun _ => 0)

def quiescent_NormABIdeal [hNormABIdeal : Cert.NormABIdeal.Facts] : Prop :=
  ∀ (m : (ℓ : Loc Cert.NormABIdeal.nD Cert.NormABIdeal.τ Cert.NormABIdeal.sig) → Buf (Elt Ideal) ℓ) (g : Dev Cert.NormABIdeal.nD → PrngReg), Pre_NormABIdeal m →
    θ_run (Cert.NormABIdeal.defs (F := Ideal)) (onTc (τ := Cert.NormABIdeal.τ) (Cert.NormABIdeal.main (F := Ideal))) ⟨m, fun _ => 0, g⟩ (fun r => (∀ c : Dev Cert.NormABIdeal.nD,
      r.2.mem ((c.tc : Thread Cert.NormABIdeal.nD Cert.NormABIdeal.τ).loc Cert.NormABIdeal.main_arg0) = m ((c.tc : Thread Cert.NormABIdeal.nD Cert.NormABIdeal.τ).loc Cert.NormABIdeal.main_arg0)
      ∧ r.2.mem ((c.tc : Thread Cert.NormABIdeal.nD Cert.NormABIdeal.τ).loc Cert.NormABIdeal.main_arg1) = m ((c.tc : Thread Cert.NormABIdeal.nD Cert.NormABIdeal.τ).loc Cert.NormABIdeal.main_arg1))
      ∧ r.2.sem = fun _ => 0)

def quiescent_NormABReferenceIdeal [hNormABReferenceIdeal : Cert.NormABReferenceIdeal.Facts] : Prop :=
  ∀ (m : (ℓ : Loc Cert.NormABReferenceIdeal.nD Cert.NormABReferenceIdeal.τ Cert.NormABReferenceIdeal.sig) → Buf (Elt Ideal) ℓ) (g : Dev Cert.NormABReferenceIdeal.nD → PrngReg), Pre_NormABReferenceIdeal m →
    θ_run (Cert.NormABReferenceIdeal.defs (F := Ideal)) (onTc (τ := Cert.NormABReferenceIdeal.τ) (Cert.NormABReferenceIdeal.main (F := Ideal))) ⟨m, fun _ => 0, g⟩ (fun r => (∀ c : Dev Cert.NormABReferenceIdeal.nD,
      r.2.mem ((c.tc : Thread Cert.NormABReferenceIdeal.nD Cert.NormABReferenceIdeal.τ).loc Cert.NormABReferenceIdeal.main_arg0) = m ((c.tc : Thread Cert.NormABReferenceIdeal.nD Cert.NormABReferenceIdeal.τ).loc Cert.NormABReferenceIdeal.main_arg0)
      ∧ r.2.mem ((c.tc : Thread Cert.NormABReferenceIdeal.nD Cert.NormABReferenceIdeal.τ).loc Cert.NormABReferenceIdeal.main_arg1) = m ((c.tc : Thread Cert.NormABReferenceIdeal.nD Cert.NormABReferenceIdeal.τ).loc Cert.NormABReferenceIdeal.main_arg1))
      ∧ r.2.sem = fun _ => 0)

def quiescent_NormC [hNormC : Cert.NormC.Facts] : Prop :=
  ∀ (m : (ℓ : Loc Cert.NormC.nD Cert.NormC.τ Cert.NormC.sig) → Buf (Elt Bits) ℓ) (g : Dev Cert.NormC.nD → PrngReg), Pre_NormC m →
    θ_run (Cert.NormC.defs (F := Bits)) (onTc (τ := Cert.NormC.τ) (Cert.NormC.main (F := Bits))) ⟨m, fun _ => 0, g⟩ (fun r => (∀ c : Dev Cert.NormC.nD,
      r.2.mem ((c.tc : Thread Cert.NormC.nD Cert.NormC.τ).loc Cert.NormC.main_arg0) = m ((c.tc : Thread Cert.NormC.nD Cert.NormC.τ).loc Cert.NormC.main_arg0)
      ∧ r.2.mem ((c.tc : Thread Cert.NormC.nD Cert.NormC.τ).loc Cert.NormC.main_arg1) = m ((c.tc : Thread Cert.NormC.nD Cert.NormC.τ).loc Cert.NormC.main_arg1))
      ∧ r.2.sem = fun _ => 0)

def quiescent_NormCIdeal [hNormCIdeal : Cert.NormCIdeal.Facts] : Prop :=
  ∀ (m : (ℓ : Loc Cert.NormCIdeal.nD Cert.NormCIdeal.τ Cert.NormCIdeal.sig) → Buf (Elt Ideal) ℓ) (g : Dev Cert.NormCIdeal.nD → PrngReg), Pre_NormCIdeal m →
    θ_run (Cert.NormCIdeal.defs (F := Ideal)) (onTc (τ := Cert.NormCIdeal.τ) (Cert.NormCIdeal.main (F := Ideal))) ⟨m, fun _ => 0, g⟩ (fun r => (∀ c : Dev Cert.NormCIdeal.nD,
      r.2.mem ((c.tc : Thread Cert.NormCIdeal.nD Cert.NormCIdeal.τ).loc Cert.NormCIdeal.main_arg0) = m ((c.tc : Thread Cert.NormCIdeal.nD Cert.NormCIdeal.τ).loc Cert.NormCIdeal.main_arg0)
      ∧ r.2.mem ((c.tc : Thread Cert.NormCIdeal.nD Cert.NormCIdeal.τ).loc Cert.NormCIdeal.main_arg1) = m ((c.tc : Thread Cert.NormCIdeal.nD Cert.NormCIdeal.τ).loc Cert.NormCIdeal.main_arg1))
      ∧ r.2.sem = fun _ => 0)

def quiescent_NormCReferenceIdeal [hNormCReferenceIdeal : Cert.NormCReferenceIdeal.Facts] : Prop :=
  ∀ (m : (ℓ : Loc Cert.NormCReferenceIdeal.nD Cert.NormCReferenceIdeal.τ Cert.NormCReferenceIdeal.sig) → Buf (Elt Ideal) ℓ) (g : Dev Cert.NormCReferenceIdeal.nD → PrngReg), Pre_NormCReferenceIdeal m →
    θ_run (Cert.NormCReferenceIdeal.defs (F := Ideal)) (onTc (τ := Cert.NormCReferenceIdeal.τ) (Cert.NormCReferenceIdeal.main (F := Ideal))) ⟨m, fun _ => 0, g⟩ (fun r => (∀ c : Dev Cert.NormCReferenceIdeal.nD,
      r.2.mem ((c.tc : Thread Cert.NormCReferenceIdeal.nD Cert.NormCReferenceIdeal.τ).loc Cert.NormCReferenceIdeal.main_arg0) = m ((c.tc : Thread Cert.NormCReferenceIdeal.nD Cert.NormCReferenceIdeal.τ).loc Cert.NormCReferenceIdeal.main_arg0)
      ∧ r.2.mem ((c.tc : Thread Cert.NormCReferenceIdeal.nD Cert.NormCReferenceIdeal.τ).loc Cert.NormCReferenceIdeal.main_arg1) = m ((c.tc : Thread Cert.NormCReferenceIdeal.nD Cert.NormCReferenceIdeal.τ).loc Cert.NormCReferenceIdeal.main_arg1))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ r.2.sem = fun _ => 0)

def quiescent_NormKvReferenceIdeal [hNormKvReferenceIdeal : Cert.NormKvReferenceIdeal.Facts] : Prop :=
  ∀ (m : (ℓ : Loc Cert.NormKvReferenceIdeal.nD Cert.NormKvReferenceIdeal.τ Cert.NormKvReferenceIdeal.sig) → Buf (Elt Ideal) ℓ) (g : Dev Cert.NormKvReferenceIdeal.nD → PrngReg), Pre_NormKvReferenceIdeal m →
    θ_run (Cert.NormKvReferenceIdeal.defs (F := Ideal)) (onTc (τ := Cert.NormKvReferenceIdeal.τ) (Cert.NormKvReferenceIdeal.main (F := Ideal))) ⟨m, fun _ => 0, g⟩ (fun r => (∀ c : Dev Cert.NormKvReferenceIdeal.nD,
      r.2.mem ((c.tc : Thread Cert.NormKvReferenceIdeal.nD Cert.NormKvReferenceIdeal.τ).loc Cert.NormKvReferenceIdeal.main_arg0) = m ((c.tc : Thread Cert.NormKvReferenceIdeal.nD Cert.NormKvReferenceIdeal.τ).loc Cert.NormKvReferenceIdeal.main_arg0)
      ∧ r.2.mem ((c.tc : Thread Cert.NormKvReferenceIdeal.nD Cert.NormKvReferenceIdeal.τ).loc Cert.NormKvReferenceIdeal.main_arg1) = m ((c.tc : Thread Cert.NormKvReferenceIdeal.nD Cert.NormKvReferenceIdeal.τ).loc Cert.NormKvReferenceIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2))
      ∧ r.2.sem = fun _ => 0)

def quiescent_DnormReferenceIdeal [hDnormReferenceIdeal : Cert.DnormReferenceIdeal.Facts] : Prop :=
  ∀ (m : (ℓ : Loc Cert.DnormReferenceIdeal.nD Cert.DnormReferenceIdeal.τ Cert.DnormReferenceIdeal.sig) → Buf (Elt Ideal) ℓ) (g : Dev Cert.DnormReferenceIdeal.nD → PrngReg), Pre_DnormReferenceIdeal m →
    θ_run (Cert.DnormReferenceIdeal.defs (F := Ideal)) (onTc (τ := Cert.DnormReferenceIdeal.τ) (Cert.DnormReferenceIdeal.main (F := Ideal))) ⟨m, fun _ => 0, g⟩ (fun r => (∀ c : Dev Cert.DnormReferenceIdeal.nD,
      r.2.mem ((c.tc : Thread Cert.DnormReferenceIdeal.nD Cert.DnormReferenceIdeal.τ).loc Cert.DnormReferenceIdeal.main_arg0) = m ((c.tc : Thread Cert.DnormReferenceIdeal.nD Cert.DnormReferenceIdeal.τ).loc Cert.DnormReferenceIdeal.main_arg0)
      ∧ r.2.mem ((c.tc : Thread Cert.DnormReferenceIdeal.nD Cert.DnormReferenceIdeal.τ).loc Cert.DnormReferenceIdeal.main_arg1) = m ((c.tc : Thread Cert.DnormReferenceIdeal.nD Cert.DnormReferenceIdeal.τ).loc Cert.DnormReferenceIdeal.main_arg1)
      ∧ r.2.mem ((c.tc : Thread Cert.DnormReferenceIdeal.nD Cert.DnormReferenceIdeal.τ).loc Cert.DnormReferenceIdeal.main_arg2) = m ((c.tc : Thread Cert.DnormReferenceIdeal.nD Cert.DnormReferenceIdeal.τ).loc Cert.DnormReferenceIdeal.main_arg2))
      ∧ r.2.sem = fun _ => 0)

def quiescent_DnormAB [hDnormAB : Cert.DnormAB.Facts] : Prop :=
  ∀ (m : (ℓ : Loc Cert.DnormAB.nD Cert.DnormAB.τ Cert.DnormAB.sig) → Buf (Elt Bits) ℓ) (g : Dev Cert.DnormAB.nD → PrngReg), Pre_DnormAB m →
    θ_run (Cert.DnormAB.defs (F := Bits)) (onTc (τ := Cert.DnormAB.τ) (Cert.DnormAB.main (F := Bits))) ⟨m, fun _ => 0, g⟩ (fun r => (∀ c : Dev Cert.DnormAB.nD,
      r.2.mem ((c.tc : Thread Cert.DnormAB.nD Cert.DnormAB.τ).loc Cert.DnormAB.main_arg0) = m ((c.tc : Thread Cert.DnormAB.nD Cert.DnormAB.τ).loc Cert.DnormAB.main_arg0)
      ∧ r.2.mem ((c.tc : Thread Cert.DnormAB.nD Cert.DnormAB.τ).loc Cert.DnormAB.main_arg1) = m ((c.tc : Thread Cert.DnormAB.nD Cert.DnormAB.τ).loc Cert.DnormAB.main_arg1)
      ∧ r.2.mem ((c.tc : Thread Cert.DnormAB.nD Cert.DnormAB.τ).loc Cert.DnormAB.main_arg2) = m ((c.tc : Thread Cert.DnormAB.nD Cert.DnormAB.τ).loc Cert.DnormAB.main_arg2))
      ∧ r.2.sem = fun _ => 0)

def quiescent_DnormABIdeal [hDnormABIdeal : Cert.DnormABIdeal.Facts] : Prop :=
  ∀ (m : (ℓ : Loc Cert.DnormABIdeal.nD Cert.DnormABIdeal.τ Cert.DnormABIdeal.sig) → Buf (Elt Ideal) ℓ) (g : Dev Cert.DnormABIdeal.nD → PrngReg), Pre_DnormABIdeal m →
    θ_run (Cert.DnormABIdeal.defs (F := Ideal)) (onTc (τ := Cert.DnormABIdeal.τ) (Cert.DnormABIdeal.main (F := Ideal))) ⟨m, fun _ => 0, g⟩ (fun r => (∀ c : Dev Cert.DnormABIdeal.nD,
      r.2.mem ((c.tc : Thread Cert.DnormABIdeal.nD Cert.DnormABIdeal.τ).loc Cert.DnormABIdeal.main_arg0) = m ((c.tc : Thread Cert.DnormABIdeal.nD Cert.DnormABIdeal.τ).loc Cert.DnormABIdeal.main_arg0)
      ∧ r.2.mem ((c.tc : Thread Cert.DnormABIdeal.nD Cert.DnormABIdeal.τ).loc Cert.DnormABIdeal.main_arg1) = m ((c.tc : Thread Cert.DnormABIdeal.nD Cert.DnormABIdeal.τ).loc Cert.DnormABIdeal.main_arg1)
      ∧ r.2.mem ((c.tc : Thread Cert.DnormABIdeal.nD Cert.DnormABIdeal.τ).loc Cert.DnormABIdeal.main_arg2) = m ((c.tc : Thread Cert.DnormABIdeal.nD Cert.DnormABIdeal.τ).loc Cert.DnormABIdeal.main_arg2))
      ∧ r.2.sem = fun _ => 0)

def quiescent_DnormABReferenceIdeal [hDnormABReferenceIdeal : Cert.DnormABReferenceIdeal.Facts] : Prop :=
  ∀ (m : (ℓ : Loc Cert.DnormABReferenceIdeal.nD Cert.DnormABReferenceIdeal.τ Cert.DnormABReferenceIdeal.sig) → Buf (Elt Ideal) ℓ) (g : Dev Cert.DnormABReferenceIdeal.nD → PrngReg), Pre_DnormABReferenceIdeal m →
    θ_run (Cert.DnormABReferenceIdeal.defs (F := Ideal)) (onTc (τ := Cert.DnormABReferenceIdeal.τ) (Cert.DnormABReferenceIdeal.main (F := Ideal))) ⟨m, fun _ => 0, g⟩ (fun r => (∀ c : Dev Cert.DnormABReferenceIdeal.nD,
      r.2.mem ((c.tc : Thread Cert.DnormABReferenceIdeal.nD Cert.DnormABReferenceIdeal.τ).loc Cert.DnormABReferenceIdeal.main_arg0) = m ((c.tc : Thread Cert.DnormABReferenceIdeal.nD Cert.DnormABReferenceIdeal.τ).loc Cert.DnormABReferenceIdeal.main_arg0)
      ∧ r.2.mem ((c.tc : Thread Cert.DnormABReferenceIdeal.nD Cert.DnormABReferenceIdeal.τ).loc Cert.DnormABReferenceIdeal.main_arg1) = m ((c.tc : Thread Cert.DnormABReferenceIdeal.nD Cert.DnormABReferenceIdeal.τ).loc Cert.DnormABReferenceIdeal.main_arg1)
      ∧ r.2.mem ((c.tc : Thread Cert.DnormABReferenceIdeal.nD Cert.DnormABReferenceIdeal.τ).loc Cert.DnormABReferenceIdeal.main_arg2) = m ((c.tc : Thread Cert.DnormABReferenceIdeal.nD Cert.DnormABReferenceIdeal.τ).loc Cert.DnormABReferenceIdeal.main_arg2))
      ∧ r.2.sem = fun _ => 0)

def quiescent_DnormC [hDnormC : Cert.DnormC.Facts] : Prop :=
  ∀ (m : (ℓ : Loc Cert.DnormC.nD Cert.DnormC.τ Cert.DnormC.sig) → Buf (Elt Bits) ℓ) (g : Dev Cert.DnormC.nD → PrngReg), Pre_DnormC m →
    θ_run (Cert.DnormC.defs (F := Bits)) (onTc (τ := Cert.DnormC.τ) (Cert.DnormC.main (F := Bits))) ⟨m, fun _ => 0, g⟩ (fun r => (∀ c : Dev Cert.DnormC.nD,
      r.2.mem ((c.tc : Thread Cert.DnormC.nD Cert.DnormC.τ).loc Cert.DnormC.main_arg0) = m ((c.tc : Thread Cert.DnormC.nD Cert.DnormC.τ).loc Cert.DnormC.main_arg0)
      ∧ r.2.mem ((c.tc : Thread Cert.DnormC.nD Cert.DnormC.τ).loc Cert.DnormC.main_arg1) = m ((c.tc : Thread Cert.DnormC.nD Cert.DnormC.τ).loc Cert.DnormC.main_arg1)
      ∧ r.2.mem ((c.tc : Thread Cert.DnormC.nD Cert.DnormC.τ).loc Cert.DnormC.main_arg2) = m ((c.tc : Thread Cert.DnormC.nD Cert.DnormC.τ).loc Cert.DnormC.main_arg2))
      ∧ r.2.sem = fun _ => 0)

def quiescent_DnormCIdeal [hDnormCIdeal : Cert.DnormCIdeal.Facts] : Prop :=
  ∀ (m : (ℓ : Loc Cert.DnormCIdeal.nD Cert.DnormCIdeal.τ Cert.DnormCIdeal.sig) → Buf (Elt Ideal) ℓ) (g : Dev Cert.DnormCIdeal.nD → PrngReg), Pre_DnormCIdeal m →
    θ_run (Cert.DnormCIdeal.defs (F := Ideal)) (onTc (τ := Cert.DnormCIdeal.τ) (Cert.DnormCIdeal.main (F := Ideal))) ⟨m, fun _ => 0, g⟩ (fun r => (∀ c : Dev Cert.DnormCIdeal.nD,
      r.2.mem ((c.tc : Thread Cert.DnormCIdeal.nD Cert.DnormCIdeal.τ).loc Cert.DnormCIdeal.main_arg0) = m ((c.tc : Thread Cert.DnormCIdeal.nD Cert.DnormCIdeal.τ).loc Cert.DnormCIdeal.main_arg0)
      ∧ r.2.mem ((c.tc : Thread Cert.DnormCIdeal.nD Cert.DnormCIdeal.τ).loc Cert.DnormCIdeal.main_arg1) = m ((c.tc : Thread Cert.DnormCIdeal.nD Cert.DnormCIdeal.τ).loc Cert.DnormCIdeal.main_arg1)
      ∧ r.2.mem ((c.tc : Thread Cert.DnormCIdeal.nD Cert.DnormCIdeal.τ).loc Cert.DnormCIdeal.main_arg2) = m ((c.tc : Thread Cert.DnormCIdeal.nD Cert.DnormCIdeal.τ).loc Cert.DnormCIdeal.main_arg2))
      ∧ r.2.sem = fun _ => 0)

def quiescent_DnormCReferenceIdeal [hDnormCReferenceIdeal : Cert.DnormCReferenceIdeal.Facts] : Prop :=
  ∀ (m : (ℓ : Loc Cert.DnormCReferenceIdeal.nD Cert.DnormCReferenceIdeal.τ Cert.DnormCReferenceIdeal.sig) → Buf (Elt Ideal) ℓ) (g : Dev Cert.DnormCReferenceIdeal.nD → PrngReg), Pre_DnormCReferenceIdeal m →
    θ_run (Cert.DnormCReferenceIdeal.defs (F := Ideal)) (onTc (τ := Cert.DnormCReferenceIdeal.τ) (Cert.DnormCReferenceIdeal.main (F := Ideal))) ⟨m, fun _ => 0, g⟩ (fun r => (∀ c : Dev Cert.DnormCReferenceIdeal.nD,
      r.2.mem ((c.tc : Thread Cert.DnormCReferenceIdeal.nD Cert.DnormCReferenceIdeal.τ).loc Cert.DnormCReferenceIdeal.main_arg0) = m ((c.tc : Thread Cert.DnormCReferenceIdeal.nD Cert.DnormCReferenceIdeal.τ).loc Cert.DnormCReferenceIdeal.main_arg0)
      ∧ r.2.mem ((c.tc : Thread Cert.DnormCReferenceIdeal.nD Cert.DnormCReferenceIdeal.τ).loc Cert.DnormCReferenceIdeal.main_arg1) = m ((c.tc : Thread Cert.DnormCReferenceIdeal.nD Cert.DnormCReferenceIdeal.τ).loc Cert.DnormCReferenceIdeal.main_arg1)
      ∧ r.2.mem ((c.tc : Thread Cert.DnormCReferenceIdeal.nD Cert.DnormCReferenceIdeal.τ).loc Cert.DnormCReferenceIdeal.main_arg2) = m ((c.tc : Thread Cert.DnormCReferenceIdeal.nD Cert.DnormCReferenceIdeal.τ).loc Cert.DnormCReferenceIdeal.main_arg2))
      ∧ r.2.sem = fun _ => 0)

def quiescent_DnormKv [hDnormKv : Cert.DnormKv.Facts] : Prop :=
  ∀ (m : (ℓ : Loc Cert.DnormKv.nD Cert.DnormKv.τ Cert.DnormKv.sig) → Buf (Elt Bits) ℓ) (g : Dev Cert.DnormKv.nD → PrngReg), Pre_DnormKv m →
    θ_run (Cert.DnormKv.defs (F := Bits)) (onTc (τ := Cert.DnormKv.τ) (Cert.DnormKv.main (F := Bits))) ⟨m, fun _ => 0, g⟩ (fun r => (∀ c : Dev Cert.DnormKv.nD,
      r.2.mem ((c.tc : Thread Cert.DnormKv.nD Cert.DnormKv.τ).loc Cert.DnormKv.main_arg0) = m ((c.tc : Thread Cert.DnormKv.nD Cert.DnormKv.τ).loc Cert.DnormKv.main_arg0)
      ∧ r.2.mem ((c.tc : Thread Cert.DnormKv.nD Cert.DnormKv.τ).loc Cert.DnormKv.main_arg1) = m ((c.tc : Thread Cert.DnormKv.nD Cert.DnormKv.τ).loc Cert.DnormKv.main_arg1)
      ∧ r.2.mem ((c.tc : Thread Cert.DnormKv.nD Cert.DnormKv.τ).loc Cert.DnormKv.main_arg2) = m ((c.tc : Thread Cert.DnormKv.nD Cert.DnormKv.τ).loc Cert.DnormKv.main_arg2))
      ∧ r.2.sem = fun _ => 0)

def quiescent_DnormKvIdeal [hDnormKvIdeal : Cert.DnormKvIdeal.Facts] : Prop :=
  ∀ (m : (ℓ : Loc Cert.DnormKvIdeal.nD Cert.DnormKvIdeal.τ Cert.DnormKvIdeal.sig) → Buf (Elt Ideal) ℓ) (g : Dev Cert.DnormKvIdeal.nD → PrngReg), Pre_DnormKvIdeal m →
    θ_run (Cert.DnormKvIdeal.defs (F := Ideal)) (onTc (τ := Cert.DnormKvIdeal.τ) (Cert.DnormKvIdeal.main (F := Ideal))) ⟨m, fun _ => 0, g⟩ (fun r => (∀ c : Dev Cert.DnormKvIdeal.nD,
      r.2.mem ((c.tc : Thread Cert.DnormKvIdeal.nD Cert.DnormKvIdeal.τ).loc Cert.DnormKvIdeal.main_arg0) = m ((c.tc : Thread Cert.DnormKvIdeal.nD Cert.DnormKvIdeal.τ).loc Cert.DnormKvIdeal.main_arg0)
      ∧ r.2.mem ((c.tc : Thread Cert.DnormKvIdeal.nD Cert.DnormKvIdeal.τ).loc Cert.DnormKvIdeal.main_arg1) = m ((c.tc : Thread Cert.DnormKvIdeal.nD Cert.DnormKvIdeal.τ).loc Cert.DnormKvIdeal.main_arg1)
      ∧ r.2.mem ((c.tc : Thread Cert.DnormKvIdeal.nD Cert.DnormKvIdeal.τ).loc Cert.DnormKvIdeal.main_arg2) = m ((c.tc : Thread Cert.DnormKvIdeal.nD Cert.DnormKvIdeal.τ).loc Cert.DnormKvIdeal.main_arg2))
      ∧ r.2.sem = fun _ => 0)

def quiescent_DnormKvReferenceIdeal [hDnormKvReferenceIdeal : Cert.DnormKvReferenceIdeal.Facts] : Prop :=
  ∀ (m : (ℓ : Loc Cert.DnormKvReferenceIdeal.nD Cert.DnormKvReferenceIdeal.τ Cert.DnormKvReferenceIdeal.sig) → Buf (Elt Ideal) ℓ) (g : Dev Cert.DnormKvReferenceIdeal.nD → PrngReg), Pre_DnormKvReferenceIdeal m →
    θ_run (Cert.DnormKvReferenceIdeal.defs (F := Ideal)) (onTc (τ := Cert.DnormKvReferenceIdeal.τ) (Cert.DnormKvReferenceIdeal.main (F := Ideal))) ⟨m, fun _ => 0, g⟩ (fun r => (∀ c : Dev Cert.DnormKvReferenceIdeal.nD,
      r.2.mem ((c.tc : Thread Cert.DnormKvReferenceIdeal.nD Cert.DnormKvReferenceIdeal.τ).loc Cert.DnormKvReferenceIdeal.main_arg0) = m ((c.tc : Thread Cert.DnormKvReferenceIdeal.nD Cert.DnormKvReferenceIdeal.τ).loc Cert.DnormKvReferenceIdeal.main_arg0)
      ∧ r.2.mem ((c.tc : Thread Cert.DnormKvReferenceIdeal.nD Cert.DnormKvReferenceIdeal.τ).loc Cert.DnormKvReferenceIdeal.main_arg1) = m ((c.tc : Thread Cert.DnormKvReferenceIdeal.nD Cert.DnormKvReferenceIdeal.τ).loc Cert.DnormKvReferenceIdeal.main_arg1)
      ∧ r.2.mem ((c.tc : Thread Cert.DnormKvReferenceIdeal.nD Cert.DnormKvReferenceIdeal.τ).loc Cert.DnormKvReferenceIdeal.main_arg2) = m ((c.tc : Thread Cert.DnormKvReferenceIdeal.nD Cert.DnormKvReferenceIdeal.τ).loc Cert.DnormKvReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0)
      ∧ r.2.mem ((c.tc : Thread Cert.Band1.nD Cert.Band1.τ).loc Cert.Band1.main_arg1) = m ((c.tc : Thread Cert.Band1.nD Cert.Band1.τ).loc Cert.Band1.main_arg1)
      ∧ r.2.mem ((c.tc : Thread Cert.Band1.nD Cert.Band1.τ).loc Cert.Band1.main_arg2) = m ((c.tc : Thread Cert.Band1.nD Cert.Band1.τ).loc Cert.Band1.main_arg2))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
      ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ r.2.sem = fun _ => 0)

def quiescent_Band1ReferenceIdeal [hBand1ReferenceIdeal : Cert.Band1ReferenceIdeal.Facts] : Prop :=
  ∀ (m : (ℓ : Loc Cert.Band1ReferenceIdeal.nD Cert.Band1ReferenceIdeal.τ Cert.Band1ReferenceIdeal.sig) → Buf (Elt Ideal) ℓ) (g : Dev Cert.Band1ReferenceIdeal.nD → PrngReg), Pre_Band1ReferenceIdeal m →
    θ_run (Cert.Band1ReferenceIdeal.defs (F := Ideal)) (onTc (τ := Cert.Band1ReferenceIdeal.τ) (Cert.Band1ReferenceIdeal.main (F := Ideal))) ⟨m, fun _ => 0, g⟩ (fun r => (∀ c : Dev Cert.Band1ReferenceIdeal.nD,
      r.2.mem ((c.tc : Thread Cert.Band1ReferenceIdeal.nD Cert.Band1ReferenceIdeal.τ).loc Cert.Band1ReferenceIdeal.main_arg0) = m ((c.tc : Thread Cert.Band1ReferenceIdeal.nD Cert.Band1ReferenceIdeal.τ).loc Cert.Band1ReferenceIdeal.main_arg0)
      ∧ r.2.mem ((c.tc : Thread Cert.Band1ReferenceIdeal.nD Cert.Band1ReferenceIdeal.τ).loc Cert.Band1ReferenceIdeal.main_arg1) = m ((c.tc : Thread Cert.Band1ReferenceIdeal.nD Cert.Band1ReferenceIdeal.τ).loc Cert.Band1ReferenceIdeal.main_arg1)
      ∧ r.2.mem ((c.tc : Thread Cert.Band1ReferenceIdeal.nD Cert.Band1ReferenceIdeal.τ).loc Cert.Band1ReferenceIdeal.main_arg2) = m ((c.tc : Thread Cert.Band1ReferenceIdeal.nD Cert.Band1ReferenceIdeal.τ).loc Cert.Band1ReferenceIdeal.main_arg2))
      ∧ r.2.sem = fun _ => 0)

def preserves_Kernel_KernelIdeal : Prop :=
  IdealRules.named_const.Statement Cert.KernelIdeal.κ "to_log2" .f32 0x3E16C740#32 (((3424635 / 33554432) * (Real.log 2)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0) = v0 c
          ∧ r.2.mem ((c.tc : Thread Cert.UpReferenceIdeal.nD Cert.UpReferenceIdeal.τ).loc Cert.UpReferenceIdeal.main_v3) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Du_DuIdeal : Prop :=
  True

def algebraic_DuIdeal_DuReferenceIdeal [hDuIdeal : Cert.DuIdeal.Facts] [hDuReferenceIdeal : Cert.DuReferenceIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuReferenceIdeal.nD Cert.DuReferenceIdeal.τ Cert.DuReferenceIdeal.sig) → Buf (Elt Ideal) ℓ) (g' : Dev Cert.DuReferenceIdeal.nD → PrngReg), Pre_DuIdeal m →
    (∀ c : Dev Cert.DuIdeal.nD,
      m' ((c.tc : Thread Cert.DuReferenceIdeal.nD Cert.DuReferenceIdeal.τ).loc Cert.DuReferenceIdeal.main_arg0) = m ((c.tc : Thread Cert.DuIdeal.nD Cert.DuIdeal.τ).loc Cert.DuIdeal.main_arg0)
      ∧ m' ((c.tc : Thread Cert.DuReferenceIdeal.nD Cert.DuReferenceIdeal.τ).loc Cert.DuReferenceIdeal.main_arg1) = m ((c.tc : Thread Cert.DuIdeal.nD Cert.DuIdeal.τ).loc Cert.DuIdeal.main_arg1)
      ∧ m' ((c.tc : Thread Cert.DuReferenceIdeal.nD Cert.DuReferenceIdeal.τ).loc Cert.DuReferenceIdeal.main_arg2) = m ((c.tc : Thread Cert.DuIdeal.nD Cert.DuIdeal.τ).loc Cert.DuIdeal.main_arg2)) →
    ∃ (v0 : (c : Dev Cert.DuIdeal.nD) → Buf (Elt Ideal) ((c.tc : Thread Cert.DuIdeal.nD Cert.DuIdeal.τ).loc Cert.DuIdeal.main_v1)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v1) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ θ_run (Cert.DuReferenceIdeal.defs (F := Ideal)) (onTc (τ := Cert.DuReferenceIdeal.τ) (Cert.DuReferenceIdeal.main (F := Ideal))) ⟨m', fun _ => 0, g'⟩ (fun r => ∀ c : Dev Cert.DuReferenceIdeal.nD,
          r.2.mem ((c.tc : Thread Cert.DuReferenceIdeal.nD Cert.DuReferenceIdeal.τ).loc Cert.DuReferenceIdeal.main_v12) = v0 c
          ∧ r.2.mem ((c.tc : Thread Cert.DuReferenceIdeal.nD Cert.DuReferenceIdeal.τ).loc Cert.DuReferenceIdeal.main_arg0) = m' ((c.tc : Thread Cert.DuReferenceIdeal.nD Cert.DuReferenceIdeal.τ).loc Cert.DuReferenceIdeal.main_arg0)
          ∧ r.2.mem ((c.tc : Thread Cert.DuReferenceIdeal.nD Cert.DuReferenceIdeal.τ).loc Cert.DuReferenceIdeal.main_arg1) = m' ((c.tc : Thread Cert.DuReferenceIdeal.nD Cert.DuReferenceIdeal.τ).loc Cert.DuReferenceIdeal.main_arg1)
          ∧ r.2.mem ((c.tc : Thread Cert.DuReferenceIdeal.nD Cert.DuReferenceIdeal.τ).loc Cert.DuReferenceIdeal.main_arg2) = m' ((c.tc : Thread Cert.DuReferenceIdeal.nD Cert.DuReferenceIdeal.τ).loc Cert.DuReferenceIdeal.main_arg2))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)
      ∧ m' ((c.tc : Thread Cert.DwOutReferenceIdeal.nD Cert.DwOutReferenceIdeal.τ).loc Cert.DwOutReferenceIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v2) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1)
          ∧ r.2.mem ((c.tc : Thread Cert.DwOutReferenceIdeal.nD Cert.DwOutReferenceIdeal.τ).loc Cert.DwOutReferenceIdeal.main_arg2) = m' ((c.tc : Thread Cert.DwOutReferenceIdeal.nD Cert.DwOutReferenceIdeal.τ).loc Cert.DwOutReferenceIdeal.main_arg2))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)
      ∧ m' ((c.tc : Thread Cert.DwInReferenceIdeal.nD Cert.DwInReferenceIdeal.τ).loc Cert.DwInReferenceIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v2) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v3) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v6_0)) (v1 : (c : Dev Cert.InIdeal.nD) → Buf (Elt Ideal) ((c.tc : Thread Cert.InIdeal.nD Cert.InIdeal.τ).loc Cert.InIdeal.main_v6_1)) (v2 : (c : Dev Cert.InIdeal.nD) → Buf (Elt Ideal) ((c.tc : Thread Cert.InIdeal.nD Cert.InIdeal.τ).loc Cert.InIdeal.main_v6_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v6_0) = v0 c
          ∧ r.2.mem ((c.tc : Thread Cert.InIdeal.nD Cert.InIdeal.τ).loc Cert.InIdeal.main_v6_1) = v1 c
          ∧ r.2.mem ((c.tc : Thread Cert.InIdeal.nD Cert.InIdeal.τ).loc Cert.InIdeal.main_v6_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_v3) = v1 c
          ∧ r.2.mem ((c.tc : Thread Cert.InReferenceIdeal.nD Cert.InReferenceIdeal.τ).loc Cert.InReferenceIdeal.main_v1) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDhB_InDhBIdeal : Prop :=
  True

def algebraic_InDhBIdeal_InDhBReferenceIdeal [hInDhBIdeal : Cert.InDhBIdeal.Facts] [hInDhBReferenceIdeal : Cert.InDhBReferenceIdeal.Facts] : Prop :=
  ∀ (m : (ℓ : Loc Cert.InDhBIdeal.nD Cert.InDhBIdeal.τ Cert.InDhBIdeal.sig) → Buf (Elt Ideal) ℓ) (g : Dev Cert.InDhBIdeal.nD → PrngReg)
    (m' : (ℓ : Loc Cert.InDhBReferenceIdeal.nD Cert.InDhBReferenceIdeal.τ Cert.InDhBReferenceIdeal.sig) → Buf (Elt Ideal) ℓ) (g' : Dev Cert.InDhBReferenceIdeal.nD → PrngReg), Pre_InDhBIdeal m →
    (∀ c : Dev Cert.InDhBIdeal.nD,
      m' ((c.tc : Thread Cert.InDhBReferenceIdeal.nD Cert.InDhBReferenceIdeal.τ).loc Cert.InDhBReferenceIdeal.main_arg0) = m ((c.tc : Thread Cert.InDhBIdeal.nD Cert.InDhBIdeal.τ).loc Cert.InDhBIdeal.main_arg0)
      ∧ m' ((c.tc : Thread Cert.InDhBReferenceIdeal.nD Cert.InDhBReferenceIdeal.τ).loc Cert.InDhBReferenceIdeal.main_arg1) = m ((c.tc : Thread Cert.InDhBIdeal.nD Cert.InDhBIdeal.τ).loc Cert.InDhBIdeal.main_arg1)
      ∧ m' ((c.tc : Thread Cert.InDhBReferenceIdeal.nD Cert.InDhBReferenceIdeal.τ).loc Cert.InDhBReferenceIdeal.main_arg2) = m ((c.tc : Thread Cert.InDhBIdeal.nD Cert.InDhBIdeal.τ).loc Cert.InDhBIdeal.main_arg2)) →
    ∃ (v0 : (c : Dev Cert.InDhBIdeal.nD) → Buf (Elt Ideal) ((c.tc : Thread Cert.InDhBIdeal.nD Cert.InDhBIdeal.τ).loc Cert.InDhBIdeal.main_v6)),
      θ_run (Cert.InDhBIdeal.defs (F := Ideal)) (onTc (τ := Cert.InDhBIdeal.τ) (Cert.InDhBIdeal.main (F := Ideal))) ⟨m, fun _ => 0, g⟩ (fun r => ∀ c : Dev Cert.InDhBIdeal.nD,
          r.2.mem ((c.tc : Thread Cert.InDhBIdeal.nD Cert.InDhBIdeal.τ).loc Cert.InDhBIdeal.main_v6) = v0 c
          ∧ r.2.mem ((c.tc : Thread Cert.InDhBIdeal.nD Cert.InDhBIdeal.τ).loc Cert.InDhBIdeal.main_arg0) = m ((c.tc : Thread Cert.InDhBIdeal.nD Cert.InDhBIdeal.τ).loc Cert.InDhBIdeal.main_arg0)
          ∧ r.2.mem ((c.tc : Thread Cert.InDhBIdeal.nD Cert.InDhBIdeal.τ).loc Cert.InDhBIdeal.main_arg1) = m ((c.tc : Thread Cert.InDhBIdeal.nD Cert.InDhBIdeal.τ).loc Cert.InDhBIdeal.main_arg1)
          ∧ r.2.mem ((c.tc : Thread Cert.InDhBIdeal.nD Cert.InDhBIdeal.τ).loc Cert.InDhBIdeal.main_arg2) = m ((c.tc : Thread Cert.InDhBIdeal.nD Cert.InDhBIdeal.τ).loc Cert.InDhBIdeal.main_arg2))
      ∧ θ_run (Cert.InDhBReferenceIdeal.defs (F := Ideal)) (onTc (τ := Cert.InDhBReferenceIdeal.τ) (Cert.InDhBReferenceIdeal.main (F := Ideal))) ⟨m', fun _ => 0, g'⟩ (fun r => ∀ c : Dev Cert.InDhBReferenceIdeal.nD,
          r.2.mem ((c.tc : Thread Cert.InDhBReferenceIdeal.nD Cert.InDhBReferenceIdeal.τ).loc Cert.InDhBReferenceIdeal.main_v4) = v0 c
          ∧ r.2.mem ((c.tc : Thread Cert.InDhBReferenceIdeal.nD Cert.InDhBReferenceIdeal.τ).loc Cert.InDhBReferenceIdeal.main_arg0) = m' ((c.tc : Thread Cert.InDhBReferenceIdeal.nD Cert.InDhBReferenceIdeal.τ).loc Cert.InDhBReferenceIdeal.main_arg0)
          ∧ r.2.mem ((c.tc : Thread Cert.InDhBReferenceIdeal.nD Cert.InDhBReferenceIdeal.τ).loc Cert.InDhBReferenceIdeal.main_arg1) = m' ((c.tc : Thread Cert.InDhBReferenceIdeal.nD Cert.InDhBReferenceIdeal.τ).loc Cert.InDhBReferenceIdeal.main_arg1)
          ∧ r.2.mem ((c.tc : Thread Cert.InDhBReferenceIdeal.nD Cert.InDhBReferenceIdeal.τ).loc Cert.InDhBReferenceIdeal.main_arg2) = m' ((c.tc : Thread Cert.InDhBReferenceIdeal.nD Cert.InDhBReferenceIdeal.τ).loc Cert.InDhBReferenceIdeal.main_arg2))

def preserves_InDhC_InDhCIdeal : Prop :=
  True

def algebraic_InDhCIdeal_InDhCReferenceIdeal [hInDhCIdeal : Cert.InDhCIdeal.Facts] [hInDhCReferenceIdeal : Cert.InDhCReferenceIdeal.Facts] : Prop :=
  ∀ (m : (ℓ : Loc Cert.InDhCIdeal.nD Cert.InDhCIdeal.τ Cert.InDhCIdeal.sig) → Buf (Elt Ideal) ℓ) (g : Dev Cert.InDhCIdeal.nD → PrngReg)
    (m' : (ℓ : Loc Cert.InDhCReferenceIdeal.nD Cert.InDhCReferenceIdeal.τ Cert.InDhCReferenceIdeal.sig) → Buf (Elt Ideal) ℓ) (g' : Dev Cert.InDhCReferenceIdeal.nD → PrngReg), Pre_InDhCIdeal m →
    (∀ c : Dev Cert.InDhCIdeal.nD,
      m' ((c.tc : Thread Cert.InDhCReferenceIdeal.nD Cert.InDhCReferenceIdeal.τ).loc Cert.InDhCReferenceIdeal.main_arg0) = m ((c.tc : Thread Cert.InDhCIdeal.nD Cert.InDhCIdeal.τ).loc Cert.InDhCIdeal.main_arg0)
      ∧ m' ((c.tc : Thread Cert.InDhCReferenceIdeal.nD Cert.InDhCReferenceIdeal.τ).loc Cert.InDhCReferenceIdeal.main_arg1) = m ((c.tc : Thread Cert.InDhCIdeal.nD Cert.InDhCIdeal.τ).loc Cert.InDhCIdeal.main_arg1)
      ∧ m' ((c.tc : Thread Cert.InDhCReferenceIdeal.nD Cert.InDhCReferenceIdeal.τ).loc Cert.InDhCReferenceIdeal.main_arg2) = m ((c.tc : Thread Cert.InDhCIdeal.nD Cert.InDhCIdeal.τ).loc Cert.InDhCIdeal.main_arg2)
      ∧ m' ((c.tc : Thread Cert.InDhCReferenceIdeal.nD Cert.InDhCReferenceIdeal.τ).loc Cert.InDhCReferenceIdeal.main_arg3) = m ((c.tc : Thread Cert.InDhCIdeal.nD Cert.InDhCIdeal.τ).loc Cert.InDhCIdeal.main_arg3)) →
    ∃ (v0 : (c : Dev Cert.InDhCIdeal.nD) → Buf (Elt Ideal) ((c.tc : Thread Cert.InDhCIdeal.nD Cert.InDhCIdeal.τ).loc Cert.InDhCIdeal.main_v6)),
      θ_run (Cert.InDhCIdeal.defs (F := Ideal)) (onTc (τ := Cert.InDhCIdeal.τ) (Cert.InDhCIdeal.main (F := Ideal))) ⟨m, fun _ => 0, g⟩ (fun r => ∀ c : Dev Cert.InDhCIdeal.nD,
          r.2.mem ((c.tc : Thread Cert.InDhCIdeal.nD Cert.InDhCIdeal.τ).loc Cert.InDhCIdeal.main_v6) = v0 c
          ∧ r.2.mem ((c.tc : Thread Cert.InDhCIdeal.nD Cert.InDhCIdeal.τ).loc Cert.InDhCIdeal.main_arg0) = m ((c.tc : Thread Cert.InDhCIdeal.nD Cert.InDhCIdeal.τ).loc Cert.InDhCIdeal.main_arg0)
          ∧ r.2.mem ((c.tc : Thread Cert.InDhCIdeal.nD Cert.InDhCIdeal.τ).loc Cert.InDhCIdeal.main_arg1) = m ((c.tc : Thread Cert.InDhCIdeal.nD Cert.InDhCIdeal.τ).loc Cert.InDhCIdeal.main_arg1)
          ∧ r.2.mem ((c.tc : Thread Cert.InDhCIdeal.nD Cert.InDhCIdeal.τ).loc Cert.InDhCIdeal.main_arg2) = m ((c.tc : Thread Cert.InDhCIdeal.nD Cert.InDhCIdeal.τ).loc Cert.InDhCIdeal.main_arg2)
          ∧ r.2.mem ((c.tc : Thread Cert.InDhCIdeal.nD Cert.InDhCIdeal.τ).loc Cert.InDhCIdeal.main_arg3) = m ((c.tc : Thread Cert.InDhCIdeal.nD Cert.InDhCIdeal.τ).loc Cert.InDhCIdeal.main_arg3))
      ∧ θ_run (Cert.InDhCReferenceIdeal.defs (F := Ideal)) (onTc (τ := Cert.InDhCReferenceIdeal.τ) (Cert.InDhCReferenceIdeal.main (F := Ideal))) ⟨m', fun _ => 0, g'⟩ (fun r => ∀ c : Dev Cert.InDhCReferenceIdeal.nD,
          r.2.mem ((c.tc : Thread Cert.InDhCReferenceIdeal.nD Cert.InDhCReferenceIdeal.τ).loc Cert.InDhCReferenceIdeal.main_v5) = v0 c
          ∧ r.2.mem ((c.tc : Thread Cert.InDhCReferenceIdeal.nD Cert.InDhCReferenceIdeal.τ).loc Cert.InDhCReferenceIdeal.main_arg0) = m' ((c.tc : Thread Cert.InDhCReferenceIdeal.nD Cert.InDhCReferenceIdeal.τ).loc Cert.InDhCReferenceIdeal.main_arg0)
          ∧ r.2.mem ((c.tc : Thread Cert.InDhCReferenceIdeal.nD Cert.InDhCReferenceIdeal.τ).loc Cert.InDhCReferenceIdeal.main_arg1) = m' ((c.tc : Thread Cert.InDhCReferenceIdeal.nD Cert.InDhCReferenceIdeal.τ).loc Cert.InDhCReferenceIdeal.main_arg1)
          ∧ r.2.mem ((c.tc : Thread Cert.InDhCReferenceIdeal.nD Cert.InDhCReferenceIdeal.τ).loc Cert.InDhCReferenceIdeal.main_arg2) = m' ((c.tc : Thread Cert.InDhCReferenceIdeal.nD Cert.InDhCReferenceIdeal.τ).loc Cert.InDhCReferenceIdeal.main_arg2)
          ∧ r.2.mem ((c.tc : Thread Cert.InDhCReferenceIdeal.nD Cert.InDhCReferenceIdeal.τ).loc Cert.InDhCReferenceIdeal.main_arg3) = m' ((c.tc : Thread Cert.InDhCReferenceIdeal.nD Cert.InDhCReferenceIdeal.τ).loc Cert.InDhCReferenceIdeal.main_arg3))

def preserves_InDhA_InDhAIdeal : Prop :=
  True

def algebraic_InDhAIdeal_InDhAReferenceIdeal [hInDhAIdeal : Cert.InDhAIdeal.Facts] [hInDhAReferenceIdeal : Cert.InDhAReferenceIdeal.Facts] : Prop :=
  ∀ (m : (ℓ : Loc Cert.InDhAIdeal.nD Cert.InDhAIdeal.τ Cert.InDhAIdeal.sig) → Buf (Elt Ideal) ℓ) (g : Dev Cert.InDhAIdeal.nD → PrngReg)
    (m' : (ℓ : Loc Cert.InDhAReferenceIdeal.nD Cert.InDhAReferenceIdeal.τ Cert.InDhAReferenceIdeal.sig) → Buf (Elt Ideal) ℓ) (g' : Dev Cert.InDhAReferenceIdeal.nD → PrngReg), Pre_InDhAIdeal m →
    (∀ c : Dev Cert.InDhAIdeal.nD,
      m' ((c.tc : Thread Cert.InDhAReferenceIdeal.nD Cert.InDhAReferenceIdeal.τ).loc Cert.InDhAReferenceIdeal.main_arg0) = m ((c.tc : Thread Cert.InDhAIdeal.nD Cert.InDhAIdeal.τ).loc Cert.InDhAIdeal.main_arg0)
      ∧ m' ((c.tc : Thread Cert.InDhAReferenceIdeal.nD Cert.InDhAReferenceIdeal.τ).loc Cert.InDhAReferenceIdeal.main_arg1) = m ((c.tc : Thread Cert.InDhAIdeal.nD Cert.InDhAIdeal.τ).loc Cert.InDhAIdeal.main_arg1)
      ∧ m' ((c.tc : Thread Cert.InDhAReferenceIdeal.nD Cert.InDhAReferenceIdeal.τ).loc Cert.InDhAReferenceIdeal.main_arg2) = m ((c.tc : Thread Cert.InDhAIdeal.nD Cert.InDhAIdeal.τ).loc Cert.InDhAIdeal.main_arg2)
      ∧ m' ((c.tc : Thread Cert.InDhAReferenceIdeal.nD Cert.InDhAReferenceIdeal.τ).loc Cert.InDhAReferenceIdeal.main_arg3) = m ((c.tc : Thread Cert.InDhAIdeal.nD Cert.InDhAIdeal.τ).loc Cert.InDhAIdeal.main_arg3)) →
    ∃ (v0 : (c : Dev Cert.InDhAIdeal.nD) → Buf (Elt Ideal) ((c.tc : Thread Cert.InDhAIdeal.nD Cert.InDhAIdeal.τ).loc Cert.InDhAIdeal.main_v6)),
      θ_run (Cert.InDhAIdeal.defs (F := Ideal)) (onTc (τ := Cert.InDhAIdeal.τ) (Cert.InDhAIdeal.main (F := Ideal))) ⟨m, fun _ => 0, g⟩ (fun r => ∀ c : Dev Cert.InDhAIdeal.nD,
          r.2.mem ((c.tc : Thread Cert.InDhAIdeal.nD Cert.InDhAIdeal.τ).loc Cert.InDhAIdeal.main_v6) = v0 c
          ∧ r.2.mem ((c.tc : Thread Cert.InDhAIdeal.nD Cert.InDhAIdeal.τ).loc Cert.InDhAIdeal.main_arg0) = m ((c.tc : Thread Cert.InDhAIdeal.nD Cert.InDhAIdeal.τ).loc Cert.InDhAIdeal.main_arg0)
          ∧ r.2.mem ((c.tc : Thread Cert.InDhAIdeal.nD Cert.InDhAIdeal.τ).loc Cert.InDhAIdeal.main_arg1) = m ((c.tc : Thread Cert.InDhAIdeal.nD Cert.InDhAIdeal.τ).loc Cert.InDhAIdeal.main_arg1)
          ∧ r.2.mem ((c.tc : Thread Cert.InDhAIdeal.nD Cert.InDhAIdeal.τ).loc Cert.InDhAIdeal.main_arg2) = m ((c.tc : Thread Cert.InDhAIdeal.nD Cert.InDhAIdeal.τ).loc Cert.InDhAIdeal.main_arg2)
          ∧ r.2.mem ((c.tc : Thread Cert.InDhAIdeal.nD Cert.InDhAIdeal.τ).loc Cert.InDhAIdeal.main_arg3) = m ((c.tc : Thread Cert.InDhAIdeal.nD Cert.InDhAIdeal.τ).loc Cert.InDhAIdeal.main_arg3))
      ∧ θ_run (Cert.InDhAReferenceIdeal.defs (F := Ideal)) (onTc (τ := Cert.InDhAReferenceIdeal.τ) (Cert.InDhAReferenceIdeal.main (F := Ideal))) ⟨m', fun _ => 0, g'⟩ (fun r => ∀ c : Dev Cert.InDhAReferenceIdeal.nD,
          r.2.mem ((c.tc : Thread Cert.InDhAReferenceIdeal.nD Cert.InDhAReferenceIdeal.τ).loc Cert.InDhAReferenceIdeal.main_v5) = v0 c
          ∧ r.2.mem ((c.tc : Thread Cert.InDhAReferenceIdeal.nD Cert.InDhAReferenceIdeal.τ).loc Cert.InDhAReferenceIdeal.main_arg0) = m' ((c.tc : Thread Cert.InDhAReferenceIdeal.nD Cert.InDhAReferenceIdeal.τ).loc Cert.InDhAReferenceIdeal.main_arg0)
          ∧ r.2.mem ((c.tc : Thread Cert.InDhAReferenceIdeal.nD Cert.InDhAReferenceIdeal.τ).loc Cert.InDhAReferenceIdeal.main_arg1) = m' ((c.tc : Thread Cert.InDhAReferenceIdeal.nD Cert.InDhAReferenceIdeal.τ).loc Cert.InDhAReferenceIdeal.main_arg1)
          ∧ r.2.mem ((c.tc : Thread Cert.InDhAReferenceIdeal.nD Cert.InDhAReferenceIdeal.τ).loc Cert.InDhAReferenceIdeal.main_arg2) = m' ((c.tc : Thread Cert.InDhAReferenceIdeal.nD Cert.InDhAReferenceIdeal.τ).loc Cert.InDhAReferenceIdeal.main_arg2)
          ∧ r.2.mem ((c.tc : Thread Cert.InDhAReferenceIdeal.nD Cert.InDhAReferenceIdeal.τ).loc Cert.InDhAReferenceIdeal.main_arg3) = m' ((c.tc : Thread Cert.InDhAReferenceIdeal.nD Cert.InDhAReferenceIdeal.τ).loc Cert.InDhAReferenceIdeal.main_arg3))

def preserves_InDwB_InDwBIdeal : Prop :=
  True

def algebraic_InDwBIdeal_InDwBReferenceIdeal [hInDwBIdeal : Cert.InDwBIdeal.Facts] [hInDwBReferenceIdeal : Cert.InDwBReferenceIdeal.Facts] : Prop :=
  ∀ (m : (ℓ : Loc Cert.InDwBIdeal.nD Cert.InDwBIdeal.τ Cert.InDwBIdeal.sig) → Buf (Elt Ideal) ℓ) (g : Dev Cert.InDwBIdeal.nD → PrngReg)
    (m' : (ℓ : Loc Cert.InDwBReferenceIdeal.nD Cert.InDwBReferenceIdeal.τ Cert.InDwBReferenceIdeal.sig) → Buf (Elt Ideal) ℓ) (g' : Dev Cert.InDwBReferenceIdeal.nD → PrngReg), Pre_InDwBIdeal m →
    (∀ c : Dev Cert.InDwBIdeal.nD,
      m' ((c.tc : Thread Cert.InDwBReferenceIdeal.nD Cert.InDwBReferenceIdeal.τ).loc Cert.InDwBReferenceIdeal.main_arg0) = m ((c.tc : Thread Cert.InDwBIdeal.nD Cert.InDwBIdeal.τ).loc Cert.InDwBIdeal.main_arg0)
      ∧ m' ((c.tc : Thread Cert.InDwBReferenceIdeal.nD Cert.InDwBReferenceIdeal.τ).loc Cert.InDwBReferenceIdeal.main_arg1) = m ((c.tc : Thread Cert.InDwBIdeal.nD Cert.InDwBIdeal.τ).loc Cert.InDwBIdeal.main_arg1)
      ∧ m' ((c.tc : Thread Cert.InDwBReferenceIdeal.nD Cert.InDwBReferenceIdeal.τ).loc Cert.InDwBReferenceIdeal.main_arg2) = m ((c.tc : Thread Cert.InDwBIdeal.nD Cert.InDwBIdeal.τ).loc Cert.InDwBIdeal.main_arg2)) →
    ∃ (v0 : (c : Dev Cert.InDwBIdeal.nD) → Buf (Elt Ideal) ((c.tc : Thread Cert.InDwBIdeal.nD Cert.InDwBIdeal.τ).loc Cert.InDwBIdeal.main_v1)),
      θ_run (Cert.InDwBIdeal.defs (F := Ideal)) (onTc (τ := Cert.InDwBIdeal.τ) (Cert.InDwBIdeal.main (F := Ideal))) ⟨m, fun _ => 0, g⟩ (fun r => ∀ c : Dev Cert.InDwBIdeal.nD,
          r.2.mem ((c.tc : Thread Cert.InDwBIdeal.nD Cert.InDwBIdeal.τ).loc Cert.InDwBIdeal.main_v1) = v0 c
          ∧ r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
          ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
          ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ θ_run (Cert.InDwBReferenceIdeal.defs (F := Ideal)) (onTc (τ := Cert.InDwBReferenceIdeal.τ) (Cert.InDwBReferenceIdeal.main (F := Ideal))) ⟨m', fun _ => 0, g'⟩ (fun r => ∀ c : Dev Cert.InDwBReferenceIdeal.nD,
          r.2.mem ((c.tc : Thread Cert.InDwBReferenceIdeal.nD Cert.InDwBReferenceIdeal.τ).loc Cert.InDwBReferenceIdeal.main_v2) = v0 c
          ∧ r.2.mem ((c.tc : Thread Cert.InDwBReferenceIdeal.nD Cert.InDwBReferenceIdeal.τ).loc Cert.InDwBReferenceIdeal.main_arg0) = m' ((c.tc : Thread Cert.InDwBReferenceIdeal.nD Cert.InDwBReferenceIdeal.τ).loc Cert.InDwBReferenceIdeal.main_arg0)
          ∧ r.2.mem ((c.tc : Thread Cert.InDwBReferenceIdeal.nD Cert.InDwBReferenceIdeal.τ).loc Cert.InDwBReferenceIdeal.main_arg1) = m' ((c.tc : Thread Cert.InDwBReferenceIdeal.nD Cert.InDwBReferenceIdeal.τ).loc Cert.InDwBReferenceIdeal.main_arg1)
          ∧ r.2.mem ((c.tc : Thread Cert.InDwBReferenceIdeal.nD Cert.InDwBReferenceIdeal.τ).loc Cert.InDwBReferenceIdeal.main_arg2) = m' ((c.tc : Thread Cert.InDwBReferenceIdeal.nD Cert.InDwBReferenceIdeal.τ).loc Cert.InDwBReferenceIdeal.main_arg2))

def preserves_InDwC_InDwCIdeal : Prop :=
  True

def algebraic_InDwCIdeal_InDwCReferenceIdeal [hInDwCIdeal : Cert.InDwCIdeal.Facts] [hInDwCReferenceIdeal : Cert.InDwCReferenceIdeal.Facts] : Prop :=
  ∀ (m : (ℓ : Loc Cert.InDwCIdeal.nD Cert.InDwCIdeal.τ Cert.InDwCIdeal.sig) → Buf (Elt Ideal) ℓ) (g : Dev Cert.InDwCIdeal.nD → PrngReg)
    (m' : (ℓ : Loc Cert.InDwCReferenceIdeal.nD Cert.InDwCReferenceIdeal.τ Cert.InDwCReferenceIdeal.sig) → Buf (Elt Ideal) ℓ) (g' : Dev Cert.InDwCReferenceIdeal.nD → PrngReg), Pre_InDwCIdeal m →
    (∀ c : Dev Cert.InDwCIdeal.nD,
      m' ((c.tc : Thread Cert.InDwCReferenceIdeal.nD Cert.InDwCReferenceIdeal.τ).loc Cert.InDwCReferenceIdeal.main_arg0) = m ((c.tc : Thread Cert.InDwCIdeal.nD Cert.InDwCIdeal.τ).loc Cert.InDwCIdeal.main_arg0)
      ∧ m' ((c.tc : Thread Cert.InDwCReferenceIdeal.nD Cert.InDwCReferenceIdeal.τ).loc Cert.InDwCReferenceIdeal.main_arg1) = m ((c.tc : Thread Cert.InDwCIdeal.nD Cert.InDwCIdeal.τ).loc Cert.InDwCIdeal.main_arg1)
      ∧ m' ((c.tc : Thread Cert.InDwCReferenceIdeal.nD Cert.InDwCReferenceIdeal.τ).loc Cert.InDwCReferenceIdeal.main_arg2) = m ((c.tc : Thread Cert.InDwCIdeal.nD Cert.InDwCIdeal.τ).loc Cert.InDwCIdeal.main_arg2)) →
    ∃ (v0 : (c : Dev Cert.InDwCIdeal.nD) → Buf (Elt Ideal) ((c.tc : Thread Cert.InDwCIdeal.nD Cert.InDwCIdeal.τ).loc Cert.InDwCIdeal.main_v1)),
      θ_run (Cert.InDwCIdeal.defs (F := Ideal)) (onTc (τ := Cert.InDwCIdeal.τ) (Cert.InDwCIdeal.main (F := Ideal))) ⟨m, fun _ => 0, g⟩ (fun r => ∀ c : Dev Cert.InDwCIdeal.nD,
          r.2.mem ((c.tc : Thread Cert.InDwCIdeal.nD Cert.InDwCIdeal.τ).loc Cert.InDwCIdeal.main_v1) = v0 c
          ∧ r.2.mem ((c.tc : Thread Cert.InDwCIdeal.nD Cert.InDwCIdeal.τ).loc Cert.InDwCIdeal.main_arg0) = m ((c.tc : Thread Cert.InDwCIdeal.nD Cert.InDwCIdeal.τ).loc Cert.InDwCIdeal.main_arg0)
          ∧ r.2.mem ((c.tc : Thread Cert.InDwCIdeal.nD Cert.InDwCIdeal.τ).loc Cert.InDwCIdeal.main_arg1) = m ((c.tc : Thread Cert.InDwCIdeal.nD Cert.InDwCIdeal.τ).loc Cert.InDwCIdeal.main_arg1)
          ∧ r.2.mem ((c.tc : Thread Cert.InDwCIdeal.nD Cert.InDwCIdeal.τ).loc Cert.InDwCIdeal.main_arg2) = m ((c.tc : Thread Cert.InDwCIdeal.nD Cert.InDwCIdeal.τ).loc Cert.InDwCIdeal.main_arg2))
      ∧ θ_run (Cert.InDwCReferenceIdeal.defs (F := Ideal)) (onTc (τ := Cert.InDwCReferenceIdeal.τ) (Cert.InDwCReferenceIdeal.main (F := Ideal))) ⟨m', fun _ => 0, g'⟩ (fun r => ∀ c : Dev Cert.InDwCReferenceIdeal.nD,
          r.2.mem ((c.tc : Thread Cert.InDwCReferenceIdeal.nD Cert.InDwCReferenceIdeal.τ).loc Cert.InDwCReferenceIdeal.main_v2) = v0 c
          ∧ r.2.mem ((c.tc : Thread Cert.InDwCReferenceIdeal.nD Cert.InDwCReferenceIdeal.τ).loc Cert.InDwCReferenceIdeal.main_arg0) = m' ((c.tc : Thread Cert.InDwCReferenceIdeal.nD Cert.InDwCReferenceIdeal.τ).loc Cert.InDwCReferenceIdeal.main_arg0)
          ∧ r.2.mem ((c.tc : Thread Cert.InDwCReferenceIdeal.nD Cert.InDwCReferenceIdeal.τ).loc Cert.InDwCReferenceIdeal.main_arg1) = m' ((c.tc : Thread Cert.InDwCReferenceIdeal.nD Cert.InDwCReferenceIdeal.τ).loc Cert.InDwCReferenceIdeal.main_arg1)
          ∧ r.2.mem ((c.tc : Thread Cert.InDwCReferenceIdeal.nD Cert.InDwCReferenceIdeal.τ).loc Cert.InDwCReferenceIdeal.main_arg2) = m' ((c.tc : Thread Cert.InDwCReferenceIdeal.nD Cert.InDwCReferenceIdeal.τ).loc Cert.InDwCReferenceIdeal.main_arg2))

def preserves_InDwA_InDwAIdeal : Prop :=
  True

def algebraic_InDwAIdeal_InDwAReferenceIdeal [hInDwAIdeal : Cert.InDwAIdeal.Facts] [hInDwAReferenceIdeal : Cert.InDwAReferenceIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwAReferenceIdeal.nD Cert.InDwAReferenceIdeal.τ Cert.InDwAReferenceIdeal.sig) → Buf (Elt Ideal) ℓ) (g' : Dev Cert.InDwAReferenceIdeal.nD → PrngReg), Pre_InDwAIdeal m →
    (∀ c : Dev Cert.InDwAIdeal.nD,
      m' ((c.tc : Thread Cert.InDwAReferenceIdeal.nD Cert.InDwAReferenceIdeal.τ).loc Cert.InDwAReferenceIdeal.main_arg0) = m ((c.tc : Thread Cert.InDwAIdeal.nD Cert.InDwAIdeal.τ).loc Cert.InDwAIdeal.main_arg0)
      ∧ m' ((c.tc : Thread Cert.InDwAReferenceIdeal.nD Cert.InDwAReferenceIdeal.τ).loc Cert.InDwAReferenceIdeal.main_arg1) = m ((c.tc : Thread Cert.InDwAIdeal.nD Cert.InDwAIdeal.τ).loc Cert.InDwAIdeal.main_arg1)
      ∧ m' ((c.tc : Thread Cert.InDwAReferenceIdeal.nD Cert.InDwAReferenceIdeal.τ).loc Cert.InDwAReferenceIdeal.main_arg2) = m ((c.tc : Thread Cert.InDwAIdeal.nD Cert.InDwAIdeal.τ).loc Cert.InDwAIdeal.main_arg2)) →
    ∃ (v0 : (c : Dev Cert.InDwAIdeal.nD) → Buf (Elt Ideal) ((c.tc : Thread Cert.InDwAIdeal.nD Cert.InDwAIdeal.τ).loc Cert.InDwAIdeal.main_v1)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v1) = v0 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
          ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ θ_run (Cert.InDwAReferenceIdeal.defs (F := Ideal)) (onTc (τ := Cert.InDwAReferenceIdeal.τ) (Cert.InDwAReferenceIdeal.main (F := Ideal))) ⟨m', fun _ => 0, g'⟩ (fun r => ∀ c : Dev Cert.InDwAReferenceIdeal.nD,
          r.2.mem ((c.tc : Thread Cert.InDwAReferenceIdeal.nD Cert.InDwAReferenceIdeal.τ).loc Cert.InDwAReferenceIdeal.main_v2) = v0 c
          ∧ r.2.mem ((c.tc : Thread Cert.InDwAReferenceIdeal.nD Cert.InDwAReferenceIdeal.τ).loc Cert.InDwAReferenceIdeal.main_arg0) = m' ((c.tc : Thread Cert.InDwAReferenceIdeal.nD Cert.InDwAReferenceIdeal.τ).loc Cert.InDwAReferenceIdeal.main_arg0)
          ∧ r.2.mem ((c.tc : Thread Cert.InDwAReferenceIdeal.nD Cert.InDwAReferenceIdeal.τ).loc Cert.InDwAReferenceIdeal.main_arg1) = m' ((c.tc : Thread Cert.InDwAReferenceIdeal.nD Cert.InDwAReferenceIdeal.τ).loc Cert.InDwAReferenceIdeal.main_arg1)
          ∧ r.2.mem ((c.tc : Thread Cert.InDwAReferenceIdeal.nD Cert.InDwAReferenceIdeal.τ).loc Cert.InDwAReferenceIdeal.main_arg2) = m' ((c.tc : Thread Cert.InDwAReferenceIdeal.nD Cert.InDwAReferenceIdeal.τ).loc Cert.InDwAReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v2) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_Uq_UqIdeal : Prop :=
  True

def algebraic_UqIdeal_UqReferenceIdeal [hUqIdeal : Cert.UqIdeal.Facts] [hUqReferenceIdeal : Cert.UqReferenceIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqIdeal m →
    (∀ c : Dev Cert.UqIdeal.nD,
      m' ((c.tc : Thread Cert.UqReferenceIdeal.nD Cert.UqReferenceIdeal.τ).loc Cert.UqReferenceIdeal.main_arg0) = m ((c.tc : Thread Cert.UqIdeal.nD Cert.UqIdeal.τ).loc Cert.UqIdeal.main_arg0)
      ∧ m' ((c.tc : Thread Cert.UqReferenceIdeal.nD Cert.UqReferenceIdeal.τ).loc Cert.UqReferenceIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v2)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v2) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v0) = v0 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1))

def preserves_UqDx_UqDxIdeal : Prop :=
  True

def algebraic_UqDxIdeal_UqDxReferenceIdeal [hUqDxIdeal : Cert.UqDxIdeal.Facts] [hUqDxReferenceIdeal : Cert.UqDxReferenceIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxReferenceIdeal.nD Cert.UqDxReferenceIdeal.τ Cert.UqDxReferenceIdeal.sig) → Buf (Elt Ideal) ℓ) (g' : Dev Cert.UqDxReferenceIdeal.nD → PrngReg), Pre_UqDxIdeal m →
    (∀ c : Dev Cert.UqDxIdeal.nD,
      m' ((c.tc : Thread Cert.UqDxReferenceIdeal.nD Cert.UqDxReferenceIdeal.τ).loc Cert.UqDxReferenceIdeal.main_arg0) = m ((c.tc : Thread Cert.UqDxIdeal.nD Cert.UqDxIdeal.τ).loc Cert.UqDxIdeal.main_arg0)
      ∧ m' ((c.tc : Thread Cert.UqDxReferenceIdeal.nD Cert.UqDxReferenceIdeal.τ).loc Cert.UqDxReferenceIdeal.main_arg1) = m ((c.tc : Thread Cert.UqDxIdeal.nD Cert.UqDxIdeal.τ).loc Cert.UqDxIdeal.main_arg1)
      ∧ m' ((c.tc : Thread Cert.UqDxReferenceIdeal.nD Cert.UqDxReferenceIdeal.τ).loc Cert.UqDxReferenceIdeal.main_arg2) = m ((c.tc : Thread Cert.UqDxIdeal.nD Cert.UqDxIdeal.τ).loc Cert.UqDxIdeal.main_arg2)) →
    ∃ (v0 : (c : Dev Cert.UqDxIdeal.nD) → Buf (Elt Ideal) ((c.tc : Thread Cert.UqDxIdeal.nD Cert.UqDxIdeal.τ).loc Cert.UqDxIdeal.main_v1)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v1) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
          ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ θ_run (Cert.UqDxReferenceIdeal.defs (F := Ideal)) (onTc (τ := Cert.UqDxReferenceIdeal.τ) (Cert.UqDxReferenceIdeal.main (F := Ideal))) ⟨m', fun _ => 0, g'⟩ (fun r => ∀ c : Dev Cert.UqDxReferenceIdeal.nD,
          r.2.mem ((c.tc : Thread Cert.UqDxReferenceIdeal.nD Cert.UqDxReferenceIdeal.τ).loc Cert.UqDxReferenceIdeal.main_v3) = v0 c
          ∧ r.2.mem ((c.tc : Thread Cert.UqDxReferenceIdeal.nD Cert.UqDxReferenceIdeal.τ).loc Cert.UqDxReferenceIdeal.main_arg0) = m' ((c.tc : Thread Cert.UqDxReferenceIdeal.nD Cert.UqDxReferenceIdeal.τ).loc Cert.UqDxReferenceIdeal.main_arg0)
          ∧ r.2.mem ((c.tc : Thread Cert.UqDxReferenceIdeal.nD Cert.UqDxReferenceIdeal.τ).loc Cert.UqDxReferenceIdeal.main_arg1) = m' ((c.tc : Thread Cert.UqDxReferenceIdeal.nD Cert.UqDxReferenceIdeal.τ).loc Cert.UqDxReferenceIdeal.main_arg1)
          ∧ r.2.mem ((c.tc : Thread Cert.UqDxReferenceIdeal.nD Cert.UqDxReferenceIdeal.τ).loc Cert.UqDxReferenceIdeal.main_arg2) = m' ((c.tc : Thread Cert.UqDxReferenceIdeal.nD Cert.UqDxReferenceIdeal.τ).loc Cert.UqDxReferenceIdeal.main_arg2))

def preserves_UqDw_UqDwIdeal : Prop :=
  True

def algebraic_UqDwIdeal_UqDwReferenceIdeal [hUqDwIdeal : Cert.UqDwIdeal.Facts] [hUqDwReferenceIdeal : Cert.UqDwReferenceIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwReferenceIdeal.nD Cert.UqDwReferenceIdeal.τ Cert.UqDwReferenceIdeal.sig) → Buf (Elt Ideal) ℓ) (g' : Dev Cert.UqDwReferenceIdeal.nD → PrngReg), Pre_UqDwIdeal m →
    (∀ c : Dev Cert.UqDwIdeal.nD,
      m' ((c.tc : Thread Cert.UqDwReferenceIdeal.nD Cert.UqDwReferenceIdeal.τ).loc Cert.UqDwReferenceIdeal.main_arg0) = m ((c.tc : Thread Cert.UqDwIdeal.nD Cert.UqDwIdeal.τ).loc Cert.UqDwIdeal.main_arg0)
      ∧ m' ((c.tc : Thread Cert.UqDwReferenceIdeal.nD Cert.UqDwReferenceIdeal.τ).loc Cert.UqDwReferenceIdeal.main_arg1) = m ((c.tc : Thread Cert.UqDwIdeal.nD Cert.UqDwIdeal.τ).loc Cert.UqDwIdeal.main_arg1)
      ∧ m' ((c.tc : Thread Cert.UqDwReferenceIdeal.nD Cert.UqDwReferenceIdeal.τ).loc Cert.UqDwReferenceIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v1)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v1) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwReferenceIdeal.defs (F := Ideal)) (onTc (τ := Cert.UqDwReferenceIdeal.τ) (Cert.UqDwReferenceIdeal.main (F := Ideal))) ⟨m', fun _ => 0, g'⟩ (fun r => ∀ c : Dev Cert.UqDwReferenceIdeal.nD,
          r.2.mem ((c.tc : Thread Cert.UqDwReferenceIdeal.nD Cert.UqDwReferenceIdeal.τ).loc Cert.UqDwReferenceIdeal.main_v2) = v0 c
          ∧ r.2.mem ((c.tc : Thread Cert.UqDwReferenceIdeal.nD Cert.UqDwReferenceIdeal.τ).loc Cert.UqDwReferenceIdeal.main_arg0) = m' ((c.tc : Thread Cert.UqDwReferenceIdeal.nD Cert.UqDwReferenceIdeal.τ).loc Cert.UqDwReferenceIdeal.main_arg0)
          ∧ r.2.mem ((c.tc : Thread Cert.UqDwReferenceIdeal.nD Cert.UqDwReferenceIdeal.τ).loc Cert.UqDwReferenceIdeal.main_arg1) = m' ((c.tc : Thread Cert.UqDwReferenceIdeal.nD Cert.UqDwReferenceIdeal.τ).loc Cert.UqDwReferenceIdeal.main_arg1)
          ∧ r.2.mem ((c.tc : Thread Cert.UqDwReferenceIdeal.nD Cert.UqDwReferenceIdeal.τ).loc Cert.UqDwReferenceIdeal.main_arg2) = m' ((c.tc : Thread Cert.UqDwReferenceIdeal.nD Cert.UqDwReferenceIdeal.τ).loc Cert.UqDwReferenceIdeal.main_arg2))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v2)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v2) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v0) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_UkvDx_UkvDxIdeal : Prop :=
  True

def algebraic_UkvDxIdeal_UkvDxReferenceIdeal [hUkvDxIdeal : Cert.UkvDxIdeal.Facts] [hUkvDxReferenceIdeal : Cert.UkvDxReferenceIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxReferenceIdeal.nD Cert.UkvDxReferenceIdeal.τ Cert.UkvDxReferenceIdeal.sig) → Buf (Elt Ideal) ℓ) (g' : Dev Cert.UkvDxReferenceIdeal.nD → PrngReg), Pre_UkvDxIdeal m →
    (∀ c : Dev Cert.UkvDxIdeal.nD,
      m' ((c.tc : Thread Cert.UkvDxReferenceIdeal.nD Cert.UkvDxReferenceIdeal.τ).loc Cert.UkvDxReferenceIdeal.main_arg0) = m ((c.tc : Thread Cert.UkvDxIdeal.nD Cert.UkvDxIdeal.τ).loc Cert.UkvDxIdeal.main_arg0)
      ∧ m' ((c.tc : Thread Cert.UkvDxReferenceIdeal.nD Cert.UkvDxReferenceIdeal.τ).loc Cert.UkvDxReferenceIdeal.main_arg1) = m ((c.tc : Thread Cert.UkvDxIdeal.nD Cert.UkvDxIdeal.τ).loc Cert.UkvDxIdeal.main_arg1)
      ∧ m' ((c.tc : Thread Cert.UkvDxReferenceIdeal.nD Cert.UkvDxReferenceIdeal.τ).loc Cert.UkvDxReferenceIdeal.main_arg2) = m ((c.tc : Thread Cert.UkvDxIdeal.nD Cert.UkvDxIdeal.τ).loc Cert.UkvDxIdeal.main_arg2)) →
    ∃ (v0 : (c : Dev Cert.UkvDxIdeal.nD) → Buf (Elt Ideal) ((c.tc : Thread Cert.UkvDxIdeal.nD Cert.UkvDxIdeal.τ).loc Cert.UkvDxIdeal.main_v1)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v1) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
          ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ θ_run (Cert.UkvDxReferenceIdeal.defs (F := Ideal)) (onTc (τ := Cert.UkvDxReferenceIdeal.τ) (Cert.UkvDxReferenceIdeal.main (F := Ideal))) ⟨m', fun _ => 0, g'⟩ (fun r => ∀ c : Dev Cert.UkvDxReferenceIdeal.nD,
          r.2.mem ((c.tc : Thread Cert.UkvDxReferenceIdeal.nD Cert.UkvDxReferenceIdeal.τ).loc Cert.UkvDxReferenceIdeal.main_v3) = v0 c
          ∧ r.2.mem ((c.tc : Thread Cert.UkvDxReferenceIdeal.nD Cert.UkvDxReferenceIdeal.τ).loc Cert.UkvDxReferenceIdeal.main_arg0) = m' ((c.tc : Thread Cert.UkvDxReferenceIdeal.nD Cert.UkvDxReferenceIdeal.τ).loc Cert.UkvDxReferenceIdeal.main_arg0)
          ∧ r.2.mem ((c.tc : Thread Cert.UkvDxReferenceIdeal.nD Cert.UkvDxReferenceIdeal.τ).loc Cert.UkvDxReferenceIdeal.main_arg1) = m' ((c.tc : Thread Cert.UkvDxReferenceIdeal.nD Cert.UkvDxReferenceIdeal.τ).loc Cert.UkvDxReferenceIdeal.main_arg1)
          ∧ r.2.mem ((c.tc : Thread Cert.UkvDxReferenceIdeal.nD Cert.UkvDxReferenceIdeal.τ).loc Cert.UkvDxReferenceIdeal.main_arg2) = m' ((c.tc : Thread Cert.UkvDxReferenceIdeal.nD Cert.UkvDxReferenceIdeal.τ).loc Cert.UkvDxReferenceIdeal.main_arg2))

def preserves_UkvDw_UkvDwIdeal : Prop :=
  True

def algebraic_UkvDwIdeal_UkvDwReferenceIdeal [hUkvDwIdeal : Cert.UkvDwIdeal.Facts] [hUkvDwReferenceIdeal : Cert.UkvDwReferenceIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwReferenceIdeal.nD Cert.UkvDwReferenceIdeal.τ Cert.UkvDwReferenceIdeal.sig) → Buf (Elt Ideal) ℓ) (g' : Dev Cert.UkvDwReferenceIdeal.nD → PrngReg), Pre_UkvDwIdeal m →
    (∀ c : Dev Cert.UkvDwIdeal.nD,
      m' ((c.tc : Thread Cert.UkvDwReferenceIdeal.nD Cert.UkvDwReferenceIdeal.τ).loc Cert.UkvDwReferenceIdeal.main_arg0) = m ((c.tc : Thread Cert.UkvDwIdeal.nD Cert.UkvDwIdeal.τ).loc Cert.UkvDwIdeal.main_arg0)
      ∧ m' ((c.tc : Thread Cert.UkvDwReferenceIdeal.nD Cert.UkvDwReferenceIdeal.τ).loc Cert.UkvDwReferenceIdeal.main_arg1) = m ((c.tc : Thread Cert.UkvDwIdeal.nD Cert.UkvDwIdeal.τ).loc Cert.UkvDwIdeal.main_arg1)
      ∧ m' ((c.tc : Thread Cert.UkvDwReferenceIdeal.nD Cert.UkvDwReferenceIdeal.τ).loc Cert.UkvDwReferenceIdeal.main_arg2) = m ((c.tc : Thread Cert.UkvDwIdeal.nD Cert.UkvDwIdeal.τ).loc Cert.UkvDwIdeal.main_arg2)) →
    ∃ (v0 : (c : Dev Cert.UkvDwIdeal.nD) → Buf (Elt Ideal) ((c.tc : Thread Cert.UkvDwIdeal.nD Cert.UkvDwIdeal.τ).loc Cert.UkvDwIdeal.main_v1)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v1) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
          ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ θ_run (Cert.UkvDwReferenceIdeal.defs (F := Ideal)) (onTc (τ := Cert.UkvDwReferenceIdeal.τ) (Cert.UkvDwReferenceIdeal.main (F := Ideal))) ⟨m', fun _ => 0, g'⟩ (fun r => ∀ c : Dev Cert.UkvDwReferenceIdeal.nD,
          r.2.mem ((c.tc : Thread Cert.UkvDwReferenceIdeal.nD Cert.UkvDwReferenceIdeal.τ).loc Cert.UkvDwReferenceIdeal.main_v2) = v0 c
          ∧ r.2.mem ((c.tc : Thread Cert.UkvDwReferenceIdeal.nD Cert.UkvDwReferenceIdeal.τ).loc Cert.UkvDwReferenceIdeal.main_arg0) = m' ((c.tc : Thread Cert.UkvDwReferenceIdeal.nD Cert.UkvDwReferenceIdeal.τ).loc Cert.UkvDwReferenceIdeal.main_arg0)
          ∧ r.2.mem ((c.tc : Thread Cert.UkvDwReferenceIdeal.nD Cert.UkvDwReferenceIdeal.τ).loc Cert.UkvDwReferenceIdeal.main_arg1) = m' ((c.tc : Thread Cert.UkvDwReferenceIdeal.nD Cert.UkvDwReferenceIdeal.τ).loc Cert.UkvDwReferenceIdeal.main_arg1)
          ∧ r.2.mem ((c.tc : Thread Cert.UkvDwReferenceIdeal.nD Cert.UkvDwReferenceIdeal.τ).loc Cert.UkvDwReferenceIdeal.main_arg2) = m' ((c.tc : Thread Cert.UkvDwReferenceIdeal.nD Cert.UkvDwReferenceIdeal.τ).loc Cert.UkvDwReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_NormAB_NormABIdeal : Prop :=
  True

def algebraic_NormABIdeal_NormABReferenceIdeal [hNormABIdeal : Cert.NormABIdeal.Facts] [hNormABReferenceIdeal : Cert.NormABReferenceIdeal.Facts] : Prop :=
  ∀ (m : (ℓ : Loc Cert.NormABIdeal.nD Cert.NormABIdeal.τ Cert.NormABIdeal.sig) → Buf (Elt Ideal) ℓ) (g : Dev Cert.NormABIdeal.nD → PrngReg)
    (m' : (ℓ : Loc Cert.NormABReferenceIdeal.nD Cert.NormABReferenceIdeal.τ Cert.NormABReferenceIdeal.sig) → Buf (Elt Ideal) ℓ) (g' : Dev Cert.NormABReferenceIdeal.nD → PrngReg), Pre_NormABIdeal m →
    (∀ c : Dev Cert.NormABIdeal.nD,
      m' ((c.tc : Thread Cert.NormABReferenceIdeal.nD Cert.NormABReferenceIdeal.τ).loc Cert.NormABReferenceIdeal.main_arg0) = m ((c.tc : Thread Cert.NormABIdeal.nD Cert.NormABIdeal.τ).loc Cert.NormABIdeal.main_arg0)
      ∧ m' ((c.tc : Thread Cert.NormABReferenceIdeal.nD Cert.NormABReferenceIdeal.τ).loc Cert.NormABReferenceIdeal.main_arg1) = m ((c.tc : Thread Cert.NormABIdeal.nD Cert.NormABIdeal.τ).loc Cert.NormABIdeal.main_arg1)) →
    ∃ (v0 : (c : Dev Cert.NormABIdeal.nD) → Buf (Elt Ideal) ((c.tc : Thread Cert.NormABIdeal.nD Cert.NormABIdeal.τ).loc Cert.NormABIdeal.main_v1)),
      θ_run (Cert.NormABIdeal.defs (F := Ideal)) (onTc (τ := Cert.NormABIdeal.τ) (Cert.NormABIdeal.main (F := Ideal))) ⟨m, fun _ => 0, g⟩ (fun r => ∀ c : Dev Cert.NormABIdeal.nD,
          r.2.mem ((c.tc : Thread Cert.NormABIdeal.nD Cert.NormABIdeal.τ).loc Cert.NormABIdeal.main_v1) = v0 c
          ∧ r.2.mem ((c.tc : Thread Cert.NormABIdeal.nD Cert.NormABIdeal.τ).loc Cert.NormABIdeal.main_arg0) = m ((c.tc : Thread Cert.NormABIdeal.nD Cert.NormABIdeal.τ).loc Cert.NormABIdeal.main_arg0)
          ∧ r.2.mem ((c.tc : Thread Cert.NormABIdeal.nD Cert.NormABIdeal.τ).loc Cert.NormABIdeal.main_arg1) = m ((c.tc : Thread Cert.NormABIdeal.nD Cert.NormABIdeal.τ).loc Cert.NormABIdeal.main_arg1))
      ∧ θ_run (Cert.NormABReferenceIdeal.defs (F := Ideal)) (onTc (τ := Cert.NormABReferenceIdeal.τ) (Cert.NormABReferenceIdeal.main (F := Ideal))) ⟨m', fun _ => 0, g'⟩ (fun r => ∀ c : Dev Cert.NormABReferenceIdeal.nD,
          r.2.mem ((c.tc : Thread Cert.NormABReferenceIdeal.nD Cert.NormABReferenceIdeal.τ).loc Cert.NormABReferenceIdeal.main_v13) = v0 c
          ∧ r.2.mem ((c.tc : Thread Cert.NormABReferenceIdeal.nD Cert.NormABReferenceIdeal.τ).loc Cert.NormABReferenceIdeal.main_arg0) = m' ((c.tc : Thread Cert.NormABReferenceIdeal.nD Cert.NormABReferenceIdeal.τ).loc Cert.NormABReferenceIdeal.main_arg0)
          ∧ r.2.mem ((c.tc : Thread Cert.NormABReferenceIdeal.nD Cert.NormABReferenceIdeal.τ).loc Cert.NormABReferenceIdeal.main_arg1) = m' ((c.tc : Thread Cert.NormABReferenceIdeal.nD Cert.NormABReferenceIdeal.τ).loc Cert.NormABReferenceIdeal.main_arg1))

def preserves_NormC_NormCIdeal : Prop :=
  True

def algebraic_NormCIdeal_NormCReferenceIdeal [hNormCIdeal : Cert.NormCIdeal.Facts] [hNormCReferenceIdeal : Cert.NormCReferenceIdeal.Facts] : Prop :=
  ∀ (m : (ℓ : Loc Cert.NormCIdeal.nD Cert.NormCIdeal.τ Cert.NormCIdeal.sig) → Buf (Elt Ideal) ℓ) (g : Dev Cert.NormCIdeal.nD → PrngReg)
    (m' : (ℓ : Loc Cert.NormCReferenceIdeal.nD Cert.NormCReferenceIdeal.τ Cert.NormCReferenceIdeal.sig) → Buf (Elt Ideal) ℓ) (g' : Dev Cert.NormCReferenceIdeal.nD → PrngReg), Pre_NormCIdeal m →
    (∀ c : Dev Cert.NormCIdeal.nD,
      m' ((c.tc : Thread Cert.NormCReferenceIdeal.nD Cert.NormCReferenceIdeal.τ).loc Cert.NormCReferenceIdeal.main_arg0) = m ((c.tc : Thread Cert.NormCIdeal.nD Cert.NormCIdeal.τ).loc Cert.NormCIdeal.main_arg0)
      ∧ m' ((c.tc : Thread Cert.NormCReferenceIdeal.nD Cert.NormCReferenceIdeal.τ).loc Cert.NormCReferenceIdeal.main_arg1) = m ((c.tc : Thread Cert.NormCIdeal.nD Cert.NormCIdeal.τ).loc Cert.NormCIdeal.main_arg1)) →
    ∃ (v0 : (c : Dev Cert.NormCIdeal.nD) → Buf (Elt Ideal) ((c.tc : Thread Cert.NormCIdeal.nD Cert.NormCIdeal.τ).loc Cert.NormCIdeal.main_v1)),
      θ_run (Cert.NormCIdeal.defs (F := Ideal)) (onTc (τ := Cert.NormCIdeal.τ) (Cert.NormCIdeal.main (F := Ideal))) ⟨m, fun _ => 0, g⟩ (fun r => ∀ c : Dev Cert.NormCIdeal.nD,
          r.2.mem ((c.tc : Thread Cert.NormCIdeal.nD Cert.NormCIdeal.τ).loc Cert.NormCIdeal.main_v1) = v0 c
          ∧ r.2.mem ((c.tc : Thread Cert.NormCIdeal.nD Cert.NormCIdeal.τ).loc Cert.NormCIdeal.main_arg0) = m ((c.tc : Thread Cert.NormCIdeal.nD Cert.NormCIdeal.τ).loc Cert.NormCIdeal.main_arg0)
          ∧ r.2.mem ((c.tc : Thread Cert.NormCIdeal.nD Cert.NormCIdeal.τ).loc Cert.NormCIdeal.main_arg1) = m ((c.tc : Thread Cert.NormCIdeal.nD Cert.NormCIdeal.τ).loc Cert.NormCIdeal.main_arg1))
      ∧ θ_run (Cert.NormCReferenceIdeal.defs (F := Ideal)) (onTc (τ := Cert.NormCReferenceIdeal.τ) (Cert.NormCReferenceIdeal.main (F := Ideal))) ⟨m', fun _ => 0, g'⟩ (fun r => ∀ c : Dev Cert.NormCReferenceIdeal.nD,
          r.2.mem ((c.tc : Thread Cert.NormCReferenceIdeal.nD Cert.NormCReferenceIdeal.τ).loc Cert.NormCReferenceIdeal.main_v13) = v0 c
          ∧ r.2.mem ((c.tc : Thread Cert.NormCReferenceIdeal.nD Cert.NormCReferenceIdeal.τ).loc Cert.NormCReferenceIdeal.main_arg0) = m' ((c.tc : Thread Cert.NormCReferenceIdeal.nD Cert.NormCReferenceIdeal.τ).loc Cert.NormCReferenceIdeal.main_arg0)
          ∧ r.2.mem ((c.tc : Thread Cert.NormCReferenceIdeal.nD Cert.NormCReferenceIdeal.τ).loc Cert.NormCReferenceIdeal.main_arg1) = m' ((c.tc : Thread Cert.NormCReferenceIdeal.nD Cert.NormCReferenceIdeal.τ).loc Cert.NormCReferenceIdeal.main_arg1))

def preserves_NormKv_NormKvIdeal : Prop :=
  True

def algebraic_NormKvIdeal_NormKvReferenceIdeal [hNormKvIdeal : Cert.NormKvIdeal.Facts] [hNormKvReferenceIdeal : Cert.NormKvReferenceIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvReferenceIdeal.nD Cert.NormKvReferenceIdeal.τ Cert.NormKvReferenceIdeal.sig) → Buf (Elt Ideal) ℓ) (g' : Dev Cert.NormKvReferenceIdeal.nD → PrngReg), Pre_NormKvIdeal m →
    (∀ c : Dev Cert.NormKvIdeal.nD,
      m' ((c.tc : Thread Cert.NormKvReferenceIdeal.nD Cert.NormKvReferenceIdeal.τ).loc Cert.NormKvReferenceIdeal.main_arg0) = m ((c.tc : Thread Cert.NormKvIdeal.nD Cert.NormKvIdeal.τ).loc Cert.NormKvIdeal.main_arg0)
      ∧ m' ((c.tc : Thread Cert.NormKvReferenceIdeal.nD Cert.NormKvReferenceIdeal.τ).loc Cert.NormKvReferenceIdeal.main_arg1) = m ((c.tc : Thread Cert.NormKvIdeal.nD Cert.NormKvIdeal.τ).loc Cert.NormKvIdeal.main_arg1)) →
    ∃ (v0 : (c : Dev Cert.NormKvIdeal.nD) → Buf (Elt Ideal) ((c.tc : Thread Cert.NormKvIdeal.nD Cert.NormKvIdeal.τ).loc Cert.NormKvIdeal.main_v1)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v1) = v0 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ θ_run (Cert.NormKvReferenceIdeal.defs (F := Ideal)) (onTc (τ := Cert.NormKvReferenceIdeal.τ) (Cert.NormKvReferenceIdeal.main (F := Ideal))) ⟨m', fun _ => 0, g'⟩ (fun r => ∀ c : Dev Cert.NormKvReferenceIdeal.nD,
          r.2.mem ((c.tc : Thread Cert.NormKvReferenceIdeal.nD Cert.NormKvReferenceIdeal.τ).loc Cert.NormKvReferenceIdeal.main_v13) = v0 c
          ∧ r.2.mem ((c.tc : Thread Cert.NormKvReferenceIdeal.nD Cert.NormKvReferenceIdeal.τ).loc Cert.NormKvReferenceIdeal.main_arg0) = m' ((c.tc : Thread Cert.NormKvReferenceIdeal.nD Cert.NormKvReferenceIdeal.τ).loc Cert.NormKvReferenceIdeal.main_arg0)
          ∧ r.2.mem ((c.tc : Thread Cert.NormKvReferenceIdeal.nD Cert.NormKvReferenceIdeal.τ).loc Cert.NormKvReferenceIdeal.main_arg1) = m' ((c.tc : Thread Cert.NormKvReferenceIdeal.nD Cert.NormKvReferenceIdeal.τ).loc Cert.NormKvReferenceIdeal.main_arg1))

def preserves_Dnorm_DnormIdeal : Prop :=
  True

def algebraic_DnormIdeal_DnormReferenceIdeal [hDnormIdeal : Cert.DnormIdeal.Facts] [hDnormReferenceIdeal : Cert.DnormReferenceIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormReferenceIdeal.nD Cert.DnormReferenceIdeal.τ Cert.DnormReferenceIdeal.sig) → Buf (Elt Ideal) ℓ) (g' : Dev Cert.DnormReferenceIdeal.nD → PrngReg), Pre_DnormIdeal m →
    (∀ c : Dev Cert.DnormIdeal.nD,
      m' ((c.tc : Thread Cert.DnormReferenceIdeal.nD Cert.DnormReferenceIdeal.τ).loc Cert.DnormReferenceIdeal.main_arg0) = m ((c.tc : Thread Cert.DnormIdeal.nD Cert.DnormIdeal.τ).loc Cert.DnormIdeal.main_arg0)
      ∧ m' ((c.tc : Thread Cert.DnormReferenceIdeal.nD Cert.DnormReferenceIdeal.τ).loc Cert.DnormReferenceIdeal.main_arg1) = m ((c.tc : Thread Cert.DnormIdeal.nD Cert.DnormIdeal.τ).loc Cert.DnormIdeal.main_arg1)
      ∧ m' ((c.tc : Thread Cert.DnormReferenceIdeal.nD Cert.DnormReferenceIdeal.τ).loc Cert.DnormReferenceIdeal.main_arg2) = m ((c.tc : Thread Cert.DnormIdeal.nD Cert.DnormIdeal.τ).loc Cert.DnormIdeal.main_arg2)) →
    ∃ (v0 : (c : Dev Cert.DnormIdeal.nD) → Buf (Elt Ideal) ((c.tc : Thread Cert.DnormIdeal.nD Cert.DnormIdeal.τ).loc Cert.DnormIdeal.main_v1_0)) (v1 : (c : Dev Cert.DnormIdeal.nD) → Buf (Elt Ideal) ((c.tc : Thread Cert.DnormIdeal.nD Cert.DnormIdeal.τ).loc Cert.DnormIdeal.main_v1_1)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v1_0) = v0 c
          ∧ r.2.mem ((c.tc : Thread Cert.DnormIdeal.nD Cert.DnormIdeal.τ).loc Cert.DnormIdeal.main_v1_1) = v1 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2))
      ∧ θ_run (Cert.DnormReferenceIdeal.defs (F := Ideal)) (onTc (τ := Cert.DnormReferenceIdeal.τ) (Cert.DnormReferenceIdeal.main (F := Ideal))) ⟨m', fun _ => 0, g'⟩ (fun r => ∀ c : Dev Cert.DnormReferenceIdeal.nD,
          r.2.mem ((c.tc : Thread Cert.DnormReferenceIdeal.nD Cert.DnormReferenceIdeal.τ).loc Cert.DnormReferenceIdeal.main_v35) = v0 c
          ∧ r.2.mem ((c.tc : Thread Cert.DnormReferenceIdeal.nD Cert.DnormReferenceIdeal.τ).loc Cert.DnormReferenceIdeal.main_v36) = v1 c
          ∧ r.2.mem ((c.tc : Thread Cert.DnormReferenceIdeal.nD Cert.DnormReferenceIdeal.τ).loc Cert.DnormReferenceIdeal.main_arg0) = m' ((c.tc : Thread Cert.DnormReferenceIdeal.nD Cert.DnormReferenceIdeal.τ).loc Cert.DnormReferenceIdeal.main_arg0)
          ∧ r.2.mem ((c.tc : Thread Cert.DnormReferenceIdeal.nD Cert.DnormReferenceIdeal.τ).loc Cert.DnormReferenceIdeal.main_arg1) = m' ((c.tc : Thread Cert.DnormReferenceIdeal.nD Cert.DnormReferenceIdeal.τ).loc Cert.DnormReferenceIdeal.main_arg1)
          ∧ r.2.mem ((c.tc : Thread Cert.DnormReferenceIdeal.nD Cert.DnormReferenceIdeal.τ).loc Cert.DnormReferenceIdeal.main_arg2) = m' ((c.tc : Thread Cert.DnormReferenceIdeal.nD Cert.DnormReferenceIdeal.τ).loc Cert.DnormReferenceIdeal.main_arg2))

def preserves_DnormAB_DnormABIdeal : Prop :=
  True

def algebraic_DnormABIdeal_DnormABReferenceIdeal [hDnormABIdeal : Cert.DnormABIdeal.Facts] [hDnormABReferenceIdeal : Cert.DnormABReferenceIdeal.Facts] : Prop :=
  ∀ (m : (ℓ : Loc Cert.DnormABIdeal.nD Cert.DnormABIdeal.τ Cert.DnormABIdeal.sig) → Buf (Elt Ideal) ℓ) (g : Dev Cert.DnormABIdeal.nD → PrngReg)
    (m' : (ℓ : Loc Cert.DnormABReferenceIdeal.nD Cert.DnormABReferenceIdeal.τ Cert.DnormABReferenceIdeal.sig) → Buf (Elt Ideal) ℓ) (g' : Dev Cert.DnormABReferenceIdeal.nD → PrngReg), Pre_DnormABIdeal m →
    (∀ c : Dev Cert.DnormABIdeal.nD,
      m' ((c.tc : Thread Cert.DnormABReferenceIdeal.nD Cert.DnormABReferenceIdeal.τ).loc Cert.DnormABReferenceIdeal.main_arg0) = m ((c.tc : Thread Cert.DnormABIdeal.nD Cert.DnormABIdeal.τ).loc Cert.DnormABIdeal.main_arg0)
      ∧ m' ((c.tc : Thread Cert.DnormABReferenceIdeal.nD Cert.DnormABReferenceIdeal.τ).loc Cert.DnormABReferenceIdeal.main_arg1) = m ((c.tc : Thread Cert.DnormABIdeal.nD Cert.DnormABIdeal.τ).loc Cert.DnormABIdeal.main_arg1)
      ∧ m' ((c.tc : Thread Cert.DnormABReferenceIdeal.nD Cert.DnormABReferenceIdeal.τ).loc Cert.DnormABReferenceIdeal.main_arg2) = m ((c.tc : Thread Cert.DnormABIdeal.nD Cert.DnormABIdeal.τ).loc Cert.DnormABIdeal.main_arg2)) →
    ∃ (v0 : (c : Dev Cert.DnormABIdeal.nD) → Buf (Elt Ideal) ((c.tc : Thread Cert.DnormABIdeal.nD Cert.DnormABIdeal.τ).loc Cert.DnormABIdeal.main_v1_0)) (v1 : (c : Dev Cert.DnormABIdeal.nD) → Buf (Elt Ideal) ((c.tc : Thread Cert.DnormABIdeal.nD Cert.DnormABIdeal.τ).loc Cert.DnormABIdeal.main_v1_1)),
      θ_run (Cert.DnormABIdeal.defs (F := Ideal)) (onTc (τ := Cert.DnormABIdeal.τ) (Cert.DnormABIdeal.main (F := Ideal))) ⟨m, fun _ => 0, g⟩ (fun r => ∀ c : Dev Cert.DnormABIdeal.nD,
          r.2.mem ((c.tc : Thread Cert.DnormABIdeal.nD Cert.DnormABIdeal.τ).loc Cert.DnormABIdeal.main_v1_0) = v0 c
          ∧ r.2.mem ((c.tc : Thread Cert.DnormABIdeal.nD Cert.DnormABIdeal.τ).loc Cert.DnormABIdeal.main_v1_1) = v1 c
          ∧ r.2.mem ((c.tc : Thread Cert.DnormABIdeal.nD Cert.DnormABIdeal.τ).loc Cert.DnormABIdeal.main_arg0) = m ((c.tc : Thread Cert.DnormABIdeal.nD Cert.DnormABIdeal.τ).loc Cert.DnormABIdeal.main_arg0)
          ∧ r.2.mem ((c.tc : Thread Cert.DnormABIdeal.nD Cert.DnormABIdeal.τ).loc Cert.DnormABIdeal.main_arg1) = m ((c.tc : Thread Cert.DnormABIdeal.nD Cert.DnormABIdeal.τ).loc Cert.DnormABIdeal.main_arg1)
          ∧ r.2.mem ((c.tc : Thread Cert.DnormABIdeal.nD Cert.DnormABIdeal.τ).loc Cert.DnormABIdeal.main_arg2) = m ((c.tc : Thread Cert.DnormABIdeal.nD Cert.DnormABIdeal.τ).loc Cert.DnormABIdeal.main_arg2))
      ∧ θ_run (Cert.DnormABReferenceIdeal.defs (F := Ideal)) (onTc (τ := Cert.DnormABReferenceIdeal.τ) (Cert.DnormABReferenceIdeal.main (F := Ideal))) ⟨m', fun _ => 0, g'⟩ (fun r => ∀ c : Dev Cert.DnormABReferenceIdeal.nD,
          r.2.mem ((c.tc : Thread Cert.DnormABReferenceIdeal.nD Cert.DnormABReferenceIdeal.τ).loc Cert.DnormABReferenceIdeal.main_v35) = v0 c
          ∧ r.2.mem ((c.tc : Thread Cert.DnormABReferenceIdeal.nD Cert.DnormABReferenceIdeal.τ).loc Cert.DnormABReferenceIdeal.main_v36) = v1 c
          ∧ r.2.mem ((c.tc : Thread Cert.DnormABReferenceIdeal.nD Cert.DnormABReferenceIdeal.τ).loc Cert.DnormABReferenceIdeal.main_arg0) = m' ((c.tc : Thread Cert.DnormABReferenceIdeal.nD Cert.DnormABReferenceIdeal.τ).loc Cert.DnormABReferenceIdeal.main_arg0)
          ∧ r.2.mem ((c.tc : Thread Cert.DnormABReferenceIdeal.nD Cert.DnormABReferenceIdeal.τ).loc Cert.DnormABReferenceIdeal.main_arg1) = m' ((c.tc : Thread Cert.DnormABReferenceIdeal.nD Cert.DnormABReferenceIdeal.τ).loc Cert.DnormABReferenceIdeal.main_arg1)
          ∧ r.2.mem ((c.tc : Thread Cert.DnormABReferenceIdeal.nD Cert.DnormABReferenceIdeal.τ).loc Cert.DnormABReferenceIdeal.main_arg2) = m' ((c.tc : Thread Cert.DnormABReferenceIdeal.nD Cert.DnormABReferenceIdeal.τ).loc Cert.DnormABReferenceIdeal.main_arg2))

def preserves_DnormC_DnormCIdeal : Prop :=
  True

def algebraic_DnormCIdeal_DnormCReferenceIdeal [hDnormCIdeal : Cert.DnormCIdeal.Facts] [hDnormCReferenceIdeal : Cert.DnormCReferenceIdeal.Facts] : Prop :=
  ∀ (m : (ℓ : Loc Cert.DnormCIdeal.nD Cert.DnormCIdeal.τ Cert.DnormCIdeal.sig) → Buf (Elt Ideal) ℓ) (g : Dev Cert.DnormCIdeal.nD → PrngReg)
    (m' : (ℓ : Loc Cert.DnormCReferenceIdeal.nD Cert.DnormCReferenceIdeal.τ Cert.DnormCReferenceIdeal.sig) → Buf (Elt Ideal) ℓ) (g' : Dev Cert.DnormCReferenceIdeal.nD → PrngReg), Pre_DnormCIdeal m →
    (∀ c : Dev Cert.DnormCIdeal.nD,
      m' ((c.tc : Thread Cert.DnormCReferenceIdeal.nD Cert.DnormCReferenceIdeal.τ).loc Cert.DnormCReferenceIdeal.main_arg0) = m ((c.tc : Thread Cert.DnormCIdeal.nD Cert.DnormCIdeal.τ).loc Cert.DnormCIdeal.main_arg0)
      ∧ m' ((c.tc : Thread Cert.DnormCReferenceIdeal.nD Cert.DnormCReferenceIdeal.τ).loc Cert.DnormCReferenceIdeal.main_arg1) = m ((c.tc : Thread Cert.DnormCIdeal.nD Cert.DnormCIdeal.τ).loc Cert.DnormCIdeal.main_arg1)
      ∧ m' ((c.tc : Thread Cert.DnormCReferenceIdeal.nD Cert.DnormCReferenceIdeal.τ).loc Cert.DnormCReferenceIdeal.main_arg2) = m ((c.tc : Thread Cert.DnormCIdeal.nD Cert.DnormCIdeal.τ).loc Cert.DnormCIdeal.main_arg2)) →
    ∃ (v0 : (c : Dev Cert.DnormCIdeal.nD) → Buf (Elt Ideal) ((c.tc : Thread Cert.DnormCIdeal.nD Cert.DnormCIdeal.τ).loc Cert.DnormCIdeal.main_v1_0)) (v1 : (c : Dev Cert.DnormCIdeal.nD) → Buf (Elt Ideal) ((c.tc : Thread Cert.DnormCIdeal.nD Cert.DnormCIdeal.τ).loc Cert.DnormCIdeal.main_v1_1)),
      θ_run (Cert.DnormCIdeal.defs (F := Ideal)) (onTc (τ := Cert.DnormCIdeal.τ) (Cert.DnormCIdeal.main (F := Ideal))) ⟨m, fun _ => 0, g⟩ (fun r => ∀ c : Dev Cert.DnormCIdeal.nD,
          r.2.mem ((c.tc : Thread Cert.DnormCIdeal.nD Cert.DnormCIdeal.τ).loc Cert.DnormCIdeal.main_v1_0) = v0 c
          ∧ r.2.mem ((c.tc : Thread Cert.DnormCIdeal.nD Cert.DnormCIdeal.τ).loc Cert.DnormCIdeal.main_v1_1) = v1 c
          ∧ r.2.mem ((c.tc : Thread Cert.DnormCIdeal.nD Cert.DnormCIdeal.τ).loc Cert.DnormCIdeal.main_arg0) = m ((c.tc : Thread Cert.DnormCIdeal.nD Cert.DnormCIdeal.τ).loc Cert.DnormCIdeal.main_arg0)
          ∧ r.2.mem ((c.tc : Thread Cert.DnormCIdeal.nD Cert.DnormCIdeal.τ).loc Cert.DnormCIdeal.main_arg1) = m ((c.tc : Thread Cert.DnormCIdeal.nD Cert.DnormCIdeal.τ).loc Cert.DnormCIdeal.main_arg1)
          ∧ r.2.mem ((c.tc : Thread Cert.DnormCIdeal.nD Cert.DnormCIdeal.τ).loc Cert.DnormCIdeal.main_arg2) = m ((c.tc : Thread Cert.DnormCIdeal.nD Cert.DnormCIdeal.τ).loc Cert.DnormCIdeal.main_arg2))
      ∧ θ_run (Cert.DnormCReferenceIdeal.defs (F := Ideal)) (onTc (τ := Cert.DnormCReferenceIdeal.τ) (Cert.DnormCReferenceIdeal.main (F := Ideal))) ⟨m', fun _ => 0, g'⟩ (fun r => ∀ c : Dev Cert.DnormCReferenceIdeal.nD,
          r.2.mem ((c.tc : Thread Cert.DnormCReferenceIdeal.nD Cert.DnormCReferenceIdeal.τ).loc Cert.DnormCReferenceIdeal.main_v35) = v0 c
          ∧ r.2.mem ((c.tc : Thread Cert.DnormCReferenceIdeal.nD Cert.DnormCReferenceIdeal.τ).loc Cert.DnormCReferenceIdeal.main_v36) = v1 c
          ∧ r.2.mem ((c.tc : Thread Cert.DnormCReferenceIdeal.nD Cert.DnormCReferenceIdeal.τ).loc Cert.DnormCReferenceIdeal.main_arg0) = m' ((c.tc : Thread Cert.DnormCReferenceIdeal.nD Cert.DnormCReferenceIdeal.τ).loc Cert.DnormCReferenceIdeal.main_arg0)
          ∧ r.2.mem ((c.tc : Thread Cert.DnormCReferenceIdeal.nD Cert.DnormCReferenceIdeal.τ).loc Cert.DnormCReferenceIdeal.main_arg1) = m' ((c.tc : Thread Cert.DnormCReferenceIdeal.nD Cert.DnormCReferenceIdeal.τ).loc Cert.DnormCReferenceIdeal.main_arg1)
          ∧ r.2.mem ((c.tc : Thread Cert.DnormCReferenceIdeal.nD Cert.DnormCReferenceIdeal.τ).loc Cert.DnormCReferenceIdeal.main_arg2) = m' ((c.tc : Thread Cert.DnormCReferenceIdeal.nD Cert.DnormCReferenceIdeal.τ).loc Cert.DnormCReferenceIdeal.main_arg2))

def preserves_DnormKv_DnormKvIdeal : Prop :=
  True

def algebraic_DnormKvIdeal_DnormKvReferenceIdeal [hDnormKvIdeal : Cert.DnormKvIdeal.Facts] [hDnormKvReferenceIdeal : Cert.DnormKvReferenceIdeal.Facts] : Prop :=
  ∀ (m : (ℓ : Loc Cert.DnormKvIdeal.nD Cert.DnormKvIdeal.τ Cert.DnormKvIdeal.sig) → Buf (Elt Ideal) ℓ) (g : Dev Cert.DnormKvIdeal.nD → PrngReg)
    (m' : (ℓ : Loc Cert.DnormKvReferenceIdeal.nD Cert.DnormKvReferenceIdeal.τ Cert.DnormKvReferenceIdeal.sig) → Buf (Elt Ideal) ℓ) (g' : Dev Cert.DnormKvReferenceIdeal.nD → PrngReg), Pre_DnormKvIdeal m →
    (∀ c : Dev Cert.DnormKvIdeal.nD,
      m' ((c.tc : Thread Cert.DnormKvReferenceIdeal.nD Cert.DnormKvReferenceIdeal.τ).loc Cert.DnormKvReferenceIdeal.main_arg0) = m ((c.tc : Thread Cert.DnormKvIdeal.nD Cert.DnormKvIdeal.τ).loc Cert.DnormKvIdeal.main_arg0)
      ∧ m' ((c.tc : Thread Cert.DnormKvReferenceIdeal.nD Cert.DnormKvReferenceIdeal.τ).loc Cert.DnormKvReferenceIdeal.main_arg1) = m ((c.tc : Thread Cert.DnormKvIdeal.nD Cert.DnormKvIdeal.τ).loc Cert.DnormKvIdeal.main_arg1)
      ∧ m' ((c.tc : Thread Cert.DnormKvReferenceIdeal.nD Cert.DnormKvReferenceIdeal.τ).loc Cert.DnormKvReferenceIdeal.main_arg2) = m ((c.tc : Thread Cert.DnormKvIdeal.nD Cert.DnormKvIdeal.τ).loc Cert.DnormKvIdeal.main_arg2)) →
    ∃ (v0 : (c : Dev Cert.DnormKvIdeal.nD) → Buf (Elt Ideal) ((c.tc : Thread Cert.DnormKvIdeal.nD Cert.DnormKvIdeal.τ).loc Cert.DnormKvIdeal.main_v1_0)) (v1 : (c : Dev Cert.DnormKvIdeal.nD) → Buf (Elt Ideal) ((c.tc : Thread Cert.DnormKvIdeal.nD Cert.DnormKvIdeal.τ).loc Cert.DnormKvIdeal.main_v1_1)),
      θ_run (Cert.DnormKvIdeal.defs (F := Ideal)) (onTc (τ := Cert.DnormKvIdeal.τ) (Cert.DnormKvIdeal.main (F := Ideal))) ⟨m, fun _ => 0, g⟩ (fun r => ∀ c : Dev Cert.DnormKvIdeal.nD,
          r.2.mem ((c.tc : Thread Cert.DnormKvIdeal.nD Cert.DnormKvIdeal.τ).loc Cert.DnormKvIdeal.main_v1_0) = v0 c
          ∧ r.2.mem ((c.tc : Thread Cert.DnormKvIdeal.nD Cert.DnormKvIdeal.τ).loc Cert.DnormKvIdeal.main_v1_1) = v1 c
          ∧ r.2.mem ((c.tc : Thread Cert.DnormKvIdeal.nD Cert.DnormKvIdeal.τ).loc Cert.DnormKvIdeal.main_arg0) = m ((c.tc : Thread Cert.DnormKvIdeal.nD Cert.DnormKvIdeal.τ).loc Cert.DnormKvIdeal.main_arg0)
          ∧ r.2.mem ((c.tc : Thread Cert.DnormKvIdeal.nD Cert.DnormKvIdeal.τ).loc Cert.DnormKvIdeal.main_arg1) = m ((c.tc : Thread Cert.DnormKvIdeal.nD Cert.DnormKvIdeal.τ).loc Cert.DnormKvIdeal.main_arg1)
          ∧ r.2.mem ((c.tc : Thread Cert.DnormKvIdeal.nD Cert.DnormKvIdeal.τ).loc Cert.DnormKvIdeal.main_arg2) = m ((c.tc : Thread Cert.DnormKvIdeal.nD Cert.DnormKvIdeal.τ).loc Cert.DnormKvIdeal.main_arg2))
      ∧ θ_run (Cert.DnormKvReferenceIdeal.defs (F := Ideal)) (onTc (τ := Cert.DnormKvReferenceIdeal.τ) (Cert.DnormKvReferenceIdeal.main (F := Ideal))) ⟨m', fun _ => 0, g'⟩ (fun r => ∀ c : Dev Cert.DnormKvReferenceIdeal.nD,
          r.2.mem ((c.tc : Thread Cert.DnormKvReferenceIdeal.nD Cert.DnormKvReferenceIdeal.τ).loc Cert.DnormKvReferenceIdeal.main_v35) = v0 c
          ∧ r.2.mem ((c.tc : Thread Cert.DnormKvReferenceIdeal.nD Cert.DnormKvReferenceIdeal.τ).loc Cert.DnormKvReferenceIdeal.main_v36) = v1 c
          ∧ r.2.mem ((c.tc : Thread Cert.DnormKvReferenceIdeal.nD Cert.DnormKvReferenceIdeal.τ).loc Cert.DnormKvReferenceIdeal.main_arg0) = m' ((c.tc : Thread Cert.DnormKvReferenceIdeal.nD Cert.DnormKvReferenceIdeal.τ).loc Cert.DnormKvReferenceIdeal.main_arg0)
          ∧ r.2.mem ((c.tc : Thread Cert.DnormKvReferenceIdeal.nD Cert.DnormKvReferenceIdeal.τ).loc Cert.DnormKvReferenceIdeal.main_arg1) = m' ((c.tc : Thread Cert.DnormKvReferenceIdeal.nD Cert.DnormKvReferenceIdeal.τ).loc Cert.DnormKvReferenceIdeal.main_arg1)
          ∧ r.2.mem ((c.tc : Thread Cert.DnormKvReferenceIdeal.nD Cert.DnormKvReferenceIdeal.τ).loc Cert.DnormKvReferenceIdeal.main_arg2) = m' ((c.tc : Thread Cert.DnormKvReferenceIdeal.nD Cert.DnormKvReferenceIdeal.τ).loc Cert.DnormKvReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v1) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v6) = v2 c
          ∧ r.2.mem ((c.tc : Thread Cert.AdamReferenceIdeal.nD Cert.AdamReferenceIdeal.τ).loc Cert.AdamReferenceIdeal.main_v12) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_Band1_Band1Ideal : Prop :=
  IdealRules.named_const.Statement Cert.Band1Ideal.κ "mask" .f32 0xF149F2CA#32 ⊥

def algebraic_Band1Ideal_Band1ReferenceIdeal [hBand1Ideal : Cert.Band1Ideal.Facts] [hBand1ReferenceIdeal : Cert.Band1ReferenceIdeal.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1ReferenceIdeal.nD Cert.Band1ReferenceIdeal.τ Cert.Band1ReferenceIdeal.sig) → Buf (Elt Ideal) ℓ) (g' : Dev Cert.Band1ReferenceIdeal.nD → PrngReg), Pre_Band1Ideal m →
    (∀ c : Dev Cert.Band1Ideal.nD,
      m' ((c.tc : Thread Cert.Band1ReferenceIdeal.nD Cert.Band1ReferenceIdeal.τ).loc Cert.Band1ReferenceIdeal.main_arg0) = m ((c.tc : Thread Cert.Band1Ideal.nD Cert.Band1Ideal.τ).loc Cert.Band1Ideal.main_arg0)
      ∧ m' ((c.tc : Thread Cert.Band1ReferenceIdeal.nD Cert.Band1ReferenceIdeal.τ).loc Cert.Band1ReferenceIdeal.main_arg1) = m ((c.tc : Thread Cert.Band1Ideal.nD Cert.Band1Ideal.τ).loc Cert.Band1Ideal.main_arg1)
      ∧ m' ((c.tc : Thread Cert.Band1ReferenceIdeal.nD Cert.Band1ReferenceIdeal.τ).loc Cert.Band1ReferenceIdeal.main_arg2) = m ((c.tc : Thread Cert.Band1Ideal.nD Cert.Band1Ideal.τ).loc Cert.Band1Ideal.main_arg2)) →
    ∃ (v0 : (c : Dev Cert.Band1Ideal.nD) → Buf (Elt Ideal) ((c.tc : Thread Cert.Band1Ideal.nD Cert.Band1Ideal.τ).loc Cert.Band1Ideal.main_v14_0)) (v1 : (c : Dev Cert.Band1Ideal.nD) → Buf (Elt Ideal) ((c.tc : Thread Cert.Band1Ideal.nD Cert.Band1Ideal.τ).loc Cert.Band1Ideal.main_v14_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v14_0) = v0 c
          ∧ r.2.mem ((c.tc : Thread Cert.Band1Ideal.nD Cert.Band1Ideal.τ).loc Cert.Band1Ideal.main_v14_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
          ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
          ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ θ_run (Cert.Band1ReferenceIdeal.defs (F := Ideal)) (onTc (τ := Cert.Band1ReferenceIdeal.τ) (Cert.Band1ReferenceIdeal.main (F := Ideal))) ⟨m', fun _ => 0, g'⟩ (fun r => ∀ c : Dev Cert.Band1ReferenceIdeal.nD,
          r.2.mem ((c.tc : Thread Cert.Band1ReferenceIdeal.nD Cert.Band1ReferenceIdeal.τ).loc Cert.Band1ReferenceIdeal.main_v31) = v0 c
          ∧ r.2.mem ((c.tc : Thread Cert.Band1ReferenceIdeal.nD Cert.Band1ReferenceIdeal.τ).loc Cert.Band1ReferenceIdeal.main_v32) = v1 c
          ∧ r.2.mem ((c.tc : Thread Cert.Band1ReferenceIdeal.nD Cert.Band1ReferenceIdeal.τ).loc Cert.Band1ReferenceIdeal.main_arg0) = m' ((c.tc : Thread Cert.Band1ReferenceIdeal.nD Cert.Band1ReferenceIdeal.τ).loc Cert.Band1ReferenceIdeal.main_arg0)
          ∧ r.2.mem ((c.tc : Thread Cert.Band1ReferenceIdeal.nD Cert.Band1ReferenceIdeal.τ).loc Cert.Band1ReferenceIdeal.main_arg1) = m' ((c.tc : Thread Cert.Band1ReferenceIdeal.nD Cert.Band1ReferenceIdeal.τ).loc Cert.Band1ReferenceIdeal.main_arg1)
          ∧ r.2.mem ((c.tc : Thread Cert.Band1ReferenceIdeal.nD Cert.Band1ReferenceIdeal.τ).loc Cert.Band1ReferenceIdeal.main_arg2) = m' ((c.tc : Thread Cert.Band1ReferenceIdeal.nD Cert.Band1ReferenceIdeal.τ).loc Cert.Band1ReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDu : Cert.Du.Facts) (hDuIdeal : Cert.DuIdeal.Facts) (hDuReferenceIdeal : Cert.DuReferenceIdeal.Facts) (hDwOut : Cert.DwOut.Facts) (hDwOutIdeal : Cert.DwOutIdeal.Facts) (hDwOutReferenceIdeal : Cert.DwOutReferenceIdeal.Facts) (hDwIn : Cert.DwIn.Facts) (hDwInIdeal : Cert.DwInIdeal.Facts) (hDwInReferenceIdeal : Cert.DwInReferenceIdeal.Facts) (hDh : Cert.Dh.Facts) (hDhIdeal : Cert.DhIdeal.Facts) (hDhReferenceIdeal : Cert.DhReferenceIdeal.Facts) (hIn : Cert.In.Facts) (hInIdeal : Cert.InIdeal.Facts) (hInReferenceIdeal : Cert.InReferenceIdeal.Facts) (hInDhB : Cert.InDhB.Facts) (hInDhBIdeal : Cert.InDhBIdeal.Facts) (hInDhBReferenceIdeal : Cert.InDhBReferenceIdeal.Facts) (hInDhC : Cert.InDhC.Facts) (hInDhCIdeal : Cert.InDhCIdeal.Facts) (hInDhCReferenceIdeal : Cert.InDhCReferenceIdeal.Facts) (hInDhA : Cert.InDhA.Facts) (hInDhAIdeal : Cert.InDhAIdeal.Facts) (hInDhAReferenceIdeal : Cert.InDhAReferenceIdeal.Facts) (hInDwB : Cert.InDwB.Facts) (hInDwBIdeal : Cert.InDwBIdeal.Facts) (hInDwBReferenceIdeal : Cert.InDwBReferenceIdeal.Facts) (hInDwC : Cert.InDwC.Facts) (hInDwCIdeal : Cert.InDwCIdeal.Facts) (hInDwCReferenceIdeal : Cert.InDwCReferenceIdeal.Facts) (hInDwA : Cert.InDwA.Facts) (hInDwAIdeal : Cert.InDwAIdeal.Facts) (hInDwAReferenceIdeal : Cert.InDwAReferenceIdeal.Facts) (hOut : Cert.Out.Facts) (hOutIdeal : Cert.OutIdeal.Facts) (hOutReferenceIdeal : Cert.OutReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hUq : Cert.Uq.Facts) (hUqIdeal : Cert.UqIdeal.Facts) (hUqReferenceIdeal : Cert.UqReferenceIdeal.Facts) (hUqDx : Cert.UqDx.Facts) (hUqDxIdeal : Cert.UqDxIdeal.Facts) (hUqDxReferenceIdeal : Cert.UqDxReferenceIdeal.Facts) (hUqDw : Cert.UqDw.Facts) (hUqDwIdeal : Cert.UqDwIdeal.Facts) (hUqDwReferenceIdeal : Cert.UqDwReferenceIdeal.Facts) (hUkv : Cert.Ukv.Facts) (hUkvIdeal : Cert.UkvIdeal.Facts) (hUkvReferenceIdeal : Cert.UkvReferenceIdeal.Facts) (hUkvDx : Cert.UkvDx.Facts) (hUkvDxIdeal : Cert.UkvDxIdeal.Facts) (hUkvDxReferenceIdeal : Cert.UkvDxReferenceIdeal.Facts) (hUkvDw : Cert.UkvDw.Facts) (hUkvDwIdeal : Cert.UkvDwIdeal.Facts) (hUkvDwReferenceIdeal : Cert.UkvDwReferenceIdeal.Facts) (hNorm : Cert.Norm.Facts) (hNormIdeal : Cert.NormIdeal.Facts) (hNormReferenceIdeal : Cert.NormReferenceIdeal.Facts) (hNormAB : Cert.NormAB.Facts) (hNormABIdeal : Cert.NormABIdeal.Facts) (hNormABReferenceIdeal : Cert.NormABReferenceIdeal.Facts) (hNormC : Cert.NormC.Facts) (hNormCIdeal : Cert.NormCIdeal.Facts) (hNormCReferenceIdeal : Cert.NormCReferenceIdeal.Facts) (hNormKv : Cert.NormKv.Facts) (hNormKvIdeal : Cert.NormKvIdeal.Facts) (hNormKvReferenceIdeal : Cert.NormKvReferenceIdeal.Facts) (hDnorm : Cert.Dnorm.Facts) (hDnormIdeal : Cert.DnormIdeal.Facts) (hDnormReferenceIdeal : Cert.DnormReferenceIdeal.Facts) (hDnormAB : Cert.DnormAB.Facts) (hDnormABIdeal : Cert.DnormABIdeal.Facts) (hDnormABReferenceIdeal : Cert.DnormABReferenceIdeal.Facts) (hDnormC : Cert.DnormC.Facts) (hDnormCIdeal : Cert.DnormCIdeal.Facts) (hDnormCReferenceIdeal : Cert.DnormCReferenceIdeal.Facts) (hDnormKv : Cert.DnormKv.Facts) (hDnormKvIdeal : Cert.DnormKvIdeal.Facts) (hDnormKvReferenceIdeal : Cert.DnormKvReferenceIdeal.Facts) (hLoss : Cert.Loss.Facts) (hLossIdeal : Cert.LossIdeal.Facts) (hLossReferenceIdeal : Cert.LossReferenceIdeal.Facts) (hAdam : Cert.Adam.Facts) (hAdamIdeal : Cert.AdamIdeal.Facts) (hAdamReferenceIdeal : Cert.AdamReferenceIdeal.Facts) (hAdamSmall : Cert.AdamSmall.Facts) (hAdamSmallIdeal : Cert.AdamSmallIdeal.Facts) (hAdamSmallReferenceIdeal : Cert.AdamSmallReferenceIdeal.Facts) (hBand1 : Cert.Band1.Facts) (hBand1Ideal : Cert.Band1Ideal.Facts) (hBand1ReferenceIdeal : Cert.Band1ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Du (hDu := hDu)
    ∧ quiescent_DuIdeal (hDuIdeal := hDuIdeal)
    ∧ quiescent_DuReferenceIdeal (hDuReferenceIdeal := hDuReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_Dh (hDh := hDh)
    ∧ quiescent_DhIdeal (hDhIdeal := hDhIdeal)
    ∧ quiescent_DhReferenceIdeal (hDhReferenceIdeal := hDhReferenceIdeal)
    ∧ quiescent_In (hIn := hIn)
    ∧ quiescent_InIdeal (hInIdeal := hInIdeal)
    ∧ quiescent_InReferenceIdeal (hInReferenceIdeal := hInReferenceIdeal)
    ∧ quiescent_InDhB (hInDhB := hInDhB)
    ∧ quiescent_InDhBIdeal (hInDhBIdeal := hInDhBIdeal)
    ∧ quiescent_InDhBReferenceIdeal (hInDhBReferenceIdeal := hInDhBReferenceIdeal)
    ∧ quiescent_InDhC (hInDhC := hInDhC)
    ∧ quiescent_InDhCIdeal (hInDhCIdeal := hInDhCIdeal)
    ∧ quiescent_InDhCReferenceIdeal (hInDhCReferenceIdeal := hInDhCReferenceIdeal)
    ∧ quiescent_InDhA (hInDhA := hInDhA)
    ∧ quiescent_InDhAIdeal (hInDhAIdeal := hInDhAIdeal)
    ∧ quiescent_InDhAReferenceIdeal (hInDhAReferenceIdeal := hInDhAReferenceIdeal)
    ∧ quiescent_InDwB (hInDwB := hInDwB)
    ∧ quiescent_InDwBIdeal (hInDwBIdeal := hInDwBIdeal)
    ∧ quiescent_InDwBReferenceIdeal (hInDwBReferenceIdeal := hInDwBReferenceIdeal)
    ∧ quiescent_InDwC (hInDwC := hInDwC)
    ∧ quiescent_InDwCIdeal (hInDwCIdeal := hInDwCIdeal)
    ∧ quiescent_InDwCReferenceIdeal (hInDwCReferenceIdeal := hInDwCReferenceIdeal)
    ∧ quiescent_InDwA (hInDwA := hInDwA)
    ∧ quiescent_InDwAIdeal (hInDwAIdeal := hInDwAIdeal)
    ∧ quiescent_InDwAReferenceIdeal (hInDwAReferenceIdeal := hInDwAReferenceIdeal)
    ∧ quiescent_Out (hOut := hOut)
    ∧ quiescent_OutIdeal (hOutIdeal := hOutIdeal)
    ∧ quiescent_OutReferenceIdeal (hOutReferenceIdeal := hOutReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Uq (hUq := hUq)
    ∧ quiescent_UqIdeal (hUqIdeal := hUqIdeal)
    ∧ quiescent_UqReferenceIdeal (hUqReferenceIdeal := hUqReferenceIdeal)
    ∧ quiescent_UqDx (hUqDx := hUqDx)
    ∧ quiescent_UqDxIdeal (hUqDxIdeal := hUqDxIdeal)
    ∧ quiescent_UqDxReferenceIdeal (hUqDxReferenceIdeal := hUqDxReferenceIdeal)
    ∧ quiescent_UqDw (hUqDw := hUqDw)
    ∧ quiescent_UqDwIdeal (hUqDwIdeal := hUqDwIdeal)
    ∧ quiescent_UqDwReferenceIdeal (hUqDwReferenceIdeal := hUqDwReferenceIdeal)
    ∧ quiescent_Ukv (hUkv := hUkv)
    ∧ quiescent_UkvIdeal (hUkvIdeal := hUkvIdeal)
    ∧ quiescent_UkvReferenceIdeal (hUkvReferenceIdeal := hUkvReferenceIdeal)
    ∧ quiescent_UkvDx (hUkvDx := hUkvDx)
    ∧ quiescent_UkvDxIdeal (hUkvDxIdeal := hUkvDxIdeal)
    ∧ quiescent_UkvDxReferenceIdeal (hUkvDxReferenceIdeal := hUkvDxReferenceIdeal)
    ∧ quiescent_UkvDw (hUkvDw := hUkvDw)
    ∧ quiescent_UkvDwIdeal (hUkvDwIdeal := hUkvDwIdeal)
    ∧ quiescent_UkvDwReferenceIdeal (hUkvDwReferenceIdeal := hUkvDwReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_NormAB (hNormAB := hNormAB)
    ∧ quiescent_NormABIdeal (hNormABIdeal := hNormABIdeal)
    ∧ quiescent_NormABReferenceIdeal (hNormABReferenceIdeal := hNormABReferenceIdeal)
    ∧ quiescent_NormC (hNormC := hNormC)
    ∧ quiescent_NormCIdeal (hNormCIdeal := hNormCIdeal)
    ∧ quiescent_NormCReferenceIdeal (hNormCReferenceIdeal := hNormCReferenceIdeal)
    ∧ quiescent_NormKv (hNormKv := hNormKv)
    ∧ quiescent_NormKvIdeal (hNormKvIdeal := hNormKvIdeal)
    ∧ quiescent_NormKvReferenceIdeal (hNormKvReferenceIdeal := hNormKvReferenceIdeal)
    ∧ quiescent_Dnorm (hDnorm := hDnorm)
    ∧ quiescent_DnormIdeal (hDnormIdeal := hDnormIdeal)
    ∧ quiescent_DnormReferenceIdeal (hDnormReferenceIdeal := hDnormReferenceIdeal)
    ∧ quiescent_DnormAB (hDnormAB := hDnormAB)
    ∧ quiescent_DnormABIdeal (hDnormABIdeal := hDnormABIdeal)
    ∧ quiescent_DnormABReferenceIdeal (hDnormABReferenceIdeal := hDnormABReferenceIdeal)
    ∧ quiescent_DnormC (hDnormC := hDnormC)
    ∧ quiescent_DnormCIdeal (hDnormCIdeal := hDnormCIdeal)
    ∧ quiescent_DnormCReferenceIdeal (hDnormCReferenceIdeal := hDnormCReferenceIdeal)
    ∧ quiescent_DnormKv (hDnormKv := hDnormKv)
    ∧ quiescent_DnormKvIdeal (hDnormKvIdeal := hDnormKvIdeal)
    ∧ quiescent_DnormKvReferenceIdeal (hDnormKvReferenceIdeal := hDnormKvReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Band1 (hBand1 := hBand1)
    ∧ quiescent_Band1Ideal (hBand1Ideal := hBand1Ideal)
    ∧ quiescent_Band1ReferenceIdeal (hBand1ReferenceIdeal := hBand1ReferenceIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Du_DuIdeal
    ∧ algebraic_DuIdeal_DuReferenceIdeal (hDuIdeal := hDuIdeal) (hDuReferenceIdeal := hDuReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwIn_DwInIdeal
    ∧ algebraic_DwInIdeal_DwInReferenceIdeal (hDwInIdeal := hDwInIdeal) (hDwInReferenceIdeal := hDwInReferenceIdeal)
    ∧ preserves_Dh_DhIdeal
    ∧ algebraic_DhIdeal_DhReferenceIdeal (hDhIdeal := hDhIdeal) (hDhReferenceIdeal := hDhReferenceIdeal)
    ∧ preserves_In_InIdeal
    ∧ algebraic_InIdeal_InReferenceIdeal (hInIdeal := hInIdeal) (hInReferenceIdeal := hInReferenceIdeal)
    ∧ preserves_InDhB_InDhBIdeal
    ∧ algebraic_InDhBIdeal_InDhBReferenceIdeal (hInDhBIdeal := hInDhBIdeal) (hInDhBReferenceIdeal := hInDhBReferenceIdeal)
    ∧ preserves_InDhC_InDhCIdeal
    ∧ algebraic_InDhCIdeal_InDhCReferenceIdeal (hInDhCIdeal := hInDhCIdeal) (hInDhCReferenceIdeal := hInDhCReferenceIdeal)
    ∧ preserves_InDhA_InDhAIdeal
    ∧ algebraic_InDhAIdeal_InDhAReferenceIdeal (hInDhAIdeal := hInDhAIdeal) (hInDhAReferenceIdeal := hInDhAReferenceIdeal)
    ∧ preserves_InDwB_InDwBIdeal
    ∧ algebraic_InDwBIdeal_InDwBReferenceIdeal (hInDwBIdeal := hInDwBIdeal) (hInDwBReferenceIdeal := hInDwBReferenceIdeal)
    ∧ preserves_InDwC_InDwCIdeal
    ∧ algebraic_InDwCIdeal_InDwCReferenceIdeal (hInDwCIdeal := hInDwCIdeal) (hInDwCReferenceIdeal := hInDwCReferenceIdeal)
    ∧ preserves_InDwA_InDwAIdeal
    ∧ algebraic_InDwAIdeal_InDwAReferenceIdeal (hInDwAIdeal := hInDwAIdeal) (hInDwAReferenceIdeal := hInDwAReferenceIdeal)
    ∧ preserves_Out_OutIdeal
    ∧ algebraic_OutIdeal_OutReferenceIdeal (hOutIdeal := hOutIdeal) (hOutReferenceIdeal := hOutReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Uq_UqIdeal
    ∧ algebraic_UqIdeal_UqReferenceIdeal (hUqIdeal := hUqIdeal) (hUqReferenceIdeal := hUqReferenceIdeal)
    ∧ preserves_UqDx_UqDxIdeal
    ∧ algebraic_UqDxIdeal_UqDxReferenceIdeal (hUqDxIdeal := hUqDxIdeal) (hUqDxReferenceIdeal := hUqDxReferenceIdeal)
    ∧ preserves_UqDw_UqDwIdeal
    ∧ algebraic_UqDwIdeal_UqDwReferenceIdeal (hUqDwIdeal := hUqDwIdeal) (hUqDwReferenceIdeal := hUqDwReferenceIdeal)
    ∧ preserves_Ukv_UkvIdeal
    ∧ algebraic_UkvIdeal_UkvReferenceIdeal (hUkvIdeal := hUkvIdeal) (hUkvReferenceIdeal := hUkvReferenceIdeal)
    ∧ preserves_UkvDx_UkvDxIdeal
    ∧ algebraic_UkvDxIdeal_UkvDxReferenceIdeal (hUkvDxIdeal := hUkvDxIdeal) (hUkvDxReferenceIdeal := hUkvDxReferenceIdeal)
    ∧ preserves_UkvDw_UkvDwIdeal
    ∧ algebraic_UkvDwIdeal_UkvDwReferenceIdeal (hUkvDwIdeal := hUkvDwIdeal) (hUkvDwReferenceIdeal := hUkvDwReferenceIdeal)
    ∧ preserves_Norm_NormIdeal
    ∧ algebraic_NormIdeal_NormReferenceIdeal (hNormIdeal := hNormIdeal) (hNormReferenceIdeal := hNormReferenceIdeal)
    ∧ preserves_NormAB_NormABIdeal
    ∧ algebraic_NormABIdeal_NormABReferenceIdeal (hNormABIdeal := hNormABIdeal) (hNormABReferenceIdeal := hNormABReferenceIdeal)
    ∧ preserves_NormC_NormCIdeal
    ∧ algebraic_NormCIdeal_NormCReferenceIdeal (hNormCIdeal := hNormCIdeal) (hNormCReferenceIdeal := hNormCReferenceIdeal)
    ∧ preserves_NormKv_NormKvIdeal
    ∧ algebraic_NormKvIdeal_NormKvReferenceIdeal (hNormKvIdeal := hNormKvIdeal) (hNormKvReferenceIdeal := hNormKvReferenceIdeal)
    ∧ preserves_Dnorm_DnormIdeal
    ∧ algebraic_DnormIdeal_DnormReferenceIdeal (hDnormIdeal := hDnormIdeal) (hDnormReferenceIdeal := hDnormReferenceIdeal)
    ∧ preserves_DnormAB_DnormABIdeal
    ∧ algebraic_DnormABIdeal_DnormABReferenceIdeal (hDnormABIdeal := hDnormABIdeal) (hDnormABReferenceIdeal := hDnormABReferenceIdeal)
    ∧ preserves_DnormC_DnormCIdeal
    ∧ algebraic_DnormCIdeal_DnormCReferenceIdeal (hDnormCIdeal := hDnormCIdeal) (hDnormCReferenceIdeal := hDnormCReferenceIdeal)
    ∧ preserves_DnormKv_DnormKvIdeal
    ∧ algebraic_DnormKvIdeal_DnormKvReferenceIdeal (hDnormKvIdeal := hDnormKvIdeal) (hDnormKvReferenceIdeal := hDnormKvReferenceIdeal)
    ∧ preserves_Loss_LossIdeal
    ∧ algebraic_LossIdeal_LossReferenceIdeal (hLossIdeal := hLossIdeal) (hLossReferenceIdeal := hLossReferenceIdeal)
    ∧ preserves_Adam_AdamIdeal
    ∧ algebraic_AdamIdeal_AdamReferenceIdeal (hAdamIdeal := hAdamIdeal) (hAdamReferenceIdeal := hAdamReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Band1_Band1Ideal
    ∧ algebraic_Band1Ideal_Band1ReferenceIdeal (hBand1Ideal := hBand1Ideal) (hBand1ReferenceIdeal := hBand1ReferenceIdeal)
-- ==== Pre_finite_args.lean ====
abbrev S8192x6x96 : Shape := ⟨3, ![8192, 6, 96]⟩
abbrev S8192x6x64 : Shape := ⟨3, ![8192, 6, 64]⟩
abbrev S_ : Shape := ⟨0, ![]⟩
abbrev S8192x6x160 : Shape := ⟨3, ![8192, 6, 160]⟩

class Facts : Prop where
  bcast_S_S8192x6x96 : S_.BroadcastsInDim S8192x6x96 (![] : Fin 0 → Fin S8192x6x96.rank)
  bcast_S_S8192x6x64 : S_.BroadcastsInDim S8192x6x64 (![] : Fin 0 → Fin S8192x6x64.rank)
  concatenates_S8192x6x96_S8192x6x64_S8192x6x160_d2 : Shape.Concatenates [S8192x6x96, S8192x6x64] S8192x6x160 2

variable [Facts]

def fn {F : FTy → Type} [FloatOps F] (main_arg0 : FVec F S8192x6x96 .f32) (main_arg1 : FVec F S8192x6x96 .f32) (main_arg2 : FVec F S8192x6x64 .f32) (main_arg3 : FVec F S8192x6x64 .f32) : IVec S8192x6x160 1 :=
  let main_v0 : FVec F S8192x6x96 .f32 := Host.absf main_arg0
  let main_cst : FVec F S_ .f32 := constant S_ .f32 0x7F800000#32
  let main_v1 : FVec F S8192x6x96 .f32 := broadcastInDim S8192x6x96 ![] bcast_S_S8192x6x96 main_cst
  let main_v2 : IVec S8192x6x96 1 := cmpf .olt main_v0 main_v1
  let main_v3 : FVec F S8192x6x96 .f32 := Host.absf main_arg1
  let main_cst_0 : FVec F S_ .f32 := constant S_ .f32 0x7F800000#32
  let main_v4 : FVec F S8192x6x96 .f32 := broadcastInDim S8192x6x96 ![] bcast_S_S8192x6x96 main_cst_0
  let main_v5 : IVec S8192x6x96 1 := cmpf .olt main_v3 main_v4
  let main_v6 : IVec S8192x6x96 1 := andi main_v2 main_v5
  let main_v7 : FVec F S8192x6x64 .f32 := Host.absf main_arg2
  let main_cst_1 : FVec F S_ .f32 := constant S_ .f32 0x7F800000#32
  let main_v8 : FVec F S8192x6x64 .f32 := broadcastInDim S8192x6x64 ![] bcast_S_S8192x6x64 main_cst_1
  let main_v9 : IVec S8192x6x64 1 := cmpf .olt main_v7 main_v8
  let main_v10 : FVec F S8192x6x64 .f32 := Host.absf main_arg3
  let main_cst_2 : FVec F S_ .f32 := constant S_ .f32 0x7F800000#32
  let main_v11 : FVec F S8192x6x64 .f32 := broadcastInDim S8192x6x64 ![] bcast_S_S8192x6x64 main_cst_2
  let main_v12 : IVec S8192x6x64 1 := cmpf .olt main_v10 main_v11
  let main_v13 : IVec S8192x6x64 1 := andi main_v9 main_v12
  let main_v14 : IVec S8192x6x160 1 := (fun a b => concatenate S8192x6x160 2 [⟨S8192x6x96, a⟩, ⟨S8192x6x64, b⟩] concatenates_S8192x6x96_S8192x6x64_S8192x6x160_d2) main_v6 main_v13
  main_v14
-- ==== Kernel.lean ====
abbrev S8192x6x96 : Shape := ⟨3, ![8192, 6, 96]⟩
abbrev S8192x6x64 : Shape := ⟨3, ![8192, 6, 64]⟩
abbrev S6x8192x96 : Shape := ⟨3, ![6, 8192, 96]⟩
abbrev S6x8192x64 : Shape := ⟨3, ![6, 8192, 64]⟩
abbrev S_ : Shape := ⟨0, ![]⟩
abbrev S6x8192x1 : Shape := ⟨3, ![6, 8192, 1]⟩
abbrev S6x8192x63 : Shape := ⟨3, ![6, 8192, 63]⟩
abbrev S6x8192x128 : Shape := ⟨3, ![6, 8192, 128]⟩
abbrev S1x512x96 : Shape := ⟨3, ![1, 512, 96]⟩
abbrev S1x8192x96 : Shape := ⟨3, ![1, 8192, 96]⟩
abbrev S1x8192x128 : Shape := ⟨3, ![1, 8192, 128]⟩
abbrev S1x512x64 : Shape := ⟨3, ![1, 512, 64]⟩
abbrev S1x512x1 : Shape := ⟨3, ![1, 512, 1]⟩
abbrev S512x96 : Shape := ⟨2, ![512, 96]⟩
abbrev S512x1 : Shape := ⟨2, ![512, 1]⟩
abbrev S512x128 : Shape := ⟨2, ![512, 128]⟩
abbrev S1x2048x96 : Shape := ⟨3, ![1, 2048, 96]⟩
abbrev S2048x96 : Shape := ⟨2, ![2048, 96]⟩
abbrev S512x2048 : Shape := ⟨2, ![512, 2048]⟩
abbrev S512 : Shape := ⟨1, ![512]⟩
abbrev S1x2048x128 : Shape := ⟨3, ![1, 2048, 128]⟩
abbrev S2048x128 : Shape := ⟨2, ![2048, 128]⟩
abbrev S512x64 : Shape := ⟨2, ![512, 64]⟩
abbrev S6x96x8192 : Shape := ⟨3, ![6, 96, 8192]⟩
abbrev S6x64x8192 : Shape := ⟨3, ![6, 64, 8192]⟩
abbrev S6x1x8192 : Shape := ⟨3, ![6, 1, 8192]⟩
abbrev S1x96x256 : Shape := ⟨3, ![1, 96, 256]⟩
abbrev S1x96x8192 : Shape := ⟨3, ![1, 96, 8192]⟩
abbrev S1x8192x64 : Shape := ⟨3, ![1, 8192, 64]⟩
abbrev S1x64x256 : Shape := ⟨3, ![1, 64, 256]⟩
abbrev S1x1x256 : Shape := ⟨3, ![1, 1, 256]⟩
abbrev S96x256 : Shape := ⟨2, ![96, 256]⟩
abbrev S64x256 : Shape := ⟨2, ![64, 256]⟩
abbrev S256 : Shape := ⟨1, ![256]⟩
abbrev S1x256 : Shape := ⟨2, ![1, 256]⟩
abbrev S2048x256 : Shape := ⟨2, ![2048, 256]⟩
abbrev S1x2048x64 : Shape := ⟨3, ![1, 2048, 64]⟩
abbrev S2048x64 : Shape := ⟨2, ![2048, 64]⟩
abbrev S1x96x2048 : Shape := ⟨3, ![1, 96, 2048]⟩
abbrev S96x2048 : Shape := ⟨2, ![96, 2048]⟩

abbrev nBuf : Space → Nat
  | .hbm => 29
  | .vmem => 30
  | .smem => 0
  | _ => 0

abbrev bufTy : (tb : Table) → Fin (tcTables nBuf tb) → BufTy
  | .hbm, ⟨0, _⟩ => ⟨S8192x6x96, .f32⟩
  | .hbm, ⟨1, _⟩ => ⟨S8192x6x96, .f32⟩
  | .hbm, ⟨2, _⟩ => ⟨S8192x6x64, .f32⟩
  | .hbm, ⟨3, _⟩ => ⟨S8192x6x64, .f32⟩
  | .hbm, ⟨4, _⟩ => ⟨S8192x6x96, .bf16⟩
  | .hbm, ⟨5, _⟩ => ⟨S6x8192x96, .bf16⟩
  | .hbm, ⟨6, _⟩ => ⟨S8192x6x96, .bf16⟩
  | .hbm, ⟨7, _⟩ => ⟨S6x8192x96, .bf16⟩
  | .hbm, ⟨8, _⟩ => ⟨S8192x6x64, .bf16⟩
  | .hbm, ⟨9, _⟩ => ⟨S6x8192x64, .bf16⟩
  | .hbm, ⟨10, _⟩ => ⟨S_, .bf16⟩
  | .hbm, ⟨11, _⟩ => ⟨S6x8192x1, .bf16⟩
  | .hbm, ⟨12, _⟩ => ⟨S_, .bf16⟩
  | .hbm, ⟨13, _⟩ => ⟨S6x8192x63, .bf16⟩
  | .hbm, ⟨14, _⟩ => ⟨S6x8192x128, .bf16⟩
  | .hbm, ⟨15, _⟩ => ⟨S6x8192x64, .f32⟩
  | .hbm, ⟨16, _⟩ => ⟨S6x8192x1, .f32⟩
  | .hbm, ⟨17, _⟩ => ⟨S8192x6x64, .f32⟩
  | .hbm, ⟨18, _⟩ => ⟨S6x96x8192, .bf16⟩
  | .hbm, ⟨19, _⟩ => ⟨S6x96x8192, .bf16⟩
  | .hbm, ⟨20, _⟩ => ⟨S6x64x8192, .f32⟩
  | .hbm, ⟨21, _⟩ => ⟨S6x1x8192, .f32⟩
  | .hbm, ⟨22, _⟩ => ⟨S6x64x8192, .f32⟩
  | .hbm, ⟨23, _⟩ => ⟨S6x96x8192, .f32⟩
  | .hbm, ⟨24, _⟩ => ⟨S6x8192x96, .f32⟩
  | .hbm, ⟨25, _⟩ => ⟨S6x8192x64, .f32⟩
  | .hbm, ⟨26, _⟩ => ⟨S8192x6x96, .f32⟩
  | .hbm, ⟨27, _⟩ => ⟨S8192x6x96, .f32⟩
  | .hbm, ⟨28, _⟩ => ⟨S8192x6x64, .f32⟩
  | .local _ .vmem, ⟨0, _⟩ => ⟨S1x512x96, .bf16⟩
  | .local _ .vmem, ⟨1, _⟩ => ⟨S1x512x96, .bf16⟩
  | .local _ .vmem, ⟨2, _⟩ => ⟨S1x8192x96, .bf16⟩
  | .local _ .vmem, ⟨3, _⟩ => ⟨S1x8192x96, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | .local _ .vmem, ⟨10, _⟩ => ⟨S1x96x256, .bf16⟩
  | .local _ .vmem, ⟨11, _⟩ => ⟨S1x96x256, .bf16⟩
  | .local _ .vmem, ⟨12, _⟩ => ⟨S1x8192x96, .bf16⟩
  | .local _ .vmem, ⟨13, _⟩ => ⟨S1x8192x96, .bf16⟩
  | .local _ .vmem, ⟨14, _⟩ => ⟨S1x96x8192, .bf16⟩
  | .local _ .vmem, ⟨15, _⟩ => ⟨S1x96x8192, .bf16⟩
  | .local _ .vmem, ⟨16, _⟩ => ⟨S1x8192x64, .bf16⟩
  | .local _ .vmem, ⟨17, _⟩ => ⟨S1x8192x64, .bf16⟩
  | .local _ .vmem, ⟨18, _⟩ => ⟨S1x64x256, .f32⟩
  | .local _ .vmem, ⟨19, _⟩ => ⟨S1x64x256, .f32⟩
  | .local _ .vmem, ⟨20, _⟩ => ⟨S1x1x256, .f32⟩
  | .local _ .vmem, ⟨21, _⟩ => ⟨S1x1x256, .f32⟩
  | .local _ .vmem, ⟨22, _⟩ => ⟨S1x64x256, .f32⟩
  | .local _ .vmem, ⟨23, _⟩ => ⟨S1x64x256, .f32⟩
  | .local _ .vmem, ⟨24, _⟩ => ⟨S1x96x256, .f32⟩
  | .local _ .vmem, ⟨25, _⟩ => ⟨S1x96x256, .f32⟩
  | .local _ .vmem, ⟨26, _⟩ => ⟨S1x8192x96, .f32⟩
  | .local _ .vmem, ⟨27, _⟩ => ⟨S1x8192x96, .f32⟩
  | .local _ .vmem, ⟨28, _⟩ => ⟨S1x8192x64, .f32⟩
  | .local _ .vmem, ⟨29, _⟩ => ⟨S1x8192x64, .f32⟩
  | _, _ => ⟨S8192x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![6, 16], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  v20
def k0_off1 (k0_t1 : Fin k0_t1_loop.trips) : Fin 3 → Nat :=
  let c0_11 : Index := 0#32
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  let v21 : BitVec 32 := v20
  let v22 : Index := Scalar.indexCast v21
  let c0_12 : Index := 0#32
  ![0, v22.toNat, 0]
def k0_off2 (k0_t1 : Fin k0_t1_loop.trips) : Fin 3 → Nat :=
  let c0_17 : Index := 0#32
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  let v21 : BitVec 32 := v20
  let v41 : Index := Scalar.indexCast v21
  let c0_18 : Index := 0#32
  ![0, v41.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 32], ![false, false]⟩

@[reducible] def k1_t1_loop : Scf.Loop 32 :=
  let c0_i32_13 : BitVec 32 := 0#32
  let c4_i32 : BitVec 32 := 4#32
  let v16 : BitVec 32 := Scalar.addi c0_i32_13 c4_i32
  let c1_i32 : BitVec 32 := 1#32
  ⟨c0_i32_13, v16, c1_i32⟩
def k1_mult1 (k1_t1 : Fin k1_t1_loop.trips) : BitVec 32 :=
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  v21
def k1_off1 (k1_t1 : Fin k1_t1_loop.trips) : Fin 3 → Nat :=
  let c0_18 : Index := 0#32
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  let v22 : BitVec 32 := v21
  let v23 : Index := Scalar.indexCast v22
  let c0_19 : Index := 0#32
  ![0, v23.toNat, 0]
def k1_off2 (k1_t1 : Fin k1_t1_loop.trips) : Fin 3 → Nat :=
  let c0_22 : Index := 0#32
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  let v22 : BitVec 32 := v21
  let v32 : Index := Scalar.indexCast v22
  let c0_23 : Index := 0#32
  ![0, v32.toNat, 0]
def k1_off3 (k1_t1 : Fin k1_t1_loop.trips) : Fin 3 → Nat :=
  let c0_36 : Index := 0#32
  let c0_37 : Index := 0#32
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  let v22 : BitVec 32 := v21
  let v61 : Index := Scalar.indexCast v22
  ![0, 0, v61.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x96x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x96x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8192x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x64x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x96x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x8192x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x8192x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== KernelIdeal.lean ====
variable {F : FTy → Type} [FloatOps F] [Named F]
def κ : String → Option EReal := fun
  | "to_log2" => some (((3424635 / 33554432) * (Real.log 2)⁻¹ : ℝ) : EReal)
  | _ => none
-- ==== ReferenceIdeal.lean ====
abbrev S8192x6x96 : Shape := ⟨3, ![8192, 6, 96]⟩
abbrev S8192x6x64 : Shape := ⟨3, ![8192, 6, 64]⟩
abbrev S6x8192x8192 : Shape := ⟨3, ![6, 8192, 8192]⟩
abbrev S_ : Shape := ⟨0, ![]⟩
abbrev S6x8192 : Shape := ⟨2, ![6, 8192]⟩
abbrev S6x8192x1 : Shape := ⟨3, ![6, 8192, 1]⟩
abbrev S6x64x8192 : Shape := ⟨3, ![6, 64, 8192]⟩
abbrev S6x8192x96 : Shape := ⟨3, ![6, 8192, 96]⟩

abbrev nBuf : Space → Nat
  | .hbm => 73
  | .vmem => 0
  | .smem => 0
  | _ => 0

abbrev bufTy : (tb : Table) → Fin (tcTables nBuf tb) → BufTy
  | .hbm, ⟨0, _⟩ => ⟨S8192x6x96, .f32⟩
  | .hbm, ⟨1, _⟩ => ⟨S8192x6x96, .f32⟩
  | .hbm, ⟨2, _⟩ => ⟨S8192x6x64, .f32⟩
  | .hbm, ⟨3, _⟩ => ⟨S8192x6x64, .f32⟩
  | .hbm, ⟨4, _⟩ => ⟨S6x8192x8192, .f32⟩
  | .hbm, ⟨5, _⟩ => ⟨S_, .f32⟩
  | .hbm, ⟨6, _⟩ => ⟨S6x8192x8192, .f32⟩
  | .hbm, ⟨7, _⟩ => ⟨S6x8192x8192, .f32⟩
  | .hbm, ⟨8, _⟩ => ⟨S_, .f32⟩
  | .hbm, ⟨9, _⟩ => ⟨S6x8192, .f32⟩
  | .hbm, ⟨10, _⟩ => ⟨S6x8192x1, .f32⟩
  | .hbm, ⟨11, _⟩ => ⟨S6x8192x8192, .f32⟩
  | .hbm, ⟨12, _⟩ => ⟨S6x8192x8192, .i1⟩
  | .hbm, ⟨13, _⟩ => ⟨S6x8192x8192, .f32⟩
  | .hbm, ⟨14, _⟩ => ⟨S_, .f32⟩
  | .hbm, ⟨15, _⟩ => ⟨S6x8192, .f32⟩
  | .hbm, ⟨16, _⟩ => ⟨S_, .f32⟩
  | .hbm, ⟨17, _⟩ => ⟨S6x8192, .f32⟩
  | .hbm, ⟨18, _⟩ => ⟨S6x8192, .f32⟩
  | .hbm, ⟨19, _⟩ => ⟨S_, .f32⟩
  | .hbm, ⟨20, _⟩ => ⟨S6x8192, .f32⟩
  | .hbm, ⟨21, _⟩ => ⟨S6x8192, .i1⟩
  | .hbm, ⟨22, _⟩ => ⟨S_, .f32⟩
  | .hbm, ⟨23, _⟩ => ⟨S6x8192, .f32⟩
  | .hbm, ⟨24, _⟩ => ⟨S6x8192, .i1⟩
  | .hbm, ⟨25, _⟩ => ⟨S_, .f32⟩
  | .hbm, ⟨26, _⟩ => ⟨S6x8192, .f32⟩
  | .hbm, ⟨27, _⟩ => ⟨S_, .f32⟩
  | .hbm, ⟨28, _⟩ => ⟨S6x8192, .f32⟩
  | .hbm, ⟨29, _⟩ => ⟨S_, .f32⟩
  | .hbm, ⟨30, _⟩ => ⟨S6x8192, .f32⟩
  | .hbm, ⟨31, _⟩ => ⟨S6x8192, .f32⟩
  | .hbm, ⟨32, _⟩ => ⟨S6x8192, .f32⟩
  | .hbm, ⟨33, _⟩ => ⟨S6x8192x1, .f32⟩
  | .hbm, ⟨34, _⟩ => ⟨S6x8192x8192, .f32⟩
  | .hbm, ⟨35, _⟩ => ⟨S6x8192x8192, .f32⟩
  | .hbm, ⟨36, _⟩ => ⟨S6x8192x8192, .f32⟩
  | .hbm, ⟨37, _⟩ => ⟨S_, .f32⟩
  | .hbm, ⟨38, _⟩ => ⟨S6x8192, .f32⟩
  | .hbm, ⟨39, _⟩ => ⟨S6x8192x1, .f32⟩
  | .hbm, ⟨40, _⟩ => ⟨S6x8192x8192, .f32⟩
  | .hbm, ⟨41, _⟩ => ⟨S6x8192x8192, .f32⟩
  | .hbm, ⟨42, _⟩ => ⟨S6x8192x1, .f32⟩
  | .hbm, ⟨43, _⟩ => ⟨S_, .f32⟩
  | .hbm, ⟨44, _⟩ => ⟨S6x8192x1, .f32⟩
  | .hbm, ⟨45, _⟩ => ⟨S6x8192x1, .f32⟩
  | .hbm, ⟨46, _⟩ => ⟨S6x64x8192, .f32⟩
  | .hbm, ⟨47, _⟩ => ⟨S8192x6x64, .f32⟩
  | .hbm, ⟨48, _⟩ => ⟨S6x64x8192, .f32⟩
  | .hbm, ⟨49, _⟩ => ⟨S6x8192x8192, .f32⟩
  | .hbm, ⟨50, _⟩ => ⟨S6x64x8192, .f32⟩
  | .hbm, ⟨51, _⟩ => ⟨S8192x6x64, .f32⟩
  | .hbm, ⟨52, _⟩ => ⟨S6x8192x8192, .f32⟩
  | .hbm, ⟨53, _⟩ => ⟨S6x8192x8192, .f32⟩
  | .hbm, ⟨54, _⟩ => ⟨S6x8192x8192, .f32⟩
  | .hbm, ⟨55, _⟩ => ⟨S_, .f32⟩
  | .hbm, ⟨56, _⟩ => ⟨S6x8192, .f32⟩
  | .hbm, ⟨57, _⟩ => ⟨S6x8192x1, .f32⟩
  | .hbm, ⟨58, _⟩ => ⟨S6x8192x1, .f32⟩
  | .hbm, ⟨59, _⟩ => ⟨S6x8192x8192, .f32⟩
  | .hbm, ⟨60, _⟩ => ⟨S6x8192x8192, .f32⟩
  | .hbm, ⟨61, _⟩ => ⟨S_, .f32⟩
  | .hbm, ⟨62, _⟩ => ⟨S6x8192, .f32⟩
  | .hbm, ⟨63, _⟩ => ⟨S6x8192x8192, .f32⟩
  | .hbm, ⟨64, _⟩ => ⟨S6x8192x8192, .f32⟩
  | .hbm, ⟨65, _⟩ => ⟨S6x8192x8192, .f32⟩
  | .hbm, ⟨66, _⟩ => ⟨S_, .f32⟩
  | .hbm, ⟨67, _⟩ => ⟨S6x8192x8192, .f32⟩
  | .hbm, ⟨68, _⟩ => ⟨S6x8192x8192, .f32⟩
  | .hbm, ⟨69, _⟩ => ⟨S6x8192x96, .f32⟩
  | .hbm, ⟨70, _⟩ => ⟨S8192x6x96, .f32⟩
  | .hbm, ⟨71, _⟩ => ⟨S6x8192x96, .f32⟩
  | .hbm, ⟨72, _⟩ => ⟨S8192x6x96, .f32⟩
  | _, _ => ⟨S8192x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S4096x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S4096x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Du.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DwOut.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwIn.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dh.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S1024x4096, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhReferenceIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8192x1024 : Shape := ⟨2, ![8192, 1024]⟩
abbrev S1024x2336 : Shape := ⟨2, ![1024, 2336]⟩
abbrev S1024x1152 : Shape := ⟨2, ![1024, 1152]⟩
abbrev S1024x768 : Shape := ⟨2, ![1024, 768]⟩
abbrev S1024x416 : Shape := ⟨2, ![1024, 416]⟩
abbrev S8192x1152 : Shape := ⟨2, ![8192, 1152]⟩
abbrev S8192x768 : Shape := ⟨2, ![8192, 768]⟩
abbrev S8192x416 : Shape := ⟨2, ![8192, 416]⟩
abbrev S512x1024 : Shape := ⟨2, ![512, 1024]⟩
abbrev S512x1152 : Shape := ⟨2, ![512, 1152]⟩
abbrev S512x768 : Shape := ⟨2, ![512, 768]⟩
abbrev S512x416 : Shape := ⟨2, ![512, 416]⟩
abbrev S512x2336 : Shape := ⟨2, ![512, 2336]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x1024, .bf16⟩
  | .hbm, ⟨3, _⟩ => ⟨S1024x2336, .bf16⟩
  | .hbm, ⟨4, _⟩ => ⟨S1024x1152, .bf16⟩
  | .hbm, ⟨5, _⟩ => ⟨S1024x768, .bf16⟩
  | .hbm, ⟨6, _⟩ => ⟨S1024x416, .bf16⟩
  | .hbm, ⟨7, _⟩ => ⟨S1024x2336, .bf16⟩
  | .hbm, ⟨8, _⟩ => ⟨S8192x1152, .f32⟩
  | .hbm, ⟨9, _⟩ => ⟨S8192x768, .f32⟩
  | .hbm, ⟨10, _⟩ => ⟨S8192x416, .f32⟩
  | .local _ .vmem, ⟨0, _⟩ => ⟨S512x1024, .bf16⟩
  | .local _ .vmem, ⟨1, _⟩ => ⟨S512x1024, .bf16⟩
  | .local _ .vmem, ⟨2, _⟩ => ⟨S1024x2336, .bf16⟩
  | .local _ .vmem, ⟨3, _⟩ => ⟨S512x1152, .f32⟩
  | .local _ .vmem, ⟨4, _⟩ => ⟨S512x1152, .f32⟩
  | .local _ .vmem, ⟨5, _⟩ => ⟨S512x768, .f32⟩
  | .local _ .vmem, ⟨6, _⟩ => ⟨S512x768, .f32⟩
  | .local _ .vmem, ⟨7, _⟩ => ⟨S512x416, .f32⟩
  | .local _ .vmem, ⟨8, _⟩ => ⟨S512x416, .f32⟩
  | .local _ .vmem, ⟨9, _⟩ => ⟨S512x2336, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x416 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== InReferenceIdeal.lean ====
abbrev S8192x1024 : Shape := ⟨2, ![8192, 1024]⟩
abbrev S1024x2336 : Shape := ⟨2, ![1024, 2336]⟩
abbrev S8192x2336 : Shape := ⟨2, ![8192, 2336]⟩
abbrev S8192x416 : Shape := ⟨2, ![8192, 416]⟩
abbrev S8192x1152 : Shape := ⟨2, ![8192, 1152]⟩
abbrev S8192x768 : Shape := ⟨2, ![8192, 768]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x2336, .f32⟩
  | .hbm, ⟨3, _⟩ => ⟨S8192x416, .f32⟩
  | .hbm, ⟨4, _⟩ => ⟨S8192x1152, .f32⟩
  | .hbm, ⟨5, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDhB.lean ====
abbrev S8192x1024 : Shape := ⟨2, ![8192, 1024]⟩
abbrev S1024x2336 : Shape := ⟨2, ![1024, 2336]⟩
abbrev S8192x1152 : Shape := ⟨2, ![8192, 1152]⟩
abbrev S1024x1152 : Shape := ⟨2, ![1024, 1152]⟩
abbrev S1024x768 : Shape := ⟨2, ![1024, 768]⟩
abbrev S1024x416 : Shape := ⟨2, ![1024, 416]⟩
abbrev S1024x384 : Shape := ⟨2, ![1024, 384]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x1152, .f32⟩
  | .hbm, ⟨3, _⟩ => ⟨S1024x2336, .bf16⟩
  | .hbm, ⟨4, _⟩ => ⟨S1024x1152, .bf16⟩
  | .hbm, ⟨5, _⟩ => ⟨S1024x768, .bf16⟩
  | .hbm, ⟨6, _⟩ => ⟨S1024x416, .bf16⟩
  | .hbm, ⟨7, _⟩ => ⟨S1024x2336, .bf16⟩
  | .hbm, ⟨8, _⟩ => ⟨S1024x1152, .bf16⟩
  | .hbm, ⟨9, _⟩ => ⟨S8192x1024, .f32⟩
  | .local _ .vmem, ⟨0, _⟩ => ⟨S1024x384, .f32⟩
  | .local _ .vmem, ⟨1, _⟩ => ⟨S1024x384, .f32⟩
  | .local _ .vmem, ⟨2, _⟩ => ⟨S1024x384, .bf16⟩
  | .local _ .vmem, ⟨3, _⟩ => ⟨S1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDhBReferenceIdeal.lean ====
abbrev S8192x1024 : Shape := ⟨2, ![8192, 1024]⟩
abbrev S1024x2336 : Shape := ⟨2, ![1024, 2336]⟩
abbrev S8192x1152 : Shape := ⟨2, ![8192, 1152]⟩
abbrev S1024x1152 : Shape := ⟨2, ![1024, 1152]⟩
abbrev S1152x1024 : Shape := ⟨2, ![1152, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x1152, .f32⟩
  | .hbm, ⟨3, _⟩ => ⟨S1024x1152, .f32⟩
  | .hbm, ⟨4, _⟩ => ⟨S8192x1152, .f32⟩
  | .hbm, ⟨5, _⟩ => ⟨S1152x1024, .f32⟩
  | .hbm, ⟨6, _⟩ => ⟨S1024x1152, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDhC.lean ====
abbrev S8192x1024 : Shape := ⟨2, ![8192, 1024]⟩
abbrev S1024x2336 : Shape := ⟨2, ![1024, 2336]⟩
abbrev S8192x768 : Shape := ⟨2, ![8192, 768]⟩
abbrev S1024x1152 : Shape := ⟨2, ![1024, 1152]⟩
abbrev S1024x768 : Shape := ⟨2, ![1024, 768]⟩
abbrev S1024x416 : Shape := ⟨2, ![1024, 416]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x768, .f32⟩
  | .hbm, ⟨3, _⟩ => ⟨S8192x1024, .f32⟩
  | .hbm, ⟨4, _⟩ => ⟨S1024x2336, .bf16⟩
  | .hbm, ⟨5, _⟩ => ⟨S1024x1152, .bf16⟩
  | .hbm, ⟨6, _⟩ => ⟨S1024x768, .bf16⟩
  | .hbm, ⟨7, _⟩ => ⟨S1024x416, .bf16⟩
  | .hbm, ⟨8, _⟩ => ⟨S1024x2336, .bf16⟩
  | .hbm, ⟨9, _⟩ => ⟨S1024x768, .bf16⟩
  | .hbm, ⟨10, _⟩ => ⟨S8192x1024, .f32⟩
  | .local _ .vmem, ⟨0, _⟩ => ⟨S1024x768, .f32⟩
  | .local _ .vmem, ⟨1, _⟩ => ⟨S1024x768, .f32⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDhCReferenceIdeal.lean ====
abbrev S8192x1024 : Shape := ⟨2, ![8192, 1024]⟩
abbrev S1024x2336 : Shape := ⟨2, ![1024, 2336]⟩
abbrev S8192x768 : Shape := ⟨2, ![8192, 768]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x768, .f32⟩
  | .hbm, ⟨3, _⟩ => ⟨S8192x1024, .f32⟩
  | .hbm, ⟨4, _⟩ => ⟨S1024x768, .f32⟩
  | .hbm, ⟨5, _⟩ => ⟨S8192x768, .f32⟩
  | .hbm, ⟨6, _⟩ => ⟨S768x1024, .f32⟩
  | .hbm, ⟨7, _⟩ => ⟨S1024x768, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDhA.lean ====
abbrev S8192x1024 : Shape := ⟨2, ![8192, 1024]⟩
abbrev S1024x2336 : Shape := ⟨2, ![1024, 2336]⟩
abbrev S8192x416 : Shape := ⟨2, ![8192, 416]⟩
abbrev S1024x1152 : Shape := ⟨2, ![1024, 1152]⟩
abbrev S1024x768 : Shape := ⟨2, ![1024, 768]⟩
abbrev S1024x416 : Shape := ⟨2, ![1024, 416]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x416, .f32⟩
  | .hbm, ⟨3, _⟩ => ⟨S8192x1024, .f32⟩
  | .hbm, ⟨4, _⟩ => ⟨S1024x2336, .bf16⟩
  | .hbm, ⟨5, _⟩ => ⟨S1024x1152, .bf16⟩
  | .hbm, ⟨6, _⟩ => ⟨S1024x768, .bf16⟩
  | .hbm, ⟨7, _⟩ => ⟨S1024x416, .bf16⟩
  | .hbm, ⟨8, _⟩ => ⟨S1024x2336, .bf16⟩
  | .hbm, ⟨9, _⟩ => ⟨S1024x416, .bf16⟩
  | .hbm, ⟨10, _⟩ => ⟨S8192x1024, .f32⟩
  | .local _ .vmem, ⟨0, _⟩ => ⟨S1024x416, .f32⟩
  | .local _ .vmem, ⟨1, _⟩ => ⟨S1024x416, .f32⟩
  | .local _ .vmem, ⟨2, _⟩ => ⟨S1024x416, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x416 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDhAReferenceIdeal.lean ====
abbrev S8192x1024 : Shape := ⟨2, ![8192, 1024]⟩
abbrev S1024x2336 : Shape := ⟨2, ![1024, 2336]⟩
abbrev S8192x416 : Shape := ⟨2, ![8192, 416]⟩
abbrev S1024x416 : Shape := ⟨2, ![1024, 416]⟩
abbrev S416x1024 : Shape := ⟨2, ![416, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2336, .f32⟩
  | .hbm, ⟨2, _⟩ => ⟨S8192x416, .f32⟩
  | .hbm, ⟨3, _⟩ => ⟨S8192x1024, .f32⟩
  | .hbm, ⟨4, _⟩ => ⟨S1024x416, .f32⟩
  | .hbm, ⟨5, _⟩ => ⟨S8192x416, .f32⟩
  | .hbm, ⟨6, _⟩ => ⟨S416x1024, .f32⟩
  | .hbm, ⟨7, _⟩ => ⟨S1024x416, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDwB.lean ====
abbrev S8192x1024 : Shape := ⟨2, ![8192, 1024]⟩
abbrev S1024x1152 : Shape := ⟨2, ![1024, 1152]⟩
abbrev S8192x1152 : Shape := ⟨2, ![8192, 1152]⟩
abbrev S512x1024 : Shape := ⟨2, ![512, 1024]⟩
abbrev S512x384 : Shape := ⟨2, ![512, 384]⟩
abbrev S1024x384 : Shape := ⟨2, ![1024, 384]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1152, .f32⟩
  | .hbm, ⟨2, _⟩ => ⟨S8192x1152, .f32⟩
  | .hbm, ⟨3, _⟩ => ⟨S8192x1024, .bf16⟩
  | .hbm, ⟨4, _⟩ => ⟨S1024x1152, .f32⟩
  | .local _ .vmem, ⟨0, _⟩ => ⟨S512x1024, .bf16⟩
  | .local _ .vmem, ⟨1, _⟩ => ⟨S512x1024, .bf16⟩
  | .local _ .vmem, ⟨2, _⟩ => ⟨S512x384, .f32⟩
  | .local _ .vmem, ⟨3, _⟩ => ⟨S512x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwBIdeal.lean ====
abbrev S8192x1024 : Shape := ⟨2, ![8192, 1024]⟩
abbrev S1024x1152 : Shape := ⟨2, ![1024, 1152]⟩
abbrev S8192x1152 : Shape := ⟨2, ![8192, 1152]⟩
abbrev S512x1024 : Shape := ⟨2, ![512, 1024]⟩
abbrev S512x384 : Shape := ⟨2, ![512, 384]⟩
abbrev S1024x384 : Shape := ⟨2, ![1024, 384]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1152, .f32⟩
  | .hbm, ⟨2, _⟩ => ⟨S8192x1152, .f32⟩
  | .hbm, ⟨3, _⟩ => ⟨S8192x1024, .bf16⟩
  | .hbm, ⟨4, _⟩ => ⟨S1024x1152, .f32⟩
  | .local _ .vmem, ⟨0, _⟩ => ⟨S512x1024, .bf16⟩
  | .local _ .vmem, ⟨1, _⟩ => ⟨S512x1024, .bf16⟩
  | .local _ .vmem, ⟨2, _⟩ => ⟨S512x384, .f32⟩
  | .local _ .vmem, ⟨3, _⟩ => ⟨S512x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwBReferenceIdeal.lean ====
abbrev S8192x1024 : Shape := ⟨2, ![8192, 1024]⟩
abbrev S1024x1152 : Shape := ⟨2, ![1024, 1152]⟩
abbrev S8192x1152 : Shape := ⟨2, ![8192, 1152]⟩
abbrev S1152x1024 : Shape := ⟨2, ![1152, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1152, .f32⟩
  | .hbm, ⟨2, _⟩ => ⟨S8192x1152, .f32⟩
  | .hbm, ⟨3, _⟩ => ⟨S8192x1152, .f32⟩
  | .hbm, ⟨4, _⟩ => ⟨S1152x1024, .f32⟩
  | .hbm, ⟨5, _⟩ => ⟨S1024x1152, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDwC.lean ====
abbrev S8192x1024 : Shape := ⟨2, ![8192, 1024]⟩
abbrev S1024x768 : Shape := ⟨2, ![1024, 768]⟩
abbrev S8192x768 : Shape := ⟨2, ![8192, 768]⟩
abbrev S512x1024 : Shape := ⟨2, ![512, 1024]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | .hbm, ⟨3, _⟩ => ⟨S8192x1024, .bf16⟩
  | .hbm, ⟨4, _⟩ => ⟨S1024x768, .f32⟩
  | .local _ .vmem, ⟨0, _⟩ => ⟨S512x1024, .bf16⟩
  | .local _ .vmem, ⟨1, _⟩ => ⟨S512x1024, .bf16⟩
  | .local _ .vmem, ⟨2, _⟩ => ⟨S512x768, .f32⟩
  | .local _ .vmem, ⟨3, _⟩ => ⟨S512x768, .f32⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwCIdeal.lean ====
abbrev S8192x1024 : Shape := ⟨2, ![8192, 1024]⟩
abbrev S1024x768 : Shape := ⟨2, ![1024, 768]⟩
abbrev S8192x768 : Shape := ⟨2, ![8192, 768]⟩
abbrev S512x1024 : Shape := ⟨2, ![512, 1024]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | .hbm, ⟨3, _⟩ => ⟨S8192x1024, .bf16⟩
  | .hbm, ⟨4, _⟩ => ⟨S1024x768, .f32⟩
  | .local _ .vmem, ⟨0, _⟩ => ⟨S512x1024, .bf16⟩
  | .local _ .vmem, ⟨1, _⟩ => ⟨S512x1024, .bf16⟩
  | .local _ .vmem, ⟨2, _⟩ => ⟨S512x768, .f32⟩
  | .local _ .vmem, ⟨3, _⟩ => ⟨S512x768, .f32⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwCReferenceIdeal.lean ====
abbrev S8192x1024 : Shape := ⟨2, ![8192, 1024]⟩
abbrev S1024x768 : Shape := ⟨2, ![1024, 768]⟩
abbrev S8192x768 : Shape := ⟨2, ![8192, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | .hbm, ⟨3, _⟩ => ⟨S8192x768, .f32⟩
  | .hbm, ⟨4, _⟩ => ⟨S768x1024, .f32⟩
  | .hbm, ⟨5, _⟩ => ⟨S1024x768, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDwA.lean ====
abbrev S8192x1024 : Shape := ⟨2, ![8192, 1024]⟩
abbrev S1024x416 : Shape := ⟨2, ![1024, 416]⟩
abbrev S8192x416 : Shape := ⟨2, ![8192, 416]⟩
abbrev S512x1024 : Shape := ⟨2, ![512, 1024]⟩
abbrev S512x416 : Shape := ⟨2, ![512, 416]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x416, .f32⟩
  | .hbm, ⟨2, _⟩ => ⟨S8192x416, .f32⟩
  | .hbm, ⟨3, _⟩ => ⟨S8192x1024, .bf16⟩
  | .hbm, ⟨4, _⟩ => ⟨S1024x416, .f32⟩
  | .local _ .vmem, ⟨0, _⟩ => ⟨S512x1024, .bf16⟩
  | .local _ .vmem, ⟨1, _⟩ => ⟨S512x1024, .bf16⟩
  | .local _ .vmem, ⟨2, _⟩ => ⟨S512x416, .f32⟩
  | .local _ .vmem, ⟨3, _⟩ => ⟨S512x416, .f32⟩
  | .local _ .vmem, ⟨4, _⟩ => ⟨S1024x416, .f32⟩
  | .local _ .vmem, ⟨5, _⟩ => ⟨S1024x416, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x416 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwAIdeal.lean ====
abbrev S8192x1024 : Shape := ⟨2, ![8192, 1024]⟩
abbrev S1024x416 : Shape := ⟨2, ![1024, 416]⟩
abbrev S8192x416 : Shape := ⟨2, ![8192, 416]⟩
abbrev S512x1024 : Shape := ⟨2, ![512, 1024]⟩
abbrev S512x416 : Shape := ⟨2, ![512, 416]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x416, .f32⟩
  | .hbm, ⟨2, _⟩ => ⟨S8192x416, .f32⟩
  | .hbm, ⟨3, _⟩ => ⟨S8192x1024, .bf16⟩
  | .hbm, ⟨4, _⟩ => ⟨S1024x416, .f32⟩
  | .local _ .vmem, ⟨0, _⟩ => ⟨S512x1024, .bf16⟩
  | .local _ .vmem, ⟨1, _⟩ => ⟨S512x1024, .bf16⟩
  | .local _ .vmem, ⟨2, _⟩ => ⟨S512x416, .f32⟩
  | .local _ .vmem, ⟨3, _⟩ => ⟨S512x416, .f32⟩
  | .local _ .vmem, ⟨4, _⟩ => ⟨S1024x416, .f32⟩
  | .local _ .vmem, ⟨5, _⟩ => ⟨S1024x416, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x416 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwAReferenceIdeal.lean ====
abbrev S8192x1024 : Shape := ⟨2, ![8192, 1024]⟩
abbrev S1024x416 : Shape := ⟨2, ![1024, 416]⟩
abbrev S8192x416 : Shape := ⟨2, ![8192, 416]⟩
abbrev S416x1024 : Shape := ⟨2, ![416, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x416, .f32⟩
  | .hbm, ⟨2, _⟩ => ⟨S8192x416, .f32⟩
  | .hbm, ⟨3, _⟩ => ⟨S8192x416, .f32⟩
  | .hbm, ⟨4, _⟩ => ⟨S416x1024, .f32⟩
  | .hbm, ⟨5, _⟩ => ⟨S1024x416, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Uq.lean ====
abbrev S8192x256 : Shape := ⟨2, ![8192, 256]⟩
abbrev S256x576 : Shape := ⟨2, ![256, 576]⟩
abbrev S8192x576 : Shape := ⟨2, ![8192, 576]⟩
abbrev S1024x256 : Shape := ⟨2, ![1024, 256]⟩
abbrev S1024x576 : Shape := ⟨2, ![1024, 576]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x256, .bf16⟩
  | .hbm, ⟨3, _⟩ => ⟨S256x576, .bf16⟩
  | .hbm, ⟨4, _⟩ => ⟨S8192x576, .f32⟩
  | .local _ .vmem, ⟨0, _⟩ => ⟨S1024x256, .bf16⟩
  | .local _ .vmem, ⟨1, _⟩ => ⟨S1024x256, .bf16⟩
  | .local _ .vmem, ⟨2, _⟩ => ⟨S256x576, .bf16⟩
  | .local _ .vmem, ⟨3, _⟩ => ⟨S1024x576, .f32⟩
  | .local _ .vmem, ⟨4, _⟩ => ⟨S1024x576, .f32⟩
  | .local _ .vmem, ⟨5, _⟩ => ⟨S1024x576, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqIdeal.lean ====
abbrev S8192x256 : Shape := ⟨2, ![8192, 256]⟩
abbrev S256x576 : Shape := ⟨2, ![256, 576]⟩
abbrev S8192x576 : Shape := ⟨2, ![8192, 576]⟩
abbrev S1024x256 : Shape := ⟨2, ![1024, 256]⟩
abbrev S1024x576 : Shape := ⟨2, ![1024, 576]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x256, .bf16⟩
  | .hbm, ⟨3, _⟩ => ⟨S256x576, .bf16⟩
  | .hbm, ⟨4, _⟩ => ⟨S8192x576, .f32⟩
  | .local _ .vmem, ⟨0, _⟩ => ⟨S1024x256, .bf16⟩
  | .local _ .vmem, ⟨1, _⟩ => ⟨S1024x256, .bf16⟩
  | .local _ .vmem, ⟨2, _⟩ => ⟨S256x576, .bf16⟩
  | .local _ .vmem, ⟨3, _⟩ => ⟨S1024x576, .f32⟩
  | .local _ .vmem, ⟨4, _⟩ => ⟨S1024x576, .f32⟩
  | .local _ .vmem, ⟨5, _⟩ => ⟨S1024x576, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqReferenceIdeal.lean ====
abbrev S8192x256 : Shape := ⟨2, ![8192, 256]⟩
abbrev S256x576 : Shape := ⟨2, ![256, 576]⟩
abbrev S8192x576 : Shape := ⟨2, ![8192, 576]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UqDx.lean ====
abbrev S8192x256 : Shape := ⟨2, ![8192, 256]⟩
abbrev S256x576 : Shape := ⟨2, ![256, 576]⟩
abbrev S8192x576 : Shape := ⟨2, ![8192, 576]⟩
abbrev S1024x576 : Shape := ⟨2, ![1024, 576]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | .hbm, ⟨3, _⟩ => ⟨S256x576, .bf16⟩
  | .hbm, ⟨4, _⟩ => ⟨S8192x256, .f32⟩
  | .local _ .vmem, ⟨0, _⟩ => ⟨S1024x576, .f32⟩
  | .local _ .vmem, ⟨1, _⟩ => ⟨S1024x576, .f32⟩
  | .local _ .vmem, ⟨2, _⟩ => ⟨S256x576, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxIdeal.lean ====
abbrev S8192x256 : Shape := ⟨2, ![8192, 256]⟩
abbrev S256x576 : Shape := ⟨2, ![256, 576]⟩
abbrev S8192x576 : Shape := ⟨2, ![8192, 576]⟩
abbrev S1024x576 : Shape := ⟨2, ![1024, 576]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | .hbm, ⟨3, _⟩ => ⟨S256x576, .bf16⟩
  | .hbm, ⟨4, _⟩ => ⟨S8192x256, .f32⟩
  | .local _ .vmem, ⟨0, _⟩ => ⟨S1024x576, .f32⟩
  | .local _ .vmem, ⟨1, _⟩ => ⟨S1024x576, .f32⟩
  | .local _ .vmem, ⟨2, _⟩ => ⟨S256x576, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxReferenceIdeal.lean ====
abbrev S8192x256 : Shape := ⟨2, ![8192, 256]⟩
abbrev S256x576 : Shape := ⟨2, ![256, 576]⟩
abbrev S8192x576 : Shape := ⟨2, ![8192, 576]⟩
abbrev S576x256 : Shape := ⟨2, ![576, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | .hbm, ⟨3, _⟩ => ⟨S8192x576, .f32⟩
  | .hbm, ⟨4, _⟩ => ⟨S576x256, .f32⟩
  | .hbm, ⟨5, _⟩ => ⟨S256x576, .f32⟩
  | .hbm, ⟨6, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UqDw.lean ====
abbrev S8192x256 : Shape := ⟨2, ![8192, 256]⟩
abbrev S256x576 : Shape := ⟨2, ![256, 576]⟩
abbrev S8192x576 : Shape := ⟨2, ![8192, 576]⟩
abbrev S512x256 : Shape := ⟨2, ![512, 256]⟩
abbrev S512x576 : Shape := ⟨2, ![512, 576]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | .hbm, ⟨3, _⟩ => ⟨S8192x256, .bf16⟩
  | .hbm, ⟨4, _⟩ => ⟨S256x576, .f32⟩
  | .local _ .vmem, ⟨0, _⟩ => ⟨S512x256, .bf16⟩
  | .local _ .vmem, ⟨1, _⟩ => ⟨S512x256, .bf16⟩
  | .local _ .vmem, ⟨2, _⟩ => ⟨S512x576, .f32⟩
  | .local _ .vmem, ⟨3, _⟩ => ⟨S512x576, .f32⟩
  | .local _ .vmem, ⟨4, _⟩ => ⟨S256x576, .f32⟩
  | .local _ .vmem, ⟨5, _⟩ => ⟨S256x576, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwIdeal.lean ====
abbrev S8192x256 : Shape := ⟨2, ![8192, 256]⟩
abbrev S256x576 : Shape := ⟨2, ![256, 576]⟩
abbrev S8192x576 : Shape := ⟨2, ![8192, 576]⟩
abbrev S512x256 : Shape := ⟨2, ![512, 256]⟩
abbrev S512x576 : Shape := ⟨2, ![512, 576]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | .hbm, ⟨3, _⟩ => ⟨S8192x256, .bf16⟩
  | .hbm, ⟨4, _⟩ => ⟨S256x576, .f32⟩
  | .local _ .vmem, ⟨0, _⟩ => ⟨S512x256, .bf16⟩
  | .local _ .vmem, ⟨1, _⟩ => ⟨S512x256, .bf16⟩
  | .local _ .vmem, ⟨2, _⟩ => ⟨S512x576, .f32⟩
  | .local _ .vmem, ⟨3, _⟩ => ⟨S512x576, .f32⟩
  | .local _ .vmem, ⟨4, _⟩ => ⟨S256x576, .f32⟩
  | .local _ .vmem, ⟨5, _⟩ => ⟨S256x576, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwReferenceIdeal.lean ====
abbrev S8192x256 : Shape := ⟨2, ![8192, 256]⟩
abbrev S256x576 : Shape := ⟨2, ![256, 576]⟩
abbrev S8192x576 : Shape := ⟨2, ![8192, 576]⟩
abbrev S576x256 : Shape := ⟨2, ![576, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x576, .f32⟩
  | .hbm, ⟨2, _⟩ => ⟨S8192x576, .f32⟩
  | .hbm, ⟨3, _⟩ => ⟨S8192x576, .f32⟩
  | .hbm, ⟨4, _⟩ => ⟨S576x256, .f32⟩
  | .hbm, ⟨5, _⟩ => ⟨S256x576, .f32⟩
  | .hbm, ⟨6, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ukv.lean ====
abbrev S8192x128 : Shape := ⟨2, ![8192, 128]⟩
abbrev S128x768 : Shape := ⟨2, ![128, 768]⟩
abbrev S8192x768 : Shape := ⟨2, ![8192, 768]⟩
abbrev S1024x128 : Shape := ⟨2, ![1024, 128]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x768, .f32⟩
  | .hbm, ⟨2, _⟩ => ⟨S8192x128, .bf16⟩
  | .hbm, ⟨3, _⟩ => ⟨S128x768, .bf16⟩
  | .hbm, ⟨4, _⟩ => ⟨S8192x768, .f32⟩
  | .local _ .vmem, ⟨0, _⟩ => ⟨S1024x128, .bf16⟩
  | .local _ .vmem, ⟨1, _⟩ => ⟨S1024x128, .bf16⟩
  | .local _ .vmem, ⟨2, _⟩ => ⟨S128x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S8192x128 : Shape := ⟨2, ![8192, 128]⟩
abbrev S128x768 : Shape := ⟨2, ![128, 768]⟩
abbrev S8192x768 : Shape := ⟨2, ![8192, 768]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x768, .f32⟩
  | .hbm, ⟨2, _⟩ => ⟨S8192x768, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UkvDx.lean ====
abbrev S8192x128 : Shape := ⟨2, ![8192, 128]⟩
abbrev S128x768 : Shape := ⟨2, ![128, 768]⟩
abbrev S8192x768 : Shape := ⟨2, ![8192, 768]⟩
abbrev S1024x768 : Shape := ⟨2, ![1024, 768]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x768, .f32⟩
  | .hbm, ⟨2, _⟩ => ⟨S8192x768, .f32⟩
  | .hbm, ⟨3, _⟩ => ⟨S128x768, .bf16⟩
  | .hbm, ⟨4, _⟩ => ⟨S8192x128, .f32⟩
  | .local _ .vmem, ⟨0, _⟩ => ⟨S1024x768, .f32⟩
  | .local _ .vmem, ⟨1, _⟩ => ⟨S1024x768, .f32⟩
  | .local _ .vmem, ⟨2, _⟩ => ⟨S128x768, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxReferenceIdeal.lean ====
abbrev S8192x128 : Shape := ⟨2, ![8192, 128]⟩
abbrev S128x768 : Shape := ⟨2, ![128, 768]⟩
abbrev S8192x768 : Shape := ⟨2, ![8192, 768]⟩
abbrev S768x128 : Shape := ⟨2, ![768, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x768, .f32⟩
  | .hbm, ⟨2, _⟩ => ⟨S8192x768, .f32⟩
  | .hbm, ⟨3, _⟩ => ⟨S8192x768, .f32⟩
  | .hbm, ⟨4, _⟩ => ⟨S768x128, .f32⟩
  | .hbm, ⟨5, _⟩ => ⟨S128x768, .f32⟩
  | .hbm, ⟨6, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UkvDw.lean ====
abbrev S8192x128 : Shape := ⟨2, ![8192, 128]⟩
abbrev S128x768 : Shape := ⟨2, ![128, 768]⟩
abbrev S8192x768 : Shape := ⟨2, ![8192, 768]⟩
abbrev S512x128 : Shape := ⟨2, ![512, 128]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x768, .f32⟩
  | .hbm, ⟨2, _⟩ => ⟨S8192x768, .f32⟩
  | .hbm, ⟨3, _⟩ => ⟨S8192x128, .bf16⟩
  | .hbm, ⟨4, _⟩ => ⟨S128x768, .f32⟩
  | .local _ .vmem, ⟨0, _⟩ => ⟨S512x128, .bf16⟩
  | .local _ .vmem, ⟨1, _⟩ => ⟨S512x128, .bf16⟩
  | .local _ .vmem, ⟨2, _⟩ => ⟨S512x768, .f32⟩
  | .local _ .vmem, ⟨3, _⟩ => ⟨S512x768, .f32⟩
  | .local _ .vmem, ⟨4, _⟩ => ⟨S128x768, .f32⟩
  | .local _ .vmem, ⟨5, _⟩ => ⟨S128x768, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwReferenceIdeal.lean ====
abbrev S8192x128 : Shape := ⟨2, ![8192, 128]⟩
abbrev S128x768 : Shape := ⟨2, ![128, 768]⟩
abbrev S8192x768 : Shape := ⟨2, ![8192, 768]⟩
abbrev S768x128 : Shape := ⟨2, ![768, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x768, .f32⟩
  | .hbm, ⟨2, _⟩ => ⟨S8192x768, .f32⟩
  | .hbm, ⟨3, _⟩ => ⟨S8192x768, .f32⟩
  | .hbm, ⟨4, _⟩ => ⟨S768x128, .f32⟩
  | .hbm, ⟨5, _⟩ => ⟨S128x768, .f32⟩
  | .hbm, ⟨6, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormAB.lean ====
abbrev S8192x384 : Shape := ⟨2, ![8192, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S1x384, .f32⟩
  | .hbm, ⟨3, _⟩ => ⟨S8192x384, .bf16⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormABIdeal.lean ====
abbrev S8192x384 : Shape := ⟨2, ![8192, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S1x384, .f32⟩
  | .hbm, ⟨3, _⟩ => ⟨S8192x384, .bf16⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormABReferenceIdeal.lean ====
abbrev S8192x384 : Shape := ⟨2, ![8192, 384]⟩
abbrev S384 : Shape := ⟨1, ![384]⟩
abbrev S_ : Shape := ⟨0, ![]⟩
abbrev S8192 : Shape := ⟨1, ![8192]⟩
abbrev S8192x1 : Shape := ⟨2, ![8192, 1]⟩
abbrev S1x384 : Shape := ⟨2, ![1, 384]⟩

abbrev nBuf : Space → Nat
  | .hbm => 19
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x384, .f32⟩
  | .hbm, ⟨14, _⟩ => ⟨S8192x384, .f32⟩
  | .hbm, ⟨15, _⟩ => ⟨S1x384, .f32⟩
  | .hbm, ⟨16, _⟩ => ⟨S8192x384, .f32⟩
  | .hbm, ⟨17, _⟩ => ⟨S8192x384, .f32⟩
  | .hbm, ⟨18, _⟩ => ⟨S8192x384, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormC.lean ====
abbrev S8192x256 : Shape := ⟨2, ![8192, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S1x256, .f32⟩
  | .hbm, ⟨3, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormCIdeal.lean ====
abbrev S8192x256 : Shape := ⟨2, ![8192, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S1x256, .f32⟩
  | .hbm, ⟨3, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormCReferenceIdeal.lean ====
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormKv.lean ====
abbrev S8192x128 : Shape := ⟨2, ![8192, 128]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S1x128, .f32⟩
  | .hbm, ⟨3, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .bf16⟩
  | .local _ .vmem, ⟨4, _⟩ => ⟨S512x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormKvReferenceIdeal.lean ====
abbrev S8192x128 : Shape := ⟨2, ![8192, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S8192x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dnorm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormIdeal.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DnormAB.lean ====
abbrev S8192x384 : Shape := ⟨2, ![8192, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S1x384, .f32⟩
  | .hbm, ⟨4, _⟩ => ⟨S8192x384, .f32⟩
  | .hbm, ⟨5, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S1x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormABIdeal.lean ====
abbrev S8192x384 : Shape := ⟨2, ![8192, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S1x384, .f32⟩
  | .hbm, ⟨4, _⟩ => ⟨S8192x384, .f32⟩
  | .hbm, ⟨5, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S1x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormABReferenceIdeal.lean ====
abbrev S8192x384 : Shape := ⟨2, ![8192, 384]⟩
abbrev S384 : Shape := ⟨1, ![384]⟩
abbrev S_ : Shape := ⟨0, ![]⟩
abbrev S8192 : Shape := ⟨1, ![8192]⟩
abbrev S8192x1 : Shape := ⟨2, ![8192, 1]⟩
abbrev S1x384 : Shape := ⟨2, ![1, 384]⟩

abbrev nBuf : Space → Nat
  | .hbm => 49
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S8192x384, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x384, .f32⟩
  | .hbm, ⟨19, _⟩ => ⟨S8192x384, .f32⟩
  | .hbm, ⟨20, _⟩ => ⟨S1x384, .f32⟩
  | .hbm, ⟨21, _⟩ => ⟨S8192x384, .f32⟩
  | .hbm, ⟨22, _⟩ => ⟨S8192x384, .f32⟩
  | .hbm, ⟨23, _⟩ => ⟨S8192x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S8192x384, .f32⟩
  | .hbm, ⟨28, _⟩ => ⟨S8192x384, .f32⟩
  | .hbm, ⟨29, _⟩ => ⟨S_, .f32⟩
  | .hbm, ⟨30, _⟩ => ⟨S384, .f32⟩
  | .hbm, ⟨31, _⟩ => ⟨S8192x384, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x384, .f32⟩
  | .hbm, ⟨36, _⟩ => ⟨S8192x384, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x384, .f32⟩
  | .hbm, ⟨44, _⟩ => ⟨S8192x384, .f32⟩
  | .hbm, ⟨45, _⟩ => ⟨S8192x384, .f32⟩
  | .hbm, ⟨46, _⟩ => ⟨S8192x384, .f32⟩
  | .hbm, ⟨47, _⟩ => ⟨S8192x384, .f32⟩
  | .hbm, ⟨48, _⟩ => ⟨S1x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DnormC.lean ====
abbrev S8192x256 : Shape := ⟨2, ![8192, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S1x256, .f32⟩
  | .hbm, ⟨4, _⟩ => ⟨S8192x256, .f32⟩
  | .hbm, ⟨5, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormCIdeal.lean ====
abbrev S8192x256 : Shape := ⟨2, ![8192, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S1x256, .f32⟩
  | .hbm, ⟨4, _⟩ => ⟨S8192x256, .f32⟩
  | .hbm, ⟨5, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormCReferenceIdeal.lean ====
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S256, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DnormKv.lean ====
abbrev S8192x128 : Shape := ⟨2, ![8192, 128]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S8192x128, .f32⟩
  | .hbm, ⟨3, _⟩ => ⟨S1x128, .f32⟩
  | .hbm, ⟨4, _⟩ => ⟨S8192x128, .f32⟩
  | .hbm, ⟨5, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DnormKvReferenceIdeal.lean ====
abbrev S8192x128 : Shape := ⟨2, ![8192, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x128, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S128, .f32⟩
  | .hbm, ⟨31, _⟩ => ⟨S8192x128, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x128, .f32⟩
  | .hbm, ⟨36, _⟩ => ⟨S8192x128, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Adam.lean ====
abbrev S8x5904x1024 : Shape := ⟨3, ![8, 5904, 1024]⟩
abbrev S5904x1024 : Shape := ⟨2, ![5904, 1024]⟩
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x5904x1024, .bf16⟩
  | .hbm, ⟨1, _⟩ => ⟨S5904x1024, .f32⟩
  | .hbm, ⟨2, _⟩ => ⟨S5904x1024, .f32⟩
  | .hbm, ⟨3, _⟩ => ⟨S5904x1024, .f32⟩
  | .hbm, ⟨4, _⟩ => ⟨S5904x1024, .f32⟩
  | .hbm, ⟨5, _⟩ => ⟨S5904x1024, .f32⟩
  | .hbm, ⟨6, _⟩ => ⟨S5904x1024, .f32⟩
  | .hbm, ⟨7, _⟩ => ⟨S5904x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | _, _ => ⟨S8x5904x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![41], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
abbrev S8x5904x1024 : Shape := ⟨3, ![8, 5904, 1024]⟩
abbrev S5904x1024 : Shape := ⟨2, ![5904, 1024]⟩
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x5904x1024, .bf16⟩
  | .hbm, ⟨1, _⟩ => ⟨S5904x1024, .f32⟩
  | .hbm, ⟨2, _⟩ => ⟨S5904x1024, .f32⟩
  | .hbm, ⟨3, _⟩ => ⟨S5904x1024, .f32⟩
  | .hbm, ⟨4, _⟩ => ⟨S5904x1024, .f32⟩
  | .hbm, ⟨5, _⟩ => ⟨S5904x1024, .f32⟩
  | .hbm, ⟨6, _⟩ => ⟨S5904x1024, .f32⟩
  | .hbm, ⟨7, _⟩ => ⟨S5904x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | _, _ => ⟨S8x5904x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![41], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x5904x1024 : Shape := ⟨3, ![8, 5904, 1024]⟩
abbrev S5904x1024 : Shape := ⟨2, ![5904, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x5904x1024, .bf16⟩
  | .hbm, ⟨1, _⟩ => ⟨S5904x1024, .f32⟩
  | .hbm, ⟨2, _⟩ => ⟨S5904x1024, .f32⟩
  | .hbm, ⟨3, _⟩ => ⟨S5904x1024, .f32⟩
  | .hbm, ⟨4, _⟩ => ⟨S8x5904x1024, .f32⟩
  | .hbm, ⟨5, _⟩ => ⟨S_, .f32⟩
  | .hbm, ⟨6, _⟩ => ⟨S5904x1024, .f32⟩
  | .hbm, ⟨7, _⟩ => ⟨S_, .f32⟩
  | .hbm, ⟨8, _⟩ => ⟨S5904x1024, .f32⟩
  | .hbm, ⟨9, _⟩ => ⟨S5904x1024, .f32⟩
  | .hbm, ⟨10, _⟩ => ⟨S_, .f32⟩
  | .hbm, ⟨11, _⟩ => ⟨S5904x1024, .f32⟩
  | .hbm, ⟨12, _⟩ => ⟨S5904x1024, .f32⟩
  | .hbm, ⟨13, _⟩ => ⟨S5904x1024, .f32⟩
  | .hbm, ⟨14, _⟩ => ⟨S_, .f32⟩
  | .hbm, ⟨15, _⟩ => ⟨S5904x1024, .f32⟩
  | .hbm, ⟨16, _⟩ => ⟨S5904x1024, .f32⟩
  | .hbm, ⟨17, _⟩ => ⟨S5904x1024, .f32⟩
  | .hbm, ⟨18, _⟩ => ⟨S_, .f32⟩
  | .hbm, ⟨19, _⟩ => ⟨S5904x1024, .f32⟩
  | .hbm, ⟨20, _⟩ => ⟨S5904x1024, .f32⟩
  | .hbm, ⟨21, _⟩ => ⟨S5904x1024, .f32⟩
  | .hbm, ⟨22, _⟩ => ⟨S_, .f32⟩
  | .hbm, ⟨23, _⟩ => ⟨S5904x1024, .f32⟩
  | .hbm, ⟨24, _⟩ => ⟨S5904x1024, .f32⟩
  | .hbm, ⟨25, _⟩ => ⟨S_, .f32⟩
  | .hbm, ⟨26, _⟩ => ⟨S5904x1024, .f32⟩
  | .hbm, ⟨27, _⟩ => ⟨S5904x1024, .f32⟩
  | .hbm, ⟨28, _⟩ => ⟨S5904x1024, .f32⟩
  | .hbm, ⟨29, _⟩ => ⟨S_, .f32⟩
  | .hbm, ⟨30, _⟩ => ⟨S5904x1024, .f32⟩
  | .hbm, ⟨31, _⟩ => ⟨S5904x1024, .f32⟩
  | .hbm, ⟨32, _⟩ => ⟨S5904x1024, .f32⟩
  | .hbm, ⟨33, _⟩ => ⟨S_, .f32⟩
  | .hbm, ⟨34, _⟩ => ⟨S5904x1024, .f32⟩
  | .hbm, ⟨35, _⟩ => ⟨S5904x1024, .f32⟩
  | .hbm, ⟨36, _⟩ => ⟨S5904x1024, .f32⟩
  | .hbm, ⟨37, _⟩ => ⟨S_, .f32⟩
  | .hbm, ⟨38, _⟩ => ⟨S5904x1024, .f32⟩
  | .hbm, ⟨39, _⟩ => ⟨S5904x1024, .f32⟩
  | _, _ => ⟨S8x5904x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S8x24x1024 : Shape := ⟨3, ![8, 24, 1024]⟩
abbrev S24x1024 : Shape := ⟨2, ![24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Band1.lean ====
abbrev S8192x6x64 : Shape := ⟨3, ![8192, 6, 64]⟩
abbrev S8192x1x6x64 : Shape := ⟨4, ![8192, 1, 6, 64]⟩
abbrev S1x6x8192x64 : Shape := ⟨4, ![1, 6, 8192, 64]⟩
abbrev S6x8192x64 : Shape := ⟨3, ![6, 8192, 64]⟩
abbrev S_ : Shape := ⟨0, ![]⟩
abbrev S6x8320x64 : Shape := ⟨3, ![6, 8320, 64]⟩
abbrev S6x8192x1 : Shape := ⟨3, ![6, 8192, 1]⟩
abbrev S1x1024x64 : Shape := ⟨3, ![1, 1024, 64]⟩
abbrev S1x8320x64 : Shape := ⟨3, ![1, 8320, 64]⟩
abbrev S1x1024x1 : Shape := ⟨3, ![1, 1024, 1]⟩
abbrev S1x384x64 : Shape := ⟨3, ![1, 384, 64]⟩
abbrev S384x64 : Shape := ⟨2, ![384, 64]⟩
abbrev S1x256x64 : Shape := ⟨3, ![1, 256, 64]⟩
abbrev S256x64 : Shape := ⟨2, ![256, 64]⟩
abbrev S256x384 : Shape := ⟨2, ![256, 384]⟩
abbrev S256x1 : Shape := ⟨2, ![256, 1]⟩
abbrev S1x384 : Shape := ⟨2, ![1, 384]⟩
abbrev S256 : Shape := ⟨1, ![256]⟩
abbrev S1x256x1 : Shape := ⟨3, ![1, 256, 1]⟩

abbrev nBuf : Space → Nat
  | .hbm => 23
  | .vmem => 10
  | .smem => 0
  | _ => 0

abbrev bufTy : (tb : Table) → Fin (tcTables nBuf tb) → BufTy
  | .hbm, ⟨0, _⟩ => ⟨S8192x6x64, .f32⟩
  | .hbm, ⟨1, _⟩ => ⟨S8192x6x64, .f32⟩
  | .hbm, ⟨2, _⟩ => ⟨S8192x6x64, .f32⟩
  | .hbm, ⟨3, _⟩ => ⟨S8192x6x64, .bf16⟩
  | .hbm, ⟨4, _⟩ => ⟨S8192x1x6x64, .bf16⟩
  | .hbm, ⟨5, _⟩ => ⟨S1x6x8192x64, .bf16⟩
  | .hbm, ⟨6, _⟩ => ⟨S6x8192x64, .bf16⟩
  | .hbm, ⟨7, _⟩ => ⟨S8192x6x64, .bf16⟩
  | .hbm, ⟨8, _⟩ => ⟨S8192x1x6x64, .bf16⟩
  | .hbm, ⟨9, _⟩ => ⟨S1x6x8192x64, .bf16⟩
  | .hbm, ⟨10, _⟩ => ⟨S6x8192x64, .bf16⟩
  | .hbm, ⟨11, _⟩ => ⟨S8192x6x64, .bf16⟩
  | .hbm, ⟨12, _⟩ => ⟨S8192x1x6x64, .bf16⟩
  | .hbm, ⟨13, _⟩ => ⟨S1x6x8192x64, .bf16⟩
  | .hbm, ⟨14, _⟩ => ⟨S6x8192x64, .bf16⟩
  | .hbm, ⟨15, _⟩ => ⟨S_, .i32⟩
  | .hbm, ⟨16, _⟩ => ⟨S_, .bf16⟩
  | .hbm, ⟨17, _⟩ => ⟨S6x8320x64, .bf16⟩
  | .hbm, ⟨18, _⟩ => ⟨S_, .i32⟩
  | .hbm, ⟨19, _⟩ => ⟨S_, .bf16⟩
  | .hbm, ⟨20, _⟩ => ⟨S6x8320x64, .bf16⟩
  | .hbm, ⟨21, _⟩ => ⟨S6x8192x64, .f32⟩
  | .hbm, ⟨22, _⟩ => ⟨S6x8192x1, .f32⟩
  | .local _ .vmem, ⟨0, _⟩ => ⟨S1x1024x64, .bf16⟩
  | .local _ .vmem, ⟨1, _⟩ => ⟨S1x1024x64, .bf16⟩
  | .local _ .vmem, ⟨2, _⟩ => ⟨S1x8320x64, .bf16⟩
  | .local _ .vmem, ⟨3, _⟩ => ⟨S1x8320x64, .bf16⟩
  | .local _ .vmem, ⟨4, _⟩ => ⟨S1x8320x64, .bf16⟩
  | .local _ .vmem, ⟨5, _⟩ => ⟨S1x8320x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | _, _ => ⟨S8192x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v4 : Index := Scalar.indexCast v2
  let c0_0 : Index := 0#32
  ![0, v4.toNat, 0]
def k0_mult2 (i : grid0.Coords) : BitVec 32 :=
  let arg1 : BitVec 32 := BitVec.ofNat 32 (i 1).val
  let c1024_i32_19 : BitVec 32 := 1024#32
  let v58 : BitVec 32 := Scalar.muli arg1 c1024_i32_19
  let c256_i32 : BitVec 32 := 256#32
  let v59 : BitVec 32 := Scalar.addi v58 c256_i32
  v59
def k0_mult3 (i : grid0.Coords) : BitVec 32 :=
  let arg1 : BitVec 32 := BitVec.ofNat 32 (i 1).val
  let c1024_i32_43 : BitVec 32 := 1024#32
  let v116 : BitVec 32 := Scalar.muli arg1 c1024_i32_43
  let c512_i32 : BitVec 32 := 512#32
  let v117 : BitVec 32 := Scalar.addi v116 c512_i32
  v117
def k0_mult4 (i : grid0.Coords) : BitVec 32 :=
  let arg1 : BitVec 32 := BitVec.ofNat 32 (i 1).val
  let c1024_i32_67 : BitVec 32 := 1024#32
  let v174 : BitVec 32 := Scalar.muli arg1 c1024_i32_67
  let c768_i32 : BitVec 32 := 768#32
  let v175 : BitVec 32 := Scalar.addi v174 c768_i32
  v175
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8320x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8320x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Band1Ideal.lean ====
variable {F : FTy → Type} [FloatOps F] [Named F]
def κ : String → Option EReal := fun
  | "mask" => some ⊥
  | _ => none
-- ==== Band1ReferenceIdeal.lean ====
abbrev S8192x6x64 : Shape := ⟨3, ![8192, 6, 64]⟩
abbrev S8192x1x6x64 : Shape := ⟨4, ![8192, 1, 6, 64]⟩
abbrev S1x8192x6x64 : Shape := ⟨4, ![1, 8192, 6, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x6x8192x8192 : Shape := ⟨4, ![1, 6, 8192, 8192]⟩
abbrev S1x6x8192 : Shape := ⟨3, ![1, 6, 8192]⟩
abbrev S1x6x8192x1 : Shape := ⟨4, ![1, 6, 8192, 1]⟩
abbrev S1x6x8192x64 : Shape := ⟨4, ![1, 6, 8192, 64]⟩
abbrev S6x8192x64 : Shape := ⟨3, ![6, 8192, 64]⟩
abbrev S6x8192x1 : Shape := ⟨3, ![6, 8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x6x64, .f32⟩
  | .hbm, ⟨1, _⟩ => ⟨S8192x6x64, .f32⟩
  | .hbm, ⟨2, _⟩ => ⟨S8192x6x64, .f32⟩
  | .hbm, ⟨3, _⟩ => ⟨S8192x1x6x64, .f32⟩
  | .hbm, ⟨4, _⟩ => ⟨S1x8192x6x64, .f32⟩
  | .hbm, ⟨5, _⟩ => ⟨S8192x1x6x64, .f32⟩
  | .hbm, ⟨6, _⟩ => ⟨S1x8192x6x64, .f32⟩
  | .hbm, ⟨7, _⟩ => ⟨S8192x1x6x64, .f32⟩
  | .hbm, ⟨8, _⟩ => ⟨S1x8192x6x64, .f32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S1x6x8192x8192, .f32⟩
  | .hbm, ⟨20, _⟩ => ⟨S_, .f32⟩
  | .hbm, ⟨21, _⟩ => ⟨S1x6x8192x8192, .f32⟩
  | .hbm, ⟨22, _⟩ => ⟨S1x6x8192x8192, .f32⟩
  | .hbm, ⟨23, _⟩ => ⟨S_, .f32⟩
  | .hbm, ⟨24, _⟩ => ⟨S_, .f32⟩
  | .hbm, ⟨25, _⟩ => ⟨S1x6x8192x8192, .i1⟩
  | .hbm, ⟨26, _⟩ => ⟨S1x6x8192x8192, .f32⟩
  | .hbm, ⟨27, _⟩ => ⟨S1x6x8192x8192, .f32⟩
  | .hbm, ⟨28, _⟩ => ⟨S_, .f32⟩
  | .hbm, ⟨29, _⟩ => ⟨S1x6x8192, .f32⟩
  | .hbm, ⟨30, _⟩ => ⟨S1x6x8192x1, .f32⟩
  | .hbm, ⟨31, _⟩ => ⟨S1x6x8192x8192, .f32⟩
  | .hbm, ⟨32, _⟩ => ⟨S1x6x8192x8192, .f32⟩
  | .hbm, ⟨33, _⟩ => ⟨S1x6x8192x8192, .f32⟩
  | .hbm, ⟨34, _⟩ => ⟨S_, .f32⟩
  | .hbm, ⟨35, _⟩ => ⟨S1x6x8192, .f32⟩
  | .hbm, ⟨36, _⟩ => ⟨S1x6x8192x1, .f32⟩
  | .hbm, ⟨37, _⟩ => ⟨S1x6x8192x64, .f32⟩
  | .hbm, ⟨38, _⟩ => ⟨S1x6x8192x64, .f32⟩
  | .hbm, ⟨39, _⟩ => ⟨S1x6x8192x64, .f32⟩
  | .hbm, ⟨40, _⟩ => ⟨S1x6x8192x1, .f32⟩
  | .hbm, ⟨41, _⟩ => ⟨S1x6x8192x1, .f32⟩
  | .hbm, ⟨42, _⟩ => ⟨S6x8192x64, .f32⟩
  | .hbm, ⟨43, _⟩ => ⟨S6x8192x1, .f32⟩
  | _, _ => ⟨S8192x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Spec.lean ====
/- Attention of one head and its gradient over the reals, as sums over the whole sequence: what both programs compute
   where every argument is a real number. Beside the definitions, the two facts of algebra that join the programs: the
   tiled accumulation of the weights with a moving maximum gives the same quotient for whichever maximum, and the weighted
   mean of the row of products is the product of the output with the cotangent. -/
module

public import Idealize.ShloMosaic.PureOps.Ideal.Laws

@[expose] public section

noncomputable section

namespace Cert.Att

open Finset

/-! ## Sums of tiles -/

/-- A sum over `m` tiles of `n` terms each is the sum over all `m * n` terms. -/
theorem sum_tiles (f : ℕ → ℝ) (n m : ℕ) :
    ∑ t ∈ range m, ∑ r ∈ range n, f (n * t + r) = ∑ j ∈ range (n * m), f j := by
  induction m with
  | zero => simp
  | succ m ih => rw [sum_range_succ, ih, Nat.mul_succ, sum_range_add]

/-! ## The extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ## One head -/

section Head

variable {n d e : ℕ} (σ : ℝ) (q k : Fin n → Fin d → ℝ) (v g : Fin n → Fin e → ℝ)

/-- The scaled product of query `i` with key `j`. -/
def sc (i j : Fin n) : ℝ := (∑ x, q i x * k j x) * σ
/-- The sum of the exponentials of query `i`'s row. -/
def den (i : Fin n) : ℝ := ∑ j, Real.exp (sc σ q k i j)
/-- The weight of key `j` for query `i`. -/
def wt (i j : Fin n) : ℝ := Real.exp (sc σ q k i j) / den σ q k i
/-- The output of query `i`. -/
def out (i : Fin n) (x : Fin e) : ℝ := ∑ j, wt σ q k i j * v j x
/-- The cotangent of the weight of key `j` for query `i`. -/
def dwt (i j : Fin n) : ℝ := ∑ x, v j x * g i x
/-- The product of query `i`'s output with its cotangent. -/
def delta (i : Fin n) : ℝ := ∑ x, g i x * out σ q k v i x
/-- The cotangent of the product of query `i` with key `j`. -/
def dsc (i j : Fin n) : ℝ := wt σ q k i j * (dwt v g i j - delta σ q k v g i) * σ
def dq (i : Fin n) (x : Fin d) : ℝ := ∑ j, k j x * dsc σ q k v g i j
def dk (j : Fin n) (x : Fin d) : ℝ := ∑ i, dsc σ q k v g i j * q i x
def dv (j : Fin n) (x : Fin e) : ℝ := ∑ i, wt σ q k i j * g i x

theorem den_pos (i : Fin n) : 0 < den σ q k i :=
  sum_pos (fun _ _ => Real.exp_pos _) ⟨i, mem_univ _⟩

/-- The mean of the cotangents of a row's weights, under the weights, is the product of the output with its cotangent. -/
theorem sum_wt_dwt (i : Fin n) : ∑ j, wt σ q k i j * dwt v g i j = delta σ q k v g i := by
  simp only [delta, out, dwt, mul_sum]
  rw [sum_comm]
  exact sum_congr rfl fun x _ => sum_congr rfl fun j _ => by ring

/-! ## The weights from a shifted row -/

section Shift

variable (i : Fin n) (μ : ℝ)

/-- The exponential of a product less any shift, scaled. -/
theorem exp_shift (j : Fin n) :
    Real.exp ((∑ x, q i x * k j x - μ) * σ) = Real.exp (sc σ q k i j) * Real.exp (-(μ * σ)) := by
  rw [← Real.exp_add, sc]; congr 1; ring

theorem sum_exp_shift : ∑ j, Real.exp ((∑ x, q i x * k j x - μ) * σ) = den σ q k i * Real.exp (-(μ * σ)) := by
  rw [den, sum_mul]; exact sum_congr rfl fun j _ => exp_shift σ q k i μ j

/-- The quotient of the two sums of a row is the output, whatever the shift. -/
theorem quot_shift (x : Fin e) :
    (∑ j, Real.exp ((∑ y, q i y * k j y - μ) * σ) * v j x) / (∑ j, Real.exp ((∑ y, q i y * k j y - μ) * σ))
      = out σ q k v i x := by
  have h1 := (den_pos σ q k i).ne'
  have h2 := (Real.exp_pos (-(μ * σ))).ne'
  rw [sum_exp_shift, div_eq_iff (mul_ne_zero h1 h2), out, sum_mul]
  refine sum_congr rfl fun j _ => ?_
  rw [exp_shift, wt]; field_simp

/-- The shift and the logarithm of the shifted sum give the logarithm of the sum. -/
theorem log_shift : μ * σ + Real.log (∑ j, Real.exp ((∑ y, q i y * k j y - μ) * σ)) = Real.log (den σ q k i) := by
  rw [sum_exp_shift, Real.log_mul (den_pos σ q k i).ne' (Real.exp_pos _).ne', Real.log_exp]; ring

/-- The weight is the exponential of the product less the logarithm of the sum. -/
theorem exp_sub_log (j : Fin n) : Real.exp (sc σ q k i j - Real.log (den σ q k i)) = wt σ q k i j := by
  rw [Real.exp_sub, Real.exp_log (den_pos σ q k i), wt]

end Shift

end Head

end Cert.Att

end
-- ==== Proof.Consts.lean ====
/- The scale and the named constant at the ideal values, and the exponential to base two of a product by the first. -/
module

public import proofs.«01_k».proof.Proof.Gen.KernelIdeal.Skeleton
public import Idealize.ShloMosaic.PureOps.IdealRules
public import Idealize.ShloMosaic.PureOps.Ideal.Laws

@[expose] public section

noncomputable section

namespace Cert.Att

open Idealize.ShloMosaic Cert.KernelIdeal

/-- The scale of the products, the value of the constant both programs hold. -/
def σ : ℝ := 3424635 / 33554432

/-- The scale for powers of two. -/
def σ₂ : ℝ := σ * (Real.log 2)⁻¹

theorem scale_eq : (Ideal.ofBits .f32 0x3DD105EC#32 : EReal) = ((σ : ℝ) : EReal) := by
  rw [σ]
  simp [Ideal.ofBits, Ideal.ieee, -EReal.coe_mul]
  norm_num

theorem to_log2_eq : (Named.named (F := Ideal) κ "to_log2" (φ := .f32) 0x3E16C740#32 : EReal)
    = ((σ₂ : ℝ) : EReal) :=
  IdealRules.named_const.ideal_named_scalar _ _ _ _ rfl

theorem exp2_to_log2 (x : ℝ) : Ideal.exp2 ((x : EReal) * ((σ₂ : ℝ) : EReal)) = (Real.exp (x * σ) : ℝ) := by
  rw [← EReal.coe_mul, Ideal.exp2_coe]
  congr 1
  rw [σ₂]
  refine (Real.rpow_def_of_pos two_pos _).trans ?_
  congr 1
  have : Real.log 2 ≠ 0 := (Real.log_pos one_lt_two).ne'
  field_simp

end Cert.Att

end
-- ==== Proof.FwdPay.lean ====
module

public import proofs.«01_k».proof.Proof.Spec
public import proofs.«01_k».proof.Proof.Gen.KernelIdeal.Skeleton
public import Idealize.ShloMosaic.Lib.Pointwise

@[expose] public section

noncomputable section

namespace Cert.Att.Fwd

open Idealize.ShloMosaic Cert.KernelIdeal Cert.KernelIdeal.Gen

theorem s_apply (q : Vec Ideal S1x512x96 .bf16) (k : Vec Ideal S1x2048x96 .bf16) (r : Fin 512) (j : Fin 2048) :
    k0_pay3 q k (ix2 r j) = ∑ x : Fin 96, q (ix3 0 r x) * k (ix3 0 j x) := by
  pointwise [k0_pay3]

/-- The larger of a real number and the largest of a family of real numbers is a real number. -/
theorem max_fold_real {ι : Type*} (s : Finset ι) (f : ι → EReal) (hf : ∀ i, ∃ y : ℝ, f i = y) (x : ℝ) :
    ∃ y : ℝ, max (x : EReal) (s.fold max (⊥ : EReal) f) = y := by
  classical
  induction s using Finset.induction_on generalizing x with
  | empty => exact ⟨x, by simp⟩
  | insert a s ha ih =>
    obtain ⟨y, hy⟩ := hf a
    obtain ⟨z, hz⟩ := ih (max x y)
    exact ⟨z, by rw [Finset.fold_insert ha, hy, ← max_assoc, ← hz]; congr 1⟩

theorem maximumf_idx {s : Shape} (x y : FVec Ideal s .f32) (r : s.Idx) : maximumf x y r = max (x r : EReal) (y r) := rfl

theorem shapeCast_idx {s t : Shape} {α : Type} (x : s.Idx → α) (h : s.ShapeCasts t) (r : t.Idx) :
    shapeCast t x h r = x (Shape.reshapeEquiv h r) := rfl

theorem bot_f32 : (FloatOps.ofBits (F := Ideal) .f32 0xFF800000#32 : EReal) = ⊥ := by
  show Ideal.ofBits .f32 0xFF800000#32 = ⊥
  simp [Ideal.ofBits, Ideal.ieee]

/-- The maximum is a real number where the one before and the products are. -/
theorem m_real (q : Vec Ideal S1x512x96 .bf16) (m : FVec Ideal S512x1 .f32) (k : Vec Ideal S1x2048x96 .bf16)
    (hs : ∀ i, ∃ y : ℝ, k0_pay3 q k i = (y : EReal)) (r : S512x1.Idx) (x : ℝ) (hx : m r = (x : EReal)) :
    ∃ y : ℝ, k0_pay4 q m k r = (y : EReal) := by
  obtain ⟨y, hy⟩ := max_fold_real Finset.univ (k0_pay3 q k ∘ (reduces_S512x2048_S512).lift
    (Shape.reshapeEquiv shapeCasts_S512_S512x1 r)) (fun i => hs _) x
  refine ⟨y, ?_⟩
  unfold k0_pay4
  dsimp only
  generalize k0_pay3 q k = p at *
  rw [maximumf_idx, shapeCast_idx, hx, ← hy]
  refine congrArg (max (x : EReal)) ?_
  refine (Ideal.multiReduction_maximumf_single p 0xFF800000#32 reduces_S512x2048_S512 (.inl rfl) rfl _).trans ?_
  rw [bot_f32]

theorem acc_apply (q : Vec Ideal S1x512x96 .bf16) (m : FVec Ideal S512x1 .f32) (a : FVec Ideal S512x128 .f32)
    (k : Vec Ideal S1x2048x96 .bf16) (v : Vec Ideal S1x2048x128 .bf16) (r : Fin 512) (x : Fin 128) :
    k0_pay5 q m a k v (ix2 r x)
      = Ideal.exp2 ((m (ix2 r 0) - k0_pay4 q m k (ix2 r 0)) * (Named.named (F := Ideal) κ "to_log2" (φ := .f32) 0x3E16C740#32 : EReal))
          * a (ix2 r x)
        + ∑ j, Ideal.exp2 ((k0_pay3 q k (ix2 r j) - k0_pay4 q m k (ix2 r 0))
            * (Named.named (F := Ideal) κ "to_log2" (φ := .f32) 0x3E16C740#32 : EReal)) * v (ix3 0 j x) := by
  pointwise [k0_pay5]
  rfl

theorem o_apply (a : FVec Ideal S512x128 .f32) (r : Fin 512) (x : Fin 64) :
    k0_pay7 a (ix3 0 r x) = Ideal.div (a (ix2 r ⟨x, by omega⟩)) (a (ix2 r 64)) := by
  pointwise [k0_pay7, k0_pay6]

theorem lse_apply (m : FVec Ideal S512x1 .f32) (a : FVec Ideal S512x128 .f32) (r : Fin 512) :
    k0_pay8 m a (ix3 0 r 0)
      = m (ix2 r 0) * (Ideal.ofBits .f32 0x3DD105EC#32 : EReal) + Ideal.log (a (ix2 r 64)) := by
  pointwise [k0_pay8, k0_pay6]

theorem m0_apply (r : Fin 512) : k0_pay1 (F := Ideal) (ix2 r 0) = Ideal.ofBits .f32 0xF149F2CA#32 := by
  pointwise [k0_pay1]

theorem acc0_apply (r : Fin 512) (x : Fin 128) : k0_pay2 (F := Ideal) (ix2 r x) = 0 := by
  pointwise [k0_pay2]

end Cert.Att.Fwd

end
-- ==== Proof.FwdRun.lean ====
module

public import proofs.«01_k».proof.Proof.Gen.KernelIdeal.Frame
public import Idealize.ShloMosaic.Lib.Pipeline.Value

@[expose] public section

noncomputable section

namespace Cert.Att.Fwd

open Idealize.ShloMosaic Idealize.ShloMosaic.TcCoe Cert.KernelIdeal Cert.KernelIdeal.Gen

variable {F : FTy → Type} [FloatOps F] [Named F]

/-- The keys of tile `j`. -/
abbrev tileK (x : Vec F S1x8192x96 .bf16) (j : Fin k0_t1_loop.trips) : Vec F S1x2048x96 .bf16 :=
  View.ld x (Rect.unit (s := S1x8192x96) (k0_off1 j) S1x2048x96.size (k0_off1_inb j))
/-- The widened values of tile `j`. -/
abbrev tileV (x : Vec F S1x8192x128 .bf16) (j : Fin k0_t1_loop.trips) : Vec F S1x2048x128 .bf16 :=
  View.ld x (Rect.unit (s := S1x8192x128) (k0_off2 j) S1x2048x128.size (k0_off2_inb j))

theorem trip_eq (c : Dev nD) (i : grid0.Coords) (arg2 : Memref sig .tc .vmem S1x512x96 .bf16) (harg2 : arg2.IsWhole)
    (arg3 : Memref sig .tc .vmem S1x8192x96 .bf16) (harg3 : arg3.IsWhole) (arg4 : Memref sig .tc .vmem S1x8192x128 .bf16)
    (harg4 : arg4.IsWhole) (arg5 : Memref sig .tc .vmem S1x512x64 .f32) (harg5 : arg5.IsWhole)
    (arg6 : Memref sig .tc .vmem S1x512x1 .f32) (harg6 : arg6.IsWhole) (q : Vec F S1x512x96 .bf16)
    (k : Vec F S1x8192x96 .bf16) (v : Vec F S1x8192x128 .bf16) (j : Fin k0_t1_loop.trips)
    (s : FVec F S512x1 .f32 × FVec F S512x128 .f32) :
    tripR_k0_t1 Variants.none c none i arg2 harg2 arg3 harg3 arg4 harg4 arg5 harg5 arg6 harg6 q (harg3.unread k)
        (harg4.unread v) j s
      = (k0_pay4 q s.1 (tileK k j), k0_pay5 q s.1 s.2 (tileK k j) (tileV v j)) := by
  unfold tripR_k0_t1 trip_k0_t1
  dsimp only
  simp only [View.readAt_eq_ld, harg3.read_unread, harg4.read_unread]

/-- The pair of the maximum and the sums before tile `j`. -/
def state (q : Vec F S1x512x96 .bf16) (k : Vec F S1x8192x96 .bf16) (v : Vec F S1x8192x128 .bf16) :
    ℕ → FVec F S512x1 .f32 × FVec F S512x128 .f32
  | 0 => (k0_pay1, k0_pay2)
  | j + 1 => if h : j < k0_t1_loop.trips then
      (k0_pay4 q (state q k v j).1 (tileK k ⟨j, h⟩),
        k0_pay5 q (state q k v j).1 (state q k v j).2 (tileK k ⟨j, h⟩) (tileV v ⟨j, h⟩))
    else state q k v j

theorem st_eq (c : Dev nD) (i : grid0.Coords) (arg2 : Memref sig .tc .vmem S1x512x96 .bf16) (harg2 : arg2.IsWhole)
    (arg3 : Memref sig .tc .vmem S1x8192x96 .bf16) (harg3 : arg3.IsWhole) (arg4 : Memref sig .tc .vmem S1x8192x128 .bf16)
    (harg4 : arg4.IsWhole) (arg5 : Memref sig .tc .vmem S1x512x64 .f32) (harg5 : arg5.IsWhole)
    (arg6 : Memref sig .tc .vmem S1x512x1 .f32) (harg6 : arg6.IsWhole) (q : Vec F S1x512x96 .bf16)
    (k : Vec F S1x8192x96 .bf16) (v : Vec F S1x8192x128 .bf16) (j : ℕ) (hj : j ≤ k0_t1_loop.trips) :
    st_k0_t1 Variants.none c none i arg2 harg2 arg3 harg3 arg4 harg4 arg5 harg5 arg6 harg6 q (harg3.unread k)
        (harg4.unread v) (k0_pay1, k0_pay2) j = state q k v j := by
  induction j with
  | zero => rw [st_k0_t1_zero]; rfl
  | succ j ih =>
    have h := st_k0_t1_succ Variants.none c none i arg2 harg2 arg3 harg3 arg4 harg4 arg5 harg5 arg6 harg6 q
      (harg3.unread k) (harg4.unread v) (k0_pay1, k0_pay2) ⟨j, hj⟩
    rw [h, trip_eq, ih (Nat.le_of_succ_le hj), state, dif_pos (show j < k0_t1_loop.trips from hj)]

private theorem hz : (![0, 0, 0] : Fin 3 → Nat) = fun _ => 0 := funext fun a => by fin_cases a <;> rfl

theorem out3_eq (c : Dev nD) (i : grid0.Coords) (arg2 : Memref sig .tc .vmem S1x512x96 .bf16) (harg2 : arg2.IsWhole)
    (arg3 : Memref sig .tc .vmem S1x8192x96 .bf16) (harg3 : arg3.IsWhole) (arg4 : Memref sig .tc .vmem S1x8192x128 .bf16)
    (harg4 : arg4.IsWhole) (arg5 : Memref sig .tc .vmem S1x512x64 .f32) (harg5 : arg5.IsWhole)
    (arg6 : Memref sig .tc .vmem S1x512x1 .f32) (harg6 : arg6.IsWhole) (q : Vec F S1x512x96 .bf16)
    (k : Vec F S1x8192x96 .bf16) (v : Vec F S1x8192x128 .bf16) :
    out0_A_3 c i arg2 harg2 arg3 harg3 arg4 harg4 arg5 harg5 arg6 harg6 q k v
      = k0_pay7 (state q k v k0_t1_loop.trips).2 := by
  unfold out0_A_3
  rw [View.read_writes_eq_canon _ _ _ (cover0_A_3 c i arg2 harg2 arg3 harg3 arg4 harg4 arg5 harg5 arg6 harg6 q k v)]
  unfold kernelRun0_A
  dsimp only
  rw [View.canon_unit_zero hz]
  simp only [View.readAt_eq_ld, harg2.read_unread, View.ld_unit_zero (S := S1x512x96) hz]
  rw [st_eq _ _ _ _ _ _ _ _ _ _ _ _ _ _ _ _ le_rfl]

theorem out4_eq (c : Dev nD) (i : grid0.Coords) (arg2 : Memref sig .tc .vmem S1x512x96 .bf16) (harg2 : arg2.IsWhole)
    (arg3 : Memref sig .tc .vmem S1x8192x96 .bf16) (harg3 : arg3.IsWhole) (arg4 : Memref sig .tc .vmem S1x8192x128 .bf16)
    (harg4 : arg4.IsWhole) (arg5 : Memref sig .tc .vmem S1x512x64 .f32) (harg5 : arg5.IsWhole)
    (arg6 : Memref sig .tc .vmem S1x512x1 .f32) (harg6 : arg6.IsWhole) (q : Vec F S1x512x96 .bf16)
    (k : Vec F S1x8192x96 .bf16) (v : Vec F S1x8192x128 .bf16) :
    out0_A_4 c i arg2 harg2 arg3 harg3 arg4 harg4 arg5 harg5 arg6 harg6 q k v
      = k0_pay8 (state q k v k0_t1_loop.trips).1 (state q k v k0_t1_loop.trips).2 := by
  unfold out0_A_4
  rw [View.read_writes_eq_canon _ _ _ (cover0_A_4 c i arg2 harg2 arg3 harg3 arg4 harg4 arg5 harg5 arg6 harg6 q k v)]
  unfold kernelRun0_A
  dsimp only
  rw [View.canon_unit_zero hz]
  simp only [View.readAt_eq_ld, harg2.read_unread, View.ld_unit_zero (S := S1x512x96) hz]
  rw [st_eq _ _ _ _ _ _ _ _ _ _ _ _ _ _ _ _ le_rfl]

end Cert.Att.Fwd

end
-- ==== Proof.FwdStep.lean ====
/- A step of queries of the forward kernel over the reals: the pair of the maximum and the sums before each tile of keys,
   then the two outputs of the step. -/
module

public import proofs.«01_k».proof.Proof.Spec
public import proofs.«01_k».proof.Proof.Consts
public import proofs.«01_k».proof.Proof.FwdPay
public import proofs.«01_k».proof.Proof.FwdRun

@[expose] public section

noncomputable section

namespace Cert.Att.Fwd

open Idealize.ShloMosaic Cert.KernelIdeal Cert.KernelIdeal.Gen

theorem trips_eq : k0_t1_loop.trips = 4 := by decide

theorem tileK_apply (k : Vec Ideal S1x8192x96 .bf16) (j : Fin k0_t1_loop.trips) (r : Fin 2048) (x : Fin 96)
    (h : 2048 * j.val + r.val < 8192) : tileK k j (ix3 0 r x) = k (ix3 0 ⟨2048 * j.val + r.val, h⟩ x) := by
  refine congrArg k (Rect.emb_eq_of_coords _ _ _ fun a => ?_)
  simp only [Rect.unit, k0_off1_eq]
  fin_cases a <;> simp [ix3]

theorem tileV_apply (v : Vec Ideal S1x8192x128 .bf16) (j : Fin k0_t1_loop.trips) (r : Fin 2048) (x : Fin 128)
    (h : 2048 * j.val + r.val < 8192) : tileV v j (ix3 0 r x) = v (ix3 0 ⟨2048 * j.val + r.val, h⟩ x) := by
  refine congrArg v (Rect.emb_eq_of_coords _ _ _ fun a => ?_)
  simp only [Rect.unit, k0_off2_eq]
  fin_cases a <;> simp [ix3]

/-- One tile: the maximum stays real, and each sum is the rescaled one before plus the tile's. -/
theorem step (q : Vec Ideal S1x512x96 .bf16) (m : FVec Ideal S512x1 .f32) (a : FVec Ideal S512x128 .f32)
    (k : Vec Ideal S1x2048x96 .bf16) (v : Vec Ideal S1x2048x128 .bf16) (Q : Fin 512 → Fin 96 → ℝ)
    (K : Fin 2048 → Fin 96 → ℝ) (W : Fin 2048 → Fin 128 → ℝ) (hq : ∀ r x, q (ix3 0 r x) = (Q r x : EReal))
    (hk : ∀ j x, k (ix3 0 j x) = (K j x : EReal)) (hv : ∀ j x, v (ix3 0 j x) = (W j x : EReal)) (r : Fin 512) (μ : ℝ)
    (A : Fin 128 → ℝ) (hm : m (ix2 r 0) = (μ : EReal)) (ha : ∀ x, a (ix2 r x) = (A x : EReal)) :
    ∃ μ' : ℝ, k0_pay4 q m k (ix2 r 0) = (μ' : EReal) ∧ ∀ x, k0_pay5 q m a k v (ix2 r x)
      = ((Real.exp ((μ - μ') * σ) * A x + ∑ j, Real.exp ((∑ y, Q r y * K j y - μ') * σ) * W j x : ℝ) : EReal) := by
  have hs : ∀ (r : Fin 512) (j : Fin 2048), k0_pay3 q k (ix2 r j) = ((∑ y, Q r y * K j y : ℝ) : EReal) := fun r j => by
    rw [s_apply, coe_sum]
    exact Finset.sum_congr rfl fun y _ => by rw [hq, hk, EReal.coe_mul]
  obtain ⟨μ', hμ'⟩ := m_real q m k (fun i => by rw [eq_ix2 i]; exact ⟨_, hs _ _⟩) (ix2 r 0) μ hm
  refine ⟨μ', hμ', fun x => ?_⟩
  rw [acc_apply, hμ', hm, ha, to_log2_eq, ← EReal.coe_sub, exp2_to_log2, EReal.coe_add, EReal.coe_mul, coe_sum]
  refine congrArg (_ + ·) (Finset.sum_congr rfl fun j _ => ?_)
  rw [hs, hv, ← EReal.coe_sub, exp2_to_log2, EReal.coe_mul]

theorem m0_real : ∃ μ : ℝ, ∀ r : Fin 512, k0_pay1 (F := Ideal) (ix2 r 0) = (μ : EReal) := by
  have h : ∃ μ : ℝ, Ideal.ofBits .f32 0xF149F2CA#32 = (μ : EReal) := by
    simp [Ideal.ofBits, Ideal.ieee, -EReal.coe_mul]
    exact ⟨_, rfl⟩
  obtain ⟨μ, hμ⟩ := h
  exact ⟨μ, fun r => (m0_apply r).trans hμ⟩

variable (q : Vec Ideal S1x512x96 .bf16) (k : Vec Ideal S1x8192x96 .bf16) (v : Vec Ideal S1x8192x128 .bf16)
  (Q : Fin 512 → Fin 96 → ℝ) (K : Fin 8192 → Fin 96 → ℝ) (W : Fin 8192 → Fin 128 → ℝ)
  (hq : ∀ r x, q (ix3 0 r x) = (Q r x : EReal)) (hk : ∀ j x, k (ix3 0 j x) = (K j x : EReal))
  (hv : ∀ j x, v (ix3 0 j x) = (W j x : EReal))

/-- A row number, wrapped. -/
abbrev row (n : ℕ) : Fin 8192 := ⟨n % 8192, Nat.mod_lt _ (by norm_num)⟩

include hq hk hv in
theorem state_eq (j : ℕ) (hj : j ≤ 4) (r : Fin 512) : ∃ μ : ℝ, (state q k v j).1 (ix2 r 0) = (μ : EReal)
    ∧ ∀ x, (state q k v j).2 (ix2 r x) = ((∑ i ∈ Finset.range (2048 * j),
      Real.exp ((∑ y, Q r y * K (row i) y - μ) * σ) * W (row i) x : ℝ) : EReal) := by
  induction j with
  | zero =>
    obtain ⟨μ, hμ⟩ := m0_real
    exact ⟨μ, hμ r, fun x => (acc0_apply r x).trans (by simp)⟩
  | succ j ih =>
    obtain ⟨μ, hm, ha⟩ := ih (Nat.le_of_succ_le hj)
    have hlt : ∀ i : Fin 2048, 2048 * j + i.val < 8192 := fun i => by omega
    have hrow : ∀ i : Fin 2048, (⟨2048 * j + i.val, hlt i⟩ : Fin 8192) = row (2048 * j + i.val) := fun i =>
      Fin.ext (Nat.mod_eq_of_lt (hlt i)).symm
    have hjt : j < k0_t1_loop.trips := by rw [trips_eq]; exact hj
    obtain ⟨μ', hm', ha'⟩ := step q (state q k v j).1 (state q k v j).2 (tileK k ⟨j, hjt⟩) (tileV v ⟨j, hjt⟩) Q
      (fun i y => K (row (2048 * j + i.val)) y) (fun i y => W (row (2048 * j + i.val)) y) hq
      (fun i y => by rw [tileK_apply k ⟨j, hjt⟩ i y (hlt i), hk, hrow])
      (fun i y => by rw [tileV_apply v ⟨j, hjt⟩ i y (hlt i), hv, hrow]) r μ _ hm ha
    refine ⟨μ', by rw [state, dif_pos hjt]; exact hm', fun x => ?_⟩
    rw [state, dif_pos hjt]
    refine (ha' x).trans (congrArg _ ?_)
    rw [Nat.mul_succ, Finset.sum_range_add, Finset.mul_sum, Finset.sum_range (n := 2048)]
    congr 1
    refine Finset.sum_congr rfl fun i _ => ?_
    rw [← mul_assoc, ← Real.exp_add]
    congr 2
    ring

include hq hk hv in
theorem state_end (r : Fin 512) : ∃ μ : ℝ, (state q k v k0_t1_loop.trips).1 (ix2 r 0) = (μ : EReal)
    ∧ ∀ x, (state q k v k0_t1_loop.trips).2 (ix2 r x)
      = ((∑ i, Real.exp ((∑ y, Q r y * K i y - μ) * σ) * W i x : ℝ) : EReal) := by
  obtain ⟨μ, hm, ha⟩ := state_eq q k v Q K W hq hk hv 4 le_rfl r
  rw [trips_eq]
  refine ⟨μ, hm, fun x => (ha x).trans (congrArg _ ?_)⟩
  rw [Finset.sum_range]
  refine Finset.sum_congr rfl fun (i : Fin 8192) _ => ?_
  have : row i.val = i := Fin.ext (Nat.mod_eq_of_lt i.isLt)
  rw [this]

/-- A lane of the values among the widened ones. -/
abbrev lane (x : Fin 64) : Fin 128 := ⟨x.val, by omega⟩

/-- The two outputs of a step whose queries are the rows `ρ` of `Qs`. -/
theorem outputs (Qs : Fin 8192 → Fin 96 → ℝ) (ρ : Fin 512 → Fin 8192) (V : Fin 8192 → Fin 64 → ℝ)
    (hq : ∀ r x, q (ix3 0 r x) = (Qs (ρ r) x : EReal)) (hk : ∀ j x, k (ix3 0 j x) = (K j x : EReal))
    (hv : ∀ j x, v (ix3 0 j x) = (W j x : EReal)) (hW : ∀ j (x : Fin 64), W j (lane x) = V j x)
    (hW1 : ∀ j, W j 64 = 1) (r : Fin 512) :
    (∀ x : Fin 64, k0_pay7 (state q k v k0_t1_loop.trips).2 (ix3 0 r x) = ((out σ Qs K V (ρ r) x : ℝ) : EReal))
    ∧ k0_pay8 (state q k v k0_t1_loop.trips).1 (state q k v k0_t1_loop.trips).2 (ix3 0 r 0)
      = ((Real.log (den σ Qs K (ρ r)) : ℝ) : EReal) := by
  obtain ⟨μ, hm, ha⟩ := state_end q k v (fun r => Qs (ρ r)) K W hq hk hv r
  have hl := ha 64
  simp only [hW1, mul_one] at hl
  have hpos : 0 < ∑ i, Real.exp ((∑ y, Qs (ρ r) y * K i y - μ) * σ) := by
    rw [sum_exp_shift]; exact mul_pos (den_pos _ _ _ _) (Real.exp_pos _)
  constructor
  · intro x
    rw [o_apply, hl, ha, Ideal.div_coe hpos.ne', ← EReal.coe_mul, mul_one_div]
    simp only [hW]
    rw [quot_shift]
  · rw [lse_apply, hl, hm, scale_eq, Ideal.log_coe, if_neg (not_le.mpr hpos), ← EReal.coe_mul, ← EReal.coe_add, log_shift]

end Cert.Att.Fwd

end
-- ==== Proof.FwdValue.lean ====
/- The two results of the forward region, as arrays: the outputs and the logarithms of the sums, of the arrays the region
   reads. -/
module

public import proofs.«01_k».proof.Proof.FwdStep
public import proofs.«01_k».proof.Proof.Gen.KernelIdeal.Frame
public import Idealize.ShloMosaic.Lib.Pipeline.ValueKit

@[expose] public section

set_option maxRecDepth 16384

noncomputable section

namespace Cert.Att.Fwd

open Idealize.ShloMosaic Idealize.ShloMosaic.TcCoe Cert.KernelIdeal Cert.KernelIdeal.Gen

/-- The block each window is at, at each point. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0]
    ∧ win0_4.index t = ![t.val / 16, t.val % 16, 0] := (by decide +kernel : ∀ t : Fin grid0.N, _)

/-- The head of a point. -/
abbrev hd (t : Fin cfg0.N) : Fin 6 := ⟨t.val / 16, by have h : t.val < 96 := lt_of_lt_of_eq t.isLt N_0; omega⟩

/-- The row of the array at a row of the point's block. -/
abbrev rw' (t : Fin cfg0.N) (r : Fin 512) : Fin 8192 := ⟨t.val % 16 * 512 + r.val, by omega⟩

variable (V : (c : Dev nD) → (b : Ref sig .tc) → Buf (Elt Ideal) ((c : Thread nD τ).loc b)) (c : Dev nD)

theorem blk_q (t : Fin cfg0.N) (r : Fin 512) (x : Fin 96) :
    iblk0 V c 0 t (ix3 0 r x) = V c main_v1 (ix3 (hd t) (rw' t r) x) := by
  blk_simp [iblk0]
  refine congrArg (V c main_v1) ?_
  blk_ext [(idx t).1, ix3]

theorem blk_k (t : Fin cfg0.N) (j : Fin 8192) (x : Fin 96) :
    iblk0 V c 1 t (ix3 0 j x) = V c main_v3 (ix3 (hd t) j x) := by
  blk_simp [iblk0]
  refine congrArg (V c main_v3) ?_
  blk_ext [(idx t).2.1, ix3]

theorem blk_v (t : Fin cfg0.N) (j : Fin 8192) (x : Fin 128) :
    iblk0 V c 2 t (ix3 0 j x) = V c main_v8 (ix3 (hd t) j x) := by
  blk_simp [iblk0]
  refine congrArg (V c main_v8) ?_
  blk_ext [(idx t).2.2.1, ix3]

variable (Q K : Fin 6 → Fin 8192 → Fin 96 → ℝ) (W : Fin 6 → Fin 8192 → Fin 128 → ℝ) (U : Fin 6 → Fin 8192 → Fin 64 → ℝ)
  (hq : ∀ h i x, (V c main_v1 : Vec Ideal S6x8192x96 .bf16) (ix3 h i x) = (Q h i x : EReal))
  (hk : ∀ h i x, (V c main_v3 : Vec Ideal S6x8192x96 .bf16) (ix3 h i x) = (K h i x : EReal))
  (hv : ∀ h i x, (V c main_v8 : Vec Ideal S6x8192x128 .bf16) (ix3 h i x) = (W h i x : EReal))
  (hW : ∀ h j (x : Fin 64), W h j (lane x) = U h j x) (hW1 : ∀ h j, W h j 64 = 1)

include hq hk hv hW hW1 in
/-- What a point leaves in the two output blocks. -/
theorem point (t : Fin cfg0.N) (r : Fin 512) :
    (∀ x : Fin 64, (outsAt0 V c t).1 (ix3 0 r x) = ((out σ (Q (hd t)) (K (hd t)) (U (hd t)) (rw' t r) x : ℝ) : EReal))
    ∧ (outsAt0 V c t).2 (ix3 0 r 0) = ((Real.log (den σ (Q (hd t)) (K (hd t)) (rw' t r)) : ℝ) : EReal) := by
  dsimp only [outsAt0]
  rw [out3_eq, out4_eq]
  exact outputs (iblk0 V c 0 t) (iblk0 V c 1 t) (iblk0 V c 2 t) (K (hd t)) (W (hd t)) (Q (hd t)) (rw' t) (U (hd t))
    (fun r x => (blk_q V c t r x).trans (hq _ _ _)) (fun j x => (blk_k V c t j x).trans (hk _ _ _))
    (fun j x => (blk_v V c t j x).trans (hv _ _ _)) (hW _) (hW1 _) r

include hq hk hv hW hW1 in
theorem final_o : (dat0 V c).arrAt 3 cfg0.N
    = fun i : S6x8192x64.Idx => ((out σ (Q (i 0)) (K (i 0)) (U (i 0)) (i 1) (i 2) : ℝ) : EReal) := by
  refine (dat0 V c).arrAt_eq_of_covers 3 _ (by decide +kernel) fun t _ y => ?_
  blk_simp
  rw [after0_3]
  change S1x512x64.Idx at y
  obtain ⟨a, r, x, rfl⟩ : ∃ (a : Fin 1) (r : Fin 512) (x : Fin 64), y = ix3 a r x := ⟨_, _, _, eq_ix3 y⟩
  obtain rfl : a = 0 := Subsingleton.elim _ _
  rw [(point V c Q K W U hq hk hv hW hW1 t r).1 x]
  have e0 : (win0_3.blk t).view.emb (ix3 0 r x) = ix3 (hd t) (rw' t r) x := by blk_ext [(idx t).2.2.2.1, ix3]
  rw [e0]
  rfl

include hq hk hv hW hW1 in
theorem final_lse : (dat0 V c).arrAt 4 cfg0.N
    = fun i : S6x8192x1.Idx => ((Real.log (den σ (Q (i 0)) (K (i 0)) (i 1)) : ℝ) : EReal) := by
  refine (dat0 V c).arrAt_eq_of_covers 4 _ (by decide +kernel) fun t _ y => ?_
  blk_simp
  rw [after0_4]
  change S1x512x1.Idx at y
  obtain ⟨a, r, x, rfl⟩ : ∃ (a : Fin 1) (r : Fin 512) (x : Fin 1), y = ix3 a r x := ⟨_, _, _, eq_ix3 y⟩
  obtain rfl : a = 0 := Subsingleton.elim _ _
  obtain rfl : x = 0 := Subsingleton.elim _ _
  rw [(point V c Q K W U hq hk hv hW hW1 t r).2]
  have e0 : (win0_4.blk t).view.emb (ix3 0 r 0) = ix3 (hd t) (rw' t r) 0 := by blk_ext [(idx t).2.2.2.2, ix3]
  rw [e0]
  rfl

end Cert.Att.Fwd

end
-- ==== Proof.BwdPay.lean ====
module

public import proofs.«01_k».proof.Proof.Gen.KernelIdeal.Skeleton
public import Idealize.ShloMosaic.Lib.Pointwise

@[expose] public section

noncomputable section

namespace Cert.Att.Bwd

open Idealize.ShloMosaic Cert.KernelIdeal Cert.KernelIdeal.Gen

theorem zk_apply (i : Fin 8192) (x : Fin 96) : k1_pay1 (F := Ideal) (ix3 0 i x) = 0 := by
  pointwise [k1_pay1]
theorem zv_apply (i : Fin 8192) (x : Fin 64) : k1_pay2 (F := Ideal) (ix3 0 i x) = 0 := by
  pointwise [k1_pay2]
theorem zq_apply (x : Fin 96) (i : Fin 256) : k1_pay8 (F := Ideal) (ix2 x i) = 0 := by
  pointwise [k1_pay8]
theorem dq_apply (s : FVec Ideal S96x256 .f32) (ds : FVec Ideal S2048x256 .bf16) (kt : Vec Ideal S1x96x2048 .bf16)
    (x : Fin 96) (i : Fin 256) :
    k1_pay10 s ds kt (ix2 x i) = s (ix2 x i) + ∑ j : Fin 2048, kt (ix3 0 x j) * ds (ix2 j i) := by
  pointwise [k1_pay10]
theorem dqo_apply (s : FVec Ideal S96x256 .f32) (x : Fin 96) (i : Fin 256) :
    k1_pay11 s (ix3 0 x i) = s (ix2 x i) := by
  pointwise [k1_pay11]
theorem p_apply (q : Vec Ideal S1x96x256 .bf16) (l : Vec Ideal S1x1x256 .f32) (k : Vec Ideal S1x2048x96 .bf16)
    (j : Fin 2048) (i : Fin 256) :
    k1_pay12 (k1_pay3 q) (k1_pay7 l) k (ix2 j i)
      = Ideal.exp ((∑ x : Fin 96, k (ix3 0 j x) * q (ix3 0 x i)) * (Ideal.ofBits .f32 0x3DD105EC#32 : EReal)
          - l (ix3 0 0 i)) := by
  pointwise [k1_pay12, k1_pay3, k1_pay7]
theorem delta_apply (g o : Vec Ideal S1x64x256 .f32) (i : Fin 256) :
    k1_pay5 g o (ix2 0 i) = ∑ x : Fin 64, g (ix3 0 x i) * o (ix3 0 x i) := by
  pointwise [k1_pay5, k1_pay4]
theorem ds_apply (q : Vec Ideal S1x96x256 .bf16) (g o : Vec Ideal S1x64x256 .f32) (l : Vec Ideal S1x1x256 .f32)
    (k : Vec Ideal S1x2048x96 .bf16) (v : Vec Ideal S1x2048x64 .bf16) (j : Fin 2048) (i : Fin 256) :
    k1_pay13 (k1_pay3 q) (k1_pay5 g o) (k1_pay6 g) (k1_pay7 l) k v (ix2 j i)
      = k1_pay12 (k1_pay3 q) (k1_pay7 l) k (ix2 j i)
          * ((∑ x : Fin 64, v (ix3 0 j x) * g (ix3 0 x i)) - k1_pay5 g o (ix2 0 i))
          * (Ideal.ofBits .f32 0x3DD105EC#32 : EReal) := by
  pointwise [k1_pay13, k1_pay6, k1_pay4]
theorem dv_apply (q : Vec Ideal S1x96x256 .bf16) (g : Vec Ideal S1x64x256 .f32) (l : Vec Ideal S1x1x256 .f32)
    (k : Vec Ideal S1x2048x96 .bf16) (d : Vec Ideal S1x2048x64 .f32) (j : Fin 2048) (x : Fin 64) :
    k1_pay14 (k1_pay3 q) (k1_pay6 g) (k1_pay7 l) k d (ix3 0 j x)
      = d (ix3 0 j x) + ∑ i : Fin 256, k1_pay12 (k1_pay3 q) (k1_pay7 l) k (ix2 j i) * g (ix3 0 x i) := by
  pointwise [k1_pay14, k1_pay6, k1_pay4]
theorem dk_apply (q : Vec Ideal S1x96x256 .bf16) (g o : Vec Ideal S1x64x256 .f32) (l : Vec Ideal S1x1x256 .f32)
    (k : Vec Ideal S1x2048x96 .bf16) (v : Vec Ideal S1x2048x64 .bf16) (d : Vec Ideal S1x2048x96 .f32) (j : Fin 2048)
    (x : Fin 96) :
    k1_pay9 (k1_pay15 (k1_pay3 q) (k1_pay5 g o) (k1_pay6 g) (k1_pay7 l) k v d) (ix3 0 j x)
      = d (ix3 0 j x) + ∑ i : Fin 256,
          k1_pay13 (k1_pay3 q) (k1_pay5 g o) (k1_pay6 g) (k1_pay7 l) k v (ix2 j i) * q (ix3 0 x i) := by
  pointwise [k1_pay9, k1_pay15, k1_pay3]

end Cert.Att.Bwd

end
-- ==== Proof.BwdRun.lean ====
module

public import proofs.«01_k».proof.Proof.Gen.KernelIdeal.Frame
public import Idealize.ShloMosaic.Lib.Pipeline.Value
public import Idealize.ShloMosaic.Lib.VecWindow

@[expose] public section

noncomputable section

namespace Cert.Att.Bwd

open Idealize.ShloMosaic Idealize.ShloMosaic.TcCoe Cert.KernelIdeal Cert.KernelIdeal.Gen

variable {F : FTy → Type} [FloatOps F] [Named F]

/-- The rectangle of tile `j` of the keys, the rectangle of the values, and the one of the transposed keys. -/
abbrev rectK (j : Fin k1_t1_loop.trips) : Rect S1x8192x96 := Rect.unit (s := S1x8192x96) (k1_off1 j) S1x2048x96.size (k1_off1_inb j)
abbrev rectV (j : Fin k1_t1_loop.trips) : Rect S1x8192x64 := Rect.unit (s := S1x8192x64) (k1_off2 j) S1x2048x64.size (k1_off2_inb j)
abbrev rectT (j : Fin k1_t1_loop.trips) : Rect S1x96x8192 := Rect.unit (s := S1x96x8192) (k1_off3 j) S1x96x2048.size (k1_off3_inb j)

variable (c : Dev nD) (i : grid1.Coords)
  (arg2 : Memref sig .tc .vmem S1x96x256 .bf16) (harg2 : arg2.IsWhole)
  (arg3 : Memref sig .tc .vmem S1x8192x96 .bf16) (harg3 : arg3.IsWhole)
  (arg4 : Memref sig .tc .vmem S1x96x8192 .bf16) (harg4 : arg4.IsWhole)
  (arg5 : Memref sig .tc .vmem S1x8192x64 .bf16) (harg5 : arg5.IsWhole)
  (arg6 : Memref sig .tc .vmem S1x64x256 .f32) (harg6 : arg6.IsWhole)
  (arg7 : Memref sig .tc .vmem S1x1x256 .f32) (harg7 : arg7.IsWhole)
  (arg8 : Memref sig .tc .vmem S1x64x256 .f32) (harg8 : arg8.IsWhole)
  (arg9 : Memref sig .tc .vmem S1x96x256 .f32) (harg9 : arg9.IsWhole)
  (arg10 : Memref sig .tc .vmem S1x8192x96 .f32) (harg10 : arg10.IsWhole)
  (arg11 : Memref sig .tc .vmem S1x8192x64 .f32) (harg11 : arg11.IsWhole)
  (q : Vec F S1x96x256 .bf16) (k : Vec F S1x8192x96 .bf16) (kt : Vec F S1x96x8192 .bf16) (v : Vec F S1x8192x64 .bf16)
  (o : Vec F S1x64x256 .f32) (l : Vec F S1x1x256 .f32) (g : Vec F S1x64x256 .f32)

/-- The product of the scaled cotangents of a tile's weights, for a step of queries. -/
abbrev dsTile (j : Fin k1_t1_loop.trips) : FVec F S2048x256 .bf16 :=
  k1_pay13 (k1_pay3 q) (k1_pay5 g o) (k1_pay6 g) (k1_pay7 l) (View.ld k (rectK j)) (View.ld v (rectV j))
/-- The gradient of a tile's keys after the step, from the one before. -/
abbrev dkTile (j : Fin k1_t1_loop.trips) (x : Vec F S1x2048x96 .f32) : Vec F S1x2048x96 .f32 :=
  k1_pay9 (k1_pay15 (k1_pay3 q) (k1_pay5 g o) (k1_pay6 g) (k1_pay7 l) (View.ld k (rectK j)) (View.ld v (rectV j)) x)
/-- The gradient of a tile's values after the step, from the one before. -/
abbrev dvTile (j : Fin k1_t1_loop.trips) (x : Vec F S1x2048x64 .f32) : Vec F S1x2048x64 .f32 :=
  k1_pay14 (k1_pay3 q) (k1_pay6 g) (k1_pay7 l) (View.ld k (rectK j)) x

theorem trip_eq (j : Fin k1_t1_loop.trips)
    (s : FVec F S96x256 .f32) (f10 : BufTy.Contents (Elt F) arg10.view.ty) (f11 : BufTy.Contents (Elt F) arg11.view.ty) :
    tripR_k1_t1 Variants.none c none i arg2 harg2 arg3 harg3 arg4 harg4 arg5 harg5 arg6 harg6 arg7 harg7 arg8 harg8 arg9
        harg9 arg10 harg10 arg11 harg11 q g o l (harg3.unread k) (harg4.unread kt) (harg5.unread v) j s f10 f11
      = k1_pay10 s (dsTile q k v o l g j) (View.ld kt (rectT j)) := by
  unfold tripR_k1_t1 trip_k1_t1
  dsimp only
  rw [show trip_k1_t1.sl.v41 arg3 arg5 q g o l (harg3.unread k) (harg5.unread v) j
      = k1_pay13 (k1_pay3 q) (k1_pay5 g o) (k1_pay6 g) (k1_pay7 l) (arg3.view.readAt (Elt F) (rectK j) (harg3.unread k))
        (arg5.view.readAt (Elt F) (rectV j) (harg5.unread v)) from rfl]
  simp only [View.readAt_eq_ld, harg3.read_unread, harg4.read_unread, harg5.read_unread]

theorem tripL_eq (j : Fin k1_t1_loop.trips)
    (s : FVec F S96x256 .f32) (f10 : BufTy.Contents (Elt F) arg10.view.ty) (f11 : BufTy.Contents (Elt F) arg11.view.ty) :
    tripL_k1_t1 Variants.none c none i arg2 harg2 arg3 harg3 arg4 harg4 arg5 harg5 arg6 harg6 arg7 harg7 arg8 harg8 arg9
        harg9 arg10 harg10 arg11 harg11 q g o l (harg3.unread k) (harg4.unread kt) (harg5.unread v) j s f10 f11
      = ([⟨rectK j, dkTile q k v o l g j (View.ld (arg10.view.read (Elt F) f10) (rectK j))⟩],
          [⟨rectV j, dvTile q k l g j (View.ld (arg11.view.read (Elt F) f11) (rectV j))⟩]) := by
  unfold tripL_k1_t1 trip_k1_t1
  dsimp only
  rw [show trip_k1_t1.sl.v56 arg3 arg5 arg10 q g o l (harg3.unread k) (harg5.unread v) j f10
      = k1_pay15 (k1_pay3 q) (k1_pay5 g o) (k1_pay6 g) (k1_pay7 l) (arg3.view.readAt (Elt F) (rectK j) (harg3.unread k))
        (arg5.view.readAt (Elt F) (rectV j) (harg5.unread v)) (arg10.view.readAt (Elt F) (rectK j) f10) from rfl,
    show trip_k1_t1.sl.v51 arg3 arg11 q g l (harg3.unread k) j f11
      = k1_pay14 (k1_pay3 q) (k1_pay6 g) (k1_pay7 l) (arg3.view.readAt (Elt F) (rectK j) (harg3.unread k))
        (arg11.view.readAt (Elt F) (rectV j) f11) from rfl]
  simp only [View.readAt_eq_ld, harg3.read_unread, harg4.read_unread, harg5.read_unread]

/-- The gradients of the queries of the step, of the keys and of the values, before tile `j`. -/
def state (dk : Vec F S1x8192x96 .f32) (dv : Vec F S1x8192x64 .f32) :
    ℕ → FVec F S96x256 .f32 × Vec F S1x8192x96 .f32 × Vec F S1x8192x64 .f32
  | 0 => (k1_pay8, dk, dv)
  | j + 1 => if h : j < k1_t1_loop.trips then
      (k1_pay10 (state dk dv j).1 (dsTile q k v o l g ⟨j, h⟩) (View.ld kt (rectT ⟨j, h⟩)),
        (rectK ⟨j, h⟩).overlay (state dk dv j).2.1
          (dkTile q k v o l g ⟨j, h⟩ (View.ld (state dk dv j).2.1 (rectK ⟨j, h⟩))),
        (rectV ⟨j, h⟩).overlay (state dk dv j).2.2
          (dvTile q k l g ⟨j, h⟩ (View.ld (state dk dv j).2.2 (rectV ⟨j, h⟩))))
    else state dk dv j

/-- A buffer written a piece reads the piece over what it read before. -/
theorem read_writes_one {κ : Kind} {sp : Space} {s : Shape} {e : EltTy} (w : View sig κ sp s e)
    (f : w.ty.Contents (Elt F)) (r : Rect s) (x : r.shape.Idx → Elt F e) :
    w.read (Elt F) (w.writes (Elt F) f [⟨r, x⟩]) = r.overlay (w.read (Elt F) f) x := by
  funext y
  by_cases hy : y ∈ r.set
  · obtain ⟨z, rfl⟩ := r.exists_idx_of_mem hy
    exact (View.read_writes_cons_emb w f r x [] z).trans (r.overlay_emb _ _ z).symm
  · rw [View.writes_cons, View.read_slice_write_of_not_mem r _ _ _ (by rwa [Rect.map_emb_univ]), View.writes_nil,
      Rect.overlay_of_not_mem _ _ _ hy]

theorem st_eq (G10 : BufTy.Contents (Elt F) arg10.view.ty) (G11 : BufTy.Contents (Elt F) arg11.view.ty)
    (j : ℕ) (hj : j ≤ k1_t1_loop.trips) :
    let st := st_k1_t1 Variants.none c none i arg2 harg2 arg3 harg3 arg4 harg4 arg5 harg5 arg6 harg6 arg7 harg7 arg8
      harg8 arg9 harg9 arg10 harg10 arg11 harg11 q g o l (harg3.unread k) (harg4.unread kt) (harg5.unread v) G10 G11
      k1_pay8 j
    (st.1, arg10.view.read (Elt F) (arg10.view.writes (Elt F) G10 st.2.1),
        arg11.view.read (Elt F) (arg11.view.writes (Elt F) G11 st.2.2))
      = state q k kt v o l g (arg10.view.read (Elt F) G10) (arg11.view.read (Elt F) G11) j := by
  induction j with
  | zero => rfl
  | succ j ih =>
    have h := st_k1_t1_succ Variants.none c none i arg2 harg2 arg3 harg3 arg4 harg4 arg5 harg5 arg6 harg6 arg7 harg7 arg8
      harg8 arg9 harg9 arg10 harg10 arg11 harg11 q g o l (harg3.unread k) (harg4.unread kt) (harg5.unread v) G10 G11
      k1_pay8 ⟨j, hj⟩
    have ih := ih (Nat.le_of_succ_le hj)
    dsimp only at ih ⊢
    rw [h, trip_eq, tripL_eq, state, dif_pos (show j < k1_t1_loop.trips from hj), ← ih]
    simp only [View.writes_append, read_writes_one]

private theorem hz : (![0, 0, 0] : Fin 3 → Nat) = fun _ => 0 := funext fun a => by fin_cases a <;> rfl

theorem outA7_eq (hc : cond1_0 i) :
    out1_A_7 c i arg2 harg2 arg3 harg3 arg4 harg4 arg5 harg5 arg6 harg6 arg7 harg7 arg8 harg8 arg9 harg9
        arg10 harg10 arg11 harg11 hc q k kt v o l g
      = k1_pay11 (state q k kt v o l g k1_pay1 k1_pay2 k1_t1_loop.trips).1 := by
  unfold out1_A_7
  rw [View.read_writes_eq_canon _ _ _ (cover1_A_7 c i arg2 harg2 arg3 harg3 arg4 harg4 arg5 harg5 arg6 harg6 arg7 harg7 arg8 harg8 arg9 harg9
        arg10 harg10 arg11 harg11 hc q k kt v o l g)]
  unfold kernelRun1_A
  dsimp only
  rw [View.canon_unit_zero hz]
  unfold kernelRun1_A.sl.H8_1 kernelRun1_A.sl.H9_1
  simp only [View.readAt_eq_ld, harg2.read_unread, harg6.read_unread, harg7.read_unread, harg8.read_unread,
    View.ld_unit_zero (S := S1x96x256) hz, View.ld_unit_zero (S := S1x64x256) hz, View.ld_unit_zero (S := S1x1x256) hz]
  have h := st_eq c i arg2 harg2 arg3 harg3 arg4 harg4 arg5 harg5 arg6 harg6 arg7 harg7 arg8 harg8 arg9 harg9 arg10
    harg10 arg11 harg11 q k kt v o l g
    (arg10.view.writes (Elt F) arg10.view.junk
      [⟨Rect.unit ![0, 0, 0] S1x8192x96.size inb_S1x8192x96_S1x8192x96_0_0_0, k1_pay1⟩])
    (arg11.view.writes (Elt F) arg11.view.junk
      [⟨Rect.unit ![0, 0, 0] S1x8192x64.size inb_S1x8192x64_S1x8192x64_0_0_0, k1_pay2⟩]) k1_t1_loop.trips le_rfl
  dsimp only at h
  rw [View.read_writes_full, View.read_writes_full] at h
  exact congrArg (fun z => k1_pay11 z.1) h

theorem outA8_eq (hc : cond1_0 i) :
    out1_A_8 c i arg2 harg2 arg3 harg3 arg4 harg4 arg5 harg5 arg6 harg6 arg7 harg7 arg8 harg8 arg9 harg9
        arg10 harg10 arg11 harg11 hc q k kt v o l g
      = (state q k kt v o l g k1_pay1 k1_pay2 k1_t1_loop.trips).2.1 := by
  unfold out1_A_8
  rw [View.read_writes_eq_canon _ _ _ (cover1_A_8 c i arg2 harg2 arg3 harg3 arg4 harg4 arg5 harg5 arg6 harg6 arg7 harg7 arg8 harg8 arg9 harg9
        arg10 harg10 arg11 harg11 hc q k kt v o l g),
    ← View.read_writes_eq_canon arg10.view arg10.view.junk _ (cover1_A_8 c i arg2 harg2 arg3 harg3 arg4 harg4 arg5 harg5 arg6 harg6 arg7 harg7 arg8 harg8 arg9 harg9
        arg10 harg10 arg11 harg11 hc q k kt v o l g)]
  unfold kernelRun1_A
  dsimp only
  unfold kernelRun1_A.sl.H8_1 kernelRun1_A.sl.H9_1
  rw [View.writes_append]
  simp only [View.readAt_eq_ld, harg2.read_unread, harg6.read_unread, harg7.read_unread, harg8.read_unread,
    View.ld_unit_zero (S := S1x96x256) hz, View.ld_unit_zero (S := S1x64x256) hz, View.ld_unit_zero (S := S1x1x256) hz]
  have h := st_eq c i arg2 harg2 arg3 harg3 arg4 harg4 arg5 harg5 arg6 harg6 arg7 harg7 arg8 harg8 arg9 harg9 arg10
    harg10 arg11 harg11 q k kt v o l g
    (arg10.view.writes (Elt F) arg10.view.junk
      [⟨Rect.unit ![0, 0, 0] S1x8192x96.size inb_S1x8192x96_S1x8192x96_0_0_0, k1_pay1⟩])
    (arg11.view.writes (Elt F) arg11.view.junk
      [⟨Rect.unit ![0, 0, 0] S1x8192x64.size inb_S1x8192x64_S1x8192x64_0_0_0, k1_pay2⟩]) k1_t1_loop.trips le_rfl
  dsimp only at h
  rw [View.read_writes_full, View.read_writes_full] at h
  exact congrArg (fun z => z.2.1) h

theorem outA9_eq (hc : cond1_0 i) :
    out1_A_9 c i arg2 harg2 arg3 harg3 arg4 harg4 arg5 harg5 arg6 harg6 arg7 harg7 arg8 harg8 arg9 harg9
        arg10 harg10 arg11 harg11 hc q k kt v o l g
      = (state q k kt v o l g k1_pay1 k1_pay2 k1_t1_loop.trips).2.2 := by
  unfold out1_A_9
  rw [View.read_writes_eq_canon _ _ _ (cover1_A_9 c i arg2 harg2 arg3 harg3 arg4 harg4 arg5 harg5 arg6 harg6 arg7 harg7 arg8 harg8 arg9 harg9
        arg10 harg10 arg11 harg11 hc q k kt v o l g),
    ← View.read_writes_eq_canon arg11.view arg11.view.junk _ (cover1_A_9 c i arg2 harg2 arg3 harg3 arg4 harg4 arg5 harg5 arg6 harg6 arg7 harg7 arg8 harg8 arg9 harg9
        arg10 harg10 arg11 harg11 hc q k kt v o l g)]
  unfold kernelRun1_A
  dsimp only
  unfold kernelRun1_A.sl.H8_1 kernelRun1_A.sl.H9_1
  rw [View.writes_append]
  simp only [View.readAt_eq_ld, harg2.read_unread, harg6.read_unread, harg7.read_unread, harg8.read_unread,
    View.ld_unit_zero (S := S1x96x256) hz, View.ld_unit_zero (S := S1x64x256) hz, View.ld_unit_zero (S := S1x1x256) hz]
  have h := st_eq c i arg2 harg2 arg3 harg3 arg4 harg4 arg5 harg5 arg6 harg6 arg7 harg7 arg8 harg8 arg9 harg9 arg10
    harg10 arg11 harg11 q k kt v o l g
    (arg10.view.writes (Elt F) arg10.view.junk
      [⟨Rect.unit ![0, 0, 0] S1x8192x96.size inb_S1x8192x96_S1x8192x96_0_0_0, k1_pay1⟩])
    (arg11.view.writes (Elt F) arg11.view.junk
      [⟨Rect.unit ![0, 0, 0] S1x8192x64.size inb_S1x8192x64_S1x8192x64_0_0_0, k1_pay2⟩]) k1_t1_loop.trips le_rfl
  dsimp only at h
  rw [View.read_writes_full, View.read_writes_full] at h
  exact congrArg (fun z => z.2.2) h

theorem outB7_eq (hc : ¬cond1_0 i) (dk : Vec F S1x8192x96 .f32) (dv : Vec F S1x8192x64 .f32) :
    out1_B_7 c i arg2 harg2 arg3 harg3 arg4 harg4 arg5 harg5 arg6 harg6 arg7 harg7 arg8 harg8 arg9 harg9
        arg10 harg10 arg11 harg11 hc q k kt v o l g dk dv
      = k1_pay11 (state q k kt v o l g dk dv k1_t1_loop.trips).1 := by
  unfold out1_B_7
  rw [View.read_writes_eq_canon _ _ _ (cover1_B_7 c i arg2 harg2 arg3 harg3 arg4 harg4 arg5 harg5 arg6 harg6 arg7 harg7 arg8 harg8 arg9 harg9
        arg10 harg10 arg11 harg11 hc q k kt v o l g dk dv)]
  unfold kernelRun1_B
  dsimp only
  rw [View.canon_unit_zero hz]
  simp only [View.readAt_eq_ld, harg2.read_unread, harg6.read_unread, harg7.read_unread, harg8.read_unread,
    View.ld_unit_zero (S := S1x96x256) hz, View.ld_unit_zero (S := S1x64x256) hz, View.ld_unit_zero (S := S1x1x256) hz]
  have h := st_eq c i arg2 harg2 arg3 harg3 arg4 harg4 arg5 harg5 arg6 harg6 arg7 harg7 arg8 harg8 arg9 harg9 arg10
    harg10 arg11 harg11 q k kt v o l g (harg10.unread dk) (harg11.unread dv) k1_t1_loop.trips le_rfl
  dsimp only at h
  rw [harg10.read_unread, harg11.read_unread] at h
  exact congrArg (fun z => k1_pay11 z.1) h

theorem outB8_eq (hc : ¬cond1_0 i) (dk : Vec F S1x8192x96 .f32) (dv : Vec F S1x8192x64 .f32) :
    out1_B_8 c i arg2 harg2 arg3 harg3 arg4 harg4 arg5 harg5 arg6 harg6 arg7 harg7 arg8 harg8 arg9 harg9
        arg10 harg10 arg11 harg11 hc q k kt v o l g dk dv
      = (state q k kt v o l g dk dv k1_t1_loop.trips).2.1 := by
  unfold out1_B_8
  rw [View.read_writes_eq_canon _ _ _ (cover1_B_8 c i arg2 harg2 arg3 harg3 arg4 harg4 arg5 harg5 arg6 harg6 arg7 harg7 arg8 harg8 arg9 harg9
        arg10 harg10 arg11 harg11 hc q k kt v o l g dk dv),
    ← View.read_writes_eq_canon arg10.view (harg10.unread dk) _ (cover1_B_8 c i arg2 harg2 arg3 harg3 arg4 harg4 arg5 harg5 arg6 harg6 arg7 harg7 arg8 harg8 arg9 harg9
        arg10 harg10 arg11 harg11 hc q k kt v o l g dk dv)]
  unfold kernelRun1_B
  dsimp only
  simp only [View.readAt_eq_ld, harg2.read_unread, harg6.read_unread, harg7.read_unread, harg8.read_unread,
    View.ld_unit_zero (S := S1x96x256) hz, View.ld_unit_zero (S := S1x64x256) hz, View.ld_unit_zero (S := S1x1x256) hz]
  have h := st_eq c i arg2 harg2 arg3 harg3 arg4 harg4 arg5 harg5 arg6 harg6 arg7 harg7 arg8 harg8 arg9 harg9 arg10
    harg10 arg11 harg11 q k kt v o l g (harg10.unread dk) (harg11.unread dv) k1_t1_loop.trips le_rfl
  dsimp only at h
  rw [harg10.read_unread, harg11.read_unread] at h
  exact congrArg (fun z => z.2.1) h

theorem outB9_eq (hc : ¬cond1_0 i) (dk : Vec F S1x8192x96 .f32) (dv : Vec F S1x8192x64 .f32) :
    out1_B_9 c i arg2 harg2 arg3 harg3 arg4 harg4 arg5 harg5 arg6 harg6 arg7 harg7 arg8 harg8 arg9 harg9
        arg10 harg10 arg11 harg11 hc q k kt v o l g dk dv
      = (state q k kt v o l g dk dv k1_t1_loop.trips).2.2 := by
  unfold out1_B_9
  rw [View.read_writes_eq_canon _ _ _ (cover1_B_9 c i arg2 harg2 arg3 harg3 arg4 harg4 arg5 harg5 arg6 harg6 arg7 harg7 arg8 harg8 arg9 harg9
        arg10 harg10 arg11 harg11 hc q k kt v o l g dk dv),
    ← View.read_writes_eq_canon arg11.view (harg11.unread dv) _ (cover1_B_9 c i arg2 harg2 arg3 harg3 arg4 harg4 arg5 harg5 arg6 harg6 arg7 harg7 arg8 harg8 arg9 harg9
        arg10 harg10 arg11 harg11 hc q k kt v o l g dk dv)]
  unfold kernelRun1_B
  dsimp only
  simp only [View.readAt_eq_ld, harg2.read_unread, harg6.read_unread, harg7.read_unread, harg8.read_unread,
    View.ld_unit_zero (S := S1x96x256) hz, View.ld_unit_zero (S := S1x64x256) hz, View.ld_unit_zero (S := S1x1x256) hz]
  have h := st_eq c i arg2 harg2 arg3 harg3 arg4 harg4 arg5 harg5 arg6 harg6 arg7 harg7 arg8 harg8 arg9 harg9 arg10
    harg10 arg11 harg11 q k kt v o l g (harg10.unread dk) (harg11.unread dv) k1_t1_loop.trips le_rfl
  dsimp only at h
  rw [harg10.read_unread, harg11.read_unread] at h
  exact congrArg (fun z => z.2.2) h

end Cert.Att.Bwd

end
-- ==== Proof.BwdStep.lean ====
/- A step of queries of the backward kernel over the reals: each tile's weights and gradients of the products, then what the
   step adds to the gradients of the keys and of the values, and the gradient of its queries. -/
module

public import proofs.«01_k».proof.Proof.Spec
public import proofs.«01_k».proof.Proof.Consts
public import proofs.«01_k».proof.Proof.BwdPay
public import proofs.«01_k».proof.Proof.BwdRun

@[expose] public section

set_option maxRecDepth 16384

noncomputable section

namespace Cert.Att.Bwd

open Idealize.ShloMosaic Cert.KernelIdeal Cert.KernelIdeal.Gen

theorem trips_eq : k1_t1_loop.trips = 4 := by decide

theorem embK (j : Fin k1_t1_loop.trips) (r : Fin 2048) (x : Fin 96) (h : 2048 * j.val + r.val < 8192) :
    (rectK j).emb (ix3 0 r x) = (ix3 0 ⟨2048 * j.val + r.val, h⟩ x : S1x8192x96.Idx) := by
  refine Rect.emb_eq_of_coords _ _ _ fun a => ?_
  simp only [Rect.unit, k1_off1_eq]
  fin_cases a <;> simp [ix3]

theorem embV (j : Fin k1_t1_loop.trips) (r : Fin 2048) (x : Fin 64) (h : 2048 * j.val + r.val < 8192) :
    (rectV j).emb (ix3 0 r x) = (ix3 0 ⟨2048 * j.val + r.val, h⟩ x : S1x8192x64.Idx) := by
  refine Rect.emb_eq_of_coords _ _ _ fun a => ?_
  simp only [Rect.unit, k1_off2_eq]
  fin_cases a <;> simp [ix3]

theorem embT (j : Fin k1_t1_loop.trips) (x : Fin 96) (r : Fin 2048) (h : 2048 * j.val + r.val < 8192) :
    (rectT j).emb (ix3 0 x r) = (ix3 0 x ⟨2048 * j.val + r.val, h⟩ : S1x96x8192.Idx) := by
  refine Rect.emb_eq_of_coords _ _ _ fun a => ?_
  simp only [Rect.unit, k1_off3_eq]
  fin_cases a <;> simp [ix3]

/-- A block overlaid on the rows of tile `j`, at a row. -/
theorem overlayK (j : Fin k1_t1_loop.trips) (f : Vec Ideal S1x8192x96 .f32) (g : Vec Ideal S1x2048x96 .f32)
    (i : Fin 8192) (x : Fin 96) : (rectK j).overlay f g (ix3 0 i x)
      = if h : 2048 * j.val ≤ i.val ∧ i.val < 2048 * j.val + 2048 then g (ix3 0 ⟨i.val - 2048 * j.val, by omega⟩ x)
        else f (ix3 0 i x) := by
  split
  · rename_i h
    have e : (ix3 0 i x : S1x8192x96.Idx) = (rectK j).emb (ix3 0 ⟨i.val - 2048 * j.val, by omega⟩ x) := by
      rw [embK _ _ _ (by dsimp only; omega)]
      congr 1
      exact Fin.ext (by dsimp only; omega)
    rw [e]
    exact (rectK j).overlay_emb f g _
  · rename_i h
    refine Rect.overlay_of_not_mem _ _ _ fun hm => h ?_
    rw [Rect.mem_set_unit] at hm
    have := hm 1
    rw [k1_off1_eq] at this
    exact this

theorem overlayV (j : Fin k1_t1_loop.trips) (f : Vec Ideal S1x8192x64 .f32) (g : Vec Ideal S1x2048x64 .f32)
    (i : Fin 8192) (x : Fin 64) : (rectV j).overlay f g (ix3 0 i x)
      = if h : 2048 * j.val ≤ i.val ∧ i.val < 2048 * j.val + 2048 then g (ix3 0 ⟨i.val - 2048 * j.val, by omega⟩ x)
        else f (ix3 0 i x) := by
  split
  · rename_i h
    have e : (ix3 0 i x : S1x8192x64.Idx) = (rectV j).emb (ix3 0 ⟨i.val - 2048 * j.val, by omega⟩ x) := by
      rw [embV _ _ _ (by dsimp only; omega)]
      congr 1
      exact Fin.ext (by dsimp only; omega)
    rw [e]
    exact (rectV j).overlay_emb f g _
  · rename_i h
    refine Rect.overlay_of_not_mem _ _ _ fun hm => h ?_
    rw [Rect.mem_set_unit] at hm
    have := hm 1
    rw [k1_off2_eq] at this
    exact this

variable (q : Vec Ideal S1x96x256 .bf16) (k : Vec Ideal S1x8192x96 .bf16) (kt : Vec Ideal S1x96x8192 .bf16)
  (v : Vec Ideal S1x8192x64 .bf16) (o : Vec Ideal S1x64x256 .f32) (l : Vec Ideal S1x1x256 .f32)
  (g : Vec Ideal S1x64x256 .f32) (Q K : Fin 8192 → Fin 96 → ℝ) (V G : Fin 8192 → Fin 64 → ℝ) (ρ : Fin 256 → Fin 8192)
  (hq : ∀ x i, q (ix3 0 x i) = (Q (ρ i) x : EReal)) (hk : ∀ j x, k (ix3 0 j x) = (K j x : EReal))
  (hkt : ∀ x j, kt (ix3 0 x j) = (K j x : EReal)) (hv : ∀ j x, v (ix3 0 j x) = (V j x : EReal))
  (ho : ∀ x i, o (ix3 0 x i) = ((out σ Q K V (ρ i) x : ℝ) : EReal))
  (hl : ∀ i, l (ix3 0 0 i) = ((Real.log (den σ Q K (ρ i)) : ℝ) : EReal))
  (hg : ∀ x i, g (ix3 0 x i) = (G (ρ i) x : EReal))

/-- A row number, wrapped. -/
abbrev row (n : ℕ) : Fin 8192 := ⟨n % 8192, Nat.mod_lt _ (by norm_num)⟩

theorem row_val (i : Fin 8192) : row i.val = i := Fin.ext (Nat.mod_eq_of_lt i.isLt)

include hq hk hl in
/-- The weights of a tile. -/
theorem p_eq (j : Fin k1_t1_loop.trips) (r : Fin 2048) (i : Fin 256) (h : 2048 * j.val + r.val < 8192) :
    k1_pay12 (k1_pay3 q) (k1_pay7 l) (View.ld k (rectK j)) (ix2 r i)
      = ((wt σ Q K (ρ i) ⟨2048 * j.val + r.val, h⟩ : ℝ) : EReal) := by
  have hs : ∑ x : Fin 96, View.ld k (rectK j) (ix3 0 r x) * q (ix3 0 x i)
      = ((∑ x, Q (ρ i) x * K ⟨2048 * j.val + r.val, h⟩ x : ℝ) : EReal) := by
    rw [coe_sum]
    refine Finset.sum_congr rfl fun x _ => ?_
    rw [show View.ld k (rectK j) (ix3 0 r x) = _ from congrArg k (embK j r x h), hk, hq, ← EReal.coe_mul, mul_comm]
  rw [p_apply, hs, hl, scale_eq, ← EReal.coe_mul, ← EReal.coe_sub, Ideal.exp_coe, ← exp_sub_log, sc]

include hq hk hv ho hl hg in
/-- The gradients of a tile's products. -/
theorem ds_eq (j : Fin k1_t1_loop.trips) (r : Fin 2048) (i : Fin 256) (h : 2048 * j.val + r.val < 8192) :
    dsTile q k v o l g j (ix2 r i) = ((dsc σ Q K V G (ρ i) ⟨2048 * j.val + r.val, h⟩ : ℝ) : EReal) := by
  have hs : ∑ x : Fin 64, View.ld v (rectV j) (ix3 0 r x) * g (ix3 0 x i)
      = ((dwt V G (ρ i) ⟨2048 * j.val + r.val, h⟩ : ℝ) : EReal) := by
    rw [dwt, coe_sum]
    refine Finset.sum_congr rfl fun x _ => ?_
    rw [show View.ld v (rectV j) (ix3 0 r x) = _ from congrArg v (embV j r x h), hv, hg, ← EReal.coe_mul]
  have hd : k1_pay5 g o (ix2 0 i) = ((delta σ Q K V G (ρ i) : ℝ) : EReal) := by
    rw [delta_apply, delta, coe_sum]
    exact Finset.sum_congr rfl fun x _ => by rw [hg, ho, ← EReal.coe_mul]
  rw [dsTile, ds_apply, p_eq q k l Q K ρ hq hk hl j r i h, hs, hd, scale_eq, ← EReal.coe_sub, ← EReal.coe_mul,
    ← EReal.coe_mul, dsc]

include hq hk hkt hv ho hl hg in
/-- Before tile `n`: the gradient of the step's queries has the tiles so far, and so have the rows of the other two. -/
theorem state_eq (dk : Vec Ideal S1x8192x96 .f32) (dv : Vec Ideal S1x8192x64 .f32) (n : ℕ) (hn : n ≤ 4) :
    (∀ x i, (state q k kt v o l g dk dv n).1 (ix2 x i)
        = ((∑ j ∈ Finset.range (2048 * n), K (row j) x * dsc σ Q K V G (ρ i) (row j) : ℝ) : EReal))
    ∧ (∀ (j : Fin 8192) x, (state q k kt v o l g dk dv n).2.1 (ix3 0 j x) = dk (ix3 0 j x)
        + if j.val < 2048 * n then ((∑ i, dsc σ Q K V G (ρ i) j * Q (ρ i) x : ℝ) : EReal) else 0)
    ∧ (∀ (j : Fin 8192) x, (state q k kt v o l g dk dv n).2.2 (ix3 0 j x) = dv (ix3 0 j x)
        + if j.val < 2048 * n then ((∑ i, wt σ Q K (ρ i) j * G (ρ i) x : ℝ) : EReal) else 0) := by
  induction n with
  | zero =>
    refine ⟨fun x i => (zq_apply x i).trans (by simp), fun j x => ?_, fun j x => ?_⟩ <;>
      rw [if_neg (by omega), add_zero] <;> rfl
  | succ n ih =>
    obtain ⟨h1, h2, h3⟩ := ih (Nat.le_of_succ_le hn)
    have ht : n < k1_t1_loop.trips := by rw [trips_eq]; exact hn
    have hlt : ∀ r : Fin 2048, 2048 * n + r.val < 8192 := fun r => by omega
    have hrow : ∀ r : Fin 2048, (⟨2048 * n + r.val, hlt r⟩ : Fin 8192) = row (2048 * n + r.val) := fun r =>
      Fin.ext (Nat.mod_eq_of_lt (hlt r)).symm
    rw [state, dif_pos ht]
    refine ⟨fun x i => ?_, fun j x => ?_, fun j x => ?_⟩
    · dsimp only
      rw [dq_apply, h1, Nat.mul_succ, Finset.sum_range_add, EReal.coe_add]
      refine congrArg (_ + ·) ?_
      rw [Finset.sum_range (n := 2048), coe_sum]
      refine Finset.sum_congr rfl fun r _ => ?_
      rw [show View.ld kt (rectT ⟨n, ht⟩) (ix3 0 x r) = _ from congrArg kt (embT ⟨n, ht⟩ x r (hlt r)), hkt,
        ds_eq q k v o l g Q K V G ρ hq hk hv ho hl hg ⟨n, ht⟩ r i (hlt r), hrow, ← EReal.coe_mul]
    · dsimp only
      rw [overlayK]
      split
      · rename_i h
        dsimp only at h
        have e : 2048 * n + (j.val - 2048 * n) = j.val := by omega
        have hj : (⟨2048 * n + (j.val - 2048 * n), by omega⟩ : Fin 8192) = j := Fin.ext e
        rw [dkTile, dk_apply, if_pos (by omega),
          show View.ld (state q k kt v o l g dk dv n).2.1 (rectK ⟨n, ht⟩) (ix3 0 ⟨j.val - 2048 * n, by omega⟩ x) = _ from
            congrArg (state q k kt v o l g dk dv n).2.1 (embK ⟨n, ht⟩ ⟨j.val - 2048 * n, by omega⟩ x (by dsimp only; omega))]
        dsimp only
        rw [hj, h2, if_neg (by omega), add_zero, coe_sum]
        refine congrArg (_ + ·) (Finset.sum_congr rfl fun i _ => ?_)
        rw [show k1_pay13 _ _ _ _ _ _ (ix2 ⟨j.val - 2048 * n, _⟩ i) = _ from
          ds_eq q k v o l g Q K V G ρ hq hk hv ho hl hg ⟨n, ht⟩ ⟨j.val - 2048 * n, by omega⟩ i (by dsimp only; omega), hq,
          ← EReal.coe_mul]
        dsimp only
        rw [hj]
      · rename_i h
        dsimp only at h
        rw [h2]
        congr 1
        by_cases hj : j.val < 2048 * n
        · rw [if_pos hj, if_pos (by omega)]
        · rw [if_neg hj, if_neg (by omega)]
    · dsimp only
      rw [overlayV]
      split
      · rename_i h
        dsimp only at h
        have e : 2048 * n + (j.val - 2048 * n) = j.val := by omega
        have hj : (⟨2048 * n + (j.val - 2048 * n), by omega⟩ : Fin 8192) = j := Fin.ext e
        rw [dvTile, dv_apply, if_pos (by omega),
          show View.ld (state q k kt v o l g dk dv n).2.2 (rectV ⟨n, ht⟩) (ix3 0 ⟨j.val - 2048 * n, by omega⟩ x) = _ from
            congrArg (state q k kt v o l g dk dv n).2.2 (embV ⟨n, ht⟩ ⟨j.val - 2048 * n, by omega⟩ x (by dsimp only; omega))]
        dsimp only
        rw [hj, h3, if_neg (by omega), add_zero, coe_sum]
        refine congrArg (_ + ·) (Finset.sum_congr rfl fun i _ => ?_)
        rw [p_eq q k l Q K ρ hq hk hl ⟨n, ht⟩ ⟨j.val - 2048 * n, by omega⟩ i (by dsimp only; omega), hg, ← EReal.coe_mul]
        dsimp only
        rw [hj]
      · rename_i h
        dsimp only at h
        rw [h3]
        congr 1
        by_cases hj : j.val < 2048 * n
        · rw [if_pos hj, if_pos (by omega)]
        · rw [if_neg hj, if_neg (by omega)]

include hq hk hkt hv ho hl hg in
/-- After the last tile. -/
theorem state_end (dk : Vec Ideal S1x8192x96 .f32) (dv : Vec Ideal S1x8192x64 .f32) :
    (∀ x i, k1_pay11 (state q k kt v o l g dk dv k1_t1_loop.trips).1 (ix3 0 x i)
        = ((dq σ Q K V G (ρ i) x : ℝ) : EReal))
    ∧ (∀ (j : Fin 8192) x, (state q k kt v o l g dk dv k1_t1_loop.trips).2.1 (ix3 0 j x) = dk (ix3 0 j x)
        + ((∑ i, dsc σ Q K V G (ρ i) j * Q (ρ i) x : ℝ) : EReal))
    ∧ (∀ (j : Fin 8192) x, (state q k kt v o l g dk dv k1_t1_loop.trips).2.2 (ix3 0 j x) = dv (ix3 0 j x)
        + ((∑ i, wt σ Q K (ρ i) j * G (ρ i) x : ℝ) : EReal)) := by
  obtain ⟨h1, h2, h3⟩ := state_eq q k kt v o l g Q K V G ρ hq hk hkt hv ho hl hg dk dv 4 le_rfl
  rw [trips_eq]
  refine ⟨fun x i => ?_, fun j x => ?_, fun j x => ?_⟩
  · rw [dqo_apply, h1, dq, Finset.sum_range]
    refine congrArg _ (Finset.sum_congr rfl fun (j : Fin 8192) _ => ?_)
    rw [row_val]
  · rw [h2, if_pos (by omega)]
  · rw [h3, if_pos (by omega)]

end Cert.Att.Bwd

end
-- ==== Proof.BwdValue.lean ====
/- The three results of the backward region, as arrays: the gradients of the queries, of the keys and of the values, of the
   arrays the region reads. -/
module

public import proofs.«01_k».proof.Proof.BwdStep
public import proofs.«01_k».proof.Proof.Gen.KernelIdeal.Frame
public import Idealize.ShloMosaic.Lib.Pipeline.ValueKit

@[expose] public section

set_option maxRecDepth 16384

noncomputable section

namespace Cert.Att.Bwd

open Idealize.ShloMosaic Idealize.ShloMosaic.TcCoe Cert.KernelIdeal Cert.KernelIdeal.Gen

/-- The block each input window is at, at each point. -/
theorem idxIn : ∀ t : Fin cfg1.N, win1_0.index t = ![t.val / 32, 0, t.val % 32] ∧ win1_1.index t = ![t.val / 32, 0, 0]
    ∧ win1_2.index t = ![t.val / 32, 0, 0] ∧ win1_3.index t = ![t.val / 32, 0, 0]
    ∧ win1_4.index t = ![t.val / 32, 0, t.val % 32] ∧ win1_5.index t = ![t.val / 32, 0, t.val % 32]
    ∧ win1_6.index t = ![t.val / 32, 0, t.val % 32] := (by decide +kernel : ∀ t : Fin grid1.N, _)

/-- The block each output window is at, at each point. -/
theorem idxOut : ∀ t : Fin cfg1.N, win1_7.index t = ![t.val / 32, 0, t.val % 32]
    ∧ win1_8.index t = ![t.val / 32, 0, 0] ∧ win1_9.index t = ![t.val / 32, 0, 0] :=
  (by decide +kernel : ∀ t : Fin grid1.N, _)

/-- The head of a point. -/
abbrev hd (t : Fin cfg1.N) : Fin 6 := ⟨t.val / 32, by have h : t.val < 192 := lt_of_lt_of_eq t.isLt N_1; omega⟩

/-- The row of the array at a column of the point's block. -/
abbrev rw' (t : Fin cfg1.N) (r : Fin 256) : Fin 8192 := ⟨t.val % 32 * 256 + r.val, by omega⟩

variable (V : (c : Dev nD) → (b : Ref sig .tc) → Buf (Elt Ideal) ((c : Thread nD τ).loc b)) (c : Dev nD)

theorem blk_q (t : Fin cfg1.N) (x : Fin 96) (r : Fin 256) :
    iblk1 V c 0 t (ix3 0 x r) = V c main_v11 (ix3 (hd t) x (rw' t r)) := by
  blk_simp [iblk1]
  refine congrArg (V c main_v11) ?_
  blk_ext [(idxIn t).1, ix3]

theorem blk_k (t : Fin cfg1.N) (j : Fin 8192) (x : Fin 96) :
    iblk1 V c 1 t (ix3 0 j x) = V c main_v3 (ix3 (hd t) j x) := by
  blk_simp [iblk1]
  refine congrArg (V c main_v3) ?_
  blk_ext [(idxIn t).2.1, ix3]

theorem blk_kt (t : Fin cfg1.N) (x : Fin 96) (j : Fin 8192) :
    iblk1 V c 2 t (ix3 0 x j) = V c main_v12 (ix3 (hd t) x j) := by
  blk_simp [iblk1]
  refine congrArg (V c main_v12) ?_
  blk_ext [(idxIn t).2.2.1, ix3]

theorem blk_v (t : Fin cfg1.N) (j : Fin 8192) (x : Fin 64) :
    iblk1 V c 3 t (ix3 0 j x) = V c main_v5 (ix3 (hd t) j x) := by
  blk_simp [iblk1]
  refine congrArg (V c main_v5) ?_
  blk_ext [(idxIn t).2.2.2.1, ix3]

theorem blk_o (t : Fin cfg1.N) (x : Fin 64) (r : Fin 256) :
    iblk1 V c 4 t (ix3 0 x r) = V c main_v13 (ix3 (hd t) x (rw' t r)) := by
  blk_simp [iblk1]
  refine congrArg (V c main_v13) ?_
  blk_ext [(idxIn t).2.2.2.2.1, ix3]

theorem blk_l (t : Fin cfg1.N) (r : Fin 256) :
    iblk1 V c 5 t (ix3 0 0 r) = V c main_v14 (ix3 (hd t) 0 (rw' t r)) := by
  blk_simp [iblk1]
  refine congrArg (V c main_v14) ?_
  blk_ext [(idxIn t).2.2.2.2.2.1, ix3]

theorem blk_g (t : Fin cfg1.N) (x : Fin 64) (r : Fin 256) :
    iblk1 V c 6 t (ix3 0 x r) = V c main_v15 (ix3 (hd t) x (rw' t r)) := by
  blk_simp [iblk1]
  refine congrArg (V c main_v15) ?_
  blk_ext [(idxIn t).2.2.2.2.2.2, ix3]

variable (Q K : Fin 6 → Fin 8192 → Fin 96 → ℝ) (U G : Fin 6 → Fin 8192 → Fin 64 → ℝ)

/-- What the region reads: the arrays of the forward pass, and the gradient of its outputs. -/
structure Reads : Prop where
  q : ∀ h x i, (V c main_v11 : Vec Ideal S6x96x8192 .bf16) (ix3 h x i) = (Q h i x : EReal)
  k : ∀ h j x, (V c main_v3 : Vec Ideal S6x8192x96 .bf16) (ix3 h j x) = (K h j x : EReal)
  kt : ∀ h x j, (V c main_v12 : Vec Ideal S6x96x8192 .bf16) (ix3 h x j) = (K h j x : EReal)
  v : ∀ h j x, (V c main_v5 : Vec Ideal S6x8192x64 .bf16) (ix3 h j x) = (U h j x : EReal)
  o : ∀ h x i, (V c main_v13 : Vec Ideal S6x64x8192 .f32) (ix3 h x i) = ((out σ (Q h) (K h) (U h) i x : ℝ) : EReal)
  l : ∀ h i, (V c main_v14 : Vec Ideal S6x1x8192 .f32) (ix3 h 0 i) = ((Real.log (den σ (Q h) (K h) i) : ℝ) : EReal)
  g : ∀ h x i, (V c main_v15 : Vec Ideal S6x64x8192 .f32) (ix3 h x i) = (G h i x : EReal)

variable {V c Q K U G}

/-- What a point leaves in the three output blocks, over what the last two held. -/
theorem step (R : Reads V c Q K U G) (t : Fin cfg1.N) (dk : Vec Ideal S1x8192x96 .f32) (dv : Vec Ideal S1x8192x64 .f32) :
    let s := state (iblk1 V c 0 t) (iblk1 V c 1 t) (iblk1 V c 2 t) (iblk1 V c 3 t) (iblk1 V c 4 t) (iblk1 V c 5 t)
      (iblk1 V c 6 t) dk dv k1_t1_loop.trips
    (∀ x i, k1_pay11 s.1 (ix3 0 x i) = ((dq σ (Q (hd t)) (K (hd t)) (U (hd t)) (G (hd t)) (rw' t i) x : ℝ) : EReal))
    ∧ (∀ (j : Fin 8192) x, s.2.1 (ix3 0 j x) = dk (ix3 0 j x)
        + ((∑ i, dsc σ (Q (hd t)) (K (hd t)) (U (hd t)) (G (hd t)) (rw' t i) j * Q (hd t) (rw' t i) x : ℝ) : EReal))
    ∧ (∀ (j : Fin 8192) x, s.2.2 (ix3 0 j x) = dv (ix3 0 j x)
        + ((∑ i, wt σ (Q (hd t)) (K (hd t)) (rw' t i) j * G (hd t) (rw' t i) x : ℝ) : EReal)) :=
  state_end (iblk1 V c 0 t) (iblk1 V c 1 t) (iblk1 V c 2 t) (iblk1 V c 3 t) (iblk1 V c 4 t) (iblk1 V c 5 t)
    (iblk1 V c 6 t) (Q (hd t)) (K (hd t)) (U (hd t)) (G (hd t)) (rw' t)
    (fun x i => (blk_q V c t x i).trans (R.q _ _ _)) (fun j x => (blk_k V c t j x).trans (R.k _ _ _))
    (fun x j => (blk_kt V c t x j).trans (R.kt _ _ _)) (fun j x => (blk_v V c t j x).trans (R.v _ _ _))
    (fun x i => (blk_o V c t x i).trans (R.o _ _ _)) (fun i => (blk_l V c t i).trans (R.l _ _))
    (fun x i => (blk_g V c t x i).trans (R.g _ _ _)) dk dv

theorem point_q (R : Reads V c Q K U G) (t : Fin cfg1.N) (x : Fin 96) (i : Fin 256) :
    (outsAt1 V c t.val t.isLt).1 (ix3 0 x i)
      = ((dq σ (Q (hd t)) (K (hd t)) (U (hd t)) (G (hd t)) (rw' t i) x : ℝ) : EReal) := by
  by_cases h0 : t.val % 32 = 0
  · rw [outsAt1_A V c t h0]
    dsimp only
    rw [outA7_eq]
    exact (step R t _ _).1 x i
  · rw [outsAt1_B V c t h0]
    dsimp only
    rw [outB7_eq]
    exact (step R t _ _).1 x i

theorem point_k (R : Reads V c Q K U G) (t : Fin cfg1.N) (hr : t.val % 32 = 31) (j : Fin 8192) (x : Fin 96) :
    (outsAt1 V c t.val t.isLt).2.1 (ix3 0 j x)
      = ((dk σ (Q (hd t)) (K (hd t)) (U (hd t)) (G (hd t)) j x : ℝ) : EReal) := by
  have e := Pipeline.eq_sum_fin_of_reset_step_apply_of_flush
    (fun n h (y : Fin 8192 × Fin 96) => ((outsAt1 V c n h).2.1 (ix3 0 y.1 y.2) : EReal)) 32 (fun _ => 0)
    (fun t y => ((∑ i, dsc σ (Q (hd t)) (K (hd t)) (U (hd t)) (G (hd t)) (rw' t i) y.1 * Q (hd t) (rw' t i) y.2 : ℝ) : EReal))
    (fun t h0 y => by
      rw [outsAt1_A V c t h0]
      dsimp only
      rw [outA8_eq]
      refine ((step R t _ _).2.1 y.1 y.2).trans ?_
      rw [zk_apply])
    (fun t h0 y => by
      rw [outsAt1_B V c t h0]
      dsimp only
      rw [outB8_eq]
      exact (step R t _ _).2.1 y.1 y.2) t hr (j, x)
  refine e.trans ?_
  rw [zero_add, dk, ← coe_sum]
  refine congrArg _ (Fin.sum_mul_add_congr fun s i hl => ?_)
  have hh : ∀ h, hd ⟨32 * (t.val / 32) + s.val, h⟩ = hd t := fun h => Fin.ext (by dsimp only; omega)
  have hw : ∀ h, rw' ⟨32 * (t.val / 32) + s.val, h⟩ i = ⟨s.val * 256 + i.val, hl⟩ := fun h =>
    Fin.ext (by dsimp only; omega)
  rw [hh, hw]

theorem point_v (R : Reads V c Q K U G) (t : Fin cfg1.N) (hr : t.val % 32 = 31) (j : Fin 8192) (x : Fin 64) :
    (outsAt1 V c t.val t.isLt).2.2 (ix3 0 j x)
      = ((dv σ (Q (hd t)) (K (hd t)) (G (hd t)) j x : ℝ) : EReal) := by
  have e := Pipeline.eq_sum_fin_of_reset_step_apply_of_flush
    (fun n h (y : Fin 8192 × Fin 64) => ((outsAt1 V c n h).2.2 (ix3 0 y.1 y.2) : EReal)) 32 (fun _ => 0)
    (fun t y => ((∑ i, wt σ (Q (hd t)) (K (hd t)) (rw' t i) y.1 * G (hd t) (rw' t i) y.2 : ℝ) : EReal))
    (fun t h0 y => by
      rw [outsAt1_A V c t h0]
      dsimp only
      rw [outA9_eq]
      refine ((step R t _ _).2.2 y.1 y.2).trans ?_
      rw [zv_apply])
    (fun t h0 y => by
      rw [outsAt1_B V c t h0]
      dsimp only
      rw [outB9_eq]
      exact (step R t _ _).2.2 y.1 y.2) t hr (j, x)
  refine e.trans ?_
  rw [zero_add, dv, ← coe_sum]
  refine congrArg _ (Fin.sum_mul_add_congr fun s i hl => ?_)
  have hh : ∀ h, hd ⟨32 * (t.val / 32) + s.val, h⟩ = hd t := fun h => Fin.ext (by dsimp only; omega)
  have hw : ∀ h, rw' ⟨32 * (t.val / 32) + s.val, h⟩ i = ⟨s.val * 256 + i.val, hl⟩ := fun h =>
    Fin.ext (by dsimp only; omega)
  rw [hh, hw]

theorem final_q (R : Reads V c Q K U G) : (dat1 V c).arrAt 7 cfg1.N
    = fun i : S6x96x8192.Idx => ((dq σ (Q (i 0)) (K (i 0)) (U (i 0)) (G (i 0)) (i 2) (i 1) : ℝ) : EReal) := by
  refine (dat1 V c).arrAt_eq_of_covers 7 _ (by decide +kernel) fun t _ y => ?_
  blk_simp
  rw [after1_7]
  change S1x96x256.Idx at y
  obtain ⟨a, x, r, rfl⟩ : ∃ (a : Fin 1) (x : Fin 96) (r : Fin 256), y = ix3 a x r := ⟨_, _, _, eq_ix3 y⟩
  obtain rfl : a = 0 := Subsingleton.elim _ _
  rw [point_q R t x r]
  have e0 : (win1_7.blk t).view.emb (ix3 0 x r) = ix3 (hd t) x (rw' t r) := by blk_ext [(idxOut t).1, ix3]
  rw [e0]
  rfl

theorem final_k (R : Reads V c Q K U G) : (dat1 V c).arrAt 8 cfg1.N
    = fun i : S6x8192x96.Idx => ((dk σ (Q (i 0)) (K (i 0)) (U (i 0)) (G (i 0)) (i 1) (i 2) : ℝ) : EReal) := by
  refine (dat1 V c).arrAt_eq_of_covers 8 _ (by decide +kernel) fun t hf y => ?_
  have hr := (flush1_8 t).mp hf
  blk_simp
  rw [after1_8]
  change S1x8192x96.Idx at y
  obtain ⟨a, j, x, rfl⟩ : ∃ (a : Fin 1) (j : Fin 8192) (x : Fin 96), y = ix3 a j x := ⟨_, _, _, eq_ix3 y⟩
  obtain rfl : a = 0 := Subsingleton.elim _ _
  rw [point_k R t hr j x]
  have e0 : (win1_8.blk t).view.emb (ix3 0 j x) = ix3 (hd t) j x := by blk_ext [(idxOut t).2.1, ix3]
  rw [e0]
  rfl

theorem final_v (R : Reads V c Q K U G) : (dat1 V c).arrAt 9 cfg1.N
    = fun i : S6x8192x64.Idx => ((dv σ (Q (i 0)) (K (i 0)) (G (i 0)) (i 1) (i 2) : ℝ) : EReal) := by
  refine (dat1 V c).arrAt_eq_of_covers 9 _ (by decide +kernel) fun t hf y => ?_
  have hr := (flush1_9 t).mp hf
  blk_simp
  rw [after1_9]
  change S1x8192x64.Idx at y
  obtain ⟨a, j, x, rfl⟩ : ∃ (a : Fin 1) (j : Fin 8192) (x : Fin 64), y = ix3 a j x := ⟨_, _, _, eq_ix3 y⟩
  obtain rfl : a = 0 := Subsingleton.elim _ _
  rw [point_v R t hr j x]
  have e0 : (win1_9.blk t).view.emb (ix3 0 j x) = ix3 (hd t) j x := by blk_ext [(idxOut t).2.2, ix3]
  rw [e0]
  rfl

end Cert.Att.Bwd

end
-- ==== Proof.HostValue.lean ====
/- What the host operations around the two regions leave, over the reals: the arrays each region reads, and the results. -/
module

public import proofs.«01_k».proof.Proof.FwdValue
public import proofs.«01_k».proof.Proof.BwdValue

@[expose] public section

set_option maxRecDepth 16384

noncomputable section

namespace Cert.Att

open Idealize.ShloMosaic Idealize.ShloMosaic.TcCoe Cert.KernelIdeal Cert.KernelIdeal.Gen

variable (m : (ℓ : Loc nD τ sig) → Buf (Elt Ideal) ℓ) (ρ : Dev nD → PrngReg) (c : Dev nD)
  (Q K : Fin 6 → Fin 8192 → Fin 96 → ℝ) (U G : Fin 6 → Fin 8192 → Fin 64 → ℝ)

/-- The arguments are arrays of real numbers, given by head. -/
structure Args : Prop where
  q : ∀ n h x, (m ((c : Thread nD τ).loc main_arg0) : Vec Ideal S8192x6x96 .f32) (ix3 n h x) = (Q h n x : EReal)
  k : ∀ n h x, (m ((c : Thread nD τ).loc main_arg1) : Vec Ideal S8192x6x96 .f32) (ix3 n h x) = (K h n x : EReal)
  v : ∀ n h x, (m ((c : Thread nD τ).loc main_arg2) : Vec Ideal S8192x6x64 .f32) (ix3 n h x) = (U h n x : EReal)
  g : ∀ n h x, (m ((c : Thread nD τ).loc main_arg3) : Vec Ideal S8192x6x64 .f32) (ix3 n h x) = (G h n x : EReal)

/-- The values widened to 128 lanes: a one in lane 64, zeros after it. -/
def wide (U : Fin 6 → Fin 8192 → Fin 64 → ℝ) (h : Fin 6) (j : Fin 8192) (x : Fin 128) : ℝ :=
  if hx : x.val < 64 then U h j ⟨x.val, hx⟩ else if x.val = 64 then 1 else 0

/-! ## Before the forward region -/

theorem V1_v1 : (V1 m ρ c main_v1 : Vec Ideal S6x8192x96 .bf16)
    = transpose S6x8192x96 [1, 0, 2] (truncf (F := Ideal) .bf16 (m ((c : Thread nD τ).loc main_arg0) : Vec Ideal S8192x6x96 .f32) bitsLt_bf16_f32)
      transposes_S8192x6x96_S6x8192x96_1_0_2 := by
  show StableHlo.after hostOps0 (W0 m ρ c) _ = _
  after_results

theorem V1_v3 : (V1 m ρ c main_v3 : Vec Ideal S6x8192x96 .bf16)
    = transpose S6x8192x96 [1, 0, 2] (truncf (F := Ideal) .bf16 (m ((c : Thread nD τ).loc main_arg1) : Vec Ideal S8192x6x96 .f32) bitsLt_bf16_f32)
      transposes_S8192x6x96_S6x8192x96_1_0_2 := by
  show StableHlo.after hostOps0 (W0 m ρ c) _ = _
  after_results

theorem V1_v5 : (V1 m ρ c main_v5 : Vec Ideal S6x8192x64 .bf16)
    = transpose S6x8192x64 [1, 0, 2] (truncf (F := Ideal) .bf16 (m ((c : Thread nD τ).loc main_arg2) : Vec Ideal S8192x6x64 .f32) bitsLt_bf16_f32)
      transposes_S8192x6x64_S6x8192x64_1_0_2 := by
  show StableHlo.after hostOps0 (W0 m ρ c) _ = _
  after_results

theorem cat_congr {a a' : Vec Ideal S6x8192x64 .bf16} {b b' : Vec Ideal S6x8192x1 .bf16} {d d' : Vec Ideal S6x8192x63 .bf16}
    (ha : a = a') (hb : b = b') (hd : d = d') :
    concatenate S6x8192x128 2 [⟨S6x8192x64, a⟩, ⟨S6x8192x1, b⟩, ⟨S6x8192x63, d⟩]
        concatenates_S6x8192x64_S6x8192x1_S6x8192x63_S6x8192x128_d2
      = concatenate S6x8192x128 2 [⟨S6x8192x64, a'⟩, ⟨S6x8192x1, b'⟩, ⟨S6x8192x63, d'⟩]
        concatenates_S6x8192x64_S6x8192x1_S6x8192x63_S6x8192x128_d2 := by
  rw [ha, hb, hd]

theorem V1_v8 : (V1 m ρ c main_v8 : Vec Ideal S6x8192x128 .bf16)
    = concatenate S6x8192x128 2 [⟨S6x8192x64, (V1 m ρ c main_v5 : Vec Ideal S6x8192x64 .bf16)⟩,
        ⟨S6x8192x1, (broadcastInDim S6x8192x1 ![] bcast_S_S6x8192x1 (constant (F := Ideal) S_ .bf16 0x3F80#16) : Vec Ideal S6x8192x1 .bf16)⟩,
        ⟨S6x8192x63, (broadcastInDim S6x8192x63 ![] bcast_S_S6x8192x63 (constant (F := Ideal) S_ .bf16 0x0000#16) : Vec Ideal S6x8192x63 .bf16)⟩]
      concatenates_S6x8192x64_S6x8192x1_S6x8192x63_S6x8192x128_d2 := by
  rw [V1_v5]
  show StableHlo.after hostOps0 (W0 m ρ c) _ = _
  after_results_simp
  refine cat_congr ?_ ?_ ?_
  · show HloOp.result _ _ (Proc.devRef .tc main_v5) = _
    after_results_simp
  · show HloOp.result _ _ (Proc.devRef .tc main_v6) = _
    after_results_simp
  · show HloOp.result _ _ (Proc.devRef .tc main_v7) = _
    after_results_simp

variable {m c Q K U G}

theorem Args.v1 (A : Args m c Q K U G) (h : Fin 6) (n : Fin 8192) (x : Fin 96) :
    (V1 m ρ c main_v1 : Vec Ideal S6x8192x96 .bf16) (ix3 h n x) = (Q h n x : EReal) := by
  rw [V1_v1]
  refine Eq.trans ?_ (A.q n h x)
  generalize (m ((c : Thread nD τ).loc main_arg0) : Vec Ideal S8192x6x96 .f32) = a
  pointwise

theorem Args.v3 (A : Args m c Q K U G) (h : Fin 6) (n : Fin 8192) (x : Fin 96) :
    (V1 m ρ c main_v3 : Vec Ideal S6x8192x96 .bf16) (ix3 h n x) = (K h n x : EReal) := by
  rw [V1_v3]
  refine Eq.trans ?_ (A.k n h x)
  generalize (m ((c : Thread nD τ).loc main_arg1) : Vec Ideal S8192x6x96 .f32) = a
  pointwise

theorem Args.v5 (A : Args m c Q K U G) (h : Fin 6) (n : Fin 8192) (x : Fin 64) :
    (V1 m ρ c main_v5 : Vec Ideal S6x8192x64 .bf16) (ix3 h n x) = (U h n x : EReal) := by
  rw [V1_v5]
  refine Eq.trans ?_ (A.v n h x)
  generalize (m ((c : Thread nD τ).loc main_arg2) : Vec Ideal S8192x6x64 .f32) = a
  pointwise

theorem one_bf16 : Ideal.ofBits .bf16 0x3F80#16 = 1 := by
  simp [Ideal.ofBits, Ideal.ieee, -EReal.coe_mul]
  norm_num

theorem zero_bf16 : Ideal.ofBits .bf16 0x0000#16 = 0 := by
  simp [Ideal.ofBits, Ideal.ieee, -EReal.coe_mul]

/-- The widened values at a lane, piece by piece. -/
theorem cat_apply (a : Vec Ideal S6x8192x64 .bf16) (b : Vec Ideal S6x8192x1 .bf16) (d : Vec Ideal S6x8192x63 .bf16)
    (h : Fin 6) (n : Fin 8192) (x : Fin 128) :
    concatenate S6x8192x128 2 [⟨S6x8192x64, a⟩, ⟨S6x8192x1, b⟩, ⟨S6x8192x63, d⟩]
        concatenates_S6x8192x64_S6x8192x1_S6x8192x63_S6x8192x128_d2 (ix3 h n x)
      = if hx : x.val < 64 then a (ix3 h n ⟨x.val, hx⟩) else if h1 : x.val = 64 then b (ix3 h n 0)
        else d (ix3 h n ⟨x.val - 65, by omega⟩) := by
  have side : ∀ (y : Nat) (w : Fin y) (e : Fin 3), e ≠ 2 → (ix3 h n w e).val = (ix3 h n x e).val := fun y w e he => by
    fin_cases e
    · rfl
    · rfl
    · exact absurd rfl he
  split
  · rename_i hx
    exact concatenate_apply_piece (t := S6x8192x128) 2 [⟨S6x8192x64, a⟩, ⟨S6x8192x1, b⟩, ⟨S6x8192x63, d⟩] _ (ix3 h n x) 0
      (by simp) S6x8192x64 a rfl rfl 0 rfl (ix3 h n ⟨x.val, hx⟩) (fun e he => side _ _ e he) (Nat.zero_add _)
  · split
    · rename_i h1
      exact concatenate_apply_piece (t := S6x8192x128) 2 [⟨S6x8192x64, a⟩, ⟨S6x8192x1, b⟩, ⟨S6x8192x63, d⟩] _ (ix3 h n x) 1
        (by simp) S6x8192x1 b rfl rfl 64 rfl (ix3 h n 0) (fun e he => side _ _ e he) h1.symm
    · rename_i h1 h2
      exact concatenate_apply_piece (t := S6x8192x128) 2 [⟨S6x8192x64, a⟩, ⟨S6x8192x1, b⟩, ⟨S6x8192x63, d⟩] _ (ix3 h n x) 2
        (by simp) S6x8192x63 d rfl rfl 65 rfl (ix3 h n ⟨x.val - 65, by omega⟩) (fun e he => side _ _ e he)
        (show 65 + (x.val - 65) = x.val by omega)

theorem Args.v8 (A : Args m c Q K U G) (h : Fin 6) (n : Fin 8192) (x : Fin 128) :
    (V1 m ρ c main_v8 : Vec Ideal S6x8192x128 .bf16) (ix3 h n x) = (wide U h n x : EReal) := by
  rw [V1_v8, cat_apply, wide]
  split
  · exact A.v5 ρ h n _
  · split
    · exact one_bf16
    · exact zero_bf16

/-! ## Between the regions -/

theorem wide_lt (h : Fin 6) (j : Fin 8192) (x : Fin 64) : wide U h j (Fwd.lane x) = U h j x := dif_pos x.isLt

theorem wide_one (h : Fin 6) (j : Fin 8192) : wide U h j 64 = 1 := by
  rw [wide, dif_neg (by decide), if_pos (by decide)]

theorem Args.o (A : Args m c Q K U G) : (W2 m ρ c main_v9_0 : Vec Ideal S6x8192x64 .f32)
    = fun i : S6x8192x64.Idx => ((out σ (Q (i 0)) (K (i 0)) (U (i 0)) (i 1) (i 2) : ℝ) : EReal) :=
  (W2_arr m ρ c 3).trans (Fwd.final_o (V1 m ρ) c Q K (wide U) U (A.v1 ρ) (A.v3 ρ) (A.v8 ρ) wide_lt wide_one)

theorem Args.lse (A : Args m c Q K U G) : (W2 m ρ c main_v9_1 : Vec Ideal S6x8192x1 .f32)
    = fun i : S6x8192x1.Idx => ((Real.log (den σ (Q (i 0)) (K (i 0)) (i 1)) : ℝ) : EReal) :=
  (W2_arr m ρ c 4).trans (Fwd.final_lse (V1 m ρ) c Q K (wide U) U (A.v1 ρ) (A.v3 ρ) (A.v8 ρ) wide_lt wide_one)

variable (m c)

theorem W2_v1 : W2 m ρ c main_v1 = V1 m ρ c main_v1 := W2_of m ρ c main_v1 (by decide)
theorem W2_v3 : W2 m ρ c main_v3 = V1 m ρ c main_v3 := W2_of m ρ c main_v3 (by decide)
theorem W2_v5 : W2 m ρ c main_v5 = V1 m ρ c main_v5 := W2_of m ρ c main_v5 (by decide)
theorem W2_arg3 : W2 m ρ c main_arg3 = m ((c : Thread nD τ).loc main_arg3) := W2_args m ρ c main_arg3 (by decide)

theorem V3_v3 : V3 m ρ c main_v3 = V1 m ρ c main_v3 := (W3_of m ρ c main_v3 (by decide)).trans (W2_v3 m ρ c)
theorem V3_v5 : V3 m ρ c main_v5 = V1 m ρ c main_v5 := (W3_of m ρ c main_v5 (by decide)).trans (W2_v5 m ρ c)

theorem V3_v10 : (W3 m ρ c main_v10 : Vec Ideal S8192x6x64 .f32)
    = transpose S8192x6x64 [1, 0, 2] (W2 m ρ c main_v9_0 : Vec Ideal S6x8192x64 .f32) transposes_S6x8192x64_S8192x6x64_1_0_2 := by
  show StableHlo.after hostOps1 (W2 m ρ c) _ = _
  after_results

theorem V3_v11 : (V3 m ρ c main_v11 : Vec Ideal S6x96x8192 .bf16)
    = transpose S6x96x8192 [0, 2, 1] (W2 m ρ c main_v1 : Vec Ideal S6x8192x96 .bf16) transposes_S6x8192x96_S6x96x8192_0_2_1 := by
  show StableHlo.after hostOps1 (W2 m ρ c) _ = _
  after_results

theorem V3_v12 : (V3 m ρ c main_v12 : Vec Ideal S6x96x8192 .bf16)
    = transpose S6x96x8192 [0, 2, 1] (W2 m ρ c main_v3 : Vec Ideal S6x8192x96 .bf16) transposes_S6x8192x96_S6x96x8192_0_2_1 := by
  show StableHlo.after hostOps1 (W2 m ρ c) _ = _
  after_results

theorem V3_v13 : (V3 m ρ c main_v13 : Vec Ideal S6x64x8192 .f32)
    = transpose S6x64x8192 [0, 2, 1] (W2 m ρ c main_v9_0 : Vec Ideal S6x8192x64 .f32) transposes_S6x8192x64_S6x64x8192_0_2_1 := by
  show StableHlo.after hostOps1 (W2 m ρ c) _ = _
  after_results

theorem V3_v14 : (V3 m ρ c main_v14 : Vec Ideal S6x1x8192 .f32)
    = transpose S6x1x8192 [0, 2, 1] (W2 m ρ c main_v9_1 : Vec Ideal S6x8192x1 .f32) transposes_S6x8192x1_S6x1x8192_0_2_1 := by
  show StableHlo.after hostOps1 (W2 m ρ c) _ = _
  after_results

theorem V3_v15 : (V3 m ρ c main_v15 : Vec Ideal S6x64x8192 .f32)
    = transpose S6x64x8192 [1, 2, 0] (W2 m ρ c main_arg3 : Vec Ideal S8192x6x64 .f32) transposes_S8192x6x64_S6x64x8192_1_2_0 := by
  show StableHlo.after hostOps1 (W2 m ρ c) _ = _
  after_results

variable {m c}

/-- What the backward region reads. -/
theorem Args.reads (A : Args m c Q K U G) : Bwd.Reads (V3 m ρ) c Q K U G where
  q h x i := by
    rw [V3_v11, W2_v1]
    refine Eq.trans ?_ (A.v1 ρ h i x)
    generalize (V1 m ρ c main_v1 : Vec Ideal S6x8192x96 .bf16) = a
    pointwise
  k h j x := by
    rw [V3_v3]
    exact A.v3 ρ h j x
  kt h x j := by
    rw [V3_v12, W2_v3]
    refine Eq.trans ?_ (A.v3 ρ h j x)
    generalize (V1 m ρ c main_v3 : Vec Ideal S6x8192x96 .bf16) = a
    pointwise
  v h j x := by
    rw [V3_v5]
    exact A.v5 ρ h j x
  o h x i := by
    rw [V3_v13]
    refine Eq.trans ?_ (congrFun (A.o ρ) (ix3 h i x))
    generalize (W2 m ρ c main_v9_0 : Vec Ideal S6x8192x64 .f32) = a
    pointwise
  l h i := by
    rw [V3_v14]
    refine Eq.trans ?_ (congrFun (A.lse ρ) (ix3 h i 0))
    generalize (W2 m ρ c main_v9_1 : Vec Ideal S6x8192x1 .f32) = a
    pointwise
  g h x i := by
    rw [V3_v15, W2_arg3]
    refine Eq.trans ?_ (A.g i h x)
    generalize (m ((c : Thread nD τ).loc main_arg3) : Vec Ideal S8192x6x64 .f32) = a
    pointwise

/-! ## The results -/

variable (m c)

theorem W5_v10 : (W5 m ρ c main_v10 : Vec Ideal S8192x6x64 .f32) = W3 m ρ c main_v10 :=
  (W5_of m ρ c main_v10 (by decide)).trans (W4_of m ρ c main_v10 (by decide))

theorem W5_v17 : (W5 m ρ c main_v17 : Vec Ideal S8192x6x96 .f32)
    = transpose S8192x6x96 [2, 0, 1] (W4 m ρ c main_v16_0 : Vec Ideal S6x96x8192 .f32) transposes_S6x96x8192_S8192x6x96_2_0_1 := by
  show StableHlo.after hostOps2 (W4 m ρ c) _ = _
  after_results

theorem W5_v18 : (W5 m ρ c main_v18 : Vec Ideal S8192x6x96 .f32)
    = transpose S8192x6x96 [1, 0, 2] (W4 m ρ c main_v16_1 : Vec Ideal S6x8192x96 .f32) transposes_S6x8192x96_S8192x6x96_1_0_2 := by
  show StableHlo.after hostOps2 (W4 m ρ c) _ = _
  after_results

theorem W5_v19 : (W5 m ρ c main_v19 : Vec Ideal S8192x6x64 .f32)
    = transpose S8192x6x64 [1, 0, 2] (W4 m ρ c main_v16_2 : Vec Ideal S6x8192x64 .f32) transposes_S6x8192x64_S8192x6x64_1_0_2 := by
  show StableHlo.after hostOps2 (W4 m ρ c) _ = _
  after_results

variable {m c}

theorem Args.res_o (A : Args m c Q K U G) (n : Fin 8192) (h : Fin 6) (x : Fin 64) :
    (W5 m ρ c main_v10 : Vec Ideal S8192x6x64 .f32) (ix3 n h x) = ((out σ (Q h) (K h) (U h) n x : ℝ) : EReal) := by
  rw [W5_v10, V3_v10]
  refine Eq.trans ?_ (congrFun (A.o ρ) (ix3 h n x))
  generalize (W2 m ρ c main_v9_0 : Vec Ideal S6x8192x64 .f32) = a
  pointwise

theorem Args.res_q (A : Args m c Q K U G) (n : Fin 8192) (h : Fin 6) (x : Fin 96) :
    (W5 m ρ c main_v17 : Vec Ideal S8192x6x96 .f32) (ix3 n h x) = ((dq σ (Q h) (K h) (U h) (G h) n x : ℝ) : EReal) := by
  rw [W5_v17]
  refine Eq.trans ?_ (congrFun ((W4_arr m ρ c 7).trans (Bwd.final_q (A.reads ρ))) (ix3 h x n))
  show transpose S8192x6x96 [2, 0, 1] (W4 m ρ c main_v16_0 : Vec Ideal S6x96x8192 .f32) transposes_S6x96x8192_S8192x6x96_2_0_1 (ix3 n h x)
    = (W4 m ρ c main_v16_0 : Vec Ideal S6x96x8192 .f32) (ix3 h x n)
  generalize (W4 m ρ c main_v16_0 : Vec Ideal S6x96x8192 .f32) = a
  pointwise

theorem Args.res_k (A : Args m c Q K U G) (n : Fin 8192) (h : Fin 6) (x : Fin 96) :
    (W5 m ρ c main_v18 : Vec Ideal S8192x6x96 .f32) (ix3 n h x) = ((dk σ (Q h) (K h) (U h) (G h) n x : ℝ) : EReal) := by
  rw [W5_v18]
  refine Eq.trans ?_ (congrFun ((W4_arr m ρ c 8).trans (Bwd.final_k (A.reads ρ))) (ix3 h n x))
  show transpose S8192x6x96 [1, 0, 2] (W4 m ρ c main_v16_1 : Vec Ideal S6x8192x96 .f32) transposes_S6x8192x96_S8192x6x96_1_0_2 (ix3 n h x)
    = (W4 m ρ c main_v16_1 : Vec Ideal S6x8192x96 .f32) (ix3 h n x)
  generalize (W4 m ρ c main_v16_1 : Vec Ideal S6x8192x96 .f32) = a
  pointwise

theorem Args.res_v (A : Args m c Q K U G) (n : Fin 8192) (h : Fin 6) (x : Fin 64) :
    (W5 m ρ c main_v19 : Vec Ideal S8192x6x64 .f32) (ix3 n h x) = ((dv σ (Q h) (K h) (G h) n x : ℝ) : EReal) := by
  rw [W5_v19]
  refine Eq.trans ?_ (congrFun ((W4_arr m ρ c 9).trans (Bwd.final_v (A.reads ρ))) (ix3 h n x))
  show transpose S8192x6x64 [1, 0, 2] (W4 m ρ c main_v16_2 : Vec Ideal S6x8192x64 .f32) transposes_S6x8192x64_S8192x6x64_1_0_2 (ix3 n h x)
    = (W4 m ρ c main_v16_2 : Vec Ideal S6x8192x64 .f32) (ix3 h n x)
  generalize (W4 m ρ c main_v16_2 : Vec Ideal S6x8192x64 .f32) = a
  pointwise

end Cert.Att

end
-- ==== Proof.Pre.lean ====
/- What the precondition says: the arguments are arrays of real numbers. -/
module

public import proofs.«01_k».proof.Defs
public import proofs.«01_k».proof.Proof.HostValue

@[expose] public section

set_option maxRecDepth 16384

noncomputable section

namespace Cert.Att

open Idealize.ShloMosaic Idealize.ShloMosaic.TcCoe

/-- The shape relations of the precondition. -/
theorem pre_facts : Cert.Pre_finite_args.Facts where
  bcast_S_S8192x6x96 := by decide
  bcast_S_S8192x6x64 := by decide
  concatenates_S8192x6x96_S8192x6x64_S8192x6x160_d2 := by decide

theorem inf_f32 : (Ideal.ofBits .f32 0x7F800000#32 : EReal) = ⊤ := by
  simp [Ideal.ofBits, Ideal.ieee]

/-- A number whose absolute value is below infinity is real. -/
theorem real_of_lt (x : EReal) (h : FloatOps.cmpf (F := Ideal) (φ := .f32) .olt (max x (-x) : EReal)
    (Ideal.ofBits .f32 0x7F800000#32 : EReal) = 1#1) : ∃ y : ℝ, x = y := by
  rw [inf_f32] at h
  have h' : max x (-x) < ⊤ := by
    by_contra hn
    simp [Ideal.cmpf_def, Ideal.cmp, hn] at h
  induction x using EReal.rec with
  | bot => simp at h'
  | top => simp at h'
  | coe y => exact ⟨y, rfl⟩

theorem and_one (a b : BitVec 1) (h : a &&& b = 1#1) : a = 1#1 ∧ b = 1#1 := by
  revert a b; decide

section
variable (q k : FVec Ideal Cert.Pre_finite_args.S8192x6x96 .f32) (v g : FVec Ideal Cert.Pre_finite_args.S8192x6x64 .f32)
  (H : @Cert.Pre_finite_args.fn pre_facts Ideal _ q k v g = fun _ => 1#1)

include H

theorem pre_qk (n : Fin 8192) (h : Fin 6) (y : Fin 96) :
    (∃ r : ℝ, (q (ix3 n h y) : EReal) = r) ∧ ∃ r : ℝ, (k (ix3 n h y) : EReal) = r := by
  have e := congrFun H (ix3 n h (⟨y.val, by omega⟩ : Fin 160))
  unfold Cert.Pre_finite_args.fn at e
  dsimp only at e
  replace e := (concatenate_pair_apply_left (t := Cert.Pre_finite_args.S8192x6x160) (s₁ := Cert.Pre_finite_args.S8192x6x96)
    (s₂ := Cert.Pre_finite_args.S8192x6x64) _ _ _ _ _ rfl (ix3 n h y)
    (fun b => match b with | ⟨0, _⟩ => rfl | ⟨1, _⟩ => rfl | ⟨2, _⟩ => rfl)).symm.trans e
  obtain ⟨e1, e2⟩ := and_one _ _ e
  exact ⟨real_of_lt _ e1, real_of_lt _ e2⟩

theorem pre_vg (n : Fin 8192) (h : Fin 6) (y : Fin 64) :
    (∃ r : ℝ, (v (ix3 n h y) : EReal) = r) ∧ ∃ r : ℝ, (g (ix3 n h y) : EReal) = r := by
  have e := congrFun H (ix3 n h (⟨96 + y.val, by omega⟩ : Fin 160))
  unfold Cert.Pre_finite_args.fn at e
  dsimp only at e
  replace e := (concatenate_pair_apply_right (t := Cert.Pre_finite_args.S8192x6x160) (s₁ := Cert.Pre_finite_args.S8192x6x96)
    (s₂ := Cert.Pre_finite_args.S8192x6x64) _ _ _ _ _ rfl rfl (ix3 n h y)
    (fun b hb => match b with | ⟨0, _⟩ => rfl | ⟨1, _⟩ => rfl | ⟨2, _⟩ => absurd rfl hb) (Nat.add_comm _ _)).symm.trans e
  obtain ⟨e1, e2⟩ := and_one _ _ e
  exact ⟨real_of_lt _ e1, real_of_lt _ e2⟩

end

/-- Under the precondition the arguments are real numbers, given by head. -/
theorem args_of_pre (m : (ℓ : Loc Cert.KernelIdeal.nD Cert.KernelIdeal.τ Cert.KernelIdeal.sig) → Buf (Elt Ideal) ℓ)
    (H : Cert.Pre_KernelIdeal_finite_args (hPre_finite_args := pre_facts) m) (c : Dev Cert.KernelIdeal.nD) :
    ∃ Q K U G, Args m c Q K U G := by
  have H := H c
  have hqk := pre_qk _ _ _ _ H
  have hvg := pre_vg _ _ _ _ H
  exact ⟨fun h n y => (hqk n h y).1.choose, fun h n y => (hqk n h y).2.choose, fun h n y => (hvg n h y).1.choose,
    fun h n y => (hvg n h y).2.choose,
    ⟨fun n h y => (hqk n h y).1.choose_spec, fun n h y => (hqk n h y).2.choose_spec, fun n h y => (hvg n h y).1.choose_spec,
      fun n h y => (hvg n h y).2.choose_spec⟩⟩

end Cert.Att

end
-- ==== Proof.KernelRun.lean ====
/- The run of the idealized kernel: its results are the contents the last host stretch leaves, its arguments unchanged. -/
module

public import proofs.«01_k».proof.Proof.HostValue

@[expose] public section

set_option maxRecDepth 16384

noncomputable section

namespace Cert.Att

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The machine's states, as assertions read them. -/
abbrev Model := MT nD τ sig Unit (Elt Ideal) ℕ (UR sig nD τ) ℕ

set_option backward.isDefEq.respectTransparency.types false in
/-- Every execution ends with each result at the last boundary's contents and each argument as launched. -/
theorem kernel_run : θ_run defs (onTc (τ := τ) (main (F := Ideal))) ⟨m, fun _ => 0, ρ⟩ (fun r => ∀ c : Dev nD,
      r.2.mem ((c.tc : Thread nD τ).loc main_v10) = W5 m ρ c main_v10
      ∧ r.2.mem ((c.tc : Thread nD τ).loc main_v17) = W5 m ρ c main_v17
      ∧ r.2.mem ((c.tc : Thread nD τ).loc main_v18) = W5 m ρ c main_v18
      ∧ r.2.mem ((c.tc : Thread nD τ).loc main_v19) = W5 m ρ c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Model)
            ⊢ BI.own (emb₁ (initOf (Pipeline.cells cfgs cellOf_inj) (Pipeline.launchToks cfgs cellOf_inj))) from .rfl)
        iexact Hu
      iapply (show (BI.emp : sProp Model) ⊢ bigSep Finset.univ (fun _ : Dev nD => (BI.emp : sProp Model)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10 (by decide)), h c _ (mem_uc main_v17 (by decide)), h c _ (mem_uc main_v18 (by decide)),
       h c _ (mem_uc main_v19 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Att

end
-- ==== Proof.RefValue.lean ====
/- The reference's results over the reals: the output of dense attention and its gradients. -/
module

public import proofs.«01_k».proof.Proof.FwdPay
public import proofs.«01_k».proof.Proof.Spec
public import proofs.«01_k».proof.Proof.Consts
public import proofs.«01_k».proof.Proof.Gen.ReferenceIdeal.Read
public import Idealize.ShloMosaic.Lib.KernelVsHost

@[expose] public section

set_option maxRecDepth 16384

noncomputable section

namespace Cert.Att.Ref

open Idealize.ShloMosaic Cert.ReferenceIdeal Cert.ReferenceIdeal.Gen Cert.ReferenceIdeal.Read

variable (x0 x1 : (⟨S8192x6x96, .f32⟩ : BufTy).Contents (Elt Ideal)) (x2 x3 : (⟨S8192x6x64, .f32⟩ : BufTy).Contents (Elt Ideal))
  (Q K : Fin 6 → Fin 8192 → Fin 96 → ℝ) (U G : Fin 6 → Fin 8192 → Fin 64 → ℝ)

/-- An array of queries or keys holds the real numbers `Q`, given by head. -/
def Holds (x : (⟨S8192x6x96, .f32⟩ : BufTy).Contents (Elt Ideal)) : Prop := ∀ n h y, (x (ix3 n h y) : EReal) = (Q h n y : EReal)
/-- An array of values or cotangents holds the real numbers `U`, given by head. -/
def HoldsV (x : (⟨S8192x6x64, .f32⟩ : BufTy).Contents (Elt Ideal)) : Prop := ∀ n h y, (x (ix3 n h y) : EReal) = (U h n y : EReal)

variable {x0 x1 x2 x3 Q K U G} (hq : Holds Q x0) (hk : Holds K x1) (hv : HoldsV U x2) (hg : HoldsV G x3)

/-- The largest of a family of real numbers with a member is a real number. -/
theorem fold_real {ι : Type*} (s : Finset ι) (f : ι → EReal) (hf : ∀ i, ∃ y : ℝ, f i = y) (a : ι) (ha : a ∈ s) :
    ∃ y : ℝ, s.fold max (⊥ : EReal) f = y := by
  obtain ⟨x, hx⟩ := hf a
  obtain ⟨y, hy⟩ := Fwd.max_fold_real s f hf x
  refine ⟨y, ?_⟩
  rw [← hy, max_eq_right]
  exact (Finset.le_fold_max _).2 (.inr ⟨a, ha, hx.symm.le⟩)

theorem div_real (a b : ℝ) (hb : b ≠ 0) : Ideal.div (a : EReal) (b : EReal) = ((a / b : ℝ) : EReal) := by
  rw [Ideal.div_coe hb, ← EReal.coe_mul, mul_one_div]

include hq hk

/-- The scaled products. -/
theorem v2_at (h : Fin 6) (i j : Fin 8192) : (val_main_v2 (F := Ideal) x0 x1 (ix3 h i j) : EReal) = (sc σ (Q h) (K h) i j : ℝ) := by
  have e : (val_main_v0 (F := Ideal) x0 x1 (ix3 h i j) : EReal) = ((∑ y, Q h i y * K h j y : ℝ) : EReal) := by
    rw [val_main_v0_apply, coe_sum]
    refine Finset.sum_congr rfl fun y _ => ?_
    rw [show lidx_main_v0 (ix3 h i j) y = ix3 i h y from funext fun d => match d with | ⟨0, _⟩ => rfl | ⟨1, _⟩ => rfl | ⟨2, _⟩ => rfl,
      show ridx_main_v0 (ix3 h i j) y = ix3 j h y from funext fun d => match d with | ⟨0, _⟩ => rfl | ⟨1, _⟩ => rfl | ⟨2, _⟩ => rfl,
      hq, hk, ← EReal.coe_mul]
  rw [val_main_v2_apply, val_main_v1_apply, val_main_cst_apply]
  show (val_main_v0 (F := Ideal) x0 x1 (ix3 h i j) : EReal) * (Ideal.ofBits .f32 0x3DD105EC#32 : EReal) = _
  rw [e, scale_eq, ← EReal.coe_mul, sc]

theorem v3_real (h : Fin 6) (i : Fin 8192) : ∃ y : ℝ, (val_main_v3 (F := Ideal) x0 x1 (ix2 h i) : EReal) = y := by
  have hs : ∀ z, ∃ y : ℝ, (val_main_v2 (F := Ideal) x0 x1 z : EReal) = y := fun z =>
    ⟨sc σ (Q (z 0)) (K (z 0)) (z 1) (z 2), by rw [eq_ix3 z]; exact v2_at hq hk _ _ _⟩
  unfold val_main_v3
  generalize val_main_v2 (F := Ideal) x0 x1 = p at *
  have hr : S6x8192x8192.Reduces [2] S6x8192 := by decide
  obtain ⟨y, hy⟩ := fold_real Finset.univ (p ∘ hr.lift (ix2 h i)) (fun _ => hs _) (⟨0, by decide⟩ : Fin 8192) (Finset.mem_univ _)
  refine ⟨y, Eq.trans ?_ hy⟩
  have e := hostReduce_maximumf_eq_multiReduction (F := Ideal) (φ := .f32) (u := S_) p 0xFF800000#32
    reducesTo_S6x8192x8192_S6x8192_d2 h_S_ hr (.inl rfl) rfl
  have e' := Ideal.multiReduction_maximumf_single (φ := .f32) p 0xFF800000#32 hr (.inl rfl) rfl (ix2 h i)
  rw [Fwd.bot_f32] at e'
  exact (congrFun e (ix2 h i)).trans e'

/-- The maximum subtracted from a row. -/
theorem v10_real (h : Fin 6) (i : Fin 8192) : ∃ y : ℝ, (val_main_v10 (F := Ideal) x0 x1 (ix2 h i) : EReal) = y := by
  obtain ⟨y, hy⟩ := v3_real hq hk h i
  refine ⟨y, ?_⟩
  rw [val_main_v10_apply, hy, val_main_v9_apply, val_main_cst_2_apply, Fwd.bot_f32]
  exact max_eq_right bot_le

/-- A row's maximum, as a real number. -/
def top (h : Fin 6) (i : Fin 8192) : ℝ := (v10_real hq hk h i).choose

theorem v10_at (h : Fin 6) (i : Fin 8192) : (val_main_v10 (F := Ideal) x0 x1 (ix2 h i) : EReal) = (top hq hk h i : ℝ) :=
  (v10_real hq hk h i).choose_spec

/-- The exponential of a product less its row's maximum. -/
def ex (h : Fin 6) (i j : Fin 8192) : ℝ := Real.exp (sc σ (Q h) (K h) i j - top hq hk h i)
/-- A row's sum of them. -/
def sm (h : Fin 6) (i : Fin 8192) : ℝ := ∑ j, ex hq hk h i j

theorem sm_pos (h : Fin 6) (i : Fin 8192) : 0 < sm hq hk h i := Finset.sum_pos (fun _ _ => Real.exp_pos _) ⟨i, Finset.mem_univ _⟩

theorem v23_at (h : Fin 6) (i j : Fin 8192) : (val_main_v23 (F := Ideal) x0 x1 (ix3 h i j) : EReal) = (ex hq hk h i j : ℝ) := by
  rw [val_main_v23_apply, val_main_v22_apply, v2_at hq hk, val_main_v21_apply, val_main_v20_apply,
    show idx_main_v20 (idx_main_v21 (ix3 h i j)) = ix2 h i from funext fun d => match d with | ⟨0, _⟩ => rfl | ⟨1, _⟩ => rfl,
    v10_at hq hk]
  show Ideal.exp ((sc σ (Q h) (K h) i j : EReal) - (top hq hk h i : EReal)) = _
  rw [← EReal.coe_sub, Ideal.exp_coe, ex]

theorem v24_at (h : Fin 6) (i : Fin 8192) : (val_main_v24 (F := Ideal) x0 x1 (ix2 h i) : EReal) = (sm hq hk h i : ℝ) := by
  rw [val_main_v24_apply, val_main_cst_8_apply, sm, coe_sum]
  refine (congrArg₂ (· + ·) (show (Ideal.ofBits .f32 0x00000000#32 : EReal) = 0 by simp [Ideal.ofBits, Ideal.ieee])
    (Finset.sum_congr rfl fun j _ => ?_)).trans (zero_add _)
  rw [← v23_at hq hk]
  exact congrArg _ (funext fun d => match d with | ⟨0, _⟩ => rfl | ⟨1, _⟩ => rfl | ⟨2, _⟩ => rfl)

theorem v25_at (h : Fin 6) (i : Fin 8192) : (val_main_v25 (F := Ideal) x0 x1 (ix3 h i 0) : EReal) = (sm hq hk h i : ℝ) := by
  rw [val_main_v25_apply, ← v24_at hq hk]
  exact congrArg _ (funext fun d => match d with | ⟨0, _⟩ => rfl | ⟨1, _⟩ => rfl)

/-- The weight, from the shifted row. -/
theorem wt_eq (h : Fin 6) (i j : Fin 8192) : ex hq hk h i j / sm hq hk h i = wt σ (Q h) (K h) i j := by
  have hs : sm hq hk h i = den σ (Q h) (K h) i * Real.exp (-top hq hk h i) := by
    rw [sm, den, Finset.sum_mul]
    exact Finset.sum_congr rfl fun j _ => by rw [ex, sub_eq_add_neg, Real.exp_add]
  rw [hs, ex, sub_eq_add_neg, Real.exp_add, mul_div_mul_right _ _ (Real.exp_pos _).ne', wt]

theorem v27_at (h : Fin 6) (i j : Fin 8192) :
    (val_main_v27 (F := Ideal) x0 x1 (ix3 h i j) : EReal) = (wt σ (Q h) (K h) i j : ℝ) := by
  rw [val_main_v27_apply, v23_at hq hk, val_main_v26_apply,
    show idx_main_v26 (ix3 h i j) = ix3 h i 0 from funext fun d => match d with | ⟨0, _⟩ => rfl | ⟨1, _⟩ => rfl | ⟨2, _⟩ => rfl,
    v25_at hq hk]
  show Ideal.div (ex hq hk h i j : EReal) (sm hq hk h i : EReal) = _
  rw [div_real _ _ (sm_pos hq hk h i).ne', wt_eq]

include hv in
/-- The output. -/
theorem v32_at (n : Fin 8192) (h : Fin 6) (y : Fin 64) :
    (val_main_v32 (F := Ideal) x0 x1 x2 (ix3 n h y) : EReal) = (out σ (Q h) (K h) (U h) n y : ℝ) := by
  rw [val_main_v32_apply, val_main_v31_apply, out, coe_sum]
  refine Finset.sum_congr rfl fun j _ => ?_
  rw [show lidx_main_v31 (idx_main_v32 (ix3 n h y)) j = ix3 j h y from
      funext fun d => match d with | ⟨0, _⟩ => rfl | ⟨1, _⟩ => rfl | ⟨2, _⟩ => rfl,
    show ridx_main_v31 (idx_main_v32 (ix3 n h y)) j = ix3 h n j from
      funext fun d => match d with | ⟨0, _⟩ => rfl | ⟨1, _⟩ => rfl | ⟨2, _⟩ => rfl,
    hv, v27_at hq hk, ← EReal.coe_mul, mul_comm]

include hg in
/-- The gradient of the values. -/
theorem v36_at (n : Fin 8192) (h : Fin 6) (y : Fin 64) :
    (val_main_v36 (F := Ideal) x0 x1 x3 (ix3 n h y) : EReal) = (dv σ (Q h) (K h) (G h) n y : ℝ) := by
  rw [val_main_v36_apply, val_main_v35_apply, dv, coe_sum]
  refine Finset.sum_congr rfl fun j _ => ?_
  rw [val_main_v33_apply,
    show idx_main_v33 (lidx_main_v35 (idx_main_v36 (ix3 n h y)) j) = ix3 j h y from
      funext fun d => match d with | ⟨0, _⟩ => rfl | ⟨1, _⟩ => rfl | ⟨2, _⟩ => rfl,
    show ridx_main_v35 (idx_main_v36 (ix3 n h y)) j = ix3 h j n from
      funext fun d => match d with | ⟨0, _⟩ => rfl | ⟨1, _⟩ => rfl | ⟨2, _⟩ => rfl,
    hg, v27_at hq hk, ← EReal.coe_mul, mul_comm]

omit hq hk in
include hv hg in
/-- The cotangent of a weight. -/
theorem v34_at (h : Fin 6) (i j : Fin 8192) : (val_main_v34 (F := Ideal) x2 x3 (ix3 h i j) : EReal) = (dwt (U h) (G h) i j : ℝ) := by
  rw [val_main_v34_apply, dwt, coe_sum]
  refine Finset.sum_congr rfl fun y _ => ?_
  rw [val_main_v33_apply,
    show idx_main_v33 (lidx_main_v34 (ix3 h i j) y) = ix3 i h y from
      funext fun d => match d with | ⟨0, _⟩ => rfl | ⟨1, _⟩ => rfl | ⟨2, _⟩ => rfl,
    show ridx_main_v34 (ix3 h i j) y = ix3 j h y from
      funext fun d => match d with | ⟨0, _⟩ => rfl | ⟨1, _⟩ => rfl | ⟨2, _⟩ => rfl,
    hg, hv, ← EReal.coe_mul, mul_comm]

theorem v30_at (h : Fin 6) (i : Fin 8192) :
    (val_main_v30 (F := Ideal) x0 x1 (ix3 h i 0) : EReal) = (1 / (sm hq hk h i * sm hq hk h i) : ℝ) := by
  have hp := sm_pos hq hk h i
  rw [val_main_v30_apply, val_main_v28_apply, v25_at hq hk, val_main_v29_apply, val_main_cst_9_apply]
  show Ideal.div (Ideal.ofBits .f32 0x3F800000#32 : EReal) ((sm hq hk h i : EReal) * (sm hq hk h i : EReal)) = _
  rw [show (Ideal.ofBits .f32 0x3F800000#32 : EReal) = ((1 : ℝ) : EReal) by
      simp [Ideal.ofBits, Ideal.ieee, -EReal.coe_mul]; norm_num, ← EReal.coe_mul, div_real _ _ (mul_pos hp hp).ne']

include hv hg

theorem v45_at (h : Fin 6) (i : Fin 8192) : (val_main_v45 (F := Ideal) x0 x1 x2 x3 (ix2 h i) : EReal)
    = (-(∑ j, dwt (U h) (G h) i j * (1 / (sm hq hk h i * sm hq hk h i)) * ex hq hk h i j) : ℝ) := by
  have h40 : (val_main_v40 (F := Ideal) x0 x1 x2 x3 (ix2 h i) : EReal)
      = (∑ j, dwt (U h) (G h) i j * (1 / (sm hq hk h i * sm hq hk h i)) * ex hq hk h i j : ℝ) := by
    rw [val_main_v40_apply, val_main_cst_10_apply, coe_sum]
    refine (congrArg₂ (· + ·) (show (Ideal.ofBits .f32 0x00000000#32 : EReal) = 0 by simp [Ideal.ofBits, Ideal.ieee])
      (Finset.sum_congr rfl fun j _ => ?_)).trans (zero_add _)
    rw [show idx_main_v40 (ix2 h i) j = ix3 h i j from funext fun d => match d with | ⟨0, _⟩ => rfl | ⟨1, _⟩ => rfl | ⟨2, _⟩ => rfl,
      val_main_v39_apply, val_main_v38_apply, v34_at hv hg, val_main_v37_apply,
      show idx_main_v37 (ix3 h i j) = ix3 h i 0 from funext fun d => match d with | ⟨0, _⟩ => rfl | ⟨1, _⟩ => rfl | ⟨2, _⟩ => rfl,
      v30_at hq hk, v23_at hq hk, EReal.coe_mul, EReal.coe_mul]
    rfl
  rw [val_main_v45_apply, val_main_cst_11_apply]
  refine (congrArg₂ (· + ·) (show (Ideal.ofBits .f32 0x00000000#32 : EReal) = 0 by simp [Ideal.ofBits, Ideal.ieee])
    (Fintype.sum_unique _)).trans ((zero_add _).trans ?_)
  rw [val_main_v42_apply, val_main_v41_apply,
    show idx_main_v41 (idx_main_v45 (ix2 h i) default) = ix2 h i from funext fun d => match d with
      | ⟨0, _⟩ => Fin.ext (by show ((h.val * 8192 + i.val) * 1 + 0) / 8192 = h.val; omega)
      | ⟨1, _⟩ => Fin.ext (by show ((h.val * 8192 + i.val) * 1 + 0) % 8192 = i.val; omega),
    h40, EReal.coe_neg]
  rfl

/-- The cotangent of a scaled product. -/
theorem v50_at (h : Fin 6) (i j : Fin 8192) :
    (val_main_v50 (F := Ideal) x0 x1 x2 x3 (ix3 h i j) : EReal) = (dsc σ (Q h) (K h) (U h) (G h) i j : ℝ) := by
  have hp := sm_pos hq hk h i
  rw [val_main_v50_apply, val_main_v48_apply, val_main_v47_apply, val_main_v44_apply, v34_at hv hg, val_main_v43_apply,
    show idx_main_v43 (ix3 h i j) = ix3 h i 0 from funext fun d => match d with | ⟨0, _⟩ => rfl | ⟨1, _⟩ => rfl | ⟨2, _⟩ => rfl,
    v25_at hq hk, val_main_v46_apply,
    show idx_main_v46 (ix3 h i j) = ix2 h i from funext fun d => match d with | ⟨0, _⟩ => rfl | ⟨1, _⟩ => rfl,
    v45_at hq hk hv hg, v23_at hq hk, val_main_v49_apply, val_main_cst_12_apply]
  show (Ideal.div (dwt (U h) (G h) i j : EReal) (sm hq hk h i : EReal)
    + ((-(∑ j, dwt (U h) (G h) i j * (1 / (sm hq hk h i * sm hq hk h i)) * ex hq hk h i j) : ℝ) : EReal))
      * (ex hq hk h i j : EReal) * (Ideal.ofBits .f32 0x3DD105EC#32 : EReal) = _
  rw [div_real _ _ hp.ne', scale_eq, ← EReal.coe_add, ← EReal.coe_mul, ← EReal.coe_mul]
  congr 1
  rw [dsc, ← sum_wt_dwt, ← wt_eq hq hk h i j]
  congr 1
  have e : ∑ j, dwt (U h) (G h) i j * (1 / (sm hq hk h i * sm hq hk h i)) * ex hq hk h i j
      = (∑ j, wt σ (Q h) (K h) i j * dwt (U h) (G h) i j) / sm hq hk h i := by
    rw [Finset.sum_div]
    refine Finset.sum_congr rfl fun j _ => ?_
    rw [← wt_eq hq hk h i j]
    field_simp
  rw [e]
  field_simp
  ring

/-- The gradient of the queries. -/
theorem v54_at (n : Fin 8192) (h : Fin 6) (y : Fin 96) :
    (val_main_v54 (F := Ideal) x0 x1 x2 x3 (ix3 n h y) : EReal) = (dq σ (Q h) (K h) (U h) (G h) n y : ℝ) := by
  rw [val_main_v54_apply, val_main_v53_apply, dq, coe_sum]
  refine Finset.sum_congr rfl fun j _ => ?_
  rw [show lidx_main_v53 (idx_main_v54 (ix3 n h y)) j = ix3 h n j from
      funext fun d => match d with | ⟨0, _⟩ => rfl | ⟨1, _⟩ => rfl | ⟨2, _⟩ => rfl,
    show ridx_main_v53 (idx_main_v54 (ix3 n h y)) j = ix3 j h y from
      funext fun d => match d with | ⟨0, _⟩ => rfl | ⟨1, _⟩ => rfl | ⟨2, _⟩ => rfl,
    v50_at hq hk hv hg, hk, ← EReal.coe_mul, mul_comm]

/-- The gradient of the keys. -/
theorem v52_at (n : Fin 8192) (h : Fin 6) (y : Fin 96) :
    (val_main_v52 (F := Ideal) x0 x1 x2 x3 (ix3 n h y) : EReal) = (dk σ (Q h) (K h) (U h) (G h) n y : ℝ) := by
  rw [val_main_v52_apply, val_main_v51_apply, dk, coe_sum]
  refine Finset.sum_congr rfl fun j _ => ?_
  rw [show lidx_main_v51 (idx_main_v52 (ix3 n h y)) j = ix3 h j n from
      funext fun d => match d with | ⟨0, _⟩ => rfl | ⟨1, _⟩ => rfl | ⟨2, _⟩ => rfl,
    show ridx_main_v51 (idx_main_v52 (ix3 n h y)) j = ix3 j h y from
      funext fun d => match d with | ⟨0, _⟩ => rfl | ⟨1, _⟩ => rfl | ⟨2, _⟩ => rfl,
    v50_at hq hk hv hg, hq, ← EReal.coe_mul]

end Cert.Att.Ref

end
-- ==== Proof.Algebra.lean ====
/- The value claim: the kernel's results and the reference's are the same functions of real arguments. -/
module

public import proofs.«01_k».proof.Proof.Pre
public import proofs.«01_k».proof.Proof.KernelRun
public import proofs.«01_k».proof.Proof.RefValue

@[expose] public section

set_option maxRecDepth 16384

noncomputable section

namespace Cert.Att

open Idealize.ShloMosaic Idealize.ShloMosaic.TcCoe Idealize.SL.Sem

section
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  {Q K : Fin 6 → Fin 8192 → Fin 96 → ℝ} {U G : Fin 6 → Fin 8192 → Fin 64 → ℝ} (A : Args m c Q K U G)
  {x0 x1 : (⟨Cert.ReferenceIdeal.S8192x6x96, .f32⟩ : BufTy).Contents (Elt Ideal)}
  {x2 x3 : (⟨Cert.ReferenceIdeal.S8192x6x64, .f32⟩ : BufTy).Contents (Elt Ideal)}
  (h0 : x0 = m ((c.tc : Thread Cert.KernelIdeal.nD Cert.KernelIdeal.τ).loc Cert.KernelIdeal.main_arg0))
  (h1 : x1 = m ((c.tc : Thread Cert.KernelIdeal.nD Cert.KernelIdeal.τ).loc Cert.KernelIdeal.main_arg1))
  (h2 : x2 = m ((c.tc : Thread Cert.KernelIdeal.nD Cert.KernelIdeal.τ).loc Cert.KernelIdeal.main_arg2))
  (h3 : x3 = m ((c.tc : Thread Cert.KernelIdeal.nD Cert.KernelIdeal.τ).loc Cert.KernelIdeal.main_arg3))

include A h0 h1 h2

theorem eq_o : Cert.ReferenceIdeal.Read.val_main_v32 (F := Ideal) x0 x1 x2
    = (Cert.KernelIdeal.Gen.W5 m ρ c Cert.KernelIdeal.main_v10 : Vec Ideal Cert.KernelIdeal.S8192x6x64 .f32) := by
  subst h0 h1 h2
  funext z
  obtain ⟨n, h, y, rfl⟩ : ∃ n h y, z = ix3 n h y := ⟨_, _, _, eq_ix3 z⟩
  exact (Ref.v32_at A.q A.k A.v n h y).trans (A.res_o ρ n h y).symm

include h3

theorem eq_dq : Cert.ReferenceIdeal.Read.val_main_v54 (F := Ideal) x0 x1 x2 x3
    = (Cert.KernelIdeal.Gen.W5 m ρ c Cert.KernelIdeal.main_v17 : Vec Ideal Cert.KernelIdeal.S8192x6x96 .f32) := by
  subst h0 h1 h2 h3
  funext z
  obtain ⟨n, h, y, rfl⟩ : ∃ n h y, z = ix3 n h y := ⟨_, _, _, eq_ix3 z⟩
  exact (Ref.v54_at A.q A.k A.v A.g n h y).trans (A.res_q ρ n h y).symm

theorem eq_dk : Cert.ReferenceIdeal.Read.val_main_v52 (F := Ideal) x0 x1 x2 x3
    = (Cert.KernelIdeal.Gen.W5 m ρ c Cert.KernelIdeal.main_v18 : Vec Ideal Cert.KernelIdeal.S8192x6x96 .f32) := by
  subst h0 h1 h2 h3
  funext z
  obtain ⟨n, h, y, rfl⟩ : ∃ n h y, z = ix3 n h y := ⟨_, _, _, eq_ix3 z⟩
  exact (Ref.v52_at A.q A.k A.v A.g n h y).trans (A.res_k ρ n h y).symm

omit h2 in
theorem eq_dv : Cert.ReferenceIdeal.Read.val_main_v36 (F := Ideal) x0 x1 x3
    = (Cert.KernelIdeal.Gen.W5 m ρ c Cert.KernelIdeal.main_v19 : Vec Ideal Cert.KernelIdeal.S8192x6x64 .f32) := by
  subst h0 h1 h3
  funext z
  obtain ⟨n, h, y, rfl⟩ : ∃ n h y, z = ix3 n h y := ⟨_, _, _, eq_ix3 z⟩
  exact (Ref.v36_at A.q A.k A.g n h y).trans (A.res_v ρ n h y).symm

end

theorem algebraic : Cert.algebraic_KernelIdeal_ReferenceIdeal_pre_finite_args (hKernelIdeal := Cert.KernelIdeal.Gen.facts)
    (hReferenceIdeal := Cert.ReferenceIdeal.Gen.facts) (hPre_finite_args := pre_facts) := by
  intro m g m' g' hpre hag
  refine ⟨_, _, _, _, kernel_run m g, (θ_run Cert.ReferenceIdeal.defs _ _).mono (fun r h c => ?_)
    (Cert.ReferenceIdeal.Value.run (F := Ideal) m' g')⟩
  obtain ⟨Q, K, U, G, A⟩ := args_of_pre m hpre c
  obtain ⟨a0, a1, a2, a3⟩ := hag c
  obtain ⟨r0, r1, r2, r3, rest⟩ := h c
  exact ⟨r0.trans ((Cert.ReferenceIdeal.Read.val_main_v32_eq _ _ _).trans (eq_o m g c A a0 a1 a2)),
    r1.trans ((Cert.ReferenceIdeal.Read.val_main_v54_eq m' c).trans (eq_dq m g c A a0 a1 a2 a3)),
    r2.trans ((Cert.ReferenceIdeal.Read.val_main_v52_eq m' c).trans (eq_dk m g c A a0 a1 a2 a3)),
    r3.trans ((Cert.ReferenceIdeal.Read.val_main_v36_eq _ _ _).trans (eq_dv m g c A a0 a1 a3)), rest⟩

end Cert.Att

end
-- ==== Proof.Prod.lean ====
/- What the tiled products have in common: a sum over the tiles of the contracted axis, carried from point to point. -/
module

public import Idealize.ShloMosaic.Lib.Pipeline.ValueKit

@[expose] public section

namespace Cert.Prod

open Idealize.ShloMosaic

theorem hz : (![0, 0] : Fin 2 → Nat) = fun _ => 0 := by decide

/-- Two body tables of one body are one when their bodies are. -/
theorem table_ext {nD τ sig Val} {A R : Fin 1 → Type}
    {f g : (l : Fin 1) → A l → Idealize.SL.Sem.Prog (TpuEff nD τ sig Val ⟨Fin 1, A, R⟩ .tc) (R l)} (h : ∀ x, f 0 x = g 0 x) :
    (Defs.onTc f : Defs nD τ sig Val ⟨Fin 1, A, R⟩) = Defs.onTc g := by
  refine congrArg Defs.onTc (funext fun l => funext fun x => ?_)
  obtain rfl : l = 0 := Subsingleton.elim _ _
  exact h x

/-- A value which starts anew at the first of `J` points and to which each point adds its part of a sum, `S` terms, is the
    whole sum at the last of them. -/
theorem sum_tiles {N J S K : Nat} [NeZero J] {α : Type*} (hK : K = J * S) (f : (n : Nat) → n < N → α → EReal)
    (g : Fin N → α → Fin K → EReal) (hg : ∀ t t' : Fin N, t.val / J = t'.val / J → g t = g t')
    (h0 : ∀ t : Fin N, t.val % J = 0 → ∀ y, f t.val t.isLt y
      = ∑ k : Fin S, g t y ⟨t.val % J * S + k.val, by
          have := Nat.mod_lt t.val (NeZero.pos J); have := k.isLt; subst hK; nlinarith⟩)
    (hs : ∀ t : Fin N, ¬t.val % J = 0 → ∀ y, f t.val t.isLt y = f (t.val - 1) (Nat.lt_of_le_of_lt (Nat.sub_le _ _) t.isLt) y
      + ∑ k : Fin S, g t y ⟨t.val % J * S + k.val, by
          have := Nat.mod_lt t.val (NeZero.pos J); have := k.isLt; subst hK; nlinarith⟩)
    (t : Fin N) (hr : t.val % J = J - 1) (y : α) : f t.val t.isLt y = ∑ k : Fin K, g t y k := by
  have e := Pipeline.eq_sum_fin_of_reset_step_apply_of_flush f J (fun _ => 0) _
    (fun t h y => (h0 t h y).trans (zero_add _).symm) hs t hr y
  refine e.trans ?_
  subst hK
  rw [zero_add]
  refine Fin.sum_mul_add_congr fun s k hl => ?_
  have hj := s.isLt
  have hd : (J * (t.val / J) + s.val) / J = t.val / J := by
    rw [Nat.mul_add_div (NeZero.pos J), Nat.div_eq_of_lt hj, add_zero]
  have hm : (J * (t.val / J) + s.val) % J = s.val := by
    rw [Nat.mul_add_mod, Nat.mod_eq_of_lt hj]
  have hgt : ∀ h, g ⟨J * (t.val / J) + s.val, h⟩ = g t := fun h => hg _ _ hd
  simp only [hgt, hm]

/-- The same for the entries of a product: each point adds its tiles' products to the entries of its block. -/
theorem prod_tiles {N NK KS K TM TN I J : Nat} [NeZero NK] (hK : K = NK * KS) {X : Fin I → Fin K → EReal}
    {Y : Fin J → Fin K → EReal} {row : Fin N → Fin TM → Fin I} {col : Fin N → Fin TN → Fin J}
    (hrow : ∀ t t' : Fin N, t.val / NK = t'.val / NK → row t = row t')
    (hcol : ∀ t t' : Fin N, t.val / NK = t'.val / NK → col t = col t')
    {f : (n : Nat) → n < N → Fin TM → Fin TN → EReal} {A : Fin N → Fin TM → Fin KS → EReal}
    {B : Fin N → Fin TN → Fin KS → EReal}
    (hA : ∀ t r k, A t r k = X (row t r) ⟨t.val % NK * KS + k.val, by
      have := Nat.mod_lt t.val (NeZero.pos NK); have := k.isLt; subst hK; nlinarith⟩)
    (hB : ∀ t x k, B t x k = Y (col t x) ⟨t.val % NK * KS + k.val, by
      have := Nat.mod_lt t.val (NeZero.pos NK); have := k.isLt; subst hK; nlinarith⟩)
    (h0 : ∀ t : Fin N, t.val % NK = 0 → ∀ r x, f t.val t.isLt r x = ∑ k, A t r k * B t x k)
    (hs : ∀ t : Fin N, ¬t.val % NK = 0 → ∀ r x, f t.val t.isLt r x
      = f (t.val - 1) (Nat.lt_of_le_of_lt (Nat.sub_le _ _) t.isLt) r x + ∑ k, A t r k * B t x k)
    (t : Fin N) (hr : t.val % NK = NK - 1) (r : Fin TM) (x : Fin TN) :
    f t.val t.isLt r x = ∑ k, X (row t r) k * Y (col t x) k :=
  sum_tiles hK (fun n h (y : Fin TM × Fin TN) => f n h y.1 y.2) (fun t y k => X (row t y.1) k * Y (col t y.2) k)
    (fun t t' h => by rw [hrow t t' h, hcol t t' h])
    (fun t h y => (h0 t h y.1 y.2).trans (Finset.sum_congr rfl fun k _ => by rw [hA, hB]))
    (fun t h y => (hs t h y.1 y.2).trans
      (congrArg (_ + ·) (Finset.sum_congr rfl fun k _ => by rw [hA, hB])))
    t hr (r, x)

end Cert.Prod

end
-- ==== Proof.ProdUp.lean ====
/- The product of the normalised rows with the up projection, and the squares of its positive parts. -/
module

public import proofs.«01_k».proof.Proof.Gen.UpIdeal.Value
public import proofs.«01_k».proof.Proof.Gen.UpReferenceIdeal.Run
public import proofs.«01_k».proof.Proof.Gen.Up
public import proofs.«01_k».proof.Defs
public import Idealize.ShloMosaic.Lib.Pointwise
public import proofs.«01_k».proof.Proof.Prod
public import Idealize.ShloMosaic.Lib.Quiescent
public import Idealize.ShloMosaic.Lib.VecWindow

@[expose] public section

set_option maxRecDepth 16384

noncomputable section

namespace Cert.Prod.Up

open Idealize.ShloMosaic Idealize.ShloMosaic.TcCoe Idealize.SL.Sem Cert.UpIdeal Cert.UpIdeal.Gen

/-! ## What a point of the grid leaves -/

section Run

variable {F : FTy → Type} [FloatOps F]

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .bf16) (harg6 : arg6.IsWhole)
  (arg7 : Memref sig .tc .vmem S1024x1024 .f32) (harg7 : arg7.IsWhole)
  (a : Vec F S1024x1024 .bf16) (b : Vec F S1024x1024 .bf16)

theorem result (hc0 : cond0_0 i) (hc1 : cond0_1 i) :
    out0_A_2 c i arg3 harg3 arg4 harg4 arg5 harg5 arg6 harg6 arg7 harg7 hc0 hc1 a b = k0_pay2 k0_pay1 a b := by
  unfold out0_A_2
  rw [View.read_writes_eq_canon _ _ _ (cover0_A_2 c i arg3 harg3 arg4 harg4 arg5 harg5 arg6 harg6 arg7 harg7 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x1024) hz]

theorem square (hc0 : cond0_0 i) (hc1 : cond0_1 i) :
    out0_A_3 c i arg3 harg3 arg4 harg4 arg5 harg5 arg6 harg6 arg7 harg7 hc0 hc1 a b = k0_pay3 (k0_pay2 k0_pay1 a b) := by
  unfold out0_A_3
  rw [View.read_writes_eq_canon _ _ _ (cover0_A_3 c i arg3 harg3 arg4 harg4 arg5 harg5 arg6 harg6 arg7 harg7 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x1024) hz]

end Run

/-! ## Over the extended reals -/

theorem step_apply (a b : Vec Ideal S1024x1024 .bf16) (r x : Fin 1024) :
    k0_pay2 k0_pay1 a b (ix2 r x) = ∑ k : Fin 1024, a (ix2 r k) * b (ix2 k x) := by
  pointwise [k0_pay2, k0_pay1]

theorem square_apply (u : Vec Ideal S1024x1024 .f32) (r x : Fin 1024) :
    k0_pay3 u (ix2 r x) = max (u (ix2 r x) : EReal) 0 * max (u (ix2 r x) : EReal) 0 := by
  pointwise [k0_pay3]

variable (m : (ℓ : Loc nD τ sig) → Buf (Elt Ideal) ℓ) (c : Dev nD)

/-- The factors, and their product. -/
abbrev lhs : Vec Ideal S8192x1024 .f32 := m ((c : Thread nD τ).loc main_arg0)
abbrev rhs : Vec Ideal S1024x4096 .f32 := m ((c : Thread nD τ).loc main_arg1)
def prod (i : Fin 8192) (j : Fin 4096) : EReal := ∑ k : Fin 1024, lhs m c (ix2 i k) * rhs m c (ix2 k j)

theorem entry_lhs : (V m c main_v0 : Vec Ideal S8192x1024 .bf16) = lhs m c := by
  show StableHlo.after hostOps0 (fun b => m (c, b)) _ = _
  after_results <;> rfl

theorem entry_rhs : (V m c main_v1 : Vec Ideal S1024x4096 .bf16) = rhs m c := by
  show StableHlo.after hostOps0 (fun b => m (c, b)) _ = _
  after_results <;> rfl

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The row and the column of an entry of a point's blocks. -/
abbrev row (t : Fin cfg0.N) (r : Fin 1024) : Fin 8192 :=
  ⟨t.val / 4 * 1024 + r.val, by have h : t.val < 32 := lt_of_lt_of_eq t.isLt N_0; omega⟩
abbrev col (t : Fin cfg0.N) (x : Fin 1024) : Fin 4096 := ⟨t.val % 4 * 1024 + x.val, by omega⟩

theorem blk_lhs (t : Fin cfg0.N) (r k : Fin 1024) : iblk m c 0 t (ix2 r k) = lhs m c (ix2 (row t r) k) := by
  rw [← entry_lhs]
  blk_simp [iblk]
  refine congrArg (V m c main_v0) ?_
  blk_ext [(idx t).1, ix2]

theorem blk_rhs (t : Fin cfg0.N) (k x : Fin 1024) : iblk m c 1 t (ix2 k x) = rhs m c (ix2 k (col t x)) := by
  rw [← entry_rhs]
  blk_simp [iblk]
  refine congrArg (V m c main_v1) ?_
  blk_ext [(idx t).2.1, ix2]

theorem out_apply (t : Fin cfg0.N) (r x : Fin 1024) : ((outsAt0 m c t).1 (ix2 r x) : EReal) = prod m c (row t r) (col t x) := by
  dsimp only [outsAt0]
  rw [result, step_apply]
  exact Finset.sum_congr rfl fun k _ => by rw [blk_lhs, blk_rhs]

theorem out2_apply (t : Fin cfg0.N) (r x : Fin 1024) : ((outsAt0 m c t).2 (ix2 r x) : EReal)
    = max (prod m c (row t r) (col t x)) 0 * max (prod m c (row t r) (col t x)) 0 := by
  rw [← out_apply]
  dsimp only [outsAt0]
  rw [result, square, square_apply]

theorem array : (dats m 0 c).arrAt 2 cfg0.N = fun i : S8192x4096.Idx => prod m c (i 0) (i 1) := by
  refine (dats m 0 c).arrAt_eq_of_covers 2 _ (by decide +kernel) fun t hf y => ?_
  blk_simp
  rw [after0_2]
  change S1024x1024.Idx at y
  obtain ⟨r, x, rfl⟩ : ∃ (r : Fin 1024) (x : Fin 1024), y = ix2 r x := ⟨_, _, eq_ix2 y⟩
  rw [out_apply m c t r x]
  have e0 : (win0_2.blk t).view.emb (ix2 r x) = ix2 (row t r) (col t x) := by blk_ext [(idx t).2.2.1, ix2]
  rw [e0]
  rfl

theorem array2 : (dats m 0 c).arrAt 3 cfg0.N = fun i : S8192x4096.Idx => max (prod m c (i 0) (i 1)) 0 * max (prod m c (i 0) (i 1)) 0 := by
  refine (dats m 0 c).arrAt_eq_of_covers 3 _ (by decide +kernel) fun t hf y => ?_
  blk_simp
  rw [after0_3]
  change S1024x1024.Idx at y
  obtain ⟨r, x, rfl⟩ : ∃ (r : Fin 1024) (x : Fin 1024), y = ix2 r x := ⟨_, _, eq_ix2 y⟩
  rw [out2_apply m c t r x]
  have e0 : (win0_3.blk t).view.emb (ix2 r x) = ix2 (row t r) (col t x) := by blk_ext [(idx t).2.2.2, ix2]
  rw [e0]
  rfl

/-- The reference's product at an index. -/
theorem ref_apply (a : Vec Ideal S8192x1024 .f32) (b : Vec Ideal S1024x4096 .f32) :
    (Host.dotGeneral (F := Ideal) (φ₁ := .f32) (φ₂ := .f32) Cert.UpReferenceIdeal.dot_S8192x1024_S1024x4096_S8192x4096_1_0_0_1_n_n none a b : Vec Ideal S8192x4096 .f32)
      = fun i : S8192x4096.Idx => ∑ k : Fin 1024, a (ix2 (i 0) k) * b (ix2 k (i 1)) := by
  funext i
  obtain ⟨r, x, rfl⟩ : ∃ (r : Fin 8192) (x : Fin 4096), i = ix2 r x := ⟨_, _, eq_ix2 i⟩
  pointwise

/-- The reference's squared positive part at an index. -/
theorem ref2_apply (u : Vec Ideal S8192x4096 .f32) :
    (truncf (F := Ideal) .bf16 (mulf (maximumf u (broadcastInDim S8192x4096 ![] Cert.UpReferenceIdeal.Gen.bcast_S_S8192x4096 (constant Cert.UpReferenceIdeal.S_ .f32 0x00000000#32)))
        (maximumf u (broadcastInDim S8192x4096 ![] Cert.UpReferenceIdeal.Gen.bcast_S_S8192x4096 (constant Cert.UpReferenceIdeal.S_ .f32 0x00000000#32)))) (by decide) : Vec Ideal S8192x4096 .bf16)
      = fun i : S8192x4096.Idx => max (u i : EReal) 0 * max (u i : EReal) 0 := by
  funext i
  obtain ⟨r, x, rfl⟩ : ∃ (r : Fin 8192) (x : Fin 4096), i = ix2 r x := ⟨_, _, eq_ix2 i⟩
  pointwise

theorem frame : Cert.quiescent_Up (hUp := Cert.Up.Gen.facts) := fun m ρ _ => by
  rw [show Cert.Up.defs (F := Bits) = Cert.UpIdeal.defs from congrArg (Pipeline.defs _) (table_ext fun _ => rfl)]
  exact Cert.UpIdeal.Gen.frame (F := Bits) m ρ

theorem frame_reference : Cert.quiescent_UpReferenceIdeal (hUpReferenceIdeal := Cert.UpReferenceIdeal.Gen.facts) :=
  fun m ρ _ => (θ_run Cert.UpReferenceIdeal.defs _ _).mono
    (fun r h => ⟨fun c => (h c).2.2, sem_eq_zero_of_no_sems (by decide) r.2⟩)
    (Cert.UpReferenceIdeal.Value.run (F := Ideal) m ρ)

theorem algebraic : Cert.algebraic_UpIdeal_UpReferenceIdeal (hUpIdeal := Cert.UpIdeal.Gen.facts)
    (hUpReferenceIdeal := Cert.UpReferenceIdeal.Gen.facts) := by
  intro m g m' g' _ he
  refine ⟨fun c => fun i : S8192x4096.Idx => prod m c (i 0) (i 1),
    fun c => fun i : S8192x4096.Idx => max (prod m c (i 0) (i 1)) 0 * max (prod m c (i 0) (i 1)) 0, ?_, ?_⟩
  · refine (θ_run Cert.UpIdeal.defs _ _).mono (fun r h c => ?_) (Cert.UpIdeal.Value.run_blocks (F := Ideal) m g)
    exact ⟨(h c).1.trans (array m c), (h c).2.1.trans (array2 m c), (h c).2.2⟩
  · refine (θ_run Cert.UpReferenceIdeal.defs _ _).mono (fun r h c => ?_) (Cert.UpReferenceIdeal.Value.run (F := Ideal) m' g')
    refine ⟨(h c).1.trans ?_, (h c).2.1.trans ?_, (h c).2.2⟩
    · rw [(he c).1, (he c).2]
      exact ref_apply _ _
    · rw [(he c).1, (he c).2]
      refine (ref2_apply _).trans ?_
      rw [show _ = _ from ref_apply (lhs m c) (rhs m c)]
      rfl

end Cert.Prod.Up

end
-- ==== Proof.ProdDown.lean ====
/- The product of the hidden activations with the down projection, added to the residual. -/
module

public import proofs.«01_k».proof.Proof.Gen.DownIdeal.Value
public import proofs.«01_k».proof.Proof.Gen.DownReferenceIdeal.Run
public import proofs.«01_k».proof.Proof.Gen.Down
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.Down

open Idealize.ShloMosaic Idealize.ShloMosaic.TcCoe Idealize.SL.Sem Cert.DownIdeal Cert.DownIdeal.Gen

/-! ## What a point of the grid leaves -/

section Run

variable {F : FTy → Type} [FloatOps F]

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (a : Vec F S1024x1024 .bf16) (b : Vec F S1024x1024 .bf16) (e : Vec F S1024x1024 .f32) (s : Vec F S1024x1024 .f32)

theorem first (hc0 : cond0_0 i) (hc1 : ¬cond0_1 i) :
    sout0_A_0 c i arg3 harg3 arg4 harg4 arg5 harg5 arg6 harg6 arg7 harg7 hc0 hc1 a b e = k0_pay2 k0_pay1 a b := by
  unfold sout0_A_0
  rw [View.read_writes_eq_canon _ _ _ (scover0_A_0 c i arg3 harg3 arg4 harg4 arg5 harg5 arg6 harg6 arg7 harg7 hc0 hc1 a b e)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, harg5.read_unread, View.ld_unit_zero (S := S1024x1024) hz]

theorem next (hc0 : ¬cond0_0 i) (hc1 : ¬cond0_1 i) :
    sout0_B_0 c i arg3 harg3 arg4 harg4 arg5 harg5 arg6 harg6 arg7 harg7 hc0 hc1 a b e s = k0_pay2 s a b := by
  unfold sout0_B_0
  rw [View.read_writes_eq_canon _ _ _ (scover0_B_0 c i arg3 harg3 arg4 harg4 arg5 harg5 arg6 harg6 arg7 harg7 hc0 hc1 a b e s)]
  unfold kernelRun0_B
  dsimp only
  rw [View.canon_cons_unit_zero hz]
  simp only [View.readAt_eq_ld, harg3.read_unread, harg4.read_unread, harg5.read_unread, harg7.read_unread, View.ld_unit_zero (S := S1024x1024) hz]

theorem last (hc0 : ¬cond0_0 i) (hc1 : cond0_1 i) :
    sout0_C_0 c i arg3 harg3 arg4 harg4 arg5 harg5 arg6 harg6 arg7 harg7 hc0 hc1 a b e s = k0_pay2 s a b := by
  unfold sout0_C_0
  rw [View.read_writes_eq_canon _ _ _ (scover0_C_0 c i arg3 harg3 arg4 harg4 arg5 harg5 arg6 harg6 arg7 harg7 hc0 hc1 a b e s)]
  unfold kernelRun0_C
  dsimp only
  unfold kernelRun0_C.sl.HS0_1
  rw [View.canon_cons_unit_zero hz]
  simp only [View.readAt_eq_ld, harg3.read_unread, harg4.read_unread, harg5.read_unread, harg7.read_unread, View.ld_unit_zero (S := S1024x1024) hz]

theorem result (hc0 : ¬cond0_0 i) (hc1 : cond0_1 i) :
    out0_C_3 c i arg3 harg3 arg4 harg4 arg5 harg5 arg6 harg6 arg7 harg7 hc0 hc1 a b e s = k0_pay3 (k0_pay2 s a b) e := by
  unfold out0_C_3
  rw [View.read_writes_eq_canon _ _ _ (cover0_C_3 c i arg3 harg3 arg4 harg4 arg5 harg5 arg6 harg6 arg7 harg7 hc0 hc1 a b e s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg5.read_unread, harg7.read_unread, View.ld_unit_zero (S := S1024x1024) hz]

end Run

/-! ## Over the extended reals -/

theorem first_apply (a : Vec Ideal S1024x1024 .bf16) (b : Vec Ideal S1024x1024 .bf16) (r x : Fin 1024) :
    k0_pay2 k0_pay1 a b (ix2 r x) = ∑ k : Fin 1024, a (ix2 r k) * b (ix2 k x) := by
  pointwise [k0_pay2, k0_pay1]

theorem next_apply (s : Vec Ideal S1024x1024 .f32) (a : Vec Ideal S1024x1024 .bf16) (b : Vec Ideal S1024x1024 .bf16)
    (r x : Fin 1024) : k0_pay2 s a b (ix2 r x) = s (ix2 r x) + ∑ k : Fin 1024, a (ix2 r k) * b (ix2 k x) := by
  pointwise [k0_pay2]

theorem add_apply (s e : Vec Ideal S1024x1024 .f32) (r x : Fin 1024) :
    k0_pay3 s e (ix2 r x) = s (ix2 r x) + e (ix2 r x) := by
  pointwise [k0_pay3]

variable (m : (ℓ : Loc nD τ sig) → Buf (Elt Ideal) ℓ) (c : Dev nD)

/-- The factors' entries, by the row or column of the product and the place in its sum. -/
def lhs (i : Fin 8192) (k : Fin 4096) : EReal := (m ((c : Thread nD τ).loc main_arg0) : Vec Ideal S8192x4096 .f32) (ix2 i k)
def rhs (j : Fin 1024) (k : Fin 4096) : EReal := (m ((c : Thread nD τ).loc main_arg1) : Vec Ideal S4096x1024 .f32) (ix2 k j)

/-- What the product is added to. -/
abbrev add : Vec Ideal S8192x1024 .f32 := m ((c : Thread nD τ).loc main_arg2)

def prod (i : Fin 8192) (j : Fin 1024) : EReal := ∑ k : Fin 4096, lhs m c i k * rhs m c j k

theorem entry_lhs (i : Fin 8192) (k : Fin 4096) : (V m c main_v0 : Vec Ideal S8192x4096 .bf16) (ix2 i k) = lhs m c i k := by
  refine Eq.trans (congrFun (?_ : _ = (m ((c : Thread nD τ).loc main_arg0) : Vec Ideal S8192x4096 .f32)) _) rfl
  show StableHlo.after hostOps0 (fun b => m (c, b)) _ = _
  after_results <;> rfl

theorem entry_rhs (j : Fin 1024) (k : Fin 4096) : (V m c main_v1 : Vec Ideal S4096x1024 .bf16) (ix2 k j) = rhs m c j k := by
  refine Eq.trans (congrFun (?_ : _ = (m ((c : Thread nD τ).loc main_arg1) : Vec Ideal S4096x1024 .f32)) _) rfl
  show StableHlo.after hostOps0 (fun b => m (c, b)) _ = _
  after_results <;> rfl

theorem entry_add : (V m c main_arg2 : Vec Ideal S8192x1024 .f32) = add m c := by
  show StableHlo.after hostOps0 (fun b => m (c, b)) _ = _
  after_results <;> rfl

theorem idx : ∀ t : Fin cfg0.N, win0_0.index t = ![t.val / 4, t.val % 4] ∧ win0_1.index t = ![t.val % 4, 0] ∧ win0_2.index t = ![t.val / 4, 0]
    ∧ win0_3.index t = ![t.val / 4, 0] := (by decide +kernel : ∀ t : Fin grid0.N, _)

/-- Where an entry of a point's blocks lies in the arrays. -/
abbrev row (t : Fin cfg0.N) (r : Fin 1024) : Fin 8192 := ⟨t.val / 4 * 1024 + r.val, by have h : t.val < 32 := lt_of_lt_of_eq t.isLt N_0; omega⟩
abbrev mid (t : Fin cfg0.N) (k : Fin 1024) : Fin 4096 := ⟨t.val % 4 * 1024 + k.val, by omega⟩

theorem blk_lhs (t : Fin cfg0.N) (r : Fin 1024) (k : Fin 1024) :
    iblk m c 0 t (ix2 r k) = lhs m c (row t r) (mid t k) := by
  refine Eq.trans ?_ (entry_lhs m c _ _)
  blk_simp [iblk]
  refine congrArg (V m c main_v0) ?_
  blk_ext [(idx t).1, ix2]

theorem blk_rhs (t : Fin cfg0.N) (x : Fin 1024) (k : Fin 1024) :
    iblk m c 1 t (ix2 k x) = rhs m c x (mid t k) := by
  refine Eq.trans ?_ (entry_rhs m c _ _)
  blk_simp [iblk]
  refine congrArg (V m c main_v1) ?_
  blk_ext [(idx t).2.1, ix2]

theorem blk_add (t : Fin cfg0.N) (r x : Fin 1024) : iblk m c 2 t (ix2 r x) = add m c (ix2 (row t r) x) := by
  rw [← entry_add]
  blk_simp [iblk]
  refine congrArg (V m c main_arg2) ?_
  blk_ext [(idx t).2.2.1, ix2]

/-- The entries of a point's tiles. -/
abbrev tile0 (t : Fin cfg0.N) (r : Fin 1024) (k : Fin 1024) : EReal := iblk m c 0 t (ix2 r k)
abbrev tile1 (t : Fin cfg0.N) (x : Fin 1024) (k : Fin 1024) : EReal := iblk m c 1 t (ix2 k x)

theorem sum_first (t : Fin cfg0.N) (h0 : t.val % 4 = 0) (r x : Fin 1024) :
    ((outsAt0 m c t.val t.isLt).2 (ix2 r x) : EReal) = ∑ k : Fin 1024, tile0 m c t r k * tile1 m c t x k := by
  rw [outsAt0_A m c t h0 (by omega)]
  dsimp only
  rw [first, first_apply]

theorem sum_next (t : Fin cfg0.N) (h0 : ¬t.val % 4 = 0) (r x : Fin 1024) :
    ((outsAt0 m c t.val t.isLt).2 (ix2 r x) : EReal)
      = (outsAt0 m c (t.val - 1) (Nat.lt_of_le_of_lt (Nat.sub_le _ _) t.isLt)).2 (ix2 r x)
        + ∑ k : Fin 1024, tile0 m c t r k * tile1 m c t x k := by
  by_cases h1 : t.val % 4 = 3
  · rw [outsAt0_C m c t h0 h1]
    dsimp only
    rw [last, next_apply]
  · rw [outsAt0_B m c t h0 h1]
    dsimp only
    rw [next, next_apply]

theorem sum_apply (t : Fin cfg0.N) (hr : t.val % 4 = 3) (r x : Fin 1024) :
    ((outsAt0 m c t.val t.isLt).2 (ix2 r x) : EReal) = prod m c (row t r) x :=
  prod_tiles (NK := 4) (KS := 1024) (by norm_num) (X := lhs m c) (Y := rhs m c) (row := row) (col := fun _ x => x)
    (fun t t' h => funext fun r => Fin.ext (by dsimp only <;> omega)) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 4 = 3) (r x : Fin 1024) :
    ((outsAt0 m c t.val t.isLt).1 (ix2 r x) : EReal) = prod m c (row t r) x + add m c (ix2 (row t r) x) := by
  rw [← sum_apply m c t hr, outsAt0_C m c t (by omega) hr]
  dsimp only
  rw [last, result, add_apply, blk_add]

theorem array : (dats m 0 c).arrAt 3 cfg0.N = fun i : S8192x1024.Idx => prod m c (i 0) (i 1) + add m c i := by
  refine (dats m 0 c).arrAt_eq_of_covers 3 _ (by decide +kernel) fun t hf y => ?_
  have hr : t.val % 4 = 3 := (flush0_3 t).1 hf
  blk_simp
  rw [after0_3]
  change S1024x1024.Idx at y
  obtain ⟨r, x, rfl⟩ : ∃ (r : Fin 1024) (x : Fin 1024), y = ix2 r x := ⟨_, _, eq_ix2 y⟩
  rw [out_apply m c t hr r x]
  have e0 : (win0_3.blk t).view.emb (ix2 r x) = (ix2 (row t r) x : S8192x1024.Idx) := by blk_ext [(idx t).2.2.2, ix2]
  rw [e0]
  rfl

/-- The reference's result at an index. -/
theorem ref_apply (a : Vec Ideal S8192x4096 .f32) (b : Vec Ideal S4096x1024 .f32) (e : Vec Ideal S8192x1024 .f32) :
    (addf e (Host.dotGeneral (F := Ideal) (φ₁ := .f32) (φ₂ := .f32) Cert.DownReferenceIdeal.dot_S8192x4096_S4096x1024_S8192x1024_1_0_0_1_n_n none a b) : Vec Ideal S8192x1024 .f32)
      = fun i : S8192x1024.Idx => (∑ k : Fin 4096, a (ix2 (i 0) k) * b (ix2 k (i 1))) + e i := by
  funext i
  obtain ⟨r, x, rfl⟩ : ∃ (r : Fin 8192) (x : Fin 1024), i = ix2 r x := ⟨_, _, eq_ix2 i⟩
  refine Eq.trans ?_ (add_comm _ _)
  pointwise

theorem frame : Cert.quiescent_Down (hDown := Cert.Down.Gen.facts) := fun m ρ _ => by
  rw [show Cert.Down.defs (F := Bits) = Cert.DownIdeal.defs from congrArg (Pipeline.defs _) (table_ext fun _ => rfl)]
  exact Cert.DownIdeal.Gen.frame (F := Bits) m ρ

theorem frame_reference : Cert.quiescent_DownReferenceIdeal (hDownReferenceIdeal := Cert.DownReferenceIdeal.Gen.facts) :=
  fun m ρ _ => (θ_run Cert.DownReferenceIdeal.defs _ _).mono
    (fun r h => ⟨fun c => (h c).2, sem_eq_zero_of_no_sems (by decide) r.2⟩)
    (Cert.DownReferenceIdeal.Value.run (F := Ideal) m ρ)

theorem algebraic : Cert.algebraic_DownIdeal_DownReferenceIdeal (hDownIdeal := Cert.DownIdeal.Gen.facts)
    (hDownReferenceIdeal := Cert.DownReferenceIdeal.Gen.facts) := by
  intro m g m' g' _ he
  refine ⟨fun c => fun i : S8192x1024.Idx => prod m c (i 0) (i 1) + add m c i, ?_, ?_⟩
  · refine (θ_run Cert.DownIdeal.defs _ _).mono (fun r h c => ?_) (Cert.DownIdeal.Value.run (F := Ideal) m g)
    exact ⟨(h c).1.trans ((Cert.DownIdeal.Value.final3 m c).symm.trans (array m c)), (h c).2⟩
  · refine (θ_run Cert.DownReferenceIdeal.defs _ _).mono (fun r h c => ?_) (Cert.DownReferenceIdeal.Value.run (F := Ideal) m' g')
    refine ⟨(h c).1.trans ?_, (h c).2⟩
    rw [(he c).1, (he c).2.1, (he c).2.2]
    exact ref_apply _ _ _

end Cert.Prod.Down

end
-- ==== Proof.ProdDu.lean ====
/- The product of the cotangent with the down projection, times the slope of the squared positive part: the gradient
   of the hidden pre-activations. -/
module

public import proofs.«01_k».proof.Proof.Gen.DuIdeal.Value
public import proofs.«01_k».proof.Proof.Gen.DuReferenceIdeal.Run
public import proofs.«01_k».proof.Proof.Gen.Du
public import proofs.«01_k».proof.Defs
public import Idealize.ShloMosaic.Lib.Pointwise
public import proofs.«01_k».proof.Proof.Prod
public import Idealize.ShloMosaic.Lib.Quiescent
public import Idealize.ShloMosaic.Lib.VecWindow

@[expose] public section

set_option maxRecDepth 16384

noncomputable section

namespace Cert.Prod.Du

open Idealize.ShloMosaic Idealize.ShloMosaic.TcCoe Idealize.SL.Sem Cert.DuIdeal Cert.DuIdeal.Gen

/-! ## What a point of the grid leaves -/

section Run

variable {F : FTy → Type} [FloatOps F]

variable (c : Dev nD) (i : grid0.Coords)
  (arg3 : Memref sig .tc .vmem S1024x1024 .f32) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .bf16) (harg6 : arg6.IsWhole)
  (arg7 : Memref sig .tc .vmem S1024x1024 .f32) (harg7 : arg7.IsWhole)
  (a : Vec F S1024x1024 .f32) (b : Vec F S1024x1024 .bf16) (e : Vec F S1024x1024 .f32)

theorem result (hc0 : cond0_0 i) (hc1 : cond0_1 i) :
    out0_A_3 c i arg3 harg3 arg4 harg4 arg5 harg5 arg6 harg6 arg7 harg7 hc0 hc1 a b e = k0_pay3 (k0_pay2 k0_pay1 a b) e := by
  unfold out0_A_3
  rw [View.read_writes_eq_canon _ _ _ (cover0_A_3 c i arg3 harg3 arg4 harg4 arg5 harg5 arg6 harg6 arg7 harg7 hc0 hc1 a b e)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, harg5.read_unread, View.ld_unit_zero (S := S1024x1024) hz]

end Run

/-! ## Over the extended reals -/

/-- A product with twice the positive part is zero where there is no positive part. -/
theorem slope (p u w : EReal) : (if 0 < u then p * (w * max u 0) else 0) = p * (w * max u 0) := by
  split
  · rfl
  · rw [max_eq_right (not_lt.1 ‹_›), mul_zero, mul_zero]

theorem step_apply (a : Vec Ideal S1024x1024 .f32) (b : Vec Ideal S1024x1024 .bf16) (r x : Fin 1024) :
    k0_pay2 k0_pay1 a b (ix2 r x) = ∑ k : Fin 1024, a (ix2 r k) * b (ix2 x k) := by
  pointwise [k0_pay2, k0_pay1]

/-- The word of the number two. -/
abbrev two : EReal := Ideal.ofBits .f32 0x40000000#32

theorem slope_apply (p u : Vec Ideal S1024x1024 .f32) (r x : Fin 1024) :
    k0_pay3 p u (ix2 r x) = (p (ix2 r x) : EReal) * (two * max (u (ix2 r x) : EReal) 0) := by
  pointwise [k0_pay3]

variable (m : (ℓ : Loc nD τ sig) → Buf (Elt Ideal) ℓ) (c : Dev nD)

/-- The factors, the pre-activations, and the result. -/
abbrev lhs : Vec Ideal S8192x1024 .f32 := m ((c : Thread nD τ).loc main_arg2)
abbrev rhs : Vec Ideal S4096x1024 .f32 := m ((c : Thread nD τ).loc main_arg1)
abbrev pre : Vec Ideal S8192x4096 .f32 := m ((c : Thread nD τ).loc main_arg0)
def grad (i : Fin 8192) (j : Fin 4096) : EReal :=
  (∑ k : Fin 1024, lhs m c (ix2 i k) * rhs m c (ix2 j k)) * (two * max (pre m c (ix2 i j) : EReal) 0)

theorem entry_lhs : (V m c main_arg2 : Vec Ideal S8192x1024 .f32) = lhs m c := by
  show StableHlo.after hostOps0 (fun b => m (c, b)) _ = _
  after_results <;> rfl

theorem entry_rhs : (V m c main_v0 : Vec Ideal S4096x1024 .bf16) = rhs m c := by
  show StableHlo.after hostOps0 (fun b => m (c, b)) _ = _
  after_results <;> rfl

theorem entry_pre : (V m c main_arg0 : Vec Ideal S8192x4096 .f32) = pre m c := by
  show StableHlo.after hostOps0 (fun b => m (c, b)) _ = _
  after_results <;> rfl

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The row and the column of an entry of a point's blocks. -/
abbrev row (t : Fin cfg0.N) (r : Fin 1024) : Fin 8192 :=
  ⟨t.val / 4 * 1024 + r.val, by have h : t.val < 32 := lt_of_lt_of_eq t.isLt N_0; omega⟩
abbrev col (t : Fin cfg0.N) (x : Fin 1024) : Fin 4096 := ⟨t.val % 4 * 1024 + x.val, by omega⟩

theorem blk_lhs (t : Fin cfg0.N) (r k : Fin 1024) : iblk m c 0 t (ix2 r k) = lhs m c (ix2 (row t r) k) := by
  rw [← entry_lhs]
  blk_simp [iblk]
  refine congrArg (V m c main_arg2) ?_
  blk_ext [(idx t).1, ix2]

theorem blk_rhs (t : Fin cfg0.N) (x k : Fin 1024) : iblk m c 1 t (ix2 x k) = rhs m c (ix2 (col t x) k) := by
  rw [← entry_rhs]
  blk_simp [iblk]
  refine congrArg (V m c main_v0) ?_
  blk_ext [(idx t).2.1, ix2]

theorem blk_pre (t : Fin cfg0.N) (r x : Fin 1024) : iblk m c 2 t (ix2 r x) = pre m c (ix2 (row t r) (col t x)) := by
  rw [← entry_pre]
  blk_simp [iblk]
  refine congrArg (V m c main_arg0) ?_
  blk_ext [(idx t).2.2.1, ix2]

theorem out_apply (t : Fin cfg0.N) (r x : Fin 1024) : ((outsAt0 m c t) (ix2 r x) : EReal) = grad m c (row t r) (col t x) := by
  dsimp only [outsAt0]
  rw [result, slope_apply, step_apply, blk_pre, grad]
  exact congrArg (· * _) (Finset.sum_congr rfl fun k _ => by rw [blk_lhs, blk_rhs])

theorem array : (dats m 0 c).arrAt 3 cfg0.N = fun i : S8192x4096.Idx => grad m c (i 0) (i 1) := by
  refine (dats m 0 c).arrAt_eq_of_covers 3 _ (by decide +kernel) fun t hf y => ?_
  blk_simp
  rw [after0_3]
  change S1024x1024.Idx at y
  obtain ⟨r, x, rfl⟩ : ∃ (r : Fin 1024) (x : Fin 1024), y = ix2 r x := ⟨_, _, eq_ix2 y⟩
  rw [out_apply m c t r x]
  have e0 : (win0_3.blk t).view.emb (ix2 r x) = ix2 (row t r) (col t x) := by blk_ext [(idx t).2.2.2, ix2]
  rw [e0]
  rfl

/-- A vector of one word's value. -/
abbrev const (b : BitVec 32) : FVec Ideal S8192x4096 .f32 :=
  broadcastInDim S8192x4096 ![] Cert.DuReferenceIdeal.Gen.bcast_S_S8192x4096 (constant (F := Ideal) Cert.DuReferenceIdeal.S_ .f32 b)

/-- The reference's result at an index. -/
theorem ref_apply (a : Vec Ideal S8192x1024 .f32) (b : Vec Ideal S4096x1024 .f32) (u : Vec Ideal S8192x4096 .f32) :
    (truncf (F := Ideal) .bf16 (select (cmpf .ogt u (const 0x00000000#32))
        (mulf (Host.dotGeneral (F := Ideal) (φ₁ := .f32) (φ₂ := .f32) Cert.DuReferenceIdeal.dot_S8192x1024_S4096x1024_S8192x4096_1_1_0_0_n_n none a b)
          (mulf (const 0x40000000#32) (maximumf u (const 0x00000000#32)))) (const 0x00000000#32)) (by decide) : Vec Ideal S8192x4096 .bf16)
      = fun i : S8192x4096.Idx => (∑ k : Fin 1024, a (ix2 (i 0) k) * b (ix2 (i 1) k)) * (two * max (u (ix2 (i 0) (i 1)) : EReal) 0) := by
  funext i
  obtain ⟨r, x, rfl⟩ : ∃ (r : Fin 8192) (x : Fin 4096), i = ix2 r x := ⟨_, _, eq_ix2 i⟩
  refine Eq.trans ?_ (slope _ _ _)
  pointwise

theorem frame : Cert.quiescent_Du (hDu := Cert.Du.Gen.facts) := fun m ρ _ => by
  rw [show Cert.Du.defs (F := Bits) = Cert.DuIdeal.defs from congrArg (Pipeline.defs _) (table_ext fun _ => rfl)]
  exact Cert.DuIdeal.Gen.frame (F := Bits) m ρ

theorem frame_reference : Cert.quiescent_DuReferenceIdeal (hDuReferenceIdeal := Cert.DuReferenceIdeal.Gen.facts) :=
  fun m ρ _ => (θ_run Cert.DuReferenceIdeal.defs _ _).mono
    (fun r h => ⟨fun c => (h c).2, sem_eq_zero_of_no_sems (by decide) r.2⟩)
    (Cert.DuReferenceIdeal.Value.run (F := Ideal) m ρ)

theorem algebraic : Cert.algebraic_DuIdeal_DuReferenceIdeal (hDuIdeal := Cert.DuIdeal.Gen.facts)
    (hDuReferenceIdeal := Cert.DuReferenceIdeal.Gen.facts) := by
  intro m g m' g' _ he
  refine ⟨fun c => fun i : S8192x4096.Idx => grad m c (i 0) (i 1), ?_, ?_⟩
  · refine (θ_run Cert.DuIdeal.defs _ _).mono (fun r h c => ?_) (Cert.DuIdeal.Value.run_blocks (F := Ideal) m g)
    exact ⟨(h c).1.trans (array m c), (h c).2⟩
  · refine (θ_run Cert.DuReferenceIdeal.defs _ _).mono (fun r h c => ?_) (Cert.DuReferenceIdeal.Value.run (F := Ideal) m' g')
    refine ⟨(h c).1.trans ?_, (h c).2⟩
    rw [(he c).1, (he c).2.1, (he c).2.2]
    exact ref_apply _ _ _

end Cert.Prod.Du

end
-- ==== Proof.ProdDwOut.lean ====
/- The product of the hidden activations, transposed, with the cotangent: the gradient of the down projection. -/
module

public import proofs.«01_k».proof.Proof.Gen.DwOutIdeal.Value
public import proofs.«01_k».proof.Proof.Gen.DwOutReferenceIdeal.Run
public import proofs.«01_k».proof.Proof.Gen.DwOut
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.DwOut

open Idealize.ShloMosaic Idealize.ShloMosaic.TcCoe Idealize.SL.Sem Cert.DwOutIdeal Cert.DwOutIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S512x1024 .f32) (harg4 : arg4.IsWhole)
  (arg5 : Memref sig .tc .vmem S1024x1024 .f32) (harg5 : arg5.IsWhole)
  (arg6 : Memref sig .tc .vmem S1024x1024 .f32) (harg6 : arg6.IsWhole)
  (a : Vec F S512x1024 .bf16) (b : Vec F S512x1024 .f32) (s : Vec F S1024x1024 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x1024) hz, View.ld_unit_zero (S := S512x1024) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x1024) hz, View.ld_unit_zero (S := S512x1024) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x1024) hz, View.ld_unit_zero (S := S512x1024) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x1024) hz, View.ld_unit_zero (S := S512x1024) hz]

end Run

/-! ## Over the extended reals -/

theorem first_apply (a : Vec Ideal S512x1024 .bf16) (b : Vec Ideal S512x1024 .f32) (r x : Fin 1024) :
    k0_pay2 k0_pay1 a b (ix2 r x) = ∑ k : Fin 512, a (ix2 k r) * b (ix2 k x) := by
  pointwise [k0_pay2, k0_pay1]

theorem next_apply (s : Vec Ideal S1024x1024 .f32) (a : Vec Ideal S512x1024 .bf16) (b : Vec Ideal S512x1024 .f32)
    (r x : Fin 1024) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 4096) (k : Fin 8192) : EReal := (m ((c : Thread nD τ).loc main_arg0) : Vec Ideal S8192x4096 .f32) (ix2 k i)
def rhs (j : Fin 1024) (k : Fin 8192) : EReal := (m ((c : Thread nD τ).loc main_arg2) : Vec Ideal S8192x1024 .f32) (ix2 k j)

def prod (i : Fin 4096) (j : Fin 1024) : EReal := ∑ k : Fin 8192, lhs m c i k * rhs m c j k

theorem entry_lhs (i : Fin 4096) (k : Fin 8192) : (V m c main_v0 : Vec Ideal S8192x4096 .bf16) (ix2 k i) = lhs m c i k := by
  refine Eq.trans (congrFun (?_ : _ = (m ((c : Thread nD τ).loc main_arg0) : Vec Ideal S8192x4096 .f32)) _) rfl
  show StableHlo.after hostOps0 (fun b => m (c, b)) _ = _
  after_results <;> rfl

theorem entry_rhs (j : Fin 1024) (k : Fin 8192) : (V m c main_arg2 : Vec Ideal S8192x1024 .f32) (ix2 k j) = rhs m c j k := by
  refine Eq.trans (congrFun (?_ : _ = (m ((c : Thread nD τ).loc main_arg2) : Vec Ideal S8192x1024 .f32)) _) rfl
  show StableHlo.after hostOps0 (fun b => m (c, b)) _ = _
  after_results <;> rfl

theorem idx : ∀ t : Fin cfg0.N, win0_0.index t = ![t.val % 16, t.val / 16] ∧ win0_1.index t = ![t.val % 16, 0]
    ∧ win0_2.index t = ![t.val / 16, 0] := (by decide +kernel : ∀ t : Fin grid0.N, _)

/-- Where an entry of a point's blocks lies in the arrays. -/
abbrev row (t : Fin cfg0.N) (r : Fin 1024) : Fin 4096 := ⟨t.val / 16 * 1024 + r.val, by have h : t.val < 64 := lt_of_lt_of_eq t.isLt N_0; omega⟩
abbrev mid (t : Fin cfg0.N) (k : Fin 512) : Fin 8192 := ⟨t.val % 16 * 512 + k.val, by omega⟩

theorem blk_lhs (t : Fin cfg0.N) (r : Fin 1024) (k : Fin 512) :
    iblk m c 0 t (ix2 k r) = lhs m c (row t r) (mid t k) := by
  refine Eq.trans ?_ (entry_lhs m c _ _)
  blk_simp [iblk]
  refine congrArg (V m c main_v0) ?_
  blk_ext [(idx t).1, ix2]

theorem blk_rhs (t : Fin cfg0.N) (x : Fin 1024) (k : Fin 512) :
    iblk m c 1 t (ix2 k x) = rhs m c x (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 1024) (k : Fin 512) : EReal := iblk m c 0 t (ix2 k r)
abbrev tile1 (t : Fin cfg0.N) (x : Fin 1024) (k : Fin 512) : EReal := iblk m c 1 t (ix2 k x)

theorem sum_first (t : Fin cfg0.N) (h0 : t.val % 16 = 0) (r x : Fin 1024) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r x : Fin 1024) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r x : Fin 1024) :
    ((outsAt0 m c t.val t.isLt).2 (ix2 r x) : EReal) = prod m c (row t r) x :=
  prod_tiles (NK := 16) (KS := 512) (by norm_num) (X := lhs m c) (Y := rhs m c) (row := row) (col := fun _ x => x)
    (fun t t' h => funext fun r => Fin.ext (by dsimp only <;> omega)) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 16 = 15) (r x : Fin 1024) :
    ((outsAt0 m c t.val t.isLt).1 (ix2 r x) : EReal) = prod m c (row t r) x := by
  rw [← sum_apply m c t hr, outsAt0_C m c t (by omega) hr]
  dsimp only
  rw [last, result]

theorem array : (dats m 0 c).arrAt 2 cfg0.N = fun i : S4096x1024.Idx => prod m c (i 0) (i 1) := by
  refine (dats m 0 c).arrAt_eq_of_covers 2 _ (by decide +kernel) fun t hf y => ?_
  have hr : t.val % 16 = 15 := (flush0_2 t).1 hf
  blk_simp
  rw [after0_2]
  change S1024x1024.Idx at y
  obtain ⟨r, x, rfl⟩ : ∃ (r : Fin 1024) (x : Fin 1024), y = ix2 r x := ⟨_, _, eq_ix2 y⟩
  rw [out_apply m c t hr r x]
  have e0 : (win0_2.blk t).view.emb (ix2 r x) = (ix2 (row t r) x : S4096x1024.Idx) := by blk_ext [(idx t).2.2, ix2]
  rw [e0]
  rfl

/-- The reference's result at an index. -/
theorem ref_apply (a : Vec Ideal S8192x4096 .f32) (b : Vec Ideal S8192x1024 .f32) :
    (transpose S4096x1024 [1, 0] (Host.dotGeneral (F := Ideal) (φ₁ := .f32) (φ₂ := .f32) Cert.DwOutReferenceIdeal.dot_S8192x1024_S8192x4096_S1024x4096_0_0_1_1_n_n none b a) Cert.DwOutReferenceIdeal.Gen.transposes_S1024x4096_S4096x1024_1_0 : Vec Ideal S4096x1024 .f32)
      = fun i : S4096x1024.Idx => ∑ k : Fin 8192, a (ix2 k (i 0)) * b (ix2 k (i 1)) := by
  funext i
  obtain ⟨r, x, rfl⟩ : ∃ (r : Fin 4096) (x : Fin 1024), i = ix2 r x := ⟨_, _, eq_ix2 i⟩
  pointwise
  exact Finset.sum_congr rfl fun k _ => mul_comm _ _

theorem frame : Cert.quiescent_DwOut (hDwOut := Cert.DwOut.Gen.facts) := fun m ρ _ => by
  rw [show Cert.DwOut.defs (F := Bits) = Cert.DwOutIdeal.defs from congrArg (Pipeline.defs _) (table_ext fun _ => rfl)]
  exact Cert.DwOutIdeal.Gen.frame (F := Bits) m ρ

theorem frame_reference : Cert.quiescent_DwOutReferenceIdeal (hDwOutReferenceIdeal := Cert.DwOutReferenceIdeal.Gen.facts) :=
  fun m ρ _ => (θ_run Cert.DwOutReferenceIdeal.defs _ _).mono
    (fun r h => ⟨fun c => (h c).2, sem_eq_zero_of_no_sems (by decide) r.2⟩)
    (Cert.DwOutReferenceIdeal.Value.run (F := Ideal) m ρ)

theorem algebraic : Cert.algebraic_DwOutIdeal_DwOutReferenceIdeal (hDwOutIdeal := Cert.DwOutIdeal.Gen.facts)
    (hDwOutReferenceIdeal := Cert.DwOutReferenceIdeal.Gen.facts) := by
  intro m g m' g' _ he
  refine ⟨fun c => fun i : S4096x1024.Idx => prod m c (i 0) (i 1), ?_, ?_⟩
  · refine (θ_run Cert.DwOutIdeal.defs _ _).mono (fun r h c => ?_) (Cert.DwOutIdeal.Value.run (F := Ideal) m g)
    exact ⟨(h c).1.trans ((Cert.DwOutIdeal.Value.final2 m c).symm.trans (array m c)), (h c).2⟩
  · refine (θ_run Cert.DwOutReferenceIdeal.defs _ _).mono (fun r h c => ?_) (Cert.DwOutReferenceIdeal.Value.run (F := Ideal) m' g')
    refine ⟨(h c).1.trans ?_, (h c).2⟩
    rw [(he c).1, (he c).2.2]
    exact ref_apply _ _

end Cert.Prod.DwOut

end
-- ==== Proof.ProdDwIn.lean ====
/- The product of the normalised rows, transposed, with the gradient of the hidden pre-activations: the gradient of
   the up projection. -/
module

public import proofs.«01_k».proof.Proof.Gen.DwInIdeal.Value
public import proofs.«01_k».proof.Proof.Gen.DwInReferenceIdeal.Run
public import proofs.«01_k».proof.Proof.Gen.DwIn
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.DwIn

open Idealize.ShloMosaic Idealize.ShloMosaic.TcCoe Idealize.SL.Sem Cert.DwInIdeal Cert.DwInIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S512x1024 .bf16) (harg4 : arg4.IsWhole)
  (arg5 : Memref sig .tc .vmem S1024x1024 .f32) (harg5 : arg5.IsWhole)
  (arg6 : Memref sig .tc .vmem S1024x1024 .f32) (harg6 : arg6.IsWhole)
  (a : Vec F S512x1024 .bf16) (b : Vec F S512x1024 .bf16) (s : Vec F S1024x1024 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x1024) hz, View.ld_unit_zero (S := S512x1024) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x1024) hz, View.ld_unit_zero (S := S512x1024) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x1024) hz, View.ld_unit_zero (S := S512x1024) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x1024) hz, View.ld_unit_zero (S := S512x1024) hz]

end Run

/-! ## Over the extended reals -/

theorem first_apply (a : Vec Ideal S512x1024 .bf16) (b : Vec Ideal S512x1024 .bf16) (r x : Fin 1024) :
    k0_pay2 k0_pay1 a b (ix2 r x) = ∑ k : Fin 512, a (ix2 k r) * b (ix2 k x) := by
  pointwise [k0_pay2, k0_pay1]

theorem next_apply (s : Vec Ideal S1024x1024 .f32) (a : Vec Ideal S512x1024 .bf16) (b : Vec Ideal S512x1024 .bf16)
    (r x : Fin 1024) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 1024) (k : Fin 8192) : EReal := (m ((c : Thread nD τ).loc main_arg0) : Vec Ideal S8192x1024 .f32) (ix2 k i)
def rhs (j : Fin 4096) (k : Fin 8192) : EReal := (m ((c : Thread nD τ).loc main_arg2) : Vec Ideal S8192x4096 .f32) (ix2 k j)

def prod (i : Fin 1024) (j : Fin 4096) : EReal := ∑ k : Fin 8192, lhs m c i k * rhs m c j k

theorem entry_lhs (i : Fin 1024) (k : Fin 8192) : (V m c main_v0 : Vec Ideal S8192x1024 .bf16) (ix2 k i) = lhs m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_rhs (j : Fin 4096) (k : Fin 8192) : (V m c main_v1 : Vec Ideal S8192x4096 .bf16) (ix2 k j) = rhs m c j k := by
  refine Eq.trans (congrFun (?_ : _ = (m ((c : Thread nD τ).loc main_arg2) : Vec Ideal S8192x4096 .f32)) _) rfl
  show StableHlo.after hostOps0 (fun b => m (c, b)) _ = _
  after_results <;> rfl

theorem idx : ∀ t : Fin cfg0.N, win0_0.index t = ![t.val % 16, 0] ∧ win0_1.index t = ![t.val % 16, t.val / 16]
    ∧ win0_2.index t = ![0, t.val / 16] := (by decide +kernel : ∀ t : Fin grid0.N, _)

/-- Where an entry of a point's blocks lies in the arrays. -/
abbrev mid (t : Fin cfg0.N) (k : Fin 512) : Fin 8192 := ⟨t.val % 16 * 512 + k.val, by omega⟩
abbrev col (t : Fin cfg0.N) (x : Fin 1024) : Fin 4096 := ⟨t.val / 16 * 1024 + x.val, by have h : t.val < 64 := lt_of_lt_of_eq t.isLt N_0; omega⟩

theorem blk_lhs (t : Fin cfg0.N) (r : Fin 1024) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 1024) (k : Fin 512) :
    iblk m c 1 t (ix2 k x) = rhs m c (col t x) (mid t k) := by
  refine Eq.trans ?_ (entry_rhs m c _ _)
  blk_simp [iblk]
  refine congrArg (V m c main_v1) ?_
  blk_ext [(idx t).2.1, ix2]

/-- The entries of a point's tiles. -/
abbrev tile0 (t : Fin cfg0.N) (r : Fin 1024) (k : Fin 512) : EReal := iblk m c 0 t (ix2 k r)
abbrev tile1 (t : Fin cfg0.N) (x : Fin 1024) (k : Fin 512) : EReal := iblk m c 1 t (ix2 k x)

theorem sum_first (t : Fin cfg0.N) (h0 : t.val % 16 = 0) (r x : Fin 1024) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r x : Fin 1024) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r x : Fin 1024) :
    ((outsAt0 m c t.val t.isLt).2 (ix2 r x) : EReal) = prod m c r (col t x) :=
  prod_tiles (NK := 16) (KS := 512) (by norm_num) (X := lhs m c) (Y := rhs m c) (row := fun _ r => r) (col := col)
    (fun _ _ _ => rfl) (fun t t' h => funext fun r => Fin.ext (by dsimp only <;> omega))
    (f := fun n h r x => ((outsAt0 m c n h).2 (ix2 r x) : EReal)) (blk_lhs m c) (blk_rhs m c)
    (sum_first m c) (sum_next m c) t hr r x

theorem out_apply (t : Fin cfg0.N) (hr : t.val % 16 = 15) (r x : Fin 1024) :
    ((outsAt0 m c t.val t.isLt).1 (ix2 r x) : EReal) = prod m c r (col t x) := by
  rw [← sum_apply m c t hr, outsAt0_C m c t (by omega) hr]
  dsimp only
  rw [last, result]

theorem array : (dats m 0 c).arrAt 2 cfg0.N = fun i : S1024x4096.Idx => prod m c (i 0) (i 1) := by
  refine (dats m 0 c).arrAt_eq_of_covers 2 _ (by decide +kernel) fun t hf y => ?_
  have hr : t.val % 16 = 15 := (flush0_2 t).1 hf
  blk_simp
  rw [after0_2]
  change S1024x1024.Idx at y
  obtain ⟨r, x, rfl⟩ : ∃ (r : Fin 1024) (x : Fin 1024), y = ix2 r x := ⟨_, _, eq_ix2 y⟩
  rw [out_apply m c t hr r x]
  have e0 : (win0_2.blk t).view.emb (ix2 r x) = (ix2 r (col t x) : S1024x4096.Idx) := by blk_ext [(idx t).2.2, ix2]
  rw [e0]
  rfl

/-- The reference's result at an index. -/
theorem ref_apply (a : Vec Ideal S8192x1024 .f32) (b : Vec Ideal S8192x4096 .f32) :
    (transpose S1024x4096 [1, 0] (Host.dotGeneral (F := Ideal) (φ₁ := .f32) (φ₂ := .f32) Cert.DwInReferenceIdeal.dot_S8192x4096_S8192x1024_S4096x1024_0_0_1_1_n_n none b a) Cert.DwInReferenceIdeal.Gen.transposes_S4096x1024_S1024x4096_1_0 : Vec Ideal S1024x4096 .f32)
      = fun i : S1024x4096.Idx => ∑ k : Fin 8192, a (ix2 k (i 0)) * b (ix2 k (i 1)) := by
  funext i
  obtain ⟨r, x, rfl⟩ : ∃ (r : Fin 1024) (x : Fin 4096), i = ix2 r x := ⟨_, _, eq_ix2 i⟩
  pointwise
  exact Finset.sum_congr rfl fun k _ => mul_comm _ _

theorem frame : Cert.quiescent_DwIn (hDwIn := Cert.DwIn.Gen.facts) := fun m ρ _ => by
  rw [show Cert.DwIn.defs (F := Bits) = Cert.DwInIdeal.defs from congrArg (Pipeline.defs _) (table_ext fun _ => rfl)]
  exact Cert.DwInIdeal.Gen.frame (F := Bits) m ρ

theorem frame_reference : Cert.quiescent_DwInReferenceIdeal (hDwInReferenceIdeal := Cert.DwInReferenceIdeal.Gen.facts) :=
  fun m ρ _ => (θ_run Cert.DwInReferenceIdeal.defs _ _).mono
    (fun r h => ⟨fun c => (h c).2, sem_eq_zero_of_no_sems (by decide) r.2⟩)
    (Cert.DwInReferenceIdeal.Value.run (F := Ideal) m ρ)

theorem algebraic : Cert.algebraic_DwInIdeal_DwInReferenceIdeal (hDwInIdeal := Cert.DwInIdeal.Gen.facts)
    (hDwInReferenceIdeal := Cert.DwInReferenceIdeal.Gen.facts) := by
  intro m g m' g' _ he
  refine ⟨fun c => fun i : S1024x4096.Idx => prod m c (i 0) (i 1), ?_, ?_⟩
  · refine (θ_run Cert.DwInIdeal.defs _ _).mono (fun r h c => ?_) (Cert.DwInIdeal.Value.run (F := Ideal) m g)
    exact ⟨(h c).1.trans ((Cert.DwInIdeal.Value.final2 m c).symm.trans (array m c)), (h c).2⟩
  · refine (θ_run Cert.DwInReferenceIdeal.defs _ _).mono (fun r h c => ?_) (Cert.DwInReferenceIdeal.Value.run (F := Ideal) m' g')
    refine ⟨(h c).1.trans ?_, (h c).2⟩
    rw [(he c).1, (he c).2.2]
    exact ref_apply _ _

end Cert.Prod.DwIn

end
-- ==== Proof.ProdDh.lean ====
/- The product of the gradient of the hidden pre-activations with the up projection: the gradient of the
   normalised rows. -/
module

public import proofs.«01_k».proof.Proof.Gen.DhIdeal.Value
public import proofs.«01_k».proof.Proof.Gen.DhReferenceIdeal.Run
public import proofs.«01_k».proof.Proof.Gen.Dh
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.Dh

open Idealize.ShloMosaic Idealize.ShloMosaic.TcCoe Idealize.SL.Sem Cert.DhIdeal Cert.DhIdeal.Gen

/-! ## What a point of the grid leaves -/

section Run

variable {F : FTy → Type} [FloatOps F]

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (a : Vec F S1024x1024 .bf16) (b : Vec F S1024x1024 .bf16) (s : Vec F S1024x1024 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x1024) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x1024) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x1024) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x1024) hz]

end Run

/-! ## Over the extended reals -/

theorem first_apply (a : Vec Ideal S1024x1024 .bf16) (b : Vec Ideal S1024x1024 .bf16) (r x : Fin 1024) :
    k0_pay2 k0_pay1 a b (ix2 r x) = ∑ k : Fin 1024, a (ix2 r k) * b (ix2 x k) := by
  pointwise [k0_pay2, k0_pay1]

theorem next_apply (s : Vec Ideal S1024x1024 .f32) (a : Vec Ideal S1024x1024 .bf16) (b : Vec Ideal S1024x1024 .bf16)
    (r x : Fin 1024) : k0_pay2 s a b (ix2 r x) = s (ix2 r x) + ∑ k : Fin 1024, a (ix2 r k) * b (ix2 x k) := by
  pointwise [k0_pay2]

variable (m : (ℓ : Loc nD τ sig) → Buf (Elt Ideal) ℓ) (c : Dev nD)

/-- The factors' entries, by the row or column of the product and the place in its sum. -/
def lhs (i : Fin 8192) (k : Fin 4096) : EReal := (m ((c : Thread nD τ).loc main_arg2) : Vec Ideal S8192x4096 .f32) (ix2 i k)
def rhs (j : Fin 1024) (k : Fin 4096) : EReal := (m ((c : Thread nD τ).loc main_arg1) : Vec Ideal S1024x4096 .f32) (ix2 j k)

def prod (i : Fin 8192) (j : Fin 1024) : EReal := ∑ k : Fin 4096, lhs m c i k * rhs m c j k

theorem entry_lhs (i : Fin 8192) (k : Fin 4096) : (V m c main_v0 : Vec Ideal S8192x4096 .bf16) (ix2 i k) = lhs m c i k := by
  refine Eq.trans (congrFun (?_ : _ = (m ((c : Thread nD τ).loc main_arg2) : Vec Ideal S8192x4096 .f32)) _) rfl
  show StableHlo.after hostOps0 (fun b => m (c, b)) _ = _
  after_results <;> rfl

theorem entry_rhs (j : Fin 1024) (k : Fin 4096) : (V m c main_v1 : Vec Ideal S1024x4096 .bf16) (ix2 j k) = rhs m c j k := by
  refine Eq.trans (congrFun (?_ : _ = (m ((c : Thread nD τ).loc main_arg1) : Vec Ideal S1024x4096 .f32)) _) rfl
  show StableHlo.after hostOps0 (fun b => m (c, b)) _ = _
  after_results <;> rfl

theorem idx : ∀ t : Fin cfg0.N, win0_0.index t = ![t.val / 4, t.val % 4] ∧ win0_1.index t = ![0, t.val % 4]
    ∧ win0_2.index t = ![t.val / 4, 0] := (by decide +kernel : ∀ t : Fin grid0.N, _)

/-- Where an entry of a point's blocks lies in the arrays. -/
abbrev row (t : Fin cfg0.N) (r : Fin 1024) : Fin 8192 := ⟨t.val / 4 * 1024 + r.val, by have h : t.val < 32 := lt_of_lt_of_eq t.isLt N_0; omega⟩
abbrev mid (t : Fin cfg0.N) (k : Fin 1024) : Fin 4096 := ⟨t.val % 4 * 1024 + k.val, by omega⟩

theorem blk_lhs (t : Fin cfg0.N) (r : Fin 1024) (k : Fin 1024) :
    iblk m c 0 t (ix2 r k) = lhs m c (row t r) (mid t k) := by
  refine Eq.trans ?_ (entry_lhs m c _ _)
  blk_simp [iblk]
  refine congrArg (V m c main_v0) ?_
  blk_ext [(idx t).1, ix2]

theorem blk_rhs (t : Fin cfg0.N) (x : Fin 1024) (k : Fin 1024) :
    iblk m c 1 t (ix2 x k) = rhs m c x (mid t k) := by
  refine Eq.trans ?_ (entry_rhs m c _ _)
  blk_simp [iblk]
  refine congrArg (V m c main_v1) ?_
  blk_ext [(idx t).2.1, ix2]

/-- The entries of a point's tiles. -/
abbrev tile0 (t : Fin cfg0.N) (r : Fin 1024) (k : Fin 1024) : EReal := iblk m c 0 t (ix2 r k)
abbrev tile1 (t : Fin cfg0.N) (x : Fin 1024) (k : Fin 1024) : EReal := iblk m c 1 t (ix2 x k)

theorem sum_first (t : Fin cfg0.N) (h0 : t.val % 4 = 0) (r x : Fin 1024) :
    ((outsAt0 m c t.val t.isLt).2 (ix2 r x) : EReal) = ∑ k : Fin 1024, tile0 m c t r k * tile1 m c t x k := by
  rw [outsAt0_A m c t h0 (by omega)]
  dsimp only
  rw [first, first_apply]

theorem sum_next (t : Fin cfg0.N) (h0 : ¬t.val % 4 = 0) (r x : Fin 1024) :
    ((outsAt0 m c t.val t.isLt).2 (ix2 r x) : EReal)
      = (outsAt0 m c (t.val - 1) (Nat.lt_of_le_of_lt (Nat.sub_le _ _) t.isLt)).2 (ix2 r x)
        + ∑ k : Fin 1024, tile0 m c t r k * tile1 m c t x k := by
  by_cases h1 : t.val % 4 = 3
  · rw [outsAt0_C m c t h0 h1]
    dsimp only
    rw [last, next_apply]
  · rw [outsAt0_B m c t h0 h1]
    dsimp only
    rw [next, next_apply]

theorem sum_apply (t : Fin cfg0.N) (hr : t.val % 4 = 3) (r x : Fin 1024) :
    ((outsAt0 m c t.val t.isLt).2 (ix2 r x) : EReal) = prod m c (row t r) x :=
  prod_tiles (NK := 4) (KS := 1024) (by norm_num) (X := lhs m c) (Y := rhs m c) (row := row) (col := fun _ x => x)
    (fun t t' h => funext fun r => Fin.ext (by dsimp only <;> omega)) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 4 = 3) (r x : Fin 1024) :
    ((outsAt0 m c t.val t.isLt).1 (ix2 r x) : EReal) = prod m c (row t r) x := by
  rw [← sum_apply m c t hr, outsAt0_C m c t (by omega) hr]
  dsimp only
  rw [last, result]

theorem array : (dats m 0 c).arrAt 2 cfg0.N = fun i : S8192x1024.Idx => prod m c (i 0) (i 1) := by
  refine (dats m 0 c).arrAt_eq_of_covers 2 _ (by decide +kernel) fun t hf y => ?_
  have hr : t.val % 4 = 3 := (flush0_2 t).1 hf
  blk_simp
  rw [after0_2]
  change S1024x1024.Idx at y
  obtain ⟨r, x, rfl⟩ : ∃ (r : Fin 1024) (x : Fin 1024), y = ix2 r x := ⟨_, _, eq_ix2 y⟩
  rw [out_apply m c t hr r x]
  have e0 : (win0_2.blk t).view.emb (ix2 r x) = (ix2 (row t r) x : S8192x1024.Idx) := by blk_ext [(idx t).2.2, ix2]
  rw [e0]
  rfl

/-- The reference's result at an index. -/
theorem ref_apply (a : Vec Ideal S8192x4096 .f32) (b : Vec Ideal S1024x4096 .f32) :
    (Host.dotGeneral (F := Ideal) (φ₁ := .f32) (φ₂ := .f32) Cert.DhReferenceIdeal.dot_S8192x4096_S1024x4096_S8192x1024_1_1_0_0_n_n none a b : Vec Ideal S8192x1024 .f32)
      = fun i : S8192x1024.Idx => ∑ k : Fin 4096, a (ix2 (i 0) k) * b (ix2 (i 1) k) := by
  funext i
  obtain ⟨r, x, rfl⟩ : ∃ (r : Fin 8192) (x : Fin 1024), i = ix2 r x := ⟨_, _, eq_ix2 i⟩
  pointwise

theorem frame : Cert.quiescent_Dh (hDh := Cert.Dh.Gen.facts) := fun m ρ _ => by
  rw [show Cert.Dh.defs (F := Bits) = Cert.DhIdeal.defs from congrArg (Pipeline.defs _) (table_ext fun _ => rfl)]
  exact Cert.DhIdeal.Gen.frame (F := Bits) m ρ

theorem frame_reference : Cert.quiescent_DhReferenceIdeal (hDhReferenceIdeal := Cert.DhReferenceIdeal.Gen.facts) :=
  fun m ρ _ => (θ_run Cert.DhReferenceIdeal.defs _ _).mono
    (fun r h => ⟨fun c => (h c).2, sem_eq_zero_of_no_sems (by decide) r.2⟩)
    (Cert.DhReferenceIdeal.Value.run (F := Ideal) m ρ)

theorem algebraic : Cert.algebraic_DhIdeal_DhReferenceIdeal (hDhIdeal := Cert.DhIdeal.Gen.facts)
    (hDhReferenceIdeal := Cert.DhReferenceIdeal.Gen.facts) := by
  intro m g m' g' _ he
  refine ⟨fun c => fun i : S8192x1024.Idx => prod m c (i 0) (i 1), ?_, ?_⟩
  · refine (θ_run Cert.DhIdeal.defs _ _).mono (fun r h c => ?_) (Cert.DhIdeal.Value.run (F := Ideal) m g)
    exact ⟨(h c).1.trans ((Cert.DhIdeal.Value.final2 m c).symm.trans (array m c)), (h c).2⟩
  · refine (θ_run Cert.DhReferenceIdeal.defs _ _).mono (fun r h c => ?_) (Cert.DhReferenceIdeal.Value.run (F := Ideal) m' g')
    refine ⟨(h c).1.trans ?_, (h c).2⟩
    rw [(he c).2.1, (he c).2.2]
    exact ref_apply _ _

end Cert.Prod.Dh

end
-- ==== Proof.ProdIn.lean ====
/- The input projection: one product, its columns handed out to the three mixers. -/
module

public import proofs.«01_k».proof.Proof.Gen.InIdeal.Value
public import proofs.«01_k».proof.Proof.Gen.InReferenceIdeal.Run
public import proofs.«01_k».proof.Proof.Gen.In
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.In

open Idealize.ShloMosaic Idealize.ShloMosaic.TcCoe Idealize.SL.Sem Cert.InIdeal Cert.InIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S1024x2336 .bf16) (harg4 : arg4.IsWhole)
  (arg5 : Memref sig .tc .vmem S512x1152 .f32) (harg5 : arg5.IsWhole)
  (arg6 : Memref sig .tc .vmem S512x768 .f32) (harg6 : arg6.IsWhole)
  (arg7 : Memref sig .tc .vmem S512x416 .f32) (harg7 : arg7.IsWhole)
  (arg8 : Memref sig .tc .vmem S512x2336 .f32) (harg8 : arg8.IsWhole)
  (a : Vec F S512x1024 .bf16) (b : Vec F S1024x2336 .bf16)

theorem result2 (hc0 : cond0_0 i) (hc1 : cond0_1 i) :
    out0_A_2 c i arg3 harg3 arg4 harg4 arg5 harg5 arg6 harg6 arg7 harg7 arg8 harg8 hc0 hc1 a b = k0_pay3 (k0_pay2 k0_pay1 a b) := by
  unfold out0_A_2
  rw [View.read_writes_eq_canon _ _ _ (cover0_A_2 c i arg3 harg3 arg4 harg4 arg5 harg5 arg6 harg6 arg7 harg7 arg8 harg8 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S512x1024) hz,
    View.ld_unit_zero (S := S1024x2336) hz]

theorem result3 (hc0 : cond0_0 i) (hc1 : cond0_1 i) :
    out0_A_3 c i arg3 harg3 arg4 harg4 arg5 harg5 arg6 harg6 arg7 harg7 arg8 harg8 hc0 hc1 a b = k0_pay4 (k0_pay2 k0_pay1 a b) := by
  unfold out0_A_3
  rw [View.read_writes_eq_canon _ _ _ (cover0_A_3 c i arg3 harg3 arg4 harg4 arg5 harg5 arg6 harg6 arg7 harg7 arg8 harg8 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S512x1024) hz,
    View.ld_unit_zero (S := S1024x2336) hz]

theorem result4 (hc0 : cond0_0 i) (hc1 : cond0_1 i) :
    out0_A_4 c i arg3 harg3 arg4 harg4 arg5 harg5 arg6 harg6 arg7 harg7 arg8 harg8 hc0 hc1 a b = k0_pay5 (k0_pay2 k0_pay1 a b) := by
  unfold out0_A_4
  rw [View.read_writes_eq_canon _ _ _ (cover0_A_4 c i arg3 harg3 arg4 harg4 arg5 harg5 arg6 harg6 arg7 harg7 arg8 harg8 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S512x1024) hz,
    View.ld_unit_zero (S := S1024x2336) hz]

end Run

/-! ## Over the extended reals -/

theorem prod_apply (a : Vec Ideal S512x1024 .bf16) (b : Vec Ideal S1024x2336 .bf16) (r : Fin 512) (x : Fin 2336) :
    k0_pay2 k0_pay1 a b (ix2 r x) = ∑ k : Fin 1024, a (ix2 r k) * b (ix2 k x) := by
  pointwise [k0_pay2, k0_pay1]

theorem part2_apply (s : Vec Ideal S512x2336 .f32) (r : Fin 512) (x : Fin 1152) :
    k0_pay3 s (ix2 r x) = s (ix2 r ⟨x.val, by omega⟩) := by
  pointwise [k0_pay3]

theorem part3_apply (s : Vec Ideal S512x2336 .f32) (r : Fin 512) (x : Fin 768) :
    k0_pay4 s (ix2 r x) = s (ix2 r ⟨1152 + x.val, by omega⟩) := by
  pointwise [k0_pay4]

theorem part4_apply (s : Vec Ideal S512x2336 .f32) (r : Fin 512) (x : Fin 416) :
    k0_pay5 s (ix2 r x) = s (ix2 r ⟨1920 + x.val, by omega⟩) := by
  pointwise [k0_pay5]

variable (m : (ℓ : Loc nD τ sig) → Buf (Elt Ideal) ℓ) (c : Dev nD)

/-- The factors, and their product. -/
abbrev lhs : Vec Ideal S8192x1024 .f32 := m ((c : Thread nD τ).loc main_arg0)
abbrev rhs : Vec Ideal S1024x2336 .f32 := m ((c : Thread nD τ).loc main_arg1)
def prod (i : Fin 8192) (j : Fin 2336) : EReal := ∑ k : Fin 1024, lhs m c (ix2 i k) * rhs m c (ix2 k j)

/-- The place of the `j`th of `n` columns that begin at column `o`. -/
def shift (o n : Nat) (h : o + n ≤ 2336) (j : Fin n) : Fin 2336 := ⟨o + j.val, by omega⟩

theorem entry_lhs : (V m c main_v0 : Vec Ideal S8192x1024 .bf16) = lhs m c := by
  show StableHlo.after hostOps0 (fun b => m (c, b)) _ = _
  after_results <;> rfl

/-- The column of the weights that stands at a column of the reordered ones. -/
def column (j : Fin 2336) : Fin 2336 :=
  if h : j.val < 1920 then ⟨j.val + 416, by omega⟩ else ⟨j.val - 1920, by omega⟩

theorem column_lo (j : Fin 2336) (h : j.val < 1920) : column j = ⟨j.val + 416, by omega⟩ := dif_pos h
theorem column_hi (j : Fin 2336) (h : ¬j.val < 1920) : column j = ⟨j.val - 1920, by omega⟩ := dif_neg h

theorem entry_rhs (k : Fin 1024) (j : Fin 2336) :
    (V m c main_v5 : Vec Ideal S1024x2336 .bf16) (ix2 k j) = rhs m c (ix2 k (column j)) := by
  show (StableHlo.after hostOps0 (fun b => m (c, b)) main_v5 : Vec Ideal S1024x2336 .bf16) _ = _
  after_results
  pointwise
  split
  · rw [column_lo _ (by omega)]
    exact congrArg (rhs m c) ((eq_ix2 _).trans (congrArg₂ ix2 (Fin.ext (Nat.zero_add _))
      (Fin.ext (show 416 + j.val = j.val + 416 by omega))))
  · split
    · rw [column_lo _ (by omega)]
      exact congrArg (rhs m c) ((eq_ix2 _).trans (congrArg₂ ix2 (Fin.ext (Nat.zero_add _))
        (Fin.ext (show 1568 + (j.val - 1152) = j.val + 416 by omega))))
    · rw [column_hi _ (by omega)]
      exact congrArg (rhs m c) ((eq_ix2 _).trans (congrArg₂ ix2 (Fin.ext (Nat.zero_add _))
        (Fin.ext (show 0 + (j.val - 1152 - 768) = j.val - 1920 by omega))))

theorem idx : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- The row of an entry of a point's blocks. -/
abbrev row (t : Fin cfg0.N) (r : Fin 512) : Fin 8192 :=
  ⟨t.val * 512 + r.val, by have h : t.val < 16 := lt_of_lt_of_eq t.isLt N_0; omega⟩

theorem blk_lhs (t : Fin cfg0.N) (r : Fin 512) (k : Fin 1024) : iblk m c 0 t (ix2 r k) = lhs m c (ix2 (row t r) k) := by
  rw [← entry_lhs]
  blk_simp [iblk]
  refine congrArg (V m c main_v0) ?_
  blk_ext [(idx t).1, ix2]

theorem blk_rhs (t : Fin cfg0.N) (k : Fin 1024) (x : Fin 2336) :
    iblk m c 1 t (ix2 k x) = rhs m c (ix2 k (column x)) := by
  refine Eq.trans ?_ (entry_rhs m c k x)
  blk_simp [iblk]
  refine congrArg (V m c main_v5) ?_
  blk_ext [(idx t).2.1, ix2]

theorem out_apply (t : Fin cfg0.N) (r : Fin 512) (x : Fin 2336) :
    (k0_pay2 k0_pay1 (iblk m c 0 t) (iblk m c 1 t) (ix2 r x) : EReal) = prod m c (row t r) (column x) := by
  rw [prod_apply]
  exact Finset.sum_congr rfl fun k _ => by rw [blk_lhs, blk_rhs]

theorem out2_apply (t : Fin cfg0.N) (r : Fin 512) (x : Fin 1152) :
    ((outsAt0 m c t).1 (ix2 r x) : EReal) = prod m c (row t r) (shift 416 1152 (by decide) x) := by
  dsimp only [outsAt0]
  rw [result2, part2_apply, out_apply, column_lo _ (show x.val < 1920 by omega)]
  exact congrArg (prod m c (row t r)) (Fin.ext (by dsimp only [shift] <;> omega))

theorem array2 : (dats m 0 c).arrAt 2 cfg0.N = fun i : S8192x1152.Idx => prod m c (i 0) (shift 416 1152 (by decide) (i 1)) := by
  refine (dats m 0 c).arrAt_eq_of_covers 2 _ (by decide +kernel) fun t hf y => ?_
  blk_simp
  rw [after0_2]
  change S512x1152.Idx at y
  obtain ⟨r, x, rfl⟩ : ∃ (r : Fin 512) (x : Fin 1152), y = ix2 r x := ⟨_, _, eq_ix2 y⟩
  rw [out2_apply m c t r x]
  have e0 : (win0_2.blk t).view.emb (ix2 r x) = (ix2 (row t r) x : S8192x1152.Idx) := by blk_ext [(idx t).2.2.1, ix2]
  rw [e0]
  rfl

theorem out3_apply (t : Fin cfg0.N) (r : Fin 512) (x : Fin 768) :
    ((outsAt0 m c t).2.1 (ix2 r x) : EReal) = prod m c (row t r) (shift 1568 768 (by decide) x) := by
  dsimp only [outsAt0]
  rw [result3, part3_apply, out_apply, column_lo _ (show 1152 + x.val < 1920 by omega)]
  exact congrArg (prod m c (row t r)) (Fin.ext (by dsimp only [shift] <;> omega))

theorem array3 : (dats m 0 c).arrAt 3 cfg0.N = fun i : S8192x768.Idx => prod m c (i 0) (shift 1568 768 (by decide) (i 1)) := by
  refine (dats m 0 c).arrAt_eq_of_covers 3 _ (by decide +kernel) fun t hf y => ?_
  blk_simp
  rw [after0_3]
  change S512x768.Idx at y
  obtain ⟨r, x, rfl⟩ : ∃ (r : Fin 512) (x : Fin 768), y = ix2 r x := ⟨_, _, eq_ix2 y⟩
  rw [out3_apply m c t r x]
  have e0 : (win0_3.blk t).view.emb (ix2 r x) = (ix2 (row t r) x : S8192x768.Idx) := by blk_ext [(idx t).2.2.2.1, ix2]
  rw [e0]
  rfl

theorem out4_apply (t : Fin cfg0.N) (r : Fin 512) (x : Fin 416) :
    ((outsAt0 m c t).2.2 (ix2 r x) : EReal) = prod m c (row t r) (shift 0 416 (by decide) x) := by
  dsimp only [outsAt0]
  rw [result4, part4_apply, out_apply, column_hi _ (show ¬1920 + x.val < 1920 by omega)]
  exact congrArg (prod m c (row t r)) (Fin.ext (by dsimp only [shift] <;> omega))

theorem array4 : (dats m 0 c).arrAt 4 cfg0.N = fun i : S8192x416.Idx => prod m c (i 0) (shift 0 416 (by decide) (i 1)) := by
  refine (dats m 0 c).arrAt_eq_of_covers 4 _ (by decide +kernel) fun t hf y => ?_
  blk_simp
  rw [after0_4]
  change S512x416.Idx at y
  obtain ⟨r, x, rfl⟩ : ∃ (r : Fin 512) (x : Fin 416), y = ix2 r x := ⟨_, _, eq_ix2 y⟩
  rw [out4_apply m c t r x]
  have e0 : (win0_4.blk t).view.emb (ix2 r x) = (ix2 (row t r) x : S8192x416.Idx) := by blk_ext [(idx t).2.2.2.2, ix2]
  rw [e0]
  rfl

theorem ref2_apply (a : Vec Ideal S8192x1024 .f32) (b : Vec Ideal S1024x2336 .f32) :
    (extractStridedSlice S8192x1152 ![0, 416] (Host.dotGeneral (F := Ideal) (φ₁ := .f32) (φ₂ := .f32) Cert.InReferenceIdeal.dot_S8192x1024_S1024x2336_S8192x2336_1_0_0_1_n_n none a b) Cert.InReferenceIdeal.Gen.slices_S8192x2336_S8192x1152_0_416 : Vec Ideal S8192x1152 .f32)
      = fun i : S8192x1152.Idx => ∑ k : Fin 1024, a (ix2 (i 0) k) * b (ix2 k (shift 416 1152 (by decide) (i 1))) := by
  funext i
  obtain ⟨r, x, rfl⟩ : ∃ (r : Fin 8192) (x : Fin 1152), i = ix2 r x := ⟨_, _, eq_ix2 i⟩
  pointwise [shift]

theorem ref3_apply (a : Vec Ideal S8192x1024 .f32) (b : Vec Ideal S1024x2336 .f32) :
    (extractStridedSlice S8192x768 ![0, 1568] (Host.dotGeneral (F := Ideal) (φ₁ := .f32) (φ₂ := .f32) Cert.InReferenceIdeal.dot_S8192x1024_S1024x2336_S8192x2336_1_0_0_1_n_n none a b) Cert.InReferenceIdeal.Gen.slices_S8192x2336_S8192x768_0_1568 : Vec Ideal S8192x768 .f32)
      = fun i : S8192x768.Idx => ∑ k : Fin 1024, a (ix2 (i 0) k) * b (ix2 k (shift 1568 768 (by decide) (i 1))) := by
  funext i
  obtain ⟨r, x, rfl⟩ : ∃ (r : Fin 8192) (x : Fin 768), i = ix2 r x := ⟨_, _, eq_ix2 i⟩
  pointwise [shift]

theorem ref4_apply (a : Vec Ideal S8192x1024 .f32) (b : Vec Ideal S1024x2336 .f32) :
    (extractStridedSlice S8192x416 ![0, 0] (Host.dotGeneral (F := Ideal) (φ₁ := .f32) (φ₂ := .f32) Cert.InReferenceIdeal.dot_S8192x1024_S1024x2336_S8192x2336_1_0_0_1_n_n none a b) Cert.InReferenceIdeal.Gen.slices_S8192x2336_S8192x416_0_0 : Vec Ideal S8192x416 .f32)
      = fun i : S8192x416.Idx => ∑ k : Fin 1024, a (ix2 (i 0) k) * b (ix2 k (shift 0 416 (by decide) (i 1))) := by
  funext i
  obtain ⟨r, x, rfl⟩ : ∃ (r : Fin 8192) (x : Fin 416), i = ix2 r x := ⟨_, _, eq_ix2 i⟩
  pointwise [shift]

theorem frame : Cert.quiescent_In (hIn := Cert.In.Gen.facts) := fun m ρ _ => by
  rw [show Cert.In.defs (F := Bits) = Cert.InIdeal.defs from congrArg (Pipeline.defs _) (table_ext fun _ => rfl)]
  exact Cert.InIdeal.Gen.frame (F := Bits) m ρ

theorem frame_reference : Cert.quiescent_InReferenceIdeal (hInReferenceIdeal := Cert.InReferenceIdeal.Gen.facts) :=
  fun m ρ _ => (θ_run Cert.InReferenceIdeal.defs _ _).mono
    (fun r h => ⟨fun c => (h c).2.2.2, sem_eq_zero_of_no_sems (by decide) r.2⟩)
    (Cert.InReferenceIdeal.Value.run (F := Ideal) m ρ)

theorem algebraic : Cert.algebraic_InIdeal_InReferenceIdeal (hInIdeal := Cert.InIdeal.Gen.facts)
    (hInReferenceIdeal := Cert.InReferenceIdeal.Gen.facts) := by
  intro m g m' g' _ he
  refine ⟨fun c => fun i : S8192x1152.Idx => prod m c (i 0) (shift 416 1152 (by decide) (i 1)),
    fun c => fun i : S8192x768.Idx => prod m c (i 0) (shift 1568 768 (by decide) (i 1)),
    fun c => fun i : S8192x416.Idx => prod m c (i 0) (shift 0 416 (by decide) (i 1)), ?_, ?_⟩
  · refine (θ_run Cert.InIdeal.defs _ _).mono (fun r h c => ?_) (Cert.InIdeal.Value.run_blocks (F := Ideal) m g)
    exact ⟨(h c).1.trans (array2 m c), (h c).2.1.trans (array3 m c), (h c).2.2.1.trans (array4 m c), (h c).2.2.2⟩
  · refine (θ_run Cert.InReferenceIdeal.defs _ _).mono (fun r h c => ?_) (Cert.InReferenceIdeal.Value.run (F := Ideal) m' g')
    have h' := h c
    rw [(he c).1, (he c).2] at h'
    exact ⟨h'.1.trans (ref2_apply _ _), h'.2.1.trans (ref3_apply _ _), h'.2.2.1.trans (ref4_apply _ _), (h c).2.2.2⟩

end Cert.Prod.In

end
-- ==== Proof.ProdInDhB.lean ====
/- The product of the banded mixer's cotangent with its columns of the input projection. -/
module

public import proofs.«01_k».proof.Proof.Gen.InDhBIdeal.Value
public import proofs.«01_k».proof.Proof.Gen.InDhBReferenceIdeal.Run
public import proofs.«01_k».proof.Proof.Gen.InDhB
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.InDhB

open Idealize.ShloMosaic Idealize.ShloMosaic.TcCoe Idealize.SL.Sem Cert.InDhBIdeal Cert.InDhBIdeal.Gen

/-! ## What a point of the grid leaves -/

section Run

variable {F : FTy → Type} [FloatOps F]

variable (c : Dev nD) (i : grid0.Coords)
  (arg3 : Memref sig .tc .vmem S1024x384 .f32) (harg3 : arg3.IsWhole)
  (arg4 : Memref sig .tc .vmem S1024x384 .bf16) (harg4 : arg4.IsWhole)
  (arg5 : Memref sig .tc .vmem S1024x1024 .f32) (harg5 : arg5.IsWhole)
  (arg6 : Memref sig .tc .vmem S1024x1024 .f32) (harg6 : arg6.IsWhole)
  (a : Vec F S1024x384 .f32) (b : Vec F S1024x384 .bf16) (s : Vec F S1024x1024 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x1024) hz, View.ld_unit_zero (S := S1024x384) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x1024) hz, View.ld_unit_zero (S := S1024x384) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x1024) hz, View.ld_unit_zero (S := S1024x384) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x1024) hz, View.ld_unit_zero (S := S1024x384) hz]

end Run

/-! ## Over the extended reals -/

theorem first_apply (a : Vec Ideal S1024x384 .f32) (b : Vec Ideal S1024x384 .bf16) (r x : Fin 1024) :
    k0_pay2 k0_pay1 a b (ix2 r x) = ∑ k : Fin 384, a (ix2 r k) * b (ix2 x k) := by
  pointwise [k0_pay2, k0_pay1]

theorem next_apply (s : Vec Ideal S1024x1024 .f32) (a : Vec Ideal S1024x384 .f32) (b : Vec Ideal S1024x384 .bf16)
    (r x : Fin 1024) : k0_pay2 s a b (ix2 r x) = s (ix2 r x) + ∑ k : Fin 384, a (ix2 r k) * b (ix2 x k) := by
  pointwise [k0_pay2]

variable (m : (ℓ : Loc nD τ sig) → Buf (Elt Ideal) ℓ) (c : Dev nD)

/-- The factors' entries, by the row or column of the product and the place in its sum. -/
def lhs (i : Fin 8192) (k : Fin 1152) : EReal := (m ((c : Thread nD τ).loc main_arg2) : Vec Ideal S8192x1152 .f32) (ix2 i k)
def rhs (j : Fin 1024) (k : Fin 1152) : EReal := (m ((c : Thread nD τ).loc main_arg1) : Vec Ideal S1024x2336 .f32) (ix2 j (⟨416 + k.val, by omega⟩ : Fin 2336))

def prod (i : Fin 8192) (j : Fin 1024) : EReal := ∑ k : Fin 1152, lhs m c i k * rhs m c j k

theorem entry_lhs (i : Fin 8192) (k : Fin 1152) : (V m c main_arg2 : Vec Ideal S8192x1152 .f32) (ix2 i k) = lhs m c i k := by
  refine Eq.trans (congrFun (?_ : _ = (m ((c : Thread nD τ).loc main_arg2) : Vec Ideal S8192x1152 .f32)) _) rfl
  show StableHlo.after hostOps0 (fun b => m (c, b)) _ = _
  after_results <;> rfl

theorem entry_rhs (j : Fin 1024) (k : Fin 1152) : (V m c main_v5 : Vec Ideal S1024x1152 .bf16) (ix2 j k) = rhs m c j k := by
  show (StableHlo.after hostOps0 (fun b => m (c, b)) main_v5 : Vec Ideal S1024x1152 .bf16) _ = _
  after_results
  unfold rhs
  pointwise
  repeat (first | rw [StableHlo.unary_result] | (rw [StableHlo.unary_result_ne]; rotate_left; decide))
  pointwise

theorem idx : ∀ t : Fin cfg0.N, win0_0.index t = ![t.val / 3, t.val % 3] ∧ win0_1.index t = ![0, t.val % 3]
    ∧ win0_2.index t = ![t.val / 3, 0] := (by decide +kernel : ∀ t : Fin grid0.N, _)

/-- Where an entry of a point's blocks lies in the arrays. -/
abbrev row (t : Fin cfg0.N) (r : Fin 1024) : Fin 8192 := ⟨t.val / 3 * 1024 + r.val, by have h : t.val < 24 := lt_of_lt_of_eq t.isLt N_0; omega⟩
abbrev mid (t : Fin cfg0.N) (k : Fin 384) : Fin 1152 := ⟨t.val % 3 * 384 + k.val, by omega⟩

theorem blk_lhs (t : Fin cfg0.N) (r : Fin 1024) (k : Fin 384) :
    iblk m c 0 t (ix2 r k) = lhs m c (row t r) (mid t k) := by
  refine Eq.trans ?_ (entry_lhs m c _ _)
  blk_simp [iblk]
  refine congrArg (V m c main_arg2) ?_
  blk_ext [(idx t).1, ix2]

theorem blk_rhs (t : Fin cfg0.N) (x : Fin 1024) (k : Fin 384) :
    iblk m c 1 t (ix2 x k) = rhs m c x (mid t k) := by
  refine Eq.trans ?_ (entry_rhs m c _ _)
  blk_simp [iblk]
  refine congrArg (V m c main_v5) ?_
  blk_ext [(idx t).2.1, ix2]

/-- The entries of a point's tiles. -/
abbrev tile0 (t : Fin cfg0.N) (r : Fin 1024) (k : Fin 384) : EReal := iblk m c 0 t (ix2 r k)
abbrev tile1 (t : Fin cfg0.N) (x : Fin 1024) (k : Fin 384) : EReal := iblk m c 1 t (ix2 x k)

theorem sum_first (t : Fin cfg0.N) (h0 : t.val % 3 = 0) (r x : Fin 1024) :
    ((outsAt0 m c t.val t.isLt).2 (ix2 r x) : EReal) = ∑ k : Fin 384, tile0 m c t r k * tile1 m c t x k := by
  rw [outsAt0_A m c t h0 (by omega)]
  dsimp only
  rw [first, first_apply]

theorem sum_next (t : Fin cfg0.N) (h0 : ¬t.val % 3 = 0) (r x : Fin 1024) :
    ((outsAt0 m c t.val t.isLt).2 (ix2 r x) : EReal)
      = (outsAt0 m c (t.val - 1) (Nat.lt_of_le_of_lt (Nat.sub_le _ _) t.isLt)).2 (ix2 r x)
        + ∑ k : Fin 384, tile0 m c t r k * tile1 m c t x k := by
  by_cases h1 : t.val % 3 = 2
  · rw [outsAt0_C m c t h0 h1]
    dsimp only
    rw [last, next_apply]
  · rw [outsAt0_B m c t h0 h1]
    dsimp only
    rw [next, next_apply]

theorem sum_apply (t : Fin cfg0.N) (hr : t.val % 3 = 2) (r x : Fin 1024) :
    ((outsAt0 m c t.val t.isLt).2 (ix2 r x) : EReal) = prod m c (row t r) x :=
  prod_tiles (NK := 3) (KS := 384) (by norm_num) (X := lhs m c) (Y := rhs m c) (row := row) (col := fun _ x => x)
    (fun t t' h => funext fun r => Fin.ext (by dsimp only <;> omega)) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 3 = 2) (r x : Fin 1024) :
    ((outsAt0 m c t.val t.isLt).1 (ix2 r x) : EReal) = prod m c (row t r) x := by
  rw [← sum_apply m c t hr, outsAt0_C m c t (by omega) hr]
  dsimp only
  rw [last, result]

theorem array : (dats m 0 c).arrAt 2 cfg0.N = fun i : S8192x1024.Idx => prod m c (i 0) (i 1) := by
  refine (dats m 0 c).arrAt_eq_of_covers 2 _ (by decide +kernel) fun t hf y => ?_
  have hr : t.val % 3 = 2 := (flush0_2 t).1 hf
  blk_simp
  rw [after0_2]
  change S1024x1024.Idx at y
  obtain ⟨r, x, rfl⟩ : ∃ (r : Fin 1024) (x : Fin 1024), y = ix2 r x := ⟨_, _, eq_ix2 y⟩
  rw [out_apply m c t hr r x]
  have e0 : (win0_2.blk t).view.emb (ix2 r x) = (ix2 (row t r) x : S8192x1024.Idx) := by blk_ext [(idx t).2.2, ix2]
  rw [e0]
  rfl

/-- The reference's result at an index. -/
theorem ref_apply (a : Vec Ideal S8192x1152 .f32) (b : Vec Ideal S1024x2336 .f32) :
    (Host.dotGeneral (F := Ideal) (φ₁ := .f32) (φ₂ := .f32) Cert.InDhBReferenceIdeal.dot_S8192x1152_S1024x1152_S8192x1024_1_1_0_0_n_n none a (extractStridedSlice S1024x1152 ![0, 416] b Cert.InDhBReferenceIdeal.Gen.slices_S1024x2336_S1024x1152_0_416) : Vec Ideal S8192x1024 .f32)
      = fun i : S8192x1024.Idx => ∑ k : Fin 1152, a (ix2 (i 0) k) * b (ix2 (i 1) (⟨416 + k.val, by omega⟩ : Fin 2336)) := by
  funext i
  obtain ⟨r, x, rfl⟩ : ∃ (r : Fin 8192) (x : Fin 1024), i = ix2 r x := ⟨_, _, eq_ix2 i⟩
  pointwise

theorem frame : Cert.quiescent_InDhB (hInDhB := Cert.InDhB.Gen.facts) := fun m ρ _ => by
  rw [show Cert.InDhB.defs (F := Bits) = Cert.InDhBIdeal.defs from congrArg (Pipeline.defs _) (table_ext fun _ => rfl)]
  exact Cert.InDhBIdeal.Gen.frame (F := Bits) m ρ

theorem frame_reference : Cert.quiescent_InDhBReferenceIdeal (hInDhBReferenceIdeal := Cert.InDhBReferenceIdeal.Gen.facts) :=
  fun m ρ _ => (θ_run Cert.InDhBReferenceIdeal.defs _ _).mono
    (fun r h => ⟨fun c => (h c).2, sem_eq_zero_of_no_sems (by decide) r.2⟩)
    (Cert.InDhBReferenceIdeal.Value.run (F := Ideal) m ρ)

theorem algebraic : Cert.algebraic_InDhBIdeal_InDhBReferenceIdeal (hInDhBIdeal := Cert.InDhBIdeal.Gen.facts)
    (hInDhBReferenceIdeal := Cert.InDhBReferenceIdeal.Gen.facts) := by
  intro m g m' g' _ he
  refine ⟨fun c => fun i : S8192x1024.Idx => prod m c (i 0) (i 1), ?_, ?_⟩
  · refine (θ_run Cert.InDhBIdeal.defs _ _).mono (fun r h c => ?_) (Cert.InDhBIdeal.Value.run (F := Ideal) m g)
    exact ⟨(h c).1.trans ((Cert.InDhBIdeal.Value.final2 m c).symm.trans (array m c)), (h c).2⟩
  · refine (θ_run Cert.InDhBReferenceIdeal.defs _ _).mono (fun r h c => ?_) (Cert.InDhBReferenceIdeal.Value.run (F := Ideal) m' g')
    refine ⟨(h c).1.trans ?_, (h c).2⟩
    rw [(he c).2.1, (he c).2.2]
    exact ref_apply _ _

end Cert.Prod.InDhB

end
-- ==== Proof.ProdInDhC.lean ====
/- The product of the neighbourhood mixer's cotangent with its columns of the input projection, added. -/
module

public import proofs.«01_k».proof.Proof.Gen.InDhCIdeal.Value
public import proofs.«01_k».proof.Proof.Gen.InDhCReferenceIdeal.Run
public import proofs.«01_k».proof.Proof.Gen.InDhC
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.InDhC

open Idealize.ShloMosaic Idealize.ShloMosaic.TcCoe Idealize.SL.Sem Cert.InDhCIdeal Cert.InDhCIdeal.Gen

/-! ## What a point of the grid leaves -/

section Run

variable {F : FTy → Type} [FloatOps F]

variable (c : Dev nD) (i : grid0.Coords)
  (arg3 : Memref sig .tc .vmem S1024x768 .f32) (harg3 : arg3.IsWhole)
  (arg4 : Memref sig .tc .vmem S1024x768 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (a : Vec F S1024x768 .f32) (b : Vec F S1024x768 .bf16) (e : Vec F S1024x1024 .f32)

theorem result (hc0 : cond0_0 i) (hc1 : cond0_1 i) :
    out0_A_3 c i arg3 harg3 arg4 harg4 arg5 harg5 arg6 harg6 arg7 harg7 hc0 hc1 a b e = k0_pay3 (k0_pay2 k0_pay1 a b) e := by
  unfold out0_A_3
  rw [View.read_writes_eq_canon _ _ _ (cover0_A_3 c i arg3 harg3 arg4 harg4 arg5 harg5 arg6 harg6 arg7 harg7 hc0 hc1 a b e)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, harg5.read_unread, View.ld_unit_zero (S := S1024x1024) hz, View.ld_unit_zero (S := S1024x768) hz]

end Run

/-! ## Over the extended reals -/

theorem prod_apply (a : Vec Ideal S1024x768 .f32) (b : Vec Ideal S1024x768 .bf16) (r x : Fin 1024) :
    k0_pay2 k0_pay1 a b (ix2 r x) = ∑ k : Fin 768, a (ix2 r k) * b (ix2 x k) := by
  pointwise [k0_pay2, k0_pay1]

theorem add_apply (s e : Vec Ideal S1024x1024 .f32) (r x : Fin 1024) :
    k0_pay3 s e (ix2 r x) = s (ix2 r x) + e (ix2 r x) := by
  pointwise [k0_pay3]

variable (m : (ℓ : Loc nD τ sig) → Buf (Elt Ideal) ℓ) (c : Dev nD)

/-- The factors' entries, by the row or column of the product and the place in its sum. -/
def lhs (i : Fin 8192) (k : Fin 768) : EReal := (m ((c : Thread nD τ).loc main_arg2) : Vec Ideal S8192x768 .f32) (ix2 i k)
def rhs (j : Fin 1024) (k : Fin 768) : EReal := (m ((c : Thread nD τ).loc main_arg1) : Vec Ideal S1024x2336 .f32) (ix2 j (⟨1568 + k.val, by omega⟩ : Fin 2336))

/-- What the product is added to. -/
abbrev add : Vec Ideal S8192x1024 .f32 := m ((c : Thread nD τ).loc main_arg3)

def prod (i : Fin 8192) (j : Fin 1024) : EReal := ∑ k : Fin 768, lhs m c i k * rhs m c j k

theorem entry_lhs (i : Fin 8192) (k : Fin 768) : (V m c main_arg2 : Vec Ideal S8192x768 .f32) (ix2 i k) = lhs m c i k := by
  refine Eq.trans (congrFun (?_ : _ = (m ((c : Thread nD τ).loc main_arg2) : Vec Ideal S8192x768 .f32)) _) rfl
  show StableHlo.after hostOps0 (fun b => m (c, b)) _ = _
  after_results <;> rfl

theorem entry_rhs (j : Fin 1024) (k : Fin 768) : (V m c main_v5 : Vec Ideal S1024x768 .bf16) (ix2 j k) = rhs m c j k := by
  show (StableHlo.after hostOps0 (fun b => m (c, b)) main_v5 : Vec Ideal S1024x768 .bf16) _ = _
  after_results
  unfold rhs
  pointwise
  repeat (first | rw [StableHlo.unary_result] | (rw [StableHlo.unary_result_ne]; rotate_left; decide))
  pointwise

theorem entry_add : (V m c main_arg3 : Vec Ideal S8192x1024 .f32) = add m c := by
  show StableHlo.after hostOps0 (fun b => m (c, b)) _ = _
  after_results <;> rfl

theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 768) :
    iblk m c 0 t (ix2 r k) = lhs m c (row t r) k := by
  refine Eq.trans ?_ (entry_lhs m c _ _)
  blk_simp [iblk]
  refine congrArg (V m c main_arg2) ?_
  blk_ext [(idx t).1, ix2]

theorem blk_rhs (t : Fin cfg0.N) (x : Fin 1024) (k : Fin 768) :
    iblk m c 1 t (ix2 x k) = rhs m c x k := by
  refine Eq.trans ?_ (entry_rhs m c _ _)
  blk_simp [iblk]
  refine congrArg (V m c main_v5) ?_
  blk_ext [(idx t).2.1, ix2]

theorem blk_add (t : Fin cfg0.N) (r x : Fin 1024) : iblk m c 2 t (ix2 r x) = add m c (ix2 (row t r) x) := by
  rw [← entry_add]
  blk_simp [iblk]
  refine congrArg (V m c main_arg3) ?_
  blk_ext [(idx t).2.2.1, ix2]

theorem out_apply (t : Fin cfg0.N) (r x : Fin 1024) : ((outsAt0 m c t) (ix2 r x) : EReal) = prod m c (row t r) x + add m c (ix2 (row t r) x) := by
  dsimp only [outsAt0]
  rw [result, add_apply, blk_add, prod_apply]
  exact congrArg (· + _) (Finset.sum_congr rfl fun k _ => by rw [blk_lhs, blk_rhs])

theorem array : (dats m 0 c).arrAt 3 cfg0.N = fun i : S8192x1024.Idx => prod m c (i 0) (i 1) + add m c i := by
  refine (dats m 0 c).arrAt_eq_of_covers 3 _ (by decide +kernel) fun t hf y => ?_
  blk_simp
  rw [after0_3]
  change S1024x1024.Idx at y
  obtain ⟨r, x, rfl⟩ : ∃ (r : Fin 1024) (x : Fin 1024), y = ix2 r x := ⟨_, _, eq_ix2 y⟩
  rw [out_apply m c t r x]
  have e0 : (win0_3.blk t).view.emb (ix2 r x) = (ix2 (row t r) x : S8192x1024.Idx) := by blk_ext [(idx t).2.2.2, ix2]
  rw [e0]
  rfl

/-- The reference's result at an index. -/
theorem ref_apply (a : Vec Ideal S8192x768 .f32) (b : Vec Ideal S1024x2336 .f32) (e : Vec Ideal S8192x1024 .f32) :
    (addf e (Host.dotGeneral (F := Ideal) (φ₁ := .f32) (φ₂ := .f32) Cert.InDhCReferenceIdeal.dot_S8192x768_S1024x768_S8192x1024_1_1_0_0_n_n none a (extractStridedSlice S1024x768 ![0, 1568] b Cert.InDhCReferenceIdeal.Gen.slices_S1024x2336_S1024x768_0_1568)) : Vec Ideal S8192x1024 .f32)
      = fun i : S8192x1024.Idx => (∑ k : Fin 768, a (ix2 (i 0) k) * b (ix2 (i 1) (⟨1568 + k.val, by omega⟩ : Fin 2336))) + e i := by
  funext i
  obtain ⟨r, x, rfl⟩ : ∃ (r : Fin 8192) (x : Fin 1024), i = ix2 r x := ⟨_, _, eq_ix2 i⟩
  refine Eq.trans ?_ (add_comm _ _)
  pointwise

theorem frame : Cert.quiescent_InDhC (hInDhC := Cert.InDhC.Gen.facts) := fun m ρ _ => by
  rw [show Cert.InDhC.defs (F := Bits) = Cert.InDhCIdeal.defs from congrArg (Pipeline.defs _) (table_ext fun _ => rfl)]
  exact Cert.InDhCIdeal.Gen.frame (F := Bits) m ρ

theorem frame_reference : Cert.quiescent_InDhCReferenceIdeal (hInDhCReferenceIdeal := Cert.InDhCReferenceIdeal.Gen.facts) :=
  fun m ρ _ => (θ_run Cert.InDhCReferenceIdeal.defs _ _).mono
    (fun r h => ⟨fun c => (h c).2, sem_eq_zero_of_no_sems (by decide) r.2⟩)
    (Cert.InDhCReferenceIdeal.Value.run (F := Ideal) m ρ)

theorem algebraic : Cert.algebraic_InDhCIdeal_InDhCReferenceIdeal (hInDhCIdeal := Cert.InDhCIdeal.Gen.facts)
    (hInDhCReferenceIdeal := Cert.InDhCReferenceIdeal.Gen.facts) := by
  intro m g m' g' _ he
  refine ⟨fun c => fun i : S8192x1024.Idx => prod m c (i 0) (i 1) + add m c i, ?_, ?_⟩
  · refine (θ_run Cert.InDhCIdeal.defs _ _).mono (fun r h c => ?_) (Cert.InDhCIdeal.Value.run_blocks (F := Ideal) m g)
    exact ⟨(h c).1.trans (array m c), (h c).2⟩
  · refine (θ_run Cert.InDhCReferenceIdeal.defs _ _).mono (fun r h c => ?_) (Cert.InDhCReferenceIdeal.Value.run (F := Ideal) m' g')
    refine ⟨(h c).1.trans ?_, (h c).2⟩
    rw [(he c).2.1, (he c).2.2.1, (he c).2.2.2]
    exact ref_apply _ _ _

end Cert.Prod.InDhC

end
-- ==== Proof.ProdInDhA.lean ====
/- The product of the latent mixer's cotangent with its columns of the input projection, added. -/
module

public import proofs.«01_k».proof.Proof.Gen.InDhAIdeal.Value
public import proofs.«01_k».proof.Proof.Gen.InDhAReferenceIdeal.Run
public import proofs.«01_k».proof.Proof.Gen.InDhA
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.InDhA

open Idealize.ShloMosaic Idealize.ShloMosaic.TcCoe Idealize.SL.Sem Cert.InDhAIdeal Cert.InDhAIdeal.Gen

/-! ## What a point of the grid leaves -/

section Run

variable {F : FTy → Type} [FloatOps F]

variable (c : Dev nD) (i : grid0.Coords)
  (arg3 : Memref sig .tc .vmem S1024x416 .f32) (harg3 : arg3.IsWhole)
  (arg4 : Memref sig .tc .vmem S1024x416 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (a : Vec F S1024x416 .f32) (b : Vec F S1024x416 .bf16) (e : Vec F S1024x1024 .f32)

theorem result (hc0 : cond0_0 i) (hc1 : cond0_1 i) :
    out0_A_3 c i arg3 harg3 arg4 harg4 arg5 harg5 arg6 harg6 arg7 harg7 hc0 hc1 a b e = k0_pay3 (k0_pay2 k0_pay1 a b) e := by
  unfold out0_A_3
  rw [View.read_writes_eq_canon _ _ _ (cover0_A_3 c i arg3 harg3 arg4 harg4 arg5 harg5 arg6 harg6 arg7 harg7 hc0 hc1 a b e)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, harg5.read_unread, View.ld_unit_zero (S := S1024x1024) hz, View.ld_unit_zero (S := S1024x416) hz]

end Run

/-! ## Over the extended reals -/

theorem prod_apply (a : Vec Ideal S1024x416 .f32) (b : Vec Ideal S1024x416 .bf16) (r x : Fin 1024) :
    k0_pay2 k0_pay1 a b (ix2 r x) = ∑ k : Fin 416, a (ix2 r k) * b (ix2 x k) := by
  pointwise [k0_pay2, k0_pay1]

theorem add_apply (s e : Vec Ideal S1024x1024 .f32) (r x : Fin 1024) :
    k0_pay3 s e (ix2 r x) = s (ix2 r x) + e (ix2 r x) := by
  pointwise [k0_pay3]

variable (m : (ℓ : Loc nD τ sig) → Buf (Elt Ideal) ℓ) (c : Dev nD)

/-- The factors' entries, by the row or column of the product and the place in its sum. -/
def lhs (i : Fin 8192) (k : Fin 416) : EReal := (m ((c : Thread nD τ).loc main_arg2) : Vec Ideal S8192x416 .f32) (ix2 i k)
def rhs (j : Fin 1024) (k : Fin 416) : EReal := (m ((c : Thread nD τ).loc main_arg1) : Vec Ideal S1024x2336 .f32) (ix2 j (⟨k.val, by omega⟩ : Fin 2336))

/-- What the product is added to. -/
abbrev add : Vec Ideal S8192x1024 .f32 := m ((c : Thread nD τ).loc main_arg3)

def prod (i : Fin 8192) (j : Fin 1024) : EReal := ∑ k : Fin 416, lhs m c i k * rhs m c j k

theorem entry_lhs (i : Fin 8192) (k : Fin 416) : (V m c main_arg2 : Vec Ideal S8192x416 .f32) (ix2 i k) = lhs m c i k := by
  refine Eq.trans (congrFun (?_ : _ = (m ((c : Thread nD τ).loc main_arg2) : Vec Ideal S8192x416 .f32)) _) rfl
  show StableHlo.after hostOps0 (fun b => m (c, b)) _ = _
  after_results <;> rfl

theorem entry_rhs (j : Fin 1024) (k : Fin 416) : (V m c main_v5 : Vec Ideal S1024x416 .bf16) (ix2 j k) = rhs m c j k := by
  show (StableHlo.after hostOps0 (fun b => m (c, b)) main_v5 : Vec Ideal S1024x416 .bf16) _ = _
  after_results
  unfold rhs
  pointwise
  repeat (first | rw [StableHlo.unary_result] | (rw [StableHlo.unary_result_ne]; rotate_left; decide))
  pointwise
  rw [dif_neg (by omega), dif_neg (by omega)]
  exact congrArg (m _) (congrArg (ix2 j) (Fin.ext (by dsimp only <;> omega)))

theorem entry_add : (V m c main_arg3 : Vec Ideal S8192x1024 .f32) = add m c := by
  show StableHlo.after hostOps0 (fun b => m (c, b)) _ = _
  after_results <;> rfl

theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 416) :
    iblk m c 0 t (ix2 r k) = lhs m c (row t r) k := by
  refine Eq.trans ?_ (entry_lhs m c _ _)
  blk_simp [iblk]
  refine congrArg (V m c main_arg2) ?_
  blk_ext [(idx t).1, ix2]

theorem blk_rhs (t : Fin cfg0.N) (x : Fin 1024) (k : Fin 416) :
    iblk m c 1 t (ix2 x k) = rhs m c x k := by
  refine Eq.trans ?_ (entry_rhs m c _ _)
  blk_simp [iblk]
  refine congrArg (V m c main_v5) ?_
  blk_ext [(idx t).2.1, ix2]

theorem blk_add (t : Fin cfg0.N) (r x : Fin 1024) : iblk m c 2 t (ix2 r x) = add m c (ix2 (row t r) x) := by
  rw [← entry_add]
  blk_simp [iblk]
  refine congrArg (V m c main_arg3) ?_
  blk_ext [(idx t).2.2.1, ix2]

theorem out_apply (t : Fin cfg0.N) (r x : Fin 1024) : ((outsAt0 m c t) (ix2 r x) : EReal) = prod m c (row t r) x + add m c (ix2 (row t r) x) := by
  dsimp only [outsAt0]
  rw [result, add_apply, blk_add, prod_apply]
  exact congrArg (· + _) (Finset.sum_congr rfl fun k _ => by rw [blk_lhs, blk_rhs])

theorem array : (dats m 0 c).arrAt 3 cfg0.N = fun i : S8192x1024.Idx => prod m c (i 0) (i 1) + add m c i := by
  refine (dats m 0 c).arrAt_eq_of_covers 3 _ (by decide +kernel) fun t hf y => ?_
  blk_simp
  rw [after0_3]
  change S1024x1024.Idx at y
  obtain ⟨r, x, rfl⟩ : ∃ (r : Fin 1024) (x : Fin 1024), y = ix2 r x := ⟨_, _, eq_ix2 y⟩
  rw [out_apply m c t r x]
  have e0 : (win0_3.blk t).view.emb (ix2 r x) = (ix2 (row t r) x : S8192x1024.Idx) := by blk_ext [(idx t).2.2.2, ix2]
  rw [e0]
  rfl

/-- The reference's result at an index. -/
theorem ref_apply (a : Vec Ideal S8192x416 .f32) (b : Vec Ideal S1024x2336 .f32) (e : Vec Ideal S8192x1024 .f32) :
    (addf e (Host.dotGeneral (F := Ideal) (φ₁ := .f32) (φ₂ := .f32) Cert.InDhAReferenceIdeal.dot_S8192x416_S1024x416_S8192x1024_1_1_0_0_n_n none a (extractStridedSlice S1024x416 ![0, 0] b Cert.InDhAReferenceIdeal.Gen.slices_S1024x2336_S1024x416_0_0)) : Vec Ideal S8192x1024 .f32)
      = fun i : S8192x1024.Idx => (∑ k : Fin 416, a (ix2 (i 0) k) * b (ix2 (i 1) (⟨k.val, by omega⟩ : Fin 2336))) + e i := by
  funext i
  obtain ⟨r, x, rfl⟩ : ∃ (r : Fin 8192) (x : Fin 1024), i = ix2 r x := ⟨_, _, eq_ix2 i⟩
  refine Eq.trans ?_ (add_comm _ _)
  pointwise

theorem frame : Cert.quiescent_InDhA (hInDhA := Cert.InDhA.Gen.facts) := fun m ρ _ => by
  rw [show Cert.InDhA.defs (F := Bits) = Cert.InDhAIdeal.defs from congrArg (Pipeline.defs _) (table_ext fun _ => rfl)]
  exact Cert.InDhAIdeal.Gen.frame (F := Bits) m ρ

theorem frame_reference : Cert.quiescent_InDhAReferenceIdeal (hInDhAReferenceIdeal := Cert.InDhAReferenceIdeal.Gen.facts) :=
  fun m ρ _ => (θ_run Cert.InDhAReferenceIdeal.defs _ _).mono
    (fun r h => ⟨fun c => (h c).2, sem_eq_zero_of_no_sems (by decide) r.2⟩)
    (Cert.InDhAReferenceIdeal.Value.run (F := Ideal) m ρ)

theorem algebraic : Cert.algebraic_InDhAIdeal_InDhAReferenceIdeal (hInDhAIdeal := Cert.InDhAIdeal.Gen.facts)
    (hInDhAReferenceIdeal := Cert.InDhAReferenceIdeal.Gen.facts) := by
  intro m g m' g' _ he
  refine ⟨fun c => fun i : S8192x1024.Idx => prod m c (i 0) (i 1) + add m c i, ?_, ?_⟩
  · refine (θ_run Cert.InDhAIdeal.defs _ _).mono (fun r h c => ?_) (Cert.InDhAIdeal.Value.run_blocks (F := Ideal) m g)
    exact ⟨(h c).1.trans (array m c), (h c).2⟩
  · refine (θ_run Cert.InDhAReferenceIdeal.defs _ _).mono (fun r h c => ?_) (Cert.InDhAReferenceIdeal.Value.run (F := Ideal) m' g')
    refine ⟨(h c).1.trans ?_, (h c).2⟩
    rw [(he c).2.1, (he c).2.2.1, (he c).2.2.2]
    exact ref_apply _ _ _

end Cert.Prod.InDhA

end
-- ==== Proof.ProdInDwB.lean ====
/- The gradient of the banded mixer's columns of the input projection. -/
module

public import proofs.«01_k».proof.Proof.Gen.InDwBIdeal.Value
public import proofs.«01_k».proof.Proof.Gen.InDwBReferenceIdeal.Run
public import proofs.«01_k».proof.Proof.Gen.InDwB
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.InDwB

open Idealize.ShloMosaic Idealize.ShloMosaic.TcCoe Idealize.SL.Sem Cert.InDwBIdeal Cert.InDwBIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S512x384 .f32) (harg4 : arg4.IsWhole)
  (arg5 : Memref sig .tc .vmem S1024x384 .f32) (harg5 : arg5.IsWhole)
  (arg6 : Memref sig .tc .vmem S1024x384 .f32) (harg6 : arg6.IsWhole)
  (a : Vec F S512x1024 .bf16) (b : Vec F S512x384 .f32) (s : Vec F S1024x384 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x384) hz, View.ld_unit_zero (S := S512x1024) hz, View.ld_unit_zero (S := S512x384) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x384) hz, View.ld_unit_zero (S := S512x1024) hz, View.ld_unit_zero (S := S512x384) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x384) hz, View.ld_unit_zero (S := S512x1024) hz, View.ld_unit_zero (S := S512x384) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x384) hz, View.ld_unit_zero (S := S512x1024) hz, View.ld_unit_zero (S := S512x384) hz]

end Run

/-! ## Over the extended reals -/

theorem first_apply (a : Vec Ideal S512x1024 .bf16) (b : Vec Ideal S512x384 .f32) (r : Fin 1024) (x : Fin 384) :
    k0_pay2 k0_pay1 a b (ix2 r x) = ∑ k : Fin 512, a (ix2 k r) * b (ix2 k x) := by
  pointwise [k0_pay2, k0_pay1]

theorem next_apply (s : Vec Ideal S1024x384 .f32) (a : Vec Ideal S512x1024 .bf16) (b : Vec Ideal S512x384 .f32)
    (r : Fin 1024) (x : Fin 384) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 1024) (k : Fin 8192) : EReal := (m ((c : Thread nD τ).loc main_arg0) : Vec Ideal S8192x1024 .f32) (ix2 k i)
def rhs (j : Fin 1152) (k : Fin 8192) : EReal := (m ((c : Thread nD τ).loc main_arg2) : Vec Ideal S8192x1152 .f32) (ix2 k j)

def prod (i : Fin 1024) (j : Fin 1152) : EReal := ∑ k : Fin 8192, lhs m c i k * rhs m c j k

theorem entry_lhs (i : Fin 1024) (k : Fin 8192) : (V m c main_v0 : Vec Ideal S8192x1024 .bf16) (ix2 k i) = lhs m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_rhs (j : Fin 1152) (k : Fin 8192) : (V m c main_arg2 : Vec Ideal S8192x1152 .f32) (ix2 k j) = rhs m c j k := by
  refine Eq.trans (congrFun (?_ : _ = (m ((c : Thread nD τ).loc main_arg2) : Vec Ideal S8192x1152 .f32)) _) rfl
  show StableHlo.after hostOps0 (fun b => m (c, b)) _ = _
  after_results <;> rfl

theorem idx : ∀ t : Fin cfg0.N, win0_0.index t = ![t.val % 16, 0] ∧ win0_1.index t = ![t.val % 16, t.val / 16]
    ∧ win0_2.index t = ![0, t.val / 16] := (by decide +kernel : ∀ t : Fin grid0.N, _)

/-- Where an entry of a point's blocks lies in the arrays. -/
abbrev mid (t : Fin cfg0.N) (k : Fin 512) : Fin 8192 := ⟨t.val % 16 * 512 + k.val, by omega⟩
abbrev col (t : Fin cfg0.N) (x : Fin 384) : Fin 1152 := ⟨t.val / 16 * 384 + x.val, by have h : t.val < 48 := lt_of_lt_of_eq t.isLt N_0; omega⟩

theorem blk_lhs (t : Fin cfg0.N) (r : Fin 1024) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 384) (k : Fin 512) :
    iblk m c 1 t (ix2 k x) = rhs m c (col t x) (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 1024) (k : Fin 512) : EReal := iblk m c 0 t (ix2 k r)
abbrev tile1 (t : Fin cfg0.N) (x : Fin 384) (k : Fin 512) : EReal := iblk m c 1 t (ix2 k x)

theorem sum_first (t : Fin cfg0.N) (h0 : t.val % 16 = 0) (r : Fin 1024) (x : Fin 384) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r : Fin 1024) (x : Fin 384) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r : Fin 1024) (x : Fin 384) :
    ((outsAt0 m c t.val t.isLt).2 (ix2 r x) : EReal) = prod m c r (col t x) :=
  prod_tiles (NK := 16) (KS := 512) (by norm_num) (X := lhs m c) (Y := rhs m c) (row := fun _ r => r) (col := col)
    (fun _ _ _ => rfl) (fun t t' h => funext fun r => Fin.ext (by dsimp only <;> omega))
    (f := fun n h r x => ((outsAt0 m c n h).2 (ix2 r x) : EReal)) (blk_lhs m c) (blk_rhs m c)
    (sum_first m c) (sum_next m c) t hr r x

theorem out_apply (t : Fin cfg0.N) (hr : t.val % 16 = 15) (r : Fin 1024) (x : Fin 384) :
    ((outsAt0 m c t.val t.isLt).1 (ix2 r x) : EReal) = prod m c r (col t x) := by
  rw [← sum_apply m c t hr, outsAt0_C m c t (by omega) hr]
  dsimp only
  rw [last, result]

theorem array : (dats m 0 c).arrAt 2 cfg0.N = fun i : S1024x1152.Idx => prod m c (i 0) (i 1) := by
  refine (dats m 0 c).arrAt_eq_of_covers 2 _ (by decide +kernel) fun t hf y => ?_
  have hr : t.val % 16 = 15 := (flush0_2 t).1 hf
  blk_simp
  rw [after0_2]
  change S1024x384.Idx at y
  obtain ⟨r, x, rfl⟩ : ∃ (r : Fin 1024) (x : Fin 384), y = ix2 r x := ⟨_, _, eq_ix2 y⟩
  rw [out_apply m c t hr r x]
  have e0 : (win0_2.blk t).view.emb (ix2 r x) = (ix2 r (col t x) : S1024x1152.Idx) := by blk_ext [(idx t).2.2, ix2]
  rw [e0]
  rfl

/-- The reference's result at an index. -/
theorem ref_apply (a : Vec Ideal S8192x1024 .f32) (b : Vec Ideal S8192x1152 .f32) :
    (transpose S1024x1152 [1, 0] (Host.dotGeneral (F := Ideal) (φ₁ := .f32) (φ₂ := .f32) Cert.InDwBReferenceIdeal.dot_S8192x1152_S8192x1024_S1152x1024_0_0_1_1_n_n none b a) Cert.InDwBReferenceIdeal.Gen.transposes_S1152x1024_S1024x1152_1_0 : Vec Ideal S1024x1152 .f32)
      = fun i : S1024x1152.Idx => ∑ k : Fin 8192, a (ix2 k (i 0)) * b (ix2 k (i 1)) := by
  funext i
  obtain ⟨r, x, rfl⟩ : ∃ (r : Fin 1024) (x : Fin 1152), i = ix2 r x := ⟨_, _, eq_ix2 i⟩
  pointwise
  exact Finset.sum_congr rfl fun k _ => mul_comm _ _

theorem frame : Cert.quiescent_InDwB (hInDwB := Cert.InDwB.Gen.facts) := fun m ρ _ => by
  rw [show Cert.InDwB.defs (F := Bits) = Cert.InDwBIdeal.defs from congrArg (Pipeline.defs _) (table_ext fun _ => rfl)]
  exact Cert.InDwBIdeal.Gen.frame (F := Bits) m ρ

theorem frame_reference : Cert.quiescent_InDwBReferenceIdeal (hInDwBReferenceIdeal := Cert.InDwBReferenceIdeal.Gen.facts) :=
  fun m ρ _ => (θ_run Cert.InDwBReferenceIdeal.defs _ _).mono
    (fun r h => ⟨fun c => (h c).2, sem_eq_zero_of_no_sems (by decide) r.2⟩)
    (Cert.InDwBReferenceIdeal.Value.run (F := Ideal) m ρ)

theorem algebraic : Cert.algebraic_InDwBIdeal_InDwBReferenceIdeal (hInDwBIdeal := Cert.InDwBIdeal.Gen.facts)
    (hInDwBReferenceIdeal := Cert.InDwBReferenceIdeal.Gen.facts) := by
  intro m g m' g' _ he
  refine ⟨fun c => fun i : S1024x1152.Idx => prod m c (i 0) (i 1), ?_, ?_⟩
  · refine (θ_run Cert.InDwBIdeal.defs _ _).mono (fun r h c => ?_) (Cert.InDwBIdeal.Value.run (F := Ideal) m g)
    exact ⟨(h c).1.trans ((Cert.InDwBIdeal.Value.final2 m c).symm.trans (array m c)), (h c).2⟩
  · refine (θ_run Cert.InDwBReferenceIdeal.defs _ _).mono (fun r h c => ?_) (Cert.InDwBReferenceIdeal.Value.run (F := Ideal) m' g')
    refine ⟨(h c).1.trans ?_, (h c).2⟩
    rw [(he c).1, (he c).2.2]
    exact ref_apply _ _

end Cert.Prod.InDwB

end
-- ==== Proof.ProdInDwC.lean ====
/- The gradient of the neighbourhood mixer's columns of the input projection. -/
module

public import proofs.«01_k».proof.Proof.Gen.InDwCIdeal.Value
public import proofs.«01_k».proof.Proof.Gen.InDwCReferenceIdeal.Run
public import proofs.«01_k».proof.Proof.Gen.InDwC
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.InDwC

open Idealize.ShloMosaic Idealize.ShloMosaic.TcCoe Idealize.SL.Sem Cert.InDwCIdeal Cert.InDwCIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S512x768 .f32) (harg4 : arg4.IsWhole)
  (arg5 : Memref sig .tc .vmem S1024x768 .f32) (harg5 : arg5.IsWhole)
  (arg6 : Memref sig .tc .vmem S1024x768 .f32) (harg6 : arg6.IsWhole)
  (a : Vec F S512x1024 .bf16) (b : Vec F S512x768 .f32) (s : Vec F S1024x768 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x768) hz, View.ld_unit_zero (S := S512x1024) hz, View.ld_unit_zero (S := S512x768) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x768) hz, View.ld_unit_zero (S := S512x1024) hz, View.ld_unit_zero (S := S512x768) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x768) hz, View.ld_unit_zero (S := S512x1024) hz, View.ld_unit_zero (S := S512x768) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x768) hz, View.ld_unit_zero (S := S512x1024) hz, View.ld_unit_zero (S := S512x768) hz]

end Run

/-! ## Over the extended reals -/

theorem first_apply (a : Vec Ideal S512x1024 .bf16) (b : Vec Ideal S512x768 .f32) (r : Fin 1024) (x : Fin 768) :
    k0_pay2 k0_pay1 a b (ix2 r x) = ∑ k : Fin 512, a (ix2 k r) * b (ix2 k x) := by
  pointwise [k0_pay2, k0_pay1]

theorem next_apply (s : Vec Ideal S1024x768 .f32) (a : Vec Ideal S512x1024 .bf16) (b : Vec Ideal S512x768 .f32)
    (r : Fin 1024) (x : Fin 768) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 1024) (k : Fin 8192) : EReal := (m ((c : Thread nD τ).loc main_arg0) : Vec Ideal S8192x1024 .f32) (ix2 k i)
def rhs (j : Fin 768) (k : Fin 8192) : EReal := (m ((c : Thread nD τ).loc main_arg2) : Vec Ideal S8192x768 .f32) (ix2 k j)

def prod (i : Fin 1024) (j : Fin 768) : EReal := ∑ k : Fin 8192, lhs m c i k * rhs m c j k

theorem entry_lhs (i : Fin 1024) (k : Fin 8192) : (V m c main_v0 : Vec Ideal S8192x1024 .bf16) (ix2 k i) = lhs m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_rhs (j : Fin 768) (k : Fin 8192) : (V m c main_arg2 : Vec Ideal S8192x768 .f32) (ix2 k j) = rhs m c j k := by
  refine Eq.trans (congrFun (?_ : _ = (m ((c : Thread nD τ).loc main_arg2) : Vec Ideal S8192x768 .f32)) _) rfl
  show StableHlo.after hostOps0 (fun b => m (c, b)) _ = _
  after_results <;> rfl

theorem idx : ∀ t : Fin cfg0.N, win0_0.index t = ![t.val % 16, 0] ∧ win0_1.index t = ![t.val % 16, 0]
    ∧ win0_2.index t = ![0, 0] := (by decide +kernel : ∀ t : Fin grid0.N, _)

/-- Where an entry of a point's blocks lies in the arrays. -/
abbrev mid (t : Fin cfg0.N) (k : Fin 512) : Fin 8192 := ⟨t.val % 16 * 512 + k.val, by omega⟩

theorem blk_lhs (t : Fin cfg0.N) (r : Fin 1024) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 768) (k : Fin 512) :
    iblk m c 1 t (ix2 k x) = rhs m c x (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 1024) (k : Fin 512) : EReal := iblk m c 0 t (ix2 k r)
abbrev tile1 (t : Fin cfg0.N) (x : Fin 768) (k : Fin 512) : EReal := iblk m c 1 t (ix2 k x)

theorem sum_first (t : Fin cfg0.N) (h0 : t.val % 16 = 0) (r : Fin 1024) (x : Fin 768) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r : Fin 1024) (x : Fin 768) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r : Fin 1024) (x : Fin 768) :
    ((outsAt0 m c t.val t.isLt).2 (ix2 r x) : EReal) = prod m c r x :=
  prod_tiles (NK := 16) (KS := 512) (by norm_num) (X := lhs m c) (Y := rhs m c) (row := fun _ r => r) (col := fun _ x => x)
    (fun _ _ _ => rfl) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 16 = 15) (r : Fin 1024) (x : Fin 768) :
    ((outsAt0 m c t.val t.isLt).1 (ix2 r x) : EReal) = prod m c r x := by
  rw [← sum_apply m c t hr, outsAt0_C m c t (by omega) hr]
  dsimp only
  rw [last, result]

theorem array : (dats m 0 c).arrAt 2 cfg0.N = fun i : S1024x768.Idx => prod m c (i 0) (i 1) := by
  refine (dats m 0 c).arrAt_eq_of_covers 2 _ (by decide +kernel) fun t hf y => ?_
  have hr : t.val % 16 = 15 := (flush0_2 t).1 hf
  blk_simp
  rw [after0_2]
  change S1024x768.Idx at y
  obtain ⟨r, x, rfl⟩ : ∃ (r : Fin 1024) (x : Fin 768), y = ix2 r x := ⟨_, _, eq_ix2 y⟩
  rw [out_apply m c t hr r x]
  have e0 : (win0_2.blk t).view.emb (ix2 r x) = (ix2 r x : S1024x768.Idx) := by blk_ext [(idx t).2.2, ix2]
  rw [e0]
  rfl

/-- The reference's result at an index. -/
theorem ref_apply (a : Vec Ideal S8192x1024 .f32) (b : Vec Ideal S8192x768 .f32) :
    (transpose S1024x768 [1, 0] (Host.dotGeneral (F := Ideal) (φ₁ := .f32) (φ₂ := .f32) Cert.InDwCReferenceIdeal.dot_S8192x768_S8192x1024_S768x1024_0_0_1_1_n_n none b a) Cert.InDwCReferenceIdeal.Gen.transposes_S768x1024_S1024x768_1_0 : Vec Ideal S1024x768 .f32)
      = fun i : S1024x768.Idx => ∑ k : Fin 8192, a (ix2 k (i 0)) * b (ix2 k (i 1)) := by
  funext i
  obtain ⟨r, x, rfl⟩ : ∃ (r : Fin 1024) (x : Fin 768), i = ix2 r x := ⟨_, _, eq_ix2 i⟩
  pointwise
  exact Finset.sum_congr rfl fun k _ => mul_comm _ _

theorem frame : Cert.quiescent_InDwC (hInDwC := Cert.InDwC.Gen.facts) := fun m ρ _ => by
  rw [show Cert.InDwC.defs (F := Bits) = Cert.InDwCIdeal.defs from congrArg (Pipeline.defs _) (table_ext fun _ => rfl)]
  exact Cert.InDwCIdeal.Gen.frame (F := Bits) m ρ

theorem frame_reference : Cert.quiescent_InDwCReferenceIdeal (hInDwCReferenceIdeal := Cert.InDwCReferenceIdeal.Gen.facts) :=
  fun m ρ _ => (θ_run Cert.InDwCReferenceIdeal.defs _ _).mono
    (fun r h => ⟨fun c => (h c).2, sem_eq_zero_of_no_sems (by decide) r.2⟩)
    (Cert.InDwCReferenceIdeal.Value.run (F := Ideal) m ρ)

theorem algebraic : Cert.algebraic_InDwCIdeal_InDwCReferenceIdeal (hInDwCIdeal := Cert.InDwCIdeal.Gen.facts)
    (hInDwCReferenceIdeal := Cert.InDwCReferenceIdeal.Gen.facts) := by
  intro m g m' g' _ he
  refine ⟨fun c => fun i : S1024x768.Idx => prod m c (i 0) (i 1), ?_, ?_⟩
  · refine (θ_run Cert.InDwCIdeal.defs _ _).mono (fun r h c => ?_) (Cert.InDwCIdeal.Value.run (F := Ideal) m g)
    exact ⟨(h c).1.trans ((Cert.InDwCIdeal.Value.final2 m c).symm.trans (array m c)), (h c).2⟩
  · refine (θ_run Cert.InDwCReferenceIdeal.defs _ _).mono (fun r h c => ?_) (Cert.InDwCReferenceIdeal.Value.run (F := Ideal) m' g')
    refine ⟨(h c).1.trans ?_, (h c).2⟩
    rw [(he c).1, (he c).2.2]
    exact ref_apply _ _

end Cert.Prod.InDwC

end
-- ==== Proof.ProdInDwA.lean ====
/- The gradient of the latent mixer's columns of the input projection. -/
module

public import proofs.«01_k».proof.Proof.Gen.InDwAIdeal.Value
public import proofs.«01_k».proof.Proof.Gen.InDwAReferenceIdeal.Run
public import proofs.«01_k».proof.Proof.Gen.InDwA
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.InDwA

open Idealize.ShloMosaic Idealize.ShloMosaic.TcCoe Idealize.SL.Sem Cert.InDwAIdeal Cert.InDwAIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S512x416 .f32) (harg4 : arg4.IsWhole)
  (arg5 : Memref sig .tc .vmem S1024x416 .f32) (harg5 : arg5.IsWhole)
  (arg6 : Memref sig .tc .vmem S1024x416 .f32) (harg6 : arg6.IsWhole)
  (a : Vec F S512x1024 .bf16) (b : Vec F S512x416 .f32) (s : Vec F S1024x416 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x416) hz, View.ld_unit_zero (S := S512x1024) hz, View.ld_unit_zero (S := S512x416) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x416) hz, View.ld_unit_zero (S := S512x1024) hz, View.ld_unit_zero (S := S512x416) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x416) hz, View.ld_unit_zero (S := S512x1024) hz, View.ld_unit_zero (S := S512x416) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x416) hz, View.ld_unit_zero (S := S512x1024) hz, View.ld_unit_zero (S := S512x416) hz]

end Run

/-! ## Over the extended reals -/

theorem first_apply (a : Vec Ideal S512x1024 .bf16) (b : Vec Ideal S512x416 .f32) (r : Fin 1024) (x : Fin 416) :
    k0_pay2 k0_pay1 a b (ix2 r x) = ∑ k : Fin 512, a (ix2 k r) * b (ix2 k x) := by
  pointwise [k0_pay2, k0_pay1]

theorem next_apply (s : Vec Ideal S1024x416 .f32) (a : Vec Ideal S512x1024 .bf16) (b : Vec Ideal S512x416 .f32)
    (r : Fin 1024) (x : Fin 416) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 1024) (k : Fin 8192) : EReal := (m ((c : Thread nD τ).loc main_arg0) : Vec Ideal S8192x1024 .f32) (ix2 k i)
def rhs (j : Fin 416) (k : Fin 8192) : EReal := (m ((c : Thread nD τ).loc main_arg2) : Vec Ideal S8192x416 .f32) (ix2 k j)

def prod (i : Fin 1024) (j : Fin 416) : EReal := ∑ k : Fin 8192, lhs m c i k * rhs m c j k

theorem entry_lhs (i : Fin 1024) (k : Fin 8192) : (V m c main_v0 : Vec Ideal S8192x1024 .bf16) (ix2 k i) = lhs m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_rhs (j : Fin 416) (k : Fin 8192) : (V m c main_arg2 : Vec Ideal S8192x416 .f32) (ix2 k j) = rhs m c j k := by
  refine Eq.trans (congrFun (?_ : _ = (m ((c : Thread nD τ).loc main_arg2) : Vec Ideal S8192x416 .f32)) _) rfl
  show StableHlo.after hostOps0 (fun b => m (c, b)) _ = _
  after_results <;> rfl

theorem idx : ∀ t : Fin cfg0.N, win0_0.index t = ![t.val % 16, 0] ∧ win0_1.index t = ![t.val % 16, 0]
    ∧ win0_2.index t = ![0, 0] := (by decide +kernel : ∀ t : Fin grid0.N, _)

/-- Where an entry of a point's blocks lies in the arrays. -/
abbrev mid (t : Fin cfg0.N) (k : Fin 512) : Fin 8192 := ⟨t.val % 16 * 512 + k.val, by omega⟩

theorem blk_lhs (t : Fin cfg0.N) (r : Fin 1024) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 416) (k : Fin 512) :
    iblk m c 1 t (ix2 k x) = rhs m c x (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 1024) (k : Fin 512) : EReal := iblk m c 0 t (ix2 k r)
abbrev tile1 (t : Fin cfg0.N) (x : Fin 416) (k : Fin 512) : EReal := iblk m c 1 t (ix2 k x)

theorem sum_first (t : Fin cfg0.N) (h0 : t.val % 16 = 0) (r : Fin 1024) (x : Fin 416) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r : Fin 1024) (x : Fin 416) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r : Fin 1024) (x : Fin 416) :
    ((outsAt0 m c t.val t.isLt).2 (ix2 r x) : EReal) = prod m c r x :=
  prod_tiles (NK := 16) (KS := 512) (by norm_num) (X := lhs m c) (Y := rhs m c) (row := fun _ r => r) (col := fun _ x => x)
    (fun _ _ _ => rfl) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 16 = 15) (r : Fin 1024) (x : Fin 416) :
    ((outsAt0 m c t.val t.isLt).1 (ix2 r x) : EReal) = prod m c r x := by
  rw [← sum_apply m c t hr, outsAt0_C m c t (by omega) hr]
  dsimp only
  rw [last, result]

theorem array : (dats m 0 c).arrAt 2 cfg0.N = fun i : S1024x416.Idx => prod m c (i 0) (i 1) := by
  refine (dats m 0 c).arrAt_eq_of_covers 2 _ (by decide +kernel) fun t hf y => ?_
  have hr : t.val % 16 = 15 := (flush0_2 t).1 hf
  blk_simp
  rw [after0_2]
  change S1024x416.Idx at y
  obtain ⟨r, x, rfl⟩ : ∃ (r : Fin 1024) (x : Fin 416), y = ix2 r x := ⟨_, _, eq_ix2 y⟩
  rw [out_apply m c t hr r x]
  have e0 : (win0_2.blk t).view.emb (ix2 r x) = (ix2 r x : S1024x416.Idx) := by blk_ext [(idx t).2.2, ix2]
  rw [e0]
  rfl

/-- The reference's result at an index. -/
theorem ref_apply (a : Vec Ideal S8192x1024 .f32) (b : Vec Ideal S8192x416 .f32) :
    (transpose S1024x416 [1, 0] (Host.dotGeneral (F := Ideal) (φ₁ := .f32) (φ₂ := .f32) Cert.InDwAReferenceIdeal.dot_S8192x416_S8192x1024_S416x1024_0_0_1_1_n_n none b a) Cert.InDwAReferenceIdeal.Gen.transposes_S416x1024_S1024x416_1_0 : Vec Ideal S1024x416 .f32)
      = fun i : S1024x416.Idx => ∑ k : Fin 8192, a (ix2 k (i 0)) * b (ix2 k (i 1)) := by
  funext i
  obtain ⟨r, x, rfl⟩ : ∃ (r : Fin 1024) (x : Fin 416), i = ix2 r x := ⟨_, _, eq_ix2 i⟩
  pointwise
  exact Finset.sum_congr rfl fun k _ => mul_comm _ _

theorem frame : Cert.quiescent_InDwA (hInDwA := Cert.InDwA.Gen.facts) := fun m ρ _ => by
  rw [show Cert.InDwA.defs (F := Bits) = Cert.InDwAIdeal.defs from congrArg (Pipeline.defs _) (table_ext fun _ => rfl)]
  exact Cert.InDwAIdeal.Gen.frame (F := Bits) m ρ

theorem frame_reference : Cert.quiescent_InDwAReferenceIdeal (hInDwAReferenceIdeal := Cert.InDwAReferenceIdeal.Gen.facts) :=
  fun m ρ _ => (θ_run Cert.InDwAReferenceIdeal.defs _ _).mono
    (fun r h => ⟨fun c => (h c).2, sem_eq_zero_of_no_sems (by decide) r.2⟩)
    (Cert.InDwAReferenceIdeal.Value.run (F := Ideal) m ρ)

theorem algebraic : Cert.algebraic_InDwAIdeal_InDwAReferenceIdeal (hInDwAIdeal := Cert.InDwAIdeal.Gen.facts)
    (hInDwAReferenceIdeal := Cert.InDwAReferenceIdeal.Gen.facts) := by
  intro m g m' g' _ he
  refine ⟨fun c => fun i : S1024x416.Idx => prod m c (i 0) (i 1), ?_, ?_⟩
  · refine (θ_run Cert.InDwAIdeal.defs _ _).mono (fun r h c => ?_) (Cert.InDwAIdeal.Value.run (F := Ideal) m g)
    exact ⟨(h c).1.trans ((Cert.InDwAIdeal.Value.final2 m c).symm.trans (array m c)), (h c).2⟩
  · refine (θ_run Cert.InDwAReferenceIdeal.defs _ _).mono (fun r h c => ?_) (Cert.InDwAReferenceIdeal.Value.run (F := Ideal) m' g')
    refine ⟨(h c).1.trans ?_, (h c).2⟩
    rw [(he c).1, (he c).2.2]
    exact ref_apply _ _

end Cert.Prod.InDwA

end
-- ==== Proof.ProdOut.lean ====
/- The product of the mixers' normalised outputs with the output projection, added to the residual. -/
module

public import proofs.«01_k».proof.Proof.Gen.OutIdeal.Value
public import proofs.«01_k».proof.Proof.Gen.OutReferenceIdeal.Run
public import proofs.«01_k».proof.Proof.Gen.Out
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.Out

open Idealize.ShloMosaic Idealize.ShloMosaic.TcCoe Idealize.SL.Sem Cert.OutIdeal Cert.OutIdeal.Gen

/-! ## What a point of the grid leaves -/

section Run

variable {F : FTy → Type} [FloatOps F]

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (a : Vec F S1024x1024 .bf16) (b : Vec F S1024x1024 .bf16) (e : Vec F S1024x1024 .f32)

theorem result (hc0 : cond0_0 i) (hc1 : cond0_1 i) :
    out0_A_3 c i arg3 harg3 arg4 harg4 arg5 harg5 arg6 harg6 arg7 harg7 hc0 hc1 a b e = k0_pay3 (k0_pay2 k0_pay1 a b) e := by
  unfold out0_A_3
  rw [View.read_writes_eq_canon _ _ _ (cover0_A_3 c i arg3 harg3 arg4 harg4 arg5 harg5 arg6 harg6 arg7 harg7 hc0 hc1 a b e)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, harg5.read_unread, View.ld_unit_zero (S := S1024x1024) hz]

end Run

/-! ## Over the extended reals -/

theorem prod_apply (a : Vec Ideal S1024x1024 .bf16) (b : Vec Ideal S1024x1024 .bf16) (r x : Fin 1024) :
    k0_pay2 k0_pay1 a b (ix2 r x) = ∑ k : Fin 1024, a (ix2 r k) * b (ix2 k x) := by
  pointwise [k0_pay2, k0_pay1]

theorem add_apply (s e : Vec Ideal S1024x1024 .f32) (r x : Fin 1024) :
    k0_pay3 s e (ix2 r x) = s (ix2 r x) + e (ix2 r x) := by
  pointwise [k0_pay3]

variable (m : (ℓ : Loc nD τ sig) → Buf (Elt Ideal) ℓ) (c : Dev nD)

/-- The factors' entries, by the row or column of the product and the place in its sum. -/
def lhs (i : Fin 8192) (k : Fin 1024) : EReal := (m ((c : Thread nD τ).loc main_arg0) : Vec Ideal S8192x1024 .f32) (ix2 i k)
def rhs (j : Fin 1024) (k : Fin 1024) : EReal := (m ((c : Thread nD τ).loc main_arg1) : Vec Ideal S1024x1024 .f32) (ix2 k j)

/-- What the product is added to. -/
abbrev add : Vec Ideal S8192x1024 .f32 := m ((c : Thread nD τ).loc main_arg2)

def prod (i : Fin 8192) (j : Fin 1024) : EReal := ∑ k : Fin 1024, lhs m c i k * rhs m c j k

theorem entry_lhs (i : Fin 8192) (k : Fin 1024) : (V m c main_v0 : Vec Ideal S8192x1024 .bf16) (ix2 i k) = lhs m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_rhs (j : Fin 1024) (k : Fin 1024) : (V m c main_v1 : Vec Ideal S1024x1024 .bf16) (ix2 k j) = rhs m c j k := by
  refine Eq.trans (congrFun (?_ : _ = (m ((c : Thread nD τ).loc main_arg1) : Vec Ideal S1024x1024 .f32)) _) rfl
  show StableHlo.after hostOps0 (fun b => m (c, b)) _ = _
  after_results <;> rfl

theorem entry_add : (V m c main_arg2 : Vec Ideal S8192x1024 .f32) = add m c := by
  show StableHlo.after hostOps0 (fun b => m (c, b)) _ = _
  after_results <;> rfl

theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 1024) :
    iblk m c 0 t (ix2 r k) = lhs m c (row t r) k := by
  refine Eq.trans ?_ (entry_lhs m c _ _)
  blk_simp [iblk]
  refine congrArg (V m c main_v0) ?_
  blk_ext [(idx t).1, ix2]

theorem blk_rhs (t : Fin cfg0.N) (x : Fin 1024) (k : Fin 1024) :
    iblk m c 1 t (ix2 k x) = rhs m c x k := by
  refine Eq.trans ?_ (entry_rhs m c _ _)
  blk_simp [iblk]
  refine congrArg (V m c main_v1) ?_
  blk_ext [(idx t).2.1, ix2]

theorem blk_add (t : Fin cfg0.N) (r x : Fin 1024) : iblk m c 2 t (ix2 r x) = add m c (ix2 (row t r) x) := by
  rw [← entry_add]
  blk_simp [iblk]
  refine congrArg (V m c main_arg2) ?_
  blk_ext [(idx t).2.2.1, ix2]

theorem out_apply (t : Fin cfg0.N) (r x : Fin 1024) : ((outsAt0 m c t) (ix2 r x) : EReal) = prod m c (row t r) x + add m c (ix2 (row t r) x) := by
  dsimp only [outsAt0]
  rw [result, add_apply, blk_add, prod_apply]
  exact congrArg (· + _) (Finset.sum_congr rfl fun k _ => by rw [blk_lhs, blk_rhs])

theorem array : (dats m 0 c).arrAt 3 cfg0.N = fun i : S8192x1024.Idx => prod m c (i 0) (i 1) + add m c i := by
  refine (dats m 0 c).arrAt_eq_of_covers 3 _ (by decide +kernel) fun t hf y => ?_
  blk_simp
  rw [after0_3]
  change S1024x1024.Idx at y
  obtain ⟨r, x, rfl⟩ : ∃ (r : Fin 1024) (x : Fin 1024), y = ix2 r x := ⟨_, _, eq_ix2 y⟩
  rw [out_apply m c t r x]
  have e0 : (win0_3.blk t).view.emb (ix2 r x) = (ix2 (row t r) x : S8192x1024.Idx) := by blk_ext [(idx t).2.2.2, ix2]
  rw [e0]
  rfl

/-- The reference's result at an index. -/
theorem ref_apply (a : Vec Ideal S8192x1024 .f32) (b : Vec Ideal S1024x1024 .f32) (e : Vec Ideal S8192x1024 .f32) :
    (addf e (Host.dotGeneral (F := Ideal) (φ₁ := .f32) (φ₂ := .f32) Cert.OutReferenceIdeal.dot_S8192x1024_S1024x1024_S8192x1024_1_0_0_1_n_n none a b) : Vec Ideal S8192x1024 .f32)
      = fun i : S8192x1024.Idx => (∑ k : Fin 1024, a (ix2 (i 0) k) * b (ix2 k (i 1))) + e i := by
  funext i
  obtain ⟨r, x, rfl⟩ : ∃ (r : Fin 8192) (x : Fin 1024), i = ix2 r x := ⟨_, _, eq_ix2 i⟩
  refine Eq.trans ?_ (add_comm _ _)
  pointwise

theorem frame : Cert.quiescent_Out (hOut := Cert.Out.Gen.facts) := fun m ρ _ => by
  rw [show Cert.Out.defs (F := Bits) = Cert.OutIdeal.defs from congrArg (Pipeline.defs _) (table_ext fun _ => rfl)]
  exact Cert.OutIdeal.Gen.frame (F := Bits) m ρ

theorem frame_reference : Cert.quiescent_OutReferenceIdeal (hOutReferenceIdeal := Cert.OutReferenceIdeal.Gen.facts) :=
  fun m ρ _ => (θ_run Cert.OutReferenceIdeal.defs _ _).mono
    (fun r h => ⟨fun c => (h c).2, sem_eq_zero_of_no_sems (by decide) r.2⟩)
    (Cert.OutReferenceIdeal.Value.run (F := Ideal) m ρ)

theorem algebraic : Cert.algebraic_OutIdeal_OutReferenceIdeal (hOutIdeal := Cert.OutIdeal.Gen.facts)
    (hOutReferenceIdeal := Cert.OutReferenceIdeal.Gen.facts) := by
  intro m g m' g' _ he
  refine ⟨fun c => fun i : S8192x1024.Idx => prod m c (i 0) (i 1) + add m c i, ?_, ?_⟩
  · refine (θ_run Cert.OutIdeal.defs _ _).mono (fun r h c => ?_) (Cert.OutIdeal.Value.run_blocks (F := Ideal) m g)
    exact ⟨(h c).1.trans (array m c), (h c).2⟩
  · refine (θ_run Cert.OutReferenceIdeal.defs _ _).mono (fun r h c => ?_) (Cert.OutReferenceIdeal.Value.run (F := Ideal) m' g')
    refine ⟨(h c).1.trans ?_, (h c).2⟩
    rw [(he c).1, (he c).2.1, (he c).2.2]
    exact ref_apply _ _ _

end Cert.Prod.Out

end
-- ==== Proof.ProdOutDx.lean ====
/- The product of the cotangent with the output projection: the gradient of the mixers' normalised outputs. -/
module

public import proofs.«01_k».proof.Proof.Gen.OutDxIdeal.Value
public import proofs.«01_k».proof.Proof.Gen.OutDxReferenceIdeal.Run
public import proofs.«01_k».proof.Proof.Gen.OutDx
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.OutDx

open Idealize.ShloMosaic Idealize.ShloMosaic.TcCoe Idealize.SL.Sem Cert.OutDxIdeal Cert.OutDxIdeal.Gen

/-! ## What a point of the grid leaves -/

section Run

variable {F : FTy → Type} [FloatOps F]

variable (c : Dev nD) (i : grid0.Coords)
  (arg3 : Memref sig .tc .vmem S1024x1024 .f32) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (a : Vec F S1024x1024 .f32) (b : Vec F S1024x1024 .bf16)

theorem result (hc0 : cond0_0 i) (hc1 : cond0_1 i) :
    out0_A_2 c i arg3 harg3 arg4 harg4 arg5 harg5 arg6 harg6 hc0 hc1 a b = k0_pay2 k0_pay1 a b := by
  unfold out0_A_2
  rw [View.read_writes_eq_canon _ _ _ (cover0_A_2 c i arg3 harg3 arg4 harg4 arg5 harg5 arg6 harg6 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x1024) hz]

end Run

/-! ## Over the extended reals -/

theorem prod_apply (a : Vec Ideal S1024x1024 .f32) (b : Vec Ideal S1024x1024 .bf16) (r x : Fin 1024) :
    k0_pay2 k0_pay1 a b (ix2 r x) = ∑ k : Fin 1024, a (ix2 r k) * b (ix2 x k) := by
  pointwise [k0_pay2, k0_pay1]

variable (m : (ℓ : Loc nD τ sig) → Buf (Elt Ideal) ℓ) (c : Dev nD)

/-- The factors' entries, by the row or column of the product and the place in its sum. -/
def lhs (i : Fin 8192) (k : Fin 1024) : EReal := (m ((c : Thread nD τ).loc main_arg2) : Vec Ideal S8192x1024 .f32) (ix2 i k)
def rhs (j : Fin 1024) (k : Fin 1024) : EReal := (m ((c : Thread nD τ).loc main_arg1) : Vec Ideal S1024x1024 .f32) (ix2 j k)

def prod (i : Fin 8192) (j : Fin 1024) : EReal := ∑ k : Fin 1024, lhs m c i k * rhs m c j k

theorem entry_lhs (i : Fin 8192) (k : Fin 1024) : (V m c main_arg2 : Vec Ideal S8192x1024 .f32) (ix2 i k) = lhs m c i k := by
  refine Eq.trans (congrFun (?_ : _ = (m ((c : Thread nD τ).loc main_arg2) : Vec Ideal S8192x1024 .f32)) _) rfl
  show StableHlo.after hostOps0 (fun b => m (c, b)) _ = _
  after_results <;> rfl

theorem entry_rhs (j : Fin 1024) (k : Fin 1024) : (V m c main_v0 : Vec Ideal S1024x1024 .bf16) (ix2 j k) = rhs m c j k := by
  refine Eq.trans (congrFun (?_ : _ = (m ((c : Thread nD τ).loc main_arg1) : Vec Ideal S1024x1024 .f32)) _) rfl
  show StableHlo.after hostOps0 (fun b => m (c, b)) _ = _
  after_results <;> rfl

theorem idx : ∀ t : Fin cfg0.N, win0_0.index t = ![t.val, 0] ∧ win0_1.index t = ![0, 0]
    ∧ win0_2.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 1024) :
    iblk m c 0 t (ix2 r k) = lhs m c (row t r) k := by
  refine Eq.trans ?_ (entry_lhs m c _ _)
  blk_simp [iblk]
  refine congrArg (V m c main_arg2) ?_
  blk_ext [(idx t).1, ix2]

theorem blk_rhs (t : Fin cfg0.N) (x : Fin 1024) (k : Fin 1024) :
    iblk m c 1 t (ix2 x k) = rhs m c x k := by
  refine Eq.trans ?_ (entry_rhs m c _ _)
  blk_simp [iblk]
  refine congrArg (V m c main_v0) ?_
  blk_ext [(idx t).2.1, ix2]

theorem out_apply (t : Fin cfg0.N) (r x : Fin 1024) : ((outsAt0 m c t) (ix2 r x) : EReal) = prod m c (row t r) x := by
  dsimp only [outsAt0]
  rw [result, prod_apply]
  exact Finset.sum_congr rfl fun k _ => by rw [blk_lhs, blk_rhs]

theorem array : (dats m 0 c).arrAt 2 cfg0.N = fun i : S8192x1024.Idx => prod m c (i 0) (i 1) := by
  refine (dats m 0 c).arrAt_eq_of_covers 2 _ (by decide +kernel) fun t hf y => ?_
  blk_simp
  rw [after0_2]
  change S1024x1024.Idx at y
  obtain ⟨r, x, rfl⟩ : ∃ (r : Fin 1024) (x : Fin 1024), y = ix2 r x := ⟨_, _, eq_ix2 y⟩
  rw [out_apply m c t r x]
  have e0 : (win0_2.blk t).view.emb (ix2 r x) = (ix2 (row t r) x : S8192x1024.Idx) := by blk_ext [(idx t).2.2, ix2]
  rw [e0]
  rfl

/-- The reference's result at an index. -/
theorem ref_apply (a : Vec Ideal S8192x1024 .f32) (b : Vec Ideal S1024x1024 .f32) :
    (Host.dotGeneral (F := Ideal) (φ₁ := .f32) (φ₂ := .f32) Cert.OutDxReferenceIdeal.dot_S8192x1024_S1024x1024_S8192x1024_1_1_0_0_n_n none a b : Vec Ideal S8192x1024 .f32)
      = fun i : S8192x1024.Idx => ∑ k : Fin 1024, a (ix2 (i 0) k) * b (ix2 (i 1) k) := by
  funext i
  obtain ⟨r, x, rfl⟩ : ∃ (r : Fin 8192) (x : Fin 1024), i = ix2 r x := ⟨_, _, eq_ix2 i⟩
  pointwise

theorem frame : Cert.quiescent_OutDx (hOutDx := Cert.OutDx.Gen.facts) := fun m ρ _ => by
  rw [show Cert.OutDx.defs (F := Bits) = Cert.OutDxIdeal.defs from congrArg (Pipeline.defs _) (table_ext fun _ => rfl)]
  exact Cert.OutDxIdeal.Gen.frame (F := Bits) m ρ

theorem frame_reference : Cert.quiescent_OutDxReferenceIdeal (hOutDxReferenceIdeal := Cert.OutDxReferenceIdeal.Gen.facts) :=
  fun m ρ _ => (θ_run Cert.OutDxReferenceIdeal.defs _ _).mono
    (fun r h => ⟨fun c => (h c).2, sem_eq_zero_of_no_sems (by decide) r.2⟩)
    (Cert.OutDxReferenceIdeal.Value.run (F := Ideal) m ρ)

theorem algebraic : Cert.algebraic_OutDxIdeal_OutDxReferenceIdeal (hOutDxIdeal := Cert.OutDxIdeal.Gen.facts)
    (hOutDxReferenceIdeal := Cert.OutDxReferenceIdeal.Gen.facts) := by
  intro m g m' g' _ he
  refine ⟨fun c => fun i : S8192x1024.Idx => prod m c (i 0) (i 1), ?_, ?_⟩
  · refine (θ_run Cert.OutDxIdeal.defs _ _).mono (fun r h c => ?_) (Cert.OutDxIdeal.Value.run_blocks (F := Ideal) m g)
    exact ⟨(h c).1.trans (array m c), (h c).2⟩
  · refine (θ_run Cert.OutDxReferenceIdeal.defs _ _).mono (fun r h c => ?_) (Cert.OutDxReferenceIdeal.Value.run (F := Ideal) m' g')
    refine ⟨(h c).1.trans ?_, (h c).2⟩
    rw [(he c).2.1, (he c).2.2]
    exact ref_apply _ _

end Cert.Prod.OutDx

end
-- ==== Proof.ProdOutDw.lean ====
/- The gradient of the output projection. -/
module

public import proofs.«01_k».proof.Proof.Gen.OutDwIdeal.Value
public import proofs.«01_k».proof.Proof.Gen.OutDwReferenceIdeal.Run
public import proofs.«01_k».proof.Proof.Gen.OutDw
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.OutDw

open Idealize.ShloMosaic Idealize.ShloMosaic.TcCoe Idealize.SL.Sem Cert.OutDwIdeal Cert.OutDwIdeal.Gen

/-! ## What a point of the grid leaves -/

section Run

variable {F : FTy → Type} [FloatOps F]

variable (c : Dev nD) (i : grid0.Coords)
  (arg3 : Memref sig .tc .vmem S512x1024 .bf16) (harg3 : arg3.IsWhole)
  (arg4 : Memref sig .tc .vmem S512x1024 .f32) (harg4 : arg4.IsWhole)
  (arg5 : Memref sig .tc .vmem S1024x1024 .f32) (harg5 : arg5.IsWhole)
  (arg6 : Memref sig .tc .vmem S1024x1024 .f32) (harg6 : arg6.IsWhole)
  (a : Vec F S512x1024 .bf16) (b : Vec F S512x1024 .f32) (s : Vec F S1024x1024 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S1024x1024) hz, View.ld_unit_zero (S := S512x1024) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S1024x1024) hz, View.ld_unit_zero (S := S512x1024) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S1024x1024) hz, View.ld_unit_zero (S := S512x1024) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S1024x1024) hz, View.ld_unit_zero (S := S512x1024) hz]

end Run

/-! ## Over the extended reals -/

theorem first_apply (a : Vec Ideal S512x1024 .bf16) (b : Vec Ideal S512x1024 .f32) (r x : Fin 1024) :
    k0_pay2 k0_pay1 a b (ix2 r x) = ∑ k : Fin 512, a (ix2 k r) * b (ix2 k x) := by
  pointwise [k0_pay2, k0_pay1]

theorem next_apply (s : Vec Ideal S1024x1024 .f32) (a : Vec Ideal S512x1024 .bf16) (b : Vec Ideal S512x1024 .f32)
    (r x : Fin 1024) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 1024) (k : Fin 8192) : EReal := (m ((c : Thread nD τ).loc main_arg0) : Vec Ideal S8192x1024 .f32) (ix2 k i)
def rhs (j : Fin 1024) (k : Fin 8192) : EReal := (m ((c : Thread nD τ).loc main_arg2) : Vec Ideal S8192x1024 .f32) (ix2 k j)

def prod (i : Fin 1024) (j : Fin 1024) : EReal := ∑ k : Fin 8192, lhs m c i k * rhs m c j k

theorem entry_lhs (i : Fin 1024) (k : Fin 8192) : (V m c main_v0 : Vec Ideal S8192x1024 .bf16) (ix2 k i) = lhs m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_rhs (j : Fin 1024) (k : Fin 8192) : (V m c main_arg2 : Vec Ideal S8192x1024 .f32) (ix2 k j) = rhs m c j k := by
  refine Eq.trans (congrFun (?_ : _ = (m ((c : Thread nD τ).loc main_arg2) : Vec Ideal S8192x1024 .f32)) _) rfl
  show StableHlo.after hostOps0 (fun b => m (c, b)) _ = _
  after_results <;> rfl

theorem idx : ∀ t : Fin cfg0.N, win0_0.index t = ![t.val % 16, 0] ∧ win0_1.index t = ![t.val % 16, 0]
    ∧ win0_2.index t = ![0, 0] := (by decide +kernel : ∀ t : Fin grid0.N, _)

/-- Where an entry of a point's blocks lies in the arrays. -/
abbrev mid (t : Fin cfg0.N) (k : Fin 512) : Fin 8192 := ⟨t.val % 16 * 512 + k.val, by omega⟩

theorem blk_lhs (t : Fin cfg0.N) (r : Fin 1024) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 1024) (k : Fin 512) :
    iblk m c 1 t (ix2 k x) = rhs m c x (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 1024) (k : Fin 512) : EReal := iblk m c 0 t (ix2 k r)
abbrev tile1 (t : Fin cfg0.N) (x : Fin 1024) (k : Fin 512) : EReal := iblk m c 1 t (ix2 k x)

theorem sum_first (t : Fin cfg0.N) (h0 : t.val % 16 = 0) (r x : Fin 1024) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r x : Fin 1024) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r x : Fin 1024) :
    ((outsAt0 m c t.val t.isLt).2 (ix2 r x) : EReal) = prod m c r x :=
  prod_tiles (NK := 16) (KS := 512) (by norm_num) (X := lhs m c) (Y := rhs m c) (row := fun _ r => r) (col := fun _ x => x)
    (fun _ _ _ => rfl) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 16 = 15) (r x : Fin 1024) :
    ((outsAt0 m c t.val t.isLt).1 (ix2 r x) : EReal) = prod m c r x := by
  rw [← sum_apply m c t hr, outsAt0_C m c t (by omega) hr]
  dsimp only
  rw [last, result]

theorem array : (dats m 0 c).arrAt 2 cfg0.N = fun i : S1024x1024.Idx => prod m c (i 0) (i 1) := by
  refine (dats m 0 c).arrAt_eq_of_covers 2 _ (by decide +kernel) fun t hf y => ?_
  have hr : t.val % 16 = 15 := (flush0_2 t).1 hf
  blk_simp
  rw [after0_2]
  change S1024x1024.Idx at y
  obtain ⟨r, x, rfl⟩ : ∃ (r : Fin 1024) (x : Fin 1024), y = ix2 r x := ⟨_, _, eq_ix2 y⟩
  rw [out_apply m c t hr r x]
  have e0 : (win0_2.blk t).view.emb (ix2 r x) = (ix2 r x : S1024x1024.Idx) := by blk_ext [(idx t).2.2, ix2]
  rw [e0]
  rfl

/-- The reference's result at an index. -/
theorem ref_apply (a : Vec Ideal S8192x1024 .f32) (b : Vec Ideal S8192x1024 .f32) :
    (transpose S1024x1024 [1, 0] (Host.dotGeneral (F := Ideal) (φ₁ := .f32) (φ₂ := .f32) Cert.OutDwReferenceIdeal.dot_S8192x1024_S8192x1024_S1024x1024_0_0_1_1_n_n none b a) Cert.OutDwReferenceIdeal.Gen.transposes_S1024x1024_S1024x1024_1_0 : Vec Ideal S1024x1024 .f32)
      = fun i : S1024x1024.Idx => ∑ k : Fin 8192, a (ix2 k (i 0)) * b (ix2 k (i 1)) := by
  funext i
  obtain ⟨r, x, rfl⟩ : ∃ (r : Fin 1024) (x : Fin 1024), i = ix2 r x := ⟨_, _, eq_ix2 i⟩
  pointwise
  exact Finset.sum_congr rfl fun k _ => mul_comm _ _

theorem frame : Cert.quiescent_OutDw (hOutDw := Cert.OutDw.Gen.facts) := fun m ρ _ => by
  rw [show Cert.OutDw.defs (F := Bits) = Cert.OutDwIdeal.defs from congrArg (Pipeline.defs _) (table_ext fun _ => rfl)]
  exact Cert.OutDwIdeal.Gen.frame (F := Bits) m ρ

theorem frame_reference : Cert.quiescent_OutDwReferenceIdeal (hOutDwReferenceIdeal := Cert.OutDwReferenceIdeal.Gen.facts) :=
  fun m ρ _ => (θ_run Cert.OutDwReferenceIdeal.defs _ _).mono
    (fun r h => ⟨fun c => (h c).2, sem_eq_zero_of_no_sems (by decide) r.2⟩)
    (Cert.OutDwReferenceIdeal.Value.run (F := Ideal) m ρ)

theorem algebraic : Cert.algebraic_OutDwIdeal_OutDwReferenceIdeal (hOutDwIdeal := Cert.OutDwIdeal.Gen.facts)
    (hOutDwReferenceIdeal := Cert.OutDwReferenceIdeal.Gen.facts) := by
  intro m g m' g' _ he
  refine ⟨fun c => fun i : S1024x1024.Idx => prod m c (i 0) (i 1), ?_, ?_⟩
  · refine (θ_run Cert.OutDwIdeal.defs _ _).mono (fun r h c => ?_) (Cert.OutDwIdeal.Value.run (F := Ideal) m g)
    exact ⟨(h c).1.trans ((Cert.OutDwIdeal.Value.final2 m c).symm.trans (array m c)), (h c).2⟩
  · refine (θ_run Cert.OutDwReferenceIdeal.defs _ _).mono (fun r h c => ?_) (Cert.OutDwReferenceIdeal.Value.run (F := Ideal) m' g')
    refine ⟨(h c).1.trans ?_, (h c).2⟩
    rw [(he c).1, (he c).2.2]
    exact ref_apply _ _

end Cert.Prod.OutDw

end
-- ==== Proof.ProdUq.lean ====
/- The product of the normalised query latents with their up projection. -/
module

public import proofs.«01_k».proof.Proof.Gen.UqIdeal.Value
public import proofs.«01_k».proof.Proof.Gen.UqReferenceIdeal.Run
public import proofs.«01_k».proof.Proof.Gen.Uq
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.Uq

open Idealize.ShloMosaic Idealize.ShloMosaic.TcCoe Idealize.SL.Sem Cert.UqIdeal Cert.UqIdeal.Gen

/-! ## What a point of the grid leaves -/

section Run

variable {F : FTy → Type} [FloatOps F]

variable (c : Dev nD) (i : grid0.Coords)
  (arg3 : Memref sig .tc .vmem S1024x256 .bf16) (harg3 : arg3.IsWhole)
  (arg4 : Memref sig .tc .vmem S256x576 .bf16) (harg4 : arg4.IsWhole)
  (arg5 : Memref sig .tc .vmem S1024x576 .f32) (harg5 : arg5.IsWhole)
  (arg6 : Memref sig .tc .vmem S1024x576 .f32) (harg6 : arg6.IsWhole)
  (a : Vec F S1024x256 .bf16) (b : Vec F S256x576 .bf16)

theorem result (hc0 : cond0_0 i) (hc1 : cond0_1 i) :
    out0_A_2 c i arg3 harg3 arg4 harg4 arg5 harg5 arg6 harg6 hc0 hc1 a b = k0_pay2 k0_pay1 a b := by
  unfold out0_A_2
  rw [View.read_writes_eq_canon _ _ _ (cover0_A_2 c i arg3 harg3 arg4 harg4 arg5 harg5 arg6 harg6 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x256) hz, View.ld_unit_zero (S := S256x576) hz]

end Run

/-! ## Over the extended reals -/

theorem prod_apply (a : Vec Ideal S1024x256 .bf16) (b : Vec Ideal S256x576 .bf16) (r : Fin 1024) (x : Fin 576) :
    k0_pay2 k0_pay1 a b (ix2 r x) = ∑ k : Fin 256, a (ix2 r k) * b (ix2 k x) := by
  pointwise [k0_pay2, k0_pay1]

variable (m : (ℓ : Loc nD τ sig) → Buf (Elt Ideal) ℓ) (c : Dev nD)

/-- The factors' entries, by the row or column of the product and the place in its sum. -/
def lhs (i : Fin 8192) (k : Fin 256) : EReal := (m ((c : Thread nD τ).loc main_arg0) : Vec Ideal S8192x256 .f32) (ix2 i k)
def rhs (j : Fin 576) (k : Fin 256) : EReal := (m ((c : Thread nD τ).loc main_arg1) : Vec Ideal S256x576 .f32) (ix2 k j)

def prod (i : Fin 8192) (j : Fin 576) : EReal := ∑ k : Fin 256, lhs m c i k * rhs m c j k

theorem entry_lhs (i : Fin 8192) (k : Fin 256) : (V m c main_v0 : Vec Ideal S8192x256 .bf16) (ix2 i k) = lhs m c i k := by
  refine Eq.trans (congrFun (?_ : _ = (m ((c : Thread nD τ).loc main_arg0) : Vec Ideal S8192x256 .f32)) _) rfl
  show StableHlo.after hostOps0 (fun b => m (c, b)) _ = _
  after_results <;> rfl

theorem entry_rhs (j : Fin 576) (k : Fin 256) : (V m c main_v1 : Vec Ideal S256x576 .bf16) (ix2 k j) = rhs m c j k := by
  refine Eq.trans (congrFun (?_ : _ = (m ((c : Thread nD τ).loc main_arg1) : Vec Ideal S256x576 .f32)) _) rfl
  show StableHlo.after hostOps0 (fun b => m (c, b)) _ = _
  after_results <;> rfl

theorem idx : ∀ t : Fin cfg0.N, win0_0.index t = ![t.val, 0] ∧ win0_1.index t = ![0, 0]
    ∧ win0_2.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 256) :
    iblk m c 0 t (ix2 r k) = lhs m c (row t r) k := by
  refine Eq.trans ?_ (entry_lhs m c _ _)
  blk_simp [iblk]
  refine congrArg (V m c main_v0) ?_
  blk_ext [(idx t).1, ix2]

theorem blk_rhs (t : Fin cfg0.N) (x : Fin 576) (k : Fin 256) :
    iblk m c 1 t (ix2 k x) = rhs m c x k := by
  refine Eq.trans ?_ (entry_rhs m c _ _)
  blk_simp [iblk]
  refine congrArg (V m c main_v1) ?_
  blk_ext [(idx t).2.1, ix2]

theorem out_apply (t : Fin cfg0.N) (r : Fin 1024) (x : Fin 576) : ((outsAt0 m c t) (ix2 r x) : EReal) = prod m c (row t r) x := by
  dsimp only [outsAt0]
  rw [result, prod_apply]
  exact Finset.sum_congr rfl fun k _ => by rw [blk_lhs, blk_rhs]

theorem array : (dats m 0 c).arrAt 2 cfg0.N = fun i : S8192x576.Idx => prod m c (i 0) (i 1) := by
  refine (dats m 0 c).arrAt_eq_of_covers 2 _ (by decide +kernel) fun t hf y => ?_
  blk_simp
  rw [after0_2]
  change S1024x576.Idx at y
  obtain ⟨r, x, rfl⟩ : ∃ (r : Fin 1024) (x : Fin 576), y = ix2 r x := ⟨_, _, eq_ix2 y⟩
  rw [out_apply m c t r x]
  have e0 : (win0_2.blk t).view.emb (ix2 r x) = (ix2 (row t r) x : S8192x576.Idx) := by blk_ext [(idx t).2.2, ix2]
  rw [e0]
  rfl

/-- The reference's result at an index. -/
theorem ref_apply (a : Vec Ideal S8192x256 .f32) (b : Vec Ideal S256x576 .f32) :
    (Host.dotGeneral (F := Ideal) (φ₁ := .f32) (φ₂ := .f32) Cert.UqReferenceIdeal.dot_S8192x256_S256x576_S8192x576_1_0_0_1_n_n none a b : Vec Ideal S8192x576 .f32)
      = fun i : S8192x576.Idx => ∑ k : Fin 256, a (ix2 (i 0) k) * b (ix2 k (i 1)) := by
  funext i
  obtain ⟨r, x, rfl⟩ : ∃ (r : Fin 8192) (x : Fin 576), i = ix2 r x := ⟨_, _, eq_ix2 i⟩
  pointwise

theorem frame : Cert.quiescent_Uq (hUq := Cert.Uq.Gen.facts) := fun m ρ _ => by
  rw [show Cert.Uq.defs (F := Bits) = Cert.UqIdeal.defs from congrArg (Pipeline.defs _) (table_ext fun _ => rfl)]
  exact Cert.UqIdeal.Gen.frame (F := Bits) m ρ

theorem frame_reference : Cert.quiescent_UqReferenceIdeal (hUqReferenceIdeal := Cert.UqReferenceIdeal.Gen.facts) :=
  fun m ρ _ => (θ_run Cert.UqReferenceIdeal.defs _ _).mono
    (fun r h => ⟨fun c => (h c).2, sem_eq_zero_of_no_sems (by decide) r.2⟩)
    (Cert.UqReferenceIdeal.Value.run (F := Ideal) m ρ)

theorem algebraic : Cert.algebraic_UqIdeal_UqReferenceIdeal (hUqIdeal := Cert.UqIdeal.Gen.facts)
    (hUqReferenceIdeal := Cert.UqReferenceIdeal.Gen.facts) := by
  intro m g m' g' _ he
  refine ⟨fun c => fun i : S8192x576.Idx => prod m c (i 0) (i 1), ?_, ?_⟩
  · refine (θ_run Cert.UqIdeal.defs _ _).mono (fun r h c => ?_) (Cert.UqIdeal.Value.run_blocks (F := Ideal) m g)
    exact ⟨(h c).1.trans (array m c), (h c).2⟩
  · refine (θ_run Cert.UqReferenceIdeal.defs _ _).mono (fun r h c => ?_) (Cert.UqReferenceIdeal.Value.run (F := Ideal) m' g')
    refine ⟨(h c).1.trans ?_, (h c).2⟩
    rw [(he c).1, (he c).2]
    exact ref_apply _ _

end Cert.Prod.Uq

end
-- ==== Proof.ProdUqDx.lean ====
/- The gradient of the normalised query latents. -/
module

public import proofs.«01_k».proof.Proof.Gen.UqDxIdeal.Value
public import proofs.«01_k».proof.Proof.Gen.UqDxReferenceIdeal.Run
public import proofs.«01_k».proof.Proof.Gen.UqDx
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.UqDx

open Idealize.ShloMosaic Idealize.ShloMosaic.TcCoe Idealize.SL.Sem Cert.UqDxIdeal Cert.UqDxIdeal.Gen

/-! ## What a point of the grid leaves -/

section Run

variable {F : FTy → Type} [FloatOps F]

variable (c : Dev nD) (i : grid0.Coords)
  (arg3 : Memref sig .tc .vmem S1024x576 .f32) (harg3 : arg3.IsWhole)
  (arg4 : Memref sig .tc .vmem S256x576 .bf16) (harg4 : arg4.IsWhole)
  (arg5 : Memref sig .tc .vmem S1024x256 .f32) (harg5 : arg5.IsWhole)
  (arg6 : Memref sig .tc .vmem S1024x256 .f32) (harg6 : arg6.IsWhole)
  (a : Vec F S1024x576 .f32) (b : Vec F S256x576 .bf16)

theorem result (hc0 : cond0_0 i) (hc1 : cond0_1 i) :
    out0_A_2 c i arg3 harg3 arg4 harg4 arg5 harg5 arg6 harg6 hc0 hc1 a b = k0_pay2 k0_pay1 a b := by
  unfold out0_A_2
  rw [View.read_writes_eq_canon _ _ _ (cover0_A_2 c i arg3 harg3 arg4 harg4 arg5 harg5 arg6 harg6 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x576) hz, View.ld_unit_zero (S := S256x576) hz]

end Run

/-! ## Over the extended reals -/

theorem prod_apply (a : Vec Ideal S1024x576 .f32) (b : Vec Ideal S256x576 .bf16) (r : Fin 1024) (x : Fin 256) :
    k0_pay2 k0_pay1 a b (ix2 r x) = ∑ k : Fin 576, a (ix2 r k) * b (ix2 x k) := by
  pointwise [k0_pay2, k0_pay1]

variable (m : (ℓ : Loc nD τ sig) → Buf (Elt Ideal) ℓ) (c : Dev nD)

/-- The factors' entries, by the row or column of the product and the place in its sum. -/
def lhs (i : Fin 8192) (k : Fin 576) : EReal := (m ((c : Thread nD τ).loc main_arg2) : Vec Ideal S8192x576 .f32) (ix2 i k)
def rhs (j : Fin 256) (k : Fin 576) : EReal := (m ((c : Thread nD τ).loc main_arg1) : Vec Ideal S256x576 .f32) (ix2 j k)

def prod (i : Fin 8192) (j : Fin 256) : EReal := ∑ k : Fin 576, lhs m c i k * rhs m c j k

theorem entry_lhs (i : Fin 8192) (k : Fin 576) : (V m c main_arg2 : Vec Ideal S8192x576 .f32) (ix2 i k) = lhs m c i k := by
  refine Eq.trans (congrFun (?_ : _ = (m ((c : Thread nD τ).loc main_arg2) : Vec Ideal S8192x576 .f32)) _) rfl
  show StableHlo.after hostOps0 (fun b => m (c, b)) _ = _
  after_results <;> rfl

theorem entry_rhs (j : Fin 256) (k : Fin 576) : (V m c main_v0 : Vec Ideal S256x576 .bf16) (ix2 j k) = rhs m c j k := by
  refine Eq.trans (congrFun (?_ : _ = (m ((c : Thread nD τ).loc main_arg1) : Vec Ideal S256x576 .f32)) _) rfl
  show StableHlo.after hostOps0 (fun b => m (c, b)) _ = _
  after_results <;> rfl

theorem idx : ∀ t : Fin cfg0.N, win0_0.index t = ![t.val, 0] ∧ win0_1.index t = ![0, 0]
    ∧ win0_2.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 576) :
    iblk m c 0 t (ix2 r k) = lhs m c (row t r) k := by
  refine Eq.trans ?_ (entry_lhs m c _ _)
  blk_simp [iblk]
  refine congrArg (V m c main_arg2) ?_
  blk_ext [(idx t).1, ix2]

theorem blk_rhs (t : Fin cfg0.N) (x : Fin 256) (k : Fin 576) :
    iblk m c 1 t (ix2 x k) = rhs m c x k := by
  refine Eq.trans ?_ (entry_rhs m c _ _)
  blk_simp [iblk]
  refine congrArg (V m c main_v0) ?_
  blk_ext [(idx t).2.1, ix2]

theorem out_apply (t : Fin cfg0.N) (r : Fin 1024) (x : Fin 256) : ((outsAt0 m c t) (ix2 r x) : EReal) = prod m c (row t r) x := by
  dsimp only [outsAt0]
  rw [result, prod_apply]
  exact Finset.sum_congr rfl fun k _ => by rw [blk_lhs, blk_rhs]

theorem array : (dats m 0 c).arrAt 2 cfg0.N = fun i : S8192x256.Idx => prod m c (i 0) (i 1) := by
  refine (dats m 0 c).arrAt_eq_of_covers 2 _ (by decide +kernel) fun t hf y => ?_
  blk_simp
  rw [after0_2]
  change S1024x256.Idx at y
  obtain ⟨r, x, rfl⟩ : ∃ (r : Fin 1024) (x : Fin 256), y = ix2 r x := ⟨_, _, eq_ix2 y⟩
  rw [out_apply m c t r x]
  have e0 : (win0_2.blk t).view.emb (ix2 r x) = (ix2 (row t r) x : S8192x256.Idx) := by blk_ext [(idx t).2.2, ix2]
  rw [e0]
  rfl

/-- The reference's result at an index. -/
theorem ref_apply (a : Vec Ideal S8192x576 .f32) (b : Vec Ideal S256x576 .f32) :
    (Host.dotGeneral (F := Ideal) (φ₁ := .f32) (φ₂ := .f32) Cert.UqDxReferenceIdeal.dot_S8192x576_S256x576_S8192x256_1_1_0_0_n_n none a b : Vec Ideal S8192x256 .f32)
      = fun i : S8192x256.Idx => ∑ k : Fin 576, a (ix2 (i 0) k) * b (ix2 (i 1) k) := by
  funext i
  obtain ⟨r, x, rfl⟩ : ∃ (r : Fin 8192) (x : Fin 256), i = ix2 r x := ⟨_, _, eq_ix2 i⟩
  pointwise

theorem frame : Cert.quiescent_UqDx (hUqDx := Cert.UqDx.Gen.facts) := fun m ρ _ => by
  rw [show Cert.UqDx.defs (F := Bits) = Cert.UqDxIdeal.defs from congrArg (Pipeline.defs _) (table_ext fun _ => rfl)]
  exact Cert.UqDxIdeal.Gen.frame (F := Bits) m ρ

theorem frame_reference : Cert.quiescent_UqDxReferenceIdeal (hUqDxReferenceIdeal := Cert.UqDxReferenceIdeal.Gen.facts) :=
  fun m ρ _ => (θ_run Cert.UqDxReferenceIdeal.defs _ _).mono
    (fun r h => ⟨fun c => (h c).2, sem_eq_zero_of_no_sems (by decide) r.2⟩)
    (Cert.UqDxReferenceIdeal.Value.run (F := Ideal) m ρ)

theorem algebraic : Cert.algebraic_UqDxIdeal_UqDxReferenceIdeal (hUqDxIdeal := Cert.UqDxIdeal.Gen.facts)
    (hUqDxReferenceIdeal := Cert.UqDxReferenceIdeal.Gen.facts) := by
  intro m g m' g' _ he
  refine ⟨fun c => fun i : S8192x256.Idx => prod m c (i 0) (i 1), ?_, ?_⟩
  · refine (θ_run Cert.UqDxIdeal.defs _ _).mono (fun r h c => ?_) (Cert.UqDxIdeal.Value.run_blocks (F := Ideal) m g)
    exact ⟨(h c).1.trans (array m c), (h c).2⟩
  · refine (θ_run Cert.UqDxReferenceIdeal.defs _ _).mono (fun r h c => ?_) (Cert.UqDxReferenceIdeal.Value.run (F := Ideal) m' g')
    refine ⟨(h c).1.trans ?_, (h c).2⟩
    rw [(he c).2.1, (he c).2.2]
    exact ref_apply _ _

end Cert.Prod.UqDx

end
-- ==== Proof.ProdUqDw.lean ====
/- The gradient of the query latents' up projection. -/
module

public import proofs.«01_k».proof.Proof.Gen.UqDwIdeal.Value
public import proofs.«01_k».proof.Proof.Gen.UqDwReferenceIdeal.Run
public import proofs.«01_k».proof.Proof.Gen.UqDw
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.UqDw

open Idealize.ShloMosaic Idealize.ShloMosaic.TcCoe Idealize.SL.Sem Cert.UqDwIdeal Cert.UqDwIdeal.Gen

/-! ## What a point of the grid leaves -/

section Run

variable {F : FTy → Type} [FloatOps F]

variable (c : Dev nD) (i : grid0.Coords)
  (arg3 : Memref sig .tc .vmem S512x256 .bf16) (harg3 : arg3.IsWhole)
  (arg4 : Memref sig .tc .vmem S512x576 .f32) (harg4 : arg4.IsWhole)
  (arg5 : Memref sig .tc .vmem S256x576 .f32) (harg5 : arg5.IsWhole)
  (arg6 : Memref sig .tc .vmem S256x576 .f32) (harg6 : arg6.IsWhole)
  (a : Vec F S512x256 .bf16) (b : Vec F S512x576 .f32) (s : Vec F S256x576 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S256x576) hz, View.ld_unit_zero (S := S512x256) hz, View.ld_unit_zero (S := S512x576) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S256x576) hz, View.ld_unit_zero (S := S512x256) hz, View.ld_unit_zero (S := S512x576) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S256x576) hz, View.ld_unit_zero (S := S512x256) hz, View.ld_unit_zero (S := S512x576) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S256x576) hz, View.ld_unit_zero (S := S512x256) hz, View.ld_unit_zero (S := S512x576) hz]

end Run

/-! ## Over the extended reals -/

theorem first_apply (a : Vec Ideal S512x256 .bf16) (b : Vec Ideal S512x576 .f32) (r : Fin 256) (x : Fin 576) :
    k0_pay2 k0_pay1 a b (ix2 r x) = ∑ k : Fin 512, a (ix2 k r) * b (ix2 k x) := by
  pointwise [k0_pay2, k0_pay1]

theorem next_apply (s : Vec Ideal S256x576 .f32) (a : Vec Ideal S512x256 .bf16) (b : Vec Ideal S512x576 .f32)
    (r : Fin 256) (x : Fin 576) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 256) (k : Fin 8192) : EReal := (m ((c : Thread nD τ).loc main_arg0) : Vec Ideal S8192x256 .f32) (ix2 k i)
def rhs (j : Fin 576) (k : Fin 8192) : EReal := (m ((c : Thread nD τ).loc main_arg2) : Vec Ideal S8192x576 .f32) (ix2 k j)

def prod (i : Fin 256) (j : Fin 576) : EReal := ∑ k : Fin 8192, lhs m c i k * rhs m c j k

theorem entry_lhs (i : Fin 256) (k : Fin 8192) : (V m c main_v0 : Vec Ideal S8192x256 .bf16) (ix2 k i) = lhs m c i k := by
  refine Eq.trans (congrFun (?_ : _ = (m ((c : Thread nD τ).loc main_arg0) : Vec Ideal S8192x256 .f32)) _) rfl
  show StableHlo.after hostOps0 (fun b => m (c, b)) _ = _
  after_results <;> rfl

theorem entry_rhs (j : Fin 576) (k : Fin 8192) : (V m c main_arg2 : Vec Ideal S8192x576 .f32) (ix2 k j) = rhs m c j k := by
  refine Eq.trans (congrFun (?_ : _ = (m ((c : Thread nD τ).loc main_arg2) : Vec Ideal S8192x576 .f32)) _) rfl
  show StableHlo.after hostOps0 (fun b => m (c, b)) _ = _
  after_results <;> rfl

theorem idx : ∀ t : Fin cfg0.N, win0_0.index t = ![t.val % 16, 0] ∧ win0_1.index t = ![t.val % 16, 0]
    ∧ win0_2.index t = ![0, 0] := (by decide +kernel : ∀ t : Fin grid0.N, _)

/-- Where an entry of a point's blocks lies in the arrays. -/
abbrev mid (t : Fin cfg0.N) (k : Fin 512) : Fin 8192 := ⟨t.val % 16 * 512 + k.val, by omega⟩

theorem blk_lhs (t : Fin cfg0.N) (r : Fin 256) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 576) (k : Fin 512) :
    iblk m c 1 t (ix2 k x) = rhs m c x (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 256) (k : Fin 512) : EReal := iblk m c 0 t (ix2 k r)
abbrev tile1 (t : Fin cfg0.N) (x : Fin 576) (k : Fin 512) : EReal := iblk m c 1 t (ix2 k x)

theorem sum_first (t : Fin cfg0.N) (h0 : t.val % 16 = 0) (r : Fin 256) (x : Fin 576) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r : Fin 256) (x : Fin 576) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r : Fin 256) (x : Fin 576) :
    ((outsAt0 m c t.val t.isLt).2 (ix2 r x) : EReal) = prod m c r x :=
  prod_tiles (NK := 16) (KS := 512) (by norm_num) (X := lhs m c) (Y := rhs m c) (row := fun _ r => r) (col := fun _ x => x)
    (fun _ _ _ => rfl) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 16 = 15) (r : Fin 256) (x : Fin 576) :
    ((outsAt0 m c t.val t.isLt).1 (ix2 r x) : EReal) = prod m c r x := by
  rw [← sum_apply m c t hr, outsAt0_C m c t (by omega) hr]
  dsimp only
  rw [last, result]

theorem array : (dats m 0 c).arrAt 2 cfg0.N = fun i : S256x576.Idx => prod m c (i 0) (i 1) := by
  refine (dats m 0 c).arrAt_eq_of_covers 2 _ (by decide +kernel) fun t hf y => ?_
  have hr : t.val % 16 = 15 := (flush0_2 t).1 hf
  blk_simp
  rw [after0_2]
  change S256x576.Idx at y
  obtain ⟨r, x, rfl⟩ : ∃ (r : Fin 256) (x : Fin 576), y = ix2 r x := ⟨_, _, eq_ix2 y⟩
  rw [out_apply m c t hr r x]
  have e0 : (win0_2.blk t).view.emb (ix2 r x) = (ix2 r x : S256x576.Idx) := by blk_ext [(idx t).2.2, ix2]
  rw [e0]
  rfl

/-- The reference's result at an index. -/
theorem ref_apply (a : Vec Ideal S8192x256 .f32) (b : Vec Ideal S8192x576 .f32) :
    (transpose S256x576 [1, 0] (Host.dotGeneral (F := Ideal) (φ₁ := .f32) (φ₂ := .f32) Cert.UqDwReferenceIdeal.dot_S8192x576_S8192x256_S576x256_0_0_1_1_n_n none b a) Cert.UqDwReferenceIdeal.Gen.transposes_S576x256_S256x576_1_0 : Vec Ideal S256x576 .f32)
      = fun i : S256x576.Idx => ∑ k : Fin 8192, a (ix2 k (i 0)) * b (ix2 k (i 1)) := by
  funext i
  obtain ⟨r, x, rfl⟩ : ∃ (r : Fin 256) (x : Fin 576), i = ix2 r x := ⟨_, _, eq_ix2 i⟩
  pointwise
  exact Finset.sum_congr rfl fun k _ => mul_comm _ _

theorem frame : Cert.quiescent_UqDw (hUqDw := Cert.UqDw.Gen.facts) := fun m ρ _ => by
  rw [show Cert.UqDw.defs (F := Bits) = Cert.UqDwIdeal.defs from congrArg (Pipeline.defs _) (table_ext fun _ => rfl)]
  exact Cert.UqDwIdeal.Gen.frame (F := Bits) m ρ

theorem frame_reference : Cert.quiescent_UqDwReferenceIdeal (hUqDwReferenceIdeal := Cert.UqDwReferenceIdeal.Gen.facts) :=
  fun m ρ _ => (θ_run Cert.UqDwReferenceIdeal.defs _ _).mono
    (fun r h => ⟨fun c => (h c).2, sem_eq_zero_of_no_sems (by decide) r.2⟩)
    (Cert.UqDwReferenceIdeal.Value.run (F := Ideal) m ρ)

theorem algebraic : Cert.algebraic_UqDwIdeal_UqDwReferenceIdeal (hUqDwIdeal := Cert.UqDwIdeal.Gen.facts)
    (hUqDwReferenceIdeal := Cert.UqDwReferenceIdeal.Gen.facts) := by
  intro m g m' g' _ he
  refine ⟨fun c => fun i : S256x576.Idx => prod m c (i 0) (i 1), ?_, ?_⟩
  · refine (θ_run Cert.UqDwIdeal.defs _ _).mono (fun r h c => ?_) (Cert.UqDwIdeal.Value.run (F := Ideal) m g)
    exact ⟨(h c).1.trans ((Cert.UqDwIdeal.Value.final2 m c).symm.trans (array m c)), (h c).2⟩
  · refine (θ_run Cert.UqDwReferenceIdeal.defs _ _).mono (fun r h c => ?_) (Cert.UqDwReferenceIdeal.Value.run (F := Ideal) m' g')
    refine ⟨(h c).1.trans ?_, (h c).2⟩
    rw [(he c).1, (he c).2.2]
    exact ref_apply _ _

end Cert.Prod.UqDw

end
-- ==== Proof.ProdUkv.lean ====
/- The product of the normalised key and value latents with their up projection. -/
module

public import proofs.«01_k».proof.Proof.Gen.UkvIdeal.Value
public import proofs.«01_k».proof.Proof.Gen.UkvReferenceIdeal.Run
public import proofs.«01_k».proof.Proof.Gen.Ukv
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.Ukv

open Idealize.ShloMosaic Idealize.ShloMosaic.TcCoe Idealize.SL.Sem Cert.UkvIdeal Cert.UkvIdeal.Gen

/-! ## What a point of the grid leaves -/

section Run

variable {F : FTy → Type} [FloatOps F]

variable (c : Dev nD) (i : grid0.Coords)
  (arg3 : Memref sig .tc .vmem S1024x128 .bf16) (harg3 : arg3.IsWhole)
  (arg4 : Memref sig .tc .vmem S128x768 .bf16) (harg4 : arg4.IsWhole)
  (arg5 : Memref sig .tc .vmem S1024x768 .f32) (harg5 : arg5.IsWhole)
  (arg6 : Memref sig .tc .vmem S1024x768 .f32) (harg6 : arg6.IsWhole)
  (a : Vec F S1024x128 .bf16) (b : Vec F S128x768 .bf16)

theorem result (hc0 : cond0_0 i) (hc1 : cond0_1 i) :
    out0_A_2 c i arg3 harg3 arg4 harg4 arg5 harg5 arg6 harg6 hc0 hc1 a b = k0_pay2 k0_pay1 a b := by
  unfold out0_A_2
  rw [View.read_writes_eq_canon _ _ _ (cover0_A_2 c i arg3 harg3 arg4 harg4 arg5 harg5 arg6 harg6 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x128) hz, View.ld_unit_zero (S := S128x768) hz]

end Run

/-! ## Over the extended reals -/

theorem prod_apply (a : Vec Ideal S1024x128 .bf16) (b : Vec Ideal S128x768 .bf16) (r : Fin 1024) (x : Fin 768) :
    k0_pay2 k0_pay1 a b (ix2 r x) = ∑ k : Fin 128, a (ix2 r k) * b (ix2 k x) := by
  pointwise [k0_pay2, k0_pay1]

variable (m : (ℓ : Loc nD τ sig) → Buf (Elt Ideal) ℓ) (c : Dev nD)

/-- The factors' entries, by the row or column of the product and the place in its sum. -/
def lhs (i : Fin 8192) (k : Fin 128) : EReal := (m ((c : Thread nD τ).loc main_arg0) : Vec Ideal S8192x128 .f32) (ix2 i k)
def rhs (j : Fin 768) (k : Fin 128) : EReal := (m ((c : Thread nD τ).loc main_arg1) : Vec Ideal S128x768 .f32) (ix2 k j)

def prod (i : Fin 8192) (j : Fin 768) : EReal := ∑ k : Fin 128, lhs m c i k * rhs m c j k

theorem entry_lhs (i : Fin 8192) (k : Fin 128) : (V m c main_v0 : Vec Ideal S8192x128 .bf16) (ix2 i k) = lhs m c i k := by
  refine Eq.trans (congrFun (?_ : _ = (m ((c : Thread nD τ).loc main_arg0) : Vec Ideal S8192x128 .f32)) _) rfl
  show StableHlo.after hostOps0 (fun b => m (c, b)) _ = _
  after_results <;> rfl

theorem entry_rhs (j : Fin 768) (k : Fin 128) : (V m c main_v1 : Vec Ideal S128x768 .bf16) (ix2 k j) = rhs m c j k := by
  refine Eq.trans (congrFun (?_ : _ = (m ((c : Thread nD τ).loc main_arg1) : Vec Ideal S128x768 .f32)) _) rfl
  show StableHlo.after hostOps0 (fun b => m (c, b)) _ = _
  after_results <;> rfl

theorem idx : ∀ t : Fin cfg0.N, win0_0.index t = ![t.val, 0] ∧ win0_1.index t = ![0, 0]
    ∧ win0_2.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 128) :
    iblk m c 0 t (ix2 r k) = lhs m c (row t r) k := by
  refine Eq.trans ?_ (entry_lhs m c _ _)
  blk_simp [iblk]
  refine congrArg (V m c main_v0) ?_
  blk_ext [(idx t).1, ix2]

theorem blk_rhs (t : Fin cfg0.N) (x : Fin 768) (k : Fin 128) :
    iblk m c 1 t (ix2 k x) = rhs m c x k := by
  refine Eq.trans ?_ (entry_rhs m c _ _)
  blk_simp [iblk]
  refine congrArg (V m c main_v1) ?_
  blk_ext [(idx t).2.1, ix2]

theorem out_apply (t : Fin cfg0.N) (r : Fin 1024) (x : Fin 768) : ((outsAt0 m c t) (ix2 r x) : EReal) = prod m c (row t r) x := by
  dsimp only [outsAt0]
  rw [result, prod_apply]
  exact Finset.sum_congr rfl fun k _ => by rw [blk_lhs, blk_rhs]

theorem array : (dats m 0 c).arrAt 2 cfg0.N = fun i : S8192x768.Idx => prod m c (i 0) (i 1) := by
  refine (dats m 0 c).arrAt_eq_of_covers 2 _ (by decide +kernel) fun t hf y => ?_
  blk_simp
  rw [after0_2]
  change S1024x768.Idx at y
  obtain ⟨r, x, rfl⟩ : ∃ (r : Fin 1024) (x : Fin 768), y = ix2 r x := ⟨_, _, eq_ix2 y⟩
  rw [out_apply m c t r x]
  have e0 : (win0_2.blk t).view.emb (ix2 r x) = (ix2 (row t r) x : S8192x768.Idx) := by blk_ext [(idx t).2.2, ix2]
  rw [e0]
  rfl

/-- The reference's result at an index. -/
theorem ref_apply (a : Vec Ideal S8192x128 .f32) (b : Vec Ideal S128x768 .f32) :
    (Host.dotGeneral (F := Ideal) (φ₁ := .f32) (φ₂ := .f32) Cert.UkvReferenceIdeal.dot_S8192x128_S128x768_S8192x768_1_0_0_1_n_n none a b : Vec Ideal S8192x768 .f32)
      = fun i : S8192x768.Idx => ∑ k : Fin 128, a (ix2 (i 0) k) * b (ix2 k (i 1)) := by
  funext i
  obtain ⟨r, x, rfl⟩ : ∃ (r : Fin 8192) (x : Fin 768), i = ix2 r x := ⟨_, _, eq_ix2 i⟩
  pointwise

theorem frame : Cert.quiescent_Ukv (hUkv := Cert.Ukv.Gen.facts) := fun m ρ _ => by
  rw [show Cert.Ukv.defs (F := Bits) = Cert.UkvIdeal.defs from congrArg (Pipeline.defs _) (table_ext fun _ => rfl)]
  exact Cert.UkvIdeal.Gen.frame (F := Bits) m ρ

theorem frame_reference : Cert.quiescent_UkvReferenceIdeal (hUkvReferenceIdeal := Cert.UkvReferenceIdeal.Gen.facts) :=
  fun m ρ _ => (θ_run Cert.UkvReferenceIdeal.defs _ _).mono
    (fun r h => ⟨fun c => (h c).2, sem_eq_zero_of_no_sems (by decide) r.2⟩)
    (Cert.UkvReferenceIdeal.Value.run (F := Ideal) m ρ)

theorem algebraic : Cert.algebraic_UkvIdeal_UkvReferenceIdeal (hUkvIdeal := Cert.UkvIdeal.Gen.facts)
    (hUkvReferenceIdeal := Cert.UkvReferenceIdeal.Gen.facts) := by
  intro m g m' g' _ he
  refine ⟨fun c => fun i : S8192x768.Idx => prod m c (i 0) (i 1), ?_, ?_⟩
  · refine (θ_run Cert.UkvIdeal.defs _ _).mono (fun r h c => ?_) (Cert.UkvIdeal.Value.run_blocks (F := Ideal) m g)
    exact ⟨(h c).1.trans (array m c), (h c).2⟩
  · refine (θ_run Cert.UkvReferenceIdeal.defs _ _).mono (fun r h c => ?_) (Cert.UkvReferenceIdeal.Value.run (F := Ideal) m' g')
    refine ⟨(h c).1.trans ?_, (h c).2⟩
    rw [(he c).1, (he c).2]
    exact ref_apply _ _

end Cert.Prod.Ukv

end
-- ==== Proof.ProdUkvDx.lean ====
/- The gradient of the normalised key and value latents. -/
module

public import proofs.«01_k».proof.Proof.Gen.UkvDxIdeal.Value
public import proofs.«01_k».proof.Proof.Gen.UkvDxReferenceIdeal.Run
public import proofs.«01_k».proof.Proof.Gen.UkvDx
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.UkvDx

open Idealize.ShloMosaic Idealize.ShloMosaic.TcCoe Idealize.SL.Sem Cert.UkvDxIdeal Cert.UkvDxIdeal.Gen

/-! ## What a point of the grid leaves -/

section Run

variable {F : FTy → Type} [FloatOps F]

variable (c : Dev nD) (i : grid0.Coords)
  (arg3 : Memref sig .tc .vmem S1024x768 .f32) (harg3 : arg3.IsWhole)
  (arg4 : Memref sig .tc .vmem S128x768 .bf16) (harg4 : arg4.IsWhole)
  (arg5 : Memref sig .tc .vmem S1024x128 .f32) (harg5 : arg5.IsWhole)
  (arg6 : Memref sig .tc .vmem S1024x128 .f32) (harg6 : arg6.IsWhole)
  (a : Vec F S1024x768 .f32) (b : Vec F S128x768 .bf16)

theorem result (hc0 : cond0_0 i) (hc1 : cond0_1 i) :
    out0_A_2 c i arg3 harg3 arg4 harg4 arg5 harg5 arg6 harg6 hc0 hc1 a b = k0_pay2 k0_pay1 a b := by
  unfold out0_A_2
  rw [View.read_writes_eq_canon _ _ _ (cover0_A_2 c i arg3 harg3 arg4 harg4 arg5 harg5 arg6 harg6 hc0 hc1 a b)]
  unfold kernelRun0_A
  dsimp only
  unfold kernelRun0_A.sl.v16 kernelRun0_A.sl.HS0_2
  unfold kernelRun0_A.sl.v3 kernelRun0_A.sl.HS0_1
  rw [View.canon_cons_unit_zero hz, View.readCov_full, View.readCov_full]
  simp only [View.readAt_eq_ld, harg3.read_unread, harg4.read_unread, View.ld_unit_zero (S := S1024x768) hz, View.ld_unit_zero (S := S128x768) hz]

end Run

/-! ## Over the extended reals -/

theorem prod_apply (a : Vec Ideal S1024x768 .f32) (b : Vec Ideal S128x768 .bf16) (r : Fin 1024) (x : Fin 128) :
    k0_pay2 k0_pay1 a b (ix2 r x) = ∑ k : Fin 768, a (ix2 r k) * b (ix2 x k) := by
  pointwise [k0_pay2, k0_pay1]

variable (m : (ℓ : Loc nD τ sig) → Buf (Elt Ideal) ℓ) (c : Dev nD)

/-- The factors' entries, by the row or column of the product and the place in its sum. -/
def lhs (i : Fin 8192) (k : Fin 768) : EReal := (m ((c : Thread nD τ).loc main_arg2) : Vec Ideal S8192x768 .f32) (ix2 i k)
def rhs (j : Fin 128) (k : Fin 768) : EReal := (m ((c : Thread nD τ).loc main_arg1) : Vec Ideal S128x768 .f32) (ix2 j k)

def prod (i : Fin 8192) (j : Fin 128) : EReal := ∑ k : Fin 768, lhs m c i k * rhs m c j k

theorem entry_lhs (i : Fin 8192) (k : Fin 768) : (V m c main_arg2 : Vec Ideal S8192x768 .f32) (ix2 i k) = lhs m c i k := by
  refine Eq.trans (congrFun (?_ : _ = (m ((c : Thread nD τ).loc main_arg2) : Vec Ideal S8192x768 .f32)) _) rfl
  show StableHlo.after hostOps0 (fun b => m (c, b)) _ = _
  after_results <;> rfl

theorem entry_rhs (j : Fin 128) (k : Fin 768) : (V m c main_v0 : Vec Ideal S128x768 .bf16) (ix2 j k) = rhs m c j k := by
  refine Eq.trans (congrFun (?_ : _ = (m ((c : Thread nD τ).loc main_arg1) : Vec Ideal S128x768 .f32)) _) rfl
  show StableHlo.after hostOps0 (fun b => m (c, b)) _ = _
  after_results <;> rfl

theorem idx : ∀ t : Fin cfg0.N, win0_0.index t = ![t.val, 0] ∧ win0_1.index t = ![0, 0]
    ∧ win0_2.index t = ![t.val, 0] := (by decide +kernel : ∀ t : Fin grid0.N, _)

/-- Where an entry of a point's blocks lies in the arrays. -/
abbrev row (t : Fin cfg0.N) (r : Fin 1024) : Fin 8192 := ⟨t.val * 1024 + r.val, by have h : t.val < 8 := lt_of_lt_of_eq t.isLt N_0; omega⟩

theorem blk_lhs (t : Fin cfg0.N) (r : Fin 1024) (k : Fin 768) :
    iblk m c 0 t (ix2 r k) = lhs m c (row t r) k := by
  refine Eq.trans ?_ (entry_lhs m c _ _)
  blk_simp [iblk]
  refine congrArg (V m c main_arg2) ?_
  blk_ext [(idx t).1, ix2]

theorem blk_rhs (t : Fin cfg0.N) (x : Fin 128) (k : Fin 768) :
    iblk m c 1 t (ix2 x k) = rhs m c x k := by
  refine Eq.trans ?_ (entry_rhs m c _ _)
  blk_simp [iblk]
  refine congrArg (V m c main_v0) ?_
  blk_ext [(idx t).2.1, ix2]

theorem out_apply (t : Fin cfg0.N) (r : Fin 1024) (x : Fin 128) : ((outsAt0 m c t) (ix2 r x) : EReal) = prod m c (row t r) x := by
  dsimp only [outsAt0]
  rw [result, prod_apply]
  exact Finset.sum_congr rfl fun k _ => by rw [blk_lhs, blk_rhs]

theorem array : (dats m 0 c).arrAt 2 cfg0.N = fun i : S8192x128.Idx => prod m c (i 0) (i 1) := by
  refine (dats m 0 c).arrAt_eq_of_covers 2 _ (by decide +kernel) fun t hf y => ?_
  blk_simp
  rw [after0_2]
  change S1024x128.Idx at y
  obtain ⟨r, x, rfl⟩ : ∃ (r : Fin 1024) (x : Fin 128), y = ix2 r x := ⟨_, _, eq_ix2 y⟩
  rw [out_apply m c t r x]
  have e0 : (win0_2.blk t).view.emb (ix2 r x) = (ix2 (row t r) x : S8192x128.Idx) := by blk_ext [(idx t).2.2, ix2]
  rw [e0]
  rfl

/-- The reference's result at an index. -/
theorem ref_apply (a : Vec Ideal S8192x768 .f32) (b : Vec Ideal S128x768 .f32) :
    (Host.dotGeneral (F := Ideal) (φ₁ := .f32) (φ₂ := .f32) Cert.UkvDxReferenceIdeal.dot_S8192x768_S128x768_S8192x128_1_1_0_0_n_n none a b : Vec Ideal S8192x128 .f32)
      = fun i : S8192x128.Idx => ∑ k : Fin 768, a (ix2 (i 0) k) * b (ix2 (i 1) k) := by
  funext i
  obtain ⟨r, x, rfl⟩ : ∃ (r : Fin 8192) (x : Fin 128), i = ix2 r x := ⟨_, _, eq_ix2 i⟩
  pointwise

theorem frame : Cert.quiescent_UkvDx (hUkvDx := Cert.UkvDx.Gen.facts) := fun m ρ _ => by
  rw [show Cert.UkvDx.defs (F := Bits) = Cert.UkvDxIdeal.defs from congrArg (Pipeline.defs _) (table_ext fun _ => rfl)]
  exact Cert.UkvDxIdeal.Gen.frame (F := Bits) m ρ

theorem frame_reference : Cert.quiescent_UkvDxReferenceIdeal (hUkvDxReferenceIdeal := Cert.UkvDxReferenceIdeal.Gen.facts) :=
  fun m ρ _ => (θ_run Cert.UkvDxReferenceIdeal.defs _ _).mono
    (fun r h => ⟨fun c => (h c).2, sem_eq_zero_of_no_sems (by decide) r.2⟩)
    (Cert.UkvDxReferenceIdeal.Value.run (F := Ideal) m ρ)

theorem algebraic : Cert.algebraic_UkvDxIdeal_UkvDxReferenceIdeal (hUkvDxIdeal := Cert.UkvDxIdeal.Gen.facts)
    (hUkvDxReferenceIdeal := Cert.UkvDxReferenceIdeal.Gen.facts) := by
  intro m g m' g' _ he
  refine ⟨fun c => fun i : S8192x128.Idx => prod m c (i 0) (i 1), ?_, ?_⟩
  · refine (θ_run Cert.UkvDxIdeal.defs _ _).mono (fun r h c => ?_) (Cert.UkvDxIdeal.Value.run_blocks (F := Ideal) m g)
    exact ⟨(h c).1.trans (array m c), (h c).2⟩
  · refine (θ_run Cert.UkvDxReferenceIdeal.defs _ _).mono (fun r h c => ?_) (Cert.UkvDxReferenceIdeal.Value.run (F := Ideal) m' g')
    refine ⟨(h c).1.trans ?_, (h c).2⟩
    rw [(he c).2.1, (he c).2.2]
    exact ref_apply _ _

end Cert.Prod.UkvDx

end
-- ==== Proof.ProdUkvDw.lean ====
/- The gradient of the key and value latents' up projection. -/
module

public import proofs.«01_k».proof.Proof.Gen.UkvDwIdeal.Value
public import proofs.«01_k».proof.Proof.Gen.UkvDwReferenceIdeal.Run
public import proofs.«01_k».proof.Proof.Gen.UkvDw
public import proofs.«01_k».proof.Defs
public import Idealize.ShloMosaic.Lib.Pointwise
public import Idealize.ShloMosaic.Lib.Quiescent
public import Idealize.ShloMosaic.Lib.VecWindow
public import proofs.«01_k».proof.Proof.Prod

@[expose] public section

set_option maxRecDepth 16384

noncomputable section

namespace Cert.Prod.UkvDw

open Idealize.ShloMosaic Idealize.ShloMosaic.TcCoe Idealize.SL.Sem Cert.UkvDwIdeal Cert.UkvDwIdeal.Gen

/-! ## What a point of the grid leaves -/

section Run

variable {F : FTy → Type} [FloatOps F]

variable (c : Dev nD) (i : grid0.Coords)
  (arg3 : Memref sig .tc .vmem S512x128 .bf16) (harg3 : arg3.IsWhole)
  (arg4 : Memref sig .tc .vmem S512x768 .f32) (harg4 : arg4.IsWhole)
  (arg5 : Memref sig .tc .vmem S128x768 .f32) (harg5 : arg5.IsWhole)
  (arg6 : Memref sig .tc .vmem S128x768 .f32) (harg6 : arg6.IsWhole)
  (a : Vec F S512x128 .bf16) (b : Vec F S512x768 .f32) (s : Vec F S128x768 .f32)

theorem first (hc0 : cond0_0 i) (hc1 : ¬cond0_1 i) :
    sout0_A_0 c i arg3 harg3 arg4 harg4 arg5 harg5 arg6 harg6 hc0 hc1 a b = k0_pay2 k0_pay1 a b := by
  unfold sout0_A_0
  rw [View.read_writes_eq_canon _ _ _ (scover0_A_0 c i arg3 harg3 arg4 harg4 arg5 harg5 arg6 harg6 hc0 hc1 a b)]
  unfold kernelRun0_A
  dsimp only
  unfold kernelRun0_A.sl.v3 kernelRun0_A.sl.HS0_1
  rw [View.canon_cons_unit_zero hz, View.readCov_unit_zero _ hz]
  simp only [View.readAt_eq_ld, harg3.read_unread, harg4.read_unread, View.ld_unit_zero (S := S128x768) hz, View.ld_unit_zero (S := S512x128) hz, View.ld_unit_zero (S := S512x768) hz]

theorem next (hc0 : ¬cond0_0 i) (hc1 : ¬cond0_1 i) :
    sout0_B_0 c i arg3 harg3 arg4 harg4 arg5 harg5 arg6 harg6 hc0 hc1 a b s = k0_pay2 s a b := by
  unfold sout0_B_0
  rw [View.read_writes_eq_canon _ _ _ (scover0_B_0 c i arg3 harg3 arg4 harg4 arg5 harg5 arg6 harg6 hc0 hc1 a b s)]
  unfold kernelRun0_B
  dsimp only
  rw [View.canon_cons_unit_zero hz]
  simp only [View.readAt_eq_ld, harg3.read_unread, harg4.read_unread, harg6.read_unread, View.ld_unit_zero (S := S128x768) hz, View.ld_unit_zero (S := S512x128) hz, View.ld_unit_zero (S := S512x768) hz]

theorem last (hc0 : ¬cond0_0 i) (hc1 : cond0_1 i) :
    sout0_C_0 c i arg3 harg3 arg4 harg4 arg5 harg5 arg6 harg6 hc0 hc1 a b s = k0_pay2 s a b := by
  unfold sout0_C_0
  rw [View.read_writes_eq_canon _ _ _ (scover0_C_0 c i arg3 harg3 arg4 harg4 arg5 harg5 arg6 harg6 hc0 hc1 a b s)]
  unfold kernelRun0_C
  dsimp only
  unfold kernelRun0_C.sl.HS0_1
  rw [View.canon_cons_unit_zero hz]
  simp only [View.readAt_eq_ld, harg3.read_unread, harg4.read_unread, harg6.read_unread, View.ld_unit_zero (S := S128x768) hz, View.ld_unit_zero (S := S512x128) hz, View.ld_unit_zero (S := S512x768) hz]

theorem result (hc0 : ¬cond0_0 i) (hc1 : cond0_1 i) :
    out0_C_2 c i arg3 harg3 arg4 harg4 arg5 harg5 arg6 harg6 hc0 hc1 a b s = k0_pay2 s a b := by
  unfold out0_C_2
  rw [View.read_writes_eq_canon _ _ _ (cover0_C_2 c i arg3 harg3 arg4 harg4 arg5 harg5 arg6 harg6 hc0 hc1 a b s)]
  unfold kernelRun0_C
  dsimp only
  unfold kernelRun0_C.sl.v16 kernelRun0_C.sl.HS0_1
  rw [View.canon_cons_unit_zero hz, View.readCov_unit_zero _ hz]
  simp only [View.readAt_eq_ld, harg3.read_unread, harg4.read_unread, harg6.read_unread, View.ld_unit_zero (S := S128x768) hz, View.ld_unit_zero (S := S512x128) hz, View.ld_unit_zero (S := S512x768) hz]

end Run

/-! ## Over the extended reals -/

theorem first_apply (a : Vec Ideal S512x128 .bf16) (b : Vec Ideal S512x768 .f32) (r : Fin 128) (x : Fin 768) :
    k0_pay2 k0_pay1 a b (ix2 r x) = ∑ k : Fin 512, a (ix2 k r) * b (ix2 k x) := by
  pointwise [k0_pay2, k0_pay1]

theorem next_apply (s : Vec Ideal S128x768 .f32) (a : Vec Ideal S512x128 .bf16) (b : Vec Ideal S512x768 .f32)
    (r : Fin 128) (x : Fin 768) : k0_pay2 s a b (ix2 r x) = s (ix2 r x) + ∑ k : Fin 512, a (ix2 k r) * b (ix2 k x) := by
  pointwise [k0_pay2]

variable (m : (ℓ : Loc nD τ sig) → Buf (Elt Ideal) ℓ) (c : Dev nD)

/-- The factors' entries, by the row or column of the product and the place in its sum. -/
def lhs (i : Fin 128) (k : Fin 8192) : EReal := (m ((c : Thread nD τ).loc main_arg0) : Vec Ideal S8192x128 .f32) (ix2 k i)
def rhs (j : Fin 768) (k : Fin 8192) : EReal := (m ((c : Thread nD τ).loc main_arg2) : Vec Ideal S8192x768 .f32) (ix2 k j)

def prod (i : Fin 128) (j : Fin 768) : EReal := ∑ k : Fin 8192, lhs m c i k * rhs m c j k

theorem entry_lhs (i : Fin 128) (k : Fin 8192) : (V m c main_v0 : Vec Ideal S8192x128 .bf16) (ix2 k i) = lhs m c i k := by
  refine Eq.trans (congrFun (?_ : _ = (m ((c : Thread nD τ).loc main_arg0) : Vec Ideal S8192x128 .f32)) _) rfl
  show StableHlo.after hostOps0 (fun b => m (c, b)) _ = _
  after_results <;> rfl

theorem entry_rhs (j : Fin 768) (k : Fin 8192) : (V m c main_arg2 : Vec Ideal S8192x768 .f32) (ix2 k j) = rhs m c j k := by
  refine Eq.trans (congrFun (?_ : _ = (m ((c : Thread nD τ).loc main_arg2) : Vec Ideal S8192x768 .f32)) _) rfl
  show StableHlo.after hostOps0 (fun b => m (c, b)) _ = _
  after_results <;> rfl

theorem idx : ∀ t : Fin cfg0.N, win0_0.index t = ![t.val % 16, 0] ∧ win0_1.index t = ![t.val % 16, 0]
    ∧ win0_2.index t = ![0, 0] := (by decide +kernel : ∀ t : Fin grid0.N, _)

/-- Where an entry of a point's blocks lies in the arrays. -/
abbrev mid (t : Fin cfg0.N) (k : Fin 512) : Fin 8192 := ⟨t.val % 16 * 512 + k.val, by omega⟩

theorem blk_lhs (t : Fin cfg0.N) (r : Fin 128) (k : Fin 512) :
    iblk m c 0 t (ix2 k r) = lhs m c r (mid t k) := by
  refine Eq.trans ?_ (entry_lhs m c _ _)
  blk_simp [iblk]
  refine congrArg (V m c main_v0) ?_
  blk_ext [(idx t).1, ix2]

theorem blk_rhs (t : Fin cfg0.N) (x : Fin 768) (k : Fin 512) :
    iblk m c 1 t (ix2 k x) = rhs m c x (mid t k) := by
  refine Eq.trans ?_ (entry_rhs m c _ _)
  blk_simp [iblk]
  refine congrArg (V m c main_arg2) ?_
  blk_ext [(idx t).2.1, ix2]

/-- The entries of a point's tiles. -/
abbrev tile0 (t : Fin cfg0.N) (r : Fin 128) (k : Fin 512) : EReal := iblk m c 0 t (ix2 k r)
abbrev tile1 (t : Fin cfg0.N) (x : Fin 768) (k : Fin 512) : EReal := iblk m c 1 t (ix2 k x)

theorem sum_first (t : Fin cfg0.N) (h0 : t.val % 16 = 0) (r : Fin 128) (x : Fin 768) :
    ((outsAt0 m c t.val t.isLt).2 (ix2 r x) : EReal) = ∑ k : Fin 512, tile0 m c t r k * tile1 m c t x k := by
  rw [outsAt0_A m c t h0 (by omega)]
  dsimp only
  rw [first, first_apply]

theorem sum_next (t : Fin cfg0.N) (h0 : ¬t.val % 16 = 0) (r : Fin 128) (x : Fin 768) :
    ((outsAt0 m c t.val t.isLt).2 (ix2 r x) : EReal)
      = (outsAt0 m c (t.val - 1) (Nat.lt_of_le_of_lt (Nat.sub_le _ _) t.isLt)).2 (ix2 r x)
        + ∑ k : Fin 512, tile0 m c t r k * tile1 m c t x k := by
  by_cases h1 : t.val % 16 = 15
  · rw [outsAt0_C m c t h0 h1]
    dsimp only
    rw [last, next_apply]
  · rw [outsAt0_B m c t h0 h1]
    dsimp only
    rw [next, next_apply]

theorem sum_apply (t : Fin cfg0.N) (hr : t.val % 16 = 15) (r : Fin 128) (x : Fin 768) :
    ((outsAt0 m c t.val t.isLt).2 (ix2 r x) : EReal) = prod m c r x :=
  prod_tiles (NK := 16) (KS := 512) (by norm_num) (X := lhs m c) (Y := rhs m c) (row := fun _ r => r) (col := fun _ x => x)
    (fun _ _ _ => rfl) (fun _ _ _ => rfl)
    (f := fun n h r x => ((outsAt0 m c n h).2 (ix2 r x) : EReal)) (blk_lhs m c) (blk_rhs m c)
    (sum_first m c) (sum_next m c) t hr r x

theorem out_apply (t : Fin cfg0.N) (hr : t.val % 16 = 15) (r : Fin 128) (x : Fin 768) :
    ((outsAt0 m c t.val t.isLt).1 (ix2 r x) : EReal) = prod m c r x := by
  rw [← sum_apply m c t hr, outsAt0_C m c t (by omega) hr]
  dsimp only
  rw [last, result]

theorem array : (dats m 0 c).arrAt 2 cfg0.N = fun i : S128x768.Idx => prod m c (i 0) (i 1) := by
  refine (dats m 0 c).arrAt_eq_of_covers 2 _ (by decide +kernel) fun t hf y => ?_
  have hr : t.val % 16 = 15 := (flush0_2 t).1 hf
  blk_simp
  rw [after0_2]
  change S128x768.Idx at y
  obtain ⟨r, x, rfl⟩ : ∃ (r : Fin 128) (x : Fin 768), y = ix2 r x := ⟨_, _, eq_ix2 y⟩
  rw [out_apply m c t hr r x]
  have e0 : (win0_2.blk t).view.emb (ix2 r x) = (ix2 r x : S128x768.Idx) := by blk_ext [(idx t).2.2, ix2]
  rw [e0]
  rfl

/-- The reference's result at an index. -/
theorem ref_apply (a : Vec Ideal S8192x128 .f32) (b : Vec Ideal S8192x768 .f32) :
    (transpose S128x768 [1, 0] (Host.dotGeneral (F := Ideal) (φ₁ := .f32) (φ₂ := .f32) Cert.UkvDwReferenceIdeal.dot_S8192x768_S8192x128_S768x128_0_0_1_1_n_n none b a) Cert.UkvDwReferenceIdeal.Gen.transposes_S768x128_S128x768_1_0 : Vec Ideal S128x768 .f32)
      = fun i : S128x768.Idx => ∑ k : Fin 8192, a (ix2 k (i 0)) * b (ix2 k (i 1)) := by
  funext i
  obtain ⟨r, x, rfl⟩ : ∃ (r : Fin 128) (x : Fin 768), i = ix2 r x := ⟨_, _, eq_ix2 i⟩
  pointwise
  exact Finset.sum_congr rfl fun k _ => mul_comm _ _

theorem frame : Cert.quiescent_UkvDw (hUkvDw := Cert.UkvDw.Gen.facts) := fun m ρ _ => by
  rw [show Cert.UkvDw.defs (F := Bits) = Cert.UkvDwIdeal.defs from congrArg (Pipeline.defs _) (table_ext fun _ => rfl)]
  exact Cert.UkvDwIdeal.Gen.frame (F := Bits) m ρ

theorem frame_reference : Cert.quiescent_UkvDwReferenceIdeal (hUkvDwReferenceIdeal := Cert.UkvDwReferenceIdeal.Gen.facts) :=
  fun m ρ _ => (θ_run Cert.UkvDwReferenceIdeal.defs _ _).mono
    (fun r h => ⟨fun c => (h c).2, sem_eq_zero_of_no_sems (by decide) r.2⟩)
    (Cert.UkvDwReferenceIdeal.Value.run (F := Ideal) m ρ)

theorem algebraic : Cert.algebraic_UkvDwIdeal_UkvDwReferenceIdeal (hUkvDwIdeal := Cert.UkvDwIdeal.Gen.facts)
    (hUkvDwReferenceIdeal := Cert.UkvDwReferenceIdeal.Gen.facts) := by
  intro m g m' g' _ he
  refine ⟨fun c => fun i : S128x768.Idx => prod m c (i 0) (i 1), ?_, ?_⟩
  · refine (θ_run Cert.UkvDwIdeal.defs _ _).mono (fun r h c => ?_) (Cert.UkvDwIdeal.Value.run (F := Ideal) m g)
    exact ⟨(h c).1.trans ((Cert.UkvDwIdeal.Value.final2 m c).symm.trans (array m c)), (h c).2⟩
  · refine (θ_run Cert.UkvDwReferenceIdeal.defs _ _).mono (fun r h c => ?_) (Cert.UkvDwReferenceIdeal.Value.run (F := Ideal) m' g')
    refine ⟨(h c).1.trans ?_, (h c).2⟩
    rw [(he c).1, (he c).2.2]
    exact ref_apply _ _

end Cert.Prod.UkvDw

end
-- ==== Proof.Norm.lean ====
/- The norm's factor of a row and the cotangent of a row, shared by the calls of the norm at each width. -/
module

public import Idealize.ShloMosaic.Lib.Pointwise
public import Idealize.ShloMosaic.PureOps.Ideal.Laws

@[expose] public section

noncomputable section

namespace Cert.RmsNorm

open Idealize.ShloMosaic

variable {n : ℕ}

/-- The mean of a row's squares and the epsilon. `d` is the length of the row. -/
def spread (d : EReal) (a : Fin n → EReal) : EReal := Ideal.div (∑ k, a k * a k) d + Ideal.ofBits .f32 0x358637BD#32

/-- A row's factor: one over the root of its spread. -/
def factor (d : EReal) (a : Fin n → EReal) : EReal := Ideal.rsqrt (spread d a)

/-- The cotangent of a row `a`, as the kernel computes it from the cotangent `b` of the row before the gain. -/
def dx (d : EReal) (a b : Fin n → EReal) (j : Fin n) : EReal :=
  factor d a * (b j - a j * factor d a * Ideal.div (∑ k, b k * (a k * factor d a)) d)

/-- The cotangent of a row's sum of squares, as differentiation gives it. -/
def tail (d : EReal) (a b : Fin n → EReal) : EReal :=
  Ideal.div ((∑ k, a k * b k) * (Ideal.ofBits .f32 0xBF000000#32 * Ideal.div (factor d a) (spread d a))) d

/-! ## Sums and products with a real number among extended ones -/

theorem mul_coe_sum {x : ℝ} (hx : 0 ≤ x) (s : Finset (Fin n)) (f : Fin n → EReal) :
    (∑ k ∈ s, f k) * (x : EReal) = ∑ k ∈ s, f k * (x : EReal) := by
  classical
  induction s using Finset.induction_on with
  | empty => simp
  | insert k s hk ih =>
    rw [Finset.sum_insert hk, Finset.sum_insert hk,
      EReal.right_distrib_of_nonneg_of_ne_top (by exact_mod_cast hx) (EReal.coe_ne_top x), ih]

theorem coe_sum (x : Fin n → ℝ) : ∑ k, (x k : EReal) = ((∑ k, x k : ℝ) : EReal) := by
  classical
  induction (Finset.univ : Finset (Fin n)) using Finset.induction_on with
  | empty => simp
  | insert k s hk ih => rw [Finset.sum_insert hk, Finset.sum_insert hk, ih, EReal.coe_add]

/-- A sum twice is the sum times two. -/
theorem mul_add_self (s : EReal) (q : ℝ) : s * (q : EReal) + s * (q : EReal) = s * ((2 * q : ℝ) : EReal) := by
  have h : ((2 * q : ℝ) : EReal) = (q : EReal) * ((2 : ℝ) : EReal) := by rw [← EReal.coe_mul, mul_comm]
  rw [h, ← mul_assoc]
  have h2 : ((2 : ℝ) : EReal) = 1 + 1 := by
    rw [show (2 : ℝ) = 1 + 1 by norm_num, EReal.coe_add, EReal.coe_one]
  rw [h2, EReal.left_distrib_of_nonneg zero_le_one zero_le_one, mul_one]

/-! ## The two forms of the cotangent agree -/

theorem eps_eq : ∃ e : ℝ, 0 < e ∧ (Ideal.ofBits .f32 0x358637BD#32 : EReal) = (e : EReal) := by
  refine ⟨_, ?_, by simp [Ideal.ofBits, Ideal.ieee, -EReal.coe_mul]; rfl⟩
  norm_num

theorem half_eq : (Ideal.ofBits .f32 0xBF000000#32 : EReal) = ((-1 / 2 : ℝ) : EReal) := by
  simp [Ideal.ofBits, Ideal.ieee, -EReal.coe_mul]
  norm_num

/-- A row with an infinite entry has the factor zero. -/
theorem factor_of_infinite {w : ℝ} (hw : 0 < w) (a : Fin n → EReal) (k : Fin n) (h : a k = ⊤ ∨ a k = ⊥) :
    spread (w : EReal) a = ⊤ := by
  obtain ⟨e, -, he⟩ := eps_eq
  have hk : a k * a k = ⊤ := by rcases h with h | h <;> simp [h]
  have hs : ∑ k, a k * a k = ⊤ := by
    refine top_le_iff.1 (hk.symm.le.trans (Finset.single_le_sum (f := fun k => a k * a k) (fun j _ => ?_) (Finset.mem_univ k)))
    show 0 ≤ a j * a j
    induction a j with
    | bot => simp
    | top => simp
    | coe x => rw [← EReal.coe_mul]; exact_mod_cast mul_self_nonneg x
  rw [spread, hs, Ideal.div_coe hw.ne', he, EReal.top_mul_coe_of_pos (by positivity)]
  rfl

theorem dx_eq {w : ℝ} (hw : 0 < w) (a b : Fin n → EReal) (j : Fin n) :
    b j * factor (w : EReal) a + a j * tail (w : EReal) a b + tail (w : EReal) a b * a j = dx (w : EReal) a b j := by
  by_cases h : ∃ k, a k = ⊤ ∨ a k = ⊥
  · obtain ⟨k, hk⟩ := h
    have hs := factor_of_infinite hw a k hk
    have hf : factor (w : EReal) a = 0 := by rw [factor, hs, Ideal.rsqrt_top]
    have ht : tail (w : EReal) a b = 0 := by
      rw [tail, hf, hs, Ideal.div_coe hw.ne']
      simp [Ideal.div]
    rw [dx, ht, hf]
    simp
  · simp only [not_exists, not_or] at h
    obtain ⟨x, hx⟩ : ∃ x : Fin n → ℝ, ∀ k, a k = (x k : EReal) :=
      ⟨fun k => (a k).toReal, fun k => (EReal.coe_toReal (h k).1 (h k).2).symm⟩
    obtain ⟨e, he0, he⟩ := eps_eq
    obtain ⟨v, hv0, hv⟩ : ∃ v : ℝ, 0 < v ∧ spread (w : EReal) a = (v : EReal) := by
      refine ⟨(∑ k, x k * x k) * (1 / w) + e, ?_, ?_⟩
      · have : 0 ≤ ∑ k, x k * x k := Finset.sum_nonneg fun k _ => mul_self_nonneg _
        positivity
      · rw [spread, he, Ideal.div_coe hw.ne', EReal.coe_add, EReal.coe_mul, ← coe_sum]
        simp only [hx, EReal.coe_mul]
    obtain ⟨f, hf0, hfv, hf⟩ : ∃ f : ℝ, 0 < f ∧ f * (1 / v) = f * f * f ∧ factor (w : EReal) a = (f : EReal) := by
      refine ⟨(Real.sqrt v)⁻¹, by positivity, ?_, ?_⟩
      · have h1 : (Real.sqrt v)⁻¹ * (Real.sqrt v)⁻¹ = 1 / v := by
          rw [← mul_inv, Real.mul_self_sqrt hv0.le, one_div]
        rw [← h1, mul_assoc]
      · rw [factor, hv, Ideal.rsqrt_coe, if_neg hv0.not_gt, if_neg hv0.ne']
    have hb : ∑ k, b k * (a k * (f : EReal)) = (∑ k, a k * b k) * (f : EReal) := by
      rw [mul_coe_sum hf0.le]
      exact Finset.sum_congr rfl fun k _ => by rw [← mul_assoc, mul_comm (b k)]
    rw [dx, tail, hf, hv, half_eq, Ideal.div_coe hw.ne', Ideal.div_coe hw.ne', Ideal.div_coe hv0.ne', hb, hx j]
    generalize ∑ k, a k * b k = s
    have hl : (x j : EReal) * (f : EReal) * (s * (f : EReal) * ((1 / w : ℝ) : EReal))
        = s * ((x j * f * f * (1 / w) : ℝ) : EReal) := by
      simp only [EReal.coe_mul]
      ac_rfl
    have hr : (x j : EReal) * (s * (((-1 / 2 : ℝ) : EReal) * ((f : EReal) * ((1 / v : ℝ) : EReal))) * ((1 / w : ℝ) : EReal))
        = s * ((x j * (-1 / 2 * (f * (1 / v))) * (1 / w) : ℝ) : EReal) := by
      simp only [EReal.coe_mul]
      ac_rfl
    rw [hl, mul_comm _ (x j : EReal), hr, add_assoc, mul_add_self, sub_eq_add_neg,
      EReal.left_distrib_of_nonneg_of_ne_top (by exact_mod_cast hf0.le) (EReal.coe_ne_top f), mul_comm (b j),
      ← mul_neg, ← EReal.coe_neg, mul_left_comm (f : EReal) s, ← EReal.coe_mul, hfv]
    congr 3
    ring

end Cert.RmsNorm

end
-- ==== Proof.NormIn.lean ====
/- The norm of the tokens before the mixers and before the feed-forward layer. -/
module

public import proofs.«01_k».proof.Proof.Gen.NormIdeal.Value
public import proofs.«01_k».proof.Proof.Gen.NormReferenceIdeal.Run
public import proofs.«01_k».proof.Proof.Gen.Norm
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.In

open Idealize.ShloMosaic Idealize.ShloMosaic.TcCoe Idealize.SL.Sem Cert.NormIdeal Cert.NormIdeal.Gen Cert.Prod

theorem block_apply (a : Vec Ideal S512x1024 .f32) (b : Vec Ideal S1x1024 .f32) (r : Fin 512) (x : Fin 1024) :
    out0_2 a b (ix2 r x) = a (ix2 r x) * factor (Ideal.ofBits .f32 0x44800000#32) (fun k => a (ix2 r k)) * b (ix2 0 x) := by
  unfold out0_2
  rw [View.canon_cons_unit_zero hz, View.ld_unit_zero (S := S512x1024) hz, View.ld_unit_zero (S := S1x1024) hz]
  pointwise [k0_pay1]
  rfl

variable (m : (ℓ : Loc nD τ sig) → Buf (Elt Ideal) ℓ) (c : Dev nD)

/-- The arguments' entries. -/
def token (i : Fin 8192) (k : Fin 1024) : EReal := (m ((c : Thread nD τ).loc main_arg0) : Vec Ideal S8192x1024 .f32) (ix2 i k)
def gain (k : Fin 1024) : EReal := (m ((c : Thread nD τ).loc main_arg1) : Vec Ideal S1024 .f32) (ix1 k)

def normed (i : Fin 8192) (j : Fin 1024) : EReal := token m c i j * factor (Ideal.ofBits .f32 0x44800000#32) (token m c i) * gain m c j

theorem entry_token (i : Fin 8192) (k : Fin 1024) : (V m c main_arg0 : Vec Ideal S8192x1024 .f32) (ix2 i k) = token m c i k := by
  refine Eq.trans (congrFun (?_ : _ = (m ((c : Thread nD τ).loc main_arg0) : Vec Ideal S8192x1024 .f32)) _) rfl
  show StableHlo.after hostOps0 (fun b => m (c, b)) _ = _
  after_results <;> rfl

theorem entry_gain (k : Fin 1024) : (V m c main_v0 : Vec Ideal S1x1024 .f32) (ix2 0 k) = gain m c k := by
  show StableHlo.after hostOps0 (fun b => m (c, b)) main_v0 _ = _
  after_results
  pointwise
  rfl

theorem idx : ∀ t : Fin cfg0.N, win0_0.index t = ![t.val, 0] ∧ win0_1.index t = ![0, 0]
    ∧ win0_2.index t = ![t.val, 0] := (by decide +kernel : ∀ t : Fin grid0.N, _)

/-- Where a row of a point's block lies in the array. -/
abbrev row (t : Fin cfg0.N) (r : Fin 512) : Fin 8192 := ⟨t.val * 512 + r.val, by have h : t.val < 16 := lt_of_lt_of_eq t.isLt N_0; omega⟩

theorem blk_token (t : Fin cfg0.N) (r : Fin 512) (k : Fin 1024) :
    iblk m c 0 t (ix2 r k) = token m c (row t r) k := by
  refine Eq.trans ?_ (entry_token m c _ _)
  blk_simp [iblk]
  refine congrArg (V m c main_arg0) ?_
  blk_ext [(idx t).1, ix2]

theorem blk_gain (t : Fin cfg0.N) (k : Fin 1024) : iblk m c 1 t (ix2 0 k) = gain m c k := by
  refine Eq.trans ?_ (entry_gain m c _)
  blk_simp [iblk]
  refine congrArg (V m c main_v0) ?_
  blk_ext [(idx t).2.1, ix2]

theorem array : (dats m 0 c).arrAt 2 cfg0.N = fun i : S8192x1024.Idx => normed m c (i 0) (i 1) := by
  refine (dats m 0 c).arrAt_eq_of_covers 2 _ (by decide +kernel) fun t hf y => ?_
  blk_simp
  rw [after0_2]
  change S512x1024.Idx at y
  obtain ⟨r, x, rfl⟩ : ∃ (r : Fin 512) (x : Fin 1024), y = ix2 r x := ⟨_, _, eq_ix2 y⟩
  rw [block_apply, blk_gain, blk_token, funext (blk_token m c t r)]
  have e0 : (win0_2.blk t).view.emb (ix2 r x) = (ix2 (row t r) x : S8192x1024.Idx) := by blk_ext [(idx t).2.2, ix2]
  rw [e0]
  rfl

theorem frame : Cert.quiescent_Norm (hNorm := Cert.Norm.Gen.facts) := fun m ρ _ => by
  rw [show Cert.Norm.defs (F := Bits) = Cert.NormIdeal.defs from congrArg (Pipeline.defs _) (table_ext fun _ => rfl)]
  exact Cert.NormIdeal.Gen.frame (F := Bits) m ρ

theorem frame_reference : Cert.quiescent_NormReferenceIdeal (hNormReferenceIdeal := Cert.NormReferenceIdeal.Gen.facts) :=
  fun m ρ _ => (θ_run Cert.NormReferenceIdeal.defs _ _).mono
    (fun r h => ⟨fun c => (h c).2, sem_eq_zero_of_no_sems (by decide) r.2⟩)
    (Cert.NormReferenceIdeal.Value.run (F := Ideal) m ρ)

theorem algebraic : Cert.algebraic_NormIdeal_NormReferenceIdeal (hNormIdeal := Cert.NormIdeal.Gen.facts)
    (hNormReferenceIdeal := Cert.NormReferenceIdeal.Gen.facts) := by
  intro m g m' g' _ he
  refine ⟨fun c => fun i : S8192x1024.Idx => normed m c (i 0) (i 1), ?_, ?_⟩
  · refine (θ_run Cert.NormIdeal.defs _ _).mono (fun r h c => ?_) (Cert.NormIdeal.Value.run_blocks (F := Ideal) m g)
    exact ⟨(h c).1.trans (array m c), (h c).2⟩
  · refine (θ_run Cert.NormReferenceIdeal.defs _ _).mono (fun r h c => ?_) (Cert.NormReferenceIdeal.Value.run (F := Ideal) m' g')
    refine ⟨(h c).1.trans ?_, (h c).2⟩
    rw [(he c).1, (he c).2]
    funext i
    change S8192x1024.Idx at i
    obtain ⟨r, x, rfl⟩ : ∃ (r : Fin 8192) (x : Fin 1024), i = ix2 r x := ⟨_, _, eq_ix2 i⟩
    pointwise
    rfl

end Cert.RmsNorm.In

end
-- ==== Proof.NormOutAB.lean ====
/- The norm of the outputs of the dense and of the banded heads. -/
module

public import proofs.«01_k».proof.Proof.Gen.NormABIdeal.Value
public import proofs.«01_k».proof.Proof.Gen.NormABReferenceIdeal.Run
public import proofs.«01_k».proof.Proof.Gen.NormAB
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.OutAB

open Idealize.ShloMosaic Idealize.ShloMosaic.TcCoe Idealize.SL.Sem Cert.NormABIdeal Cert.NormABIdeal.Gen Cert.Prod

theorem block_apply (a : Vec Ideal S512x384 .f32) (b : Vec Ideal S1x384 .f32) (r : Fin 512) (x : Fin 384) :
    out0_2 a b (ix2 r x) = a (ix2 r x) * factor (Ideal.ofBits .f32 0x43C00000#32) (fun k => a (ix2 r k)) * b (ix2 0 x) := by
  unfold out0_2
  rw [View.canon_cons_unit_zero hz, View.ld_unit_zero (S := S512x384) hz, View.ld_unit_zero (S := S1x384) hz]
  pointwise [k0_pay1]
  rfl

variable (m : (ℓ : Loc nD τ sig) → Buf (Elt Ideal) ℓ) (c : Dev nD)

/-- The arguments' entries. -/
def token (i : Fin 8192) (k : Fin 384) : EReal := (m ((c : Thread nD τ).loc main_arg0) : Vec Ideal S8192x384 .f32) (ix2 i k)
def gain (k : Fin 384) : EReal := (m ((c : Thread nD τ).loc main_arg1) : Vec Ideal S384 .f32) (ix1 k)

def normed (i : Fin 8192) (j : Fin 384) : EReal := token m c i j * factor (Ideal.ofBits .f32 0x43C00000#32) (token m c i) * gain m c j

theorem entry_token (i : Fin 8192) (k : Fin 384) : (V m c main_arg0 : Vec Ideal S8192x384 .f32) (ix2 i k) = token m c i k := by
  refine Eq.trans (congrFun (?_ : _ = (m ((c : Thread nD τ).loc main_arg0) : Vec Ideal S8192x384 .f32)) _) rfl
  show StableHlo.after hostOps0 (fun b => m (c, b)) _ = _
  after_results <;> rfl

theorem entry_gain (k : Fin 384) : (V m c main_v0 : Vec Ideal S1x384 .f32) (ix2 0 k) = gain m c k := by
  show StableHlo.after hostOps0 (fun b => m (c, b)) main_v0 _ = _
  after_results
  pointwise
  rfl

theorem idx : ∀ t : Fin cfg0.N, win0_0.index t = ![t.val, 0] ∧ win0_1.index t = ![0, 0]
    ∧ win0_2.index t = ![t.val, 0] := (by decide +kernel : ∀ t : Fin grid0.N, _)

/-- Where a row of a point's block lies in the array. -/
abbrev row (t : Fin cfg0.N) (r : Fin 512) : Fin 8192 := ⟨t.val * 512 + r.val, by have h : t.val < 16 := lt_of_lt_of_eq t.isLt N_0; omega⟩

theorem blk_token (t : Fin cfg0.N) (r : Fin 512) (k : Fin 384) :
    iblk m c 0 t (ix2 r k) = token m c (row t r) k := by
  refine Eq.trans ?_ (entry_token m c _ _)
  blk_simp [iblk]
  refine congrArg (V m c main_arg0) ?_
  blk_ext [(idx t).1, ix2]

theorem blk_gain (t : Fin cfg0.N) (k : Fin 384) : iblk m c 1 t (ix2 0 k) = gain m c k := by
  refine Eq.trans ?_ (entry_gain m c _)
  blk_simp [iblk]
  refine congrArg (V m c main_v0) ?_
  blk_ext [(idx t).2.1, ix2]

theorem array : (dats m 0 c).arrAt 2 cfg0.N = fun i : S8192x384.Idx => normed m c (i 0) (i 1) := by
  refine (dats m 0 c).arrAt_eq_of_covers 2 _ (by decide +kernel) fun t hf y => ?_
  blk_simp
  rw [after0_2]
  change S512x384.Idx at y
  obtain ⟨r, x, rfl⟩ : ∃ (r : Fin 512) (x : Fin 384), y = ix2 r x := ⟨_, _, eq_ix2 y⟩
  rw [block_apply, blk_gain, blk_token, funext (blk_token m c t r)]
  have e0 : (win0_2.blk t).view.emb (ix2 r x) = (ix2 (row t r) x : S8192x384.Idx) := by blk_ext [(idx t).2.2, ix2]
  rw [e0]
  rfl

theorem frame : Cert.quiescent_NormAB (hNormAB := Cert.NormAB.Gen.facts) := fun m ρ _ => by
  rw [show Cert.NormAB.defs (F := Bits) = Cert.NormABIdeal.defs from congrArg (Pipeline.defs _) (table_ext fun _ => rfl)]
  exact Cert.NormABIdeal.Gen.frame (F := Bits) m ρ

theorem frame_reference : Cert.quiescent_NormABReferenceIdeal (hNormABReferenceIdeal := Cert.NormABReferenceIdeal.Gen.facts) :=
  fun m ρ _ => (θ_run Cert.NormABReferenceIdeal.defs _ _).mono
    (fun r h => ⟨fun c => (h c).2, sem_eq_zero_of_no_sems (by decide) r.2⟩)
    (Cert.NormABReferenceIdeal.Value.run (F := Ideal) m ρ)

theorem algebraic : Cert.algebraic_NormABIdeal_NormABReferenceIdeal (hNormABIdeal := Cert.NormABIdeal.Gen.facts)
    (hNormABReferenceIdeal := Cert.NormABReferenceIdeal.Gen.facts) := by
  intro m g m' g' _ he
  refine ⟨fun c => fun i : S8192x384.Idx => normed m c (i 0) (i 1), ?_, ?_⟩
  · refine (θ_run Cert.NormABIdeal.defs _ _).mono (fun r h c => ?_) (Cert.NormABIdeal.Value.run_blocks (F := Ideal) m g)
    exact ⟨(h c).1.trans (array m c), (h c).2⟩
  · refine (θ_run Cert.NormABReferenceIdeal.defs _ _).mono (fun r h c => ?_) (Cert.NormABReferenceIdeal.Value.run (F := Ideal) m' g')
    refine ⟨(h c).1.trans ?_, (h c).2⟩
    rw [(he c).1, (he c).2]
    funext i
    change S8192x384.Idx at i
    obtain ⟨r, x, rfl⟩ : ∃ (r : Fin 8192) (x : Fin 384), i = ix2 r x := ⟨_, _, eq_ix2 i⟩
    pointwise
    rfl

end Cert.RmsNorm.OutAB

end
-- ==== Proof.NormC.lean ====
/- The norm of the outputs of the neighbourhood heads and of the query latents. -/
module

public import proofs.«01_k».proof.Proof.Gen.NormCIdeal.Value
public import proofs.«01_k».proof.Proof.Gen.NormCReferenceIdeal.Run
public import proofs.«01_k».proof.Proof.Gen.NormC
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.C

open Idealize.ShloMosaic Idealize.ShloMosaic.TcCoe Idealize.SL.Sem Cert.NormCIdeal Cert.NormCIdeal.Gen Cert.Prod

theorem block_apply (a : Vec Ideal S512x256 .f32) (b : Vec Ideal S1x256 .f32) (r : Fin 512) (x : Fin 256) :
    out0_2 a b (ix2 r x) = a (ix2 r x) * factor (Ideal.ofBits .f32 0x43800000#32) (fun k => a (ix2 r k)) * b (ix2 0 x) := by
  unfold out0_2
  rw [View.canon_cons_unit_zero hz, View.ld_unit_zero (S := S512x256) hz, View.ld_unit_zero (S := S1x256) hz]
  pointwise [k0_pay1]
  rfl

variable (m : (ℓ : Loc nD τ sig) → Buf (Elt Ideal) ℓ) (c : Dev nD)

/-- The arguments' entries. -/
def token (i : Fin 8192) (k : Fin 256) : EReal := (m ((c : Thread nD τ).loc main_arg0) : Vec Ideal S8192x256 .f32) (ix2 i k)
def gain (k : Fin 256) : EReal := (m ((c : Thread nD τ).loc main_arg1) : Vec Ideal S256 .f32) (ix1 k)

def normed (i : Fin 8192) (j : Fin 256) : EReal := token m c i j * factor (Ideal.ofBits .f32 0x43800000#32) (token m c i) * gain m c j

theorem entry_token (i : Fin 8192) (k : Fin 256) : (V m c main_arg0 : Vec Ideal S8192x256 .f32) (ix2 i k) = token m c i k := by
  refine Eq.trans (congrFun (?_ : _ = (m ((c : Thread nD τ).loc main_arg0) : Vec Ideal S8192x256 .f32)) _) rfl
  show StableHlo.after hostOps0 (fun b => m (c, b)) _ = _
  after_results <;> rfl

theorem entry_gain (k : Fin 256) : (V m c main_v0 : Vec Ideal S1x256 .f32) (ix2 0 k) = gain m c k := by
  show StableHlo.after hostOps0 (fun b => m (c, b)) main_v0 _ = _
  after_results
  pointwise
  rfl

theorem idx : ∀ t : Fin cfg0.N, win0_0.index t = ![t.val, 0] ∧ win0_1.index t = ![0, 0]
    ∧ win0_2.index t = ![t.val, 0] := (by decide +kernel : ∀ t : Fin grid0.N, _)

/-- Where a row of a point's block lies in the array. -/
abbrev row (t : Fin cfg0.N) (r : Fin 512) : Fin 8192 := ⟨t.val * 512 + r.val, by have h : t.val < 16 := lt_of_lt_of_eq t.isLt N_0; omega⟩

theorem blk_token (t : Fin cfg0.N) (r : Fin 512) (k : Fin 256) :
    iblk m c 0 t (ix2 r k) = token m c (row t r) k := by
  refine Eq.trans ?_ (entry_token m c _ _)
  blk_simp [iblk]
  refine congrArg (V m c main_arg0) ?_
  blk_ext [(idx t).1, ix2]

theorem blk_gain (t : Fin cfg0.N) (k : Fin 256) : iblk m c 1 t (ix2 0 k) = gain m c k := by
  refine Eq.trans ?_ (entry_gain m c _)
  blk_simp [iblk]
  refine congrArg (V m c main_v0) ?_
  blk_ext [(idx t).2.1, ix2]

theorem array : (dats m 0 c).arrAt 2 cfg0.N = fun i : S8192x256.Idx => normed m c (i 0) (i 1) := by
  refine (dats m 0 c).arrAt_eq_of_covers 2 _ (by decide +kernel) fun t hf y => ?_
  blk_simp
  rw [after0_2]
  change S512x256.Idx at y
  obtain ⟨r, x, rfl⟩ : ∃ (r : Fin 512) (x : Fin 256), y = ix2 r x := ⟨_, _, eq_ix2 y⟩
  rw [block_apply, blk_gain, blk_token, funext (blk_token m c t r)]
  have e0 : (win0_2.blk t).view.emb (ix2 r x) = (ix2 (row t r) x : S8192x256.Idx) := by blk_ext [(idx t).2.2, ix2]
  rw [e0]
  rfl

theorem frame : Cert.quiescent_NormC (hNormC := Cert.NormC.Gen.facts) := fun m ρ _ => by
  rw [show Cert.NormC.defs (F := Bits) = Cert.NormCIdeal.defs from congrArg (Pipeline.defs _) (table_ext fun _ => rfl)]
  exact Cert.NormCIdeal.Gen.frame (F := Bits) m ρ

theorem frame_reference : Cert.quiescent_NormCReferenceIdeal (hNormCReferenceIdeal := Cert.NormCReferenceIdeal.Gen.facts) :=
  fun m ρ _ => (θ_run Cert.NormCReferenceIdeal.defs _ _).mono
    (fun r h => ⟨fun c => (h c).2, sem_eq_zero_of_no_sems (by decide) r.2⟩)
    (Cert.NormCReferenceIdeal.Value.run (F := Ideal) m ρ)

theorem algebraic : Cert.algebraic_NormCIdeal_NormCReferenceIdeal (hNormCIdeal := Cert.NormCIdeal.Gen.facts)
    (hNormCReferenceIdeal := Cert.NormCReferenceIdeal.Gen.facts) := by
  intro m g m' g' _ he
  refine ⟨fun c => fun i : S8192x256.Idx => normed m c (i 0) (i 1), ?_, ?_⟩
  · refine (θ_run Cert.NormCIdeal.defs _ _).mono (fun r h c => ?_) (Cert.NormCIdeal.Value.run_blocks (F := Ideal) m g)
    exact ⟨(h c).1.trans (array m c), (h c).2⟩
  · refine (θ_run Cert.NormCReferenceIdeal.defs _ _).mono (fun r h c => ?_) (Cert.NormCReferenceIdeal.Value.run (F := Ideal) m' g')
    refine ⟨(h c).1.trans ?_, (h c).2⟩
    rw [(he c).1, (he c).2]
    funext i
    change S8192x256.Idx at i
    obtain ⟨r, x, rfl⟩ : ∃ (r : Fin 8192) (x : Fin 256), i = ix2 r x := ⟨_, _, eq_ix2 i⟩
    pointwise
    rfl

end Cert.RmsNorm.C

end
-- ==== Proof.NormKv.lean ====
/- The norm of the key and value latents. -/
module

public import proofs.«01_k».proof.Proof.Gen.NormKvIdeal.Value
public import proofs.«01_k».proof.Proof.Gen.NormKvReferenceIdeal.Run
public import proofs.«01_k».proof.Proof.Gen.NormKv
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.Kv

open Idealize.ShloMosaic Idealize.ShloMosaic.TcCoe Idealize.SL.Sem Cert.NormKvIdeal Cert.NormKvIdeal.Gen Cert.Prod

theorem block_apply (a : Vec Ideal S512x128 .f32) (b : Vec Ideal S1x128 .f32) (r : Fin 512) (x : Fin 128) :
    out0_2 a b (ix2 r x) = a (ix2 r x) * factor (Ideal.ofBits .f32 0x43000000#32) (fun k => a (ix2 r k)) * b (ix2 0 x) := by
  unfold out0_2
  rw [View.canon_cons_unit_zero hz, View.ld_unit_zero (S := S512x128) hz, View.ld_unit_zero (S := S1x128) hz]
  pointwise [k0_pay1]
  rfl

variable (m : (ℓ : Loc nD τ sig) → Buf (Elt Ideal) ℓ) (c : Dev nD)

/-- The arguments' entries. -/
def token (i : Fin 8192) (k : Fin 128) : EReal := (m ((c : Thread nD τ).loc main_arg0) : Vec Ideal S8192x128 .f32) (ix2 i k)
def gain (k : Fin 128) : EReal := (m ((c : Thread nD τ).loc main_arg1) : Vec Ideal S128 .f32) (ix1 k)

def normed (i : Fin 8192) (j : Fin 128) : EReal := token m c i j * factor (Ideal.ofBits .f32 0x43000000#32) (token m c i) * gain m c j

theorem entry_token (i : Fin 8192) (k : Fin 128) : (V m c main_arg0 : Vec Ideal S8192x128 .f32) (ix2 i k) = token m c i k := by
  refine Eq.trans (congrFun (?_ : _ = (m ((c : Thread nD τ).loc main_arg0) : Vec Ideal S8192x128 .f32)) _) rfl
  show StableHlo.after hostOps0 (fun b => m (c, b)) _ = _
  after_results <;> rfl

theorem entry_gain (k : Fin 128) : (V m c main_v0 : Vec Ideal S1x128 .f32) (ix2 0 k) = gain m c k := by
  show StableHlo.after hostOps0 (fun b => m (c, b)) main_v0 _ = _
  after_results
  pointwise
  rfl

theorem idx : ∀ t : Fin cfg0.N, win0_0.index t = ![t.val, 0] ∧ win0_1.index t = ![0, 0]
    ∧ win0_2.index t = ![t.val, 0] := (by decide +kernel : ∀ t : Fin grid0.N, _)

/-- Where a row of a point's block lies in the array. -/
abbrev row (t : Fin cfg0.N) (r : Fin 512) : Fin 8192 := ⟨t.val * 512 + r.val, by have h : t.val < 16 := lt_of_lt_of_eq t.isLt N_0; omega⟩

theorem blk_token (t : Fin cfg0.N) (r : Fin 512) (k : Fin 128) :
    iblk m c 0 t (ix2 r k) = token m c (row t r) k := by
  refine Eq.trans ?_ (entry_token m c _ _)
  blk_simp [iblk]
  refine congrArg (V m c main_arg0) ?_
  blk_ext [(idx t).1, ix2]

theorem blk_gain (t : Fin cfg0.N) (k : Fin 128) : iblk m c 1 t (ix2 0 k) = gain m c k := by
  refine Eq.trans ?_ (entry_gain m c _)
  blk_simp [iblk]
  refine congrArg (V m c main_v0) ?_
  blk_ext [(idx t).2.1, ix2]

theorem array : (dats m 0 c).arrAt 2 cfg0.N = fun i : S8192x128.Idx => normed m c (i 0) (i 1) := by
  refine (dats m 0 c).arrAt_eq_of_covers 2 _ (by decide +kernel) fun t hf y => ?_
  blk_simp
  rw [after0_2]
  change S512x128.Idx at y
  obtain ⟨r, x, rfl⟩ : ∃ (r : Fin 512) (x : Fin 128), y = ix2 r x := ⟨_, _, eq_ix2 y⟩
  rw [block_apply, blk_gain, blk_token, funext (blk_token m c t r)]
  have e0 : (win0_2.blk t).view.emb (ix2 r x) = (ix2 (row t r) x : S8192x128.Idx) := by blk_ext [(idx t).2.2, ix2]
  rw [e0]
  rfl

theorem frame : Cert.quiescent_NormKv (hNormKv := Cert.NormKv.Gen.facts) := fun m ρ _ => by
  rw [show Cert.NormKv.defs (F := Bits) = Cert.NormKvIdeal.defs from congrArg (Pipeline.defs _) (table_ext fun _ => rfl)]
  exact Cert.NormKvIdeal.Gen.frame (F := Bits) m ρ

theorem frame_reference : Cert.quiescent_NormKvReferenceIdeal (hNormKvReferenceIdeal := Cert.NormKvReferenceIdeal.Gen.facts) :=
  fun m ρ _ => (θ_run Cert.NormKvReferenceIdeal.defs _ _).mono
    (fun r h => ⟨fun c => (h c).2, sem_eq_zero_of_no_sems (by decide) r.2⟩)
    (Cert.NormKvReferenceIdeal.Value.run (F := Ideal) m ρ)

theorem algebraic : Cert.algebraic_NormKvIdeal_NormKvReferenceIdeal (hNormKvIdeal := Cert.NormKvIdeal.Gen.facts)
    (hNormKvReferenceIdeal := Cert.NormKvReferenceIdeal.Gen.facts) := by
  intro m g m' g' _ he
  refine ⟨fun c => fun i : S8192x128.Idx => normed m c (i 0) (i 1), ?_, ?_⟩
  · refine (θ_run Cert.NormKvIdeal.defs _ _).mono (fun r h c => ?_) (Cert.NormKvIdeal.Value.run_blocks (F := Ideal) m g)
    exact ⟨(h c).1.trans (array m c), (h c).2⟩
  · refine (θ_run Cert.NormKvReferenceIdeal.defs _ _).mono (fun r h c => ?_) (Cert.NormKvReferenceIdeal.Value.run (F := Ideal) m' g')
    refine ⟨(h c).1.trans ?_, (h c).2⟩
    rw [(he c).1, (he c).2]
    funext i
    change S8192x128.Idx at i
    obtain ⟨r, x, rfl⟩ : ∃ (r : Fin 8192) (x : Fin 128), i = ix2 r x := ⟨_, _, eq_ix2 i⟩
    pointwise
    rfl

end Cert.RmsNorm.Kv

end
-- ==== Proof.DnormIn.lean ====
/- The cotangents of the norm of the tokens before the mixers and before the feed-forward layer. -/
module

public import proofs.«01_k».proof.Proof.Gen.DnormIdeal.Value
public import proofs.«01_k».proof.Proof.Gen.DnormReferenceIdeal.Run
public import proofs.«01_k».proof.Proof.Gen.Dnorm
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.DIn

open Idealize.ShloMosaic Idealize.ShloMosaic.TcCoe Idealize.SL.Sem Cert.DnormIdeal Cert.DnormIdeal.Gen Cert.Prod

/-! ## What a point of the grid leaves -/

section Run

variable {F : FTy → Type} [FloatOps F]

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (x : Vec F S512x1024 .f32) (g : Vec F S1x1024 .f32) (d : Vec F S512x1024 .f32) (s : Vec F S1x1024 .f32)

theorem first_dx (hc0 : cond0_0 i) :
    out0_A_3 c i arg1 harg1 arg2 harg2 arg3 harg3 arg4 harg4 arg5 harg5 hc0 x g d = k0_pay5 x d g := by
  unfold out0_A_3
  rw [View.read_writes_eq_canon _ _ _ (cover0_A_3 c i arg1 harg1 arg2 harg2 arg3 harg3 arg4 harg4 arg5 harg5 hc0 x g d)]
  unfold kernelRun0_A
  dsimp only
  rw [View.canon_cons_unit_zero hz]
  unfold kernelRun0_A.sl.r
  simp only [View.readAt_eq_ld, harg1.read_unread, harg2.read_unread, harg3.read_unread, View.ld_unit_zero (S := S512x1024) hz, View.ld_unit_zero (S := S1x1024) hz]

theorem next_dx (hc0 : ¬cond0_0 i) :
    out0_B_3 c i arg1 harg1 arg2 harg2 arg3 harg3 arg4 harg4 arg5 harg5 hc0 x g d s = k0_pay5 x d g := by
  unfold out0_B_3
  rw [View.read_writes_eq_canon _ _ _ (cover0_B_3 c i arg1 harg1 arg2 harg2 arg3 harg3 arg4 harg4 arg5 harg5 hc0 x g d s)]
  unfold kernelRun0_B
  dsimp only
  rw [View.canon_cons_unit_zero hz]
  unfold kernelRun0_B.sl.r
  simp only [View.readAt_eq_ld, harg1.read_unread, harg2.read_unread, harg3.read_unread, View.ld_unit_zero (S := S512x1024) hz, View.ld_unit_zero (S := S1x1024) hz]

theorem first_dg (hc0 : cond0_0 i) :
    out0_A_4 c i arg1 harg1 arg2 harg2 arg3 harg3 arg4 harg4 arg5 harg5 hc0 x g d = k0_pay4 x d k0_pay1 := by
  unfold out0_A_4
  rw [View.read_writes_eq_canon _ _ _ (cover0_A_4 c i arg1 harg1 arg2 harg2 arg3 harg3 arg4 harg4 arg5 harg5 hc0 x g d)]
  unfold kernelRun0_A
  dsimp only
  unfold kernelRun0_A.sl.v15 kernelRun0_A.sl.H4_1
  rw [View.canon_cons_unit_zero hz, View.readCov_unit_zero _ hz]
  simp only [View.readAt_eq_ld, harg1.read_unread, harg3.read_unread, View.ld_unit_zero (S := S512x1024) hz]

theorem next_dg (hc0 : ¬cond0_0 i) :
    out0_B_4 c i arg1 harg1 arg2 harg2 arg3 harg3 arg4 harg4 arg5 harg5 hc0 x g d s = k0_pay4 x d s := by
  unfold out0_B_4
  rw [View.read_writes_eq_canon _ _ _ (cover0_B_4 c i arg1 harg1 arg2 harg2 arg3 harg3 arg4 harg4 arg5 harg5 hc0 x g d s)]
  unfold kernelRun0_B
  dsimp only
  rw [View.canon_cons_unit_zero hz]
  simp only [View.readAt_eq_ld, harg1.read_unread, harg3.read_unread, harg5.read_unread, View.ld_unit_zero (S := S512x1024) hz, View.ld_unit_zero (S := S1x1024) hz]

end Run

/-! ## Over the extended reals -/

/-- The length of a row. -/
abbrev len : EReal := Ideal.ofBits .f32 0x44800000#32

theorem len_eq : len = ((1024 : ℝ) : EReal) := by
  simp [len, Ideal.ofBits, Ideal.ieee, -EReal.coe_mul]
  norm_num

theorem dx_apply (x : Vec Ideal S512x1024 .f32) (g : Vec Ideal S1x1024 .f32) (d : Vec Ideal S512x1024 .f32) (r : Fin 512)
    (y : Fin 1024) : k0_pay5 x d g (ix2 r y) = dx len (fun k => x (ix2 r k)) (fun k => d (ix2 r k) * g (ix2 0 k)) y := by
  pointwise [k0_pay5, k0_pay3, k0_pay2]
  rfl

theorem first_apply (x d : Vec Ideal S512x1024 .f32) (y : Fin 1024) :
    k0_pay4 x d (k0_pay1 (F := Ideal)) (ix2 0 y) = ∑ r : Fin 512, d (ix2 r y) * (x (ix2 r y) * factor len (fun k => x (ix2 r k))) := by
  pointwise [k0_pay4, k0_pay3, k0_pay2, k0_pay1]
  rfl

theorem next_apply (x d : Vec Ideal S512x1024 .f32) (s : Vec Ideal S1x1024 .f32) (y : Fin 1024) : k0_pay4 x d s (ix2 0 y)
    = s (ix2 0 y) + ∑ r : Fin 512, d (ix2 r y) * (x (ix2 r y) * factor len (fun k => x (ix2 r k))) := by
  pointwise [k0_pay4, k0_pay3, k0_pay2]
  rfl

/-! ## The arrays -/

variable (m : (ℓ : Loc nD τ sig) → Buf (Elt Ideal) ℓ) (c : Dev nD)

/-- The arguments' entries. -/
def token (i : Fin 8192) (k : Fin 1024) : EReal := (m ((c : Thread nD τ).loc main_arg0) : Vec Ideal S8192x1024 .f32) (ix2 i k)
def gain (k : Fin 1024) : EReal := (m ((c : Thread nD τ).loc main_arg1) : Vec Ideal S1024 .f32) (ix1 k)
def cot (i : Fin 8192) (k : Fin 1024) : EReal := (m ((c : Thread nD τ).loc main_arg2) : Vec Ideal S8192x1024 .f32) (ix2 i k)

/-- The cotangents of the tokens and the terms of the cotangent of a gain. -/
def tokenCot (i : Fin 8192) (j : Fin 1024) : EReal := dx len (token m c i) (fun k => cot m c i k * gain m c k) j
def gainTerm (j : Fin 1024) (i : Fin 8192) : EReal := cot m c i j * (token m c i j * factor len (token m c i))

/-- The cotangents of the gains. -/
def gainCots : Vec Ideal S1x1024 .f32 := fun i => ∑ k, gainTerm m c (i 1) k

theorem entry_gain (k : Fin 1024) : (V m c main_v0 : Vec Ideal S1x1024 .f32) (ix2 0 k) = gain m c k := by
  show StableHlo.after hostOps0 (fun b => m (c, b)) main_v0 _ = _
  after_results
  pointwise
  rfl

theorem idx : ∀ t : Fin cfg0.N, win0_0.index t = ![t.val % 16, 0] ∧ win0_1.index t = ![0, 0]
    ∧ win0_2.index t = ![t.val % 16, 0] ∧ win0_3.index t = ![t.val % 16, 0] ∧ win0_4.index t = ![0, 0] :=
  (by decide +kernel : ∀ t : Fin grid0.N, _)

/-- Where a row of a point's block lies in the array. -/
abbrev row (t : Fin cfg0.N) (r : Fin 512) : Fin 8192 := ⟨t.val % 16 * 512 + r.val, by omega⟩

theorem blk_token (t : Fin cfg0.N) (r : Fin 512) (k : Fin 1024) : iblk m c 0 t (ix2 r k) = token m c (row t r) k := by
  blk_simp [iblk]
  refine congrArg (V m c main_arg0) (?_ : _ = (ix2 (row t r) k : S8192x1024.Idx))
  blk_ext [(idx t).1, ix2]

theorem blk_gain (t : Fin cfg0.N) (k : Fin 1024) : iblk m c 1 t (ix2 0 k) = gain m c k := by
  refine Eq.trans ?_ (entry_gain m c _)
  blk_simp [iblk]
  refine congrArg (V m c main_v0) ?_
  blk_ext [(idx t).2.1, ix2]

theorem blk_cot (t : Fin cfg0.N) (r : Fin 512) (k : Fin 1024) : iblk m c 2 t (ix2 r k) = cot m c (row t r) k := by
  blk_simp [iblk]
  refine congrArg (V m c main_arg2) (?_ : _ = (ix2 (row t r) k : S8192x1024.Idx))
  blk_ext [(idx t).2.2.1, ix2]

theorem out_dx (t : Fin cfg0.N) (r : Fin 512) (x : Fin 1024) :
    (outsAt0 m c t.val t.isLt).1 (ix2 r x) = tokenCot m c (row t r) x := by
  have e : (outsAt0 m c t.val t.isLt).1 = k0_pay5 (iblk m c 0 t) (iblk m c 2 t) (iblk m c 1 t) := by
    by_cases h : t.val % 16 = 0
    · rw [outsAt0_A m c t h]
      dsimp only
      rw [first_dx]
    · rw [outsAt0_B m c t h]
      dsimp only
      rw [next_dx]
  rw [e, dx_apply, funext (blk_token m c t r)]
  exact congrArg (dx len _ · x) (funext fun k => congrArg₂ (· * ·) (blk_cot m c t r k) (blk_gain m c t k))

theorem part (t : Fin cfg0.N) (r : Fin 512) (x : Fin 1024) (p q : Vec Ideal S512x1024 .f32) (hp : p = iblk m c 0 t)
    (hq : q = iblk m c 2 t) :
    q (ix2 r x) * (p (ix2 r x) * factor len (fun k => p (ix2 r k))) = gainTerm m c x (row t r) := by
  subst hp hq
  rw [funext (blk_token m c t r)]
  exact congrArg₂ (· * ·) (blk_cot m c t r x) (congrArg (· * _) (blk_token m c t r x))

theorem dg_first (t : Fin cfg0.N) (h : t.val % 16 = 0) (x : Fin 1024) :
    (outsAt0 m c t.val t.isLt).2 (ix2 0 x) = ∑ r, gainTerm m c x (row t r) := by
  rw [outsAt0_A m c t h]
  dsimp only
  rw [first_dg, first_apply]
  exact Finset.sum_congr rfl fun r _ => part m c t r x _ _ rfl rfl

theorem dg_next (t : Fin cfg0.N) (h : ¬t.val % 16 = 0) (x : Fin 1024) : (outsAt0 m c t.val t.isLt).2 (ix2 0 x)
    = (outsAt0 m c (t.val - 1) (Nat.lt_of_le_of_lt (Nat.sub_le _ _) t.isLt)).2 (ix2 0 x) + ∑ r, gainTerm m c x (row t r) := by
  rw [outsAt0_B m c t h]
  dsimp only
  rw [next_dg, next_apply]
  exact congrArg (_ + ·) (Finset.sum_congr rfl fun r _ => part m c t r x _ _ rfl rfl)

theorem out_dg (t : Fin cfg0.N) (h : t.val % 16 = 15) (x : Fin 1024) :
    (outsAt0 m c t.val t.isLt).2 (ix2 0 x) = ∑ i, gainTerm m c x i :=
  sum_tiles (α := Fin 1024) (N := cfg0.N) (J := 16) (S := 512) (K := 8192) rfl (fun n hn x => (outsAt0 m c n hn).2 (ix2 0 x))
    (fun _ => gainTerm m c) (fun _ _ _ => rfl) (dg_first m c) (dg_next m c) t h x

theorem array_dx : (dats m 0 c).arrAt 3 cfg0.N = fun i : S8192x1024.Idx => tokenCot m c (i 0) (i 1) := by
  refine (dats m 0 c).arrAt_eq_of_covers 3 _ (by decide +kernel) fun t hf y => ?_
  blk_simp
  rw [after0_3]
  change S512x1024.Idx at y
  obtain ⟨r, x, rfl⟩ : ∃ (r : Fin 512) (x : Fin 1024), y = ix2 r x := ⟨_, _, eq_ix2 y⟩
  rw [out_dx]
  have e0 : (win0_3.blk t).view.emb (ix2 r x) = (ix2 (row t r) x : S8192x1024.Idx) := by blk_ext [(idx t).2.2.2.1, ix2]
  rw [e0]
  rfl

theorem array_dg : (dats m 0 c).arrAt 4 cfg0.N = gainCots m c := by
  refine (dats m 0 c).arrAt_eq_of_covers 4 _ (by decide +kernel) fun t hf y => ?_
  have h := (flush0_4 t).1 hf
  blk_simp
  rw [after0_4]
  change S1x1024.Idx at y
  obtain ⟨x, rfl⟩ : ∃ x : Fin 1024, y = ix2 0 x := ⟨y 1, (eq_ix2 y).trans (congrArg (ix2 · _) (Subsingleton.elim (α := Fin 1) _ _))⟩
  rw [out_dg m c t h]
  have e0 : (win0_4.blk t).view.emb (ix2 0 x) = (ix2 0 x : S1x1024.Idx) := by blk_ext [(idx t).2.2.2.2, ix2]
  rw [e0]
  rfl

theorem frame : Cert.quiescent_Dnorm (hDnorm := Cert.Dnorm.Gen.facts) := fun m ρ _ => by
  rw [show Cert.Dnorm.defs (F := Bits) = Cert.DnormIdeal.defs from congrArg (Pipeline.defs _) (table_ext fun _ => rfl)]
  exact Cert.DnormIdeal.Gen.frame (F := Bits) m ρ

theorem frame_reference : Cert.quiescent_DnormReferenceIdeal (hDnormReferenceIdeal := Cert.DnormReferenceIdeal.Gen.facts) :=
  fun m ρ _ => (θ_run Cert.DnormReferenceIdeal.defs _ _).mono
    (fun r h => ⟨fun c => (h c).2.2, sem_eq_zero_of_no_sems (by decide) r.2⟩)
    (Cert.DnormReferenceIdeal.Value.run (F := Ideal) m ρ)

theorem algebraic : Cert.algebraic_DnormIdeal_DnormReferenceIdeal (hDnormIdeal := Cert.DnormIdeal.Gen.facts)
    (hDnormReferenceIdeal := Cert.DnormReferenceIdeal.Gen.facts) := by
  intro m g m' g' _ he
  refine ⟨fun c => fun i : S8192x1024.Idx => tokenCot m c (i 0) (i 1), fun c => gainCots m c,
    ?_, ?_⟩
  · refine (θ_run Cert.DnormIdeal.defs _ _).mono (fun r h c => ?_) (Cert.DnormIdeal.Value.run_blocks (F := Ideal) m g)
    exact ⟨(h c).1.trans (array_dx m c), (h c).2.1.trans (array_dg m c), (h c).2.2⟩
  · refine (θ_run Cert.DnormReferenceIdeal.defs _ _).mono (fun r h c => ?_) (Cert.DnormReferenceIdeal.Value.run (F := Ideal) m' g')
    obtain ⟨h3, h4, h'⟩ := h c
    refine ⟨h3.trans ?_, h4.trans ?_, h'⟩ <;> clear h3 h4 h' h
    · simp only [(he c).1, (he c).2.1, (he c).2.2]
      funext i
      change S8192x1024.Idx at i
      obtain ⟨r, x, rfl⟩ : ∃ (r : Fin 8192) (x : Fin 1024), i = ix2 r x := ⟨_, _, eq_ix2 i⟩
      have e := dx_eq (w := 1024) (by norm_num) (token m c r) (fun k => cot m c r k * gain m c k) x
      rw [← len_eq] at e
      refine Eq.trans ?_ e
      pointwise
      rw [Fin.sum_univ_one]
      rfl
    · simp only [(he c).1, (he c).2.1, (he c).2.2]
      funext i
      change S1x1024.Idx at i
      obtain ⟨r, x, rfl⟩ : ∃ (r : Fin 1) (x : Fin 1024), i = ix2 r x := ⟨_, _, eq_ix2 i⟩
      pointwise
      rw [Fin.sum_univ_one]
      exact Finset.sum_congr rfl fun k _ => mul_comm _ (cot m c k x)

end Cert.RmsNorm.DIn

end
-- ==== Proof.DnormOutAB.lean ====
/- The cotangents of the norm of the outputs of the dense and of the banded heads. -/
module

public import proofs.«01_k».proof.Proof.Gen.DnormABIdeal.Value
public import proofs.«01_k».proof.Proof.Gen.DnormABReferenceIdeal.Run
public import proofs.«01_k».proof.Proof.Gen.DnormAB
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.DOutAB

open Idealize.ShloMosaic Idealize.ShloMosaic.TcCoe Idealize.SL.Sem Cert.DnormABIdeal Cert.DnormABIdeal.Gen Cert.Prod

/-! ## What a point of the grid leaves -/

section Run

variable {F : FTy → Type} [FloatOps F]

variable (c : Dev nD) (i : grid0.Coords)
  (arg1 : Memref sig .tc .vmem S512x384 .f32) (harg1 : arg1.IsWhole)
  (arg2 : Memref sig .tc .vmem S1x384 .f32) (harg2 : arg2.IsWhole)
  (arg3 : Memref sig .tc .vmem S512x384 .f32) (harg3 : arg3.IsWhole)
  (arg4 : Memref sig .tc .vmem S512x384 .f32) (harg4 : arg4.IsWhole)
  (arg5 : Memref sig .tc .vmem S1x384 .f32) (harg5 : arg5.IsWhole)
  (x : Vec F S512x384 .f32) (g : Vec F S1x384 .f32) (d : Vec F S512x384 .f32) (s : Vec F S1x384 .f32)

theorem first_dx (hc0 : cond0_0 i) :
    out0_A_3 c i arg1 harg1 arg2 harg2 arg3 harg3 arg4 harg4 arg5 harg5 hc0 x g d = k0_pay5 x d g := by
  unfold out0_A_3
  rw [View.read_writes_eq_canon _ _ _ (cover0_A_3 c i arg1 harg1 arg2 harg2 arg3 harg3 arg4 harg4 arg5 harg5 hc0 x g d)]
  unfold kernelRun0_A
  dsimp only
  rw [View.canon_cons_unit_zero hz]
  unfold kernelRun0_A.sl.r
  simp only [View.readAt_eq_ld, harg1.read_unread, harg2.read_unread, harg3.read_unread, View.ld_unit_zero (S := S512x384) hz, View.ld_unit_zero (S := S1x384) hz]

theorem next_dx (hc0 : ¬cond0_0 i) :
    out0_B_3 c i arg1 harg1 arg2 harg2 arg3 harg3 arg4 harg4 arg5 harg5 hc0 x g d s = k0_pay5 x d g := by
  unfold out0_B_3
  rw [View.read_writes_eq_canon _ _ _ (cover0_B_3 c i arg1 harg1 arg2 harg2 arg3 harg3 arg4 harg4 arg5 harg5 hc0 x g d s)]
  unfold kernelRun0_B
  dsimp only
  rw [View.canon_cons_unit_zero hz]
  unfold kernelRun0_B.sl.r
  simp only [View.readAt_eq_ld, harg1.read_unread, harg2.read_unread, harg3.read_unread, View.ld_unit_zero (S := S512x384) hz, View.ld_unit_zero (S := S1x384) hz]

theorem first_dg (hc0 : cond0_0 i) :
    out0_A_4 c i arg1 harg1 arg2 harg2 arg3 harg3 arg4 harg4 arg5 harg5 hc0 x g d = k0_pay4 x d k0_pay1 := by
  unfold out0_A_4
  rw [View.read_writes_eq_canon _ _ _ (cover0_A_4 c i arg1 harg1 arg2 harg2 arg3 harg3 arg4 harg4 arg5 harg5 hc0 x g d)]
  unfold kernelRun0_A
  dsimp only
  unfold kernelRun0_A.sl.v15 kernelRun0_A.sl.H4_1
  rw [View.canon_cons_unit_zero hz, View.readCov_unit_zero _ hz]
  simp only [View.readAt_eq_ld, harg1.read_unread, harg3.read_unread, View.ld_unit_zero (S := S512x384) hz]

theorem next_dg (hc0 : ¬cond0_0 i) :
    out0_B_4 c i arg1 harg1 arg2 harg2 arg3 harg3 arg4 harg4 arg5 harg5 hc0 x g d s = k0_pay4 x d s := by
  unfold out0_B_4
  rw [View.read_writes_eq_canon _ _ _ (cover0_B_4 c i arg1 harg1 arg2 harg2 arg3 harg3 arg4 harg4 arg5 harg5 hc0 x g d s)]
  unfold kernelRun0_B
  dsimp only
  rw [View.canon_cons_unit_zero hz]
  simp only [View.readAt_eq_ld, harg1.read_unread, harg3.read_unread, harg5.read_unread, View.ld_unit_zero (S := S512x384) hz, View.ld_unit_zero (S := S1x384) hz]

end Run

/-! ## Over the extended reals -/

/-- The length of a row. -/
abbrev len : EReal := Ideal.ofBits .f32 0x43C00000#32

theorem len_eq : len = ((384 : ℝ) : EReal) := by
  simp [len, Ideal.ofBits, Ideal.ieee, -EReal.coe_mul]
  norm_num

theorem dx_apply (x : Vec Ideal S512x384 .f32) (g : Vec Ideal S1x384 .f32) (d : Vec Ideal S512x384 .f32) (r : Fin 512)
    (y : Fin 384) : k0_pay5 x d g (ix2 r y) = dx len (fun k => x (ix2 r k)) (fun k => d (ix2 r k) * g (ix2 0 k)) y := by
  pointwise [k0_pay5, k0_pay3, k0_pay2]
  rfl

theorem first_apply (x d : Vec Ideal S512x384 .f32) (y : Fin 384) :
    k0_pay4 x d (k0_pay1 (F := Ideal)) (ix2 0 y) = ∑ r : Fin 512, d (ix2 r y) * (x (ix2 r y) * factor len (fun k => x (ix2 r k))) := by
  pointwise [k0_pay4, k0_pay3, k0_pay2, k0_pay1]
  rfl

theorem next_apply (x d : Vec Ideal S512x384 .f32) (s : Vec Ideal S1x384 .f32) (y : Fin 384) : k0_pay4 x d s (ix2 0 y)
    = s (ix2 0 y) + ∑ r : Fin 512, d (ix2 r y) * (x (ix2 r y) * factor len (fun k => x (ix2 r k))) := by
  pointwise [k0_pay4, k0_pay3, k0_pay2]
  rfl

/-! ## The arrays -/

variable (m : (ℓ : Loc nD τ sig) → Buf (Elt Ideal) ℓ) (c : Dev nD)

/-- The arguments' entries. -/
def token (i : Fin 8192) (k : Fin 384) : EReal := (m ((c : Thread nD τ).loc main_arg0) : Vec Ideal S8192x384 .f32) (ix2 i k)
def gain (k : Fin 384) : EReal := (m ((c : Thread nD τ).loc main_arg1) : Vec Ideal S384 .f32) (ix1 k)
def cot (i : Fin 8192) (k : Fin 384) : EReal := (m ((c : Thread nD τ).loc main_arg2) : Vec Ideal S8192x384 .f32) (ix2 i k)

/-- The cotangents of the tokens and the terms of the cotangent of a gain. -/
def tokenCot (i : Fin 8192) (j : Fin 384) : EReal := dx len (token m c i) (fun k => cot m c i k * gain m c k) j
def gainTerm (j : Fin 384) (i : Fin 8192) : EReal := cot m c i j * (token m c i j * factor len (token m c i))

/-- The cotangents of the gains. -/
def gainCots : Vec Ideal S1x384 .f32 := fun i => ∑ k, gainTerm m c (i 1) k

theorem entry_gain (k : Fin 384) : (V m c main_v0 : Vec Ideal S1x384 .f32) (ix2 0 k) = gain m c k := by
  show StableHlo.after hostOps0 (fun b => m (c, b)) main_v0 _ = _
  after_results
  pointwise
  rfl

theorem idx : ∀ t : Fin cfg0.N, win0_0.index t = ![t.val % 16, 0] ∧ win0_1.index t = ![0, 0]
    ∧ win0_2.index t = ![t.val % 16, 0] ∧ win0_3.index t = ![t.val % 16, 0] ∧ win0_4.index t = ![0, 0] :=
  (by decide +kernel : ∀ t : Fin grid0.N, _)

/-- Where a row of a point's block lies in the array. -/
abbrev row (t : Fin cfg0.N) (r : Fin 512) : Fin 8192 := ⟨t.val % 16 * 512 + r.val, by omega⟩

theorem blk_token (t : Fin cfg0.N) (r : Fin 512) (k : Fin 384) : iblk m c 0 t (ix2 r k) = token m c (row t r) k := by
  blk_simp [iblk]
  refine congrArg (V m c main_arg0) (?_ : _ = (ix2 (row t r) k : S8192x384.Idx))
  blk_ext [(idx t).1, ix2]

theorem blk_gain (t : Fin cfg0.N) (k : Fin 384) : iblk m c 1 t (ix2 0 k) = gain m c k := by
  refine Eq.trans ?_ (entry_gain m c _)
  blk_simp [iblk]
  refine congrArg (V m c main_v0) ?_
  blk_ext [(idx t).2.1, ix2]

theorem blk_cot (t : Fin cfg0.N) (r : Fin 512) (k : Fin 384) : iblk m c 2 t (ix2 r k) = cot m c (row t r) k := by
  blk_simp [iblk]
  refine congrArg (V m c main_arg2) (?_ : _ = (ix2 (row t r) k : S8192x384.Idx))
  blk_ext [(idx t).2.2.1, ix2]

theorem out_dx (t : Fin cfg0.N) (r : Fin 512) (x : Fin 384) :
    (outsAt0 m c t.val t.isLt).1 (ix2 r x) = tokenCot m c (row t r) x := by
  have e : (outsAt0 m c t.val t.isLt).1 = k0_pay5 (iblk m c 0 t) (iblk m c 2 t) (iblk m c 1 t) := by
    by_cases h : t.val % 16 = 0
    · rw [outsAt0_A m c t h]
      dsimp only
      rw [first_dx]
    · rw [outsAt0_B m c t h]
      dsimp only
      rw [next_dx]
  rw [e, dx_apply, funext (blk_token m c t r)]
  exact congrArg (dx len _ · x) (funext fun k => congrArg₂ (· * ·) (blk_cot m c t r k) (blk_gain m c t k))

theorem part (t : Fin cfg0.N) (r : Fin 512) (x : Fin 384) (p q : Vec Ideal S512x384 .f32) (hp : p = iblk m c 0 t)
    (hq : q = iblk m c 2 t) :
    q (ix2 r x) * (p (ix2 r x) * factor len (fun k => p (ix2 r k))) = gainTerm m c x (row t r) := by
  subst hp hq
  rw [funext (blk_token m c t r)]
  exact congrArg₂ (· * ·) (blk_cot m c t r x) (congrArg (· * _) (blk_token m c t r x))

theorem dg_first (t : Fin cfg0.N) (h : t.val % 16 = 0) (x : Fin 384) :
    (outsAt0 m c t.val t.isLt).2 (ix2 0 x) = ∑ r, gainTerm m c x (row t r) := by
  rw [outsAt0_A m c t h]
  dsimp only
  rw [first_dg, first_apply]
  exact Finset.sum_congr rfl fun r _ => part m c t r x _ _ rfl rfl

theorem dg_next (t : Fin cfg0.N) (h : ¬t.val % 16 = 0) (x : Fin 384) : (outsAt0 m c t.val t.isLt).2 (ix2 0 x)
    = (outsAt0 m c (t.val - 1) (Nat.lt_of_le_of_lt (Nat.sub_le _ _) t.isLt)).2 (ix2 0 x) + ∑ r, gainTerm m c x (row t r) := by
  rw [outsAt0_B m c t h]
  dsimp only
  rw [next_dg, next_apply]
  exact congrArg (_ + ·) (Finset.sum_congr rfl fun r _ => part m c t r x _ _ rfl rfl)

theorem out_dg (t : Fin cfg0.N) (h : t.val % 16 = 15) (x : Fin 384) :
    (outsAt0 m c t.val t.isLt).2 (ix2 0 x) = ∑ i, gainTerm m c x i :=
  sum_tiles (α := Fin 384) (N := cfg0.N) (J := 16) (S := 512) (K := 8192) rfl (fun n hn x => (outsAt0 m c n hn).2 (ix2 0 x))
    (fun _ => gainTerm m c) (fun _ _ _ => rfl) (dg_first m c) (dg_next m c) t h x

theorem array_dx : (dats m 0 c).arrAt 3 cfg0.N = fun i : S8192x384.Idx => tokenCot m c (i 0) (i 1) := by
  refine (dats m 0 c).arrAt_eq_of_covers 3 _ (by decide +kernel) fun t hf y => ?_
  blk_simp
  rw [after0_3]
  change S512x384.Idx at y
  obtain ⟨r, x, rfl⟩ : ∃ (r : Fin 512) (x : Fin 384), y = ix2 r x := ⟨_, _, eq_ix2 y⟩
  rw [out_dx]
  have e0 : (win0_3.blk t).view.emb (ix2 r x) = (ix2 (row t r) x : S8192x384.Idx) := by blk_ext [(idx t).2.2.2.1, ix2]
  rw [e0]
  rfl

theorem array_dg : (dats m 0 c).arrAt 4 cfg0.N = gainCots m c := by
  refine (dats m 0 c).arrAt_eq_of_covers 4 _ (by decide +kernel) fun t hf y => ?_
  have h := (flush0_4 t).1 hf
  blk_simp
  rw [after0_4]
  change S1x384.Idx at y
  obtain ⟨x, rfl⟩ : ∃ x : Fin 384, y = ix2 0 x := ⟨y 1, (eq_ix2 y).trans (congrArg (ix2 · _) (Subsingleton.elim (α := Fin 1) _ _))⟩
  rw [out_dg m c t h]
  have e0 : (win0_4.blk t).view.emb (ix2 0 x) = (ix2 0 x : S1x384.Idx) := by blk_ext [(idx t).2.2.2.2, ix2]
  rw [e0]
  rfl

theorem frame : Cert.quiescent_DnormAB (hDnormAB := Cert.DnormAB.Gen.facts) := fun m ρ _ => by
  rw [show Cert.DnormAB.defs (F := Bits) = Cert.DnormABIdeal.defs from congrArg (Pipeline.defs _) (table_ext fun _ => rfl)]
  exact Cert.DnormABIdeal.Gen.frame (F := Bits) m ρ

theorem frame_reference : Cert.quiescent_DnormABReferenceIdeal (hDnormABReferenceIdeal := Cert.DnormABReferenceIdeal.Gen.facts) :=
  fun m ρ _ => (θ_run Cert.DnormABReferenceIdeal.defs _ _).mono
    (fun r h => ⟨fun c => (h c).2.2, sem_eq_zero_of_no_sems (by decide) r.2⟩)
    (Cert.DnormABReferenceIdeal.Value.run (F := Ideal) m ρ)

theorem algebraic : Cert.algebraic_DnormABIdeal_DnormABReferenceIdeal (hDnormABIdeal := Cert.DnormABIdeal.Gen.facts)
    (hDnormABReferenceIdeal := Cert.DnormABReferenceIdeal.Gen.facts) := by
  intro m g m' g' _ he
  refine ⟨fun c => fun i : S8192x384.Idx => tokenCot m c (i 0) (i 1), fun c => gainCots m c,
    ?_, ?_⟩
  · refine (θ_run Cert.DnormABIdeal.defs _ _).mono (fun r h c => ?_) (Cert.DnormABIdeal.Value.run_blocks (F := Ideal) m g)
    exact ⟨(h c).1.trans (array_dx m c), (h c).2.1.trans (array_dg m c), (h c).2.2⟩
  · refine (θ_run Cert.DnormABReferenceIdeal.defs _ _).mono (fun r h c => ?_) (Cert.DnormABReferenceIdeal.Value.run (F := Ideal) m' g')
    obtain ⟨h3, h4, h'⟩ := h c
    refine ⟨h3.trans ?_, h4.trans ?_, h'⟩ <;> clear h3 h4 h' h
    · simp only [(he c).1, (he c).2.1, (he c).2.2]
      funext i
      change S8192x384.Idx at i
      obtain ⟨r, x, rfl⟩ : ∃ (r : Fin 8192) (x : Fin 384), i = ix2 r x := ⟨_, _, eq_ix2 i⟩
      have e := dx_eq (w := 384) (by norm_num) (token m c r) (fun k => cot m c r k * gain m c k) x
      rw [← len_eq] at e
      refine Eq.trans ?_ e
      pointwise
      rw [Fin.sum_univ_one]
      rfl
    · simp only [(he c).1, (he c).2.1, (he c).2.2]
      funext i
      change S1x384.Idx at i
      obtain ⟨r, x, rfl⟩ : ∃ (r : Fin 1) (x : Fin 384), i = ix2 r x := ⟨_, _, eq_ix2 i⟩
      pointwise
      rw [Fin.sum_univ_one]
      exact Finset.sum_congr rfl fun k _ => mul_comm _ (cot m c k x)

end Cert.RmsNorm.DOutAB

end
-- ==== Proof.DnormC.lean ====
/- The cotangents of the norm of the outputs of the neighbourhood heads and of the query latents. -/
module

public import proofs.«01_k».proof.Proof.Gen.DnormCIdeal.Value
public import proofs.«01_k».proof.Proof.Gen.DnormCReferenceIdeal.Run
public import proofs.«01_k».proof.Proof.Gen.DnormC
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.DC

open Idealize.ShloMosaic Idealize.ShloMosaic.TcCoe Idealize.SL.Sem Cert.DnormCIdeal Cert.DnormCIdeal.Gen Cert.Prod

/-! ## What a point of the grid leaves -/

section Run

variable {F : FTy → Type} [FloatOps F]

variable (c : Dev nD) (i : grid0.Coords)
  (arg1 : Memref sig .tc .vmem S512x256 .f32) (harg1 : arg1.IsWhole)
  (arg2 : Memref sig .tc .vmem S1x256 .f32) (harg2 : arg2.IsWhole)
  (arg3 : Memref sig .tc .vmem S512x256 .f32) (harg3 : arg3.IsWhole)
  (arg4 : Memref sig .tc .vmem S512x256 .f32) (harg4 : arg4.IsWhole)
  (arg5 : Memref sig .tc .vmem S1x256 .f32) (harg5 : arg5.IsWhole)
  (x : Vec F S512x256 .f32) (g : Vec F S1x256 .f32) (d : Vec F S512x256 .f32) (s : Vec F S1x256 .f32)

theorem first_dx (hc0 : cond0_0 i) :
    out0_A_3 c i arg1 harg1 arg2 harg2 arg3 harg3 arg4 harg4 arg5 harg5 hc0 x g d = k0_pay5 x d g := by
  unfold out0_A_3
  rw [View.read_writes_eq_canon _ _ _ (cover0_A_3 c i arg1 harg1 arg2 harg2 arg3 harg3 arg4 harg4 arg5 harg5 hc0 x g d)]
  unfold kernelRun0_A
  dsimp only
  rw [View.canon_cons_unit_zero hz]
  unfold kernelRun0_A.sl.r
  simp only [View.readAt_eq_ld, harg1.read_unread, harg2.read_unread, harg3.read_unread, View.ld_unit_zero (S := S512x256) hz, View.ld_unit_zero (S := S1x256) hz]

theorem next_dx (hc0 : ¬cond0_0 i) :
    out0_B_3 c i arg1 harg1 arg2 harg2 arg3 harg3 arg4 harg4 arg5 harg5 hc0 x g d s = k0_pay5 x d g := by
  unfold out0_B_3
  rw [View.read_writes_eq_canon _ _ _ (cover0_B_3 c i arg1 harg1 arg2 harg2 arg3 harg3 arg4 harg4 arg5 harg5 hc0 x g d s)]
  unfold kernelRun0_B
  dsimp only
  rw [View.canon_cons_unit_zero hz]
  unfold kernelRun0_B.sl.r
  simp only [View.readAt_eq_ld, harg1.read_unread, harg2.read_unread, harg3.read_unread, View.ld_unit_zero (S := S512x256) hz, View.ld_unit_zero (S := S1x256) hz]

theorem first_dg (hc0 : cond0_0 i) :
    out0_A_4 c i arg1 harg1 arg2 harg2 arg3 harg3 arg4 harg4 arg5 harg5 hc0 x g d = k0_pay4 x d k0_pay1 := by
  unfold out0_A_4
  rw [View.read_writes_eq_canon _ _ _ (cover0_A_4 c i arg1 harg1 arg2 harg2 arg3 harg3 arg4 harg4 arg5 harg5 hc0 x g d)]
  unfold kernelRun0_A
  dsimp only
  unfold kernelRun0_A.sl.v15 kernelRun0_A.sl.H4_1
  rw [View.canon_cons_unit_zero hz, View.readCov_unit_zero _ hz]
  simp only [View.readAt_eq_ld, harg1.read_unread, harg3.read_unread, View.ld_unit_zero (S := S512x256) hz]

theorem next_dg (hc0 : ¬cond0_0 i) :
    out0_B_4 c i arg1 harg1 arg2 harg2 arg3 harg3 arg4 harg4 arg5 harg5 hc0 x g d s = k0_pay4 x d s := by
  unfold out0_B_4
  rw [View.read_writes_eq_canon _ _ _ (cover0_B_4 c i arg1 harg1 arg2 harg2 arg3 harg3 arg4 harg4 arg5 harg5 hc0 x g d s)]
  unfold kernelRun0_B
  dsimp only
  rw [View.canon_cons_unit_zero hz]
  simp only [View.readAt_eq_ld, harg1.read_unread, harg3.read_unread, harg5.read_unread, View.ld_unit_zero (S := S512x256) hz, View.ld_unit_zero (S := S1x256) hz]

end Run

/-! ## Over the extended reals -/

/-- The length of a row. -/
abbrev len : EReal := Ideal.ofBits .f32 0x43800000#32

theorem len_eq : len = ((256 : ℝ) : EReal) := by
  simp [len, Ideal.ofBits, Ideal.ieee, -EReal.coe_mul]
  norm_num

theorem dx_apply (x : Vec Ideal S512x256 .f32) (g : Vec Ideal S1x256 .f32) (d : Vec Ideal S512x256 .f32) (r : Fin 512)
    (y : Fin 256) : k0_pay5 x d g (ix2 r y) = dx len (fun k => x (ix2 r k)) (fun k => d (ix2 r k) * g (ix2 0 k)) y := by
  pointwise [k0_pay5, k0_pay3, k0_pay2]
  rfl

theorem first_apply (x d : Vec Ideal S512x256 .f32) (y : Fin 256) :
    k0_pay4 x d (k0_pay1 (F := Ideal)) (ix2 0 y) = ∑ r : Fin 512, d (ix2 r y) * (x (ix2 r y) * factor len (fun k => x (ix2 r k))) := by
  pointwise [k0_pay4, k0_pay3, k0_pay2, k0_pay1]
  rfl

theorem next_apply (x d : Vec Ideal S512x256 .f32) (s : Vec Ideal S1x256 .f32) (y : Fin 256) : k0_pay4 x d s (ix2 0 y)
    = s (ix2 0 y) + ∑ r : Fin 512, d (ix2 r y) * (x (ix2 r y) * factor len (fun k => x (ix2 r k))) := by
  pointwise [k0_pay4, k0_pay3, k0_pay2]
  rfl

/-! ## The arrays -/

variable (m : (ℓ : Loc nD τ sig) → Buf (Elt Ideal) ℓ) (c : Dev nD)

/-- The arguments' entries. -/
def token (i : Fin 8192) (k : Fin 256) : EReal := (m ((c : Thread nD τ).loc main_arg0) : Vec Ideal S8192x256 .f32) (ix2 i k)
def gain (k : Fin 256) : EReal := (m ((c : Thread nD τ).loc main_arg1) : Vec Ideal S256 .f32) (ix1 k)
def cot (i : Fin 8192) (k : Fin 256) : EReal := (m ((c : Thread nD τ).loc main_arg2) : Vec Ideal S8192x256 .f32) (ix2 i k)

/-- The cotangents of the tokens and the terms of the cotangent of a gain. -/
def tokenCot (i : Fin 8192) (j : Fin 256) : EReal := dx len (token m c i) (fun k => cot m c i k * gain m c k) j
def gainTerm (j : Fin 256) (i : Fin 8192) : EReal := cot m c i j * (token m c i j * factor len (token m c i))

/-- The cotangents of the gains. -/
def gainCots : Vec Ideal S1x256 .f32 := fun i => ∑ k, gainTerm m c (i 1) k

theorem entry_gain (k : Fin 256) : (V m c main_v0 : Vec Ideal S1x256 .f32) (ix2 0 k) = gain m c k := by
  show StableHlo.after hostOps0 (fun b => m (c, b)) main_v0 _ = _
  after_results
  pointwise
  rfl

theorem idx : ∀ t : Fin cfg0.N, win0_0.index t = ![t.val % 16, 0] ∧ win0_1.index t = ![0, 0]
    ∧ win0_2.index t = ![t.val % 16, 0] ∧ win0_3.index t = ![t.val % 16, 0] ∧ win0_4.index t = ![0, 0] :=
  (by decide +kernel : ∀ t : Fin grid0.N, _)

/-- Where a row of a point's block lies in the array. -/
abbrev row (t : Fin cfg0.N) (r : Fin 512) : Fin 8192 := ⟨t.val % 16 * 512 + r.val, by omega⟩

theorem blk_token (t : Fin cfg0.N) (r : Fin 512) (k : Fin 256) : iblk m c 0 t (ix2 r k) = token m c (row t r) k := by
  blk_simp [iblk]
  refine congrArg (V m c main_arg0) (?_ : _ = (ix2 (row t r) k : S8192x256.Idx))
  blk_ext [(idx t).1, ix2]

theorem blk_gain (t : Fin cfg0.N) (k : Fin 256) : iblk m c 1 t (ix2 0 k) = gain m c k := by
  refine Eq.trans ?_ (entry_gain m c _)
  blk_simp [iblk]
  refine congrArg (V m c main_v0) ?_
  blk_ext [(idx t).2.1, ix2]

theorem blk_cot (t : Fin cfg0.N) (r : Fin 512) (k : Fin 256) : iblk m c 2 t (ix2 r k) = cot m c (row t r) k := by
  blk_simp [iblk]
  refine congrArg (V m c main_arg2) (?_ : _ = (ix2 (row t r) k : S8192x256.Idx))
  blk_ext [(idx t).2.2.1, ix2]

theorem out_dx (t : Fin cfg0.N) (r : Fin 512) (x : Fin 256) :
    (outsAt0 m c t.val t.isLt).1 (ix2 r x) = tokenCot m c (row t r) x := by
  have e : (outsAt0 m c t.val t.isLt).1 = k0_pay5 (iblk m c 0 t) (iblk m c 2 t) (iblk m c 1 t) := by
    by_cases h : t.val % 16 = 0
    · rw [outsAt0_A m c t h]
      dsimp only
      rw [first_dx]
    · rw [outsAt0_B m c t h]
      dsimp only
      rw [next_dx]
  rw [e, dx_apply, funext (blk_token m c t r)]
  exact congrArg (dx len _ · x) (funext fun k => congrArg₂ (· * ·) (blk_cot m c t r k) (blk_gain m c t k))

theorem part (t : Fin cfg0.N) (r : Fin 512) (x : Fin 256) (p q : Vec Ideal S512x256 .f32) (hp : p = iblk m c 0 t)
    (hq : q = iblk m c 2 t) :
    q (ix2 r x) * (p (ix2 r x) * factor len (fun k => p (ix2 r k))) = gainTerm m c x (row t r) := by
  subst hp hq
  rw [funext (blk_token m c t r)]
  exact congrArg₂ (· * ·) (blk_cot m c t r x) (congrArg (· * _) (blk_token m c t r x))

theorem dg_first (t : Fin cfg0.N) (h : t.val % 16 = 0) (x : Fin 256) :
    (outsAt0 m c t.val t.isLt).2 (ix2 0 x) = ∑ r, gainTerm m c x (row t r) := by
  rw [outsAt0_A m c t h]
  dsimp only
  rw [first_dg, first_apply]
  exact Finset.sum_congr rfl fun r _ => part m c t r x _ _ rfl rfl

theorem dg_next (t : Fin cfg0.N) (h : ¬t.val % 16 = 0) (x : Fin 256) : (outsAt0 m c t.val t.isLt).2 (ix2 0 x)
    = (outsAt0 m c (t.val - 1) (Nat.lt_of_le_of_lt (Nat.sub_le _ _) t.isLt)).2 (ix2 0 x) + ∑ r, gainTerm m c x (row t r) := by
  rw [outsAt0_B m c t h]
  dsimp only
  rw [next_dg, next_apply]
  exact congrArg (_ + ·) (Finset.sum_congr rfl fun r _ => part m c t r x _ _ rfl rfl)

theorem out_dg (t : Fin cfg0.N) (h : t.val % 16 = 15) (x : Fin 256) :
    (outsAt0 m c t.val t.isLt).2 (ix2 0 x) = ∑ i, gainTerm m c x i :=
  sum_tiles (α := Fin 256) (N := cfg0.N) (J := 16) (S := 512) (K := 8192) rfl (fun n hn x => (outsAt0 m c n hn).2 (ix2 0 x))
    (fun _ => gainTerm m c) (fun _ _ _ => rfl) (dg_first m c) (dg_next m c) t h x

theorem array_dx : (dats m 0 c).arrAt 3 cfg0.N = fun i : S8192x256.Idx => tokenCot m c (i 0) (i 1) := by
  refine (dats m 0 c).arrAt_eq_of_covers 3 _ (by decide +kernel) fun t hf y => ?_
  blk_simp
  rw [after0_3]
  change S512x256.Idx at y
  obtain ⟨r, x, rfl⟩ : ∃ (r : Fin 512) (x : Fin 256), y = ix2 r x := ⟨_, _, eq_ix2 y⟩
  rw [out_dx]
  have e0 : (win0_3.blk t).view.emb (ix2 r x) = (ix2 (row t r) x : S8192x256.Idx) := by blk_ext [(idx t).2.2.2.1, ix2]
  rw [e0]
  rfl

theorem array_dg : (dats m 0 c).arrAt 4 cfg0.N = gainCots m c := by
  refine (dats m 0 c).arrAt_eq_of_covers 4 _ (by decide +kernel) fun t hf y => ?_
  have h := (flush0_4 t).1 hf
  blk_simp
  rw [after0_4]
  change S1x256.Idx at y
  obtain ⟨x, rfl⟩ : ∃ x : Fin 256, y = ix2 0 x := ⟨y 1, (eq_ix2 y).trans (congrArg (ix2 · _) (Subsingleton.elim (α := Fin 1) _ _))⟩
  rw [out_dg m c t h]
  have e0 : (win0_4.blk t).view.emb (ix2 0 x) = (ix2 0 x : S1x256.Idx) := by blk_ext [(idx t).2.2.2.2, ix2]
  rw [e0]
  rfl

theorem frame : Cert.quiescent_DnormC (hDnormC := Cert.DnormC.Gen.facts) := fun m ρ _ => by
  rw [show Cert.DnormC.defs (F := Bits) = Cert.DnormCIdeal.defs from congrArg (Pipeline.defs _) (table_ext fun _ => rfl)]
  exact Cert.DnormCIdeal.Gen.frame (F := Bits) m ρ

theorem frame_reference : Cert.quiescent_DnormCReferenceIdeal (hDnormCReferenceIdeal := Cert.DnormCReferenceIdeal.Gen.facts) :=
  fun m ρ _ => (θ_run Cert.DnormCReferenceIdeal.defs _ _).mono
    (fun r h => ⟨fun c => (h c).2.2, sem_eq_zero_of_no_sems (by decide) r.2⟩)
    (Cert.DnormCReferenceIdeal.Value.run (F := Ideal) m ρ)

theorem algebraic : Cert.algebraic_DnormCIdeal_DnormCReferenceIdeal (hDnormCIdeal := Cert.DnormCIdeal.Gen.facts)
    (hDnormCReferenceIdeal := Cert.DnormCReferenceIdeal.Gen.facts) := by
  intro m g m' g' _ he
  refine ⟨fun c => fun i : S8192x256.Idx => tokenCot m c (i 0) (i 1), fun c => gainCots m c,
    ?_, ?_⟩
  · refine (θ_run Cert.DnormCIdeal.defs _ _).mono (fun r h c => ?_) (Cert.DnormCIdeal.Value.run_blocks (F := Ideal) m g)
    exact ⟨(h c).1.trans (array_dx m c), (h c).2.1.trans (array_dg m c), (h c).2.2⟩
  · refine (θ_run Cert.DnormCReferenceIdeal.defs _ _).mono (fun r h c => ?_) (Cert.DnormCReferenceIdeal.Value.run (F := Ideal) m' g')
    obtain ⟨h3, h4, h'⟩ := h c
    refine ⟨h3.trans ?_, h4.trans ?_, h'⟩ <;> clear h3 h4 h' h
    · simp only [(he c).1, (he c).2.1, (he c).2.2]
      funext i
      change S8192x256.Idx at i
      obtain ⟨r, x, rfl⟩ : ∃ (r : Fin 8192) (x : Fin 256), i = ix2 r x := ⟨_, _, eq_ix2 i⟩
      have e := dx_eq (w := 256) (by norm_num) (token m c r) (fun k => cot m c r k * gain m c k) x
      rw [← len_eq] at e
      refine Eq.trans ?_ e
      pointwise
      rw [Fin.sum_univ_one]
      rfl
    · simp only [(he c).1, (he c).2.1, (he c).2.2]
      funext i
      change S1x256.Idx at i
      obtain ⟨r, x, rfl⟩ : ∃ (r : Fin 1) (x : Fin 256), i = ix2 r x := ⟨_, _, eq_ix2 i⟩
      pointwise
      rw [Fin.sum_univ_one]
      exact Finset.sum_congr rfl fun k _ => mul_comm _ (cot m c k x)

end Cert.RmsNorm.DC

end
-- ==== Proof.DnormKv.lean ====
/- The cotangents of the norm of the key and value latents. -/
module

public import proofs.«01_k».proof.Proof.Gen.DnormKvIdeal.Value
public import proofs.«01_k».proof.Proof.Gen.DnormKvReferenceIdeal.Run
public import proofs.«01_k».proof.Proof.Gen.DnormKv
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.DKv

open Idealize.ShloMosaic Idealize.ShloMosaic.TcCoe Idealize.SL.Sem Cert.DnormKvIdeal Cert.DnormKvIdeal.Gen Cert.Prod

/-! ## What a point of the grid leaves -/

section Run

variable {F : FTy → Type} [FloatOps F]

variable (c : Dev nD) (i : grid0.Coords)
  (arg1 : Memref sig .tc .vmem S512x128 .f32) (harg1 : arg1.IsWhole)
  (arg2 : Memref sig .tc .vmem S1x128 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x128 .f32) (harg5 : arg5.IsWhole)
  (x : Vec F S512x128 .f32) (g : Vec F S1x128 .f32) (d : Vec F S512x128 .f32) (s : Vec F S1x128 .f32)

theorem first_dx (hc0 : cond0_0 i) :
    out0_A_3 c i arg1 harg1 arg2 harg2 arg3 harg3 arg4 harg4 arg5 harg5 hc0 x g d = k0_pay5 x d g := by
  unfold out0_A_3
  rw [View.read_writes_eq_canon _ _ _ (cover0_A_3 c i arg1 harg1 arg2 harg2 arg3 harg3 arg4 harg4 arg5 harg5 hc0 x g d)]
  unfold kernelRun0_A
  dsimp only
  rw [View.canon_cons_unit_zero hz]
  unfold kernelRun0_A.sl.r
  simp only [View.readAt_eq_ld, harg1.read_unread, harg2.read_unread, harg3.read_unread, View.ld_unit_zero (S := S512x128) hz, View.ld_unit_zero (S := S1x128) hz]

theorem next_dx (hc0 : ¬cond0_0 i) :
    out0_B_3 c i arg1 harg1 arg2 harg2 arg3 harg3 arg4 harg4 arg5 harg5 hc0 x g d s = k0_pay5 x d g := by
  unfold out0_B_3
  rw [View.read_writes_eq_canon _ _ _ (cover0_B_3 c i arg1 harg1 arg2 harg2 arg3 harg3 arg4 harg4 arg5 harg5 hc0 x g d s)]
  unfold kernelRun0_B
  dsimp only
  rw [View.canon_cons_unit_zero hz]
  unfold kernelRun0_B.sl.r
  simp only [View.readAt_eq_ld, harg1.read_unread, harg2.read_unread, harg3.read_unread, View.ld_unit_zero (S := S512x128) hz, View.ld_unit_zero (S := S1x128) hz]

theorem first_dg (hc0 : cond0_0 i) :
    out0_A_4 c i arg1 harg1 arg2 harg2 arg3 harg3 arg4 harg4 arg5 harg5 hc0 x g d = k0_pay4 x d k0_pay1 := by
  unfold out0_A_4
  rw [View.read_writes_eq_canon _ _ _ (cover0_A_4 c i arg1 harg1 arg2 harg2 arg3 harg3 arg4 harg4 arg5 harg5 hc0 x g d)]
  unfold kernelRun0_A
  dsimp only
  unfold kernelRun0_A.sl.v15 kernelRun0_A.sl.H4_1
  rw [View.canon_cons_unit_zero hz, View.readCov_unit_zero _ hz]
  simp only [View.readAt_eq_ld, harg1.read_unread, harg3.read_unread, View.ld_unit_zero (S := S512x128) hz]

theorem next_dg (hc0 : ¬cond0_0 i) :
    out0_B_4 c i arg1 harg1 arg2 harg2 arg3 harg3 arg4 harg4 arg5 harg5 hc0 x g d s = k0_pay4 x d s := by
  unfold out0_B_4
  rw [View.read_writes_eq_canon _ _ _ (cover0_B_4 c i arg1 harg1 arg2 harg2 arg3 harg3 arg4 harg4 arg5 harg5 hc0 x g d s)]
  unfold kernelRun0_B
  dsimp only
  rw [View.canon_cons_unit_zero hz]
  simp only [View.readAt_eq_ld, harg1.read_unread, harg3.read_unread, harg5.read_unread, View.ld_unit_zero (S := S512x128) hz, View.ld_unit_zero (S := S1x128) hz]

end Run

/-! ## Over the extended reals -/

/-- The length of a row. -/
abbrev len : EReal := Ideal.ofBits .f32 0x43000000#32

theorem len_eq : len = ((128 : ℝ) : EReal) := by
  simp [len, Ideal.ofBits, Ideal.ieee, -EReal.coe_mul]
  norm_num

theorem dx_apply (x : Vec Ideal S512x128 .f32) (g : Vec Ideal S1x128 .f32) (d : Vec Ideal S512x128 .f32) (r : Fin 512)
    (y : Fin 128) : k0_pay5 x d g (ix2 r y) = dx len (fun k => x (ix2 r k)) (fun k => d (ix2 r k) * g (ix2 0 k)) y := by
  pointwise [k0_pay5, k0_pay3, k0_pay2]
  rfl

theorem first_apply (x d : Vec Ideal S512x128 .f32) (y : Fin 128) :
    k0_pay4 x d (k0_pay1 (F := Ideal)) (ix2 0 y) = ∑ r : Fin 512, d (ix2 r y) * (x (ix2 r y) * factor len (fun k => x (ix2 r k))) := by
  pointwise [k0_pay4, k0_pay3, k0_pay2, k0_pay1]
  rfl

theorem next_apply (x d : Vec Ideal S512x128 .f32) (s : Vec Ideal S1x128 .f32) (y : Fin 128) : k0_pay4 x d s (ix2 0 y)
    = s (ix2 0 y) + ∑ r : Fin 512, d (ix2 r y) * (x (ix2 r y) * factor len (fun k => x (ix2 r k))) := by
  pointwise [k0_pay4, k0_pay3, k0_pay2]
  rfl

/-! ## The arrays -/

variable (m : (ℓ : Loc nD τ sig) → Buf (Elt Ideal) ℓ) (c : Dev nD)

/-- The arguments' entries. -/
def token (i : Fin 8192) (k : Fin 128) : EReal := (m ((c : Thread nD τ).loc main_arg0) : Vec Ideal S8192x128 .f32) (ix2 i k)
def gain (k : Fin 128) : EReal := (m ((c : Thread nD τ).loc main_arg1) : Vec Ideal S128 .f32) (ix1 k)
def cot (i : Fin 8192) (k : Fin 128) : EReal := (m ((c : Thread nD τ).loc main_arg2) : Vec Ideal S8192x128 .f32) (ix2 i k)

/-- The cotangents of the tokens and the terms of the cotangent of a gain. -/
def tokenCot (i : Fin 8192) (j : Fin 128) : EReal := dx len (token m c i) (fun k => cot m c i k * gain m c k) j
def gainTerm (j : Fin 128) (i : Fin 8192) : EReal := cot m c i j * (token m c i j * factor len (token m c i))

/-- The cotangents of the gains. -/
def gainCots : Vec Ideal S1x128 .f32 := fun i => ∑ k, gainTerm m c (i 1) k

theorem entry_gain (k : Fin 128) : (V m c main_v0 : Vec Ideal S1x128 .f32) (ix2 0 k) = gain m c k := by
  show StableHlo.after hostOps0 (fun b => m (c, b)) main_v0 _ = _
  after_results
  pointwise
  rfl

theorem idx : ∀ t : Fin cfg0.N, win0_0.index t = ![t.val % 16, 0] ∧ win0_1.index t = ![0, 0]
    ∧ win0_2.index t = ![t.val % 16, 0] ∧ win0_3.index t = ![t.val % 16, 0] ∧ win0_4.index t = ![0, 0] :=
  (by decide +kernel : ∀ t : Fin grid0.N, _)

/-- Where a row of a point's block lies in the array. -/
abbrev row (t : Fin cfg0.N) (r : Fin 512) : Fin 8192 := ⟨t.val % 16 * 512 + r.val, by omega⟩

theorem blk_token (t : Fin cfg0.N) (r : Fin 512) (k : Fin 128) : iblk m c 0 t (ix2 r k) = token m c (row t r) k := by
  blk_simp [iblk]
  refine congrArg (V m c main_arg0) (?_ : _ = (ix2 (row t r) k : S8192x128.Idx))
  blk_ext [(idx t).1, ix2]

theorem blk_gain (t : Fin cfg0.N) (k : Fin 128) : iblk m c 1 t (ix2 0 k) = gain m c k := by
  refine Eq.trans ?_ (entry_gain m c _)
  blk_simp [iblk]
  refine congrArg (V m c main_v0) ?_
  blk_ext [(idx t).2.1, ix2]

theorem blk_cot (t : Fin cfg0.N) (r : Fin 512) (k : Fin 128) : iblk m c 2 t (ix2 r k) = cot m c (row t r) k := by
  blk_simp [iblk]
  refine congrArg (V m c main_arg2) (?_ : _ = (ix2 (row t r) k : S8192x128.Idx))
  blk_ext [(idx t).2.2.1, ix2]

theorem out_dx (t : Fin cfg0.N) (r : Fin 512) (x : Fin 128) :
    (outsAt0 m c t.val t.isLt).1 (ix2 r x) = tokenCot m c (row t r) x := by
  have e : (outsAt0 m c t.val t.isLt).1 = k0_pay5 (iblk m c 0 t) (iblk m c 2 t) (iblk m c 1 t) := by
    by_cases h : t.val % 16 = 0
    · rw [outsAt0_A m c t h]
      dsimp only
      rw [first_dx]
    · rw [outsAt0_B m c t h]
      dsimp only
      rw [next_dx]
  rw [e, dx_apply, funext (blk_token m c t r)]
  exact congrArg (dx len _ · x) (funext fun k => congrArg₂ (· * ·) (blk_cot m c t r k) (blk_gain m c t k))

theorem part (t : Fin cfg0.N) (r : Fin 512) (x : Fin 128) (p q : Vec Ideal S512x128 .f32) (hp : p = iblk m c 0 t)
    (hq : q = iblk m c 2 t) :
    q (ix2 r x) * (p (ix2 r x) * factor len (fun k => p (ix2 r k))) = gainTerm m c x (row t r) := by
  subst hp hq
  rw [funext (blk_token m c t r)]
  exact congrArg₂ (· * ·) (blk_cot m c t r x) (congrArg (· * _) (blk_token m c t r x))

theorem dg_first (t : Fin cfg0.N) (h : t.val % 16 = 0) (x : Fin 128) :
    (outsAt0 m c t.val t.isLt).2 (ix2 0 x) = ∑ r, gainTerm m c x (row t r) := by
  rw [outsAt0_A m c t h]
  dsimp only
  rw [first_dg, first_apply]
  exact Finset.sum_congr rfl fun r _ => part m c t r x _ _ rfl rfl

theorem dg_next (t : Fin cfg0.N) (h : ¬t.val % 16 = 0) (x : Fin 128) : (outsAt0 m c t.val t.isLt).2 (ix2 0 x)
    = (outsAt0 m c (t.val - 1) (Nat.lt_of_le_of_lt (Nat.sub_le _ _) t.isLt)).2 (ix2 0 x) + ∑ r, gainTerm m c x (row t r) := by
  rw [outsAt0_B m c t h]
  dsimp only
  rw [next_dg, next_apply]
  exact congrArg (_ + ·) (Finset.sum_congr rfl fun r _ => part m c t r x _ _ rfl rfl)

theorem out_dg (t : Fin cfg0.N) (h : t.val % 16 = 15) (x : Fin 128) :
    (outsAt0 m c t.val t.isLt).2 (ix2 0 x) = ∑ i, gainTerm m c x i :=
  sum_tiles (α := Fin 128) (N := cfg0.N) (J := 16) (S := 512) (K := 8192) rfl (fun n hn x => (outsAt0 m c n hn).2 (ix2 0 x))
    (fun _ => gainTerm m c) (fun _ _ _ => rfl) (dg_first m c) (dg_next m c) t h x

theorem array_dx : (dats m 0 c).arrAt 3 cfg0.N = fun i : S8192x128.Idx => tokenCot m c (i 0) (i 1) := by
  refine (dats m 0 c).arrAt_eq_of_covers 3 _ (by decide +kernel) fun t hf y => ?_
  blk_simp
  rw [after0_3]
  change S512x128.Idx at y
  obtain ⟨r, x, rfl⟩ : ∃ (r : Fin 512) (x : Fin 128), y = ix2 r x := ⟨_, _, eq_ix2 y⟩
  rw [out_dx]
  have e0 : (win0_3.blk t).view.emb (ix2 r x) = (ix2 (row t r) x : S8192x128.Idx) := by blk_ext [(idx t).2.2.2.1, ix2]
  rw [e0]
  rfl

theorem array_dg : (dats m 0 c).arrAt 4 cfg0.N = gainCots m c := by
  refine (dats m 0 c).arrAt_eq_of_covers 4 _ (by decide +kernel) fun t hf y => ?_
  have h := (flush0_4 t).1 hf
  blk_simp
  rw [after0_4]
  change S1x128.Idx at y
  obtain ⟨x, rfl⟩ : ∃ x : Fin 128, y = ix2 0 x := ⟨y 1, (eq_ix2 y).trans (congrArg (ix2 · _) (Subsingleton.elim (α := Fin 1) _ _))⟩
  rw [out_dg m c t h]
  have e0 : (win0_4.blk t).view.emb (ix2 0 x) = (ix2 0 x : S1x128.Idx) := by blk_ext [(idx t).2.2.2.2, ix2]
  rw [e0]
  rfl

theorem frame : Cert.quiescent_DnormKv (hDnormKv := Cert.DnormKv.Gen.facts) := fun m ρ _ => by
  rw [show Cert.DnormKv.defs (F := Bits) = Cert.DnormKvIdeal.defs from congrArg (Pipeline.defs _) (table_ext fun _ => rfl)]
  exact Cert.DnormKvIdeal.Gen.frame (F := Bits) m ρ

theorem frame_reference : Cert.quiescent_DnormKvReferenceIdeal (hDnormKvReferenceIdeal := Cert.DnormKvReferenceIdeal.Gen.facts) :=
  fun m ρ _ => (θ_run Cert.DnormKvReferenceIdeal.defs _ _).mono
    (fun r h => ⟨fun c => (h c).2.2, sem_eq_zero_of_no_sems (by decide) r.2⟩)
    (Cert.DnormKvReferenceIdeal.Value.run (F := Ideal) m ρ)

theorem algebraic : Cert.algebraic_DnormKvIdeal_DnormKvReferenceIdeal (hDnormKvIdeal := Cert.DnormKvIdeal.Gen.facts)
    (hDnormKvReferenceIdeal := Cert.DnormKvReferenceIdeal.Gen.facts) := by
  intro m g m' g' _ he
  refine ⟨fun c => fun i : S8192x128.Idx => tokenCot m c (i 0) (i 1), fun c => gainCots m c,
    ?_, ?_⟩
  · refine (θ_run Cert.DnormKvIdeal.defs _ _).mono (fun r h c => ?_) (Cert.DnormKvIdeal.Value.run_blocks (F := Ideal) m g)
    exact ⟨(h c).1.trans (array_dx m c), (h c).2.1.trans (array_dg m c), (h c).2.2⟩
  · refine (θ_run Cert.DnormKvReferenceIdeal.defs _ _).mono (fun r h c => ?_) (Cert.DnormKvReferenceIdeal.Value.run (F := Ideal) m' g')
    obtain ⟨h3, h4, h'⟩ := h c
    refine ⟨h3.trans ?_, h4.trans ?_, h'⟩ <;> clear h3 h4 h' h
    · simp only [(he c).1, (he c).2.1, (he c).2.2]
      funext i
      change S8192x128.Idx at i
      obtain ⟨r, x, rfl⟩ : ∃ (r : Fin 8192) (x : Fin 128), i = ix2 r x := ⟨_, _, eq_ix2 i⟩
      have e := dx_eq (w := 128) (by norm_num) (token m c r) (fun k => cot m c r k * gain m c k) x
      rw [← len_eq] at e
      refine Eq.trans ?_ e
      pointwise
      rw [Fin.sum_univ_one]
      rfl
    · simp only [(he c).1, (he c).2.1, (he c).2.2]
      funext i
      change S1x128.Idx at i
      obtain ⟨r, x, rfl⟩ : ∃ (r : Fin 1) (x : Fin 128), i = ix2 r x := ⟨_, _, eq_ix2 i⟩
      pointwise
      rw [Fin.sum_univ_one]
      exact Finset.sum_congr rfl fun k _ => mul_comm _ (cot m c k x)

end Cert.RmsNorm.DKv

end
-- ==== Proof.LossHead.lean ====
/- The loss and its gradients by the last tokens and by the gains of their norm. -/
module

public import proofs.«01_k».proof.Proof.Gen.LossIdeal.Value
public import proofs.«01_k».proof.Proof.Gen.LossReferenceIdeal.Run
public import proofs.«01_k».proof.Proof.Gen.Loss
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Norm

@[expose] public section

set_option maxRecDepth 16384

noncomputable section

namespace Cert.RmsNorm.Loss

open Idealize.ShloMosaic Idealize.ShloMosaic.TcCoe Idealize.SL.Sem Cert.LossIdeal Cert.LossIdeal.Gen Cert.Prod

/-! ## What a point of the grid leaves -/

section Run

variable {F : FTy → Type} [FloatOps F]

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S1x128 .f32) (harg4 : arg4.IsWhole)
  (arg5 : Memref sig .tc .vmem S512x1024 .f32) (harg5 : arg5.IsWhole)
  (arg6 : Memref sig .tc .vmem S1x1024 .f32) (harg6 : arg6.IsWhole)
  (x : Vec F S512x1024 .f32) (g : Vec F S1x1024 .f32) (d : Vec F S512x1024 .f32) (l : Vec F S1x128 .f32) (s : Vec F S1x1024 .f32)

theorem first_loss (hc0 : cond0_0 i) :
    out0_A_3 c i arg1 harg1 arg2 harg2 arg3 harg3 arg4 harg4 arg5 harg5 arg6 harg6 hc0 x g d = k0_pay9 x g d k0_pay4 := by
  unfold out0_A_3
  rw [View.read_writes_eq_canon _ _ _ (cover0_A_3 c i arg1 harg1 arg2 harg2 arg3 harg3 arg4 harg4 arg5 harg5 arg6 harg6 hc0 x g d)]
  unfold kernelRun0_A
  dsimp only
  unfold kernelRun0_A.sl.v20 kernelRun0_A.sl.H3_1
  rw [View.canon_cons_unit_zero hz, View.readCov_unit_zero _ hz]
  simp only [View.readAt_eq_ld, harg1.read_unread, harg2.read_unread, harg3.read_unread, View.ld_unit_zero (S := S512x1024) hz, View.ld_unit_zero (S := S1x1024) hz, View.ld_unit_zero (S := S1x128) hz]

theorem first_dx (hc0 : cond0_0 i) :
    out0_A_4 c i arg1 harg1 arg2 harg2 arg3 harg3 arg4 harg4 arg5 harg5 arg6 harg6 hc0 x g d = k0_pay2 (k0_pay5 g) (k0_pay6 x) (k0_pay7 x) (k0_pay10 x g d) := by
  unfold out0_A_4
  rw [View.read_writes_eq_canon _ _ _ (cover0_A_4 c i arg1 harg1 arg2 harg2 arg3 harg3 arg4 harg4 arg5 harg5 arg6 harg6 hc0 x g d)]
  unfold kernelRun0_A
  dsimp only
  unfold kernelRun0_A.sl.r kernelRun0_A.sl.r_1 kernelRun0_A.sl.r_2 kernelRun0_A.sl.r_3
  rw [View.canon_cons_unit_zero hz]
  simp only [View.readAt_eq_ld, harg1.read_unread, harg2.read_unread, harg3.read_unread, View.ld_unit_zero (S := S512x1024) hz, View.ld_unit_zero (S := S1x1024) hz, View.ld_unit_zero (S := S1x128) hz]

theorem first_dg (hc0 : cond0_0 i) :
    out0_A_5 c i arg1 harg1 arg2 harg2 arg3 harg3 arg4 harg4 arg5 harg5 arg6 harg6 hc0 x g d = k0_pay1 (k0_pay7 x) (k0_pay10 x g d) k0_pay3 := by
  unfold out0_A_5
  rw [View.read_writes_eq_canon _ _ _ (cover0_A_5 c i arg1 harg1 arg2 harg2 arg3 harg3 arg4 harg4 arg5 harg5 arg6 harg6 hc0 x g d)]
  unfold kernelRun0_A
  dsimp only
  unfold kernelRun0_A.sl.r_2 kernelRun0_A.sl.r_3 kernelRun0_A.sl.v37 kernelRun0_A.sl.H5_1
  rw [View.canon_cons_unit_zero hz, View.readCov_unit_zero _ hz]
  simp only [View.readAt_eq_ld, harg1.read_unread, harg2.read_unread, harg3.read_unread, View.ld_unit_zero (S := S512x1024) hz, View.ld_unit_zero (S := S1x1024) hz, View.ld_unit_zero (S := S1x128) hz]

theorem next_loss (hc0 : ¬cond0_0 i) :
    out0_B_3 c i arg1 harg1 arg2 harg2 arg3 harg3 arg4 harg4 arg5 harg5 arg6 harg6 hc0 x g d l s = k0_pay9 x g d l := by
  unfold out0_B_3
  rw [View.read_writes_eq_canon _ _ _ (cover0_B_3 c i arg1 harg1 arg2 harg2 arg3 harg3 arg4 harg4 arg5 harg5 arg6 harg6 hc0 x g d l s)]
  unfold kernelRun0_B
  dsimp only
  rw [View.canon_cons_unit_zero hz]
  simp only [View.readAt_eq_ld, harg1.read_unread, harg2.read_unread, harg3.read_unread, harg4.read_unread, View.ld_unit_zero (S := S512x1024) hz, View.ld_unit_zero (S := S1x1024) hz, View.ld_unit_zero (S := S1x128) hz]

theorem next_dx (hc0 : ¬cond0_0 i) :
    out0_B_4 c i arg1 harg1 arg2 harg2 arg3 harg3 arg4 harg4 arg5 harg5 arg6 harg6 hc0 x g d l s = k0_pay2 (k0_pay5 g) (k0_pay6 x) (k0_pay7 x) (k0_pay10 x g d) := by
  unfold out0_B_4
  rw [View.read_writes_eq_canon _ _ _ (cover0_B_4 c i arg1 harg1 arg2 harg2 arg3 harg3 arg4 harg4 arg5 harg5 arg6 harg6 hc0 x g d l s)]
  unfold kernelRun0_B
  dsimp only
  unfold kernelRun0_B.sl.r kernelRun0_B.sl.r_1 kernelRun0_B.sl.r_2 kernelRun0_B.sl.r_3
  rw [View.canon_cons_unit_zero hz]
  simp only [View.readAt_eq_ld, harg1.read_unread, harg2.read_unread, harg3.read_unread, View.ld_unit_zero (S := S512x1024) hz, View.ld_unit_zero (S := S1x1024) hz, View.ld_unit_zero (S := S1x128) hz]

theorem next_dg (hc0 : ¬cond0_0 i) :
    out0_B_5 c i arg1 harg1 arg2 harg2 arg3 harg3 arg4 harg4 arg5 harg5 arg6 harg6 hc0 x g d l s = k0_pay1 (k0_pay7 x) (k0_pay10 x g d) s := by
  unfold out0_B_5
  rw [View.read_writes_eq_canon _ _ _ (cover0_B_5 c i arg1 harg1 arg2 harg2 arg3 harg3 arg4 harg4 arg5 harg5 arg6 harg6 hc0 x g d l s)]
  unfold kernelRun0_B
  dsimp only
  unfold kernelRun0_B.sl.r_2 kernelRun0_B.sl.r_3
  rw [View.canon_cons_unit_zero hz]
  simp only [View.readAt_eq_ld, harg1.read_unread, harg2.read_unread, harg3.read_unread, harg6.read_unread, View.ld_unit_zero (S := S512x1024) hz, View.ld_unit_zero (S := S1x1024) hz, View.ld_unit_zero (S := S1x128) hz]

end Run

/-! ## Over the extended reals -/

/-- The length of a row. -/
abbrev len : EReal := Ideal.ofBits .f32 0x44800000#32

theorem len_eq : len = ((1024 : ℝ) : EReal) := by
  simp [len, Ideal.ofBits, Ideal.ieee, -EReal.coe_mul]
  norm_num

/-- The error at a token, a token's part of the loss, and the cotangent of its norm. -/
def err (a b t : Fin 1024 → EReal) (k : Fin 1024) : EReal := a k * factor len a * b k - t k
def half : EReal := Ideal.ofBits .f32 0x3F000000#32
def loss (a b t : Fin 1024 → EReal) : EReal := Ideal.div (∑ k, err a b t k * err a b t k) len
def dn (a b t : Fin 1024 → EReal) (k : Fin 1024) : EReal := err a b t k * Ideal.ofBits .f32 0x3A800000#32

theorem half_pos_eq : half = ((1 / 2 : ℝ) : EReal) := by
  simp [half, Ideal.ofBits, Ideal.ieee, -EReal.coe_mul]
  norm_num

/-- The derivative of half of the mean of the squares. -/
theorem dn_eq (e : EReal) : Ideal.div half len * (Ideal.ofBits .f32 0x40000000#32 * e) = e * Ideal.ofBits .f32 0x3A800000#32 := by
  have h2 : (Ideal.ofBits .f32 0x40000000#32 : EReal) = ((2 : ℝ) : EReal) := by
    simp [Ideal.ofBits, Ideal.ieee, -EReal.coe_mul]
    norm_num
  have hi : (Ideal.ofBits .f32 0x3A800000#32 : EReal) = ((1 / 1024 : ℝ) : EReal) := by
    simp [Ideal.ofBits, Ideal.ieee, -EReal.coe_mul]
    norm_num
  rw [half_pos_eq, len_eq, Ideal.div_coe (by norm_num), h2, hi, ← mul_assoc, mul_comm _ e, ← EReal.coe_mul, ← EReal.coe_mul]
  norm_num

/-- Half of a sum. -/
theorem half_sum {n : Nat} (f : Fin n → EReal) : half * ∑ k, f k = ∑ k, half * f k := by
  rw [half_pos_eq, mul_comm, mul_coe_sum (by norm_num)]
  exact Finset.sum_congr rfl fun k _ => mul_comm _ _

theorem dx_apply (x : Vec Ideal S512x1024 .f32) (g : Vec Ideal S1x1024 .f32) (d : Vec Ideal S512x1024 .f32) (r : Fin 512)
    (y : Fin 1024) : k0_pay2 (k0_pay5 g) (k0_pay6 x) (k0_pay7 x) (k0_pay10 x g d) (ix2 r y)
    = dx len (fun k => x (ix2 r k)) (fun k => dn (fun k => x (ix2 r k)) (fun k => g (ix2 0 k)) (fun k => d (ix2 r k)) k * g (ix2 0 k)) y := by
  pointwise [k0_pay2, k0_pay5, k0_pay6, k0_pay7, k0_pay8, k0_pay10]
  rfl

theorem dg_first_apply (x : Vec Ideal S512x1024 .f32) (g : Vec Ideal S1x1024 .f32) (d : Vec Ideal S512x1024 .f32)
    (y : Fin 1024) : k0_pay1 (k0_pay7 x) (k0_pay10 x g d) (k0_pay3 (F := Ideal)) (ix2 0 y)
    = ∑ r : Fin 512, dn (fun k => x (ix2 r k)) (fun k => g (ix2 0 k)) (fun k => d (ix2 r k)) y * (x (ix2 r y) * factor len (fun k => x (ix2 r k))) := by
  pointwise [k0_pay1, k0_pay6, k0_pay7, k0_pay8, k0_pay5, k0_pay10, k0_pay3]
  rfl

theorem dg_next_apply (x : Vec Ideal S512x1024 .f32) (g : Vec Ideal S1x1024 .f32) (d : Vec Ideal S512x1024 .f32) (s : Vec Ideal S1x1024 .f32)
    (y : Fin 1024) : k0_pay1 (k0_pay7 x) (k0_pay10 x g d) s (ix2 0 y) = s (ix2 0 y)
    + ∑ r : Fin 512, dn (fun k => x (ix2 r k)) (fun k => g (ix2 0 k)) (fun k => d (ix2 r k)) y * (x (ix2 r y) * factor len (fun k => x (ix2 r k))) := by
  pointwise [k0_pay1, k0_pay6, k0_pay7, k0_pay8, k0_pay5, k0_pay10]
  rfl

theorem loss_first_apply (x : Vec Ideal S512x1024 .f32) (g : Vec Ideal S1x1024 .f32) (d : Vec Ideal S512x1024 .f32)
    (y : Fin 128) : k0_pay9 x g d (k0_pay4 (F := Ideal)) (ix2 0 y)
    = half * ∑ r : Fin 512, loss (fun k => x (ix2 r k)) (fun k => g (ix2 0 k)) (fun k => d (ix2 r k)) := by
  pointwise [k0_pay9, k0_pay6, k0_pay7, k0_pay8, k0_pay5, k0_pay4]
  simp only [Fin.sum_univ_one]
  rfl

theorem loss_next_apply (x : Vec Ideal S512x1024 .f32) (g : Vec Ideal S1x1024 .f32) (d : Vec Ideal S512x1024 .f32) (l : Vec Ideal S1x128 .f32)
    (y : Fin 128) : k0_pay9 x g d l (ix2 0 y) = l (ix2 0 y)
    + half * ∑ r : Fin 512, loss (fun k => x (ix2 r k)) (fun k => g (ix2 0 k)) (fun k => d (ix2 r k)) := by
  pointwise [k0_pay9, k0_pay6, k0_pay7, k0_pay8, k0_pay5]
  simp only [Fin.sum_univ_one]
  rfl

/-! ## The arrays -/

variable (m : (ℓ : Loc nD τ sig) → Buf (Elt Ideal) ℓ) (c : Dev nD)

/-- The arguments' entries. -/
def token (i : Fin 8192) (k : Fin 1024) : EReal := (m ((c : Thread nD τ).loc main_arg0) : Vec Ideal S8192x1024 .f32) (ix2 i k)
def gain (k : Fin 1024) : EReal := (m ((c : Thread nD τ).loc main_arg1) : Vec Ideal S1024 .f32) (ix1 k)
def target (i : Fin 8192) (k : Fin 1024) : EReal := (m ((c : Thread nD τ).loc main_arg2) : Vec Ideal S8192x1024 .f32) (ix2 i k)

/-- The cotangents of the norm, of the tokens and of the gains, and the loss in every lane. -/
def cot (i : Fin 8192) : Fin 1024 → EReal := dn (token m c i) (gain m c) (target m c i)
def tokenCot (i : Fin 8192) (j : Fin 1024) : EReal := dx len (token m c i) (fun k => cot m c i k * gain m c k) j
def gainTerm (j : Fin 1024) (i : Fin 8192) : EReal := cot m c i j * (token m c i j * factor len (token m c i))
def lossTerm (i : Fin 8192) : EReal := half * loss (token m c i) (gain m c) (target m c i)
def tokenCots : Vec Ideal S8192x1024 .f32 := fun i => tokenCot m c (i 0) (i 1)
def gainCots : Vec Ideal S1x1024 .f32 := fun i => ∑ k, gainTerm m c (i 1) k
def losses : Vec Ideal S1x128 .f32 := fun _ => ∑ k, lossTerm m c k

theorem entry_gain (k : Fin 1024) : (V m c main_v0 : Vec Ideal S1x1024 .f32) (ix2 0 k) = gain m c k := by
  show StableHlo.after hostOps0 (fun b => m (c, b)) main_v0 _ = _
  after_results
  pointwise
  rfl

theorem idx : ∀ t : Fin cfg0.N, win0_0.index t = ![t.val % 16, 0] ∧ win0_1.index t = ![0, 0]
    ∧ win0_2.index t = ![t.val % 16, 0] ∧ win0_3.index t = ![0, 0] ∧ win0_4.index t = ![t.val % 16, 0] ∧ win0_5.index t = ![0, 0] :=
  (by decide +kernel : ∀ t : Fin grid0.N, _)

/-- Where a row of a point's block lies in the array. -/
abbrev row (t : Fin cfg0.N) (r : Fin 512) : Fin 8192 := ⟨t.val % 16 * 512 + r.val, by omega⟩

theorem blk_token (t : Fin cfg0.N) (r : Fin 512) (k : Fin 1024) : iblk m c 0 t (ix2 r k) = token m c (row t r) k := by
  blk_simp [iblk]
  refine congrArg (V m c main_arg0) (?_ : _ = (ix2 (row t r) k : S8192x1024.Idx))
  blk_ext [(idx t).1, ix2]

theorem blk_gain (t : Fin cfg0.N) (k : Fin 1024) : iblk m c 1 t (ix2 0 k) = gain m c k := by
  refine Eq.trans ?_ (entry_gain m c _)
  blk_simp [iblk]
  refine congrArg (V m c main_v0) ?_
  blk_ext [(idx t).2.1, ix2]

theorem blk_target (t : Fin cfg0.N) (r : Fin 512) (k : Fin 1024) : iblk m c 2 t (ix2 r k) = target m c (row t r) k := by
  blk_simp [iblk]
  refine congrArg (V m c main_arg2) (?_ : _ = (ix2 (row t r) k : S8192x1024.Idx))
  blk_ext [(idx t).2.2.1, ix2]

/-- The rows of a point's blocks. -/
theorem rows (t : Fin cfg0.N) (r : Fin 512) (p q : Vec Ideal S512x1024 .f32) (b : Vec Ideal S1x1024 .f32) (hp : p = iblk m c 0 t)
    (hb : b = iblk m c 1 t) (hq : q = iblk m c 2 t) : (fun k => p (ix2 r k)) = token m c (row t r)
    ∧ (fun k => b (ix2 0 k)) = gain m c ∧ (fun k => q (ix2 r k)) = target m c (row t r) := by
  subst hp hb hq
  exact ⟨funext (blk_token m c t r), funext (blk_gain m c t), funext (blk_target m c t r)⟩

theorem point_dx (t : Fin cfg0.N) (r : Fin 512) (x : Fin 1024) (p q : Vec Ideal S512x1024 .f32) (b : Vec Ideal S1x1024 .f32)
    (hp : p = iblk m c 0 t) (hb : b = iblk m c 1 t) (hq : q = iblk m c 2 t) :
    k0_pay2 (k0_pay5 b) (k0_pay6 p) (k0_pay7 p) (k0_pay10 p b q) (ix2 r x) = tokenCot m c (row t r) x := by
  obtain ⟨h0, h1, h2⟩ := rows m c t r p q b hp hb hq
  rw [dx_apply, h0, h1, h2]
  exact congrArg (dx len _ · x) (funext fun k => congrArg (_ * ·) (congrFun h1 k))

theorem part_dg (t : Fin cfg0.N) (r : Fin 512) (x : Fin 1024) (p q : Vec Ideal S512x1024 .f32) (b : Vec Ideal S1x1024 .f32)
    (hp : p = iblk m c 0 t) (hb : b = iblk m c 1 t) (hq : q = iblk m c 2 t) :
    dn (fun k => p (ix2 r k)) (fun k => b (ix2 0 k)) (fun k => q (ix2 r k)) x * (p (ix2 r x) * factor len (fun k => p (ix2 r k)))
      = gainTerm m c x (row t r) := by
  obtain ⟨h0, h1, h2⟩ := rows m c t r p q b hp hb hq
  rw [h0, h1, h2]
  exact congrArg (_ * ·) (congrArg (· * _) (congrFun h0 x))

theorem part_loss (t : Fin cfg0.N) (p q : Vec Ideal S512x1024 .f32) (b : Vec Ideal S1x1024 .f32)
    (hp : p = iblk m c 0 t) (hb : b = iblk m c 1 t) (hq : q = iblk m c 2 t) :
    half * ∑ r : Fin 512, loss (fun k => p (ix2 r k)) (fun k => b (ix2 0 k)) (fun k => q (ix2 r k)) = ∑ r, lossTerm m c (row t r) := by
  rw [half_sum]
  refine Finset.sum_congr rfl fun r _ => ?_
  obtain ⟨h0, h1, h2⟩ := rows m c t r p q b hp hb hq
  rw [h0, h1, h2]
  rfl

theorem out_dx (t : Fin cfg0.N) (r : Fin 512) (x : Fin 1024) :
    (outsAt0 m c t.val t.isLt).2.1 (ix2 r x) = tokenCot m c (row t r) x := by
  by_cases h : t.val % 16 = 0
  · rw [outsAt0_A m c t h]
    dsimp only
    rw [first_dx]
    exact point_dx m c t r x _ _ _ rfl rfl rfl
  · rw [outsAt0_B m c t h]
    dsimp only
    rw [next_dx]
    exact point_dx m c t r x _ _ _ rfl rfl rfl

theorem dg_first (t : Fin cfg0.N) (h : t.val % 16 = 0) (x : Fin 1024) :
    (outsAt0 m c t.val t.isLt).2.2 (ix2 0 x) = ∑ r, gainTerm m c x (row t r) := by
  rw [outsAt0_A m c t h]
  dsimp only
  rw [first_dg, dg_first_apply]
  exact Finset.sum_congr rfl fun r _ => part_dg m c t r x _ _ _ rfl rfl rfl

theorem dg_next (t : Fin cfg0.N) (h : ¬t.val % 16 = 0) (x : Fin 1024) : (outsAt0 m c t.val t.isLt).2.2 (ix2 0 x)
    = (outsAt0 m c (t.val - 1) (Nat.lt_of_le_of_lt (Nat.sub_le _ _) t.isLt)).2.2 (ix2 0 x) + ∑ r, gainTerm m c x (row t r) := by
  rw [outsAt0_B m c t h]
  dsimp only
  rw [next_dg, dg_next_apply]
  exact congrArg (_ + ·) (Finset.sum_congr rfl fun r _ => part_dg m c t r x _ _ _ rfl rfl rfl)

theorem loss_first (t : Fin cfg0.N) (h : t.val % 16 = 0) (x : Fin 128) :
    (outsAt0 m c t.val t.isLt).1 (ix2 0 x) = ∑ r, lossTerm m c (row t r) := by
  rw [outsAt0_A m c t h]
  dsimp only
  rw [first_loss, loss_first_apply]
  exact part_loss m c t _ _ _ rfl rfl rfl

theorem loss_next (t : Fin cfg0.N) (h : ¬t.val % 16 = 0) (x : Fin 128) : (outsAt0 m c t.val t.isLt).1 (ix2 0 x)
    = (outsAt0 m c (t.val - 1) (Nat.lt_of_le_of_lt (Nat.sub_le _ _) t.isLt)).1 (ix2 0 x) + ∑ r, lossTerm m c (row t r) := by
  rw [outsAt0_B m c t h]
  dsimp only
  rw [next_loss, loss_next_apply]
  exact congrArg (_ + ·) (part_loss m c t _ _ _ rfl rfl rfl)

theorem out_dg (t : Fin cfg0.N) (h : t.val % 16 = 15) (x : Fin 1024) :
    (outsAt0 m c t.val t.isLt).2.2 (ix2 0 x) = ∑ i, gainTerm m c x i :=
  sum_tiles (α := Fin 1024) (N := cfg0.N) (J := 16) (S := 512) (K := 8192) rfl (fun n hn x => (outsAt0 m c n hn).2.2 (ix2 0 x))
    (fun _ => gainTerm m c) (fun _ _ _ => rfl) (dg_first m c) (dg_next m c) t h x

theorem out_loss (t : Fin cfg0.N) (h : t.val % 16 = 15) (x : Fin 128) :
    (outsAt0 m c t.val t.isLt).1 (ix2 0 x) = ∑ i, lossTerm m c i :=
  sum_tiles (α := Fin 128) (N := cfg0.N) (J := 16) (S := 512) (K := 8192) rfl (fun n hn x => (outsAt0 m c n hn).1 (ix2 0 x))
    (fun _ _ => lossTerm m c) (fun _ _ _ => rfl) (loss_first m c) (loss_next m c) t h x

theorem array_loss : (dats m 0 c).arrAt 3 cfg0.N = losses m c := by
  refine (dats m 0 c).arrAt_eq_of_covers 3 _ (by decide +kernel) fun t hf y => ?_
  have h := (flush0_3 t).1 hf
  blk_simp
  rw [after0_3]
  change S1x128.Idx at y
  obtain ⟨x, rfl⟩ : ∃ x : Fin 128, y = ix2 0 x := ⟨y 1, (eq_ix2 y).trans (congrArg (ix2 · _) (Subsingleton.elim (α := Fin 1) _ _))⟩
  rw [out_loss m c t h]
  rfl

theorem array_dx : (dats m 0 c).arrAt 4 cfg0.N = tokenCots m c := by
  refine (dats m 0 c).arrAt_eq_of_covers 4 _ (by decide +kernel) fun t hf y => ?_
  blk_simp
  rw [after0_4]
  change S512x1024.Idx at y
  obtain ⟨r, x, rfl⟩ : ∃ (r : Fin 512) (x : Fin 1024), y = ix2 r x := ⟨_, _, eq_ix2 y⟩
  rw [out_dx]
  have e0 : (win0_4.blk t).view.emb (ix2 r x) = (ix2 (row t r) x : S8192x1024.Idx) := by blk_ext [(idx t).2.2.2.2.1, ix2]
  rw [e0]
  rfl

theorem array_dg : (dats m 0 c).arrAt 5 cfg0.N = gainCots m c := by
  refine (dats m 0 c).arrAt_eq_of_covers 5 _ (by decide +kernel) fun t hf y => ?_
  have h := (flush0_5 t).1 hf
  blk_simp
  rw [after0_5]
  change S1x1024.Idx at y
  obtain ⟨x, rfl⟩ : ∃ x : Fin 1024, y = ix2 0 x := ⟨y 1, (eq_ix2 y).trans (congrArg (ix2 · _) (Subsingleton.elim (α := Fin 1) _ _))⟩
  rw [out_dg m c t h]
  have e0 : (win0_5.blk t).view.emb (ix2 0 x) = (ix2 0 x : S1x1024.Idx) := by blk_ext [(idx t).2.2.2.2.2, ix2]
  rw [e0]
  rfl

theorem frame : Cert.quiescent_Loss (hLoss := Cert.Loss.Gen.facts) := fun m ρ _ => by
  rw [show Cert.Loss.defs (F := Bits) = Cert.LossIdeal.defs from congrArg (Pipeline.defs _) (table_ext fun _ => rfl)]
  exact Cert.LossIdeal.Gen.frame (F := Bits) m ρ

theorem frame_reference : Cert.quiescent_LossReferenceIdeal (hLossReferenceIdeal := Cert.LossReferenceIdeal.Gen.facts) :=
  fun m ρ _ => (θ_run Cert.LossReferenceIdeal.defs _ _).mono
    (fun r h => ⟨fun c => (h c).2.2.2, sem_eq_zero_of_no_sems (by decide) r.2⟩)
    (Cert.LossReferenceIdeal.Value.run (F := Ideal) m ρ)

theorem algebraic : Cert.algebraic_LossIdeal_LossReferenceIdeal (hLossIdeal := Cert.LossIdeal.Gen.facts)
    (hLossReferenceIdeal := Cert.LossReferenceIdeal.Gen.facts) := by
  intro m g m' g' _ he
  refine ⟨fun c => losses m c, fun c => tokenCots m c, fun c => gainCots m c, ?_, ?_⟩
  · refine (θ_run Cert.LossIdeal.defs _ _).mono (fun r h c => ?_) (Cert.LossIdeal.Value.run_blocks (F := Ideal) m g)
    exact ⟨(h c).1.trans (array_loss m c), (h c).2.1.trans (array_dx m c), (h c).2.2.1.trans (array_dg m c), (h c).2.2.2⟩
  · refine (θ_run Cert.LossReferenceIdeal.defs _ _).mono (fun r h c => ?_) (Cert.LossReferenceIdeal.Value.run (F := Ideal) m' g')
    obtain ⟨h3, h4, h5, h'⟩ := h c
    have hc := fun i k => dn_eq (err (token m c i) (gain m c) (target m c i) k)
    refine ⟨h3.trans ?_, h4.trans ?_, h5.trans ?_, h'⟩ <;> clear h3 h4 h5 h' h
    · simp only [(he c).1, (he c).2.1, (he c).2.2]
      funext i
      change S1x128.Idx at i
      obtain ⟨r, x, rfl⟩ : ∃ (r : Fin 1) (x : Fin 128), i = ix2 r x := ⟨_, _, eq_ix2 i⟩
      pointwise
      exact half_sum _
    · unfold Cert.LossReferenceIdeal.Value.res_main_v50
      simp only [(he c).1, (he c).2.1, (he c).2.2]
      funext i
      change S8192x1024.Idx at i
      obtain ⟨r, x, rfl⟩ : ∃ (r : Fin 8192) (x : Fin 1024), i = ix2 r x := ⟨_, _, eq_ix2 i⟩
      have e := dx_eq (w := 1024) (by norm_num) (token m c r) (fun k => cot m c r k * gain m c k) x
      rw [← len_eq] at e
      refine Eq.trans ?_ e
      unfold cot dn
      simp only [← hc]
      pointwise
      rw [Fin.sum_univ_one]
      rfl
    · simp only [(he c).1, (he c).2.1, (he c).2.2]
      funext i
      change S1x1024.Idx at i
      obtain ⟨r, x, rfl⟩ : ∃ (r : Fin 1) (x : Fin 1024), i = ix2 r x := ⟨_, _, eq_ix2 i⟩
      pointwise
      rw [Fin.sum_univ_one]
      refine Finset.sum_congr rfl fun k _ => ?_
      refine Eq.trans ?_ (mul_comm _ (cot m c k x))
      exact congrArg (_ * ·) (hc k x)

end Cert.RmsNorm.Loss

end
-- ==== Proof.AdamW.lean ====
/- The optimiser's step on one weight, shared by the call on the sharded matrices and the one on the replicated gains. -/
module

public import Idealize.ShloMosaic.Lib.Pointwise

@[expose] public section

noncomputable section

namespace Cert.AdamW

open Idealize.ShloMosaic

/-- The running mean of the gradient after a step, from the gradient `g` and the mean `m` before it. -/
def mean (g m : EReal) : EReal := Ideal.ofBits .f32 0x3F666666#32 * m + Ideal.ofBits .f32 0x3DCCCCCD#32 * g

/-- The running mean of the squared gradient after a step. -/
def square (g v : EReal) : EReal := Ideal.ofBits .f32 0x3F7FBE77#32 * v + Ideal.ofBits .f32 0x3A83126F#32 * (g * g)

/-- What a step adds to the weight `w`. -/
def delta (g w m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.AdamW

end
-- ==== Proof.AdamShard.lean ====
/- The optimiser's step on a device's part of the matrices. -/
module

public import proofs.«01_k».proof.Proof.Gen.AdamIdeal.Value
public import proofs.«01_k».proof.Proof.Gen.AdamReferenceIdeal.Run
public import proofs.«01_k».proof.Proof.Gen.Adam
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.AdamW

@[expose] public section

set_option maxRecDepth 16384

noncomputable section

namespace Cert.AdamW.Shard

open Idealize.ShloMosaic Idealize.ShloMosaic.TcCoe Idealize.SL.Sem Cert.AdamIdeal Cert.AdamIdeal.Gen Cert.Prod

/-! ## What a point of the grid leaves -/

section Run

variable (p : Vec Ideal S8x144x1024 .bf16) (w m v : Vec Ideal S144x1024 .f32) (r : Fin 144) (x : Fin 1024)

/-- The gradient: the sum of the parts of the devices. -/
theorem sum_apply : k0_pay5 p w m v (ix2 r x) = ∑ d : Fin 8, p (ix3 d r x) := by
  rw [Fin.sum_univ_eight]
  pointwise [k0_pay5, k0_pay4]

theorem grad_apply : out0_4 p w m v (ix2 r x) = ∑ d : Fin 8, p (ix3 d r x) := by
  unfold out0_4
  rw [View.canon_cons_unit_zero hz]
  exact sum_apply p w m v r x

theorem mean_apply : out0_6 p w m v (ix2 r x) = mean (∑ d : Fin 8, p (ix3 d r x)) (m (ix2 r x)) := by
  unfold out0_6
  rw [View.canon_cons_unit_zero hz, View.ld_unit_zero (S := S144x1024) hz, ← sum_apply p w m v r x]
  generalize k0_pay5 p w m v = g
  pointwise [k0_pay1]
  rfl

theorem square_apply : out0_7 p w m v (ix2 r x) = square (∑ d : Fin 8, p (ix3 d r x)) (v (ix2 r x)) := by
  unfold out0_7
  rw [View.canon_cons_unit_zero hz, View.ld_unit_zero (S := S144x1024) hz, ← sum_apply p w m v r x]
  generalize k0_pay5 p w m v = g
  pointwise [k0_pay2]
  rfl

theorem delta_apply :
    out0_5 p w m v (ix2 r x) = delta (∑ d : Fin 8, p (ix3 d r x)) (w (ix2 r x)) (m (ix2 r x)) (v (ix2 r x)) := by
  unfold out0_5
  rw [View.canon_cons_unit_zero hz, View.ld_unit_zero (S := S144x1024) hz, View.ld_unit_zero (S := S144x1024) hz,
    View.ld_unit_zero (S := S144x1024) hz, ← sum_apply p w m v r x]
  generalize k0_pay5 p w m v = g
  pointwise [k0_pay3, k0_pay1, k0_pay2]
  rfl

end Run

/-! ## The arrays -/

variable (m : (ℓ : Loc nD τ sig) → Buf (Elt Ideal) ℓ) (c : Dev nD)

/-- The arguments' entries. -/
def part (i : Fin 5904) (j : Fin 1024) (d : Fin 8) : EReal := (m ((c : Thread nD τ).loc main_arg0) : Vec Ideal S8x5904x1024 .bf16) (ix3 d i j)
def weight (i : Fin 5904) (j : Fin 1024) : EReal := (m ((c : Thread nD τ).loc main_arg1) : Vec Ideal S5904x1024 .f32) (ix2 i j)
def first (i : Fin 5904) (j : Fin 1024) : EReal := (m ((c : Thread nD τ).loc main_arg2) : Vec Ideal S5904x1024 .f32) (ix2 i j)
def second (i : Fin 5904) (j : Fin 1024) : EReal := (m ((c : Thread nD τ).loc main_arg3) : Vec Ideal S5904x1024 .f32) (ix2 i j)

def grad (i : Fin 5904) (j : Fin 1024) : EReal := ∑ d : Fin 8, part m c i j d

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] := (by decide +kernel : ∀ t : Fin grid0.N, _)

/-- Where a row of a point's block lies in the array. -/
abbrev row (t : Fin cfg0.N) (r : Fin 144) : Fin 5904 := ⟨t.val * 144 + r.val, by have h : t.val < 41 := lt_of_lt_of_eq t.isLt N_0; omega⟩

theorem blk_part (t : Fin cfg0.N) (d : Fin 8) (r : Fin 144) (x : Fin 1024) : iblk m c 0 t (ix3 d r x) = part m c (row t r) x d := by
  blk_simp [iblk]
  refine congrArg (V m c main_arg0) (?_ : _ = (ix3 d (row t r) x : S8x5904x1024.Idx))
  blk_ext [(idx t).1, ix3]

theorem blk_weight (t : Fin cfg0.N) (r : Fin 144) (x : Fin 1024) : iblk m c 1 t (ix2 r x) = weight m c (row t r) x := by
  blk_simp [iblk]
  refine congrArg (V m c main_arg1) (?_ : _ = (ix2 (row t r) x : S5904x1024.Idx))
  blk_ext [(idx t).2.1, ix2]

theorem blk_first (t : Fin cfg0.N) (r : Fin 144) (x : Fin 1024) : iblk m c 2 t (ix2 r x) = first m c (row t r) x := by
  blk_simp [iblk]
  refine congrArg (V m c main_arg2) (?_ : _ = (ix2 (row t r) x : S5904x1024.Idx))
  blk_ext [(idx t).2.2.1, ix2]

theorem blk_second (t : Fin cfg0.N) (r : Fin 144) (x : Fin 1024) : iblk m c 3 t (ix2 r x) = second m c (row t r) x := by
  blk_simp [iblk]
  refine congrArg (V m c main_arg3) (?_ : _ = (ix2 (row t r) x : S5904x1024.Idx))
  blk_ext [(idx t).2.2.2.1, ix2]

/-- The parts' block at a point. -/
abbrev parts (t : Fin cfg0.N) : Vec Ideal S8x144x1024 .bf16 := iblk m c 0 t

theorem blk_grad (t : Fin cfg0.N) (r : Fin 144) (x : Fin 1024) :
    (∑ d : Fin 8, parts m c t (ix3 d r x)) = grad m c (row t r) x :=
  Finset.sum_congr rfl fun d _ => blk_part m c t d r x

theorem array4 : (dats m 0 c).arrAt 4 cfg0.N = fun i : S5904x1024.Idx => grad m c (i 0) (i 1) := by
  refine (dats m 0 c).arrAt_eq_of_covers 4 _ (by decide +kernel) fun t hf y => ?_
  blk_simp
  rw [after0_4]
  change S144x1024.Idx at y
  obtain ⟨r, x, rfl⟩ : ∃ (r : Fin 144) (x : Fin 1024), y = ix2 r x := ⟨_, _, eq_ix2 y⟩
  rw [grad_apply, blk_grad]
  have e0 : (win0_4.blk t).view.emb (ix2 r x) = (ix2 (row t r) x : S5904x1024.Idx) := by blk_ext [(idx t).2.2.2.2.1, ix2]
  rw [e0]
  rfl

theorem array5 : (dats m 0 c).arrAt 5 cfg0.N = fun i : S5904x1024.Idx => delta (grad m c (i 0) (i 1)) (weight m c (i 0) (i 1)) (first m c (i 0) (i 1)) (second m c (i 0) (i 1)) := by
  refine (dats m 0 c).arrAt_eq_of_covers 5 _ (by decide +kernel) fun t hf y => ?_
  blk_simp
  rw [after0_5]
  change S144x1024.Idx at y
  obtain ⟨r, x, rfl⟩ : ∃ (r : Fin 144) (x : Fin 1024), y = ix2 r x := ⟨_, _, eq_ix2 y⟩
  rw [delta_apply, blk_grad, blk_weight, blk_first, blk_second]
  have e0 : (win0_5.blk t).view.emb (ix2 r x) = (ix2 (row t r) x : S5904x1024.Idx) := by blk_ext [(idx t).2.2.2.2.2.1, ix2]
  rw [e0]
  rfl

theorem array6 : (dats m 0 c).arrAt 6 cfg0.N = fun i : S5904x1024.Idx => mean (grad m c (i 0) (i 1)) (first m c (i 0) (i 1)) := by
  refine (dats m 0 c).arrAt_eq_of_covers 6 _ (by decide +kernel) fun t hf y => ?_
  blk_simp
  rw [after0_6]
  change S144x1024.Idx at y
  obtain ⟨r, x, rfl⟩ : ∃ (r : Fin 144) (x : Fin 1024), y = ix2 r x := ⟨_, _, eq_ix2 y⟩
  rw [mean_apply, blk_grad, blk_first]
  have e0 : (win0_6.blk t).view.emb (ix2 r x) = (ix2 (row t r) x : S5904x1024.Idx) := by blk_ext [(idx t).2.2.2.2.2.2.1, ix2]
  rw [e0]
  rfl

theorem array7 : (dats m 0 c).arrAt 7 cfg0.N = fun i : S5904x1024.Idx => square (grad m c (i 0) (i 1)) (second m c (i 0) (i 1)) := by
  refine (dats m 0 c).arrAt_eq_of_covers 7 _ (by decide +kernel) fun t hf y => ?_
  blk_simp
  rw [after0_7]
  change S144x1024.Idx at y
  obtain ⟨r, x, rfl⟩ : ∃ (r : Fin 144) (x : Fin 1024), y = ix2 r x := ⟨_, _, eq_ix2 y⟩
  rw [square_apply, blk_grad, blk_second]
  have e0 : (win0_7.blk t).view.emb (ix2 r x) = (ix2 (row t r) x : S5904x1024.Idx) := by blk_ext [(idx t).2.2.2.2.2.2.2, ix2]
  rw [e0]
  rfl

theorem frame : Cert.quiescent_Adam (hAdam := Cert.Adam.Gen.facts) := fun m ρ _ => by
  rw [show Cert.Adam.defs (F := Bits) = Cert.AdamIdeal.defs from congrArg (Pipeline.defs _) (table_ext fun _ => rfl)]
  exact Cert.AdamIdeal.Gen.frame (F := Bits) m ρ

theorem frame_reference : Cert.quiescent_AdamReferenceIdeal (hAdamReferenceIdeal := Cert.AdamReferenceIdeal.Gen.facts) :=
  fun m ρ _ => (θ_run Cert.AdamReferenceIdeal.defs _ _).mono
    (fun r h => ⟨fun c => (h c).2.2.2.2, sem_eq_zero_of_no_sems (by decide) r.2⟩)
    (Cert.AdamReferenceIdeal.Value.run (F := Ideal) m ρ)

theorem algebraic : Cert.algebraic_AdamIdeal_AdamReferenceIdeal (hAdamIdeal := Cert.AdamIdeal.Gen.facts)
    (hAdamReferenceIdeal := Cert.AdamReferenceIdeal.Gen.facts) := by
  intro m g m' g' _ he
  refine ⟨fun c => fun i : S5904x1024.Idx => grad m c (i 0) (i 1), fun c => fun i : S5904x1024.Idx => delta (grad m c (i 0) (i 1)) (weight m c (i 0) (i 1)) (first m c (i 0) (i 1)) (second m c (i 0) (i 1)),
    fun c => fun i : S5904x1024.Idx => mean (grad m c (i 0) (i 1)) (first m c (i 0) (i 1)), fun c => fun i : S5904x1024.Idx => square (grad m c (i 0) (i 1)) (second m c (i 0) (i 1)), ?_, ?_⟩
  · refine (θ_run Cert.AdamIdeal.defs _ _).mono (fun r h c => ?_) (Cert.AdamIdeal.Value.run_blocks (F := Ideal) m g)
    obtain ⟨h4, h5, h6, h7, h'⟩ := h c
    exact ⟨h4.trans (array4 m c), h5.trans (array5 m c), h6.trans (array6 m c), h7.trans (array7 m c), h'⟩
  · refine (θ_run Cert.AdamReferenceIdeal.defs _ _).mono (fun r h c => ?_) (Cert.AdamReferenceIdeal.Value.run (F := Ideal) m' g')
    obtain ⟨h4, h5, h6, h7, h'⟩ := h c
    refine ⟨h4.trans ?_, h5.trans ?_, h6.trans ?_, h7.trans ?_, h'⟩ <;>
    · simp only [(he c).1, (he c).2.1, (he c).2.2.1, (he c).2.2.2]
      funext i
      change S5904x1024.Idx at i
      obtain ⟨r, x, rfl⟩ : ∃ (r : Fin 5904) (x : Fin 1024), i = ix2 r x := ⟨_, _, eq_ix2 i⟩
      pointwise
      rfl

end Cert.AdamW.Shard

end
-- ==== Proof.AdamSmall.lean ====
/- The optimiser's step on the gains and the biases that every device keeps. -/
module

public import proofs.«01_k».proof.Proof.Gen.AdamSmallIdeal.Value
public import proofs.«01_k».proof.Proof.Gen.AdamSmallReferenceIdeal.Run
public import proofs.«01_k».proof.Proof.Gen.AdamSmall
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.AdamW

@[expose] public section

set_option maxRecDepth 16384

noncomputable section

namespace Cert.AdamW.Small

open Idealize.ShloMosaic Idealize.ShloMosaic.TcCoe Idealize.SL.Sem Cert.AdamSmallIdeal Cert.AdamSmallIdeal.Gen Cert.Prod

/-! ## What a point of the grid leaves -/

section Run

variable (p : Vec Ideal S8x24x1024 .f32) (w m v : Vec Ideal S24x1024 .f32) (r : Fin 24) (x : Fin 1024)

/-- The gradient: the sum of the parts of the devices. -/
theorem sum_apply : k0_pay5 p w m v (ix2 r x) = ∑ d : Fin 8, p (ix3 d r x) := by
  rw [Fin.sum_univ_eight]
  pointwise [k0_pay5, k0_pay3]

theorem grad_apply : out0_4 p w m v (ix2 r x) = ∑ d : Fin 8, p (ix3 d r x) := by
  unfold out0_4
  rw [View.canon_cons_unit_zero hz]
  exact sum_apply p w m v r x

theorem step_apply : k0_pay6 p w m v (ix2 r x) = mean (∑ d : Fin 8, p (ix3 d r x)) (m (ix2 r x)) := by
  rw [Fin.sum_univ_eight]
  pointwise [k0_pay6, k0_pay4, k0_pay3]
  rfl

theorem mean_apply : out0_6 p w m v (ix2 r x) = mean (∑ d : Fin 8, p (ix3 d r x)) (m (ix2 r x)) := by
  unfold out0_6
  rw [View.canon_cons_unit_zero hz]
  exact step_apply p w m v r x

theorem square_apply : out0_7 p w m v (ix2 r x) = square (∑ d : Fin 8, p (ix3 d r x)) (v (ix2 r x)) := by
  unfold out0_7
  rw [View.canon_cons_unit_zero hz, View.ld_unit_zero (S := S24x1024) hz, ← sum_apply p w m v r x]
  generalize k0_pay5 p w m v = g
  pointwise [k0_pay1]
  rfl

theorem delta_apply :
    out0_5 p w m v (ix2 r x) = delta (∑ d : Fin 8, p (ix3 d r x)) (w (ix2 r x)) (m (ix2 r x)) (v (ix2 r x)) := by
  unfold out0_5
  unfold delta
  rw [View.canon_cons_unit_zero hz, View.ld_unit_zero (S := S24x1024) hz, View.ld_unit_zero (S := S24x1024) hz,
    ← step_apply p w m v r x, ← sum_apply p w m v r x]
  generalize k0_pay5 p w m v = g
  generalize k0_pay6 p w m v = n
  pointwise [k0_pay2, k0_pay1]
  rfl

end Run

/-! ## The arrays -/

variable (m : (ℓ : Loc nD τ sig) → Buf (Elt Ideal) ℓ) (c : Dev nD)

/-- The arguments' entries. -/
def part (i : Fin 24) (j : Fin 1024) (d : Fin 8) : EReal := (m ((c : Thread nD τ).loc main_arg0) : Vec Ideal S8x24x1024 .f32) (ix3 d i j)
def weight (i : Fin 24) (j : Fin 1024) : EReal := (m ((c : Thread nD τ).loc main_arg1) : Vec Ideal S24x1024 .f32) (ix2 i j)
def first (i : Fin 24) (j : Fin 1024) : EReal := (m ((c : Thread nD τ).loc main_arg2) : Vec Ideal S24x1024 .f32) (ix2 i j)
def second (i : Fin 24) (j : Fin 1024) : EReal := (m ((c : Thread nD τ).loc main_arg3) : Vec Ideal S24x1024 .f32) (ix2 i j)

def grad (i : Fin 24) (j : Fin 1024) : EReal := ∑ d : Fin 8, part m c i j d

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] := (by decide +kernel : ∀ t : Fin grid0.N, _)

/-- Where a row of a point's block lies in the array. -/
abbrev row (t : Fin cfg0.N) (r : Fin 24) : Fin 24 := ⟨t.val * 24 + r.val, by have h : t.val < 1 := lt_of_lt_of_eq t.isLt N_0; omega⟩

theorem blk_part (t : Fin cfg0.N) (d : Fin 8) (r : Fin 24) (x : Fin 1024) : iblk m c 0 t (ix3 d r x) = part m c (row t r) x d := by
  blk_simp [iblk]
  refine congrArg (V m c main_arg0) (?_ : _ = (ix3 d (row t r) x : S8x24x1024.Idx))
  blk_ext [(idx t).1, ix3]

theorem blk_weight (t : Fin cfg0.N) (r : Fin 24) (x : Fin 1024) : iblk m c 1 t (ix2 r x) = weight m c (row t r) x := by
  blk_simp [iblk]
  refine congrArg (V m c main_arg1) (?_ : _ = (ix2 (row t r) x : S24x1024.Idx))
  blk_ext [(idx t).2.1, ix2]

theorem blk_first (t : Fin cfg0.N) (r : Fin 24) (x : Fin 1024) : iblk m c 2 t (ix2 r x) = first m c (row t r) x := by
  blk_simp [iblk]
  refine congrArg (V m c main_arg2) (?_ : _ = (ix2 (row t r) x : S24x1024.Idx))
  blk_ext [(idx t).2.2.1, ix2]

theorem blk_second (t : Fin cfg0.N) (r : Fin 24) (x : Fin 1024) : iblk m c 3 t (ix2 r x) = second m c (row t r) x := by
  blk_simp [iblk]
  refine congrArg (V m c main_arg3) (?_ : _ = (ix2 (row t r) x : S24x1024.Idx))
  blk_ext [(idx t).2.2.2.1, ix2]

/-- The parts' block at a point. -/
abbrev parts (t : Fin cfg0.N) : Vec Ideal S8x24x1024 .f32 := iblk m c 0 t

theorem blk_grad (t : Fin cfg0.N) (r : Fin 24) (x : Fin 1024) :
    (∑ d : Fin 8, parts m c t (ix3 d r x)) = grad m c (row t r) x :=
  Finset.sum_congr rfl fun d _ => blk_part m c t d r x

theorem array4 : (dats m 0 c).arrAt 4 cfg0.N = fun i : S24x1024.Idx => grad m c (i 0) (i 1) := by
  refine (dats m 0 c).arrAt_eq_of_covers 4 _ (by decide +kernel) fun t hf y => ?_
  blk_simp
  rw [after0_4]
  change S24x1024.Idx at y
  obtain ⟨r, x, rfl⟩ : ∃ (r : Fin 24) (x : Fin 1024), y = ix2 r x := ⟨_, _, eq_ix2 y⟩
  rw [grad_apply, blk_grad]
  have e0 : (win0_4.blk t).view.emb (ix2 r x) = (ix2 (row t r) x : S24x1024.Idx) := by blk_ext [(idx t).2.2.2.2.1, ix2]
  rw [e0]
  rfl

theorem array5 : (dats m 0 c).arrAt 5 cfg0.N = fun i : S24x1024.Idx => delta (grad m c (i 0) (i 1)) (weight m c (i 0) (i 1)) (first m c (i 0) (i 1)) (second m c (i 0) (i 1)) := by
  refine (dats m 0 c).arrAt_eq_of_covers 5 _ (by decide +kernel) fun t hf y => ?_
  blk_simp
  rw [after0_5]
  change S24x1024.Idx at y
  obtain ⟨r, x, rfl⟩ : ∃ (r : Fin 24) (x : Fin 1024), y = ix2 r x := ⟨_, _, eq_ix2 y⟩
  rw [delta_apply, blk_grad, blk_weight, blk_first, blk_second]
  have e0 : (win0_5.blk t).view.emb (ix2 r x) = (ix2 (row t r) x : S24x1024.Idx) := by blk_ext [(idx t).2.2.2.2.2.1, ix2]
  rw [e0]
  rfl

theorem array6 : (dats m 0 c).arrAt 6 cfg0.N = fun i : S24x1024.Idx => mean (grad m c (i 0) (i 1)) (first m c (i 0) (i 1)) := by
  refine (dats m 0 c).arrAt_eq_of_covers 6 _ (by decide +kernel) fun t hf y => ?_
  blk_simp
  rw [after0_6]
  change S24x1024.Idx at y
  obtain ⟨r, x, rfl⟩ : ∃ (r : Fin 24) (x : Fin 1024), y = ix2 r x := ⟨_, _, eq_ix2 y⟩
  rw [mean_apply, blk_grad, blk_first]
  have e0 : (win0_6.blk t).view.emb (ix2 r x) = (ix2 (row t r) x : S24x1024.Idx) := by blk_ext [(idx t).2.2.2.2.2.2.1, ix2]
  rw [e0]
  rfl

theorem array7 : (dats m 0 c).arrAt 7 cfg0.N = fun i : S24x1024.Idx => square (grad m c (i 0) (i 1)) (second m c (i 0) (i 1)) := by
  refine (dats m 0 c).arrAt_eq_of_covers 7 _ (by decide +kernel) fun t hf y => ?_
  blk_simp
  rw [after0_7]
  change S24x1024.Idx at y
  obtain ⟨r, x, rfl⟩ : ∃ (r : Fin 24) (x : Fin 1024), y = ix2 r x := ⟨_, _, eq_ix2 y⟩
  rw [square_apply, blk_grad, blk_second]
  have e0 : (win0_7.blk t).view.emb (ix2 r x) = (ix2 (row t r) x : S24x1024.Idx) := by blk_ext [(idx t).2.2.2.2.2.2.2, ix2]
  rw [e0]
  rfl

theorem frame : Cert.quiescent_AdamSmall (hAdamSmall := Cert.AdamSmall.Gen.facts) := fun m ρ _ => by
  rw [show Cert.AdamSmall.defs (F := Bits) = Cert.AdamSmallIdeal.defs from congrArg (Pipeline.defs _) (table_ext fun _ => rfl)]
  exact Cert.AdamSmallIdeal.Gen.frame (F := Bits) m ρ

theorem frame_reference : Cert.quiescent_AdamSmallReferenceIdeal (hAdamSmallReferenceIdeal := Cert.AdamSmallReferenceIdeal.Gen.facts) :=
  fun m ρ _ => (θ_run Cert.AdamSmallReferenceIdeal.defs _ _).mono
    (fun r h => ⟨fun c => (h c).2.2.2.2, sem_eq_zero_of_no_sems (by decide) r.2⟩)
    (Cert.AdamSmallReferenceIdeal.Value.run (F := Ideal) m ρ)

theorem algebraic : Cert.algebraic_AdamSmallIdeal_AdamSmallReferenceIdeal (hAdamSmallIdeal := Cert.AdamSmallIdeal.Gen.facts)
    (hAdamSmallReferenceIdeal := Cert.AdamSmallReferenceIdeal.Gen.facts) := by
  intro m g m' g' _ he
  refine ⟨fun c => fun i : S24x1024.Idx => grad m c (i 0) (i 1), fun c => fun i : S24x1024.Idx => delta (grad m c (i 0) (i 1)) (weight m c (i 0) (i 1)) (first m c (i 0) (i 1)) (second m c (i 0) (i 1)),
    fun c => fun i : S24x1024.Idx => mean (grad m c (i 0) (i 1)) (first m c (i 0) (i 1)), fun c => fun i : S24x1024.Idx => square (grad m c (i 0) (i 1)) (second m c (i 0) (i 1)), ?_, ?_⟩
  · refine (θ_run Cert.AdamSmallIdeal.defs _ _).mono (fun r h c => ?_) (Cert.AdamSmallIdeal.Value.run_blocks (F := Ideal) m g)
    obtain ⟨h4, h5, h6, h7, h'⟩ := h c
    exact ⟨h4.trans (array4 m c), h5.trans (array5 m c), h6.trans (array6 m c), h7.trans (array7 m c), h'⟩
  · refine (θ_run Cert.AdamSmallReferenceIdeal.defs _ _).mono (fun r h c => ?_) (Cert.AdamSmallReferenceIdeal.Value.run (F := Ideal) m' g')
    obtain ⟨h4, h5, h6, h7, h'⟩ := h c
    refine ⟨h4.trans ?_, h5.trans ?_, h6.trans ?_, h7.trans ?_, h'⟩ <;>
    · simp only [(he c).1, (he c).2.1, (he c).2.2.1, (he c).2.2.2]
      funext i
      change S24x1024.Idx at i
      obtain ⟨r, x, rfl⟩ : ∃ (r : Fin 24) (x : Fin 1024), i = ix2 r x := ⟨_, _, eq_ix2 i⟩
      pointwise
      rfl

end Cert.AdamW.Small

end
-- ==== Proof.Band.lean ====
/- Banded attention: a query's keys are those at most 64 places away, so that a window of 384 keys holds all keys of the
   256 queries of a tile. A masked score is −∞, whose exponential is 0: the sums over the window are the sums over all keys. -/
module

public import proofs.«01_k».proof.Defs
public import Idealize.ShloMosaic.Lib.Pointwise

@[expose] public section

noncomputable section

namespace Cert.Band

open Idealize.ShloMosaic

/-! ## Words -/

theorem toInt_small (z : ℤ) (h : -100000 ≤ z) (h' : z ≤ 100000) : (BitVec.ofInt 32 z).toInt = z := by
  rw [BitVec.toInt_ofInt, Int.bmod_def]
  split <;> omega

/-- The kernel's mask of key `y` of the window at row `r` of the tile that starts at `b`; `l` is the number of keys. -/
def inside (l b : BitVec 32) (r y : ℕ) : BitVec 1 :=
  IntOp.andi (IntOp.andi (IntOp.andi
    (IntOp.cmpi .sle (IntOp.subi (IntOp.addi (Scalar.subi b 64#32) (BitVec.ofNat 32 y)) (IntOp.addi b (BitVec.ofNat 32 r))) 64#32)
    (IntOp.cmpi .sge (IntOp.subi (IntOp.addi (Scalar.subi b 64#32) (BitVec.ofNat 32 y)) (IntOp.addi b (BitVec.ofNat 32 r))) 4294967232#32))
    (IntOp.cmpi .sge (IntOp.addi (Scalar.subi b 64#32) (BitVec.ofNat 32 y)) 0#32))
    (IntOp.cmpi .slt (IntOp.addi (Scalar.subi b 64#32) (BitVec.ofNat 32 y)) l)

/-- Key `y` of the window is a key of row `r`. -/
abbrev Inside (n base r y : ℕ) : Prop := r ≤ y ∧ y ≤ r + 128 ∧ 64 ≤ base + y ∧ base + y < 64 + n

theorem inside_eq (n base r y : ℕ) (hn : n ≤ 8192) (hb : base ≤ 8192) (hr : r < 256) (hy : y < 384) :
    inside (BitVec.ofNat 32 n) (BitVec.ofNat 32 base) r y = BitVec.ofBool (decide (Inside n base r y)) := by
  have hk : (IntOp.addi (Scalar.subi (BitVec.ofNat 32 base) 64#32) (BitVec.ofNat 32 y)).toInt = (base : ℤ) + y - 64 := by
    rw [show IntOp.addi (Scalar.subi (BitVec.ofNat 32 base) 64#32) (BitVec.ofNat 32 y) = BitVec.ofInt 32 ((base : ℤ) + y - 64) from ?_,
      toInt_small _ (by omega) (by omega)]
    show BitVec.ofNat 32 base - 64#32 + BitVec.ofNat 32 y = _
    apply BitVec.eq_of_toNat_eq
    simp only [BitVec.toNat_add, BitVec.toNat_sub, BitVec.toNat_ofNat, BitVec.toNat_ofInt]
    omega
  have hd : (IntOp.subi (IntOp.addi (Scalar.subi (BitVec.ofNat 32 base) 64#32) (BitVec.ofNat 32 y))
      (IntOp.addi (BitVec.ofNat 32 base) (BitVec.ofNat 32 r))).toInt = (y : ℤ) - 64 - r := by
    rw [show IntOp.subi (IntOp.addi (Scalar.subi (BitVec.ofNat 32 base) 64#32) (BitVec.ofNat 32 y))
      (IntOp.addi (BitVec.ofNat 32 base) (BitVec.ofNat 32 r)) = BitVec.ofInt 32 ((y : ℤ) - 64 - r) from ?_,
      toInt_small _ (by omega) (by omega)]
    show BitVec.ofNat 32 base - 64#32 + BitVec.ofNat 32 y - (BitVec.ofNat 32 base + BitVec.ofNat 32 r) = _
    apply BitVec.eq_of_toNat_eq
    simp only [BitVec.toNat_add, BitVec.toNat_sub, BitVec.toNat_ofNat, BitVec.toNat_ofInt]
    omega
  have hl : (BitVec.ofNat 32 n).toInt = n := by
    rw [show BitVec.ofNat 32 n = BitVec.ofInt 32 (n : ℤ) from rfl, toInt_small _ (by omega) (by omega)]
  unfold inside IntOp.andi IntOp.cmpi
  simp only [BitVec.sle, BitVec.slt, hk, hd, hl, show (64#32 : BitVec 32).toInt = 64 from by decide,
    show (4294967232#32 : BitVec 32).toInt = -64 from by decide, show (0#32 : BitVec 32).toInt = 0 from by decide]
  simp only [BitVec.ofBool_and_ofBool, ← Bool.decide_and]
  congr 1
  apply decide_eq_decide.mpr
  omega

theorem select_ofBool {α : Type} (p : Prop) [Decidable p] (a b : α) :
    Scalar.select (BitVec.ofBool (decide p)) a b = if p then a else b := by
  by_cases h : p <;> simp [h, Scalar.select]

/-- The reference's mask. -/
theorem near_eq (i j : ℕ) (hi : i < 8192) (hj : j < 8192) :
    IntOp.cmpi .sle (IntOp.absi (IntOp.subi (BitVec.ofNat 32 i) (BitVec.ofNat 32 j))) 64#32
      = BitVec.ofBool (decide (i ≤ j + 64 ∧ j ≤ i + 64)) := by
  have hd : (IntOp.subi (BitVec.ofNat 32 i) (BitVec.ofNat 32 j)) = BitVec.ofInt 32 ((i : ℤ) - j) := by
    show BitVec.ofNat 32 i - BitVec.ofNat 32 j = _
    apply BitVec.eq_of_toNat_eq
    simp only [BitVec.toNat_sub, BitVec.toNat_ofNat, BitVec.toNat_ofInt]
    omega
  have ha : (IntOp.absi (BitVec.ofInt 32 ((i : ℤ) - j))).toInt = |(i : ℤ) - j| := by
    unfold IntOp.absi
    rw [BitVec.msb_eq_toInt, toInt_small _ (by omega) (by omega)]
    by_cases h : (i : ℤ) - j < 0
    · rw [if_pos (by simpa using h), ← BitVec.ofInt_neg, toInt_small _ (by omega) (by omega), abs_of_neg h]
    · rw [if_neg (by simpa using h), toInt_small _ (by omega) (by omega), abs_of_nonneg (by omega)]
  unfold IntOp.cmpi
  simp only [hd, BitVec.sle, ha, show (64#32 : BitVec 32).toInt = 64 from by decide]
  congr 1
  apply decide_eq_decide.mpr
  rw [abs_le]
  omega

/-! ## Rows -/

/-- The largest score. -/
def top {n : ℕ} (f : Fin n → EReal) : EReal := Finset.univ.fold max (Ideal.ofBits .f32 0xFF800000#32) f

/-- The weight of a key before the division. -/
def weight {n : ℕ} (f : Fin n → EReal) (j : Fin n) : EReal := Ideal.exp (f j - top f)

def mix {n : ℕ} (f v : Fin n → EReal) : EReal := Ideal.div (∑ j, weight f j * v j) (∑ j, weight f j)

def logsum {n : ℕ} (f : Fin n → EReal) : EReal := top f + Ideal.log (∑ j, weight f j)

theorem weight_bot {n : ℕ} (f : Fin n → EReal) (j : Fin n) (h : f j = ⊥) : weight f j = 0 := by
  unfold weight
  rw [h, sub_eq_add_neg, EReal.bot_add]
  rfl

section Window
variable {n w : ℕ} (p : Fin w → Prop) [DecidablePred p] (e : Fin w → Fin n) (f : Fin n → EReal) (g : Fin w → EReal)
  (he : ∀ y y', p y → p y' → e y = e y' → y = y') (hf : ∀ j, (∀ y, p y → e y ≠ j) → f j = ⊥)
  (hg : ∀ y, g y = if p y then f (e y) else ⊥)

include hf hg in
theorem top_eq : top g = top f := by
  unfold top
  apply le_antisymm
  · refine Finset.fold_max_le _ |>.mpr ⟨Finset.le_fold_max _ |>.mpr (.inl le_rfl), fun y _ => ?_⟩
    rw [hg]
    split
    · exact Finset.le_fold_max _ |>.mpr (.inr ⟨e y, Finset.mem_univ _, le_rfl⟩)
    · exact bot_le
  · refine Finset.fold_max_le _ |>.mpr ⟨Finset.le_fold_max _ |>.mpr (.inl le_rfl), fun j _ => ?_⟩
    by_cases h : ∀ y, p y → e y ≠ j
    · rw [hf j h]; exact bot_le
    · push Not at h
      obtain ⟨y, hy, rfl⟩ := h
      exact Finset.le_fold_max _ |>.mpr (.inr ⟨y, Finset.mem_univ _, by rw [hg, if_pos hy]⟩)

include he in
theorem sum_eq (F : Fin n → EReal) (G : Fin w → EReal) (hF : ∀ j, (∀ y, p y → e y ≠ j) → F j = 0)
    (hG : ∀ y, G y = if p y then F (e y) else 0) : ∑ y, G y = ∑ j, F j := by
  rw [Finset.sum_congr rfl fun y _ => hG y, ← Finset.sum_filter]
  refine Finset.sum_of_injOn e ?_ (fun _ _ => Finset.mem_coe.mpr (Finset.mem_univ _)) (fun j _ hj => hF j fun y hy hyj => hj ⟨y, ?_, hyj⟩) fun _ _ => rfl
  · intro y hy y' hy' h
    exact he y y' (by simpa using hy) (by simpa using hy') h
  · simpa using hy

include hf hg in
theorem weight_eq (y : Fin w) : weight g y = if p y then weight f (e y) else 0 := by
  by_cases hy : p y
  · rw [if_pos hy]; unfold weight; rw [top_eq p e f g hf hg, hg, if_pos hy]
  · rw [if_neg hy, weight_bot _ _ (by rw [hg, if_neg hy])]

include he hf hg in
theorem total_eq : ∑ y, weight g y = ∑ j, weight f j :=
  sum_eq p e he _ _ (fun j hj => weight_bot f j (hf j hj)) (weight_eq p e f g hf hg)

include he hf hg in
theorem mix_eq (v : Fin n → EReal) (u : Fin w → EReal) (hu : ∀ y, p y → u y = v (e y)) : mix g u = mix f v := by
  unfold mix
  rw [total_eq p e f g he hf hg, sum_eq p e he (fun j => weight f j * v j) (fun y => weight g y * u y)
    (fun j hj => by rw [weight_bot f j (hf j hj), zero_mul]) fun y => ?_]
  rw [weight_eq p e f g hf hg]
  split
  · rename_i hy; rw [hu y hy]
  · rw [zero_mul]

include he hf hg in
theorem logsum_eq : logsum g = logsum f := by
  unfold logsum
  rw [total_eq p e f g he hf hg, top_eq p e f g hf hg]

end Window

/-- A query's masked scores. -/
def masked {n : ℕ} (i : Fin n) (s : Fin n → EReal) (j : Fin n) : EReal := if i.val ≤ j.val + 64 ∧ j.val ≤ i.val + 64 then s j else ⊥

/-- Where key `y` of the window lies (any place if it is none). -/
def place (n base : ℕ) (hn : 0 < n) (y : Fin 384) : Fin n := ⟨min (base + y.val - 64) (n - 1), by omega⟩

section Tile
variable {n : ℕ} (hn : 0 < n) (base : ℕ) (r : Fin 256) (hr : base + r.val < n) (s : Fin n → EReal) (t : Fin 384 → EReal)
  (ht : ∀ y : Fin 384, Inside n base r.val y.val → t y = s (place n base hn y))

theorem place_inj (y y' : Fin 384) (h : Inside n base r.val y.val) (h' : Inside n base r.val y'.val)
    (e : place n base hn y = place n base hn y') : y = y' := by
  have := congrArg Fin.val e
  simp only [place] at this
  omega

include hr in
theorem masked_out (j : Fin n) (h : ∀ y : Fin 384, Inside n base r.val y.val → place n base hn y ≠ j) :
    masked ⟨base + r.val, hr⟩ s j = ⊥ := by
  unfold masked
  rw [if_neg]
  rintro ⟨h1, h2⟩
  simp only at h1 h2
  have := j.isLt
  refine h ⟨j.val + 64 - base, by omega⟩ ⟨by simp only; omega, by simp only; omega, by simp only; omega, by simp only; omega⟩ ?_
  apply Fin.ext
  simp only [place]
  omega

include ht in
theorem masked_in (y : Fin 384) : (if Inside n base r.val y.val then t y else ⊥)
    = if Inside n base r.val y.val then masked ⟨base + r.val, hr⟩ s (place n base hn y) else ⊥ := by
  split
  · rename_i h
    rw [ht y h]
    unfold masked
    rw [if_pos]
    simp only [place]
    omega
  · rfl

include ht in
theorem tile_mix (v : Fin n → EReal) (u : Fin 384 → EReal) (hu : ∀ y : Fin 384, Inside n base r.val y.val → u y = v (place n base hn y)) :
    mix (fun y : Fin 384 => if Inside n base r.val y.val then t y else ⊥) u = mix (masked ⟨base + r.val, hr⟩ s) v :=
  mix_eq (fun y : Fin 384 => Inside n base r.val y.val) (place n base hn) _ _ (place_inj hn base r) (masked_out hn base r hr s)
    (masked_in hn base r hr s t ht) v u hu

include ht in
theorem tile_logsum :
    logsum (fun y : Fin 384 => if Inside n base r.val y.val then t y else ⊥) = logsum (masked ⟨base + r.val, hr⟩ s) :=
  logsum_eq (fun y : Fin 384 => Inside n base r.val y.val) (place n base hn) _ _ (place_inj hn base r) (masked_out hn base r hr s)
    (masked_in hn base r hr s t ht)

end Tile

end Cert.Band

end
-- ==== Proof.BandPay.lean ====
/- The banded attention's tiles. -/
module

public import proofs.«01_k».proof.Proof.Gen.Band1Ideal.Value
public import proofs.«01_k».proof.Proof.Gen.Band1ReferenceIdeal.Run
public import proofs.«01_k».proof.Proof.Gen.Band1
public import proofs.«01_k».proof.Defs
public import Idealize.ShloMosaic.Lib.Pointwise
public import Idealize.ShloMosaic.Lib.Quiescent
public import Idealize.ShloMosaic.Lib.VecWindow
public import proofs.«01_k».proof.Proof.Prod
public import proofs.«01_k».proof.Proof.Band

@[expose] public section

set_option maxRecDepth 16384

noncomputable section

namespace Cert.Band.One

open Idealize.ShloMosaic Idealize.ShloMosaic.TcCoe Idealize.SL.Sem Cert.Band1Ideal Cert.Band1Ideal.Gen Cert.Prod

variable (i : grid0.Coords) (k v : Vec Ideal S1x384x64 .bf16) (q : Vec Ideal S1x256x64 .bf16) (r : Fin 256) (x : Fin 64)

/-- The first place of the tile at offset `o` of a point's rows, as a word. -/
def start (o : BitVec 32) : BitVec 32 := Scalar.addi (Scalar.muli (BitVec.ofNat 32 (i 1).val) 1024#32) o

/-- The masked scores of row `r`. -/
def scores (o : BitVec 32) (y : Fin 384) : EReal :=
  Scalar.select (inside 8192#32 (start i o) r.val y.val)
    ((∑ d : Fin 64, q (ix3 0 r d) * k (ix3 0 y d)) * Ideal.ofBits .f32 0x3E000000#32) ⊥

theorem mix0 : k0_pay13 (k0_pay7 v) (k0_pay8 i k q) (k0_pay9 i k q) (ix3 0 r x)
    = mix (scores i k q r 0#32) fun y => v (ix3 0 y x) := by
  pointwise [k0_pay13, k0_pay12, k0_pay11, k0_pay10, k0_pay7, k0_pay9, k0_pay8]
  rfl

theorem log0 : k0_pay14 (k0_pay8 i k q) (k0_pay9 i k q) (ix3 0 r 0) = logsum (scores i k q r 0#32) := by
  pointwise [k0_pay14, k0_pay12, k0_pay11, k0_pay10, k0_pay7, k0_pay9, k0_pay8]
  rfl

theorem mix1 : k0_pay23 (k0_pay15 v) (k0_pay16 k q) (k0_pay17 (BitVec.ofNat 32 (i 1).val)) (iota .tc S1x384 32 [1] iota_S1x384_d1_w32) (k0_pay18 (BitVec.ofNat 32 (i 1).val)) (ix3 0 r x)
    = mix (scores i k q r 256#32) fun y => v (ix3 0 y x) := by
  pointwise [k0_pay23, k0_pay22, k0_pay21, k0_pay20, k0_pay19, k0_pay15, k0_pay16, k0_pay17, k0_pay18]
  rfl

theorem log1 : k0_pay24 (k0_pay16 k q) (k0_pay17 (BitVec.ofNat 32 (i 1).val)) (iota .tc S1x384 32 [1] iota_S1x384_d1_w32) (k0_pay18 (BitVec.ofNat 32 (i 1).val)) (ix3 0 r 0)
    = logsum (scores i k q r 256#32) := by
  pointwise [k0_pay24, k0_pay22, k0_pay21, k0_pay20, k0_pay19, k0_pay15, k0_pay16, k0_pay17, k0_pay18]
  rfl

theorem mix2 : k0_pay31 (k0_pay25 v) (k0_pay29 (start i 512#32) 64#32 k q) (k0_pay30 (start i 512#32) 64#32 k q) (ix3 0 r x)
    = mix (scores i k q r 512#32) fun y => v (ix3 0 y x) := by
  pointwise [k0_pay31, k0_pay30, k0_pay29, k0_pay28, k0_pay27, k0_pay26, k0_pay25]
  rfl

theorem log2 : k0_pay32 (k0_pay27 (start i 512#32) 64#32 k q) (k0_pay29 (start i 512#32) 64#32 k q) (ix3 0 r 0)
    = logsum (scores i k q r 512#32) := by
  pointwise [k0_pay32, k0_pay29, k0_pay28, k0_pay27, k0_pay26]
  rfl

theorem mix3 : k0_pay5 (k0_pay33 v) (k0_pay34 k q) (k0_pay35 (BitVec.ofNat 32 (i 1).val)) (k0_pay36 (BitVec.ofNat 32 (i 1).val))
      (k0_pay37 (BitVec.ofNat 32 (i 1).val)) 4294967232#32 (ix3 0 r x)
    = mix (scores i k q r 768#32) fun y => v (ix3 0 y x) := by
  pointwise [k0_pay5, k0_pay4, k0_pay3, k0_pay2, k0_pay1, k0_pay33, k0_pay34, k0_pay35, k0_pay36, k0_pay37]
  rfl

theorem log3 : k0_pay6 (k0_pay34 k q) (k0_pay35 (BitVec.ofNat 32 (i 1).val)) (k0_pay36 (BitVec.ofNat 32 (i 1).val))
      (k0_pay37 (BitVec.ofNat 32 (i 1).val)) 4294967232#32 (ix3 0 r 0)
    = logsum (scores i k q r 768#32) := by
  pointwise [k0_pay6, k0_pay4, k0_pay3, k0_pay2, k0_pay1, k0_pay33, k0_pay34, k0_pay35, k0_pay36, k0_pay37]
  rfl

/-- The place of key `y` of tile `t`'s window among the padded keys of a head. -/
def pos (t : Fin 4) (y : Fin 384) : Fin 8320 :=
  ⟨1024 * (i 1).val + 256 * t.val + y.val, by have h : (i 1).val < 8 := (i 1).isLt; omega⟩

/-- Row `r` of tile `t` among the rows of a point. -/
def row (t : Fin 4) (r : Fin 256) : Fin 1024 := ⟨256 * t.val + r.val, by omega⟩

section
variable (x0 : Vec Ideal S1x1024x64 .bf16) (x1 x2 : Vec Ideal S1x8320x64 .bf16) (t : Fin 4)

/-- The scores of a row in its window. -/
def windowScores (y : Fin 384) : EReal :=
  if Inside 8192 (1024 * (i 1).val + 256 * t.val) r.val y.val then
    (∑ d : Fin 64, x0 (ix3 0 (row t r) d) * x1 (ix3 0 (pos i t y) d)) * Ideal.ofBits .f32 0x3E000000#32
  else ⊥

variable {i} {k} {v} {q} {x0} {x1} {x2} {t}

theorem scores_eq (hk : ∀ y d, k (ix3 0 y d) = x1 (ix3 0 (pos i t y) d)) (hq : ∀ r d, q (ix3 0 r d) = x0 (ix3 0 (row t r) d)) :
    scores i k q r (BitVec.ofNat 32 (256 * t.val)) = windowScores i r x0 x1 t := by
  funext y
  have h : (i 1).val < 8 := (i 1).isLt
  have hs : start i (BitVec.ofNat 32 (256 * t.val)) = BitVec.ofNat 32 (1024 * (i 1).val + 256 * t.val) := by
    show BitVec.ofNat 32 (i 1).val * 1024#32 + BitVec.ofNat 32 (256 * t.val) = _
    apply BitVec.eq_of_toNat_eq
    simp only [BitVec.toNat_add, BitVec.toNat_mul, BitVec.toNat_ofNat]
    omega
  unfold scores windowScores
  rw [hs, show (8192#32 : BitVec 32) = BitVec.ofNat 32 8192 from rfl, inside_eq 8192 _ _ _ le_rfl (by omega) r.isLt y.isLt, select_ofBool]
  simp only [hk, hq]

variable (i) (x0) (x1) (x2) in
/-- What the rows of a point's tiles are: the values mixed, and the logarithms of the sums. -/
def mixes (t : Fin 4) (r : Fin 256) (x : Fin 64) : EReal := mix (windowScores i r x0 x1 t) fun y => x2 (ix3 0 (pos i t y) x)
variable (i) (x0) (x1) in
def logs (t : Fin 4) (r : Fin 256) (_ : Fin 1) : EReal := logsum (windowScores i r x0 x1 t)

theorem mix_window (hk : ∀ y d, k (ix3 0 y d) = x1 (ix3 0 (pos i t y) d)) (hv : ∀ y d, v (ix3 0 y d) = x2 (ix3 0 (pos i t y) d))
    (hq : ∀ r d, q (ix3 0 r d) = x0 (ix3 0 (row t r) d)) :
    mix (scores i k q r (BitVec.ofNat 32 (256 * t.val))) (fun y => v (ix3 0 y x)) = mixes i x0 x1 x2 t r x := by
  rw [scores_eq r hk hq, funext fun y => hv y x]
  rfl

theorem log_window (hk : ∀ y d, k (ix3 0 y d) = x1 (ix3 0 (pos i t y) d)) (hq : ∀ r d, q (ix3 0 r d) = x0 (ix3 0 (row t r) d)) :
    logsum (scores i k q r (BitVec.ofNat 32 (256 * t.val))) = logs i x0 x1 t r (0 : Fin 1) := by
  rw [scores_eq r hk hq]
  rfl

/-- A window's read of the keys or the values. -/
theorem ld_window (x : Vec Ideal S1x8320x64 .bf16) (inb) (y : Fin 384) (d : Fin 64) :
    View.ld x (Rect.unit (s := S1x8320x64) (k0_off1 i (BitVec.ofNat 32 (256 * t.val))) S1x384x64.size inb) (ix3 0 y d) = x (ix3 0 (pos i t y) d) := by
  have h : (i 1).val < 8 := (i 1).isLt
  have hs : (BitVec.ofNat 32 (i 1).val * 1024#32 + BitVec.ofNat 32 (256 * t.val)).toNat = 1024 * (i 1).val + 256 * t.val := by
    simp only [BitVec.toNat_add, BitVec.toNat_mul, BitVec.toNat_ofNat]
    omega
  refine View.ld_unit_apply_of x _ _ inb _ _ fun a => ?_
  fin_cases a
  · rfl
  · show 1024 * (i 1).val + 256 * t.val + y.val = (BitVec.ofNat 32 (i 1).val * 1024#32 + BitVec.ofNat 32 (256 * t.val)).toNat + y.val
    rw [hs]
  · show d.val = 0 + d.val
    omega

theorem ld_rows (x : Vec Ideal S1x1024x64 .bf16) (inb) (r : Fin 256) (d : Fin 64) :
    View.ld x (Rect.unit (s := S1x1024x64) ![0, 256 * t.val, 0] S1x256x64.size inb) (ix3 0 r d) = x (ix3 0 (row t r) d) := by
  refine View.ld_unit_apply_of x _ _ inb _ _ fun a => ?_
  fin_cases a
  · rfl
  · rfl
  · show d.val = 0 + d.val
    omega

/-- A tile's piece has the row's value wherever it holds the row. -/
theorem tileAt {n : ℕ} (s : Fin 4) (w : (⟨3, ![1, 256, n]⟩ : Shape).Idx → EReal) (u : Fin 4 → Fin 256 → Fin n → EReal) (x : Fin n)
    (h : ∀ r x, w (ix3 0 r x) = u s r x) :
    View.TileAt (Val := Elt Ideal) (S := ⟨3, ![1, 1024, n]⟩) (e := .f32) (ix3 0 (row t r) x) ![0, 256 * s.val, 0] ![1, 256, n] w (u t r x) := by
  intro z hz
  obtain ⟨a, b, d, rfl⟩ : ∃ (a : Fin 1) (b : Fin 256) (d : Fin n), z = ix3 a b d := ⟨_, _, _, eq_ix3 z⟩
  have h1 : 256 * t.val + r.val = 256 * s.val + b.val := hz 1
  have h2 : x.val = 0 + d.val := hz 2
  obtain rfl : a = 0 := Subsingleton.elim _ _
  obtain rfl : t = s := Fin.ext (by omega)
  obtain rfl : r = b := Fin.ext (by omega)
  obtain rfl : x = d := Fin.ext (by omega)
  exact h r x

end

section Run
variable (c : Dev nD) (i : grid0.Coords) (arg2 : Memref sig .tc .vmem S1x1024x64 .bf16) (harg2 : arg2.IsWhole) (arg3 : Memref sig .tc .vmem S1x8320x64 .bf16) (harg3 : arg3.IsWhole) (arg4 : Memref sig .tc .vmem S1x8320x64 .bf16) (harg4 : arg4.IsWhole) (arg5 : Memref sig .tc .vmem S1x1024x64 .f32) (harg5 : arg5.IsWhole) (arg6 : Memref sig .tc .vmem S1x1024x1 .f32) (harg6 : arg6.IsWhole)
    (x0 : Vec Ideal S1x1024x64 .bf16) (x1 : Vec Ideal S1x8320x64 .bf16) (x2 : Vec Ideal S1x8320x64 .bf16)

theorem out_mix (t : Fin 4) (r : Fin 256) (x : Fin 64) :
    out0_A_3 c i arg2 harg2 arg3 harg3 arg4 harg4 arg5 harg5 arg6 harg6 x0 x1 x2 (ix3 0 (row t r) x)
      = mixes i x0 x1 x2 t r x := by
  unfold out0_A_3
  rw [View.read_writes_apply_eq_canon _ _ _ _ (cover0_A_3 c i arg2 harg2 arg3 harg3 arg4 harg4 arg5 harg5 arg6 harg6 x0 x1 x2 _)]
  refine View.canon_eq_of_allAt _ _ _ (cover0_A_3 c i arg2 harg2 arg3 harg3 arg4 harg4 arg5 harg5 arg6 harg6 x0 x1 x2 _) ?_
  unfold kernelRun0_A
  dsimp only
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_9 kernelRun0_A.sl.r_10 kernelRun0_A.sl.r_11 kernelRun0_A.sl.r_12 kernelRun0_A.sl.r_13 kernelRun0_A.sl.r_14 kernelRun0_A.sl.r_15
  simp only [View.readAt_eq_ld, harg2.read_unread, harg3.read_unread, harg4.read_unread]
  refine View.allAt_cons_unit _ _ _ _ _ (tileAt r 3 _ (mixes i x0 x1 x2) x fun r x => ?_) ?_
  · exact (mix3 i _ _ _ r x).trans (mix_window (t := 3) r x (ld_window (t := 3) x1 _) (ld_window (t := 3) x2 _) (ld_rows (t := 3) x0 _))
  refine View.allAt_cons_unit _ _ _ _ _ (tileAt r 2 _ (mixes i x0 x1 x2) x fun r x => ?_) ?_
  · exact (mix2 i _ _ _ r x).trans (mix_window (t := 2) r x (ld_window (t := 2) x1 _) (ld_window (t := 2) x2 _) (ld_rows (t := 2) x0 _))
  refine View.allAt_cons_unit _ _ _ _ _ (tileAt r 1 _ (mixes i x0 x1 x2) x fun r x => ?_) ?_
  · exact (mix1 i _ _ _ r x).trans (mix_window (t := 1) r x (ld_window (t := 1) x1 _) (ld_window (t := 1) x2 _) (ld_rows (t := 1) x0 _))
  refine View.allAt_cons_unit _ _ _ _ _ (tileAt r 0 _ (mixes i x0 x1 x2) x fun r x => ?_) ?_
  · exact (mix0 i _ _ _ r x).trans (mix_window (t := 0) r x (ld_window (t := 0) x1 _) (ld_window (t := 0) x2 _) (ld_rows (t := 0) x0 _))
  exact View.allAt_nil _ _

theorem out_log (t : Fin 4) (r : Fin 256) :
    out0_A_4 c i arg2 harg2 arg3 harg3 arg4 harg4 arg5 harg5 arg6 harg6 x0 x1 x2 (ix3 0 (row t r) 0) = logs i x0 x1 t r (0 : Fin 1) := by
  unfold out0_A_4
  rw [View.read_writes_apply_eq_canon _ _ _ _ (cover0_A_4 c i arg2 harg2 arg3 harg3 arg4 harg4 arg5 harg5 arg6 harg6 x0 x1 x2 _)]
  refine View.canon_eq_of_allAt _ _ _ (cover0_A_4 c i arg2 harg2 arg3 harg3 arg4 harg4 arg5 harg5 arg6 harg6 x0 x1 x2 _) ?_
  unfold kernelRun0_A
  dsimp only
  unfold kernelRun0_A.sl.r_1 kernelRun0_A.sl.r_2 kernelRun0_A.sl.r_4 kernelRun0_A.sl.r_5 kernelRun0_A.sl.r_6 kernelRun0_A.sl.r_8 kernelRun0_A.sl.r_9 kernelRun0_A.sl.r_12 kernelRun0_A.sl.r_13 kernelRun0_A.sl.r_14 kernelRun0_A.sl.r_15
  simp only [View.readAt_eq_ld, harg2.read_unread, harg3.read_unread, harg4.read_unread]
  refine View.allAt_cons_unit _ _ _ _ _ (tileAt r 3 _ (logs i x0 x1) 0 fun r x => ?_) ?_
  · obtain rfl : x = 0 := Subsingleton.elim _ _
    exact (log3 i _ _ r).trans (log_window (t := 3) r (ld_window (t := 3) x1 _) (ld_rows (t := 3) x0 _))
  refine View.allAt_cons_unit _ _ _ _ _ (tileAt r 2 _ (logs i x0 x1) 0 fun r x => ?_) ?_
  · obtain rfl : x = 0 := Subsingleton.elim _ _
    exact (log2 i _ _ r).trans (log_window (t := 2) r (ld_window (t := 2) x1 _) (ld_rows (t := 2) x0 _))
  refine View.allAt_cons_unit _ _ _ _ _ (tileAt r 1 _ (logs i x0 x1) 0 fun r x => ?_) ?_
  · obtain rfl : x = 0 := Subsingleton.elim _ _
    exact (log1 i _ _ r).trans (log_window (t := 1) r (ld_window (t := 1) x1 _) (ld_rows (t := 1) x0 _))
  refine View.allAt_cons_unit _ _ _ _ _ (tileAt r 0 _ (logs i x0 x1) 0 fun r x => ?_) ?_
  · obtain rfl : x = 0 := Subsingleton.elim _ _
    exact (log0 i _ _ r).trans (log_window (t := 0) r (ld_window (t := 0) x1 _) (ld_rows (t := 0) x0 _))
  exact View.allAt_nil _ _

end Run

end Cert.Band.One

end
-- ==== Proof.BandRef.lean ====
/- The banded attention of the reference, entry by entry. -/
module

public import proofs.«01_k».proof.Proof.Gen.Band1ReferenceIdeal.Run
public import proofs.«01_k».proof.Proof.Band
public import Idealize.ShloMosaic.Lib.VecWindow
public import proofs.«01_k».proof.Proof.Prod

@[expose] public section

set_option maxRecDepth 16384

noncomputable section

namespace Cert.Band.OneRef

open Idealize.ShloMosaic Idealize.ShloMosaic.TcCoe Cert.Band1ReferenceIdeal Cert.Band1ReferenceIdeal.Gen Cert.Prod

/-- The masked scores, as the program computes them. -/
abbrev scores (q k : FVec Ideal S8192x6x64 .f32) : FVec Ideal S1x6x8192x8192 .f32 :=
  (select (broadcastInDim S1x6x8192x8192 ![2, 3] bcast_S8192x8192_S1x6x8192x8192_2_3 (cmpi .sle (absi (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S8192x8192 ![] bcast_S_S8192x8192 (constantI S_ 32 64#32)))) (mulf (Host.dotGeneral dot_S1x8192x6x64_S1x8192x6x64_S1x6x8192x8192_3_3_1_1_02_02 none (transpose S1x8192x6x64 [1, 0, 2, 3] (shapeCast _ q shapeCasts_S8192x6x64_S8192x1x6x64) transposes_S8192x1x6x64_S1x8192x6x64_1_0_2_3) (transpose S1x8192x6x64 [1, 0, 2, 3] (shapeCast _ k shapeCasts_S8192x6x64_S8192x1x6x64) transposes_S8192x1x6x64_S1x8192x6x64_1_0_2_3)) (broadcastInDim S1x6x8192x8192 ![] bcast_S_S1x6x8192x8192 (constant (F := Ideal) S_ .f32 0x3E000000#32))) (broadcastInDim S1x6x8192x8192 ![] bcast_S_S1x6x8192x8192 (id (constant (F := Ideal) S_ .f32 0xFF800000#32))))

theorem scores_apply (q k : FVec Ideal S8192x6x64 .f32) (h : Fin 6) (i j : Fin 8192) :
    scores q k (ix4 0 h i j) = masked i (fun j => (∑ d : Fin 64, q (ix3 i h d) * k (ix3 j h d)) * Ideal.ofBits .f32 0x3E000000#32) j := by
  pointwise [scores]
  rw [near_eq _ _ i.isLt j.isLt, select_ofBool]
  unfold masked
  refine if_congr Iff.rfl rfl ?_
  show Ideal.ofBits .f32 0xFF800000#32 = ⊥
  simp [Ideal.ofBits, Ideal.ieee]

variable (S : FVec Ideal S1x6x8192x8192 .f32)

/-- The largest scores, the weights and their sums. -/
abbrev tops : FVec Ideal S1x6x8192 .f32 := (Host.reduce FloatOps.maximumf S (constant (F := Ideal) S_ .f32 0xFF800000#32) reducesTo_S1x6x8192x8192_S1x6x8192_d3 h_S_)
abbrev weights (M : FVec Ideal S1x6x8192 .f32) : FVec Ideal S1x6x8192x8192 .f32 := (Host.exp (subf S (broadcastInDim S1x6x8192x8192 ![0, 1, 2, 3] bcast_S1x6x8192x1_S1x6x8192x8192_0_1_2_3 (broadcastInDim S1x6x8192x1 ![0, 1, 2] bcast_S1x6x8192_S1x6x8192x1_0_1_2 M))))
abbrev sums (P : FVec Ideal S1x6x8192x8192 .f32) : FVec Ideal S1x6x8192 .f32 :=
  Host.reduceAdd P (constant (F := Ideal) S_ .f32 0x00000000#32) reducesTo_S1x6x8192x8192_S1x6x8192_d3 h_S_

theorem tops_apply (h : Fin 6) (i : Fin 8192) : tops S (ix3 0 h i) = top fun j => S (ix4 0 h i j) := by
  pointwise [tops]
  rfl

theorem weights_apply (M : FVec Ideal S1x6x8192 .f32) (h : Fin 6) (i j : Fin 8192) :
    weights S M (ix4 0 h i j) = Ideal.exp (S (ix4 0 h i j) - M (ix3 0 h i)) := by
  pointwise [weights]

theorem sums_apply (P : FVec Ideal S1x6x8192x8192 .f32) (h : Fin 6) (i : Fin 8192) : sums P (ix3 0 h i) = ∑ j, P (ix4 0 h i j) := by
  pointwise [sums]

theorem weight_apply (h : Fin 6) (i j : Fin 8192) : weights S (tops S) (ix4 0 h i j) = weight (fun j => S (ix4 0 h i j)) j := by
  rw [weights_apply, tops_apply]
  rfl

theorem sum_apply (h : Fin 6) (i : Fin 8192) : sums (weights S (tops S)) (ix3 0 h i) = ∑ j, weight (fun j => S (ix4 0 h i j)) j := by
  rw [sums_apply]
  exact Finset.sum_congr rfl fun j _ => weight_apply S h i j

theorem values_apply (v : FVec Ideal S8192x6x64 .f32) (h : Fin 6) (i : Fin 8192) (x : Fin 64) :
    ((transpose S1x8192x6x64 [1, 0, 2, 3] (shapeCast _ v shapeCasts_S8192x6x64_S8192x1x6x64) transposes_S8192x1x6x64_S1x8192x6x64_1_0_2_3) : FVec Ideal S1x8192x6x64 .f32) (ix4 0 i h x) = v (ix3 i h x) := by
  pointwise

theorem dot_apply (P : FVec Ideal S1x6x8192x8192 .f32) (v : FVec Ideal S1x8192x6x64 .f32) (h : Fin 6) (i : Fin 8192) (x : Fin 64) :
    ((Host.dotGeneral dot_S1x6x8192x8192_S1x8192x6x64_S1x6x8192x64_3_1_2_3_01_02 none P v) : FVec Ideal S1x6x8192x64 .f32) (ix4 0 h i x) = ∑ j, P (ix4 0 h i j) * v (ix4 0 j h x) := by
  pointwise

theorem quotient_apply (N : FVec Ideal S1x6x8192x64 .f32) (D : FVec Ideal S1x6x8192 .f32) (h : Fin 6) (i : Fin 8192) (x : Fin 64) :
    (shapeCast S6x8192x64 (Host.divf N (broadcastInDim S1x6x8192x64 ![0, 1, 2, 3] bcast_S1x6x8192x1_S1x6x8192x64_0_1_2_3 (broadcastInDim S1x6x8192x1 ![0, 1, 2] bcast_S1x6x8192_S1x6x8192x1_0_1_2 D))) shapeCasts_S1x6x8192x64_S6x8192x64 : FVec Ideal S6x8192x64 .f32) (ix3 h i x)
      = Ideal.div (N (ix4 0 h i x)) (D (ix3 0 h i)) := by
  pointwise
  try rfl

/-- The two results, from the masked scores. -/
theorem mix_apply (v : FVec Ideal S8192x6x64 .f32) (h : Fin 6) (i : Fin 8192) (x : Fin 64) :
    (shapeCast S6x8192x64 (Host.divf (Host.dotGeneral dot_S1x6x8192x8192_S1x8192x6x64_S1x6x8192x64_3_1_2_3_01_02 none (weights S (tops S)) (transpose S1x8192x6x64 [1, 0, 2, 3] (shapeCast _ v shapeCasts_S8192x6x64_S8192x1x6x64) transposes_S8192x1x6x64_S1x8192x6x64_1_0_2_3)) (broadcastInDim S1x6x8192x64 ![0, 1, 2, 3] bcast_S1x6x8192x1_S1x6x8192x64_0_1_2_3 (broadcastInDim S1x6x8192x1 ![0, 1, 2] bcast_S1x6x8192_S1x6x8192x1_0_1_2 (sums (weights S (tops S)))))) shapeCasts_S1x6x8192x64_S6x8192x64 : FVec Ideal S6x8192x64 .f32) (ix3 h i x)
      = mix (fun j => S (ix4 0 h i j)) fun j => v (ix3 j h x) := by
  refine (quotient_apply _ _ h i x).trans ?_
  rw [sum_apply, dot_apply]
  unfold mix
  exact congrArg (Ideal.div · _) (Finset.sum_congr rfl fun j _ => congrArg₂ (· * ·) (weight_apply S h i j) (values_apply v h j x))

theorem last_apply (X : FVec Ideal S1x6x8192x1 .f32) (h : Fin 6) (i : Fin 8192)  :
    (shapeCast S6x8192x1 X shapeCasts_S1x6x8192x1_S6x8192x1 : FVec Ideal S6x8192x1 .f32) (ix3 h i 0) = X (ix4 0 h i 0) := by
  pointwise

theorem log_sum_apply (M D : FVec Ideal S1x6x8192 .f32) (h : Fin 6) (i : Fin 8192)  :
    (addf (broadcastInDim S1x6x8192x1 ![0, 1, 2] bcast_S1x6x8192_S1x6x8192x1_0_1_2 M) (Host.log (broadcastInDim S1x6x8192x1 ![0, 1, 2] bcast_S1x6x8192_S1x6x8192x1_0_1_2 D)) : FVec Ideal S1x6x8192x1 .f32) (ix4 0 h i 0)
      = M (ix3 0 h i) + Ideal.log (D (ix3 0 h i)) := by
  pointwise

theorem log_apply (h : Fin 6) (i : Fin 8192) :
    (shapeCast S6x8192x1 (addf (broadcastInDim S1x6x8192x1 ![0, 1, 2] bcast_S1x6x8192_S1x6x8192x1_0_1_2 (tops S)) (Host.log (broadcastInDim S1x6x8192x1 ![0, 1, 2] bcast_S1x6x8192_S1x6x8192x1_0_1_2 (sums (weights S (tops S)))))) shapeCasts_S1x6x8192x1_S6x8192x1 : FVec Ideal S6x8192x1 .f32) (ix3 h i 0)
      = logsum (fun j => S (ix4 0 h i j)) := by
  rw [last_apply, log_sum_apply, sum_apply, tops_apply]
  rfl

end Cert.Band.OneRef

end
-- ==== Proof.BandOne.lean ====
/- The banded attention of neighbouring tokens. -/
module

public import proofs.«01_k».proof.Proof.BandPay
public import proofs.«01_k».proof.Proof.BandRef

@[expose] public section

set_option maxRecDepth 16384

noncomputable section

namespace Cert.Band.One

open Idealize.ShloMosaic Idealize.ShloMosaic.TcCoe Idealize.SL.Sem Cert.Band1Ideal Cert.Band1Ideal.Gen Cert.Prod

variable (m : (ℓ : Loc nD τ sig) → Buf (Elt Ideal) ℓ) (c : Dev nD)

/-- The arguments' entries, of a head. -/
def queryOf (h : Fin 6) (i : Fin 8192) (d : Fin 64) : EReal := (m ((c : Thread nD τ).loc main_arg0) : Vec Ideal S8192x6x64 .f32) (ix3 i h d)
def keyOf (h : Fin 6) (i : Fin 8192) (d : Fin 64) : EReal := (m ((c : Thread nD τ).loc main_arg1) : Vec Ideal S8192x6x64 .f32) (ix3 i h d)
def valueOf (h : Fin 6) (i : Fin 8192) (d : Fin 64) : EReal := (m ((c : Thread nD τ).loc main_arg2) : Vec Ideal S8192x6x64 .f32) (ix3 i h d)

/-- The scores of a query, and the two results. -/
def score (h : Fin 6) (i j : Fin 8192) : EReal := (∑ d : Fin 64, queryOf m c h i d * keyOf m c h j d) * Ideal.ofBits .f32 0x3E000000#32
def mixed (h : Fin 6) (i : Fin 8192) (x : Fin 64) : EReal := mix (masked i (score m c h i)) fun j => valueOf m c h j x
def logged (h : Fin 6) (i : Fin 8192) : EReal := logsum (masked i (score m c h i))

theorem entry_query (h : Fin 6) (i : Fin 8192) (d : Fin 64) : (V m c main_v3 : Vec Ideal S6x8192x64 .bf16) (ix3 h i d) = queryOf m c h i d := by
  show StableHlo.after hostOps0 (fun b => m (c, b)) main_v3 _ = _
  after_results
  pointwise
  rfl

theorem entry_key (h : Fin 6) (i : Fin 8192) (d : Fin 64) :
    (V m c main_v12 : Vec Ideal S6x8320x64 .bf16) (ix3 h ⟨i.val + 64, by omega⟩ d) = keyOf m c h i d := by
  unfold V
  simp only [hostOps0, hostOps0_1, hostOps0_2, hostOps0_3, List.flatten_cons, List.flatten_nil, List.cons_append, List.nil_append, List.append_nil,
    StableHlo.TRef.unary, StableHlo.TRef.binary, StableHlo.TRef.toBuf, StableHlo.TRef.ofBuf, cast_eq]
  after_results
  pointwise
  rw [dif_pos (by omega)]
  simp only [Nat.add_sub_cancel]
  rfl

theorem entry_value (h : Fin 6) (i : Fin 8192) (d : Fin 64) :
    (V m c main_v13 : Vec Ideal S6x8320x64 .bf16) (ix3 h ⟨i.val + 64, by omega⟩ d) = valueOf m c h i d := by
  unfold V
  simp only [hostOps0, hostOps0_1, hostOps0_2, hostOps0_3, List.flatten_cons, List.flatten_nil, List.cons_append, List.nil_append, List.append_nil,
    StableHlo.TRef.unary, StableHlo.TRef.binary, StableHlo.TRef.toBuf, StableHlo.TRef.ofBuf, cast_eq]
  after_results
  pointwise
  rw [dif_pos (by omega)]
  simp only [Nat.add_sub_cancel]
  rfl

theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![(grid0.coords t 0).val, (grid0.coords t 1).val, 0]
    ∧ win0_4.index t = ![(grid0.coords t 0).val, (grid0.coords t 1).val, 0] := (by decide +kernel : ∀ t : Fin grid0.N, _)

/-- The first token of a tile. -/
abbrev base (t : Fin cfg0.N) (s : Fin 4) : ℕ := 1024 * (grid0.coords t 1).val + 256 * s.val

/-- Where a row of a point's tile lies in the array. -/
theorem at_lt (t : Fin cfg0.N) (s : Fin 4) (r : Fin 256) : base t s + r.val < 8192 := by
  have h : (grid0.coords t 1).val < 8 := (grid0.coords t 1).isLt
  unfold base
  omega

abbrev at_ (t : Fin cfg0.N) (s : Fin 4) (r : Fin 256) : Fin 8192 :=
  ⟨base t s + r.val, at_lt t s r⟩

theorem blk_query (t : Fin cfg0.N) (s : Fin 4) (r : Fin 256) (d : Fin 64) :
    iblk m c 0 t (ix3 0 (row s r) d) = queryOf m c (grid0.coords t 0) (at_ t s r) d := by
  refine Eq.trans ?_ (entry_query m c _ _ _)
  blk_simp [iblk]
  refine congrArg (V m c main_v3) ?_
  blk_ext [(idx t).1, ix3, row]
  unfold base
  omega

theorem blk_key (t : Fin cfg0.N) (s : Fin 4) (r : Fin 256) (y : Fin 384) (hy : Inside 8192 (base t s) r.val y.val) (d : Fin 64) :
    iblk m c 1 t (ix3 0 (pos (grid0.coords t) s y) d) = keyOf m c (grid0.coords t 0) (place 8192 (base t s) (by decide) y) d := by
  refine Eq.trans ?_ (entry_key m c _ _ _)
  blk_simp [iblk]
  refine congrArg (V m c main_v12) ?_
  have h : (base t s + y.val - 64) ⊓ (8192 - 1) + 64 = 1024 * (grid0.coords t 1).val + 256 * s.val + y.val := by
    have hb : base t s = 1024 * (grid0.coords t 1).val + 256 * s.val := rfl
    rw [min_eq_left (by omega)]
    omega
  blk_ext [(idx t).2.1, ix3, pos, place, h]

theorem blk_value (t : Fin cfg0.N) (s : Fin 4) (r : Fin 256) (y : Fin 384) (hy : Inside 8192 (base t s) r.val y.val) (d : Fin 64) :
    iblk m c 2 t (ix3 0 (pos (grid0.coords t) s y) d) = valueOf m c (grid0.coords t 0) (place 8192 (base t s) (by decide) y) d := by
  refine Eq.trans ?_ (entry_value m c _ _ _)
  blk_simp [iblk]
  refine congrArg (V m c main_v13) ?_
  have h : (base t s + y.val - 64) ⊓ (8192 - 1) + 64 = 1024 * (grid0.coords t 1).val + 256 * s.val + y.val := by
    have hb : base t s = 1024 * (grid0.coords t 1).val + 256 * s.val := rfl
    rw [min_eq_left (by omega)]
    omega
  blk_ext [(idx t).2.2.1, ix3, pos, place, h]

section
variable (t : Fin cfg0.N) (s : Fin 4) (r : Fin 256) (x0 : Vec Ideal S1x1024x64 .bf16) (x1 x2 : Vec Ideal S1x8320x64 .bf16)
  (h0 : ∀ d, x0 (ix3 0 (row s r) d) = queryOf m c (grid0.coords t 0) (at_ t s r) d)
  (h1 : ∀ y : Fin 384, Inside 8192 (base t s) r.val y.val → ∀ d,
    x1 (ix3 0 (pos (grid0.coords t) s y) d) = keyOf m c (grid0.coords t 0) (place 8192 (base t s) (by decide) y) d)
  (h2 : ∀ y : Fin 384, Inside 8192 (base t s) r.val y.val → ∀ d,
    x2 (ix3 0 (pos (grid0.coords t) s y) d) = valueOf m c (grid0.coords t 0) (place 8192 (base t s) (by decide) y) d)

include h0 h1 in
theorem window_score (y : Fin 384) (hy : Inside 8192 (base t s) r.val y.val) :
    (∑ d : Fin 64, x0 (ix3 0 (row s r) d) * x1 (ix3 0 (pos (grid0.coords t) s y) d)) * Ideal.ofBits .f32 0x3E000000#32
      = score m c (grid0.coords t 0) (at_ t s r) (place 8192 (base t s) (by decide) y) := by
  unfold score
  simp only [h0, h1 y hy]

include h0 h1 h2 in
theorem mixes_eq (x : Fin 64) :
    mixes (grid0.coords t) x0 x1 x2 s r x = mixed m c (grid0.coords t 0) (at_ t s r) x :=
  tile_mix (n := 8192) (by decide) (base t s) r (at_lt t s r) (score m c (grid0.coords t 0) (at_ t s r)) _ (window_score m c t s r x0 x1 h0 h1) _ _
    fun y hy => h2 y hy x

include h0 h1 in
theorem logs_eq : logs (grid0.coords t) x0 x1 s r (0 : Fin 1) = logged m c (grid0.coords t 0) (at_ t s r) :=
  tile_logsum (n := 8192) (by decide) (base t s) r (at_lt t s r) (score m c (grid0.coords t 0) (at_ t s r)) _ (window_score m c t s r x0 x1 h0 h1)

end

theorem exists_row (p : Fin 1024) : ∃ s r, p = row s r :=
  ⟨⟨p.val / 256, by omega⟩, ⟨p.val % 256, by omega⟩, Fin.ext (by simp only [row]; omega)⟩

theorem array_mixed : (dats m 0 c).arrAt 3 cfg0.N = fun i : S6x8192x64.Idx => mixed m c (i 0) (i 1) (i 2) := by
  refine (dats m 0 c).arrAt_eq_of_covers 3 _ (by decide +kernel) fun t hf y => ?_
  blk_simp
  rw [after0_3]
  change S1x1024x64.Idx at y
  obtain ⟨a, p, x, rfl⟩ : ∃ (a : Fin 1) (p : Fin 1024) (x : Fin 64), y = ix3 a p x := ⟨_, _, _, eq_ix3 y⟩
  obtain rfl : a = 0 := Subsingleton.elim _ _
  obtain ⟨s, r, rfl⟩ := exists_row p
  simp only [outsAt0]
  rw [out_mix, mixes_eq m c t s r _ _ _ (blk_query m c t s r) (blk_key m c t s r) (blk_value m c t s r)]
  have e0 : (win0_3.blk t).view.emb (ix3 0 (row s r) x) = (ix3 (grid0.coords t 0) (at_ t s r) x : S6x8192x64.Idx) := by
    blk_ext [(idx t).2.2.2.1, ix3, row]
    unfold base
    omega
  rw [e0]
  rfl

theorem array_logged : (dats m 0 c).arrAt 4 cfg0.N = fun i : S6x8192x1.Idx => logged m c (i 0) (i 1) := by
  refine (dats m 0 c).arrAt_eq_of_covers 4 _ (by decide +kernel) fun t hf y => ?_
  blk_simp
  rw [after0_4]
  change S1x1024x1.Idx at y
  obtain ⟨a, p, x, rfl⟩ : ∃ (a : Fin 1) (p : Fin 1024) (x : Fin 1), y = ix3 a p x := ⟨_, _, _, eq_ix3 y⟩
  obtain rfl : a = 0 := Subsingleton.elim _ _
  obtain rfl : x = 0 := Subsingleton.elim _ _
  obtain ⟨s, r, rfl⟩ := exists_row p
  simp only [outsAt0]
  rw [out_log, logs_eq m c t s r _ _ (blk_query m c t s r) (blk_key m c t s r)]
  have e0 : (win0_4.blk t).view.emb (ix3 0 (row s r) 0) = (ix3 (grid0.coords t 0) (at_ t s r) 0 : S6x8192x1.Idx) := by
    blk_ext [(idx t).2.2.2.2, ix3, row]
    unfold base
    omega
  rw [e0]
  rfl

theorem frame_reference : Cert.quiescent_Band1ReferenceIdeal (hBand1ReferenceIdeal := Cert.Band1ReferenceIdeal.Gen.facts) :=
  fun m ρ _ => (θ_run Cert.Band1ReferenceIdeal.defs _ _).mono
    (fun r h => ⟨fun c => (h c).2.2, sem_eq_zero_of_no_sems (by decide) r.2⟩)
    (Cert.Band1ReferenceIdeal.Value.run (F := Ideal) m ρ)

theorem preserves : Cert.preserves_Band1_Band1Ideal :=
  IdealRules.named_const.statement Cert.Band1Ideal.κ "mask" .f32 0xF149F2CA#32 _ rfl

theorem algebraic : Cert.algebraic_Band1Ideal_Band1ReferenceIdeal (hBand1Ideal := Cert.Band1Ideal.Gen.facts)
    (hBand1ReferenceIdeal := Cert.Band1ReferenceIdeal.Gen.facts) := by
  intro m g m' g' _ he
  refine ⟨fun c => fun i : S6x8192x64.Idx => mixed m c (i 0) (i 1) (i 2), fun c => fun i : S6x8192x1.Idx => logged m c (i 0) (i 1), ?_, ?_⟩
  · refine (θ_run Cert.Band1Ideal.defs _ _).mono (fun r h c => ?_) (Cert.Band1Ideal.Value.run_blocks (F := Ideal) m g)
    exact ⟨(h c).1.trans (array_mixed m c), (h c).2.1.trans (array_logged m c), (h c).2.2⟩
  · refine (θ_run Cert.Band1ReferenceIdeal.defs _ _).mono (fun r h c => ?_) (Cert.Band1ReferenceIdeal.Value.run (F := Ideal) m' g')
    refine ⟨(h c).1.trans ?_, (h c).2.1.trans ?_, (h c).2.2⟩
    · unfold Cert.Band1ReferenceIdeal.Value.res_main_v31
      rw [(he c).1, (he c).2.1, (he c).2.2]
      funext i
      change S6x8192x64.Idx at i
      obtain ⟨a, b, x, rfl⟩ : ∃ (a : Fin 6) (b : Fin 8192) (x : Fin 64), i = ix3 a b x := ⟨_, _, _, eq_ix3 i⟩
      refine (OneRef.mix_apply (OneRef.scores _ _) _ a b x).trans ?_
      rw [funext (OneRef.scores_apply _ _ a b)]
      rfl
    · rw [(he c).1, (he c).2.1]
      funext i
      change S6x8192x1.Idx at i
      obtain ⟨a, b, x, rfl⟩ : ∃ (a : Fin 6) (b : Fin 8192) (x : Fin 1), i = ix3 a b x := ⟨_, _, _, eq_ix3 i⟩
      obtain rfl : x = 0 := Subsingleton.elim _ _
      refine (OneRef.log_apply (OneRef.scores _ _) a b).trans ?_
      rw [funext (OneRef.scores_apply _ _ a b)]
      rfl

end Cert.Band.One

end
-- ==== Proof.lean ====
module

public import proofs.«01_k».proof.Proof.Gen.Dh
public import proofs.«01_k».proof.Proof.Gen.DwIn
public import proofs.«01_k».proof.Proof.Gen.DwOut
public import proofs.«01_k».proof.Proof.Gen.Du
public import proofs.«01_k».proof.Proof.Gen.Down
public import proofs.«01_k».proof.Proof.Gen.Up
public import proofs.«01_k».proof.Proof.Gen.UpIdeal.Value
public import proofs.«01_k».proof.Proof.Gen.UpReferenceIdeal.Run
public import proofs.«01_k».proof.Proof.Gen.DownIdeal.Value
public import proofs.«01_k».proof.Proof.Gen.DownReferenceIdeal.Run
public import proofs.«01_k».proof.Proof.Gen.DuIdeal.Value
public import proofs.«01_k».proof.Proof.Gen.DuReferenceIdeal.Run
public import proofs.«01_k».proof.Proof.Gen.DwOutIdeal.Value
public import proofs.«01_k».proof.Proof.Gen.DwOutReferenceIdeal.Run
public import proofs.«01_k».proof.Proof.Gen.DwInIdeal.Value
public import proofs.«01_k».proof.Proof.Gen.DwInReferenceIdeal.Run
public import proofs.«01_k».proof.Proof.Gen.DhIdeal.Value
public import proofs.«01_k».proof.Proof.Gen.DhReferenceIdeal.Run
public import proofs.«01_k».proof.Proof.Gen.In
public import proofs.«01_k».proof.Proof.Gen.InIdeal.Value
public import proofs.«01_k».proof.Proof.Gen.InReferenceIdeal.Run
public import proofs.«01_k».proof.Proof.Gen.InDhB
public import proofs.«01_k».proof.Proof.Gen.InDhBIdeal.Value
public import proofs.«01_k».proof.Proof.Gen.InDhBReferenceIdeal.Run
public import proofs.«01_k».proof.Proof.Gen.InDhC
public import proofs.«01_k».proof.Proof.Gen.InDhCIdeal.Value
public import proofs.«01_k».proof.Proof.Gen.InDhCReferenceIdeal.Run
public import proofs.«01_k».proof.Proof.Gen.InDhA
public import proofs.«01_k».proof.Proof.Gen.InDhAIdeal.Value
public import proofs.«01_k».proof.Proof.Gen.InDhAReferenceIdeal.Run
public import proofs.«01_k».proof.Proof.Gen.InDwB
public import proofs.«01_k».proof.Proof.Gen.InDwBIdeal.Value
public import proofs.«01_k».proof.Proof.Gen.InDwBReferenceIdeal.Run
public import proofs.«01_k».proof.Proof.Gen.InDwC
public import proofs.«01_k».proof.Proof.Gen.InDwCIdeal.Value
public import proofs.«01_k».proof.Proof.Gen.InDwCReferenceIdeal.Run
public import proofs.«01_k».proof.Proof.Gen.InDwA
public import proofs.«01_k».proof.Proof.Gen.InDwAIdeal.Value
public import proofs.«01_k».proof.Proof.Gen.InDwAReferenceIdeal.Run
public import proofs.«01_k».proof.Proof.Gen.Out
public import proofs.«01_k».proof.Proof.Gen.OutIdeal.Value
public import proofs.«01_k».proof.Proof.Gen.OutReferenceIdeal.Run
public import proofs.«01_k».proof.Proof.Gen.OutDx
public import proofs.«01_k».proof.Proof.Gen.OutDxIdeal.Value
public import proofs.«01_k».proof.Proof.Gen.OutDxReferenceIdeal.Run
public import proofs.«01_k».proof.Proof.Gen.OutDw
public import proofs.«01_k».proof.Proof.Gen.OutDwIdeal.Value
public import proofs.«01_k».proof.Proof.Gen.OutDwReferenceIdeal.Run
public import proofs.«01_k».proof.Proof.Gen.Uq
public import proofs.«01_k».proof.Proof.Gen.UqIdeal.Value
public import proofs.«01_k».proof.Proof.Gen.UqReferenceIdeal.Run
public import proofs.«01_k».proof.Proof.Gen.UqDx
public import proofs.«01_k».proof.Proof.Gen.UqDxIdeal.Value
public import proofs.«01_k».proof.Proof.Gen.UqDxReferenceIdeal.Run
public import proofs.«01_k».proof.Proof.Gen.UqDw
public import proofs.«01_k».proof.Proof.Gen.UqDwIdeal.Value
public import proofs.«01_k».proof.Proof.Gen.UqDwReferenceIdeal.Run
public import proofs.«01_k».proof.Proof.Gen.Ukv
public import proofs.«01_k».proof.Proof.Gen.UkvIdeal.Value
public import proofs.«01_k».proof.Proof.Gen.UkvReferenceIdeal.Run
public import proofs.«01_k».proof.Proof.Gen.UkvDx
public import proofs.«01_k».proof.Proof.Gen.UkvDxIdeal.Value
public import proofs.«01_k».proof.Proof.Gen.UkvDxReferenceIdeal.Run
public import proofs.«01_k».proof.Proof.Gen.UkvDw
public import proofs.«01_k».proof.Proof.Gen.UkvDwIdeal.Value
public import proofs.«01_k».proof.Proof.Gen.UkvDwReferenceIdeal.Run
public import proofs.«01_k».proof.Proof.Gen.Norm
public import proofs.«01_k».proof.Proof.Gen.NormIdeal.Value
public import proofs.«01_k».proof.Proof.Gen.NormReferenceIdeal.Run
public import proofs.«01_k».proof.Proof.Gen.NormAB
public import proofs.«01_k».proof.Proof.Gen.NormABIdeal.Value
public import proofs.«01_k».proof.Proof.Gen.NormABReferenceIdeal.Run
public import proofs.«01_k».proof.Proof.Gen.NormC
public import proofs.«01_k».proof.Proof.Gen.NormCIdeal.Value
public import proofs.«01_k».proof.Proof.Gen.NormCReferenceIdeal.Run
public import proofs.«01_k».proof.Proof.Gen.NormKv
public import proofs.«01_k».proof.Proof.Gen.NormKvIdeal.Value
public import proofs.«01_k».proof.Proof.Gen.NormKvReferenceIdeal.Run
public import proofs.«01_k».proof.Proof.Gen.Adam
public import proofs.«01_k».proof.Proof.Gen.AdamIdeal.Value
public import proofs.«01_k».proof.Proof.Gen.AdamReferenceIdeal.Run
public import proofs.«01_k».proof.Proof.Gen.AdamSmall
public import proofs.«01_k».proof.Proof.Gen.AdamSmallIdeal.Value
public import proofs.«01_k».proof.Proof.Gen.AdamSmallReferenceIdeal.Run
public import proofs.«01_k».proof.Proof.Gen.Dnorm
public import proofs.«01_k».proof.Proof.Gen.DnormIdeal.Value
public import proofs.«01_k».proof.Proof.Gen.DnormReferenceIdeal.Run
public import proofs.«01_k».proof.Proof.Gen.DnormAB
public import proofs.«01_k».proof.Proof.Gen.DnormABIdeal.Value
public import proofs.«01_k».proof.Proof.Gen.DnormABReferenceIdeal.Run
public import proofs.«01_k».proof.Proof.Gen.DnormC
public import proofs.«01_k».proof.Proof.Gen.DnormCIdeal.Value
public import proofs.«01_k».proof.Proof.Gen.DnormCReferenceIdeal.Run
public import proofs.«01_k».proof.Proof.Gen.DnormKv
public import proofs.«01_k».proof.Proof.Gen.DnormKvIdeal.Value
public import proofs.«01_k».proof.Proof.Gen.DnormKvReferenceIdeal.Run
public import proofs.«01_k».proof.Proof.Gen.Loss
public import proofs.«01_k».proof.Proof.Gen.LossIdeal.Value
public import proofs.«01_k».proof.Proof.Gen.LossReferenceIdeal.Run
public import proofs.«01_k».proof.Proof.Gen.Band1
public import proofs.«01_k».proof.Proof.Gen.Band1.Frame
public import proofs.«01_k».proof.Proof.Gen.Band1Ideal.Value
public import proofs.«01_k».proof.Proof.Gen.Band1ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebra
public import proofs.«01_k».proof.Proof.ProdUp
public import proofs.«01_k».proof.Proof.ProdDown
public import proofs.«01_k».proof.Proof.ProdDu
public import proofs.«01_k».proof.Proof.ProdDwOut
public import proofs.«01_k».proof.Proof.ProdDwIn
public import proofs.«01_k».proof.Proof.ProdDh
public import proofs.«01_k».proof.Proof.ProdIn
public import proofs.«01_k».proof.Proof.ProdInDhB
public import proofs.«01_k».proof.Proof.ProdInDhC
public import proofs.«01_k».proof.Proof.ProdInDhA
public import proofs.«01_k».proof.Proof.ProdInDwB
public import proofs.«01_k».proof.Proof.ProdInDwC
public import proofs.«01_k».proof.Proof.ProdInDwA
public import proofs.«01_k».proof.Proof.ProdOut
public import proofs.«01_k».proof.Proof.ProdOutDx
public import proofs.«01_k».proof.Proof.ProdOutDw
public import proofs.«01_k».proof.Proof.ProdUq
public import proofs.«01_k».proof.Proof.ProdUqDx
public import proofs.«01_k».proof.Proof.ProdUqDw
public import proofs.«01_k».proof.Proof.ProdUkv
public import proofs.«01_k».proof.Proof.ProdUkvDx
public import proofs.«01_k».proof.Proof.ProdUkvDw
public import proofs.«01_k».proof.Proof.NormIn
public import proofs.«01_k».proof.Proof.NormOutAB
public import proofs.«01_k».proof.Proof.NormC
public import proofs.«01_k».proof.Proof.NormKv
public import proofs.«01_k».proof.Proof.DnormIn
public import proofs.«01_k».proof.Proof.DnormOutAB
public import proofs.«01_k».proof.Proof.DnormC
public import proofs.«01_k».proof.Proof.DnormKv
public import proofs.«01_k».proof.Proof.LossHead
public import proofs.«01_k».proof.Proof.AdamShard
public import proofs.«01_k».proof.Proof.AdamSmall
public import proofs.«01_k».proof.Proof.BandOne
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, its arguments unchanged. -/
theorem frame_ReferenceIdeal : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Du.Gen.facts, Cert.DuIdeal.Gen.facts, Cert.DuReferenceIdeal.Gen.facts,
  Cert.DwOut.Gen.facts, Cert.DwOutIdeal.Gen.facts, Cert.DwOutReferenceIdeal.Gen.facts,
  Cert.DwIn.Gen.facts, Cert.DwInIdeal.Gen.facts, Cert.DwInReferenceIdeal.Gen.facts,
  Cert.Dh.Gen.facts, Cert.DhIdeal.Gen.facts, Cert.DhReferenceIdeal.Gen.facts,
  Cert.In.Gen.facts, Cert.InIdeal.Gen.facts, Cert.InReferenceIdeal.Gen.facts,
  Cert.InDhB.Gen.facts, Cert.InDhBIdeal.Gen.facts, Cert.InDhBReferenceIdeal.Gen.facts,
  Cert.InDhC.Gen.facts, Cert.InDhCIdeal.Gen.facts, Cert.InDhCReferenceIdeal.Gen.facts,
  Cert.InDhA.Gen.facts, Cert.InDhAIdeal.Gen.facts, Cert.InDhAReferenceIdeal.Gen.facts,
  Cert.InDwB.Gen.facts, Cert.InDwBIdeal.Gen.facts, Cert.InDwBReferenceIdeal.Gen.facts,
  Cert.InDwC.Gen.facts, Cert.InDwCIdeal.Gen.facts, Cert.InDwCReferenceIdeal.Gen.facts,
  Cert.InDwA.Gen.facts, Cert.InDwAIdeal.Gen.facts, Cert.InDwAReferenceIdeal.Gen.facts,
  Cert.Out.Gen.facts, Cert.OutIdeal.Gen.facts, Cert.OutReferenceIdeal.Gen.facts,
  Cert.OutDx.Gen.facts, Cert.OutDxIdeal.Gen.facts, Cert.OutDxReferenceIdeal.Gen.facts,
  Cert.OutDw.Gen.facts, Cert.OutDwIdeal.Gen.facts, Cert.OutDwReferenceIdeal.Gen.facts,
  Cert.Uq.Gen.facts, Cert.UqIdeal.Gen.facts, Cert.UqReferenceIdeal.Gen.facts,
  Cert.UqDx.Gen.facts, Cert.UqDxIdeal.Gen.facts, Cert.UqDxReferenceIdeal.Gen.facts,
  Cert.UqDw.Gen.facts, Cert.UqDwIdeal.Gen.facts, Cert.UqDwReferenceIdeal.Gen.facts,
  Cert.Ukv.Gen.facts, Cert.UkvIdeal.Gen.facts, Cert.UkvReferenceIdeal.Gen.facts,
  Cert.UkvDx.Gen.facts, Cert.UkvDxIdeal.Gen.facts, Cert.UkvDxReferenceIdeal.Gen.facts,
  Cert.UkvDw.Gen.facts, Cert.UkvDwIdeal.Gen.facts, Cert.UkvDwReferenceIdeal.Gen.facts,
  Cert.Norm.Gen.facts, Cert.NormIdeal.Gen.facts, Cert.NormReferenceIdeal.Gen.facts,
  Cert.NormAB.Gen.facts, Cert.NormABIdeal.Gen.facts, Cert.NormABReferenceIdeal.Gen.facts,
  Cert.NormC.Gen.facts, Cert.NormCIdeal.Gen.facts, Cert.NormCReferenceIdeal.Gen.facts,
  Cert.NormKv.Gen.facts, Cert.NormKvIdeal.Gen.facts, Cert.NormKvReferenceIdeal.Gen.facts,
  Cert.Dnorm.Gen.facts, Cert.DnormIdeal.Gen.facts, Cert.DnormReferenceIdeal.Gen.facts,
  Cert.DnormAB.Gen.facts, Cert.DnormABIdeal.Gen.facts, Cert.DnormABReferenceIdeal.Gen.facts,
  Cert.DnormC.Gen.facts, Cert.DnormCIdeal.Gen.facts, Cert.DnormCReferenceIdeal.Gen.facts,
  Cert.DnormKv.Gen.facts, Cert.DnormKvIdeal.Gen.facts, Cert.DnormKvReferenceIdeal.Gen.facts,
  Cert.Loss.Gen.facts, Cert.LossIdeal.Gen.facts, Cert.LossReferenceIdeal.Gen.facts,
  Cert.Adam.Gen.facts, Cert.AdamIdeal.Gen.facts, Cert.AdamReferenceIdeal.Gen.facts,
  Cert.AdamSmall.Gen.facts, Cert.AdamSmallIdeal.Gen.facts, Cert.AdamSmallReferenceIdeal.Gen.facts,
  Cert.Band1.Gen.facts, Cert.Band1Ideal.Gen.facts, Cert.Band1ReferenceIdeal.Gen.facts,
  Cert.Att.pre_facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  Cert.Prod.Up.frame, fun m ρ _ => Cert.UpIdeal.Gen.frame m ρ, Cert.Prod.Up.frame_reference,
  Cert.Prod.Down.frame, fun m ρ _ => Cert.DownIdeal.Gen.frame m ρ, Cert.Prod.Down.frame_reference,
  Cert.Prod.Du.frame, fun m ρ _ => Cert.DuIdeal.Gen.frame m ρ, Cert.Prod.Du.frame_reference,
  Cert.Prod.DwOut.frame, fun m ρ _ => Cert.DwOutIdeal.Gen.frame m ρ, Cert.Prod.DwOut.frame_reference,
  Cert.Prod.DwIn.frame, fun m ρ _ => Cert.DwInIdeal.Gen.frame m ρ, Cert.Prod.DwIn.frame_reference,
  Cert.Prod.Dh.frame, fun m ρ _ => Cert.DhIdeal.Gen.frame m ρ, Cert.Prod.Dh.frame_reference,
  Cert.Prod.In.frame, fun m ρ _ => Cert.InIdeal.Gen.frame m ρ, Cert.Prod.In.frame_reference,
  Cert.Prod.InDhB.frame, fun m ρ _ => Cert.InDhBIdeal.Gen.frame m ρ, Cert.Prod.InDhB.frame_reference,
  Cert.Prod.InDhC.frame, fun m ρ _ => Cert.InDhCIdeal.Gen.frame m ρ, Cert.Prod.InDhC.frame_reference,
  Cert.Prod.InDhA.frame, fun m ρ _ => Cert.InDhAIdeal.Gen.frame m ρ, Cert.Prod.InDhA.frame_reference,
  Cert.Prod.InDwB.frame, fun m ρ _ => Cert.InDwBIdeal.Gen.frame m ρ, Cert.Prod.InDwB.frame_reference,
  Cert.Prod.InDwC.frame, fun m ρ _ => Cert.InDwCIdeal.Gen.frame m ρ, Cert.Prod.InDwC.frame_reference,
  Cert.Prod.InDwA.frame, fun m ρ _ => Cert.InDwAIdeal.Gen.frame m ρ, Cert.Prod.InDwA.frame_reference,
  Cert.Prod.Out.frame, fun m ρ _ => Cert.OutIdeal.Gen.frame m ρ, Cert.Prod.Out.frame_reference,
  Cert.Prod.OutDx.frame, fun m ρ _ => Cert.OutDxIdeal.Gen.frame m ρ, Cert.Prod.OutDx.frame_reference,
  Cert.Prod.OutDw.frame, fun m ρ _ => Cert.OutDwIdeal.Gen.frame m ρ, Cert.Prod.OutDw.frame_reference,
  Cert.Prod.Uq.frame, fun m ρ _ => Cert.UqIdeal.Gen.frame m ρ, Cert.Prod.Uq.frame_reference,
  Cert.Prod.UqDx.frame, fun m ρ _ => Cert.UqDxIdeal.Gen.frame m ρ, Cert.Prod.UqDx.frame_reference,
  Cert.Prod.UqDw.frame, fun m ρ _ => Cert.UqDwIdeal.Gen.frame m ρ, Cert.Prod.UqDw.frame_reference,
  Cert.Prod.Ukv.frame, fun m ρ _ => Cert.UkvIdeal.Gen.frame m ρ, Cert.Prod.Ukv.frame_reference,
  Cert.Prod.UkvDx.frame, fun m ρ _ => Cert.UkvDxIdeal.Gen.frame m ρ, Cert.Prod.UkvDx.frame_reference,
  Cert.Prod.UkvDw.frame, fun m ρ _ => Cert.UkvDwIdeal.Gen.frame m ρ, Cert.Prod.UkvDw.frame_reference,
  Cert.RmsNorm.In.frame, fun m ρ _ => Cert.NormIdeal.Gen.frame m ρ, Cert.RmsNorm.In.frame_reference,
  Cert.RmsNorm.OutAB.frame, fun m ρ _ => Cert.NormABIdeal.Gen.frame m ρ, Cert.RmsNorm.OutAB.frame_reference,
  Cert.RmsNorm.C.frame, fun m ρ _ => Cert.NormCIdeal.Gen.frame m ρ, Cert.RmsNorm.C.frame_reference,
  Cert.RmsNorm.Kv.frame, fun m ρ _ => Cert.NormKvIdeal.Gen.frame m ρ, Cert.RmsNorm.Kv.frame_reference,
  Cert.RmsNorm.DIn.frame, fun m ρ _ => Cert.DnormIdeal.Gen.frame m ρ, Cert.RmsNorm.DIn.frame_reference,
  Cert.RmsNorm.DOutAB.frame, fun m ρ _ => Cert.DnormABIdeal.Gen.frame m ρ, Cert.RmsNorm.DOutAB.frame_reference,
  Cert.RmsNorm.DC.frame, fun m ρ _ => Cert.DnormCIdeal.Gen.frame m ρ, Cert.RmsNorm.DC.frame_reference,
  Cert.RmsNorm.DKv.frame, fun m ρ _ => Cert.DnormKvIdeal.Gen.frame m ρ, Cert.RmsNorm.DKv.frame_reference,
  Cert.RmsNorm.Loss.frame, fun m ρ _ => Cert.LossIdeal.Gen.frame m ρ, Cert.RmsNorm.Loss.frame_reference,
  Cert.AdamW.Shard.frame, fun m ρ _ => Cert.AdamIdeal.Gen.frame m ρ, Cert.AdamW.Shard.frame_reference,
  Cert.AdamW.Small.frame, fun m ρ _ => Cert.AdamSmallIdeal.Gen.frame m ρ, Cert.AdamW.Small.frame_reference,
  fun m ρ _ => Cert.Band1.Gen.frame m ρ, fun m ρ _ => Cert.Band1Ideal.Gen.frame m ρ, Cert.Band.One.frame_reference,
  IdealRules.named_const.statement Cert.KernelIdeal.κ "to_log2" .f32 0x3E16C740#32 _ rfl,
  Cert.Att.algebraic,
  trivial, Cert.Prod.Up.algebraic,
  trivial, Cert.Prod.Down.algebraic,
  trivial, Cert.Prod.Du.algebraic,
  trivial, Cert.Prod.DwOut.algebraic,
  trivial, Cert.Prod.DwIn.algebraic,
  trivial, Cert.Prod.Dh.algebraic,
  trivial, Cert.Prod.In.algebraic,
  trivial, Cert.Prod.InDhB.algebraic,
  trivial, Cert.Prod.InDhC.algebraic,
  trivial, Cert.Prod.InDhA.algebraic,
  trivial, Cert.Prod.InDwB.algebraic,
  trivial, Cert.Prod.InDwC.algebraic,
  trivial, Cert.Prod.InDwA.algebraic,
  trivial, Cert.Prod.Out.algebraic,
  trivial, Cert.Prod.OutDx.algebraic,
  trivial, Cert.Prod.OutDw.algebraic,
  trivial, Cert.Prod.Uq.algebraic,
  trivial, Cert.Prod.UqDx.algebraic,
  trivial, Cert.Prod.UqDw.algebraic,
  trivial, Cert.Prod.Ukv.algebraic,
  trivial, Cert.Prod.UkvDx.algebraic,
  trivial, Cert.Prod.UkvDw.algebraic,
  trivial, Cert.RmsNorm.In.algebraic,
  trivial, Cert.RmsNorm.OutAB.algebraic,
  trivial, Cert.RmsNorm.C.algebraic,
  trivial, Cert.RmsNorm.Kv.algebraic,
  trivial, Cert.RmsNorm.DIn.algebraic,
  trivial, Cert.RmsNorm.DOutAB.algebraic,
  trivial, Cert.RmsNorm.DC.algebraic,
  trivial, Cert.RmsNorm.DKv.algebraic,
  trivial, Cert.RmsNorm.Loss.algebraic,
  trivial, Cert.AdamW.Shard.algebraic,
  trivial, Cert.AdamW.Small.algebraic,
  Cert.Band.One.preserves, Cert.Band.One.algebraic⟩

end Cert.Proof

end
